-- ==== Defs.lean ====
def Pre_Kernel [hPre_experts_in_table : Cert.Pre_experts_in_table.Facts] (m : (ℓ : Loc Cert.Kernel.nD Cert.Kernel.τ Cert.Kernel.sig) → Buf (Elt Bits) ℓ) : Prop :=
  ∀ c : Dev Cert.Kernel.nD,
    (Cert.Pre_experts_in_table.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_experts_in_table : Cert.Pre_experts_in_table.Facts] (m : (ℓ : Loc Cert.KernelIdeal.nD Cert.KernelIdeal.τ Cert.KernelIdeal.sig) → Buf (Elt Ideal) ℓ) : Prop :=
  ∀ c : Dev Cert.KernelIdeal.nD,
    (Cert.Pre_experts_in_table.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_experts_in_table [hPre_experts_in_table : Cert.Pre_experts_in_table.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_experts_in_table.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] [hPre_experts_in_table : Cert.Pre_experts_in_table.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_experts_in_table : Cert.Pre_experts_in_table.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_experts_in_table [hReferenceIdeal : Cert.ReferenceIdeal.Facts] [hPre_experts_in_table : Cert.Pre_experts_in_table.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_experts_in_table m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_experts_in_table : Cert.Pre_experts_in_table.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v17) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v14_0)) (v1 : (c : Dev Cert.Kernel3Ideal.nD) → Buf (Elt Ideal) ((c.tc : Thread Cert.Kernel3Ideal.nD Cert.Kernel3Ideal.τ).loc Cert.Kernel3Ideal.main_v14_1)) (v2 : (c : Dev Cert.Kernel3Ideal.nD) → Buf (Elt Ideal) ((c.tc : Thread Cert.Kernel3Ideal.nD Cert.Kernel3Ideal.τ).loc Cert.Kernel3Ideal.main_v14_2)) (v3 : (c : Dev Cert.Kernel3Ideal.nD) → Buf (Elt Ideal) ((c.tc : Thread Cert.Kernel3Ideal.nD Cert.Kernel3Ideal.τ).loc Cert.Kernel3Ideal.main_v14_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v14_0) = v0 c
          ∧ r.2.mem ((c.tc : Thread Cert.Kernel3Ideal.nD Cert.Kernel3Ideal.τ).loc Cert.Kernel3Ideal.main_v14_1) = v1 c
          ∧ r.2.mem ((c.tc : Thread Cert.Kernel3Ideal.nD Cert.Kernel3Ideal.τ).loc Cert.Kernel3Ideal.main_v14_2) = v2 c
          ∧ r.2.mem ((c.tc : Thread Cert.Kernel3Ideal.nD Cert.Kernel3Ideal.τ).loc Cert.Kernel3Ideal.main_v14_3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v33) = v0 c
          ∧ r.2.mem ((c.tc : Thread Cert.Reference3Ideal.nD Cert.Reference3Ideal.τ).loc Cert.Reference3Ideal.main_v34) = v1 c
          ∧ r.2.mem ((c.tc : Thread Cert.Reference3Ideal.nD Cert.Reference3Ideal.τ).loc Cert.Reference3Ideal.main_v35) = v2 c
          ∧ r.2.mem ((c.tc : Thread Cert.Reference3Ideal.nD Cert.Reference3Ideal.τ).loc Cert.Reference3Ideal.main_v36) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_experts_in_table : Cert.Pre_experts_in_table.Facts),
    quiescent_Kernel (hKernel := hKernel) (hPre_experts_in_table := hPre_experts_in_table)
    ∧ quiescent_KernelIdeal (hKernelIdeal := hKernelIdeal) (hPre_experts_in_table := hPre_experts_in_table)
    ∧ quiescent_ReferenceIdeal (hReferenceIdeal := hReferenceIdeal)
    ∧ quiescent_ReferenceIdeal_pre_experts_in_table (hReferenceIdeal := hReferenceIdeal) (hPre_experts_in_table := hPre_experts_in_table)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal (hKernelIdeal := hKernelIdeal) (hReferenceIdeal := hReferenceIdeal) (hPre_experts_in_table := hPre_experts_in_table)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_experts_in_table.lean ====
abbrev S128x16384 : Shape := ⟨2, ![128, 16384]⟩
abbrev S16384x2048 : Shape := ⟨2, ![16384, 2048]⟩
abbrev S2048 : Shape := ⟨1, ![2048]⟩
abbrev S262144x128 : Shape := ⟨2, ![262144, 128]⟩
abbrev S_ : Shape := ⟨0, ![]⟩

class Facts : Prop where
  bcast_S_S128x16384 : S_.BroadcastsInDim S128x16384 (![] : Fin 0 → Fin S128x16384.rank)
  reducesTo_S128x16384_S_d0_1 : S128x16384.ReducesTo [0, 1] S_
  h_S_ : 0 < S_.numel

variable [Facts]

def fn {F : FTy → Type} [FloatOps F] (main_arg0 : IVec S128x16384 32) (main_arg1 : FVec F S128x16384 .f32) (main_arg2 : FVec F S16384x2048 .f32) (main_arg3 : FVec F S16384x2048 .f32) (main_arg4 : FVec F S2048 .f32) (main_arg5 : IVec S262144x128 32) : IVec S_ 1 :=
  let main_c : IVec S_ 32 := constantI S_ 32 0#32
  let main_v0 : IVec S128x16384 32 := broadcastInDim S128x16384 ![] bcast_S_S128x16384 main_c
  let main_v1 : IVec S128x16384 1 := cmpi .sge main_arg0 main_v0
  let main_c_0 : IVec S_ 32 := constantI S_ 32 16384#32
  let main_v2 : IVec S128x16384 32 := broadcastInDim S128x16384 ![] bcast_S_S128x16384 main_c_0
  let main_v3 : IVec S128x16384 1 := cmpi .slt main_arg0 main_v2
  let main_v4 : IVec S128x16384 1 := andi main_v1 main_v3
  let main_c_1 : IVec S_ 1 := constantI S_ 1 1#1
  let main_v5 : IVec S_ 1 := (fun x v => Host.reduce IntOp.andi x v reducesTo_S128x16384_S_d0_1 h_S_) main_v4 main_c_1
  main_v5
-- ==== Kernel.lean ====
abbrev S128x16384 : Shape := ⟨2, ![128, 16384]⟩
abbrev S16384x2048 : Shape := ⟨2, ![16384, 2048]⟩
abbrev S2048 : Shape := ⟨1, ![2048]⟩
abbrev S262144x128 : Shape := ⟨2, ![262144, 128]⟩
abbrev S16384x128 : Shape := ⟨2, ![16384, 128]⟩
abbrev S1x2048 : Shape := ⟨2, ![1, 2048]⟩
abbrev S_ : Shape := ⟨0, ![]⟩
abbrev S128x128 : Shape := ⟨2, ![128, 128]⟩
abbrev S16512x128 : Shape := ⟨2, ![16512, 128]⟩
abbrev S128x128x128 : Shape := ⟨3, ![128, 128, 128]⟩
abbrev S128x24x128 : Shape := ⟨3, ![128, 24, 128]⟩
abbrev S128x152x128 : Shape := ⟨3, ![128, 152, 128]⟩
abbrev S1x152x128 : Shape := ⟨3, ![1, 152, 128]⟩
abbrev S128x2048 : Shape := ⟨2, ![128, 2048]⟩
abbrev S4 : Shape := ⟨1, ![4]⟩
abbrev S17408x128 : Shape := ⟨2, ![17408, 128]⟩
abbrev S1x1x128 : Shape := ⟨3, ![1, 1, 128]⟩
abbrev S128 : Shape := ⟨1, ![128]⟩
abbrev S1 : Shape := ⟨1, ![1]⟩
abbrev S2176x128 : Shape := ⟨2, ![2176, 128]⟩
abbrev S16x128 : Shape := ⟨2, ![16, 128]⟩
abbrev S8x128 : Shape := ⟨2, ![8, 128]⟩
abbrev S1x128 : Shape := ⟨2, ![1, 128]⟩
abbrev S8 : Shape := ⟨1, ![8]⟩
abbrev S8x1 : Shape := ⟨2, ![8, 1]⟩
abbrev S128x1 : Shape := ⟨2, ![128, 1]⟩

abbrev nBuf : Space → Nat
  | .hbm => 17
  | .vmem => 16
  | .smem => 2
  | _ => 0

abbrev bufTy : (tb : Table) → Fin (tcTables nBuf tb) → BufTy
  | .hbm, ⟨0, _⟩ => ⟨S128x16384, .i32⟩
  | .hbm, ⟨1, _⟩ => ⟨S128x16384, .f32⟩
  | .hbm, ⟨2, _⟩ => ⟨S16384x2048, .f32⟩
  | .hbm, ⟨3, _⟩ => ⟨S16384x2048, .f32⟩
  | .hbm, ⟨4, _⟩ => ⟨S2048, .f32⟩
  | .hbm, ⟨5, _⟩ => ⟨S262144x128, .i32⟩
  | .hbm, ⟨6, _⟩ => ⟨S16384x128, .i32⟩
  | .hbm, ⟨7, _⟩ => ⟨S1x2048, .f32⟩
  | .hbm, ⟨8, _⟩ => ⟨S_, .i32⟩
  | .hbm, ⟨9, _⟩ => ⟨S128x128, .i32⟩
  | .hbm, ⟨10, _⟩ => ⟨S16512x128, .i32⟩
  | .hbm, ⟨11, _⟩ => ⟨S128x128x128, .i32⟩
  | .hbm, ⟨12, _⟩ => ⟨S16384x128, .i32⟩
  | .hbm, ⟨13, _⟩ => ⟨S128x128x128, .i32⟩
  | .hbm, ⟨14, _⟩ => ⟨S128x24x128, .i32⟩
  | .hbm, ⟨15, _⟩ => ⟨S128x152x128, .i32⟩
  | .hbm, ⟨16, _⟩ => ⟨S16384x2048, .f32⟩
  | .local _ .vmem, ⟨0, _⟩ => ⟨S128x128, .f32⟩
  | .local _ .vmem, ⟨1, _⟩ => ⟨S128x128, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S1x2048, .f32⟩
  | .local _ .vmem, ⟨7, _⟩ => ⟨S128x2048, .f32⟩
  | .local _ .vmem, ⟨8, _⟩ => ⟨S128x2048, .f32⟩
  | .local _ .vmem, ⟨9, _⟩ => ⟨S128x128, .f32⟩
  | .local _ .vmem, ⟨10, _⟩ => ⟨S128x128, .f32⟩
  | .local _ .vmem, ⟨11, _⟩ => ⟨S128x2048, .f32⟩
  | .local _ .vmem, ⟨12, _⟩ => ⟨S17408x128, .i32⟩
  | .local _ .vmem, ⟨13, _⟩ => ⟨S17408x128, .i32⟩
  | .local _ .vmem, ⟨14, _⟩ => ⟨S17408x128, .i32⟩
  | .local _ .vmem, ⟨15, _⟩ => ⟨S17408x128, .i32⟩
  | .local _ .smem, ⟨0, _⟩ => ⟨S1x152x128, .i32⟩
  | .local _ .smem, ⟨1, _⟩ => ⟨S1x152x128, .i32⟩
  | _, _ => ⟨S128x16384, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch4 : Ref sig .tc := ⟨.vmem, 12, rfl⟩
abbrev cc0_scratch5 : Ref sig .tc := ⟨.vmem, 13, rfl⟩
abbrev cc0_scratch6 : Ref sig .tc := ⟨.vmem, 14, rfl⟩
abbrev cc0_scratch7 : Ref sig .tc := ⟨.vmem, 15, rfl⟩
abbrev cc0_stg0_0 : Ref sig .tc := ⟨.smem, 0, rfl⟩
abbrev cc0_stg0_1 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![128], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_16 : BitVec 32 := 0#32
  let c8_i32 : BitVec 32 := 8#32
  let v30 : BitVec 32 := Scalar.addi c0_i32_16 c8_i32
  let c1_i32_17 : BitVec 32 := 1#32
  ⟨c0_i32_16, v30, c1_i32_17⟩
@[reducible] def k0_t2_loop : Scf.Loop 32 :=
  let c0_i32_19 : BitVec 32 := 0#32
  let c32_i32 : BitVec 32 := 32#32
  let v31 : BitVec 32 := Scalar.addi c0_i32_19 c32_i32
  let c1_i32_20 : BitVec 32 := 1#32
  ⟨c0_i32_19, v31, c1_i32_20⟩
def k0_off1 (k0_t1 : Fin k0_t1_loop.trips) : Fin 3 → Nat :=
  let c0_i32_33 : BitVec 32 := 0#32
  let c0_i32_30 : BitVec 32 := 0#32
  let c0_i32_16 : BitVec 32 := 0#32
  let c1_i32_17 : BitVec 32 := 1#32
  let arg16 : BitVec 32 := Scf.iv c0_i32_16 c1_i32_17 k0_t1
  let v34 : BitVec 32 := Scalar.addi c0_i32_30 arg16
  let c0_i32_34 : BitVec 32 := 0#32
  ![0, v34.toNat, 0]
def k0_off2 (k0_t2 : Fin k0_t2_loop.trips) : Fin 1 → Nat :=
  let c0_i32_19 : BitVec 32 := 0#32
  let c1_i32_20 : BitVec 32 := 1#32
  let arg17 : BitVec 32 := Scf.iv c0_i32_19 c1_i32_20 k0_t2
  let c4_i32_31 : BitVec 32 := 4#32
  let v35 : BitVec 32 := Scalar.muli arg17 c4_i32_31
  let c0_i32_32 : BitVec 32 := 0#32
  let v38 : BitVec 32 := Scalar.addi v35 c0_i32_32
  let v41 : Index := Scalar.indexCast v38
  ![v41.toNat]
def k0_mult1 (v42 : BitVec 32) : BitVec 32 :=
  let c16_i32 : BitVec 32 := 16#32
  let v43 : BitVec 32 := Scalar.muli v42 c16_i32
  v43

def k0_off3 (k0_t1 : Fin k0_t1_loop.trips) : Fin 2 → Nat :=
  let c0_i32_16 : BitVec 32 := 0#32
  let c1_i32_17 : BitVec 32 := 1#32
  let arg16 : BitVec 32 := Scf.iv c0_i32_16 c1_i32_17 k0_t1
  let c128_i32 : BitVec 32 := 128#32
  let v36 : BitVec 32 := Scalar.muli arg16 c128_i32
  let c17_i32 : BitVec 32 := 17#32
  let v37 : BitVec 32 := Scalar.muli v36 c17_i32
  let c0_i32_37 : BitVec 32 := 0#32
  ![v37.toNat, 0]
def k0_off4 (k0_t2 : Fin k0_t2_loop.trips) : Fin 2 → Nat :=
  let c0_i32_19 : BitVec 32 := 0#32
  let c1_i32_20 : BitVec 32 := 1#32
  let arg17 : BitVec 32 := Scf.iv c0_i32_19 c1_i32_20 k0_t2
  let c4_i32_31 : BitVec 32 := 4#32
  let v35 : BitVec 32 := Scalar.muli arg17 c4_i32_31
  let c0_i32_32 : BitVec 32 := 0#32
  let v38 : BitVec 32 := Scalar.addi v35 c0_i32_32
  let c17_i32_35 : BitVec 32 := 17#32
  let v45 : BitVec 32 := Scalar.muli v38 c17_i32_35
  let c0_i32_38 : BitVec 32 := 0#32
  ![v45.toNat, 0]
def k0_off5 (v42 : BitVec 32) : Fin 2 → Nat :=
  let c16_i32 : BitVec 32 := 16#32
  let v43 : BitVec 32 := Scalar.muli v42 c16_i32
  let v44 : BitVec 32 := v43
  let c0_i32_39 : BitVec 32 := 0#32
  ![v44.toNat, 0]

def k0_chk1 (i : grid0.Coords) (v42 : BitVec 32) : Prop :=
  (∀ (k0_h1 : k0_cond1 i = 1#1), 16 ∣ (k0_mult1 v42).toNat) ∧
  (∀ (k0_h1 : k0_cond1 i = 1#1), ∀ a, (k0_off5 v42) a + S16x128.size a ≤ S262144x128.size a)
theorem k0_mult1_dvd : ∀ (i : grid0.Coords) (v42 : BitVec 32) (k0_hw1 : k0_chk1 i v42), ∀ (k0_h1 : k0_cond1 i = 1#1), 16 ∣ (k0_mult1 v42).toNat := fun i v42 k0_hw1 k0_h1 => k0_hw1.1 k0_h1
theorem k0_off5_inb : ∀ (i : grid0.Coords) (v42 : BitVec 32) (k0_hw1 : k0_chk1 i v42), ∀ (k0_h1 : k0_cond1 i = 1#1), ∀ a, (k0_off5 v42) a + S16x128.size a ≤ S262144x128.size a := fun i v42 k0_hw1 k0_h1 => k0_hw1.2 k0_h1

def k0_off6 (k0_t1 : Fin k0_t1_loop.trips) : Fin 3 → Nat :=
  let c0_i32_41 : BitVec 32 := 0#32
  let c0_i32_30 : BitVec 32 := 0#32
  let c0_i32_16 : BitVec 32 := 0#32
  let c1_i32_17 : BitVec 32 := 1#32
  let arg16 : BitVec 32 := Scf.iv c0_i32_16 c1_i32_17 k0_t1
  let v34 : BitVec 32 := Scalar.addi c0_i32_30 arg16
  let c0_i32_42 : BitVec 32 := 0#32
  ![0, v34.toNat, 0]
def k0_off7 (k0_t2 : Fin k0_t2_loop.trips) : Fin 1 → Nat :=
  let c0_i32_19 : BitVec 32 := 0#32
  let c1_i32_20 : BitVec 32 := 1#32
  let arg17 : BitVec 32 := Scf.iv c0_i32_19 c1_i32_20 k0_t2
  let c4_i32_31 : BitVec 32 := 4#32
  let v35 : BitVec 32 := Scalar.muli arg17 c4_i32_31
  let c1_i32_40 : BitVec 32 := 1#32
  let v51 : BitVec 32 := Scalar.addi v35 c1_i32_40
  let v54 : Index := Scalar.indexCast v51
  ![v54.toNat]
def k0_mult2 (v55 : BitVec 32) : BitVec 32 :=
  let c16_i32_43 : BitVec 32 := 16#32
  let v56 : BitVec 32 := Scalar.muli v55 c16_i32_43
  v56

def k0_off8 (k0_t1 : Fin k0_t1_loop.trips) : Fin 2 → Nat :=
  let c0_i32_16 : BitVec 32 := 0#32
  let c1_i32_17 : BitVec 32 := 1#32
  let arg16 : BitVec 32 := Scf.iv c0_i32_16 c1_i32_17 k0_t1
  let c128_i32 : BitVec 32 := 128#32
  let v36 : BitVec 32 := Scalar.muli arg16 c128_i32
  let c17_i32 : BitVec 32 := 17#32
  let v37 : BitVec 32 := Scalar.muli v36 c17_i32
  let c0_i32_46 : BitVec 32 := 0#32
  ![v37.toNat, 0]
def k0_off9 (k0_t2 : Fin k0_t2_loop.trips) : Fin 2 → Nat :=
  let c0_i32_19 : BitVec 32 := 0#32
  let c1_i32_20 : BitVec 32 := 1#32
  let arg17 : BitVec 32 := Scf.iv c0_i32_19 c1_i32_20 k0_t2
  let c4_i32_31 : BitVec 32 := 4#32
  let v35 : BitVec 32 := Scalar.muli arg17 c4_i32_31
  let c1_i32_40 : BitVec 32 := 1#32
  let v51 : BitVec 32 := Scalar.addi v35 c1_i32_40
  let c17_i32_44 : BitVec 32 := 17#32
  let v58 : BitVec 32 := Scalar.muli v51 c17_i32_44
  let c0_i32_47 : BitVec 32 := 0#32
  ![v58.toNat, 0]
def k0_off10 (v55 : BitVec 32) : Fin 2 → Nat :=
  let c16_i32_43 : BitVec 32 := 16#32
  let v56 : BitVec 32 := Scalar.muli v55 c16_i32_43
  let v57 : BitVec 32 := v56
  let c0_i32_48 : BitVec 32 := 0#32
  ![v57.toNat, 0]

def k0_chk2 (i : grid0.Coords) (v55 : BitVec 32) : Prop :=
  (∀ (k0_h1 : k0_cond1 i = 1#1), 16 ∣ (k0_mult2 v55).toNat) ∧
  (∀ (k0_h1 : k0_cond1 i = 1#1), ∀ a, (k0_off10 v55) a + S16x128.size a ≤ S262144x128.size a)
theorem k0_mult2_dvd : ∀ (i : grid0.Coords) (v55 : BitVec 32) (k0_hw2 : k0_chk2 i v55), ∀ (k0_h1 : k0_cond1 i = 1#1), 16 ∣ (k0_mult2 v55).toNat := fun i v55 k0_hw2 k0_h1 => k0_hw2.1 k0_h1
theorem k0_off10_inb : ∀ (i : grid0.Coords) (v55 : BitVec 32) (k0_hw2 : k0_chk2 i v55), ∀ (k0_h1 : k0_cond1 i = 1#1), ∀ a, (k0_off10 v55) a + S16x128.size a ≤ S262144x128.size a := fun i v55 k0_hw2 k0_h1 => k0_hw2.2 k0_h1

def k0_off11 (k0_t1 : Fin k0_t1_loop.trips) : Fin 3 → Nat :=
  let c0_i32_49 : BitVec 32 := 0#32
  let c0_i32_30 : BitVec 32 := 0#32
  let c0_i32_16 : BitVec 32 := 0#32
  let c1_i32_17 : BitVec 32 := 1#32
  let arg16 : BitVec 32 := Scf.iv c0_i32_16 c1_i32_17 k0_t1
  let v34 : BitVec 32 := Scalar.addi c0_i32_30 arg16
  let c0_i32_50 : BitVec 32 := 0#32
  ![0, v34.toNat, 0]
def k0_off12 (k0_t2 : Fin k0_t2_loop.trips) : Fin 1 → Nat :=
  let c0_i32_19 : BitVec 32 := 0#32
  let c1_i32_20 : BitVec 32 := 1#32
  let arg17 : BitVec 32 := Scf.iv c0_i32_19 c1_i32_20 k0_t2
  let c4_i32_31 : BitVec 32 := 4#32
  let v35 : BitVec 32 := Scalar.muli arg17 c4_i32_31
  let c2_i32 : BitVec 32 := 2#32
  let v64 : BitVec 32 := Scalar.addi v35 c2_i32
  let v67 : Index := Scalar.indexCast v64
  ![v67.toNat]
def k0_mult3 (v68 : BitVec 32) : BitVec 32 :=
  let c16_i32_51 : BitVec 32 := 16#32
  let v69 : BitVec 32 := Scalar.muli v68 c16_i32_51
  v69

def k0_off13 (k0_t1 : Fin k0_t1_loop.trips) : Fin 2 → Nat :=
  let c0_i32_16 : BitVec 32 := 0#32
  let c1_i32_17 : BitVec 32 := 1#32
  let arg16 : BitVec 32 := Scf.iv c0_i32_16 c1_i32_17 k0_t1
  let c128_i32 : BitVec 32 := 128#32
  let v36 : BitVec 32 := Scalar.muli arg16 c128_i32
  let c17_i32 : BitVec 32 := 17#32
  let v37 : BitVec 32 := Scalar.muli v36 c17_i32
  let c0_i32_54 : BitVec 32 := 0#32
  ![v37.toNat, 0]
def k0_off14 (k0_t2 : Fin k0_t2_loop.trips) : Fin 2 → Nat :=
  let c0_i32_19 : BitVec 32 := 0#32
  let c1_i32_20 : BitVec 32 := 1#32
  let arg17 : BitVec 32 := Scf.iv c0_i32_19 c1_i32_20 k0_t2
  let c4_i32_31 : BitVec 32 := 4#32
  let v35 : BitVec 32 := Scalar.muli arg17 c4_i32_31
  let c2_i32 : BitVec 32 := 2#32
  let v64 : BitVec 32 := Scalar.addi v35 c2_i32
  let c17_i32_52 : BitVec 32 := 17#32
  let v71 : BitVec 32 := Scalar.muli v64 c17_i32_52
  let c0_i32_55 : BitVec 32 := 0#32
  ![v71.toNat, 0]
def k0_off15 (v68 : BitVec 32) : Fin 2 → Nat :=
  let c16_i32_51 : BitVec 32 := 16#32
  let v69 : BitVec 32 := Scalar.muli v68 c16_i32_51
  let v70 : BitVec 32 := v69
  let c0_i32_56 : BitVec 32 := 0#32
  ![v70.toNat, 0]

def k0_chk3 (i : grid0.Coords) (v68 : BitVec 32) : Prop :=
  (∀ (k0_h1 : k0_cond1 i = 1#1), 16 ∣ (k0_mult3 v68).toNat) ∧
  (∀ (k0_h1 : k0_cond1 i = 1#1), ∀ a, (k0_off15 v68) a + S16x128.size a ≤ S262144x128.size a)
theorem k0_mult3_dvd : ∀ (i : grid0.Coords) (v68 : BitVec 32) (k0_hw3 : k0_chk3 i v68), ∀ (k0_h1 : k0_cond1 i = 1#1), 16 ∣ (k0_mult3 v68).toNat := fun i v68 k0_hw3 k0_h1 => k0_hw3.1 k0_h1
theorem k0_off15_inb : ∀ (i : grid0.Coords) (v68 : BitVec 32) (k0_hw3 : k0_chk3 i v68), ∀ (k0_h1 : k0_cond1 i = 1#1), ∀ a, (k0_off15 v68) a + S16x128.size a ≤ S262144x128.size a := fun i v68 k0_hw3 k0_h1 => k0_hw3.2 k0_h1

def k0_off16 (k0_t1 : Fin k0_t1_loop.trips) : Fin 3 → Nat :=
  let c0_i32_57 : BitVec 32 := 0#32
  let c0_i32_30 : BitVec 32 := 0#32
  let c0_i32_16 : BitVec 32 := 0#32
  let c1_i32_17 : BitVec 32 := 1#32
  let arg16 : BitVec 32 := Scf.iv c0_i32_16 c1_i32_17 k0_t1
  let v34 : BitVec 32 := Scalar.addi c0_i32_30 arg16
  let c0_i32_58 : BitVec 32 := 0#32
  ![0, v34.toNat, 0]
def k0_off17 (k0_t2 : Fin k0_t2_loop.trips) : Fin 1 → Nat :=
  let c0_i32_19 : BitVec 32 := 0#32
  let c1_i32_20 : BitVec 32 := 1#32
  let arg17 : BitVec 32 := Scf.iv c0_i32_19 c1_i32_20 k0_t2
  let c4_i32_31 : BitVec 32 := 4#32
  let v35 : BitVec 32 := Scalar.muli arg17 c4_i32_31
  let c3_i32 : BitVec 32 := 3#32
  let v77 : BitVec 32 := Scalar.addi v35 c3_i32
  let v80 : Index := Scalar.indexCast v77
  ![v80.toNat]
def k0_mult4 (v81 : BitVec 32) : BitVec 32 :=
  let c16_i32_59 : BitVec 32 := 16#32
  let v82 : BitVec 32 := Scalar.muli v81 c16_i32_59
  v82

def k0_off18 (k0_t1 : Fin k0_t1_loop.trips) : Fin 2 → Nat :=
  let c0_i32_16 : BitVec 32 := 0#32
  let c1_i32_17 : BitVec 32 := 1#32
  let arg16 : BitVec 32 := Scf.iv c0_i32_16 c1_i32_17 k0_t1
  let c128_i32 : BitVec 32 := 128#32
  let v36 : BitVec 32 := Scalar.muli arg16 c128_i32
  let c17_i32 : BitVec 32 := 17#32
  let v37 : BitVec 32 := Scalar.muli v36 c17_i32
  let c0_i32_62 : BitVec 32 := 0#32
  ![v37.toNat, 0]
def k0_off19 (k0_t2 : Fin k0_t2_loop.trips) : Fin 2 → Nat :=
  let c0_i32_19 : BitVec 32 := 0#32
  let c1_i32_20 : BitVec 32 := 1#32
  let arg17 : BitVec 32 := Scf.iv c0_i32_19 c1_i32_20 k0_t2
  let c4_i32_31 : BitVec 32 := 4#32
  let v35 : BitVec 32 := Scalar.muli arg17 c4_i32_31
  let c3_i32 : BitVec 32 := 3#32
  let v77 : BitVec 32 := Scalar.addi v35 c3_i32
  let c17_i32_60 : BitVec 32 := 17#32
  let v84 : BitVec 32 := Scalar.muli v77 c17_i32_60
  let c0_i32_63 : BitVec 32 := 0#32
  ![v84.toNat, 0]
def k0_off20 (v81 : BitVec 32) : Fin 2 → Nat :=
  let c16_i32_59 : BitVec 32 := 16#32
  let v82 : BitVec 32 := Scalar.muli v81 c16_i32_59
  let v83 : BitVec 32 := v82
  let c0_i32_64 : BitVec 32 := 0#32
  ![v83.toNat, 0]

def k0_chk4 (i : grid0.Coords) (v81 : BitVec 32) : Prop :=
  (∀ (k0_h1 : k0_cond1 i = 1#1), 16 ∣ (k0_mult4 v81).toNat) ∧
  (∀ (k0_h1 : k0_cond1 i = 1#1), ∀ a, (k0_off20 v81) a + S16x128.size a ≤ S262144x128.size a)
theorem k0_mult4_dvd : ∀ (i : grid0.Coords) (v81 : BitVec 32) (k0_hw4 : k0_chk4 i v81), ∀ (k0_h1 : k0_cond1 i = 1#1), 16 ∣ (k0_mult4 v81).toNat := fun i v81 k0_hw4 k0_h1 => k0_hw4.1 k0_h1
theorem k0_off20_inb : ∀ (i : grid0.Coords) (v81 : BitVec 32) (k0_hw4 : k0_chk4 i v81), ∀ (k0_h1 : k0_cond1 i = 1#1), ∀ a, (k0_off20 v81) a + S16x128.size a ≤ S262144x128.size a := fun i v81 k0_hw4 k0_h1 => k0_hw4.2 k0_h1

@[reducible] def k0_t3_loop : Scf.Loop 32 :=
  let c0_i32_22 : BitVec 32 := 0#32
  let c32_i32_23 : BitVec 32 := 32#32
  let v32 : BitVec 32 := Scalar.addi c0_i32_22 c32_i32_23
  let c1_i32_24 : BitVec 32 := 1#32
  ⟨c0_i32_22, v32, c1_i32_24⟩
def k0_off21 (k0_t1 : Fin k0_t1_loop.trips) : Fin 3 → Nat :=
  let c0_i32_33 : BitVec 32 := 0#32
  let c8_i32_30 : BitVec 32 := 8#32
  let c0_i32_16 : BitVec 32 := 0#32
  let c1_i32_17 : BitVec 32 := 1#32
  let arg16 : BitVec 32 := Scf.iv c0_i32_16 c1_i32_17 k0_t1
  let v34 : BitVec 32 := Scalar.addi c8_i32_30 arg16
  let c0_i32_34 : BitVec 32 := 0#32
  ![0, v34.toNat, 0]
def k0_off22 (k0_t3 : Fin k0_t3_loop.trips) : Fin 1 → Nat :=
  let c0_i32_22 : BitVec 32 := 0#32
  let c1_i32_24 : BitVec 32 := 1#32
  let arg17 : BitVec 32 := Scf.iv c0_i32_22 c1_i32_24 k0_t3
  let c4_i32_31 : BitVec 32 := 4#32
  let v35 : BitVec 32 := Scalar.muli arg17 c4_i32_31
  let c0_i32_32 : BitVec 32 := 0#32
  let v38 : BitVec 32 := Scalar.addi v35 c0_i32_32
  let v41 : Index := Scalar.indexCast v38
  ![v41.toNat]
def k0_mult5 (v42 : BitVec 32) : BitVec 32 :=
  let c16_i32 : BitVec 32 := 16#32
  let v43 : BitVec 32 := Scalar.muli v42 c16_i32
  v43

def k0_off23 (k0_t1 : Fin k0_t1_loop.trips) : Fin 2 → Nat :=
  let c0_i32_16 : BitVec 32 := 0#32
  let c1_i32_17 : BitVec 32 := 1#32
  let arg16 : BitVec 32 := Scf.iv c0_i32_16 c1_i32_17 k0_t1
  let c128_i32 : BitVec 32 := 128#32
  let v36 : BitVec 32 := Scalar.muli arg16 c128_i32
  let c17_i32 : BitVec 32 := 17#32
  let v37 : BitVec 32 := Scalar.muli v36 c17_i32
  let c0_i32_37 : BitVec 32 := 0#32
  ![v37.toNat, 0]
def k0_off24 (k0_t3 : Fin k0_t3_loop.trips) : Fin 2 → Nat :=
  let c0_i32_22 : BitVec 32 := 0#32
  let c1_i32_24 : BitVec 32 := 1#32
  let arg17 : BitVec 32 := Scf.iv c0_i32_22 c1_i32_24 k0_t3
  let c4_i32_31 : BitVec 32 := 4#32
  let v35 : BitVec 32 := Scalar.muli arg17 c4_i32_31
  let c0_i32_32 : BitVec 32 := 0#32
  let v38 : BitVec 32 := Scalar.addi v35 c0_i32_32
  let c17_i32_35 : BitVec 32 := 17#32
  let v45 : BitVec 32 := Scalar.muli v38 c17_i32_35
  let c0_i32_38 : BitVec 32 := 0#32
  ![v45.toNat, 0]
def k0_off25 (v42 : BitVec 32) : Fin 2 → Nat :=
  let c16_i32 : BitVec 32 := 16#32
  let v43 : BitVec 32 := Scalar.muli v42 c16_i32
  let v44 : BitVec 32 := v43
  let c0_i32_39 : BitVec 32 := 0#32
  ![v44.toNat, 0]

def k0_chk5 (i : grid0.Coords) (v42 : BitVec 32) : Prop :=
  (∀ (k0_h1 : k0_cond1 i = 1#1), 16 ∣ (k0_mult5 v42).toNat) ∧
  (∀ (k0_h1 : k0_cond1 i = 1#1), ∀ a, (k0_off25 v42) a + S16x128.size a ≤ S262144x128.size a)
theorem k0_mult5_dvd : ∀ (i : grid0.Coords) (v42 : BitVec 32) (k0_hw5 : k0_chk5 i v42), ∀ (k0_h1 : k0_cond1 i = 1#1), 16 ∣ (k0_mult5 v42).toNat := fun i v42 k0_hw5 k0_h1 => k0_hw5.1 k0_h1
theorem k0_off25_inb : ∀ (i : grid0.Coords) (v42 : BitVec 32) (k0_hw5 : k0_chk5 i v42), ∀ (k0_h1 : k0_cond1 i = 1#1), ∀ a, (k0_off25 v42) a + S16x128.size a ≤ S262144x128.size a := fun i v42 k0_hw5 k0_h1 => k0_hw5.2 k0_h1

def k0_off26 (k0_t1 : Fin k0_t1_loop.trips) : Fin 3 → Nat :=
  let c0_i32_41 : BitVec 32 := 0#32
  let c8_i32_30 : BitVec 32 := 8#32
  let c0_i32_16 : BitVec 32 := 0#32
  let c1_i32_17 : BitVec 32 := 1#32
  let arg16 : BitVec 32 := Scf.iv c0_i32_16 c1_i32_17 k0_t1
  let v34 : BitVec 32 := Scalar.addi c8_i32_30 arg16
  let c0_i32_42 : BitVec 32 := 0#32
  ![0, v34.toNat, 0]
def k0_off27 (k0_t3 : Fin k0_t3_loop.trips) : Fin 1 → Nat :=
  let c0_i32_22 : BitVec 32 := 0#32
  let c1_i32_24 : BitVec 32 := 1#32
  let arg17 : BitVec 32 := Scf.iv c0_i32_22 c1_i32_24 k0_t3
  let c4_i32_31 : BitVec 32 := 4#32
  let v35 : BitVec 32 := Scalar.muli arg17 c4_i32_31
  let c1_i32_40 : BitVec 32 := 1#32
  let v51 : BitVec 32 := Scalar.addi v35 c1_i32_40
  let v54 : Index := Scalar.indexCast v51
  ![v54.toNat]
def k0_mult6 (v55 : BitVec 32) : BitVec 32 :=
  let c16_i32_43 : BitVec 32 := 16#32
  let v56 : BitVec 32 := Scalar.muli v55 c16_i32_43
  v56

def k0_off28 (k0_t1 : Fin k0_t1_loop.trips) : Fin 2 → Nat :=
  let c0_i32_16 : BitVec 32 := 0#32
  let c1_i32_17 : BitVec 32 := 1#32
  let arg16 : BitVec 32 := Scf.iv c0_i32_16 c1_i32_17 k0_t1
  let c128_i32 : BitVec 32 := 128#32
  let v36 : BitVec 32 := Scalar.muli arg16 c128_i32
  let c17_i32 : BitVec 32 := 17#32
  let v37 : BitVec 32 := Scalar.muli v36 c17_i32
  let c0_i32_46 : BitVec 32 := 0#32
  ![v37.toNat, 0]
def k0_off29 (k0_t3 : Fin k0_t3_loop.trips) : Fin 2 → Nat :=
  let c0_i32_22 : BitVec 32 := 0#32
  let c1_i32_24 : BitVec 32 := 1#32
  let arg17 : BitVec 32 := Scf.iv c0_i32_22 c1_i32_24 k0_t3
  let c4_i32_31 : BitVec 32 := 4#32
  let v35 : BitVec 32 := Scalar.muli arg17 c4_i32_31
  let c1_i32_40 : BitVec 32 := 1#32
  let v51 : BitVec 32 := Scalar.addi v35 c1_i32_40
  let c17_i32_44 : BitVec 32 := 17#32
  let v58 : BitVec 32 := Scalar.muli v51 c17_i32_44
  let c0_i32_47 : BitVec 32 := 0#32
  ![v58.toNat, 0]
def k0_off30 (v55 : BitVec 32) : Fin 2 → Nat :=
  let c16_i32_43 : BitVec 32 := 16#32
  let v56 : BitVec 32 := Scalar.muli v55 c16_i32_43
  let v57 : BitVec 32 := v56
  let c0_i32_48 : BitVec 32 := 0#32
  ![v57.toNat, 0]

def k0_chk6 (i : grid0.Coords) (v55 : BitVec 32) : Prop :=
  (∀ (k0_h1 : k0_cond1 i = 1#1), 16 ∣ (k0_mult6 v55).toNat) ∧
  (∀ (k0_h1 : k0_cond1 i = 1#1), ∀ a, (k0_off30 v55) a + S16x128.size a ≤ S262144x128.size a)
theorem k0_mult6_dvd : ∀ (i : grid0.Coords) (v55 : BitVec 32) (k0_hw6 : k0_chk6 i v55), ∀ (k0_h1 : k0_cond1 i = 1#1), 16 ∣ (k0_mult6 v55).toNat := fun i v55 k0_hw6 k0_h1 => k0_hw6.1 k0_h1
theorem k0_off30_inb : ∀ (i : grid0.Coords) (v55 : BitVec 32) (k0_hw6 : k0_chk6 i v55), ∀ (k0_h1 : k0_cond1 i = 1#1), ∀ a, (k0_off30 v55) a + S16x128.size a ≤ S262144x128.size a := fun i v55 k0_hw6 k0_h1 => k0_hw6.2 k0_h1

def k0_off31 (k0_t1 : Fin k0_t1_loop.trips) : Fin 3 → Nat :=
  let c0_i32_49 : BitVec 32 := 0#32
  let c8_i32_30 : BitVec 32 := 8#32
  let c0_i32_16 : BitVec 32 := 0#32
  let c1_i32_17 : BitVec 32 := 1#32
  let arg16 : BitVec 32 := Scf.iv c0_i32_16 c1_i32_17 k0_t1
  let v34 : BitVec 32 := Scalar.addi c8_i32_30 arg16
  let c0_i32_50 : BitVec 32 := 0#32
  ![0, v34.toNat, 0]
def k0_off32 (k0_t3 : Fin k0_t3_loop.trips) : Fin 1 → Nat :=
  let c0_i32_22 : BitVec 32 := 0#32
  let c1_i32_24 : BitVec 32 := 1#32
  let arg17 : BitVec 32 := Scf.iv c0_i32_22 c1_i32_24 k0_t3
  let c4_i32_31 : BitVec 32 := 4#32
  let v35 : BitVec 32 := Scalar.muli arg17 c4_i32_31
  let c2_i32 : BitVec 32 := 2#32
  let v64 : BitVec 32 := Scalar.addi v35 c2_i32
  let v67 : Index := Scalar.indexCast v64
  ![v67.toNat]
def k0_mult7 (v68 : BitVec 32) : BitVec 32 :=
  let c16_i32_51 : BitVec 32 := 16#32
  let v69 : BitVec 32 := Scalar.muli v68 c16_i32_51
  v69

def k0_off33 (k0_t1 : Fin k0_t1_loop.trips) : Fin 2 → Nat :=
  let c0_i32_16 : BitVec 32 := 0#32
  let c1_i32_17 : BitVec 32 := 1#32
  let arg16 : BitVec 32 := Scf.iv c0_i32_16 c1_i32_17 k0_t1
  let c128_i32 : BitVec 32 := 128#32
  let v36 : BitVec 32 := Scalar.muli arg16 c128_i32
  let c17_i32 : BitVec 32 := 17#32
  let v37 : BitVec 32 := Scalar.muli v36 c17_i32
  let c0_i32_54 : BitVec 32 := 0#32
  ![v37.toNat, 0]
def k0_off34 (k0_t3 : Fin k0_t3_loop.trips) : Fin 2 → Nat :=
  let c0_i32_22 : BitVec 32 := 0#32
  let c1_i32_24 : BitVec 32 := 1#32
  let arg17 : BitVec 32 := Scf.iv c0_i32_22 c1_i32_24 k0_t3
  let c4_i32_31 : BitVec 32 := 4#32
  let v35 : BitVec 32 := Scalar.muli arg17 c4_i32_31
  let c2_i32 : BitVec 32 := 2#32
  let v64 : BitVec 32 := Scalar.addi v35 c2_i32
  let c17_i32_52 : BitVec 32 := 17#32
  let v71 : BitVec 32 := Scalar.muli v64 c17_i32_52
  let c0_i32_55 : BitVec 32 := 0#32
  ![v71.toNat, 0]
def k0_off35 (v68 : BitVec 32) : Fin 2 → Nat :=
  let c16_i32_51 : BitVec 32 := 16#32
  let v69 : BitVec 32 := Scalar.muli v68 c16_i32_51
  let v70 : BitVec 32 := v69
  let c0_i32_56 : BitVec 32 := 0#32
  ![v70.toNat, 0]

def k0_chk7 (i : grid0.Coords) (v68 : BitVec 32) : Prop :=
  (∀ (k0_h1 : k0_cond1 i = 1#1), 16 ∣ (k0_mult7 v68).toNat) ∧
  (∀ (k0_h1 : k0_cond1 i = 1#1), ∀ a, (k0_off35 v68) a + S16x128.size a ≤ S262144x128.size a)
theorem k0_mult7_dvd : ∀ (i : grid0.Coords) (v68 : BitVec 32) (k0_hw7 : k0_chk7 i v68), ∀ (k0_h1 : k0_cond1 i = 1#1), 16 ∣ (k0_mult7 v68).toNat := fun i v68 k0_hw7 k0_h1 => k0_hw7.1 k0_h1
theorem k0_off35_inb : ∀ (i : grid0.Coords) (v68 : BitVec 32) (k0_hw7 : k0_chk7 i v68), ∀ (k0_h1 : k0_cond1 i = 1#1), ∀ a, (k0_off35 v68) a + S16x128.size a ≤ S262144x128.size a := fun i v68 k0_hw7 k0_h1 => k0_hw7.2 k0_h1

def k0_off36 (k0_t1 : Fin k0_t1_loop.trips) : Fin 3 → Nat :=
  let c0_i32_57 : BitVec 32 := 0#32
  let c8_i32_30 : BitVec 32 := 8#32
  let c0_i32_16 : BitVec 32 := 0#32
  let c1_i32_17 : BitVec 32 := 1#32
  let arg16 : BitVec 32 := Scf.iv c0_i32_16 c1_i32_17 k0_t1
  let v34 : BitVec 32 := Scalar.addi c8_i32_30 arg16
  let c0_i32_58 : BitVec 32 := 0#32
  ![0, v34.toNat, 0]
def k0_off37 (k0_t3 : Fin k0_t3_loop.trips) : Fin 1 → Nat :=
  let c0_i32_22 : BitVec 32 := 0#32
  let c1_i32_24 : BitVec 32 := 1#32
  let arg17 : BitVec 32 := Scf.iv c0_i32_22 c1_i32_24 k0_t3
  let c4_i32_31 : BitVec 32 := 4#32
  let v35 : BitVec 32 := Scalar.muli arg17 c4_i32_31
  let c3_i32 : BitVec 32 := 3#32
  let v77 : BitVec 32 := Scalar.addi v35 c3_i32
  let v80 : Index := Scalar.indexCast v77
  ![v80.toNat]
def k0_mult8 (v81 : BitVec 32) : BitVec 32 :=
  let c16_i32_59 : BitVec 32 := 16#32
  let v82 : BitVec 32 := Scalar.muli v81 c16_i32_59
  v82

def k0_off38 (k0_t1 : Fin k0_t1_loop.trips) : Fin 2 → Nat :=
  let c0_i32_16 : BitVec 32 := 0#32
  let c1_i32_17 : BitVec 32 := 1#32
  let arg16 : BitVec 32 := Scf.iv c0_i32_16 c1_i32_17 k0_t1
  let c128_i32 : BitVec 32 := 128#32
  let v36 : BitVec 32 := Scalar.muli arg16 c128_i32
  let c17_i32 : BitVec 32 := 17#32
  let v37 : BitVec 32 := Scalar.muli v36 c17_i32
  let c0_i32_62 : BitVec 32 := 0#32
  ![v37.toNat, 0]
def k0_off39 (k0_t3 : Fin k0_t3_loop.trips) : Fin 2 → Nat :=
  let c0_i32_22 : BitVec 32 := 0#32
  let c1_i32_24 : BitVec 32 := 1#32
  let arg17 : BitVec 32 := Scf.iv c0_i32_22 c1_i32_24 k0_t3
  let c4_i32_31 : BitVec 32 := 4#32
  let v35 : BitVec 32 := Scalar.muli arg17 c4_i32_31
  let c3_i32 : BitVec 32 := 3#32
  let v77 : BitVec 32 := Scalar.addi v35 c3_i32
  let c17_i32_60 : BitVec 32 := 17#32
  let v84 : BitVec 32 := Scalar.muli v77 c17_i32_60
  let c0_i32_63 : BitVec 32 := 0#32
  ![v84.toNat, 0]
def k0_off40 (v81 : BitVec 32) : Fin 2 → Nat :=
  let c16_i32_59 : BitVec 32 := 16#32
  let v82 : BitVec 32 := Scalar.muli v81 c16_i32_59
  let v83 : BitVec 32 := v82
  let c0_i32_64 : BitVec 32 := 0#32
  ![v83.toNat, 0]

def k0_chk8 (i : grid0.Coords) (v81 : BitVec 32) : Prop :=
  (∀ (k0_h1 : k0_cond1 i = 1#1), 16 ∣ (k0_mult8 v81).toNat) ∧
  (∀ (k0_h1 : k0_cond1 i = 1#1), ∀ a, (k0_off40 v81) a + S16x128.size a ≤ S262144x128.size a)
theorem k0_mult8_dvd : ∀ (i : grid0.Coords) (v81 : BitVec 32) (k0_hw8 : k0_chk8 i v81), ∀ (k0_h1 : k0_cond1 i = 1#1), 16 ∣ (k0_mult8 v81).toNat := fun i v81 k0_hw8 k0_h1 => k0_hw8.1 k0_h1
theorem k0_off40_inb : ∀ (i : grid0.Coords) (v81 : BitVec 32) (k0_hw8 : k0_chk8 i v81), ∀ (k0_h1 : k0_cond1 i = 1#1), ∀ a, (k0_off40 v81) a + S16x128.size a ≤ S262144x128.size a := fun i v81 k0_hw8 k0_h1 => k0_hw8.2 k0_h1

@[reducible] def k0_t4_loop : Scf.Loop 32 :=
  let c0_i32_26 : BitVec 32 := 0#32
  let c32_i32_27 : BitVec 32 := 32#32
  let v33 : BitVec 32 := Scalar.addi c0_i32_26 c32_i32_27
  let c1_i32_28 : BitVec 32 := 1#32
  ⟨c0_i32_26, v33, c1_i32_28⟩
def k0_off41 (k0_t1 : Fin k0_t1_loop.trips) : Fin 3 → Nat :=
  let c0_i32_32 : BitVec 32 := 0#32
  let c16_i32 : BitVec 32 := 16#32
  let c0_i32_16 : BitVec 32 := 0#32
  let c1_i32_17 : BitVec 32 := 1#32
  let arg16 : BitVec 32 := Scf.iv c0_i32_16 c1_i32_17 k0_t1
  let v34 : BitVec 32 := Scalar.addi c16_i32 arg16
  let c0_i32_33 : BitVec 32 := 0#32
  ![0, v34.toNat, 0]
def k0_off42 (k0_t4 : Fin k0_t4_loop.trips) : Fin 1 → Nat :=
  let c0_i32_26 : BitVec 32 := 0#32
  let c1_i32_28 : BitVec 32 := 1#32
  let arg17 : BitVec 32 := Scf.iv c0_i32_26 c1_i32_28 k0_t4
  let c4_i32_30 : BitVec 32 := 4#32
  let v35 : BitVec 32 := Scalar.muli arg17 c4_i32_30
  let c0_i32_31 : BitVec 32 := 0#32
  let v38 : BitVec 32 := Scalar.addi v35 c0_i32_31
  let v41 : Index := Scalar.indexCast v38
  ![v41.toNat]
def k0_mult9 (v42 : BitVec 32) : BitVec 32 :=
  let c16_i32_34 : BitVec 32 := 16#32
  let v43 : BitVec 32 := Scalar.muli v42 c16_i32_34
  v43

def k0_off43 (k0_t1 : Fin k0_t1_loop.trips) : Fin 2 → Nat :=
  let c0_i32_16 : BitVec 32 := 0#32
  let c1_i32_17 : BitVec 32 := 1#32
  let arg16 : BitVec 32 := Scf.iv c0_i32_16 c1_i32_17 k0_t1
  let c128_i32 : BitVec 32 := 128#32
  let v36 : BitVec 32 := Scalar.muli arg16 c128_i32
  let c17_i32 : BitVec 32 := 17#32
  let v37 : BitVec 32 := Scalar.muli v36 c17_i32
  let c0_i32_36 : BitVec 32 := 0#32
  ![v37.toNat, 0]
def k0_off44 (k0_t4 : Fin k0_t4_loop.trips) : Fin 2 → Nat :=
  let c0_i32_26 : BitVec 32 := 0#32
  let c1_i32_28 : BitVec 32 := 1#32
  let arg17 : BitVec 32 := Scf.iv c0_i32_26 c1_i32_28 k0_t4
  let c4_i32_30 : BitVec 32 := 4#32
  let v35 : BitVec 32 := Scalar.muli arg17 c4_i32_30
  let c0_i32_31 : BitVec 32 := 0#32
  let v38 : BitVec 32 := Scalar.addi v35 c0_i32_31
  let c17_i32_35 : BitVec 32 := 17#32
  let v45 : BitVec 32 := Scalar.muli v38 c17_i32_35
  let c0_i32_37 : BitVec 32 := 0#32
  ![v45.toNat, 0]
def k0_off45 (v42 : BitVec 32) : Fin 2 → Nat :=
  let c16_i32_34 : BitVec 32 := 16#32
  let v43 : BitVec 32 := Scalar.muli v42 c16_i32_34
  let v44 : BitVec 32 := v43
  let c0_i32_38 : BitVec 32 := 0#32
  ![v44.toNat, 0]

def k0_chk9 (i : grid0.Coords) (v42 : BitVec 32) : Prop :=
  (∀ (k0_h1 : k0_cond1 i = 1#1), 16 ∣ (k0_mult9 v42).toNat) ∧
  (∀ (k0_h1 : k0_cond1 i = 1#1), ∀ a, (k0_off45 v42) a + S16x128.size a ≤ S262144x128.size a)
theorem k0_mult9_dvd : ∀ (i : grid0.Coords) (v42 : BitVec 32) (k0_hw9 : k0_chk9 i v42), ∀ (k0_h1 : k0_cond1 i = 1#1), 16 ∣ (k0_mult9 v42).toNat := fun i v42 k0_hw9 k0_h1 => k0_hw9.1 k0_h1
theorem k0_off45_inb : ∀ (i : grid0.Coords) (v42 : BitVec 32) (k0_hw9 : k0_chk9 i v42), ∀ (k0_h1 : k0_cond1 i = 1#1), ∀ a, (k0_off45 v42) a + S16x128.size a ≤ S262144x128.size a := fun i v42 k0_hw9 k0_h1 => k0_hw9.2 k0_h1

def k0_off46 (k0_t1 : Fin k0_t1_loop.trips) : Fin 3 → Nat :=
  let c0_i32_40 : BitVec 32 := 0#32
  let c16_i32 : BitVec 32 := 16#32
  let c0_i32_16 : BitVec 32 := 0#32
  let c1_i32_17 : BitVec 32 := 1#32
  let arg16 : BitVec 32 := Scf.iv c0_i32_16 c1_i32_17 k0_t1
  let v34 : BitVec 32 := Scalar.addi c16_i32 arg16
  let c0_i32_41 : BitVec 32 := 0#32
  ![0, v34.toNat, 0]
def k0_off47 (k0_t4 : Fin k0_t4_loop.trips) : Fin 1 → Nat :=
  let c0_i32_26 : BitVec 32 := 0#32
  let c1_i32_28 : BitVec 32 := 1#32
  let arg17 : BitVec 32 := Scf.iv c0_i32_26 c1_i32_28 k0_t4
  let c4_i32_30 : BitVec 32 := 4#32
  let v35 : BitVec 32 := Scalar.muli arg17 c4_i32_30
  let c1_i32_39 : BitVec 32 := 1#32
  let v51 : BitVec 32 := Scalar.addi v35 c1_i32_39
  let v54 : Index := Scalar.indexCast v51
  ![v54.toNat]
def k0_mult10 (v55 : BitVec 32) : BitVec 32 :=
  let c16_i32_42 : BitVec 32 := 16#32
  let v56 : BitVec 32 := Scalar.muli v55 c16_i32_42
  v56

def k0_off48 (k0_t1 : Fin k0_t1_loop.trips) : Fin 2 → Nat :=
  let c0_i32_16 : BitVec 32 := 0#32
  let c1_i32_17 : BitVec 32 := 1#32
  let arg16 : BitVec 32 := Scf.iv c0_i32_16 c1_i32_17 k0_t1
  let c128_i32 : BitVec 32 := 128#32
  let v36 : BitVec 32 := Scalar.muli arg16 c128_i32
  let c17_i32 : BitVec 32 := 17#32
  let v37 : BitVec 32 := Scalar.muli v36 c17_i32
  let c0_i32_45 : BitVec 32 := 0#32
  ![v37.toNat, 0]
def k0_off49 (k0_t4 : Fin k0_t4_loop.trips) : Fin 2 → Nat :=
  let c0_i32_26 : BitVec 32 := 0#32
  let c1_i32_28 : BitVec 32 := 1#32
  let arg17 : BitVec 32 := Scf.iv c0_i32_26 c1_i32_28 k0_t4
  let c4_i32_30 : BitVec 32 := 4#32
  let v35 : BitVec 32 := Scalar.muli arg17 c4_i32_30
  let c1_i32_39 : BitVec 32 := 1#32
  let v51 : BitVec 32 := Scalar.addi v35 c1_i32_39
  let c17_i32_43 : BitVec 32 := 17#32
  let v58 : BitVec 32 := Scalar.muli v51 c17_i32_43
  let c0_i32_46 : BitVec 32 := 0#32
  ![v58.toNat, 0]
def k0_off50 (v55 : BitVec 32) : Fin 2 → Nat :=
  let c16_i32_42 : BitVec 32 := 16#32
  let v56 : BitVec 32 := Scalar.muli v55 c16_i32_42
  let v57 : BitVec 32 := v56
  let c0_i32_47 : BitVec 32 := 0#32
  ![v57.toNat, 0]

def k0_chk10 (i : grid0.Coords) (v55 : BitVec 32) : Prop :=
  (∀ (k0_h1 : k0_cond1 i = 1#1), 16 ∣ (k0_mult10 v55).toNat) ∧
  (∀ (k0_h1 : k0_cond1 i = 1#1), ∀ a, (k0_off50 v55) a + S16x128.size a ≤ S262144x128.size a)
theorem k0_mult10_dvd : ∀ (i : grid0.Coords) (v55 : BitVec 32) (k0_hw10 : k0_chk10 i v55), ∀ (k0_h1 : k0_cond1 i = 1#1), 16 ∣ (k0_mult10 v55).toNat := fun i v55 k0_hw10 k0_h1 => k0_hw10.1 k0_h1
theorem k0_off50_inb : ∀ (i : grid0.Coords) (v55 : BitVec 32) (k0_hw10 : k0_chk10 i v55), ∀ (k0_h1 : k0_cond1 i = 1#1), ∀ a, (k0_off50 v55) a + S16x128.size a ≤ S262144x128.size a := fun i v55 k0_hw10 k0_h1 => k0_hw10.2 k0_h1

def k0_off51 (k0_t1 : Fin k0_t1_loop.trips) : Fin 3 → Nat :=
  let c0_i32_49 : BitVec 32 := 0#32
  let c16_i32 : BitVec 32 := 16#32
  let c0_i32_16 : BitVec 32 := 0#32
  let c1_i32_17 : BitVec 32 := 1#32
  let arg16 : BitVec 32 := Scf.iv c0_i32_16 c1_i32_17 k0_t1
  let v34 : BitVec 32 := Scalar.addi c16_i32 arg16
  let c0_i32_50 : BitVec 32 := 0#32
  ![0, v34.toNat, 0]
def k0_off52 (k0_t4 : Fin k0_t4_loop.trips) : Fin 1 → Nat :=
  let c0_i32_26 : BitVec 32 := 0#32
  let c1_i32_28 : BitVec 32 := 1#32
  let arg17 : BitVec 32 := Scf.iv c0_i32_26 c1_i32_28 k0_t4
  let c4_i32_30 : BitVec 32 := 4#32
  let v35 : BitVec 32 := Scalar.muli arg17 c4_i32_30
  let c2_i32_48 : BitVec 32 := 2#32
  let v64 : BitVec 32 := Scalar.addi v35 c2_i32_48
  let v67 : Index := Scalar.indexCast v64
  ![v67.toNat]
def k0_mult11 (v68 : BitVec 32) : BitVec 32 :=
  let c16_i32_51 : BitVec 32 := 16#32
  let v69 : BitVec 32 := Scalar.muli v68 c16_i32_51
  v69

def k0_off53 (k0_t1 : Fin k0_t1_loop.trips) : Fin 2 → Nat :=
  let c0_i32_16 : BitVec 32 := 0#32
  let c1_i32_17 : BitVec 32 := 1#32
  let arg16 : BitVec 32 := Scf.iv c0_i32_16 c1_i32_17 k0_t1
  let c128_i32 : BitVec 32 := 128#32
  let v36 : BitVec 32 := Scalar.muli arg16 c128_i32
  let c17_i32 : BitVec 32 := 17#32
  let v37 : BitVec 32 := Scalar.muli v36 c17_i32
  let c0_i32_54 : BitVec 32 := 0#32
  ![v37.toNat, 0]
def k0_off54 (k0_t4 : Fin k0_t4_loop.trips) : Fin 2 → Nat :=
  let c0_i32_26 : BitVec 32 := 0#32
  let c1_i32_28 : BitVec 32 := 1#32
  let arg17 : BitVec 32 := Scf.iv c0_i32_26 c1_i32_28 k0_t4
  let c4_i32_30 : BitVec 32 := 4#32
  let v35 : BitVec 32 := Scalar.muli arg17 c4_i32_30
  let c2_i32_48 : BitVec 32 := 2#32
  let v64 : BitVec 32 := Scalar.addi v35 c2_i32_48
  let c17_i32_52 : BitVec 32 := 17#32
  let v71 : BitVec 32 := Scalar.muli v64 c17_i32_52
  let c0_i32_55 : BitVec 32 := 0#32
  ![v71.toNat, 0]
def k0_off55 (v68 : BitVec 32) : Fin 2 → Nat :=
  let c16_i32_51 : BitVec 32 := 16#32
  let v69 : BitVec 32 := Scalar.muli v68 c16_i32_51
  let v70 : BitVec 32 := v69
  let c0_i32_56 : BitVec 32 := 0#32
  ![v70.toNat, 0]

def k0_chk11 (i : grid0.Coords) (v68 : BitVec 32) : Prop :=
  (∀ (k0_h1 : k0_cond1 i = 1#1), 16 ∣ (k0_mult11 v68).toNat) ∧
  (∀ (k0_h1 : k0_cond1 i = 1#1), ∀ a, (k0_off55 v68) a + S16x128.size a ≤ S262144x128.size a)
theorem k0_mult11_dvd : ∀ (i : grid0.Coords) (v68 : BitVec 32) (k0_hw11 : k0_chk11 i v68), ∀ (k0_h1 : k0_cond1 i = 1#1), 16 ∣ (k0_mult11 v68).toNat := fun i v68 k0_hw11 k0_h1 => k0_hw11.1 k0_h1
theorem k0_off55_inb : ∀ (i : grid0.Coords) (v68 : BitVec 32) (k0_hw11 : k0_chk11 i v68), ∀ (k0_h1 : k0_cond1 i = 1#1), ∀ a, (k0_off55 v68) a + S16x128.size a ≤ S262144x128.size a := fun i v68 k0_hw11 k0_h1 => k0_hw11.2 k0_h1

def k0_off56 (k0_t1 : Fin k0_t1_loop.trips) : Fin 3 → Nat :=
  let c0_i32_57 : BitVec 32 := 0#32
  let c16_i32 : BitVec 32 := 16#32
  let c0_i32_16 : BitVec 32 := 0#32
  let c1_i32_17 : BitVec 32 := 1#32
  let arg16 : BitVec 32 := Scf.iv c0_i32_16 c1_i32_17 k0_t1
  let v34 : BitVec 32 := Scalar.addi c16_i32 arg16
  let c0_i32_58 : BitVec 32 := 0#32
  ![0, v34.toNat, 0]
def k0_off57 (k0_t4 : Fin k0_t4_loop.trips) : Fin 1 → Nat :=
  let c0_i32_26 : BitVec 32 := 0#32
  let c1_i32_28 : BitVec 32 := 1#32
  let arg17 : BitVec 32 := Scf.iv c0_i32_26 c1_i32_28 k0_t4
  let c4_i32_30 : BitVec 32 := 4#32
  let v35 : BitVec 32 := Scalar.muli arg17 c4_i32_30
  let c3_i32 : BitVec 32 := 3#32
  let v77 : BitVec 32 := Scalar.addi v35 c3_i32
  let v80 : Index := Scalar.indexCast v77
  ![v80.toNat]
def k0_mult12 (v81 : BitVec 32) : BitVec 32 :=
  let c16_i32_59 : BitVec 32 := 16#32
  let v82 : BitVec 32 := Scalar.muli v81 c16_i32_59
  v82

def k0_off58 (k0_t1 : Fin k0_t1_loop.trips) : Fin 2 → Nat :=
  let c0_i32_16 : BitVec 32 := 0#32
  let c1_i32_17 : BitVec 32 := 1#32
  let arg16 : BitVec 32 := Scf.iv c0_i32_16 c1_i32_17 k0_t1
  let c128_i32 : BitVec 32 := 128#32
  let v36 : BitVec 32 := Scalar.muli arg16 c128_i32
  let c17_i32 : BitVec 32 := 17#32
  let v37 : BitVec 32 := Scalar.muli v36 c17_i32
  let c0_i32_62 : BitVec 32 := 0#32
  ![v37.toNat, 0]
def k0_off59 (k0_t4 : Fin k0_t4_loop.trips) : Fin 2 → Nat :=
  let c0_i32_26 : BitVec 32 := 0#32
  let c1_i32_28 : BitVec 32 := 1#32
  let arg17 : BitVec 32 := Scf.iv c0_i32_26 c1_i32_28 k0_t4
  let c4_i32_30 : BitVec 32 := 4#32
  let v35 : BitVec 32 := Scalar.muli arg17 c4_i32_30
  let c3_i32 : BitVec 32 := 3#32
  let v77 : BitVec 32 := Scalar.addi v35 c3_i32
  let c17_i32_60 : BitVec 32 := 17#32
  let v84 : BitVec 32 := Scalar.muli v77 c17_i32_60
  let c0_i32_63 : BitVec 32 := 0#32
  ![v84.toNat, 0]
def k0_off60 (v81 : BitVec 32) : Fin 2 → Nat :=
  let c16_i32_59 : BitVec 32 := 16#32
  let v82 : BitVec 32 := Scalar.muli v81 c16_i32_59
  let v83 : BitVec 32 := v82
  let c0_i32_64 : BitVec 32 := 0#32
  ![v83.toNat, 0]

def k0_chk12 (i : grid0.Coords) (v81 : BitVec 32) : Prop :=
  (∀ (k0_h1 : k0_cond1 i = 1#1), 16 ∣ (k0_mult12 v81).toNat) ∧
  (∀ (k0_h1 : k0_cond1 i = 1#1), ∀ a, (k0_off60 v81) a + S16x128.size a ≤ S262144x128.size a)
theorem k0_mult12_dvd : ∀ (i : grid0.Coords) (v81 : BitVec 32) (k0_hw12 : k0_chk12 i v81), ∀ (k0_h1 : k0_cond1 i = 1#1), 16 ∣ (k0_mult12 v81).toNat := fun i v81 k0_hw12 k0_h1 => k0_hw12.1 k0_h1
theorem k0_off60_inb : ∀ (i : grid0.Coords) (v81 : BitVec 32) (k0_hw12 : k0_chk12 i v81), ∀ (k0_h1 : k0_cond1 i = 1#1), ∀ a, (k0_off60 v81) a + S16x128.size a ≤ S262144x128.size a := fun i v81 k0_hw12 k0_h1 => k0_hw12.2 k0_h1

@[reducible] def k0_t5_loop : Scf.Loop 32 :=
  let c0_i32_2 : BitVec 32 := 0#32
  let c4_i32 : BitVec 32 := 4#32
  let v8 : BitVec 32 := Scalar.addi c0_i32_2 c4_i32
  let c1_i32 : BitVec 32 := 1#32
  ⟨c0_i32_2, v8, c1_i32⟩
@[reducible] def k0_t6_loop : Scf.Loop 32 :=
  let c0_i32_23 : BitVec 32 := 0#32
  let c8_i32 : BitVec 32 := 8#32
  let v36 : BitVec 32 := Scalar.addi c0_i32_23 c8_i32
  let c1_i32_24 : BitVec 32 := 1#32
  ⟨c0_i32_23, v36, c1_i32_24⟩
def k0_off61 (k0_t5 : Fin k0_t5_loop.trips) (k0_t6 : Fin k0_t6_loop.trips) : Fin 2 → Nat :=
  let c0_i32_2 : BitVec 32 := 0#32
  let c1_i32 : BitVec 32 := 1#32
  let arg16 : BitVec 32 := Scf.iv c0_i32_2 c1_i32 k0_t5
  let c4_i32_16 : BitVec 32 := 4#32
  let v30 : BitVec 32 := Scalar.muli arg16 c4_i32_16
  let c0_i32_17 : BitVec 32 := 0#32
  let v31 : BitVec 32 := Scalar.addi v30 c0_i32_17
  let c8_i32_111 : BitVec 32 := 8#32
  let v120 : BitVec 32 := Scalar.muli v31 c8_i32_111
  let c0_i32_23 : BitVec 32 := 0#32
  let c1_i32_24 : BitVec 32 := 1#32
  let arg17 : BitVec 32 := Scf.iv c0_i32_23 c1_i32_24 k0_t6
  let c1_i32_109 : BitVec 32 := 1#32
  let v118 : BitVec 32 := Scalar.muli arg17 c1_i32_109
  let c0_i32_110 : BitVec 32 := 0#32
  let v119 : BitVec 32 := Scalar.addi v118 c0_i32_110
  let v121 : BitVec 32 := Scalar.addi v120 v119
  let v122 : Index := Scalar.indexCast v121
  let c0_112 : Index := 0#32
  ![v122.toNat, 0]
@[reducible] def k0_t7_loop : Scf.Loop 32 :=
  let c0_i32_113 : BitVec 32 := 0#32
  let c16_i32 : BitVec 32 := 16#32
  let v174 : BitVec 32 := Scalar.addi c0_i32_113 c16_i32
  let c1_i32_114 : BitVec 32 := 1#32
  ⟨c0_i32_113, v174, c1_i32_114⟩
def k0_off62 (k0_t6 : Fin k0_t6_loop.trips) : Fin 2 → Nat :=
  let c0_i32_23 : BitVec 32 := 0#32
  let c1_i32_24 : BitVec 32 := 1#32
  let arg17 : BitVec 32 := Scf.iv c0_i32_23 c1_i32_24 k0_t6
  let c1_i32_109 : BitVec 32 := 1#32
  let v118 : BitVec 32 := Scalar.muli arg17 c1_i32_109
  let c0_i32_110 : BitVec 32 := 0#32
  let v119 : BitVec 32 := Scalar.addi v118 c0_i32_110
  let c128_i32 : BitVec 32 := 128#32
  let v172 : BitVec 32 := Scalar.muli v119 c128_i32
  let c17_i32 : BitVec 32 := 17#32
  let v173 : BitVec 32 := Scalar.muli v172 c17_i32
  let c0_i32_119 : BitVec 32 := 0#32
  ![v173.toNat, 0]
def k0_off63 (k0_t7 : Fin k0_t7_loop.trips) (c0_i32_118 : BitVec 32) : Fin 2 → Nat :=
  let c0_i32_113 : BitVec 32 := 0#32
  let c1_i32_114 : BitVec 32 := 1#32
  let arg18 : BitVec 32 := Scf.iv c0_i32_113 c1_i32_114 k0_t7
  let c8_i32_116 : BitVec 32 := 8#32
  let v175 : BitVec 32 := Scalar.muli arg18 c8_i32_116
  let c17_i32_117 : BitVec 32 := 17#32
  let v176 : BitVec 32 := Scalar.muli v175 c17_i32_117
  let v177 : BitVec 32 := Scalar.addi v176 c0_i32_118
  let v179 : Index := Scalar.indexCast v177
  let c0_120 : Index := 0#32
  ![v179.toNat, 0]
def k0_off64 (k0_t5 : Fin k0_t5_loop.trips) (k0_t6 : Fin k0_t6_loop.trips) : Fin 3 → Nat :=
  let c0_i32_192 : BitVec 32 := 0#32
  let c0_i32_2 : BitVec 32 := 0#32
  let c1_i32 : BitVec 32 := 1#32
  let arg16 : BitVec 32 := Scf.iv c0_i32_2 c1_i32 k0_t5
  let c4_i32_16 : BitVec 32 := 4#32
  let v30 : BitVec 32 := Scalar.muli arg16 c4_i32_16
  let c0_i32_17 : BitVec 32 := 0#32
  let v31 : BitVec 32 := Scalar.addi v30 c0_i32_17
  let c3_i32_186 : BitVec 32 := 3#32
  let v271 : BitVec 32 := Scalar.addi v31 c3_i32_186
  let c8_i32_187 : BitVec 32 := 8#32
  let v272 : BitVec 32 := Scalar.muli v271 c8_i32_187
  let c0_i32_23 : BitVec 32 := 0#32
  let c1_i32_24 : BitVec 32 := 1#32
  let arg17 : BitVec 32 := Scf.iv c0_i32_23 c1_i32_24 k0_t6
  let c1_i32_109 : BitVec 32 := 1#32
  let v118 : BitVec 32 := Scalar.muli arg17 c1_i32_109
  let c0_i32_110 : BitVec 32 := 0#32
  let v119 : BitVec 32 := Scalar.addi v118 c0_i32_110
  let v273 : BitVec 32 := Scalar.addi v272 v119
  let c0_i32_193 : BitVec 32 := 0#32
  ![0, v273.toNat, 0]
def k0_off65 (k0_t7 : Fin k0_t7_loop.trips) : Fin 1 → Nat :=
  let c0_i32_113 : BitVec 32 := 0#32
  let c1_i32_114 : BitVec 32 := 1#32
  let arg18 : BitVec 32 := Scf.iv c0_i32_113 c1_i32_114 k0_t7
  let c4_i32_188 : BitVec 32 := 4#32
  let v274 : BitVec 32 := Scalar.muli arg18 c4_i32_188
  let c0_i32_191 : BitVec 32 := 0#32
  let v277 : BitVec 32 := Scalar.addi v274 c0_i32_191
  let v280 : Index := Scalar.indexCast v277
  ![v280.toNat]
def k0_mult13 (v281 : BitVec 32) : BitVec 32 :=
  let c16_i32_194 : BitVec 32 := 16#32
  let v282 : BitVec 32 := Scalar.muli v281 c16_i32_194
  v282

def k0_off66 (k0_t6 : Fin k0_t6_loop.trips) : Fin 2 → Nat :=
  let c0_i32_23 : BitVec 32 := 0#32
  let c1_i32_24 : BitVec 32 := 1#32
  let arg17 : BitVec 32 := Scf.iv c0_i32_23 c1_i32_24 k0_t6
  let c1_i32_109 : BitVec 32 := 1#32
  let v118 : BitVec 32 := Scalar.muli arg17 c1_i32_109
  let c0_i32_110 : BitVec 32 := 0#32
  let v119 : BitVec 32 := Scalar.addi v118 c0_i32_110
  let c128_i32_189 : BitVec 32 := 128#32
  let v275 : BitVec 32 := Scalar.muli v119 c128_i32_189
  let c17_i32_190 : BitVec 32 := 17#32
  let v276 : BitVec 32 := Scalar.muli v275 c17_i32_190
  let c0_i32_197 : BitVec 32 := 0#32
  ![v276.toNat, 0]
def k0_off67 (k0_t7 : Fin k0_t7_loop.trips) : Fin 2 → Nat :=
  let c0_i32_113 : BitVec 32 := 0#32
  let c1_i32_114 : BitVec 32 := 1#32
  let arg18 : BitVec 32 := Scf.iv c0_i32_113 c1_i32_114 k0_t7
  let c4_i32_188 : BitVec 32 := 4#32
  let v274 : BitVec 32 := Scalar.muli arg18 c4_i32_188
  let c0_i32_191 : BitVec 32 := 0#32
  let v277 : BitVec 32 := Scalar.addi v274 c0_i32_191
  let c17_i32_195 : BitVec 32 := 17#32
  let v284 : BitVec 32 := Scalar.muli v277 c17_i32_195
  let c0_i32_198 : BitVec 32 := 0#32
  ![v284.toNat, 0]
def k0_off68 (v281 : BitVec 32) : Fin 2 → Nat :=
  let c16_i32_194 : BitVec 32 := 16#32
  let v282 : BitVec 32 := Scalar.muli v281 c16_i32_194
  let v283 : BitVec 32 := v282
  let c0_i32_199 : BitVec 32 := 0#32
  ![v283.toNat, 0]

def k0_chk13 (v281 : BitVec 32) : Prop :=
  (16 ∣ (k0_mult13 v281).toNat) ∧
  (∀ a, (k0_off68 v281) a + S16x128.size a ≤ S262144x128.size a)
theorem k0_mult13_dvd : ∀ (v281 : BitVec 32) (k0_hw13 : k0_chk13 v281), 16 ∣ (k0_mult13 v281).toNat := fun v281 k0_hw13 => k0_hw13.1
theorem k0_off68_inb : ∀ (v281 : BitVec 32) (k0_hw13 : k0_chk13 v281), ∀ a, (k0_off68 v281) a + S16x128.size a ≤ S262144x128.size a := fun v281 k0_hw13 => k0_hw13.2

def k0_off69 (k0_t5 : Fin k0_t5_loop.trips) (k0_t6 : Fin k0_t6_loop.trips) : Fin 3 → Nat :=
  let c0_i32_201 : BitVec 32 := 0#32
  let c0_i32_2 : BitVec 32 := 0#32
  let c1_i32 : BitVec 32 := 1#32
  let arg16 : BitVec 32 := Scf.iv c0_i32_2 c1_i32 k0_t5
  let c4_i32_16 : BitVec 32 := 4#32
  let v30 : BitVec 32 := Scalar.muli arg16 c4_i32_16
  let c0_i32_17 : BitVec 32 := 0#32
  let v31 : BitVec 32 := Scalar.addi v30 c0_i32_17
  let c3_i32_186 : BitVec 32 := 3#32
  let v271 : BitVec 32 := Scalar.addi v31 c3_i32_186
  let c8_i32_187 : BitVec 32 := 8#32
  let v272 : BitVec 32 := Scalar.muli v271 c8_i32_187
  let c0_i32_23 : BitVec 32 := 0#32
  let c1_i32_24 : BitVec 32 := 1#32
  let arg17 : BitVec 32 := Scf.iv c0_i32_23 c1_i32_24 k0_t6
  let c1_i32_109 : BitVec 32 := 1#32
  let v118 : BitVec 32 := Scalar.muli arg17 c1_i32_109
  let c0_i32_110 : BitVec 32 := 0#32
  let v119 : BitVec 32 := Scalar.addi v118 c0_i32_110
  let v273 : BitVec 32 := Scalar.addi v272 v119
  let c0_i32_202 : BitVec 32 := 0#32
  ![0, v273.toNat, 0]
def k0_off70 (k0_t7 : Fin k0_t7_loop.trips) : Fin 1 → Nat :=
  let c0_i32_113 : BitVec 32 := 0#32
  let c1_i32_114 : BitVec 32 := 1#32
  let arg18 : BitVec 32 := Scf.iv c0_i32_113 c1_i32_114 k0_t7
  let c4_i32_188 : BitVec 32 := 4#32
  let v274 : BitVec 32 := Scalar.muli arg18 c4_i32_188
  let c1_i32_200 : BitVec 32 := 1#32
  let v290 : BitVec 32 := Scalar.addi v274 c1_i32_200
  let v293 : Index := Scalar.indexCast v290
  ![v293.toNat]
def k0_mult14 (v294 : BitVec 32) : BitVec 32 :=
  let c16_i32_203 : BitVec 32 := 16#32
  let v295 : BitVec 32 := Scalar.muli v294 c16_i32_203
  v295

def k0_off71 (k0_t6 : Fin k0_t6_loop.trips) : Fin 2 → Nat :=
  let c0_i32_23 : BitVec 32 := 0#32
  let c1_i32_24 : BitVec 32 := 1#32
  let arg17 : BitVec 32 := Scf.iv c0_i32_23 c1_i32_24 k0_t6
  let c1_i32_109 : BitVec 32 := 1#32
  let v118 : BitVec 32 := Scalar.muli arg17 c1_i32_109
  let c0_i32_110 : BitVec 32 := 0#32
  let v119 : BitVec 32 := Scalar.addi v118 c0_i32_110
  let c128_i32_189 : BitVec 32 := 128#32
  let v275 : BitVec 32 := Scalar.muli v119 c128_i32_189
  let c17_i32_190 : BitVec 32 := 17#32
  let v276 : BitVec 32 := Scalar.muli v275 c17_i32_190
  let c0_i32_206 : BitVec 32 := 0#32
  ![v276.toNat, 0]
def k0_off72 (k0_t7 : Fin k0_t7_loop.trips) : Fin 2 → Nat :=
  let c0_i32_113 : BitVec 32 := 0#32
  let c1_i32_114 : BitVec 32 := 1#32
  let arg18 : BitVec 32 := Scf.iv c0_i32_113 c1_i32_114 k0_t7
  let c4_i32_188 : BitVec 32 := 4#32
  let v274 : BitVec 32 := Scalar.muli arg18 c4_i32_188
  let c1_i32_200 : BitVec 32 := 1#32
  let v290 : BitVec 32 := Scalar.addi v274 c1_i32_200
  let c17_i32_204 : BitVec 32 := 17#32
  let v297 : BitVec 32 := Scalar.muli v290 c17_i32_204
  let c0_i32_207 : BitVec 32 := 0#32
  ![v297.toNat, 0]
def k0_off73 (v294 : BitVec 32) : Fin 2 → Nat :=
  let c16_i32_203 : BitVec 32 := 16#32
  let v295 : BitVec 32 := Scalar.muli v294 c16_i32_203
  let v296 : BitVec 32 := v295
  let c0_i32_208 : BitVec 32 := 0#32
  ![v296.toNat, 0]

def k0_chk14 (v294 : BitVec 32) : Prop :=
  (16 ∣ (k0_mult14 v294).toNat) ∧
  (∀ a, (k0_off73 v294) a + S16x128.size a ≤ S262144x128.size a)
theorem k0_mult14_dvd : ∀ (v294 : BitVec 32) (k0_hw14 : k0_chk14 v294), 16 ∣ (k0_mult14 v294).toNat := fun v294 k0_hw14 => k0_hw14.1
theorem k0_off73_inb : ∀ (v294 : BitVec 32) (k0_hw14 : k0_chk14 v294), ∀ a, (k0_off73 v294) a + S16x128.size a ≤ S262144x128.size a := fun v294 k0_hw14 => k0_hw14.2

def k0_off74 (k0_t5 : Fin k0_t5_loop.trips) (k0_t6 : Fin k0_t6_loop.trips) : Fin 3 → Nat :=
  let c0_i32_210 : BitVec 32 := 0#32
  let c0_i32_2 : BitVec 32 := 0#32
  let c1_i32 : BitVec 32 := 1#32
  let arg16 : BitVec 32 := Scf.iv c0_i32_2 c1_i32 k0_t5
  let c4_i32_16 : BitVec 32 := 4#32
  let v30 : BitVec 32 := Scalar.muli arg16 c4_i32_16
  let c0_i32_17 : BitVec 32 := 0#32
  let v31 : BitVec 32 := Scalar.addi v30 c0_i32_17
  let c3_i32_186 : BitVec 32 := 3#32
  let v271 : BitVec 32 := Scalar.addi v31 c3_i32_186
  let c8_i32_187 : BitVec 32 := 8#32
  let v272 : BitVec 32 := Scalar.muli v271 c8_i32_187
  let c0_i32_23 : BitVec 32 := 0#32
  let c1_i32_24 : BitVec 32 := 1#32
  let arg17 : BitVec 32 := Scf.iv c0_i32_23 c1_i32_24 k0_t6
  let c1_i32_109 : BitVec 32 := 1#32
  let v118 : BitVec 32 := Scalar.muli arg17 c1_i32_109
  let c0_i32_110 : BitVec 32 := 0#32
  let v119 : BitVec 32 := Scalar.addi v118 c0_i32_110
  let v273 : BitVec 32 := Scalar.addi v272 v119
  let c0_i32_211 : BitVec 32 := 0#32
  ![0, v273.toNat, 0]
def k0_off75 (k0_t7 : Fin k0_t7_loop.trips) : Fin 1 → Nat :=
  let c0_i32_113 : BitVec 32 := 0#32
  let c1_i32_114 : BitVec 32 := 1#32
  let arg18 : BitVec 32 := Scf.iv c0_i32_113 c1_i32_114 k0_t7
  let c4_i32_188 : BitVec 32 := 4#32
  let v274 : BitVec 32 := Scalar.muli arg18 c4_i32_188
  let c2_i32_209 : BitVec 32 := 2#32
  let v303 : BitVec 32 := Scalar.addi v274 c2_i32_209
  let v306 : Index := Scalar.indexCast v303
  ![v306.toNat]
def k0_mult15 (v307 : BitVec 32) : BitVec 32 :=
  let c16_i32_212 : BitVec 32 := 16#32
  let v308 : BitVec 32 := Scalar.muli v307 c16_i32_212
  v308

def k0_off76 (k0_t6 : Fin k0_t6_loop.trips) : Fin 2 → Nat :=
  let c0_i32_23 : BitVec 32 := 0#32
  let c1_i32_24 : BitVec 32 := 1#32
  let arg17 : BitVec 32 := Scf.iv c0_i32_23 c1_i32_24 k0_t6
  let c1_i32_109 : BitVec 32 := 1#32
  let v118 : BitVec 32 := Scalar.muli arg17 c1_i32_109
  let c0_i32_110 : BitVec 32 := 0#32
  let v119 : BitVec 32 := Scalar.addi v118 c0_i32_110
  let c128_i32_189 : BitVec 32 := 128#32
  let v275 : BitVec 32 := Scalar.muli v119 c128_i32_189
  let c17_i32_190 : BitVec 32 := 17#32
  let v276 : BitVec 32 := Scalar.muli v275 c17_i32_190
  let c0_i32_215 : BitVec 32 := 0#32
  ![v276.toNat, 0]
def k0_off77 (k0_t7 : Fin k0_t7_loop.trips) : Fin 2 → Nat :=
  let c0_i32_113 : BitVec 32 := 0#32
  let c1_i32_114 : BitVec 32 := 1#32
  let arg18 : BitVec 32 := Scf.iv c0_i32_113 c1_i32_114 k0_t7
  let c4_i32_188 : BitVec 32 := 4#32
  let v274 : BitVec 32 := Scalar.muli arg18 c4_i32_188
  let c2_i32_209 : BitVec 32 := 2#32
  let v303 : BitVec 32 := Scalar.addi v274 c2_i32_209
  let c17_i32_213 : BitVec 32 := 17#32
  let v310 : BitVec 32 := Scalar.muli v303 c17_i32_213
  let c0_i32_216 : BitVec 32 := 0#32
  ![v310.toNat, 0]
def k0_off78 (v307 : BitVec 32) : Fin 2 → Nat :=
  let c16_i32_212 : BitVec 32 := 16#32
  let v308 : BitVec 32 := Scalar.muli v307 c16_i32_212
  let v309 : BitVec 32 := v308
  let c0_i32_217 : BitVec 32 := 0#32
  ![v309.toNat, 0]

def k0_chk15 (v307 : BitVec 32) : Prop :=
  (16 ∣ (k0_mult15 v307).toNat) ∧
  (∀ a, (k0_off78 v307) a + S16x128.size a ≤ S262144x128.size a)
theorem k0_mult15_dvd : ∀ (v307 : BitVec 32) (k0_hw15 : k0_chk15 v307), 16 ∣ (k0_mult15 v307).toNat := fun v307 k0_hw15 => k0_hw15.1
theorem k0_off78_inb : ∀ (v307 : BitVec 32) (k0_hw15 : k0_chk15 v307), ∀ a, (k0_off78 v307) a + S16x128.size a ≤ S262144x128.size a := fun v307 k0_hw15 => k0_hw15.2

def k0_off79 (k0_t5 : Fin k0_t5_loop.trips) (k0_t6 : Fin k0_t6_loop.trips) : Fin 3 → Nat :=
  let c0_i32_219 : BitVec 32 := 0#32
  let c0_i32_2 : BitVec 32 := 0#32
  let c1_i32 : BitVec 32 := 1#32
  let arg16 : BitVec 32 := Scf.iv c0_i32_2 c1_i32 k0_t5
  let c4_i32_16 : BitVec 32 := 4#32
  let v30 : BitVec 32 := Scalar.muli arg16 c4_i32_16
  let c0_i32_17 : BitVec 32 := 0#32
  let v31 : BitVec 32 := Scalar.addi v30 c0_i32_17
  let c3_i32_186 : BitVec 32 := 3#32
  let v271 : BitVec 32 := Scalar.addi v31 c3_i32_186
  let c8_i32_187 : BitVec 32 := 8#32
  let v272 : BitVec 32 := Scalar.muli v271 c8_i32_187
  let c0_i32_23 : BitVec 32 := 0#32
  let c1_i32_24 : BitVec 32 := 1#32
  let arg17 : BitVec 32 := Scf.iv c0_i32_23 c1_i32_24 k0_t6
  let c1_i32_109 : BitVec 32 := 1#32
  let v118 : BitVec 32 := Scalar.muli arg17 c1_i32_109
  let c0_i32_110 : BitVec 32 := 0#32
  let v119 : BitVec 32 := Scalar.addi v118 c0_i32_110
  let v273 : BitVec 32 := Scalar.addi v272 v119
  let c0_i32_220 : BitVec 32 := 0#32
  ![0, v273.toNat, 0]
def k0_off80 (k0_t7 : Fin k0_t7_loop.trips) : Fin 1 → Nat :=
  let c0_i32_113 : BitVec 32 := 0#32
  let c1_i32_114 : BitVec 32 := 1#32
  let arg18 : BitVec 32 := Scf.iv c0_i32_113 c1_i32_114 k0_t7
  let c4_i32_188 : BitVec 32 := 4#32
  let v274 : BitVec 32 := Scalar.muli arg18 c4_i32_188
  let c3_i32_218 : BitVec 32 := 3#32
  let v316 : BitVec 32 := Scalar.addi v274 c3_i32_218
  let v319 : Index := Scalar.indexCast v316
  ![v319.toNat]
def k0_mult16 (v320 : BitVec 32) : BitVec 32 :=
  let c16_i32_221 : BitVec 32 := 16#32
  let v321 : BitVec 32 := Scalar.muli v320 c16_i32_221
  v321

def k0_off81 (k0_t6 : Fin k0_t6_loop.trips) : Fin 2 → Nat :=
  let c0_i32_23 : BitVec 32 := 0#32
  let c1_i32_24 : BitVec 32 := 1#32
  let arg17 : BitVec 32 := Scf.iv c0_i32_23 c1_i32_24 k0_t6
  let c1_i32_109 : BitVec 32 := 1#32
  let v118 : BitVec 32 := Scalar.muli arg17 c1_i32_109
  let c0_i32_110 : BitVec 32 := 0#32
  let v119 : BitVec 32 := Scalar.addi v118 c0_i32_110
  let c128_i32_189 : BitVec 32 := 128#32
  let v275 : BitVec 32 := Scalar.muli v119 c128_i32_189
  let c17_i32_190 : BitVec 32 := 17#32
  let v276 : BitVec 32 := Scalar.muli v275 c17_i32_190
  let c0_i32_224 : BitVec 32 := 0#32
  ![v276.toNat, 0]
def k0_off82 (k0_t7 : Fin k0_t7_loop.trips) : Fin 2 → Nat :=
  let c0_i32_113 : BitVec 32 := 0#32
  let c1_i32_114 : BitVec 32 := 1#32
  let arg18 : BitVec 32 := Scf.iv c0_i32_113 c1_i32_114 k0_t7
  let c4_i32_188 : BitVec 32 := 4#32
  let v274 : BitVec 32 := Scalar.muli arg18 c4_i32_188
  let c3_i32_218 : BitVec 32 := 3#32
  let v316 : BitVec 32 := Scalar.addi v274 c3_i32_218
  let c17_i32_222 : BitVec 32 := 17#32
  let v323 : BitVec 32 := Scalar.muli v316 c17_i32_222
  let c0_i32_225 : BitVec 32 := 0#32
  ![v323.toNat, 0]
def k0_off83 (v320 : BitVec 32) : Fin 2 → Nat :=
  let c16_i32_221 : BitVec 32 := 16#32
  let v321 : BitVec 32 := Scalar.muli v320 c16_i32_221
  let v322 : BitVec 32 := v321
  let c0_i32_226 : BitVec 32 := 0#32
  ![v322.toNat, 0]

def k0_chk16 (v320 : BitVec 32) : Prop :=
  (16 ∣ (k0_mult16 v320).toNat) ∧
  (∀ a, (k0_off83 v320) a + S16x128.size a ≤ S262144x128.size a)
theorem k0_mult16_dvd : ∀ (v320 : BitVec 32) (k0_hw16 : k0_chk16 v320), 16 ∣ (k0_mult16 v320).toNat := fun v320 k0_hw16 => k0_hw16.1
theorem k0_off83_inb : ∀ (v320 : BitVec 32) (k0_hw16 : k0_chk16 v320), ∀ a, (k0_off83 v320) a + S16x128.size a ≤ S262144x128.size a := fun v320 k0_hw16 => k0_hw16.2

def k0_off84 (k0_t7 : Fin k0_t7_loop.trips) : Fin 2 → Nat :=
  let c0_i32_113 : BitVec 32 := 0#32
  let c1_i32_114 : BitVec 32 := 1#32
  let arg18 : BitVec 32 := Scf.iv c0_i32_113 c1_i32_114 k0_t7
  let c8_i32_244 : BitVec 32 := 8#32
  let v410 : BitVec 32 := Scalar.muli arg18 c8_i32_244
  let v415 : Index := Scalar.indexCast v410
  let c0_245 : Index := 0#32
  ![v415.toNat, 0]
@[reducible] def k0_t8_loop : Scf.Loop 32 :=
  let c0_i32_35 : BitVec 32 := 0#32
  let c4_i32_36 : BitVec 32 := 4#32
  let v51 : BitVec 32 := Scalar.addi c0_i32_35 c4_i32_36
  let c1_i32_37 : BitVec 32 := 1#32
  ⟨c0_i32_35, v51, c1_i32_37⟩
@[reducible] def k0_t9_loop : Scf.Loop 32 :=
  let c0_i32_128 : BitVec 32 := 0#32
  let c16_i32 : BitVec 32 := 16#32
  let v140 : BitVec 32 := Scalar.addi c0_i32_128 c16_i32
  let c1_i32_129 : BitVec 32 := 1#32
  ⟨c0_i32_128, v140, c1_i32_129⟩
def k0_off85 (k0_t9 : Fin k0_t9_loop.trips) : Fin 2 → Nat :=
  let c0_i32_128 : BitVec 32 := 0#32
  let c1_i32_129 : BitVec 32 := 1#32
  let arg18 : BitVec 32 := Scf.iv c0_i32_128 c1_i32_129 k0_t9
  let c8_i32_190 : BitVec 32 := 8#32
  let v242 : BitVec 32 := Scalar.muli arg18 c8_i32_190
  let v243 : Index := Scalar.indexCast v242
  let c0_191 : Index := 0#32
  ![v243.toNat, 0]
def k0_off86 (k0_t8 : Fin k0_t8_loop.trips) : Fin 2 → Nat :=
  let c0_i32_35 : BitVec 32 := 0#32
  let c1_i32_37 : BitVec 32 := 1#32
  let arg17 : BitVec 32 := Scf.iv c0_i32_35 c1_i32_37 k0_t8
  let c2_i32_109 : BitVec 32 := 2#32
  let v118 : BitVec 32 := Scalar.muli arg17 c2_i32_109
  let c0_i32_110 : BitVec 32 := 0#32
  let v119 : BitVec 32 := Scalar.addi v118 c0_i32_110
  let c128_i32 : BitVec 32 := 128#32
  let v122 : BitVec 32 := Scalar.muli v119 c128_i32
  let c17_i32 : BitVec 32 := 17#32
  let v123 : BitVec 32 := Scalar.muli v122 c17_i32
  let c0_i32_197 : BitVec 32 := 0#32
  ![v123.toNat, 0]
def k0_off87 (k0_t9 : Fin k0_t9_loop.trips) (c0_i32_196 : BitVec 32) : Fin 2 → Nat :=
  let c0_i32_128 : BitVec 32 := 0#32
  let c1_i32_129 : BitVec 32 := 1#32
  let arg18 : BitVec 32 := Scf.iv c0_i32_128 c1_i32_129 k0_t9
  let c8_i32_194 : BitVec 32 := 8#32
  let v249 : BitVec 32 := Scalar.muli arg18 c8_i32_194
  let c17_i32_195 : BitVec 32 := 17#32
  let v250 : BitVec 32 := Scalar.muli v249 c17_i32_195
  let v251 : BitVec 32 := Scalar.addi v250 c0_i32_196
  let v253 : Index := Scalar.indexCast v251
  let c0_198 : Index := 0#32
  ![v253.toNat, 0]
def k0_off88 (k0_t5 : Fin k0_t5_loop.trips) (k0_t8 : Fin k0_t8_loop.trips) : Fin 3 → Nat :=
  let c0_i32_270 : BitVec 32 := 0#32
  let c0_i32_2 : BitVec 32 := 0#32
  let c1_i32 : BitVec 32 := 1#32
  let arg16 : BitVec 32 := Scf.iv c0_i32_2 c1_i32 k0_t5
  let c4_i32_16 : BitVec 32 := 4#32
  let v30 : BitVec 32 := Scalar.muli arg16 c4_i32_16
  let c0_i32_17 : BitVec 32 := 0#32
  let v31 : BitVec 32 := Scalar.addi v30 c0_i32_17
  let c3_i32_264 : BitVec 32 := 3#32
  let v345 : BitVec 32 := Scalar.addi v31 c3_i32_264
  let c8_i32_265 : BitVec 32 := 8#32
  let v346 : BitVec 32 := Scalar.muli v345 c8_i32_265
  let c0_i32_35 : BitVec 32 := 0#32
  let c1_i32_37 : BitVec 32 := 1#32
  let arg17 : BitVec 32 := Scf.iv c0_i32_35 c1_i32_37 k0_t8
  let c2_i32_109 : BitVec 32 := 2#32
  let v118 : BitVec 32 := Scalar.muli arg17 c2_i32_109
  let c0_i32_110 : BitVec 32 := 0#32
  let v119 : BitVec 32 := Scalar.addi v118 c0_i32_110
  let v347 : BitVec 32 := Scalar.addi v346 v119
  let c0_i32_271 : BitVec 32 := 0#32
  ![0, v347.toNat, 0]
def k0_off89 (k0_t9 : Fin k0_t9_loop.trips) : Fin 1 → Nat :=
  let c64_i32 : BitVec 32 := 64#32
  let c0_i32_128 : BitVec 32 := 0#32
  let c1_i32_129 : BitVec 32 := 1#32
  let arg18 : BitVec 32 := Scf.iv c0_i32_128 c1_i32_129 k0_t9
  let c4_i32_266 : BitVec 32 := 4#32
  let v348 : BitVec 32 := Scalar.muli arg18 c4_i32_266
  let v349 : BitVec 32 := Scalar.addi c64_i32 v348
  let c0_i32_269 : BitVec 32 := 0#32
  let v352 : BitVec 32 := Scalar.addi v349 c0_i32_269
  let v355 : Index := Scalar.indexCast v352
  ![v355.toNat]
def k0_mult17 (v356 : BitVec 32) : BitVec 32 :=
  let c16_i32_272 : BitVec 32 := 16#32
  let v357 : BitVec 32 := Scalar.muli v356 c16_i32_272
  v357

def k0_off90 (k0_t8 : Fin k0_t8_loop.trips) : Fin 2 → Nat :=
  let c0_i32_35 : BitVec 32 := 0#32
  let c1_i32_37 : BitVec 32 := 1#32
  let arg17 : BitVec 32 := Scf.iv c0_i32_35 c1_i32_37 k0_t8
  let c2_i32_109 : BitVec 32 := 2#32
  let v118 : BitVec 32 := Scalar.muli arg17 c2_i32_109
  let c0_i32_110 : BitVec 32 := 0#32
  let v119 : BitVec 32 := Scalar.addi v118 c0_i32_110
  let c128_i32_267 : BitVec 32 := 128#32
  let v350 : BitVec 32 := Scalar.muli v119 c128_i32_267
  let c17_i32_268 : BitVec 32 := 17#32
  let v351 : BitVec 32 := Scalar.muli v350 c17_i32_268
  let c0_i32_275 : BitVec 32 := 0#32
  ![v351.toNat, 0]
def k0_off91 (k0_t9 : Fin k0_t9_loop.trips) : Fin 2 → Nat :=
  let c64_i32 : BitVec 32 := 64#32
  let c0_i32_128 : BitVec 32 := 0#32
  let c1_i32_129 : BitVec 32 := 1#32
  let arg18 : BitVec 32 := Scf.iv c0_i32_128 c1_i32_129 k0_t9
  let c4_i32_266 : BitVec 32 := 4#32
  let v348 : BitVec 32 := Scalar.muli arg18 c4_i32_266
  let v349 : BitVec 32 := Scalar.addi c64_i32 v348
  let c0_i32_269 : BitVec 32 := 0#32
  let v352 : BitVec 32 := Scalar.addi v349 c0_i32_269
  let c17_i32_273 : BitVec 32 := 17#32
  let v359 : BitVec 32 := Scalar.muli v352 c17_i32_273
  let c0_i32_276 : BitVec 32 := 0#32
  ![v359.toNat, 0]
def k0_off92 (v356 : BitVec 32) : Fin 2 → Nat :=
  let c16_i32_272 : BitVec 32 := 16#32
  let v357 : BitVec 32 := Scalar.muli v356 c16_i32_272
  let v358 : BitVec 32 := v357
  let c0_i32_277 : BitVec 32 := 0#32
  ![v358.toNat, 0]

def k0_chk17 (v356 : BitVec 32) : Prop :=
  (16 ∣ (k0_mult17 v356).toNat) ∧
  (∀ a, (k0_off92 v356) a + S16x128.size a ≤ S262144x128.size a)
theorem k0_mult17_dvd : ∀ (v356 : BitVec 32) (k0_hw17 : k0_chk17 v356), 16 ∣ (k0_mult17 v356).toNat := fun v356 k0_hw17 => k0_hw17.1
theorem k0_off92_inb : ∀ (v356 : BitVec 32) (k0_hw17 : k0_chk17 v356), ∀ a, (k0_off92 v356) a + S16x128.size a ≤ S262144x128.size a := fun v356 k0_hw17 => k0_hw17.2

def k0_off93 (k0_t5 : Fin k0_t5_loop.trips) (k0_t8 : Fin k0_t8_loop.trips) : Fin 3 → Nat :=
  let c0_i32_279 : BitVec 32 := 0#32
  let c0_i32_2 : BitVec 32 := 0#32
  let c1_i32 : BitVec 32 := 1#32
  let arg16 : BitVec 32 := Scf.iv c0_i32_2 c1_i32 k0_t5
  let c4_i32_16 : BitVec 32 := 4#32
  let v30 : BitVec 32 := Scalar.muli arg16 c4_i32_16
  let c0_i32_17 : BitVec 32 := 0#32
  let v31 : BitVec 32 := Scalar.addi v30 c0_i32_17
  let c3_i32_264 : BitVec 32 := 3#32
  let v345 : BitVec 32 := Scalar.addi v31 c3_i32_264
  let c8_i32_265 : BitVec 32 := 8#32
  let v346 : BitVec 32 := Scalar.muli v345 c8_i32_265
  let c0_i32_35 : BitVec 32 := 0#32
  let c1_i32_37 : BitVec 32 := 1#32
  let arg17 : BitVec 32 := Scf.iv c0_i32_35 c1_i32_37 k0_t8
  let c2_i32_109 : BitVec 32 := 2#32
  let v118 : BitVec 32 := Scalar.muli arg17 c2_i32_109
  let c0_i32_110 : BitVec 32 := 0#32
  let v119 : BitVec 32 := Scalar.addi v118 c0_i32_110
  let v347 : BitVec 32 := Scalar.addi v346 v119
  let c0_i32_280 : BitVec 32 := 0#32
  ![0, v347.toNat, 0]
def k0_off94 (k0_t9 : Fin k0_t9_loop.trips) : Fin 1 → Nat :=
  let c64_i32 : BitVec 32 := 64#32
  let c0_i32_128 : BitVec 32 := 0#32
  let c1_i32_129 : BitVec 32 := 1#32
  let arg18 : BitVec 32 := Scf.iv c0_i32_128 c1_i32_129 k0_t9
  let c4_i32_266 : BitVec 32 := 4#32
  let v348 : BitVec 32 := Scalar.muli arg18 c4_i32_266
  let v349 : BitVec 32 := Scalar.addi c64_i32 v348
  let c1_i32_278 : BitVec 32 := 1#32
  let v365 : BitVec 32 := Scalar.addi v349 c1_i32_278
  let v368 : Index := Scalar.indexCast v365
  ![v368.toNat]
def k0_mult18 (v369 : BitVec 32) : BitVec 32 :=
  let c16_i32_281 : BitVec 32 := 16#32
  let v370 : BitVec 32 := Scalar.muli v369 c16_i32_281
  v370

def k0_off95 (k0_t8 : Fin k0_t8_loop.trips) : Fin 2 → Nat :=
  let c0_i32_35 : BitVec 32 := 0#32
  let c1_i32_37 : BitVec 32 := 1#32
  let arg17 : BitVec 32 := Scf.iv c0_i32_35 c1_i32_37 k0_t8
  let c2_i32_109 : BitVec 32 := 2#32
  let v118 : BitVec 32 := Scalar.muli arg17 c2_i32_109
  let c0_i32_110 : BitVec 32 := 0#32
  let v119 : BitVec 32 := Scalar.addi v118 c0_i32_110
  let c128_i32_267 : BitVec 32 := 128#32
  let v350 : BitVec 32 := Scalar.muli v119 c128_i32_267
  let c17_i32_268 : BitVec 32 := 17#32
  let v351 : BitVec 32 := Scalar.muli v350 c17_i32_268
  let c0_i32_284 : BitVec 32 := 0#32
  ![v351.toNat, 0]
def k0_off96 (k0_t9 : Fin k0_t9_loop.trips) : Fin 2 → Nat :=
  let c64_i32 : BitVec 32 := 64#32
  let c0_i32_128 : BitVec 32 := 0#32
  let c1_i32_129 : BitVec 32 := 1#32
  let arg18 : BitVec 32 := Scf.iv c0_i32_128 c1_i32_129 k0_t9
  let c4_i32_266 : BitVec 32 := 4#32
  let v348 : BitVec 32 := Scalar.muli arg18 c4_i32_266
  let v349 : BitVec 32 := Scalar.addi c64_i32 v348
  let c1_i32_278 : BitVec 32 := 1#32
  let v365 : BitVec 32 := Scalar.addi v349 c1_i32_278
  let c17_i32_282 : BitVec 32 := 17#32
  let v372 : BitVec 32 := Scalar.muli v365 c17_i32_282
  let c0_i32_285 : BitVec 32 := 0#32
  ![v372.toNat, 0]
def k0_off97 (v369 : BitVec 32) : Fin 2 → Nat :=
  let c16_i32_281 : BitVec 32 := 16#32
  let v370 : BitVec 32 := Scalar.muli v369 c16_i32_281
  let v371 : BitVec 32 := v370
  let c0_i32_286 : BitVec 32 := 0#32
  ![v371.toNat, 0]

def k0_chk18 (v369 : BitVec 32) : Prop :=
  (16 ∣ (k0_mult18 v369).toNat) ∧
  (∀ a, (k0_off97 v369) a + S16x128.size a ≤ S262144x128.size a)
theorem k0_mult18_dvd : ∀ (v369 : BitVec 32) (k0_hw18 : k0_chk18 v369), 16 ∣ (k0_mult18 v369).toNat := fun v369 k0_hw18 => k0_hw18.1
theorem k0_off97_inb : ∀ (v369 : BitVec 32) (k0_hw18 : k0_chk18 v369), ∀ a, (k0_off97 v369) a + S16x128.size a ≤ S262144x128.size a := fun v369 k0_hw18 => k0_hw18.2

def k0_off98 (k0_t5 : Fin k0_t5_loop.trips) (k0_t8 : Fin k0_t8_loop.trips) : Fin 3 → Nat :=
  let c0_i32_288 : BitVec 32 := 0#32
  let c0_i32_2 : BitVec 32 := 0#32
  let c1_i32 : BitVec 32 := 1#32
  let arg16 : BitVec 32 := Scf.iv c0_i32_2 c1_i32 k0_t5
  let c4_i32_16 : BitVec 32 := 4#32
  let v30 : BitVec 32 := Scalar.muli arg16 c4_i32_16
  let c0_i32_17 : BitVec 32 := 0#32
  let v31 : BitVec 32 := Scalar.addi v30 c0_i32_17
  let c3_i32_264 : BitVec 32 := 3#32
  let v345 : BitVec 32 := Scalar.addi v31 c3_i32_264
  let c8_i32_265 : BitVec 32 := 8#32
  let v346 : BitVec 32 := Scalar.muli v345 c8_i32_265
  let c0_i32_35 : BitVec 32 := 0#32
  let c1_i32_37 : BitVec 32 := 1#32
  let arg17 : BitVec 32 := Scf.iv c0_i32_35 c1_i32_37 k0_t8
  let c2_i32_109 : BitVec 32 := 2#32
  let v118 : BitVec 32 := Scalar.muli arg17 c2_i32_109
  let c0_i32_110 : BitVec 32 := 0#32
  let v119 : BitVec 32 := Scalar.addi v118 c0_i32_110
  let v347 : BitVec 32 := Scalar.addi v346 v119
  let c0_i32_289 : BitVec 32 := 0#32
  ![0, v347.toNat, 0]
def k0_off99 (k0_t9 : Fin k0_t9_loop.trips) : Fin 1 → Nat :=
  let c64_i32 : BitVec 32 := 64#32
  let c0_i32_128 : BitVec 32 := 0#32
  let c1_i32_129 : BitVec 32 := 1#32
  let arg18 : BitVec 32 := Scf.iv c0_i32_128 c1_i32_129 k0_t9
  let c4_i32_266 : BitVec 32 := 4#32
  let v348 : BitVec 32 := Scalar.muli arg18 c4_i32_266
  let v349 : BitVec 32 := Scalar.addi c64_i32 v348
  let c2_i32_287 : BitVec 32 := 2#32
  let v378 : BitVec 32 := Scalar.addi v349 c2_i32_287
  let v381 : Index := Scalar.indexCast v378
  ![v381.toNat]
def k0_mult19 (v382 : BitVec 32) : BitVec 32 :=
  let c16_i32_290 : BitVec 32 := 16#32
  let v383 : BitVec 32 := Scalar.muli v382 c16_i32_290
  v383

def k0_off100 (k0_t8 : Fin k0_t8_loop.trips) : Fin 2 → Nat :=
  let c0_i32_35 : BitVec 32 := 0#32
  let c1_i32_37 : BitVec 32 := 1#32
  let arg17 : BitVec 32 := Scf.iv c0_i32_35 c1_i32_37 k0_t8
  let c2_i32_109 : BitVec 32 := 2#32
  let v118 : BitVec 32 := Scalar.muli arg17 c2_i32_109
  let c0_i32_110 : BitVec 32 := 0#32
  let v119 : BitVec 32 := Scalar.addi v118 c0_i32_110
  let c128_i32_267 : BitVec 32 := 128#32
  let v350 : BitVec 32 := Scalar.muli v119 c128_i32_267
  let c17_i32_268 : BitVec 32 := 17#32
  let v351 : BitVec 32 := Scalar.muli v350 c17_i32_268
  let c0_i32_293 : BitVec 32 := 0#32
  ![v351.toNat, 0]
def k0_off101 (k0_t9 : Fin k0_t9_loop.trips) : Fin 2 → Nat :=
  let c64_i32 : BitVec 32 := 64#32
  let c0_i32_128 : BitVec 32 := 0#32
  let c1_i32_129 : BitVec 32 := 1#32
  let arg18 : BitVec 32 := Scf.iv c0_i32_128 c1_i32_129 k0_t9
  let c4_i32_266 : BitVec 32 := 4#32
  let v348 : BitVec 32 := Scalar.muli arg18 c4_i32_266
  let v349 : BitVec 32 := Scalar.addi c64_i32 v348
  let c2_i32_287 : BitVec 32 := 2#32
  let v378 : BitVec 32 := Scalar.addi v349 c2_i32_287
  let c17_i32_291 : BitVec 32 := 17#32
  let v385 : BitVec 32 := Scalar.muli v378 c17_i32_291
  let c0_i32_294 : BitVec 32 := 0#32
  ![v385.toNat, 0]
def k0_off102 (v382 : BitVec 32) : Fin 2 → Nat :=
  let c16_i32_290 : BitVec 32 := 16#32
  let v383 : BitVec 32 := Scalar.muli v382 c16_i32_290
  let v384 : BitVec 32 := v383
  let c0_i32_295 : BitVec 32 := 0#32
  ![v384.toNat, 0]

def k0_chk19 (v382 : BitVec 32) : Prop :=
  (16 ∣ (k0_mult19 v382).toNat) ∧
  (∀ a, (k0_off102 v382) a + S16x128.size a ≤ S262144x128.size a)
theorem k0_mult19_dvd : ∀ (v382 : BitVec 32) (k0_hw19 : k0_chk19 v382), 16 ∣ (k0_mult19 v382).toNat := fun v382 k0_hw19 => k0_hw19.1
theorem k0_off102_inb : ∀ (v382 : BitVec 32) (k0_hw19 : k0_chk19 v382), ∀ a, (k0_off102 v382) a + S16x128.size a ≤ S262144x128.size a := fun v382 k0_hw19 => k0_hw19.2

def k0_off103 (k0_t5 : Fin k0_t5_loop.trips) (k0_t8 : Fin k0_t8_loop.trips) : Fin 3 → Nat :=
  let c0_i32_297 : BitVec 32 := 0#32
  let c0_i32_2 : BitVec 32 := 0#32
  let c1_i32 : BitVec 32 := 1#32
  let arg16 : BitVec 32 := Scf.iv c0_i32_2 c1_i32 k0_t5
  let c4_i32_16 : BitVec 32 := 4#32
  let v30 : BitVec 32 := Scalar.muli arg16 c4_i32_16
  let c0_i32_17 : BitVec 32 := 0#32
  let v31 : BitVec 32 := Scalar.addi v30 c0_i32_17
  let c3_i32_264 : BitVec 32 := 3#32
  let v345 : BitVec 32 := Scalar.addi v31 c3_i32_264
  let c8_i32_265 : BitVec 32 := 8#32
  let v346 : BitVec 32 := Scalar.muli v345 c8_i32_265
  let c0_i32_35 : BitVec 32 := 0#32
  let c1_i32_37 : BitVec 32 := 1#32
  let arg17 : BitVec 32 := Scf.iv c0_i32_35 c1_i32_37 k0_t8
  let c2_i32_109 : BitVec 32 := 2#32
  let v118 : BitVec 32 := Scalar.muli arg17 c2_i32_109
  let c0_i32_110 : BitVec 32 := 0#32
  let v119 : BitVec 32 := Scalar.addi v118 c0_i32_110
  let v347 : BitVec 32 := Scalar.addi v346 v119
  let c0_i32_298 : BitVec 32 := 0#32
  ![0, v347.toNat, 0]
def k0_off104 (k0_t9 : Fin k0_t9_loop.trips) : Fin 1 → Nat :=
  let c64_i32 : BitVec 32 := 64#32
  let c0_i32_128 : BitVec 32 := 0#32
  let c1_i32_129 : BitVec 32 := 1#32
  let arg18 : BitVec 32 := Scf.iv c0_i32_128 c1_i32_129 k0_t9
  let c4_i32_266 : BitVec 32 := 4#32
  let v348 : BitVec 32 := Scalar.muli arg18 c4_i32_266
  let v349 : BitVec 32 := Scalar.addi c64_i32 v348
  let c3_i32_296 : BitVec 32 := 3#32
  let v391 : BitVec 32 := Scalar.addi v349 c3_i32_296
  let v394 : Index := Scalar.indexCast v391
  ![v394.toNat]
def k0_mult20 (v395 : BitVec 32) : BitVec 32 :=
  let c16_i32_299 : BitVec 32 := 16#32
  let v396 : BitVec 32 := Scalar.muli v395 c16_i32_299
  v396

def k0_off105 (k0_t8 : Fin k0_t8_loop.trips) : Fin 2 → Nat :=
  let c0_i32_35 : BitVec 32 := 0#32
  let c1_i32_37 : BitVec 32 := 1#32
  let arg17 : BitVec 32 := Scf.iv c0_i32_35 c1_i32_37 k0_t8
  let c2_i32_109 : BitVec 32 := 2#32
  let v118 : BitVec 32 := Scalar.muli arg17 c2_i32_109
  let c0_i32_110 : BitVec 32 := 0#32
  let v119 : BitVec 32 := Scalar.addi v118 c0_i32_110
  let c128_i32_267 : BitVec 32 := 128#32
  let v350 : BitVec 32 := Scalar.muli v119 c128_i32_267
  let c17_i32_268 : BitVec 32 := 17#32
  let v351 : BitVec 32 := Scalar.muli v350 c17_i32_268
  let c0_i32_302 : BitVec 32 := 0#32
  ![v351.toNat, 0]
def k0_off106 (k0_t9 : Fin k0_t9_loop.trips) : Fin 2 → Nat :=
  let c64_i32 : BitVec 32 := 64#32
  let c0_i32_128 : BitVec 32 := 0#32
  let c1_i32_129 : BitVec 32 := 1#32
  let arg18 : BitVec 32 := Scf.iv c0_i32_128 c1_i32_129 k0_t9
  let c4_i32_266 : BitVec 32 := 4#32
  let v348 : BitVec 32 := Scalar.muli arg18 c4_i32_266
  let v349 : BitVec 32 := Scalar.addi c64_i32 v348
  let c3_i32_296 : BitVec 32 := 3#32
  let v391 : BitVec 32 := Scalar.addi v349 c3_i32_296
  let c17_i32_300 : BitVec 32 := 17#32
  let v398 : BitVec 32 := Scalar.muli v391 c17_i32_300
  let c0_i32_303 : BitVec 32 := 0#32
  ![v398.toNat, 0]
def k0_off107 (v395 : BitVec 32) : Fin 2 → Nat :=
  let c16_i32_299 : BitVec 32 := 16#32
  let v396 : BitVec 32 := Scalar.muli v395 c16_i32_299
  let v397 : BitVec 32 := v396
  let c0_i32_304 : BitVec 32 := 0#32
  ![v397.toNat, 0]

def k0_chk20 (v395 : BitVec 32) : Prop :=
  (16 ∣ (k0_mult20 v395).toNat) ∧
  (∀ a, (k0_off107 v395) a + S16x128.size a ≤ S262144x128.size a)
theorem k0_mult20_dvd : ∀ (v395 : BitVec 32) (k0_hw20 : k0_chk20 v395), 16 ∣ (k0_mult20 v395).toNat := fun v395 k0_hw20 => k0_hw20.1
theorem k0_off107_inb : ∀ (v395 : BitVec 32) (k0_hw20 : k0_chk20 v395), ∀ a, (k0_off107 v395) a + S16x128.size a ≤ S262144x128.size a := fun v395 k0_hw20 => k0_hw20.2

def k0_off108 (k0_t5 : Fin k0_t5_loop.trips) (k0_t8 : Fin k0_t8_loop.trips) (c0_i32_110 : BitVec 32) : Fin 2 → Nat :=
  let c0_i32_2 : BitVec 32 := 0#32
  let c1_i32 : BitVec 32 := 1#32
  let arg16 : BitVec 32 := Scf.iv c0_i32_2 c1_i32 k0_t5
  let c4_i32_16 : BitVec 32 := 4#32
  let v30 : BitVec 32 := Scalar.muli arg16 c4_i32_16
  let c0_i32_17 : BitVec 32 := 0#32
  let v31 : BitVec 32 := Scalar.addi v30 c0_i32_17
  let c8_i32_111 : BitVec 32 := 8#32
  let v120 : BitVec 32 := Scalar.muli v31 c8_i32_111
  let c0_i32_35 : BitVec 32 := 0#32
  let c1_i32_37 : BitVec 32 := 1#32
  let arg17 : BitVec 32 := Scf.iv c0_i32_35 c1_i32_37 k0_t8
  let c2_i32_109 : BitVec 32 := 2#32
  let v118 : BitVec 32 := Scalar.muli arg17 c2_i32_109
  let v119 : BitVec 32 := Scalar.addi v118 c0_i32_110
  let v121 : BitVec 32 := Scalar.addi v120 v119
  let v175 : Index := Scalar.indexCast v121
  let c0_147 : Index := 0#32
  ![v175.toNat, 0]
@[reducible] def k0_t10_loop : Scf.Loop 32 :=
  let c0_i32_169 : BitVec 32 := 0#32
  let c16_i32_170 : BitVec 32 := 16#32
  let v201 : BitVec 32 := Scalar.addi c0_i32_169 c16_i32_170
  let c1_i32_171 : BitVec 32 := 1#32
  ⟨c0_i32_169, v201, c1_i32_171⟩
def k0_off109 (k0_t10 : Fin k0_t10_loop.trips) : Fin 2 → Nat :=
  let c0_i32_169 : BitVec 32 := 0#32
  let c1_i32_171 : BitVec 32 := 1#32
  let arg18 : BitVec 32 := Scf.iv c0_i32_169 c1_i32_171 k0_t10
  let c8_i32_190 : BitVec 32 := 8#32
  let v242 : BitVec 32 := Scalar.muli arg18 c8_i32_190
  let v243 : Index := Scalar.indexCast v242
  let c0_191 : Index := 0#32
  ![v243.toNat, 0]
def k0_off110 (k0_t8 : Fin k0_t8_loop.trips) : Fin 2 → Nat :=
  let c0_i32_35 : BitVec 32 := 0#32
  let c1_i32_37 : BitVec 32 := 1#32
  let arg17 : BitVec 32 := Scf.iv c0_i32_35 c1_i32_37 k0_t8
  let c2_i32_148 : BitVec 32 := 2#32
  let v179 : BitVec 32 := Scalar.muli arg17 c2_i32_148
  let c1_i32_149 : BitVec 32 := 1#32
  let v180 : BitVec 32 := Scalar.addi v179 c1_i32_149
  let c128_i32_151 : BitVec 32 := 128#32
  let v183 : BitVec 32 := Scalar.muli v180 c128_i32_151
  let c17_i32_152 : BitVec 32 := 17#32
  let v184 : BitVec 32 := Scalar.muli v183 c17_i32_152
  let c0_i32_197 : BitVec 32 := 0#32
  ![v184.toNat, 0]
def k0_off111 (k0_t10 : Fin k0_t10_loop.trips) (c0_i32_196 : BitVec 32) : Fin 2 → Nat :=
  let c0_i32_169 : BitVec 32 := 0#32
  let c1_i32_171 : BitVec 32 := 1#32
  let arg18 : BitVec 32 := Scf.iv c0_i32_169 c1_i32_171 k0_t10
  let c8_i32_194 : BitVec 32 := 8#32
  let v249 : BitVec 32 := Scalar.muli arg18 c8_i32_194
  let c17_i32_195 : BitVec 32 := 17#32
  let v250 : BitVec 32 := Scalar.muli v249 c17_i32_195
  let v251 : BitVec 32 := Scalar.addi v250 c0_i32_196
  let v253 : Index := Scalar.indexCast v251
  let c0_198 : Index := 0#32
  ![v253.toNat, 0]
def k0_off112 (k0_t5 : Fin k0_t5_loop.trips) (k0_t8 : Fin k0_t8_loop.trips) : Fin 3 → Nat :=
  let c0_i32_270 : BitVec 32 := 0#32
  let c0_i32_2 : BitVec 32 := 0#32
  let c1_i32 : BitVec 32 := 1#32
  let arg16 : BitVec 32 := Scf.iv c0_i32_2 c1_i32 k0_t5
  let c4_i32_16 : BitVec 32 := 4#32
  let v30 : BitVec 32 := Scalar.muli arg16 c4_i32_16
  let c0_i32_17 : BitVec 32 := 0#32
  let v31 : BitVec 32 := Scalar.addi v30 c0_i32_17
  let c3_i32_264 : BitVec 32 := 3#32
  let v345 : BitVec 32 := Scalar.addi v31 c3_i32_264
  let c8_i32_265 : BitVec 32 := 8#32
  let v346 : BitVec 32 := Scalar.muli v345 c8_i32_265
  let c0_i32_35 : BitVec 32 := 0#32
  let c1_i32_37 : BitVec 32 := 1#32
  let arg17 : BitVec 32 := Scf.iv c0_i32_35 c1_i32_37 k0_t8
  let c2_i32_148 : BitVec 32 := 2#32
  let v179 : BitVec 32 := Scalar.muli arg17 c2_i32_148
  let c1_i32_149 : BitVec 32 := 1#32
  let v180 : BitVec 32 := Scalar.addi v179 c1_i32_149
  let v347 : BitVec 32 := Scalar.addi v346 v180
  let c0_i32_271 : BitVec 32 := 0#32
  ![0, v347.toNat, 0]
def k0_off113 (k0_t10 : Fin k0_t10_loop.trips) : Fin 1 → Nat :=
  let c64_i32 : BitVec 32 := 64#32
  let c0_i32_169 : BitVec 32 := 0#32
  let c1_i32_171 : BitVec 32 := 1#32
  let arg18 : BitVec 32 := Scf.iv c0_i32_169 c1_i32_171 k0_t10
  let c4_i32_266 : BitVec 32 := 4#32
  let v348 : BitVec 32 := Scalar.muli arg18 c4_i32_266
  let v349 : BitVec 32 := Scalar.addi c64_i32 v348
  let c0_i32_269 : BitVec 32 := 0#32
  let v352 : BitVec 32 := Scalar.addi v349 c0_i32_269
  let v355 : Index := Scalar.indexCast v352
  ![v355.toNat]
def k0_mult21 (v356 : BitVec 32) : BitVec 32 :=
  let c16_i32_272 : BitVec 32 := 16#32
  let v357 : BitVec 32 := Scalar.muli v356 c16_i32_272
  v357

def k0_off114 (k0_t8 : Fin k0_t8_loop.trips) : Fin 2 → Nat :=
  let c0_i32_35 : BitVec 32 := 0#32
  let c1_i32_37 : BitVec 32 := 1#32
  let arg17 : BitVec 32 := Scf.iv c0_i32_35 c1_i32_37 k0_t8
  let c2_i32_148 : BitVec 32 := 2#32
  let v179 : BitVec 32 := Scalar.muli arg17 c2_i32_148
  let c1_i32_149 : BitVec 32 := 1#32
  let v180 : BitVec 32 := Scalar.addi v179 c1_i32_149
  let c128_i32_267 : BitVec 32 := 128#32
  let v350 : BitVec 32 := Scalar.muli v180 c128_i32_267
  let c17_i32_268 : BitVec 32 := 17#32
  let v351 : BitVec 32 := Scalar.muli v350 c17_i32_268
  let c0_i32_275 : BitVec 32 := 0#32
  ![v351.toNat, 0]
def k0_off115 (k0_t10 : Fin k0_t10_loop.trips) : Fin 2 → Nat :=
  let c64_i32 : BitVec 32 := 64#32
  let c0_i32_169 : BitVec 32 := 0#32
  let c1_i32_171 : BitVec 32 := 1#32
  let arg18 : BitVec 32 := Scf.iv c0_i32_169 c1_i32_171 k0_t10
  let c4_i32_266 : BitVec 32 := 4#32
  let v348 : BitVec 32 := Scalar.muli arg18 c4_i32_266
  let v349 : BitVec 32 := Scalar.addi c64_i32 v348
  let c0_i32_269 : BitVec 32 := 0#32
  let v352 : BitVec 32 := Scalar.addi v349 c0_i32_269
  let c17_i32_273 : BitVec 32 := 17#32
  let v359 : BitVec 32 := Scalar.muli v352 c17_i32_273
  let c0_i32_276 : BitVec 32 := 0#32
  ![v359.toNat, 0]
def k0_off116 (v356 : BitVec 32) : Fin 2 → Nat :=
  let c16_i32_272 : BitVec 32 := 16#32
  let v357 : BitVec 32 := Scalar.muli v356 c16_i32_272
  let v358 : BitVec 32 := v357
  let c0_i32_277 : BitVec 32 := 0#32
  ![v358.toNat, 0]

def k0_chk21 (v356 : BitVec 32) : Prop :=
  (16 ∣ (k0_mult21 v356).toNat) ∧
  (∀ a, (k0_off116 v356) a + S16x128.size a ≤ S262144x128.size a)
theorem k0_mult21_dvd : ∀ (v356 : BitVec 32) (k0_hw21 : k0_chk21 v356), 16 ∣ (k0_mult21 v356).toNat := fun v356 k0_hw21 => k0_hw21.1
theorem k0_off116_inb : ∀ (v356 : BitVec 32) (k0_hw21 : k0_chk21 v356), ∀ a, (k0_off116 v356) a + S16x128.size a ≤ S262144x128.size a := fun v356 k0_hw21 => k0_hw21.2

def k0_off117 (k0_t5 : Fin k0_t5_loop.trips) (k0_t8 : Fin k0_t8_loop.trips) : Fin 3 → Nat :=
  let c0_i32_279 : BitVec 32 := 0#32
  let c0_i32_2 : BitVec 32 := 0#32
  let c1_i32 : BitVec 32 := 1#32
  let arg16 : BitVec 32 := Scf.iv c0_i32_2 c1_i32 k0_t5
  let c4_i32_16 : BitVec 32 := 4#32
  let v30 : BitVec 32 := Scalar.muli arg16 c4_i32_16
  let c0_i32_17 : BitVec 32 := 0#32
  let v31 : BitVec 32 := Scalar.addi v30 c0_i32_17
  let c3_i32_264 : BitVec 32 := 3#32
  let v345 : BitVec 32 := Scalar.addi v31 c3_i32_264
  let c8_i32_265 : BitVec 32 := 8#32
  let v346 : BitVec 32 := Scalar.muli v345 c8_i32_265
  let c0_i32_35 : BitVec 32 := 0#32
  let c1_i32_37 : BitVec 32 := 1#32
  let arg17 : BitVec 32 := Scf.iv c0_i32_35 c1_i32_37 k0_t8
  let c2_i32_148 : BitVec 32 := 2#32
  let v179 : BitVec 32 := Scalar.muli arg17 c2_i32_148
  let c1_i32_149 : BitVec 32 := 1#32
  let v180 : BitVec 32 := Scalar.addi v179 c1_i32_149
  let v347 : BitVec 32 := Scalar.addi v346 v180
  let c0_i32_280 : BitVec 32 := 0#32
  ![0, v347.toNat, 0]
def k0_off118 (k0_t10 : Fin k0_t10_loop.trips) : Fin 1 → Nat :=
  let c64_i32 : BitVec 32 := 64#32
  let c0_i32_169 : BitVec 32 := 0#32
  let c1_i32_171 : BitVec 32 := 1#32
  let arg18 : BitVec 32 := Scf.iv c0_i32_169 c1_i32_171 k0_t10
  let c4_i32_266 : BitVec 32 := 4#32
  let v348 : BitVec 32 := Scalar.muli arg18 c4_i32_266
  let v349 : BitVec 32 := Scalar.addi c64_i32 v348
  let c1_i32_278 : BitVec 32 := 1#32
  let v365 : BitVec 32 := Scalar.addi v349 c1_i32_278
  let v368 : Index := Scalar.indexCast v365
  ![v368.toNat]
def k0_mult22 (v369 : BitVec 32) : BitVec 32 :=
  let c16_i32_281 : BitVec 32 := 16#32
  let v370 : BitVec 32 := Scalar.muli v369 c16_i32_281
  v370

def k0_off119 (k0_t8 : Fin k0_t8_loop.trips) : Fin 2 → Nat :=
  let c0_i32_35 : BitVec 32 := 0#32
  let c1_i32_37 : BitVec 32 := 1#32
  let arg17 : BitVec 32 := Scf.iv c0_i32_35 c1_i32_37 k0_t8
  let c2_i32_148 : BitVec 32 := 2#32
  let v179 : BitVec 32 := Scalar.muli arg17 c2_i32_148
  let c1_i32_149 : BitVec 32 := 1#32
  let v180 : BitVec 32 := Scalar.addi v179 c1_i32_149
  let c128_i32_267 : BitVec 32 := 128#32
  let v350 : BitVec 32 := Scalar.muli v180 c128_i32_267
  let c17_i32_268 : BitVec 32 := 17#32
  let v351 : BitVec 32 := Scalar.muli v350 c17_i32_268
  let c0_i32_284 : BitVec 32 := 0#32
  ![v351.toNat, 0]
def k0_off120 (k0_t10 : Fin k0_t10_loop.trips) : Fin 2 → Nat :=
  let c64_i32 : BitVec 32 := 64#32
  let c0_i32_169 : BitVec 32 := 0#32
  let c1_i32_171 : BitVec 32 := 1#32
  let arg18 : BitVec 32 := Scf.iv c0_i32_169 c1_i32_171 k0_t10
  let c4_i32_266 : BitVec 32 := 4#32
  let v348 : BitVec 32 := Scalar.muli arg18 c4_i32_266
  let v349 : BitVec 32 := Scalar.addi c64_i32 v348
  let c1_i32_278 : BitVec 32 := 1#32
  let v365 : BitVec 32 := Scalar.addi v349 c1_i32_278
  let c17_i32_282 : BitVec 32 := 17#32
  let v372 : BitVec 32 := Scalar.muli v365 c17_i32_282
  let c0_i32_285 : BitVec 32 := 0#32
  ![v372.toNat, 0]
def k0_off121 (v369 : BitVec 32) : Fin 2 → Nat :=
  let c16_i32_281 : BitVec 32 := 16#32
  let v370 : BitVec 32 := Scalar.muli v369 c16_i32_281
  let v371 : BitVec 32 := v370
  let c0_i32_286 : BitVec 32 := 0#32
  ![v371.toNat, 0]

def k0_chk22 (v369 : BitVec 32) : Prop :=
  (16 ∣ (k0_mult22 v369).toNat) ∧
  (∀ a, (k0_off121 v369) a + S16x128.size a ≤ S262144x128.size a)
theorem k0_mult22_dvd : ∀ (v369 : BitVec 32) (k0_hw22 : k0_chk22 v369), 16 ∣ (k0_mult22 v369).toNat := fun v369 k0_hw22 => k0_hw22.1
theorem k0_off121_inb : ∀ (v369 : BitVec 32) (k0_hw22 : k0_chk22 v369), ∀ a, (k0_off121 v369) a + S16x128.size a ≤ S262144x128.size a := fun v369 k0_hw22 => k0_hw22.2

def k0_off122 (k0_t5 : Fin k0_t5_loop.trips) (k0_t8 : Fin k0_t8_loop.trips) : Fin 3 → Nat :=
  let c0_i32_288 : BitVec 32 := 0#32
  let c0_i32_2 : BitVec 32 := 0#32
  let c1_i32 : BitVec 32 := 1#32
  let arg16 : BitVec 32 := Scf.iv c0_i32_2 c1_i32 k0_t5
  let c4_i32_16 : BitVec 32 := 4#32
  let v30 : BitVec 32 := Scalar.muli arg16 c4_i32_16
  let c0_i32_17 : BitVec 32 := 0#32
  let v31 : BitVec 32 := Scalar.addi v30 c0_i32_17
  let c3_i32_264 : BitVec 32 := 3#32
  let v345 : BitVec 32 := Scalar.addi v31 c3_i32_264
  let c8_i32_265 : BitVec 32 := 8#32
  let v346 : BitVec 32 := Scalar.muli v345 c8_i32_265
  let c0_i32_35 : BitVec 32 := 0#32
  let c1_i32_37 : BitVec 32 := 1#32
  let arg17 : BitVec 32 := Scf.iv c0_i32_35 c1_i32_37 k0_t8
  let c2_i32_148 : BitVec 32 := 2#32
  let v179 : BitVec 32 := Scalar.muli arg17 c2_i32_148
  let c1_i32_149 : BitVec 32 := 1#32
  let v180 : BitVec 32 := Scalar.addi v179 c1_i32_149
  let v347 : BitVec 32 := Scalar.addi v346 v180
  let c0_i32_289 : BitVec 32 := 0#32
  ![0, v347.toNat, 0]
def k0_off123 (k0_t10 : Fin k0_t10_loop.trips) : Fin 1 → Nat :=
  let c64_i32 : BitVec 32 := 64#32
  let c0_i32_169 : BitVec 32 := 0#32
  let c1_i32_171 : BitVec 32 := 1#32
  let arg18 : BitVec 32 := Scf.iv c0_i32_169 c1_i32_171 k0_t10
  let c4_i32_266 : BitVec 32 := 4#32
  let v348 : BitVec 32 := Scalar.muli arg18 c4_i32_266
  let v349 : BitVec 32 := Scalar.addi c64_i32 v348
  let c2_i32_287 : BitVec 32 := 2#32
  let v378 : BitVec 32 := Scalar.addi v349 c2_i32_287
  let v381 : Index := Scalar.indexCast v378
  ![v381.toNat]
def k0_mult23 (v382 : BitVec 32) : BitVec 32 :=
  let c16_i32_290 : BitVec 32 := 16#32
  let v383 : BitVec 32 := Scalar.muli v382 c16_i32_290
  v383

def k0_off124 (k0_t8 : Fin k0_t8_loop.trips) : Fin 2 → Nat :=
  let c0_i32_35 : BitVec 32 := 0#32
  let c1_i32_37 : BitVec 32 := 1#32
  let arg17 : BitVec 32 := Scf.iv c0_i32_35 c1_i32_37 k0_t8
  let c2_i32_148 : BitVec 32 := 2#32
  let v179 : BitVec 32 := Scalar.muli arg17 c2_i32_148
  let c1_i32_149 : BitVec 32 := 1#32
  let v180 : BitVec 32 := Scalar.addi v179 c1_i32_149
  let c128_i32_267 : BitVec 32 := 128#32
  let v350 : BitVec 32 := Scalar.muli v180 c128_i32_267
  let c17_i32_268 : BitVec 32 := 17#32
  let v351 : BitVec 32 := Scalar.muli v350 c17_i32_268
  let c0_i32_293 : BitVec 32 := 0#32
  ![v351.toNat, 0]
def k0_off125 (k0_t10 : Fin k0_t10_loop.trips) : Fin 2 → Nat :=
  let c64_i32 : BitVec 32 := 64#32
  let c0_i32_169 : BitVec 32 := 0#32
  let c1_i32_171 : BitVec 32 := 1#32
  let arg18 : BitVec 32 := Scf.iv c0_i32_169 c1_i32_171 k0_t10
  let c4_i32_266 : BitVec 32 := 4#32
  let v348 : BitVec 32 := Scalar.muli arg18 c4_i32_266
  let v349 : BitVec 32 := Scalar.addi c64_i32 v348
  let c2_i32_287 : BitVec 32 := 2#32
  let v378 : BitVec 32 := Scalar.addi v349 c2_i32_287
  let c17_i32_291 : BitVec 32 := 17#32
  let v385 : BitVec 32 := Scalar.muli v378 c17_i32_291
  let c0_i32_294 : BitVec 32 := 0#32
  ![v385.toNat, 0]
def k0_off126 (v382 : BitVec 32) : Fin 2 → Nat :=
  let c16_i32_290 : BitVec 32 := 16#32
  let v383 : BitVec 32 := Scalar.muli v382 c16_i32_290
  let v384 : BitVec 32 := v383
  let c0_i32_295 : BitVec 32 := 0#32
  ![v384.toNat, 0]

def k0_chk23 (v382 : BitVec 32) : Prop :=
  (16 ∣ (k0_mult23 v382).toNat) ∧
  (∀ a, (k0_off126 v382) a + S16x128.size a ≤ S262144x128.size a)
theorem k0_mult23_dvd : ∀ (v382 : BitVec 32) (k0_hw23 : k0_chk23 v382), 16 ∣ (k0_mult23 v382).toNat := fun v382 k0_hw23 => k0_hw23.1
theorem k0_off126_inb : ∀ (v382 : BitVec 32) (k0_hw23 : k0_chk23 v382), ∀ a, (k0_off126 v382) a + S16x128.size a ≤ S262144x128.size a := fun v382 k0_hw23 => k0_hw23.2

def k0_off127 (k0_t5 : Fin k0_t5_loop.trips) (k0_t8 : Fin k0_t8_loop.trips) : Fin 3 → Nat :=
  let c0_i32_297 : BitVec 32 := 0#32
  let c0_i32_2 : BitVec 32 := 0#32
  let c1_i32 : BitVec 32 := 1#32
  let arg16 : BitVec 32 := Scf.iv c0_i32_2 c1_i32 k0_t5
  let c4_i32_16 : BitVec 32 := 4#32
  let v30 : BitVec 32 := Scalar.muli arg16 c4_i32_16
  let c0_i32_17 : BitVec 32 := 0#32
  let v31 : BitVec 32 := Scalar.addi v30 c0_i32_17
  let c3_i32_264 : BitVec 32 := 3#32
  let v345 : BitVec 32 := Scalar.addi v31 c3_i32_264
  let c8_i32_265 : BitVec 32 := 8#32
  let v346 : BitVec 32 := Scalar.muli v345 c8_i32_265
  let c0_i32_35 : BitVec 32 := 0#32
  let c1_i32_37 : BitVec 32 := 1#32
  let arg17 : BitVec 32 := Scf.iv c0_i32_35 c1_i32_37 k0_t8
  let c2_i32_148 : BitVec 32 := 2#32
  let v179 : BitVec 32 := Scalar.muli arg17 c2_i32_148
  let c1_i32_149 : BitVec 32 := 1#32
  let v180 : BitVec 32 := Scalar.addi v179 c1_i32_149
  let v347 : BitVec 32 := Scalar.addi v346 v180
  let c0_i32_298 : BitVec 32 := 0#32
  ![0, v347.toNat, 0]
def k0_off128 (k0_t10 : Fin k0_t10_loop.trips) : Fin 1 → Nat :=
  let c64_i32 : BitVec 32 := 64#32
  let c0_i32_169 : BitVec 32 := 0#32
  let c1_i32_171 : BitVec 32 := 1#32
  let arg18 : BitVec 32 := Scf.iv c0_i32_169 c1_i32_171 k0_t10
  let c4_i32_266 : BitVec 32 := 4#32
  let v348 : BitVec 32 := Scalar.muli arg18 c4_i32_266
  let v349 : BitVec 32 := Scalar.addi c64_i32 v348
  let c3_i32_296 : BitVec 32 := 3#32
  let v391 : BitVec 32 := Scalar.addi v349 c3_i32_296
  let v394 : Index := Scalar.indexCast v391
  ![v394.toNat]
def k0_mult24 (v395 : BitVec 32) : BitVec 32 :=
  let c16_i32_299 : BitVec 32 := 16#32
  let v396 : BitVec 32 := Scalar.muli v395 c16_i32_299
  v396

def k0_off129 (k0_t8 : Fin k0_t8_loop.trips) : Fin 2 → Nat :=
  let c0_i32_35 : BitVec 32 := 0#32
  let c1_i32_37 : BitVec 32 := 1#32
  let arg17 : BitVec 32 := Scf.iv c0_i32_35 c1_i32_37 k0_t8
  let c2_i32_148 : BitVec 32 := 2#32
  let v179 : BitVec 32 := Scalar.muli arg17 c2_i32_148
  let c1_i32_149 : BitVec 32 := 1#32
  let v180 : BitVec 32 := Scalar.addi v179 c1_i32_149
  let c128_i32_267 : BitVec 32 := 128#32
  let v350 : BitVec 32 := Scalar.muli v180 c128_i32_267
  let c17_i32_268 : BitVec 32 := 17#32
  let v351 : BitVec 32 := Scalar.muli v350 c17_i32_268
  let c0_i32_302 : BitVec 32 := 0#32
  ![v351.toNat, 0]
def k0_off130 (k0_t10 : Fin k0_t10_loop.trips) : Fin 2 → Nat :=
  let c64_i32 : BitVec 32 := 64#32
  let c0_i32_169 : BitVec 32 := 0#32
  let c1_i32_171 : BitVec 32 := 1#32
  let arg18 : BitVec 32 := Scf.iv c0_i32_169 c1_i32_171 k0_t10
  let c4_i32_266 : BitVec 32 := 4#32
  let v348 : BitVec 32 := Scalar.muli arg18 c4_i32_266
  let v349 : BitVec 32 := Scalar.addi c64_i32 v348
  let c3_i32_296 : BitVec 32 := 3#32
  let v391 : BitVec 32 := Scalar.addi v349 c3_i32_296
  let c17_i32_300 : BitVec 32 := 17#32
  let v398 : BitVec 32 := Scalar.muli v391 c17_i32_300
  let c0_i32_303 : BitVec 32 := 0#32
  ![v398.toNat, 0]
def k0_off131 (v395 : BitVec 32) : Fin 2 → Nat :=
  let c16_i32_299 : BitVec 32 := 16#32
  let v396 : BitVec 32 := Scalar.muli v395 c16_i32_299
  let v397 : BitVec 32 := v396
  let c0_i32_304 : BitVec 32 := 0#32
  ![v397.toNat, 0]

def k0_chk24 (v395 : BitVec 32) : Prop :=
  (16 ∣ (k0_mult24 v395).toNat) ∧
  (∀ a, (k0_off131 v395) a + S16x128.size a ≤ S262144x128.size a)
theorem k0_mult24_dvd : ∀ (v395 : BitVec 32) (k0_hw24 : k0_chk24 v395), 16 ∣ (k0_mult24 v395).toNat := fun v395 k0_hw24 => k0_hw24.1
theorem k0_off131_inb : ∀ (v395 : BitVec 32) (k0_hw24 : k0_chk24 v395), ∀ a, (k0_off131 v395) a + S16x128.size a ≤ S262144x128.size a := fun v395 k0_hw24 => k0_hw24.2

@[reducible] def k0_t11_loop : Scf.Loop 32 :=
  let c0_i32_46 : BitVec 32 := 0#32
  let c8_i32_47 : BitVec 32 := 8#32
  let v58 : BitVec 32 := Scalar.addi c0_i32_46 c8_i32_47
  let c1_i32_48 : BitVec 32 := 1#32
  ⟨c0_i32_46, v58, c1_i32_48⟩
def k0_off132 (k0_t5 : Fin k0_t5_loop.trips) (k0_t11 : Fin k0_t11_loop.trips) : Fin 2 → Nat :=
  let c0_i32_2 : BitVec 32 := 0#32
  let c1_i32 : BitVec 32 := 1#32
  let arg16 : BitVec 32 := Scf.iv c0_i32_2 c1_i32 k0_t5
  let c4_i32_39 : BitVec 32 := 4#32
  let v52 : BitVec 32 := Scalar.muli arg16 c4_i32_39
  let c1_i32_40 : BitVec 32 := 1#32
  let v53 : BitVec 32 := Scalar.addi v52 c1_i32_40
  let c8_i32_111 : BitVec 32 := 8#32
  let v120 : BitVec 32 := Scalar.muli v53 c8_i32_111
  let c0_i32_46 : BitVec 32 := 0#32
  let c1_i32_48 : BitVec 32 := 1#32
  let arg17 : BitVec 32 := Scf.iv c0_i32_46 c1_i32_48 k0_t11
  let c1_i32_109 : BitVec 32 := 1#32
  let v118 : BitVec 32 := Scalar.muli arg17 c1_i32_109
  let c0_i32_110 : BitVec 32 := 0#32
  let v119 : BitVec 32 := Scalar.addi v118 c0_i32_110
  let v121 : BitVec 32 := Scalar.addi v120 v119
  let v122 : Index := Scalar.indexCast v121
  let c0_112 : Index := 0#32
  ![v122.toNat, 0]
@[reducible] def k0_t12_loop : Scf.Loop 32 :=
  let c0_i32_113 : BitVec 32 := 0#32
  let c16_i32 : BitVec 32 := 16#32
  let v174 : BitVec 32 := Scalar.addi c0_i32_113 c16_i32
  let c1_i32_114 : BitVec 32 := 1#32
  ⟨c0_i32_113, v174, c1_i32_114⟩
def k0_off133 (k0_t11 : Fin k0_t11_loop.trips) : Fin 2 → Nat :=
  let c0_i32_46 : BitVec 32 := 0#32
  let c1_i32_48 : BitVec 32 := 1#32
  let arg17 : BitVec 32 := Scf.iv c0_i32_46 c1_i32_48 k0_t11
  let c1_i32_109 : BitVec 32 := 1#32
  let v118 : BitVec 32 := Scalar.muli arg17 c1_i32_109
  let c0_i32_110 : BitVec 32 := 0#32
  let v119 : BitVec 32 := Scalar.addi v118 c0_i32_110
  let c128_i32 : BitVec 32 := 128#32
  let v172 : BitVec 32 := Scalar.muli v119 c128_i32
  let c17_i32 : BitVec 32 := 17#32
  let v173 : BitVec 32 := Scalar.muli v172 c17_i32
  let c0_i32_119 : BitVec 32 := 0#32
  ![v173.toNat, 0]
def k0_off134 (k0_t12 : Fin k0_t12_loop.trips) (c0_i32_118 : BitVec 32) : Fin 2 → Nat :=
  let c0_i32_113 : BitVec 32 := 0#32
  let c1_i32_114 : BitVec 32 := 1#32
  let arg18 : BitVec 32 := Scf.iv c0_i32_113 c1_i32_114 k0_t12
  let c8_i32_116 : BitVec 32 := 8#32
  let v175 : BitVec 32 := Scalar.muli arg18 c8_i32_116
  let c17_i32_117 : BitVec 32 := 17#32
  let v176 : BitVec 32 := Scalar.muli v175 c17_i32_117
  let v177 : BitVec 32 := Scalar.addi v176 c0_i32_118
  let v179 : Index := Scalar.indexCast v177
  let c0_120 : Index := 0#32
  ![v179.toNat, 0]
def k0_off135 (k0_t5 : Fin k0_t5_loop.trips) (k0_t11 : Fin k0_t11_loop.trips) : Fin 3 → Nat :=
  let c0_i32_192 : BitVec 32 := 0#32
  let c0_i32_2 : BitVec 32 := 0#32
  let c1_i32 : BitVec 32 := 1#32
  let arg16 : BitVec 32 := Scf.iv c0_i32_2 c1_i32 k0_t5
  let c4_i32_39 : BitVec 32 := 4#32
  let v52 : BitVec 32 := Scalar.muli arg16 c4_i32_39
  let c1_i32_40 : BitVec 32 := 1#32
  let v53 : BitVec 32 := Scalar.addi v52 c1_i32_40
  let c3_i32_186 : BitVec 32 := 3#32
  let v271 : BitVec 32 := Scalar.addi v53 c3_i32_186
  let c8_i32_187 : BitVec 32 := 8#32
  let v272 : BitVec 32 := Scalar.muli v271 c8_i32_187
  let c0_i32_46 : BitVec 32 := 0#32
  let c1_i32_48 : BitVec 32 := 1#32
  let arg17 : BitVec 32 := Scf.iv c0_i32_46 c1_i32_48 k0_t11
  let c1_i32_109 : BitVec 32 := 1#32
  let v118 : BitVec 32 := Scalar.muli arg17 c1_i32_109
  let c0_i32_110 : BitVec 32 := 0#32
  let v119 : BitVec 32 := Scalar.addi v118 c0_i32_110
  let v273 : BitVec 32 := Scalar.addi v272 v119
  let c0_i32_193 : BitVec 32 := 0#32
  ![0, v273.toNat, 0]
def k0_off136 (k0_t12 : Fin k0_t12_loop.trips) : Fin 1 → Nat :=
  let c0_i32_113 : BitVec 32 := 0#32
  let c1_i32_114 : BitVec 32 := 1#32
  let arg18 : BitVec 32 := Scf.iv c0_i32_113 c1_i32_114 k0_t12
  let c4_i32_188 : BitVec 32 := 4#32
  let v274 : BitVec 32 := Scalar.muli arg18 c4_i32_188
  let c0_i32_191 : BitVec 32 := 0#32
  let v277 : BitVec 32 := Scalar.addi v274 c0_i32_191
  let v280 : Index := Scalar.indexCast v277
  ![v280.toNat]
def k0_mult25 (v281 : BitVec 32) : BitVec 32 :=
  let c16_i32_194 : BitVec 32 := 16#32
  let v282 : BitVec 32 := Scalar.muli v281 c16_i32_194
  v282

def k0_off137 (k0_t11 : Fin k0_t11_loop.trips) : Fin 2 → Nat :=
  let c0_i32_46 : BitVec 32 := 0#32
  let c1_i32_48 : BitVec 32 := 1#32
  let arg17 : BitVec 32 := Scf.iv c0_i32_46 c1_i32_48 k0_t11
  let c1_i32_109 : BitVec 32 := 1#32
  let v118 : BitVec 32 := Scalar.muli arg17 c1_i32_109
  let c0_i32_110 : BitVec 32 := 0#32
  let v119 : BitVec 32 := Scalar.addi v118 c0_i32_110
  let c128_i32_189 : BitVec 32 := 128#32
  let v275 : BitVec 32 := Scalar.muli v119 c128_i32_189
  let c17_i32_190 : BitVec 32 := 17#32
  let v276 : BitVec 32 := Scalar.muli v275 c17_i32_190
  let c0_i32_197 : BitVec 32 := 0#32
  ![v276.toNat, 0]
def k0_off138 (k0_t12 : Fin k0_t12_loop.trips) : Fin 2 → Nat :=
  let c0_i32_113 : BitVec 32 := 0#32
  let c1_i32_114 : BitVec 32 := 1#32
  let arg18 : BitVec 32 := Scf.iv c0_i32_113 c1_i32_114 k0_t12
  let c4_i32_188 : BitVec 32 := 4#32
  let v274 : BitVec 32 := Scalar.muli arg18 c4_i32_188
  let c0_i32_191 : BitVec 32 := 0#32
  let v277 : BitVec 32 := Scalar.addi v274 c0_i32_191
  let c17_i32_195 : BitVec 32 := 17#32
  let v284 : BitVec 32 := Scalar.muli v277 c17_i32_195
  let c0_i32_198 : BitVec 32 := 0#32
  ![v284.toNat, 0]
def k0_off139 (v281 : BitVec 32) : Fin 2 → Nat :=
  let c16_i32_194 : BitVec 32 := 16#32
  let v282 : BitVec 32 := Scalar.muli v281 c16_i32_194
  let v283 : BitVec 32 := v282
  let c0_i32_199 : BitVec 32 := 0#32
  ![v283.toNat, 0]

def k0_chk25 (v281 : BitVec 32) : Prop :=
  (16 ∣ (k0_mult25 v281).toNat) ∧
  (∀ a, (k0_off139 v281) a + S16x128.size a ≤ S262144x128.size a)
theorem k0_mult25_dvd : ∀ (v281 : BitVec 32) (k0_hw25 : k0_chk25 v281), 16 ∣ (k0_mult25 v281).toNat := fun v281 k0_hw25 => k0_hw25.1
theorem k0_off139_inb : ∀ (v281 : BitVec 32) (k0_hw25 : k0_chk25 v281), ∀ a, (k0_off139 v281) a + S16x128.size a ≤ S262144x128.size a := fun v281 k0_hw25 => k0_hw25.2

def k0_off140 (k0_t5 : Fin k0_t5_loop.trips) (k0_t11 : Fin k0_t11_loop.trips) : Fin 3 → Nat :=
  let c0_i32_201 : BitVec 32 := 0#32
  let c0_i32_2 : BitVec 32 := 0#32
  let c1_i32 : BitVec 32 := 1#32
  let arg16 : BitVec 32 := Scf.iv c0_i32_2 c1_i32 k0_t5
  let c4_i32_39 : BitVec 32 := 4#32
  let v52 : BitVec 32 := Scalar.muli arg16 c4_i32_39
  let c1_i32_40 : BitVec 32 := 1#32
  let v53 : BitVec 32 := Scalar.addi v52 c1_i32_40
  let c3_i32_186 : BitVec 32 := 3#32
  let v271 : BitVec 32 := Scalar.addi v53 c3_i32_186
  let c8_i32_187 : BitVec 32 := 8#32
  let v272 : BitVec 32 := Scalar.muli v271 c8_i32_187
  let c0_i32_46 : BitVec 32 := 0#32
  let c1_i32_48 : BitVec 32 := 1#32
  let arg17 : BitVec 32 := Scf.iv c0_i32_46 c1_i32_48 k0_t11
  let c1_i32_109 : BitVec 32 := 1#32
  let v118 : BitVec 32 := Scalar.muli arg17 c1_i32_109
  let c0_i32_110 : BitVec 32 := 0#32
  let v119 : BitVec 32 := Scalar.addi v118 c0_i32_110
  let v273 : BitVec 32 := Scalar.addi v272 v119
  let c0_i32_202 : BitVec 32 := 0#32
  ![0, v273.toNat, 0]
def k0_off141 (k0_t12 : Fin k0_t12_loop.trips) : Fin 1 → Nat :=
  let c0_i32_113 : BitVec 32 := 0#32
  let c1_i32_114 : BitVec 32 := 1#32
  let arg18 : BitVec 32 := Scf.iv c0_i32_113 c1_i32_114 k0_t12
  let c4_i32_188 : BitVec 32 := 4#32
  let v274 : BitVec 32 := Scalar.muli arg18 c4_i32_188
  let c1_i32_200 : BitVec 32 := 1#32
  let v290 : BitVec 32 := Scalar.addi v274 c1_i32_200
  let v293 : Index := Scalar.indexCast v290
  ![v293.toNat]
def k0_mult26 (v294 : BitVec 32) : BitVec 32 :=
  let c16_i32_203 : BitVec 32 := 16#32
  let v295 : BitVec 32 := Scalar.muli v294 c16_i32_203
  v295

def k0_off142 (k0_t11 : Fin k0_t11_loop.trips) : Fin 2 → Nat :=
  let c0_i32_46 : BitVec 32 := 0#32
  let c1_i32_48 : BitVec 32 := 1#32
  let arg17 : BitVec 32 := Scf.iv c0_i32_46 c1_i32_48 k0_t11
  let c1_i32_109 : BitVec 32 := 1#32
  let v118 : BitVec 32 := Scalar.muli arg17 c1_i32_109
  let c0_i32_110 : BitVec 32 := 0#32
  let v119 : BitVec 32 := Scalar.addi v118 c0_i32_110
  let c128_i32_189 : BitVec 32 := 128#32
  let v275 : BitVec 32 := Scalar.muli v119 c128_i32_189
  let c17_i32_190 : BitVec 32 := 17#32
  let v276 : BitVec 32 := Scalar.muli v275 c17_i32_190
  let c0_i32_206 : BitVec 32 := 0#32
  ![v276.toNat, 0]
def k0_off143 (k0_t12 : Fin k0_t12_loop.trips) : Fin 2 → Nat :=
  let c0_i32_113 : BitVec 32 := 0#32
  let c1_i32_114 : BitVec 32 := 1#32
  let arg18 : BitVec 32 := Scf.iv c0_i32_113 c1_i32_114 k0_t12
  let c4_i32_188 : BitVec 32 := 4#32
  let v274 : BitVec 32 := Scalar.muli arg18 c4_i32_188
  let c1_i32_200 : BitVec 32 := 1#32
  let v290 : BitVec 32 := Scalar.addi v274 c1_i32_200
  let c17_i32_204 : BitVec 32 := 17#32
  let v297 : BitVec 32 := Scalar.muli v290 c17_i32_204
  let c0_i32_207 : BitVec 32 := 0#32
  ![v297.toNat, 0]
def k0_off144 (v294 : BitVec 32) : Fin 2 → Nat :=
  let c16_i32_203 : BitVec 32 := 16#32
  let v295 : BitVec 32 := Scalar.muli v294 c16_i32_203
  let v296 : BitVec 32 := v295
  let c0_i32_208 : BitVec 32 := 0#32
  ![v296.toNat, 0]

def k0_chk26 (v294 : BitVec 32) : Prop :=
  (16 ∣ (k0_mult26 v294).toNat) ∧
  (∀ a, (k0_off144 v294) a + S16x128.size a ≤ S262144x128.size a)
theorem k0_mult26_dvd : ∀ (v294 : BitVec 32) (k0_hw26 : k0_chk26 v294), 16 ∣ (k0_mult26 v294).toNat := fun v294 k0_hw26 => k0_hw26.1
theorem k0_off144_inb : ∀ (v294 : BitVec 32) (k0_hw26 : k0_chk26 v294), ∀ a, (k0_off144 v294) a + S16x128.size a ≤ S262144x128.size a := fun v294 k0_hw26 => k0_hw26.2

def k0_off145 (k0_t5 : Fin k0_t5_loop.trips) (k0_t11 : Fin k0_t11_loop.trips) : Fin 3 → Nat :=
  let c0_i32_210 : BitVec 32 := 0#32
  let c0_i32_2 : BitVec 32 := 0#32
  let c1_i32 : BitVec 32 := 1#32
  let arg16 : BitVec 32 := Scf.iv c0_i32_2 c1_i32 k0_t5
  let c4_i32_39 : BitVec 32 := 4#32
  let v52 : BitVec 32 := Scalar.muli arg16 c4_i32_39
  let c1_i32_40 : BitVec 32 := 1#32
  let v53 : BitVec 32 := Scalar.addi v52 c1_i32_40
  let c3_i32_186 : BitVec 32 := 3#32
  let v271 : BitVec 32 := Scalar.addi v53 c3_i32_186
  let c8_i32_187 : BitVec 32 := 8#32
  let v272 : BitVec 32 := Scalar.muli v271 c8_i32_187
  let c0_i32_46 : BitVec 32 := 0#32
  let c1_i32_48 : BitVec 32 := 1#32
  let arg17 : BitVec 32 := Scf.iv c0_i32_46 c1_i32_48 k0_t11
  let c1_i32_109 : BitVec 32 := 1#32
  let v118 : BitVec 32 := Scalar.muli arg17 c1_i32_109
  let c0_i32_110 : BitVec 32 := 0#32
  let v119 : BitVec 32 := Scalar.addi v118 c0_i32_110
  let v273 : BitVec 32 := Scalar.addi v272 v119
  let c0_i32_211 : BitVec 32 := 0#32
  ![0, v273.toNat, 0]
def k0_off146 (k0_t12 : Fin k0_t12_loop.trips) : Fin 1 → Nat :=
  let c0_i32_113 : BitVec 32 := 0#32
  let c1_i32_114 : BitVec 32 := 1#32
  let arg18 : BitVec 32 := Scf.iv c0_i32_113 c1_i32_114 k0_t12
  let c4_i32_188 : BitVec 32 := 4#32
  let v274 : BitVec 32 := Scalar.muli arg18 c4_i32_188
  let c2_i32_209 : BitVec 32 := 2#32
  let v303 : BitVec 32 := Scalar.addi v274 c2_i32_209
  let v306 : Index := Scalar.indexCast v303
  ![v306.toNat]
def k0_mult27 (v307 : BitVec 32) : BitVec 32 :=
  let c16_i32_212 : BitVec 32 := 16#32
  let v308 : BitVec 32 := Scalar.muli v307 c16_i32_212
  v308

def k0_off147 (k0_t11 : Fin k0_t11_loop.trips) : Fin 2 → Nat :=
  let c0_i32_46 : BitVec 32 := 0#32
  let c1_i32_48 : BitVec 32 := 1#32
  let arg17 : BitVec 32 := Scf.iv c0_i32_46 c1_i32_48 k0_t11
  let c1_i32_109 : BitVec 32 := 1#32
  let v118 : BitVec 32 := Scalar.muli arg17 c1_i32_109
  let c0_i32_110 : BitVec 32 := 0#32
  let v119 : BitVec 32 := Scalar.addi v118 c0_i32_110
  let c128_i32_189 : BitVec 32 := 128#32
  let v275 : BitVec 32 := Scalar.muli v119 c128_i32_189
  let c17_i32_190 : BitVec 32 := 17#32
  let v276 : BitVec 32 := Scalar.muli v275 c17_i32_190
  let c0_i32_215 : BitVec 32 := 0#32
  ![v276.toNat, 0]
def k0_off148 (k0_t12 : Fin k0_t12_loop.trips) : Fin 2 → Nat :=
  let c0_i32_113 : BitVec 32 := 0#32
  let c1_i32_114 : BitVec 32 := 1#32
  let arg18 : BitVec 32 := Scf.iv c0_i32_113 c1_i32_114 k0_t12
  let c4_i32_188 : BitVec 32 := 4#32
  let v274 : BitVec 32 := Scalar.muli arg18 c4_i32_188
  let c2_i32_209 : BitVec 32 := 2#32
  let v303 : BitVec 32 := Scalar.addi v274 c2_i32_209
  let c17_i32_213 : BitVec 32 := 17#32
  let v310 : BitVec 32 := Scalar.muli v303 c17_i32_213
  let c0_i32_216 : BitVec 32 := 0#32
  ![v310.toNat, 0]
def k0_off149 (v307 : BitVec 32) : Fin 2 → Nat :=
  let c16_i32_212 : BitVec 32 := 16#32
  let v308 : BitVec 32 := Scalar.muli v307 c16_i32_212
  let v309 : BitVec 32 := v308
  let c0_i32_217 : BitVec 32 := 0#32
  ![v309.toNat, 0]

def k0_chk27 (v307 : BitVec 32) : Prop :=
  (16 ∣ (k0_mult27 v307).toNat) ∧
  (∀ a, (k0_off149 v307) a + S16x128.size a ≤ S262144x128.size a)
theorem k0_mult27_dvd : ∀ (v307 : BitVec 32) (k0_hw27 : k0_chk27 v307), 16 ∣ (k0_mult27 v307).toNat := fun v307 k0_hw27 => k0_hw27.1
theorem k0_off149_inb : ∀ (v307 : BitVec 32) (k0_hw27 : k0_chk27 v307), ∀ a, (k0_off149 v307) a + S16x128.size a ≤ S262144x128.size a := fun v307 k0_hw27 => k0_hw27.2

def k0_off150 (k0_t5 : Fin k0_t5_loop.trips) (k0_t11 : Fin k0_t11_loop.trips) : Fin 3 → Nat :=
  let c0_i32_219 : BitVec 32 := 0#32
  let c0_i32_2 : BitVec 32 := 0#32
  let c1_i32 : BitVec 32 := 1#32
  let arg16 : BitVec 32 := Scf.iv c0_i32_2 c1_i32 k0_t5
  let c4_i32_39 : BitVec 32 := 4#32
  let v52 : BitVec 32 := Scalar.muli arg16 c4_i32_39
  let c1_i32_40 : BitVec 32 := 1#32
  let v53 : BitVec 32 := Scalar.addi v52 c1_i32_40
  let c3_i32_186 : BitVec 32 := 3#32
  let v271 : BitVec 32 := Scalar.addi v53 c3_i32_186
  let c8_i32_187 : BitVec 32 := 8#32
  let v272 : BitVec 32 := Scalar.muli v271 c8_i32_187
  let c0_i32_46 : BitVec 32 := 0#32
  let c1_i32_48 : BitVec 32 := 1#32
  let arg17 : BitVec 32 := Scf.iv c0_i32_46 c1_i32_48 k0_t11
  let c1_i32_109 : BitVec 32 := 1#32
  let v118 : BitVec 32 := Scalar.muli arg17 c1_i32_109
  let c0_i32_110 : BitVec 32 := 0#32
  let v119 : BitVec 32 := Scalar.addi v118 c0_i32_110
  let v273 : BitVec 32 := Scalar.addi v272 v119
  let c0_i32_220 : BitVec 32 := 0#32
  ![0, v273.toNat, 0]
def k0_off151 (k0_t12 : Fin k0_t12_loop.trips) : Fin 1 → Nat :=
  let c0_i32_113 : BitVec 32 := 0#32
  let c1_i32_114 : BitVec 32 := 1#32
  let arg18 : BitVec 32 := Scf.iv c0_i32_113 c1_i32_114 k0_t12
  let c4_i32_188 : BitVec 32 := 4#32
  let v274 : BitVec 32 := Scalar.muli arg18 c4_i32_188
  let c3_i32_218 : BitVec 32 := 3#32
  let v316 : BitVec 32 := Scalar.addi v274 c3_i32_218
  let v319 : Index := Scalar.indexCast v316
  ![v319.toNat]
def k0_mult28 (v320 : BitVec 32) : BitVec 32 :=
  let c16_i32_221 : BitVec 32 := 16#32
  let v321 : BitVec 32 := Scalar.muli v320 c16_i32_221
  v321

def k0_off152 (k0_t11 : Fin k0_t11_loop.trips) : Fin 2 → Nat :=
  let c0_i32_46 : BitVec 32 := 0#32
  let c1_i32_48 : BitVec 32 := 1#32
  let arg17 : BitVec 32 := Scf.iv c0_i32_46 c1_i32_48 k0_t11
  let c1_i32_109 : BitVec 32 := 1#32
  let v118 : BitVec 32 := Scalar.muli arg17 c1_i32_109
  let c0_i32_110 : BitVec 32 := 0#32
  let v119 : BitVec 32 := Scalar.addi v118 c0_i32_110
  let c128_i32_189 : BitVec 32 := 128#32
  let v275 : BitVec 32 := Scalar.muli v119 c128_i32_189
  let c17_i32_190 : BitVec 32 := 17#32
  let v276 : BitVec 32 := Scalar.muli v275 c17_i32_190
  let c0_i32_224 : BitVec 32 := 0#32
  ![v276.toNat, 0]
def k0_off153 (k0_t12 : Fin k0_t12_loop.trips) : Fin 2 → Nat :=
  let c0_i32_113 : BitVec 32 := 0#32
  let c1_i32_114 : BitVec 32 := 1#32
  let arg18 : BitVec 32 := Scf.iv c0_i32_113 c1_i32_114 k0_t12
  let c4_i32_188 : BitVec 32 := 4#32
  let v274 : BitVec 32 := Scalar.muli arg18 c4_i32_188
  let c3_i32_218 : BitVec 32 := 3#32
  let v316 : BitVec 32 := Scalar.addi v274 c3_i32_218
  let c17_i32_222 : BitVec 32 := 17#32
  let v323 : BitVec 32 := Scalar.muli v316 c17_i32_222
  let c0_i32_225 : BitVec 32 := 0#32
  ![v323.toNat, 0]
def k0_off154 (v320 : BitVec 32) : Fin 2 → Nat :=
  let c16_i32_221 : BitVec 32 := 16#32
  let v321 : BitVec 32 := Scalar.muli v320 c16_i32_221
  let v322 : BitVec 32 := v321
  let c0_i32_226 : BitVec 32 := 0#32
  ![v322.toNat, 0]

def k0_chk28 (v320 : BitVec 32) : Prop :=
  (16 ∣ (k0_mult28 v320).toNat) ∧
  (∀ a, (k0_off154 v320) a + S16x128.size a ≤ S262144x128.size a)
theorem k0_mult28_dvd : ∀ (v320 : BitVec 32) (k0_hw28 : k0_chk28 v320), 16 ∣ (k0_mult28 v320).toNat := fun v320 k0_hw28 => k0_hw28.1
theorem k0_off154_inb : ∀ (v320 : BitVec 32) (k0_hw28 : k0_chk28 v320), ∀ a, (k0_off154 v320) a + S16x128.size a ≤ S262144x128.size a := fun v320 k0_hw28 => k0_hw28.2

def k0_off155 (k0_t12 : Fin k0_t12_loop.trips) : Fin 2 → Nat :=
  let c0_i32_113 : BitVec 32 := 0#32
  let c1_i32_114 : BitVec 32 := 1#32
  let arg18 : BitVec 32 := Scf.iv c0_i32_113 c1_i32_114 k0_t12
  let c8_i32_244 : BitVec 32 := 8#32
  let v410 : BitVec 32 := Scalar.muli arg18 c8_i32_244
  let v415 : Index := Scalar.indexCast v410
  let c0_245 : Index := 0#32
  ![v415.toNat, 0]
@[reducible] def k0_t13_loop : Scf.Loop 32 :=
  let c0_i32_59 : BitVec 32 := 0#32
  let c4_i32_60 : BitVec 32 := 4#32
  let v73 : BitVec 32 := Scalar.addi c0_i32_59 c4_i32_60
  let c1_i32_61 : BitVec 32 := 1#32
  ⟨c0_i32_59, v73, c1_i32_61⟩
@[reducible] def k0_t14_loop : Scf.Loop 32 :=
  let c0_i32_128 : BitVec 32 := 0#32
  let c16_i32 : BitVec 32 := 16#32
  let v140 : BitVec 32 := Scalar.addi c0_i32_128 c16_i32
  let c1_i32_129 : BitVec 32 := 1#32
  ⟨c0_i32_128, v140, c1_i32_129⟩
def k0_off156 (k0_t14 : Fin k0_t14_loop.trips) : Fin 2 → Nat :=
  let c0_i32_128 : BitVec 32 := 0#32
  let c1_i32_129 : BitVec 32 := 1#32
  let arg18 : BitVec 32 := Scf.iv c0_i32_128 c1_i32_129 k0_t14
  let c8_i32_190 : BitVec 32 := 8#32
  let v242 : BitVec 32 := Scalar.muli arg18 c8_i32_190
  let v243 : Index := Scalar.indexCast v242
  let c0_191 : Index := 0#32
  ![v243.toNat, 0]
def k0_off157 (k0_t13 : Fin k0_t13_loop.trips) : Fin 2 → Nat :=
  let c0_i32_59 : BitVec 32 := 0#32
  let c1_i32_61 : BitVec 32 := 1#32
  let arg17 : BitVec 32 := Scf.iv c0_i32_59 c1_i32_61 k0_t13
  let c2_i32_109 : BitVec 32 := 2#32
  let v118 : BitVec 32 := Scalar.muli arg17 c2_i32_109
  let c0_i32_110 : BitVec 32 := 0#32
  let v119 : BitVec 32 := Scalar.addi v118 c0_i32_110
  let c128_i32 : BitVec 32 := 128#32
  let v122 : BitVec 32 := Scalar.muli v119 c128_i32
  let c17_i32 : BitVec 32 := 17#32
  let v123 : BitVec 32 := Scalar.muli v122 c17_i32
  let c0_i32_197 : BitVec 32 := 0#32
  ![v123.toNat, 0]
def k0_off158 (k0_t14 : Fin k0_t14_loop.trips) (c0_i32_196 : BitVec 32) : Fin 2 → Nat :=
  let c0_i32_128 : BitVec 32 := 0#32
  let c1_i32_129 : BitVec 32 := 1#32
  let arg18 : BitVec 32 := Scf.iv c0_i32_128 c1_i32_129 k0_t14
  let c8_i32_194 : BitVec 32 := 8#32
  let v249 : BitVec 32 := Scalar.muli arg18 c8_i32_194
  let c17_i32_195 : BitVec 32 := 17#32
  let v250 : BitVec 32 := Scalar.muli v249 c17_i32_195
  let v251 : BitVec 32 := Scalar.addi v250 c0_i32_196
  let v253 : Index := Scalar.indexCast v251
  let c0_198 : Index := 0#32
  ![v253.toNat, 0]
def k0_off159 (k0_t5 : Fin k0_t5_loop.trips) (k0_t13 : Fin k0_t13_loop.trips) : Fin 3 → Nat :=
  let c0_i32_270 : BitVec 32 := 0#32
  let c0_i32_2 : BitVec 32 := 0#32
  let c1_i32 : BitVec 32 := 1#32
  let arg16 : BitVec 32 := Scf.iv c0_i32_2 c1_i32 k0_t5
  let c4_i32_39 : BitVec 32 := 4#32
  let v52 : BitVec 32 := Scalar.muli arg16 c4_i32_39
  let c1_i32_40 : BitVec 32 := 1#32
  let v53 : BitVec 32 := Scalar.addi v52 c1_i32_40
  let c3_i32_264 : BitVec 32 := 3#32
  let v345 : BitVec 32 := Scalar.addi v53 c3_i32_264
  let c8_i32_265 : BitVec 32 := 8#32
  let v346 : BitVec 32 := Scalar.muli v345 c8_i32_265
  let c0_i32_59 : BitVec 32 := 0#32
  let c1_i32_61 : BitVec 32 := 1#32
  let arg17 : BitVec 32 := Scf.iv c0_i32_59 c1_i32_61 k0_t13
  let c2_i32_109 : BitVec 32 := 2#32
  let v118 : BitVec 32 := Scalar.muli arg17 c2_i32_109
  let c0_i32_110 : BitVec 32 := 0#32
  let v119 : BitVec 32 := Scalar.addi v118 c0_i32_110
  let v347 : BitVec 32 := Scalar.addi v346 v119
  let c0_i32_271 : BitVec 32 := 0#32
  ![0, v347.toNat, 0]
def k0_off160 (k0_t14 : Fin k0_t14_loop.trips) : Fin 1 → Nat :=
  let c64_i32 : BitVec 32 := 64#32
  let c0_i32_128 : BitVec 32 := 0#32
  let c1_i32_129 : BitVec 32 := 1#32
  let arg18 : BitVec 32 := Scf.iv c0_i32_128 c1_i32_129 k0_t14
  let c4_i32_266 : BitVec 32 := 4#32
  let v348 : BitVec 32 := Scalar.muli arg18 c4_i32_266
  let v349 : BitVec 32 := Scalar.addi c64_i32 v348
  let c0_i32_269 : BitVec 32 := 0#32
  let v352 : BitVec 32 := Scalar.addi v349 c0_i32_269
  let v355 : Index := Scalar.indexCast v352
  ![v355.toNat]
def k0_mult29 (v356 : BitVec 32) : BitVec 32 :=
  let c16_i32_272 : BitVec 32 := 16#32
  let v357 : BitVec 32 := Scalar.muli v356 c16_i32_272
  v357

def k0_off161 (k0_t13 : Fin k0_t13_loop.trips) : Fin 2 → Nat :=
  let c0_i32_59 : BitVec 32 := 0#32
  let c1_i32_61 : BitVec 32 := 1#32
  let arg17 : BitVec 32 := Scf.iv c0_i32_59 c1_i32_61 k0_t13
  let c2_i32_109 : BitVec 32 := 2#32
  let v118 : BitVec 32 := Scalar.muli arg17 c2_i32_109
  let c0_i32_110 : BitVec 32 := 0#32
  let v119 : BitVec 32 := Scalar.addi v118 c0_i32_110
  let c128_i32_267 : BitVec 32 := 128#32
  let v350 : BitVec 32 := Scalar.muli v119 c128_i32_267
  let c17_i32_268 : BitVec 32 := 17#32
  let v351 : BitVec 32 := Scalar.muli v350 c17_i32_268
  let c0_i32_275 : BitVec 32 := 0#32
  ![v351.toNat, 0]
def k0_off162 (k0_t14 : Fin k0_t14_loop.trips) : Fin 2 → Nat :=
  let c64_i32 : BitVec 32 := 64#32
  let c0_i32_128 : BitVec 32 := 0#32
  let c1_i32_129 : BitVec 32 := 1#32
  let arg18 : BitVec 32 := Scf.iv c0_i32_128 c1_i32_129 k0_t14
  let c4_i32_266 : BitVec 32 := 4#32
  let v348 : BitVec 32 := Scalar.muli arg18 c4_i32_266
  let v349 : BitVec 32 := Scalar.addi c64_i32 v348
  let c0_i32_269 : BitVec 32 := 0#32
  let v352 : BitVec 32 := Scalar.addi v349 c0_i32_269
  let c17_i32_273 : BitVec 32 := 17#32
  let v359 : BitVec 32 := Scalar.muli v352 c17_i32_273
  let c0_i32_276 : BitVec 32 := 0#32
  ![v359.toNat, 0]
def k0_off163 (v356 : BitVec 32) : Fin 2 → Nat :=
  let c16_i32_272 : BitVec 32 := 16#32
  let v357 : BitVec 32 := Scalar.muli v356 c16_i32_272
  let v358 : BitVec 32 := v357
  let c0_i32_277 : BitVec 32 := 0#32
  ![v358.toNat, 0]

def k0_chk29 (v356 : BitVec 32) : Prop :=
  (16 ∣ (k0_mult29 v356).toNat) ∧
  (∀ a, (k0_off163 v356) a + S16x128.size a ≤ S262144x128.size a)
theorem k0_mult29_dvd : ∀ (v356 : BitVec 32) (k0_hw29 : k0_chk29 v356), 16 ∣ (k0_mult29 v356).toNat := fun v356 k0_hw29 => k0_hw29.1
theorem k0_off163_inb : ∀ (v356 : BitVec 32) (k0_hw29 : k0_chk29 v356), ∀ a, (k0_off163 v356) a + S16x128.size a ≤ S262144x128.size a := fun v356 k0_hw29 => k0_hw29.2

def k0_off164 (k0_t5 : Fin k0_t5_loop.trips) (k0_t13 : Fin k0_t13_loop.trips) : Fin 3 → Nat :=
  let c0_i32_279 : BitVec 32 := 0#32
  let c0_i32_2 : BitVec 32 := 0#32
  let c1_i32 : BitVec 32 := 1#32
  let arg16 : BitVec 32 := Scf.iv c0_i32_2 c1_i32 k0_t5
  let c4_i32_39 : BitVec 32 := 4#32
  let v52 : BitVec 32 := Scalar.muli arg16 c4_i32_39
  let c1_i32_40 : BitVec 32 := 1#32
  let v53 : BitVec 32 := Scalar.addi v52 c1_i32_40
  let c3_i32_264 : BitVec 32 := 3#32
  let v345 : BitVec 32 := Scalar.addi v53 c3_i32_264
  let c8_i32_265 : BitVec 32 := 8#32
  let v346 : BitVec 32 := Scalar.muli v345 c8_i32_265
  let c0_i32_59 : BitVec 32 := 0#32
  let c1_i32_61 : BitVec 32 := 1#32
  let arg17 : BitVec 32 := Scf.iv c0_i32_59 c1_i32_61 k0_t13
  let c2_i32_109 : BitVec 32 := 2#32
  let v118 : BitVec 32 := Scalar.muli arg17 c2_i32_109
  let c0_i32_110 : BitVec 32 := 0#32
  let v119 : BitVec 32 := Scalar.addi v118 c0_i32_110
  let v347 : BitVec 32 := Scalar.addi v346 v119
  let c0_i32_280 : BitVec 32 := 0#32
  ![0, v347.toNat, 0]
def k0_off165 (k0_t14 : Fin k0_t14_loop.trips) : Fin 1 → Nat :=
  let c64_i32 : BitVec 32 := 64#32
  let c0_i32_128 : BitVec 32 := 0#32
  let c1_i32_129 : BitVec 32 := 1#32
  let arg18 : BitVec 32 := Scf.iv c0_i32_128 c1_i32_129 k0_t14
  let c4_i32_266 : BitVec 32 := 4#32
  let v348 : BitVec 32 := Scalar.muli arg18 c4_i32_266
  let v349 : BitVec 32 := Scalar.addi c64_i32 v348
  let c1_i32_278 : BitVec 32 := 1#32
  let v365 : BitVec 32 := Scalar.addi v349 c1_i32_278
  let v368 : Index := Scalar.indexCast v365
  ![v368.toNat]
def k0_mult30 (v369 : BitVec 32) : BitVec 32 :=
  let c16_i32_281 : BitVec 32 := 16#32
  let v370 : BitVec 32 := Scalar.muli v369 c16_i32_281
  v370

def k0_off166 (k0_t13 : Fin k0_t13_loop.trips) : Fin 2 → Nat :=
  let c0_i32_59 : BitVec 32 := 0#32
  let c1_i32_61 : BitVec 32 := 1#32
  let arg17 : BitVec 32 := Scf.iv c0_i32_59 c1_i32_61 k0_t13
  let c2_i32_109 : BitVec 32 := 2#32
  let v118 : BitVec 32 := Scalar.muli arg17 c2_i32_109
  let c0_i32_110 : BitVec 32 := 0#32
  let v119 : BitVec 32 := Scalar.addi v118 c0_i32_110
  let c128_i32_267 : BitVec 32 := 128#32
  let v350 : BitVec 32 := Scalar.muli v119 c128_i32_267
  let c17_i32_268 : BitVec 32 := 17#32
  let v351 : BitVec 32 := Scalar.muli v350 c17_i32_268
  let c0_i32_284 : BitVec 32 := 0#32
  ![v351.toNat, 0]
def k0_off167 (k0_t14 : Fin k0_t14_loop.trips) : Fin 2 → Nat :=
  let c64_i32 : BitVec 32 := 64#32
  let c0_i32_128 : BitVec 32 := 0#32
  let c1_i32_129 : BitVec 32 := 1#32
  let arg18 : BitVec 32 := Scf.iv c0_i32_128 c1_i32_129 k0_t14
  let c4_i32_266 : BitVec 32 := 4#32
  let v348 : BitVec 32 := Scalar.muli arg18 c4_i32_266
  let v349 : BitVec 32 := Scalar.addi c64_i32 v348
  let c1_i32_278 : BitVec 32 := 1#32
  let v365 : BitVec 32 := Scalar.addi v349 c1_i32_278
  let c17_i32_282 : BitVec 32 := 17#32
  let v372 : BitVec 32 := Scalar.muli v365 c17_i32_282
  let c0_i32_285 : BitVec 32 := 0#32
  ![v372.toNat, 0]
def k0_off168 (v369 : BitVec 32) : Fin 2 → Nat :=
  let c16_i32_281 : BitVec 32 := 16#32
  let v370 : BitVec 32 := Scalar.muli v369 c16_i32_281
  let v371 : BitVec 32 := v370
  let c0_i32_286 : BitVec 32 := 0#32
  ![v371.toNat, 0]

def k0_chk30 (v369 : BitVec 32) : Prop :=
  (16 ∣ (k0_mult30 v369).toNat) ∧
  (∀ a, (k0_off168 v369) a + S16x128.size a ≤ S262144x128.size a)
theorem k0_mult30_dvd : ∀ (v369 : BitVec 32) (k0_hw30 : k0_chk30 v369), 16 ∣ (k0_mult30 v369).toNat := fun v369 k0_hw30 => k0_hw30.1
theorem k0_off168_inb : ∀ (v369 : BitVec 32) (k0_hw30 : k0_chk30 v369), ∀ a, (k0_off168 v369) a + S16x128.size a ≤ S262144x128.size a := fun v369 k0_hw30 => k0_hw30.2

def k0_off169 (k0_t5 : Fin k0_t5_loop.trips) (k0_t13 : Fin k0_t13_loop.trips) : Fin 3 → Nat :=
  let c0_i32_288 : BitVec 32 := 0#32
  let c0_i32_2 : BitVec 32 := 0#32
  let c1_i32 : BitVec 32 := 1#32
  let arg16 : BitVec 32 := Scf.iv c0_i32_2 c1_i32 k0_t5
  let c4_i32_39 : BitVec 32 := 4#32
  let v52 : BitVec 32 := Scalar.muli arg16 c4_i32_39
  let c1_i32_40 : BitVec 32 := 1#32
  let v53 : BitVec 32 := Scalar.addi v52 c1_i32_40
  let c3_i32_264 : BitVec 32 := 3#32
  let v345 : BitVec 32 := Scalar.addi v53 c3_i32_264
  let c8_i32_265 : BitVec 32 := 8#32
  let v346 : BitVec 32 := Scalar.muli v345 c8_i32_265
  let c0_i32_59 : BitVec 32 := 0#32
  let c1_i32_61 : BitVec 32 := 1#32
  let arg17 : BitVec 32 := Scf.iv c0_i32_59 c1_i32_61 k0_t13
  let c2_i32_109 : BitVec 32 := 2#32
  let v118 : BitVec 32 := Scalar.muli arg17 c2_i32_109
  let c0_i32_110 : BitVec 32 := 0#32
  let v119 : BitVec 32 := Scalar.addi v118 c0_i32_110
  let v347 : BitVec 32 := Scalar.addi v346 v119
  let c0_i32_289 : BitVec 32 := 0#32
  ![0, v347.toNat, 0]
def k0_off170 (k0_t14 : Fin k0_t14_loop.trips) : Fin 1 → Nat :=
  let c64_i32 : BitVec 32 := 64#32
  let c0_i32_128 : BitVec 32 := 0#32
  let c1_i32_129 : BitVec 32 := 1#32
  let arg18 : BitVec 32 := Scf.iv c0_i32_128 c1_i32_129 k0_t14
  let c4_i32_266 : BitVec 32 := 4#32
  let v348 : BitVec 32 := Scalar.muli arg18 c4_i32_266
  let v349 : BitVec 32 := Scalar.addi c64_i32 v348
  let c2_i32_287 : BitVec 32 := 2#32
  let v378 : BitVec 32 := Scalar.addi v349 c2_i32_287
  let v381 : Index := Scalar.indexCast v378
  ![v381.toNat]
def k0_mult31 (v382 : BitVec 32) : BitVec 32 :=
  let c16_i32_290 : BitVec 32 := 16#32
  let v383 : BitVec 32 := Scalar.muli v382 c16_i32_290
  v383

def k0_off171 (k0_t13 : Fin k0_t13_loop.trips) : Fin 2 → Nat :=
  let c0_i32_59 : BitVec 32 := 0#32
  let c1_i32_61 : BitVec 32 := 1#32
  let arg17 : BitVec 32 := Scf.iv c0_i32_59 c1_i32_61 k0_t13
  let c2_i32_109 : BitVec 32 := 2#32
  let v118 : BitVec 32 := Scalar.muli arg17 c2_i32_109
  let c0_i32_110 : BitVec 32 := 0#32
  let v119 : BitVec 32 := Scalar.addi v118 c0_i32_110
  let c128_i32_267 : BitVec 32 := 128#32
  let v350 : BitVec 32 := Scalar.muli v119 c128_i32_267
  let c17_i32_268 : BitVec 32 := 17#32
  let v351 : BitVec 32 := Scalar.muli v350 c17_i32_268
  let c0_i32_293 : BitVec 32 := 0#32
  ![v351.toNat, 0]
def k0_off172 (k0_t14 : Fin k0_t14_loop.trips) : Fin 2 → Nat :=
  let c64_i32 : BitVec 32 := 64#32
  let c0_i32_128 : BitVec 32 := 0#32
  let c1_i32_129 : BitVec 32 := 1#32
  let arg18 : BitVec 32 := Scf.iv c0_i32_128 c1_i32_129 k0_t14
  let c4_i32_266 : BitVec 32 := 4#32
  let v348 : BitVec 32 := Scalar.muli arg18 c4_i32_266
  let v349 : BitVec 32 := Scalar.addi c64_i32 v348
  let c2_i32_287 : BitVec 32 := 2#32
  let v378 : BitVec 32 := Scalar.addi v349 c2_i32_287
  let c17_i32_291 : BitVec 32 := 17#32
  let v385 : BitVec 32 := Scalar.muli v378 c17_i32_291
  let c0_i32_294 : BitVec 32 := 0#32
  ![v385.toNat, 0]
def k0_off173 (v382 : BitVec 32) : Fin 2 → Nat :=
  let c16_i32_290 : BitVec 32 := 16#32
  let v383 : BitVec 32 := Scalar.muli v382 c16_i32_290
  let v384 : BitVec 32 := v383
  let c0_i32_295 : BitVec 32 := 0#32
  ![v384.toNat, 0]

def k0_chk31 (v382 : BitVec 32) : Prop :=
  (16 ∣ (k0_mult31 v382).toNat) ∧
  (∀ a, (k0_off173 v382) a + S16x128.size a ≤ S262144x128.size a)
theorem k0_mult31_dvd : ∀ (v382 : BitVec 32) (k0_hw31 : k0_chk31 v382), 16 ∣ (k0_mult31 v382).toNat := fun v382 k0_hw31 => k0_hw31.1
theorem k0_off173_inb : ∀ (v382 : BitVec 32) (k0_hw31 : k0_chk31 v382), ∀ a, (k0_off173 v382) a + S16x128.size a ≤ S262144x128.size a := fun v382 k0_hw31 => k0_hw31.2

def k0_off174 (k0_t5 : Fin k0_t5_loop.trips) (k0_t13 : Fin k0_t13_loop.trips) : Fin 3 → Nat :=
  let c0_i32_297 : BitVec 32 := 0#32
  let c0_i32_2 : BitVec 32 := 0#32
  let c1_i32 : BitVec 32 := 1#32
  let arg16 : BitVec 32 := Scf.iv c0_i32_2 c1_i32 k0_t5
  let c4_i32_39 : BitVec 32 := 4#32
  let v52 : BitVec 32 := Scalar.muli arg16 c4_i32_39
  let c1_i32_40 : BitVec 32 := 1#32
  let v53 : BitVec 32 := Scalar.addi v52 c1_i32_40
  let c3_i32_264 : BitVec 32 := 3#32
  let v345 : BitVec 32 := Scalar.addi v53 c3_i32_264
  let c8_i32_265 : BitVec 32 := 8#32
  let v346 : BitVec 32 := Scalar.muli v345 c8_i32_265
  let c0_i32_59 : BitVec 32 := 0#32
  let c1_i32_61 : BitVec 32 := 1#32
  let arg17 : BitVec 32 := Scf.iv c0_i32_59 c1_i32_61 k0_t13
  let c2_i32_109 : BitVec 32 := 2#32
  let v118 : BitVec 32 := Scalar.muli arg17 c2_i32_109
  let c0_i32_110 : BitVec 32 := 0#32
  let v119 : BitVec 32 := Scalar.addi v118 c0_i32_110
  let v347 : BitVec 32 := Scalar.addi v346 v119
  let c0_i32_298 : BitVec 32 := 0#32
  ![0, v347.toNat, 0]
def k0_off175 (k0_t14 : Fin k0_t14_loop.trips) : Fin 1 → Nat :=
  let c64_i32 : BitVec 32 := 64#32
  let c0_i32_128 : BitVec 32 := 0#32
  let c1_i32_129 : BitVec 32 := 1#32
  let arg18 : BitVec 32 := Scf.iv c0_i32_128 c1_i32_129 k0_t14
  let c4_i32_266 : BitVec 32 := 4#32
  let v348 : BitVec 32 := Scalar.muli arg18 c4_i32_266
  let v349 : BitVec 32 := Scalar.addi c64_i32 v348
  let c3_i32_296 : BitVec 32 := 3#32
  let v391 : BitVec 32 := Scalar.addi v349 c3_i32_296
  let v394 : Index := Scalar.indexCast v391
  ![v394.toNat]
def k0_mult32 (v395 : BitVec 32) : BitVec 32 :=
  let c16_i32_299 : BitVec 32 := 16#32
  let v396 : BitVec 32 := Scalar.muli v395 c16_i32_299
  v396

def k0_off176 (k0_t13 : Fin k0_t13_loop.trips) : Fin 2 → Nat :=
  let c0_i32_59 : BitVec 32 := 0#32
  let c1_i32_61 : BitVec 32 := 1#32
  let arg17 : BitVec 32 := Scf.iv c0_i32_59 c1_i32_61 k0_t13
  let c2_i32_109 : BitVec 32 := 2#32
  let v118 : BitVec 32 := Scalar.muli arg17 c2_i32_109
  let c0_i32_110 : BitVec 32 := 0#32
  let v119 : BitVec 32 := Scalar.addi v118 c0_i32_110
  let c128_i32_267 : BitVec 32 := 128#32
  let v350 : BitVec 32 := Scalar.muli v119 c128_i32_267
  let c17_i32_268 : BitVec 32 := 17#32
  let v351 : BitVec 32 := Scalar.muli v350 c17_i32_268
  let c0_i32_302 : BitVec 32 := 0#32
  ![v351.toNat, 0]
def k0_off177 (k0_t14 : Fin k0_t14_loop.trips) : Fin 2 → Nat :=
  let c64_i32 : BitVec 32 := 64#32
  let c0_i32_128 : BitVec 32 := 0#32
  let c1_i32_129 : BitVec 32 := 1#32
  let arg18 : BitVec 32 := Scf.iv c0_i32_128 c1_i32_129 k0_t14
  let c4_i32_266 : BitVec 32 := 4#32
  let v348 : BitVec 32 := Scalar.muli arg18 c4_i32_266
  let v349 : BitVec 32 := Scalar.addi c64_i32 v348
  let c3_i32_296 : BitVec 32 := 3#32
  let v391 : BitVec 32 := Scalar.addi v349 c3_i32_296
  let c17_i32_300 : BitVec 32 := 17#32
  let v398 : BitVec 32 := Scalar.muli v391 c17_i32_300
  let c0_i32_303 : BitVec 32 := 0#32
  ![v398.toNat, 0]
def k0_off178 (v395 : BitVec 32) : Fin 2 → Nat :=
  let c16_i32_299 : BitVec 32 := 16#32
  let v396 : BitVec 32 := Scalar.muli v395 c16_i32_299
  let v397 : BitVec 32 := v396
  let c0_i32_304 : BitVec 32 := 0#32
  ![v397.toNat, 0]

def k0_chk32 (v395 : BitVec 32) : Prop :=
  (16 ∣ (k0_mult32 v395).toNat) ∧
  (∀ a, (k0_off178 v395) a + S16x128.size a ≤ S262144x128.size a)
theorem k0_mult32_dvd : ∀ (v395 : BitVec 32) (k0_hw32 : k0_chk32 v395), 16 ∣ (k0_mult32 v395).toNat := fun v395 k0_hw32 => k0_hw32.1
theorem k0_off178_inb : ∀ (v395 : BitVec 32) (k0_hw32 : k0_chk32 v395), ∀ a, (k0_off178 v395) a + S16x128.size a ≤ S262144x128.size a := fun v395 k0_hw32 => k0_hw32.2

def k0_off179 (k0_t5 : Fin k0_t5_loop.trips) (k0_t13 : Fin k0_t13_loop.trips) (c0_i32_110 : BitVec 32) : Fin 2 → Nat :=
  let c0_i32_2 : BitVec 32 := 0#32
  let c1_i32 : BitVec 32 := 1#32
  let arg16 : BitVec 32 := Scf.iv c0_i32_2 c1_i32 k0_t5
  let c4_i32_39 : BitVec 32 := 4#32
  let v52 : BitVec 32 := Scalar.muli arg16 c4_i32_39
  let c1_i32_40 : BitVec 32 := 1#32
  let v53 : BitVec 32 := Scalar.addi v52 c1_i32_40
  let c8_i32_111 : BitVec 32 := 8#32
  let v120 : BitVec 32 := Scalar.muli v53 c8_i32_111
  let c0_i32_59 : BitVec 32 := 0#32
  let c1_i32_61 : BitVec 32 := 1#32
  let arg17 : BitVec 32 := Scf.iv c0_i32_59 c1_i32_61 k0_t13
  let c2_i32_109 : BitVec 32 := 2#32
  let v118 : BitVec 32 := Scalar.muli arg17 c2_i32_109
  let v119 : BitVec 32 := Scalar.addi v118 c0_i32_110
  let v121 : BitVec 32 := Scalar.addi v120 v119
  let v175 : Index := Scalar.indexCast v121
  let c0_147 : Index := 0#32
  ![v175.toNat, 0]
@[reducible] def k0_t15_loop : Scf.Loop 32 :=
  let c0_i32_169 : BitVec 32 := 0#32
  let c16_i32_170 : BitVec 32 := 16#32
  let v201 : BitVec 32 := Scalar.addi c0_i32_169 c16_i32_170
  let c1_i32_171 : BitVec 32 := 1#32
  ⟨c0_i32_169, v201, c1_i32_171⟩
def k0_off180 (k0_t15 : Fin k0_t15_loop.trips) : Fin 2 → Nat :=
  let c0_i32_169 : BitVec 32 := 0#32
  let c1_i32_171 : BitVec 32 := 1#32
  let arg18 : BitVec 32 := Scf.iv c0_i32_169 c1_i32_171 k0_t15
  let c8_i32_190 : BitVec 32 := 8#32
  let v242 : BitVec 32 := Scalar.muli arg18 c8_i32_190
  let v243 : Index := Scalar.indexCast v242
  let c0_191 : Index := 0#32
  ![v243.toNat, 0]
def k0_off181 (k0_t13 : Fin k0_t13_loop.trips) : Fin 2 → Nat :=
  let c0_i32_59 : BitVec 32 := 0#32
  let c1_i32_61 : BitVec 32 := 1#32
  let arg17 : BitVec 32 := Scf.iv c0_i32_59 c1_i32_61 k0_t13
  let c2_i32_148 : BitVec 32 := 2#32
  let v179 : BitVec 32 := Scalar.muli arg17 c2_i32_148
  let c1_i32_149 : BitVec 32 := 1#32
  let v180 : BitVec 32 := Scalar.addi v179 c1_i32_149
  let c128_i32_151 : BitVec 32 := 128#32
  let v183 : BitVec 32 := Scalar.muli v180 c128_i32_151
  let c17_i32_152 : BitVec 32 := 17#32
  let v184 : BitVec 32 := Scalar.muli v183 c17_i32_152
  let c0_i32_197 : BitVec 32 := 0#32
  ![v184.toNat, 0]
def k0_off182 (k0_t15 : Fin k0_t15_loop.trips) (c0_i32_196 : BitVec 32) : Fin 2 → Nat :=
  let c0_i32_169 : BitVec 32 := 0#32
  let c1_i32_171 : BitVec 32 := 1#32
  let arg18 : BitVec 32 := Scf.iv c0_i32_169 c1_i32_171 k0_t15
  let c8_i32_194 : BitVec 32 := 8#32
  let v249 : BitVec 32 := Scalar.muli arg18 c8_i32_194
  let c17_i32_195 : BitVec 32 := 17#32
  let v250 : BitVec 32 := Scalar.muli v249 c17_i32_195
  let v251 : BitVec 32 := Scalar.addi v250 c0_i32_196
  let v253 : Index := Scalar.indexCast v251
  let c0_198 : Index := 0#32
  ![v253.toNat, 0]
def k0_off183 (k0_t5 : Fin k0_t5_loop.trips) (k0_t13 : Fin k0_t13_loop.trips) : Fin 3 → Nat :=
  let c0_i32_270 : BitVec 32 := 0#32
  let c0_i32_2 : BitVec 32 := 0#32
  let c1_i32 : BitVec 32 := 1#32
  let arg16 : BitVec 32 := Scf.iv c0_i32_2 c1_i32 k0_t5
  let c4_i32_39 : BitVec 32 := 4#32
  let v52 : BitVec 32 := Scalar.muli arg16 c4_i32_39
  let c1_i32_40 : BitVec 32 := 1#32
  let v53 : BitVec 32 := Scalar.addi v52 c1_i32_40
  let c3_i32_264 : BitVec 32 := 3#32
  let v345 : BitVec 32 := Scalar.addi v53 c3_i32_264
  let c8_i32_265 : BitVec 32 := 8#32
  let v346 : BitVec 32 := Scalar.muli v345 c8_i32_265
  let c0_i32_59 : BitVec 32 := 0#32
  let c1_i32_61 : BitVec 32 := 1#32
  let arg17 : BitVec 32 := Scf.iv c0_i32_59 c1_i32_61 k0_t13
  let c2_i32_148 : BitVec 32 := 2#32
  let v179 : BitVec 32 := Scalar.muli arg17 c2_i32_148
  let c1_i32_149 : BitVec 32 := 1#32
  let v180 : BitVec 32 := Scalar.addi v179 c1_i32_149
  let v347 : BitVec 32 := Scalar.addi v346 v180
  let c0_i32_271 : BitVec 32 := 0#32
  ![0, v347.toNat, 0]
def k0_off184 (k0_t15 : Fin k0_t15_loop.trips) : Fin 1 → Nat :=
  let c64_i32 : BitVec 32 := 64#32
  let c0_i32_169 : BitVec 32 := 0#32
  let c1_i32_171 : BitVec 32 := 1#32
  let arg18 : BitVec 32 := Scf.iv c0_i32_169 c1_i32_171 k0_t15
  let c4_i32_266 : BitVec 32 := 4#32
  let v348 : BitVec 32 := Scalar.muli arg18 c4_i32_266
  let v349 : BitVec 32 := Scalar.addi c64_i32 v348
  let c0_i32_269 : BitVec 32 := 0#32
  let v352 : BitVec 32 := Scalar.addi v349 c0_i32_269
  let v355 : Index := Scalar.indexCast v352
  ![v355.toNat]
def k0_mult33 (v356 : BitVec 32) : BitVec 32 :=
  let c16_i32_272 : BitVec 32 := 16#32
  let v357 : BitVec 32 := Scalar.muli v356 c16_i32_272
  v357

def k0_off185 (k0_t13 : Fin k0_t13_loop.trips) : Fin 2 → Nat :=
  let c0_i32_59 : BitVec 32 := 0#32
  let c1_i32_61 : BitVec 32 := 1#32
  let arg17 : BitVec 32 := Scf.iv c0_i32_59 c1_i32_61 k0_t13
  let c2_i32_148 : BitVec 32 := 2#32
  let v179 : BitVec 32 := Scalar.muli arg17 c2_i32_148
  let c1_i32_149 : BitVec 32 := 1#32
  let v180 : BitVec 32 := Scalar.addi v179 c1_i32_149
  let c128_i32_267 : BitVec 32 := 128#32
  let v350 : BitVec 32 := Scalar.muli v180 c128_i32_267
  let c17_i32_268 : BitVec 32 := 17#32
  let v351 : BitVec 32 := Scalar.muli v350 c17_i32_268
  let c0_i32_275 : BitVec 32 := 0#32
  ![v351.toNat, 0]
def k0_off186 (k0_t15 : Fin k0_t15_loop.trips) : Fin 2 → Nat :=
  let c64_i32 : BitVec 32 := 64#32
  let c0_i32_169 : BitVec 32 := 0#32
  let c1_i32_171 : BitVec 32 := 1#32
  let arg18 : BitVec 32 := Scf.iv c0_i32_169 c1_i32_171 k0_t15
  let c4_i32_266 : BitVec 32 := 4#32
  let v348 : BitVec 32 := Scalar.muli arg18 c4_i32_266
  let v349 : BitVec 32 := Scalar.addi c64_i32 v348
  let c0_i32_269 : BitVec 32 := 0#32
  let v352 : BitVec 32 := Scalar.addi v349 c0_i32_269
  let c17_i32_273 : BitVec 32 := 17#32
  let v359 : BitVec 32 := Scalar.muli v352 c17_i32_273
  let c0_i32_276 : BitVec 32 := 0#32
  ![v359.toNat, 0]
def k0_off187 (v356 : BitVec 32) : Fin 2 → Nat :=
  let c16_i32_272 : BitVec 32 := 16#32
  let v357 : BitVec 32 := Scalar.muli v356 c16_i32_272
  let v358 : BitVec 32 := v357
  let c0_i32_277 : BitVec 32 := 0#32
  ![v358.toNat, 0]

def k0_chk33 (v356 : BitVec 32) : Prop :=
  (16 ∣ (k0_mult33 v356).toNat) ∧
  (∀ a, (k0_off187 v356) a + S16x128.size a ≤ S262144x128.size a)
theorem k0_mult33_dvd : ∀ (v356 : BitVec 32) (k0_hw33 : k0_chk33 v356), 16 ∣ (k0_mult33 v356).toNat := fun v356 k0_hw33 => k0_hw33.1
theorem k0_off187_inb : ∀ (v356 : BitVec 32) (k0_hw33 : k0_chk33 v356), ∀ a, (k0_off187 v356) a + S16x128.size a ≤ S262144x128.size a := fun v356 k0_hw33 => k0_hw33.2

def k0_off188 (k0_t5 : Fin k0_t5_loop.trips) (k0_t13 : Fin k0_t13_loop.trips) : Fin 3 → Nat :=
  let c0_i32_279 : BitVec 32 := 0#32
  let c0_i32_2 : BitVec 32 := 0#32
  let c1_i32 : BitVec 32 := 1#32
  let arg16 : BitVec 32 := Scf.iv c0_i32_2 c1_i32 k0_t5
  let c4_i32_39 : BitVec 32 := 4#32
  let v52 : BitVec 32 := Scalar.muli arg16 c4_i32_39
  let c1_i32_40 : BitVec 32 := 1#32
  let v53 : BitVec 32 := Scalar.addi v52 c1_i32_40
  let c3_i32_264 : BitVec 32 := 3#32
  let v345 : BitVec 32 := Scalar.addi v53 c3_i32_264
  let c8_i32_265 : BitVec 32 := 8#32
  let v346 : BitVec 32 := Scalar.muli v345 c8_i32_265
  let c0_i32_59 : BitVec 32 := 0#32
  let c1_i32_61 : BitVec 32 := 1#32
  let arg17 : BitVec 32 := Scf.iv c0_i32_59 c1_i32_61 k0_t13
  let c2_i32_148 : BitVec 32 := 2#32
  let v179 : BitVec 32 := Scalar.muli arg17 c2_i32_148
  let c1_i32_149 : BitVec 32 := 1#32
  let v180 : BitVec 32 := Scalar.addi v179 c1_i32_149
  let v347 : BitVec 32 := Scalar.addi v346 v180
  let c0_i32_280 : BitVec 32 := 0#32
  ![0, v347.toNat, 0]
def k0_off189 (k0_t15 : Fin k0_t15_loop.trips) : Fin 1 → Nat :=
  let c64_i32 : BitVec 32 := 64#32
  let c0_i32_169 : BitVec 32 := 0#32
  let c1_i32_171 : BitVec 32 := 1#32
  let arg18 : BitVec 32 := Scf.iv c0_i32_169 c1_i32_171 k0_t15
  let c4_i32_266 : BitVec 32 := 4#32
  let v348 : BitVec 32 := Scalar.muli arg18 c4_i32_266
  let v349 : BitVec 32 := Scalar.addi c64_i32 v348
  let c1_i32_278 : BitVec 32 := 1#32
  let v365 : BitVec 32 := Scalar.addi v349 c1_i32_278
  let v368 : Index := Scalar.indexCast v365
  ![v368.toNat]
def k0_mult34 (v369 : BitVec 32) : BitVec 32 :=
  let c16_i32_281 : BitVec 32 := 16#32
  let v370 : BitVec 32 := Scalar.muli v369 c16_i32_281
  v370

def k0_off190 (k0_t13 : Fin k0_t13_loop.trips) : Fin 2 → Nat :=
  let c0_i32_59 : BitVec 32 := 0#32
  let c1_i32_61 : BitVec 32 := 1#32
  let arg17 : BitVec 32 := Scf.iv c0_i32_59 c1_i32_61 k0_t13
  let c2_i32_148 : BitVec 32 := 2#32
  let v179 : BitVec 32 := Scalar.muli arg17 c2_i32_148
  let c1_i32_149 : BitVec 32 := 1#32
  let v180 : BitVec 32 := Scalar.addi v179 c1_i32_149
  let c128_i32_267 : BitVec 32 := 128#32
  let v350 : BitVec 32 := Scalar.muli v180 c128_i32_267
  let c17_i32_268 : BitVec 32 := 17#32
  let v351 : BitVec 32 := Scalar.muli v350 c17_i32_268
  let c0_i32_284 : BitVec 32 := 0#32
  ![v351.toNat, 0]
def k0_off191 (k0_t15 : Fin k0_t15_loop.trips) : Fin 2 → Nat :=
  let c64_i32 : BitVec 32 := 64#32
  let c0_i32_169 : BitVec 32 := 0#32
  let c1_i32_171 : BitVec 32 := 1#32
  let arg18 : BitVec 32 := Scf.iv c0_i32_169 c1_i32_171 k0_t15
  let c4_i32_266 : BitVec 32 := 4#32
  let v348 : BitVec 32 := Scalar.muli arg18 c4_i32_266
  let v349 : BitVec 32 := Scalar.addi c64_i32 v348
  let c1_i32_278 : BitVec 32 := 1#32
  let v365 : BitVec 32 := Scalar.addi v349 c1_i32_278
  let c17_i32_282 : BitVec 32 := 17#32
  let v372 : BitVec 32 := Scalar.muli v365 c17_i32_282
  let c0_i32_285 : BitVec 32 := 0#32
  ![v372.toNat, 0]
def k0_off192 (v369 : BitVec 32) : Fin 2 → Nat :=
  let c16_i32_281 : BitVec 32 := 16#32
  let v370 : BitVec 32 := Scalar.muli v369 c16_i32_281
  let v371 : BitVec 32 := v370
  let c0_i32_286 : BitVec 32 := 0#32
  ![v371.toNat, 0]

def k0_chk34 (v369 : BitVec 32) : Prop :=
  (16 ∣ (k0_mult34 v369).toNat) ∧
  (∀ a, (k0_off192 v369) a + S16x128.size a ≤ S262144x128.size a)
theorem k0_mult34_dvd : ∀ (v369 : BitVec 32) (k0_hw34 : k0_chk34 v369), 16 ∣ (k0_mult34 v369).toNat := fun v369 k0_hw34 => k0_hw34.1
theorem k0_off192_inb : ∀ (v369 : BitVec 32) (k0_hw34 : k0_chk34 v369), ∀ a, (k0_off192 v369) a + S16x128.size a ≤ S262144x128.size a := fun v369 k0_hw34 => k0_hw34.2

def k0_off193 (k0_t5 : Fin k0_t5_loop.trips) (k0_t13 : Fin k0_t13_loop.trips) : Fin 3 → Nat :=
  let c0_i32_288 : BitVec 32 := 0#32
  let c0_i32_2 : BitVec 32 := 0#32
  let c1_i32 : BitVec 32 := 1#32
  let arg16 : BitVec 32 := Scf.iv c0_i32_2 c1_i32 k0_t5
  let c4_i32_39 : BitVec 32 := 4#32
  let v52 : BitVec 32 := Scalar.muli arg16 c4_i32_39
  let c1_i32_40 : BitVec 32 := 1#32
  let v53 : BitVec 32 := Scalar.addi v52 c1_i32_40
  let c3_i32_264 : BitVec 32 := 3#32
  let v345 : BitVec 32 := Scalar.addi v53 c3_i32_264
  let c8_i32_265 : BitVec 32 := 8#32
  let v346 : BitVec 32 := Scalar.muli v345 c8_i32_265
  let c0_i32_59 : BitVec 32 := 0#32
  let c1_i32_61 : BitVec 32 := 1#32
  let arg17 : BitVec 32 := Scf.iv c0_i32_59 c1_i32_61 k0_t13
  let c2_i32_148 : BitVec 32 := 2#32
  let v179 : BitVec 32 := Scalar.muli arg17 c2_i32_148
  let c1_i32_149 : BitVec 32 := 1#32
  let v180 : BitVec 32 := Scalar.addi v179 c1_i32_149
  let v347 : BitVec 32 := Scalar.addi v346 v180
  let c0_i32_289 : BitVec 32 := 0#32
  ![0, v347.toNat, 0]
def k0_off194 (k0_t15 : Fin k0_t15_loop.trips) : Fin 1 → Nat :=
  let c64_i32 : BitVec 32 := 64#32
  let c0_i32_169 : BitVec 32 := 0#32
  let c1_i32_171 : BitVec 32 := 1#32
  let arg18 : BitVec 32 := Scf.iv c0_i32_169 c1_i32_171 k0_t15
  let c4_i32_266 : BitVec 32 := 4#32
  let v348 : BitVec 32 := Scalar.muli arg18 c4_i32_266
  let v349 : BitVec 32 := Scalar.addi c64_i32 v348
  let c2_i32_287 : BitVec 32 := 2#32
  let v378 : BitVec 32 := Scalar.addi v349 c2_i32_287
  let v381 : Index := Scalar.indexCast v378
  ![v381.toNat]
def k0_mult35 (v382 : BitVec 32) : BitVec 32 :=
  let c16_i32_290 : BitVec 32 := 16#32
  let v383 : BitVec 32 := Scalar.muli v382 c16_i32_290
  v383

def k0_off195 (k0_t13 : Fin k0_t13_loop.trips) : Fin 2 → Nat :=
  let c0_i32_59 : BitVec 32 := 0#32
  let c1_i32_61 : BitVec 32 := 1#32
  let arg17 : BitVec 32 := Scf.iv c0_i32_59 c1_i32_61 k0_t13
  let c2_i32_148 : BitVec 32 := 2#32
  let v179 : BitVec 32 := Scalar.muli arg17 c2_i32_148
  let c1_i32_149 : BitVec 32 := 1#32
  let v180 : BitVec 32 := Scalar.addi v179 c1_i32_149
  let c128_i32_267 : BitVec 32 := 128#32
  let v350 : BitVec 32 := Scalar.muli v180 c128_i32_267
  let c17_i32_268 : BitVec 32 := 17#32
  let v351 : BitVec 32 := Scalar.muli v350 c17_i32_268
  let c0_i32_293 : BitVec 32 := 0#32
  ![v351.toNat, 0]
def k0_off196 (k0_t15 : Fin k0_t15_loop.trips) : Fin 2 → Nat :=
  let c64_i32 : BitVec 32 := 64#32
  let c0_i32_169 : BitVec 32 := 0#32
  let c1_i32_171 : BitVec 32 := 1#32
  let arg18 : BitVec 32 := Scf.iv c0_i32_169 c1_i32_171 k0_t15
  let c4_i32_266 : BitVec 32 := 4#32
  let v348 : BitVec 32 := Scalar.muli arg18 c4_i32_266
  let v349 : BitVec 32 := Scalar.addi c64_i32 v348
  let c2_i32_287 : BitVec 32 := 2#32
  let v378 : BitVec 32 := Scalar.addi v349 c2_i32_287
  let c17_i32_291 : BitVec 32 := 17#32
  let v385 : BitVec 32 := Scalar.muli v378 c17_i32_291
  let c0_i32_294 : BitVec 32 := 0#32
  ![v385.toNat, 0]
def k0_off197 (v382 : BitVec 32) : Fin 2 → Nat :=
  let c16_i32_290 : BitVec 32 := 16#32
  let v383 : BitVec 32 := Scalar.muli v382 c16_i32_290
  let v384 : BitVec 32 := v383
  let c0_i32_295 : BitVec 32 := 0#32
  ![v384.toNat, 0]

def k0_chk35 (v382 : BitVec 32) : Prop :=
  (16 ∣ (k0_mult35 v382).toNat) ∧
  (∀ a, (k0_off197 v382) a + S16x128.size a ≤ S262144x128.size a)
theorem k0_mult35_dvd : ∀ (v382 : BitVec 32) (k0_hw35 : k0_chk35 v382), 16 ∣ (k0_mult35 v382).toNat := fun v382 k0_hw35 => k0_hw35.1
theorem k0_off197_inb : ∀ (v382 : BitVec 32) (k0_hw35 : k0_chk35 v382), ∀ a, (k0_off197 v382) a + S16x128.size a ≤ S262144x128.size a := fun v382 k0_hw35 => k0_hw35.2

def k0_off198 (k0_t5 : Fin k0_t5_loop.trips) (k0_t13 : Fin k0_t13_loop.trips) : Fin 3 → Nat :=
  let c0_i32_297 : BitVec 32 := 0#32
  let c0_i32_2 : BitVec 32 := 0#32
  let c1_i32 : BitVec 32 := 1#32
  let arg16 : BitVec 32 := Scf.iv c0_i32_2 c1_i32 k0_t5
  let c4_i32_39 : BitVec 32 := 4#32
  let v52 : BitVec 32 := Scalar.muli arg16 c4_i32_39
  let c1_i32_40 : BitVec 32 := 1#32
  let v53 : BitVec 32 := Scalar.addi v52 c1_i32_40
  let c3_i32_264 : BitVec 32 := 3#32
  let v345 : BitVec 32 := Scalar.addi v53 c3_i32_264
  let c8_i32_265 : BitVec 32 := 8#32
  let v346 : BitVec 32 := Scalar.muli v345 c8_i32_265
  let c0_i32_59 : BitVec 32 := 0#32
  let c1_i32_61 : BitVec 32 := 1#32
  let arg17 : BitVec 32 := Scf.iv c0_i32_59 c1_i32_61 k0_t13
  let c2_i32_148 : BitVec 32 := 2#32
  let v179 : BitVec 32 := Scalar.muli arg17 c2_i32_148
  let c1_i32_149 : BitVec 32 := 1#32
  let v180 : BitVec 32 := Scalar.addi v179 c1_i32_149
  let v347 : BitVec 32 := Scalar.addi v346 v180
  let c0_i32_298 : BitVec 32 := 0#32
  ![0, v347.toNat, 0]
def k0_off199 (k0_t15 : Fin k0_t15_loop.trips) : Fin 1 → Nat :=
  let c64_i32 : BitVec 32 := 64#32
  let c0_i32_169 : BitVec 32 := 0#32
  let c1_i32_171 : BitVec 32 := 1#32
  let arg18 : BitVec 32 := Scf.iv c0_i32_169 c1_i32_171 k0_t15
  let c4_i32_266 : BitVec 32 := 4#32
  let v348 : BitVec 32 := Scalar.muli arg18 c4_i32_266
  let v349 : BitVec 32 := Scalar.addi c64_i32 v348
  let c3_i32_296 : BitVec 32 := 3#32
  let v391 : BitVec 32 := Scalar.addi v349 c3_i32_296
  let v394 : Index := Scalar.indexCast v391
  ![v394.toNat]
def k0_mult36 (v395 : BitVec 32) : BitVec 32 :=
  let c16_i32_299 : BitVec 32 := 16#32
  let v396 : BitVec 32 := Scalar.muli v395 c16_i32_299
  v396

def k0_off200 (k0_t13 : Fin k0_t13_loop.trips) : Fin 2 → Nat :=
  let c0_i32_59 : BitVec 32 := 0#32
  let c1_i32_61 : BitVec 32 := 1#32
  let arg17 : BitVec 32 := Scf.iv c0_i32_59 c1_i32_61 k0_t13
  let c2_i32_148 : BitVec 32 := 2#32
  let v179 : BitVec 32 := Scalar.muli arg17 c2_i32_148
  let c1_i32_149 : BitVec 32 := 1#32
  let v180 : BitVec 32 := Scalar.addi v179 c1_i32_149
  let c128_i32_267 : BitVec 32 := 128#32
  let v350 : BitVec 32 := Scalar.muli v180 c128_i32_267
  let c17_i32_268 : BitVec 32 := 17#32
  let v351 : BitVec 32 := Scalar.muli v350 c17_i32_268
  let c0_i32_302 : BitVec 32 := 0#32
  ![v351.toNat, 0]
def k0_off201 (k0_t15 : Fin k0_t15_loop.trips) : Fin 2 → Nat :=
  let c64_i32 : BitVec 32 := 64#32
  let c0_i32_169 : BitVec 32 := 0#32
  let c1_i32_171 : BitVec 32 := 1#32
  let arg18 : BitVec 32 := Scf.iv c0_i32_169 c1_i32_171 k0_t15
  let c4_i32_266 : BitVec 32 := 4#32
  let v348 : BitVec 32 := Scalar.muli arg18 c4_i32_266
  let v349 : BitVec 32 := Scalar.addi c64_i32 v348
  let c3_i32_296 : BitVec 32 := 3#32
  let v391 : BitVec 32 := Scalar.addi v349 c3_i32_296
  let c17_i32_300 : BitVec 32 := 17#32
  let v398 : BitVec 32 := Scalar.muli v391 c17_i32_300
  let c0_i32_303 : BitVec 32 := 0#32
  ![v398.toNat, 0]
def k0_off202 (v395 : BitVec 32) : Fin 2 → Nat :=
  let c16_i32_299 : BitVec 32 := 16#32
  let v396 : BitVec 32 := Scalar.muli v395 c16_i32_299
  let v397 : BitVec 32 := v396
  let c0_i32_304 : BitVec 32 := 0#32
  ![v397.toNat, 0]

def k0_chk36 (v395 : BitVec 32) : Prop :=
  (16 ∣ (k0_mult36 v395).toNat) ∧
  (∀ a, (k0_off202 v395) a + S16x128.size a ≤ S262144x128.size a)
theorem k0_mult36_dvd : ∀ (v395 : BitVec 32) (k0_hw36 : k0_chk36 v395), 16 ∣ (k0_mult36 v395).toNat := fun v395 k0_hw36 => k0_hw36.1
theorem k0_off202_inb : ∀ (v395 : BitVec 32) (k0_hw36 : k0_chk36 v395), ∀ a, (k0_off202 v395) a + S16x128.size a ≤ S262144x128.size a := fun v395 k0_hw36 => k0_hw36.2

@[reducible] def k0_t16_loop : Scf.Loop 32 :=
  let c0_i32_69 : BitVec 32 := 0#32
  let c8_i32_70 : BitVec 32 := 8#32
  let v80 : BitVec 32 := Scalar.addi c0_i32_69 c8_i32_70
  let c1_i32_71 : BitVec 32 := 1#32
  ⟨c0_i32_69, v80, c1_i32_71⟩
def k0_off203 (k0_t5 : Fin k0_t5_loop.trips) (k0_t16 : Fin k0_t16_loop.trips) : Fin 2 → Nat :=
  let c0_i32_2 : BitVec 32 := 0#32
  let c1_i32 : BitVec 32 := 1#32
  let arg16 : BitVec 32 := Scf.iv c0_i32_2 c1_i32 k0_t5
  let c4_i32_63 : BitVec 32 := 4#32
  let v74 : BitVec 32 := Scalar.muli arg16 c4_i32_63
  let c2_i32 : BitVec 32 := 2#32
  let v75 : BitVec 32 := Scalar.addi v74 c2_i32
  let c8_i32_111 : BitVec 32 := 8#32
  let v120 : BitVec 32 := Scalar.muli v75 c8_i32_111
  let c0_i32_69 : BitVec 32 := 0#32
  let c1_i32_71 : BitVec 32 := 1#32
  let arg17 : BitVec 32 := Scf.iv c0_i32_69 c1_i32_71 k0_t16
  let c1_i32_109 : BitVec 32 := 1#32
  let v118 : BitVec 32 := Scalar.muli arg17 c1_i32_109
  let c0_i32_110 : BitVec 32 := 0#32
  let v119 : BitVec 32 := Scalar.addi v118 c0_i32_110
  let v121 : BitVec 32 := Scalar.addi v120 v119
  let v122 : Index := Scalar.indexCast v121
  let c0_112 : Index := 0#32
  ![v122.toNat, 0]
@[reducible] def k0_t17_loop : Scf.Loop 32 :=
  let c0_i32_113 : BitVec 32 := 0#32
  let c16_i32 : BitVec 32 := 16#32
  let v174 : BitVec 32 := Scalar.addi c0_i32_113 c16_i32
  let c1_i32_114 : BitVec 32 := 1#32
  ⟨c0_i32_113, v174, c1_i32_114⟩
def k0_off204 (k0_t16 : Fin k0_t16_loop.trips) : Fin 2 → Nat :=
  let c0_i32_69 : BitVec 32 := 0#32
  let c1_i32_71 : BitVec 32 := 1#32
  let arg17 : BitVec 32 := Scf.iv c0_i32_69 c1_i32_71 k0_t16
  let c1_i32_109 : BitVec 32 := 1#32
  let v118 : BitVec 32 := Scalar.muli arg17 c1_i32_109
  let c0_i32_110 : BitVec 32 := 0#32
  let v119 : BitVec 32 := Scalar.addi v118 c0_i32_110
  let c128_i32 : BitVec 32 := 128#32
  let v172 : BitVec 32 := Scalar.muli v119 c128_i32
  let c17_i32 : BitVec 32 := 17#32
  let v173 : BitVec 32 := Scalar.muli v172 c17_i32
  let c0_i32_119 : BitVec 32 := 0#32
  ![v173.toNat, 0]
def k0_off205 (k0_t17 : Fin k0_t17_loop.trips) (c0_i32_118 : BitVec 32) : Fin 2 → Nat :=
  let c0_i32_113 : BitVec 32 := 0#32
  let c1_i32_114 : BitVec 32 := 1#32
  let arg18 : BitVec 32 := Scf.iv c0_i32_113 c1_i32_114 k0_t17
  let c8_i32_116 : BitVec 32 := 8#32
  let v175 : BitVec 32 := Scalar.muli arg18 c8_i32_116
  let c17_i32_117 : BitVec 32 := 17#32
  let v176 : BitVec 32 := Scalar.muli v175 c17_i32_117
  let v177 : BitVec 32 := Scalar.addi v176 c0_i32_118
  let v179 : Index := Scalar.indexCast v177
  let c0_120 : Index := 0#32
  ![v179.toNat, 0]
def k0_off206 (k0_t5 : Fin k0_t5_loop.trips) (k0_t16 : Fin k0_t16_loop.trips) : Fin 3 → Nat :=
  let c0_i32_192 : BitVec 32 := 0#32
  let c0_i32_2 : BitVec 32 := 0#32
  let c1_i32 : BitVec 32 := 1#32
  let arg16 : BitVec 32 := Scf.iv c0_i32_2 c1_i32 k0_t5
  let c4_i32_63 : BitVec 32 := 4#32
  let v74 : BitVec 32 := Scalar.muli arg16 c4_i32_63
  let c2_i32 : BitVec 32 := 2#32
  let v75 : BitVec 32 := Scalar.addi v74 c2_i32
  let c3_i32_186 : BitVec 32 := 3#32
  let v271 : BitVec 32 := Scalar.addi v75 c3_i32_186
  let c8_i32_187 : BitVec 32 := 8#32
  let v272 : BitVec 32 := Scalar.muli v271 c8_i32_187
  let c0_i32_69 : BitVec 32 := 0#32
  let c1_i32_71 : BitVec 32 := 1#32
  let arg17 : BitVec 32 := Scf.iv c0_i32_69 c1_i32_71 k0_t16
  let c1_i32_109 : BitVec 32 := 1#32
  let v118 : BitVec 32 := Scalar.muli arg17 c1_i32_109
  let c0_i32_110 : BitVec 32 := 0#32
  let v119 : BitVec 32 := Scalar.addi v118 c0_i32_110
  let v273 : BitVec 32 := Scalar.addi v272 v119
  let c0_i32_193 : BitVec 32 := 0#32
  ![0, v273.toNat, 0]
def k0_off207 (k0_t17 : Fin k0_t17_loop.trips) : Fin 1 → Nat :=
  let c0_i32_113 : BitVec 32 := 0#32
  let c1_i32_114 : BitVec 32 := 1#32
  let arg18 : BitVec 32 := Scf.iv c0_i32_113 c1_i32_114 k0_t17
  let c4_i32_188 : BitVec 32 := 4#32
  let v274 : BitVec 32 := Scalar.muli arg18 c4_i32_188
  let c0_i32_191 : BitVec 32 := 0#32
  let v277 : BitVec 32 := Scalar.addi v274 c0_i32_191
  let v280 : Index := Scalar.indexCast v277
  ![v280.toNat]
def k0_mult37 (v281 : BitVec 32) : BitVec 32 :=
  let c16_i32_194 : BitVec 32 := 16#32
  let v282 : BitVec 32 := Scalar.muli v281 c16_i32_194
  v282

def k0_off208 (k0_t16 : Fin k0_t16_loop.trips) : Fin 2 → Nat :=
  let c0_i32_69 : BitVec 32 := 0#32
  let c1_i32_71 : BitVec 32 := 1#32
  let arg17 : BitVec 32 := Scf.iv c0_i32_69 c1_i32_71 k0_t16
  let c1_i32_109 : BitVec 32 := 1#32
  let v118 : BitVec 32 := Scalar.muli arg17 c1_i32_109
  let c0_i32_110 : BitVec 32 := 0#32
  let v119 : BitVec 32 := Scalar.addi v118 c0_i32_110
  let c128_i32_189 : BitVec 32 := 128#32
  let v275 : BitVec 32 := Scalar.muli v119 c128_i32_189
  let c17_i32_190 : BitVec 32 := 17#32
  let v276 : BitVec 32 := Scalar.muli v275 c17_i32_190
  let c0_i32_197 : BitVec 32 := 0#32
  ![v276.toNat, 0]
def k0_off209 (k0_t17 : Fin k0_t17_loop.trips) : Fin 2 → Nat :=
  let c0_i32_113 : BitVec 32 := 0#32
  let c1_i32_114 : BitVec 32 := 1#32
  let arg18 : BitVec 32 := Scf.iv c0_i32_113 c1_i32_114 k0_t17
  let c4_i32_188 : BitVec 32 := 4#32
  let v274 : BitVec 32 := Scalar.muli arg18 c4_i32_188
  let c0_i32_191 : BitVec 32 := 0#32
  let v277 : BitVec 32 := Scalar.addi v274 c0_i32_191
  let c17_i32_195 : BitVec 32 := 17#32
  let v284 : BitVec 32 := Scalar.muli v277 c17_i32_195
  let c0_i32_198 : BitVec 32 := 0#32
  ![v284.toNat, 0]
def k0_off210 (v281 : BitVec 32) : Fin 2 → Nat :=
  let c16_i32_194 : BitVec 32 := 16#32
  let v282 : BitVec 32 := Scalar.muli v281 c16_i32_194
  let v283 : BitVec 32 := v282
  let c0_i32_199 : BitVec 32 := 0#32
  ![v283.toNat, 0]

def k0_chk37 (v281 : BitVec 32) : Prop :=
  (16 ∣ (k0_mult37 v281).toNat) ∧
  (∀ a, (k0_off210 v281) a + S16x128.size a ≤ S262144x128.size a)
theorem k0_mult37_dvd : ∀ (v281 : BitVec 32) (k0_hw37 : k0_chk37 v281), 16 ∣ (k0_mult37 v281).toNat := fun v281 k0_hw37 => k0_hw37.1
theorem k0_off210_inb : ∀ (v281 : BitVec 32) (k0_hw37 : k0_chk37 v281), ∀ a, (k0_off210 v281) a + S16x128.size a ≤ S262144x128.size a := fun v281 k0_hw37 => k0_hw37.2

def k0_off211 (k0_t5 : Fin k0_t5_loop.trips) (k0_t16 : Fin k0_t16_loop.trips) : Fin 3 → Nat :=
  let c0_i32_201 : BitVec 32 := 0#32
  let c0_i32_2 : BitVec 32 := 0#32
  let c1_i32 : BitVec 32 := 1#32
  let arg16 : BitVec 32 := Scf.iv c0_i32_2 c1_i32 k0_t5
  let c4_i32_63 : BitVec 32 := 4#32
  let v74 : BitVec 32 := Scalar.muli arg16 c4_i32_63
  let c2_i32 : BitVec 32 := 2#32
  let v75 : BitVec 32 := Scalar.addi v74 c2_i32
  let c3_i32_186 : BitVec 32 := 3#32
  let v271 : BitVec 32 := Scalar.addi v75 c3_i32_186
  let c8_i32_187 : BitVec 32 := 8#32
  let v272 : BitVec 32 := Scalar.muli v271 c8_i32_187
  let c0_i32_69 : BitVec 32 := 0#32
  let c1_i32_71 : BitVec 32 := 1#32
  let arg17 : BitVec 32 := Scf.iv c0_i32_69 c1_i32_71 k0_t16
  let c1_i32_109 : BitVec 32 := 1#32
  let v118 : BitVec 32 := Scalar.muli arg17 c1_i32_109
  let c0_i32_110 : BitVec 32 := 0#32
  let v119 : BitVec 32 := Scalar.addi v118 c0_i32_110
  let v273 : BitVec 32 := Scalar.addi v272 v119
  let c0_i32_202 : BitVec 32 := 0#32
  ![0, v273.toNat, 0]
def k0_off212 (k0_t17 : Fin k0_t17_loop.trips) : Fin 1 → Nat :=
  let c0_i32_113 : BitVec 32 := 0#32
  let c1_i32_114 : BitVec 32 := 1#32
  let arg18 : BitVec 32 := Scf.iv c0_i32_113 c1_i32_114 k0_t17
  let c4_i32_188 : BitVec 32 := 4#32
  let v274 : BitVec 32 := Scalar.muli arg18 c4_i32_188
  let c1_i32_200 : BitVec 32 := 1#32
  let v290 : BitVec 32 := Scalar.addi v274 c1_i32_200
  let v293 : Index := Scalar.indexCast v290
  ![v293.toNat]
def k0_mult38 (v294 : BitVec 32) : BitVec 32 :=
  let c16_i32_203 : BitVec 32 := 16#32
  let v295 : BitVec 32 := Scalar.muli v294 c16_i32_203
  v295

def k0_off213 (k0_t16 : Fin k0_t16_loop.trips) : Fin 2 → Nat :=
  let c0_i32_69 : BitVec 32 := 0#32
  let c1_i32_71 : BitVec 32 := 1#32
  let arg17 : BitVec 32 := Scf.iv c0_i32_69 c1_i32_71 k0_t16
  let c1_i32_109 : BitVec 32 := 1#32
  let v118 : BitVec 32 := Scalar.muli arg17 c1_i32_109
  let c0_i32_110 : BitVec 32 := 0#32
  let v119 : BitVec 32 := Scalar.addi v118 c0_i32_110
  let c128_i32_189 : BitVec 32 := 128#32
  let v275 : BitVec 32 := Scalar.muli v119 c128_i32_189
  let c17_i32_190 : BitVec 32 := 17#32
  let v276 : BitVec 32 := Scalar.muli v275 c17_i32_190
  let c0_i32_206 : BitVec 32 := 0#32
  ![v276.toNat, 0]
def k0_off214 (k0_t17 : Fin k0_t17_loop.trips) : Fin 2 → Nat :=
  let c0_i32_113 : BitVec 32 := 0#32
  let c1_i32_114 : BitVec 32 := 1#32
  let arg18 : BitVec 32 := Scf.iv c0_i32_113 c1_i32_114 k0_t17
  let c4_i32_188 : BitVec 32 := 4#32
  let v274 : BitVec 32 := Scalar.muli arg18 c4_i32_188
  let c1_i32_200 : BitVec 32 := 1#32
  let v290 : BitVec 32 := Scalar.addi v274 c1_i32_200
  let c17_i32_204 : BitVec 32 := 17#32
  let v297 : BitVec 32 := Scalar.muli v290 c17_i32_204
  let c0_i32_207 : BitVec 32 := 0#32
  ![v297.toNat, 0]
def k0_off215 (v294 : BitVec 32) : Fin 2 → Nat :=
  let c16_i32_203 : BitVec 32 := 16#32
  let v295 : BitVec 32 := Scalar.muli v294 c16_i32_203
  let v296 : BitVec 32 := v295
  let c0_i32_208 : BitVec 32 := 0#32
  ![v296.toNat, 0]

def k0_chk38 (v294 : BitVec 32) : Prop :=
  (16 ∣ (k0_mult38 v294).toNat) ∧
  (∀ a, (k0_off215 v294) a + S16x128.size a ≤ S262144x128.size a)
theorem k0_mult38_dvd : ∀ (v294 : BitVec 32) (k0_hw38 : k0_chk38 v294), 16 ∣ (k0_mult38 v294).toNat := fun v294 k0_hw38 => k0_hw38.1
theorem k0_off215_inb : ∀ (v294 : BitVec 32) (k0_hw38 : k0_chk38 v294), ∀ a, (k0_off215 v294) a + S16x128.size a ≤ S262144x128.size a := fun v294 k0_hw38 => k0_hw38.2

def k0_off216 (k0_t5 : Fin k0_t5_loop.trips) (k0_t16 : Fin k0_t16_loop.trips) : Fin 3 → Nat :=
  let c0_i32_210 : BitVec 32 := 0#32
  let c0_i32_2 : BitVec 32 := 0#32
  let c1_i32 : BitVec 32 := 1#32
  let arg16 : BitVec 32 := Scf.iv c0_i32_2 c1_i32 k0_t5
  let c4_i32_63 : BitVec 32 := 4#32
  let v74 : BitVec 32 := Scalar.muli arg16 c4_i32_63
  let c2_i32 : BitVec 32 := 2#32
  let v75 : BitVec 32 := Scalar.addi v74 c2_i32
  let c3_i32_186 : BitVec 32 := 3#32
  let v271 : BitVec 32 := Scalar.addi v75 c3_i32_186
  let c8_i32_187 : BitVec 32 := 8#32
  let v272 : BitVec 32 := Scalar.muli v271 c8_i32_187
  let c0_i32_69 : BitVec 32 := 0#32
  let c1_i32_71 : BitVec 32 := 1#32
  let arg17 : BitVec 32 := Scf.iv c0_i32_69 c1_i32_71 k0_t16
  let c1_i32_109 : BitVec 32 := 1#32
  let v118 : BitVec 32 := Scalar.muli arg17 c1_i32_109
  let c0_i32_110 : BitVec 32 := 0#32
  let v119 : BitVec 32 := Scalar.addi v118 c0_i32_110
  let v273 : BitVec 32 := Scalar.addi v272 v119
  let c0_i32_211 : BitVec 32 := 0#32
  ![0, v273.toNat, 0]
def k0_off217 (k0_t17 : Fin k0_t17_loop.trips) : Fin 1 → Nat :=
  let c0_i32_113 : BitVec 32 := 0#32
  let c1_i32_114 : BitVec 32 := 1#32
  let arg18 : BitVec 32 := Scf.iv c0_i32_113 c1_i32_114 k0_t17
  let c4_i32_188 : BitVec 32 := 4#32
  let v274 : BitVec 32 := Scalar.muli arg18 c4_i32_188
  let c2_i32_209 : BitVec 32 := 2#32
  let v303 : BitVec 32 := Scalar.addi v274 c2_i32_209
  let v306 : Index := Scalar.indexCast v303
  ![v306.toNat]
def k0_mult39 (v307 : BitVec 32) : BitVec 32 :=
  let c16_i32_212 : BitVec 32 := 16#32
  let v308 : BitVec 32 := Scalar.muli v307 c16_i32_212
  v308

def k0_off218 (k0_t16 : Fin k0_t16_loop.trips) : Fin 2 → Nat :=
  let c0_i32_69 : BitVec 32 := 0#32
  let c1_i32_71 : BitVec 32 := 1#32
  let arg17 : BitVec 32 := Scf.iv c0_i32_69 c1_i32_71 k0_t16
  let c1_i32_109 : BitVec 32 := 1#32
  let v118 : BitVec 32 := Scalar.muli arg17 c1_i32_109
  let c0_i32_110 : BitVec 32 := 0#32
  let v119 : BitVec 32 := Scalar.addi v118 c0_i32_110
  let c128_i32_189 : BitVec 32 := 128#32
  let v275 : BitVec 32 := Scalar.muli v119 c128_i32_189
  let c17_i32_190 : BitVec 32 := 17#32
  let v276 : BitVec 32 := Scalar.muli v275 c17_i32_190
  let c0_i32_215 : BitVec 32 := 0#32
  ![v276.toNat, 0]
def k0_off219 (k0_t17 : Fin k0_t17_loop.trips) : Fin 2 → Nat :=
  let c0_i32_113 : BitVec 32 := 0#32
  let c1_i32_114 : BitVec 32 := 1#32
  let arg18 : BitVec 32 := Scf.iv c0_i32_113 c1_i32_114 k0_t17
  let c4_i32_188 : BitVec 32 := 4#32
  let v274 : BitVec 32 := Scalar.muli arg18 c4_i32_188
  let c2_i32_209 : BitVec 32 := 2#32
  let v303 : BitVec 32 := Scalar.addi v274 c2_i32_209
  let c17_i32_213 : BitVec 32 := 17#32
  let v310 : BitVec 32 := Scalar.muli v303 c17_i32_213
  let c0_i32_216 : BitVec 32 := 0#32
  ![v310.toNat, 0]
def k0_off220 (v307 : BitVec 32) : Fin 2 → Nat :=
  let c16_i32_212 : BitVec 32 := 16#32
  let v308 : BitVec 32 := Scalar.muli v307 c16_i32_212
  let v309 : BitVec 32 := v308
  let c0_i32_217 : BitVec 32 := 0#32
  ![v309.toNat, 0]

def k0_chk39 (v307 : BitVec 32) : Prop :=
  (16 ∣ (k0_mult39 v307).toNat) ∧
  (∀ a, (k0_off220 v307) a + S16x128.size a ≤ S262144x128.size a)
theorem k0_mult39_dvd : ∀ (v307 : BitVec 32) (k0_hw39 : k0_chk39 v307), 16 ∣ (k0_mult39 v307).toNat := fun v307 k0_hw39 => k0_hw39.1
theorem k0_off220_inb : ∀ (v307 : BitVec 32) (k0_hw39 : k0_chk39 v307), ∀ a, (k0_off220 v307) a + S16x128.size a ≤ S262144x128.size a := fun v307 k0_hw39 => k0_hw39.2

def k0_off221 (k0_t5 : Fin k0_t5_loop.trips) (k0_t16 : Fin k0_t16_loop.trips) : Fin 3 → Nat :=
  let c0_i32_219 : BitVec 32 := 0#32
  let c0_i32_2 : BitVec 32 := 0#32
  let c1_i32 : BitVec 32 := 1#32
  let arg16 : BitVec 32 := Scf.iv c0_i32_2 c1_i32 k0_t5
  let c4_i32_63 : BitVec 32 := 4#32
  let v74 : BitVec 32 := Scalar.muli arg16 c4_i32_63
  let c2_i32 : BitVec 32 := 2#32
  let v75 : BitVec 32 := Scalar.addi v74 c2_i32
  let c3_i32_186 : BitVec 32 := 3#32
  let v271 : BitVec 32 := Scalar.addi v75 c3_i32_186
  let c8_i32_187 : BitVec 32 := 8#32
  let v272 : BitVec 32 := Scalar.muli v271 c8_i32_187
  let c0_i32_69 : BitVec 32 := 0#32
  let c1_i32_71 : BitVec 32 := 1#32
  let arg17 : BitVec 32 := Scf.iv c0_i32_69 c1_i32_71 k0_t16
  let c1_i32_109 : BitVec 32 := 1#32
  let v118 : BitVec 32 := Scalar.muli arg17 c1_i32_109
  let c0_i32_110 : BitVec 32 := 0#32
  let v119 : BitVec 32 := Scalar.addi v118 c0_i32_110
  let v273 : BitVec 32 := Scalar.addi v272 v119
  let c0_i32_220 : BitVec 32 := 0#32
  ![0, v273.toNat, 0]
def k0_off222 (k0_t17 : Fin k0_t17_loop.trips) : Fin 1 → Nat :=
  let c0_i32_113 : BitVec 32 := 0#32
  let c1_i32_114 : BitVec 32 := 1#32
  let arg18 : BitVec 32 := Scf.iv c0_i32_113 c1_i32_114 k0_t17
  let c4_i32_188 : BitVec 32 := 4#32
  let v274 : BitVec 32 := Scalar.muli arg18 c4_i32_188
  let c3_i32_218 : BitVec 32 := 3#32
  let v316 : BitVec 32 := Scalar.addi v274 c3_i32_218
  let v319 : Index := Scalar.indexCast v316
  ![v319.toNat]
def k0_mult40 (v320 : BitVec 32) : BitVec 32 :=
  let c16_i32_221 : BitVec 32 := 16#32
  let v321 : BitVec 32 := Scalar.muli v320 c16_i32_221
  v321

def k0_off223 (k0_t16 : Fin k0_t16_loop.trips) : Fin 2 → Nat :=
  let c0_i32_69 : BitVec 32 := 0#32
  let c1_i32_71 : BitVec 32 := 1#32
  let arg17 : BitVec 32 := Scf.iv c0_i32_69 c1_i32_71 k0_t16
  let c1_i32_109 : BitVec 32 := 1#32
  let v118 : BitVec 32 := Scalar.muli arg17 c1_i32_109
  let c0_i32_110 : BitVec 32 := 0#32
  let v119 : BitVec 32 := Scalar.addi v118 c0_i32_110
  let c128_i32_189 : BitVec 32 := 128#32
  let v275 : BitVec 32 := Scalar.muli v119 c128_i32_189
  let c17_i32_190 : BitVec 32 := 17#32
  let v276 : BitVec 32 := Scalar.muli v275 c17_i32_190
  let c0_i32_224 : BitVec 32 := 0#32
  ![v276.toNat, 0]
def k0_off224 (k0_t17 : Fin k0_t17_loop.trips) : Fin 2 → Nat :=
  let c0_i32_113 : BitVec 32 := 0#32
  let c1_i32_114 : BitVec 32 := 1#32
  let arg18 : BitVec 32 := Scf.iv c0_i32_113 c1_i32_114 k0_t17
  let c4_i32_188 : BitVec 32 := 4#32
  let v274 : BitVec 32 := Scalar.muli arg18 c4_i32_188
  let c3_i32_218 : BitVec 32 := 3#32
  let v316 : BitVec 32 := Scalar.addi v274 c3_i32_218
  let c17_i32_222 : BitVec 32 := 17#32
  let v323 : BitVec 32 := Scalar.muli v316 c17_i32_222
  let c0_i32_225 : BitVec 32 := 0#32
  ![v323.toNat, 0]
def k0_off225 (v320 : BitVec 32) : Fin 2 → Nat :=
  let c16_i32_221 : BitVec 32 := 16#32
  let v321 : BitVec 32 := Scalar.muli v320 c16_i32_221
  let v322 : BitVec 32 := v321
  let c0_i32_226 : BitVec 32 := 0#32
  ![v322.toNat, 0]

def k0_chk40 (v320 : BitVec 32) : Prop :=
  (16 ∣ (k0_mult40 v320).toNat) ∧
  (∀ a, (k0_off225 v320) a + S16x128.size a ≤ S262144x128.size a)
theorem k0_mult40_dvd : ∀ (v320 : BitVec 32) (k0_hw40 : k0_chk40 v320), 16 ∣ (k0_mult40 v320).toNat := fun v320 k0_hw40 => k0_hw40.1
theorem k0_off225_inb : ∀ (v320 : BitVec 32) (k0_hw40 : k0_chk40 v320), ∀ a, (k0_off225 v320) a + S16x128.size a ≤ S262144x128.size a := fun v320 k0_hw40 => k0_hw40.2

def k0_off226 (k0_t17 : Fin k0_t17_loop.trips) : Fin 2 → Nat :=
  let c0_i32_113 : BitVec 32 := 0#32
  let c1_i32_114 : BitVec 32 := 1#32
  let arg18 : BitVec 32 := Scf.iv c0_i32_113 c1_i32_114 k0_t17
  let c8_i32_244 : BitVec 32 := 8#32
  let v410 : BitVec 32 := Scalar.muli arg18 c8_i32_244
  let v415 : Index := Scalar.indexCast v410
  let c0_245 : Index := 0#32
  ![v415.toNat, 0]
@[reducible] def k0_t18_loop : Scf.Loop 32 :=
  let c0_i32_82 : BitVec 32 := 0#32
  let c4_i32_83 : BitVec 32 := 4#32
  let v95 : BitVec 32 := Scalar.addi c0_i32_82 c4_i32_83
  let c1_i32_84 : BitVec 32 := 1#32
  ⟨c0_i32_82, v95, c1_i32_84⟩
@[reducible] def k0_t19_loop : Scf.Loop 32 :=
  let c0_i32_128 : BitVec 32 := 0#32
  let c16_i32 : BitVec 32 := 16#32
  let v140 : BitVec 32 := Scalar.addi c0_i32_128 c16_i32
  let c1_i32_129 : BitVec 32 := 1#32
  ⟨c0_i32_128, v140, c1_i32_129⟩
def k0_off227 (k0_t19 : Fin k0_t19_loop.trips) : Fin 2 → Nat :=
  let c0_i32_128 : BitVec 32 := 0#32
  let c1_i32_129 : BitVec 32 := 1#32
  let arg18 : BitVec 32 := Scf.iv c0_i32_128 c1_i32_129 k0_t19
  let c8_i32_190 : BitVec 32 := 8#32
  let v242 : BitVec 32 := Scalar.muli arg18 c8_i32_190
  let v243 : Index := Scalar.indexCast v242
  let c0_191 : Index := 0#32
  ![v243.toNat, 0]
def k0_off228 (k0_t18 : Fin k0_t18_loop.trips) : Fin 2 → Nat :=
  let c0_i32_82 : BitVec 32 := 0#32
  let c1_i32_84 : BitVec 32 := 1#32
  let arg17 : BitVec 32 := Scf.iv c0_i32_82 c1_i32_84 k0_t18
  let c2_i32_109 : BitVec 32 := 2#32
  let v118 : BitVec 32 := Scalar.muli arg17 c2_i32_109
  let c0_i32_110 : BitVec 32 := 0#32
  let v119 : BitVec 32 := Scalar.addi v118 c0_i32_110
  let c128_i32 : BitVec 32 := 128#32
  let v122 : BitVec 32 := Scalar.muli v119 c128_i32
  let c17_i32 : BitVec 32 := 17#32
  let v123 : BitVec 32 := Scalar.muli v122 c17_i32
  let c0_i32_197 : BitVec 32 := 0#32
  ![v123.toNat, 0]
def k0_off229 (k0_t19 : Fin k0_t19_loop.trips) (c0_i32_196 : BitVec 32) : Fin 2 → Nat :=
  let c0_i32_128 : BitVec 32 := 0#32
  let c1_i32_129 : BitVec 32 := 1#32
  let arg18 : BitVec 32 := Scf.iv c0_i32_128 c1_i32_129 k0_t19
  let c8_i32_194 : BitVec 32 := 8#32
  let v249 : BitVec 32 := Scalar.muli arg18 c8_i32_194
  let c17_i32_195 : BitVec 32 := 17#32
  let v250 : BitVec 32 := Scalar.muli v249 c17_i32_195
  let v251 : BitVec 32 := Scalar.addi v250 c0_i32_196
  let v253 : Index := Scalar.indexCast v251
  let c0_198 : Index := 0#32
  ![v253.toNat, 0]
def k0_off230 (k0_t5 : Fin k0_t5_loop.trips) (k0_t18 : Fin k0_t18_loop.trips) : Fin 3 → Nat :=
  let c0_i32_270 : BitVec 32 := 0#32
  let c0_i32_2 : BitVec 32 := 0#32
  let c1_i32 : BitVec 32 := 1#32
  let arg16 : BitVec 32 := Scf.iv c0_i32_2 c1_i32 k0_t5
  let c4_i32_63 : BitVec 32 := 4#32
  let v74 : BitVec 32 := Scalar.muli arg16 c4_i32_63
  let c2_i32 : BitVec 32 := 2#32
  let v75 : BitVec 32 := Scalar.addi v74 c2_i32
  let c3_i32_264 : BitVec 32 := 3#32
  let v345 : BitVec 32 := Scalar.addi v75 c3_i32_264
  let c8_i32_265 : BitVec 32 := 8#32
  let v346 : BitVec 32 := Scalar.muli v345 c8_i32_265
  let c0_i32_82 : BitVec 32 := 0#32
  let c1_i32_84 : BitVec 32 := 1#32
  let arg17 : BitVec 32 := Scf.iv c0_i32_82 c1_i32_84 k0_t18
  let c2_i32_109 : BitVec 32 := 2#32
  let v118 : BitVec 32 := Scalar.muli arg17 c2_i32_109
  let c0_i32_110 : BitVec 32 := 0#32
  let v119 : BitVec 32 := Scalar.addi v118 c0_i32_110
  let v347 : BitVec 32 := Scalar.addi v346 v119
  let c0_i32_271 : BitVec 32 := 0#32
  ![0, v347.toNat, 0]
def k0_off231 (k0_t19 : Fin k0_t19_loop.trips) : Fin 1 → Nat :=
  let c64_i32 : BitVec 32 := 64#32
  let c0_i32_128 : BitVec 32 := 0#32
  let c1_i32_129 : BitVec 32 := 1#32
  let arg18 : BitVec 32 := Scf.iv c0_i32_128 c1_i32_129 k0_t19
  let c4_i32_266 : BitVec 32 := 4#32
  let v348 : BitVec 32 := Scalar.muli arg18 c4_i32_266
  let v349 : BitVec 32 := Scalar.addi c64_i32 v348
  let c0_i32_269 : BitVec 32 := 0#32
  let v352 : BitVec 32 := Scalar.addi v349 c0_i32_269
  let v355 : Index := Scalar.indexCast v352
  ![v355.toNat]
def k0_mult41 (v356 : BitVec 32) : BitVec 32 :=
  let c16_i32_272 : BitVec 32 := 16#32
  let v357 : BitVec 32 := Scalar.muli v356 c16_i32_272
  v357

def k0_off232 (k0_t18 : Fin k0_t18_loop.trips) : Fin 2 → Nat :=
  let c0_i32_82 : BitVec 32 := 0#32
  let c1_i32_84 : BitVec 32 := 1#32
  let arg17 : BitVec 32 := Scf.iv c0_i32_82 c1_i32_84 k0_t18
  let c2_i32_109 : BitVec 32 := 2#32
  let v118 : BitVec 32 := Scalar.muli arg17 c2_i32_109
  let c0_i32_110 : BitVec 32 := 0#32
  let v119 : BitVec 32 := Scalar.addi v118 c0_i32_110
  let c128_i32_267 : BitVec 32 := 128#32
  let v350 : BitVec 32 := Scalar.muli v119 c128_i32_267
  let c17_i32_268 : BitVec 32 := 17#32
  let v351 : BitVec 32 := Scalar.muli v350 c17_i32_268
  let c0_i32_275 : BitVec 32 := 0#32
  ![v351.toNat, 0]
def k0_off233 (k0_t19 : Fin k0_t19_loop.trips) : Fin 2 → Nat :=
  let c64_i32 : BitVec 32 := 64#32
  let c0_i32_128 : BitVec 32 := 0#32
  let c1_i32_129 : BitVec 32 := 1#32
  let arg18 : BitVec 32 := Scf.iv c0_i32_128 c1_i32_129 k0_t19
  let c4_i32_266 : BitVec 32 := 4#32
  let v348 : BitVec 32 := Scalar.muli arg18 c4_i32_266
  let v349 : BitVec 32 := Scalar.addi c64_i32 v348
  let c0_i32_269 : BitVec 32 := 0#32
  let v352 : BitVec 32 := Scalar.addi v349 c0_i32_269
  let c17_i32_273 : BitVec 32 := 17#32
  let v359 : BitVec 32 := Scalar.muli v352 c17_i32_273
  let c0_i32_276 : BitVec 32 := 0#32
  ![v359.toNat, 0]
def k0_off234 (v356 : BitVec 32) : Fin 2 → Nat :=
  let c16_i32_272 : BitVec 32 := 16#32
  let v357 : BitVec 32 := Scalar.muli v356 c16_i32_272
  let v358 : BitVec 32 := v357
  let c0_i32_277 : BitVec 32 := 0#32
  ![v358.toNat, 0]

def k0_chk41 (v356 : BitVec 32) : Prop :=
  (16 ∣ (k0_mult41 v356).toNat) ∧
  (∀ a, (k0_off234 v356) a + S16x128.size a ≤ S262144x128.size a)
theorem k0_mult41_dvd : ∀ (v356 : BitVec 32) (k0_hw41 : k0_chk41 v356), 16 ∣ (k0_mult41 v356).toNat := fun v356 k0_hw41 => k0_hw41.1
theorem k0_off234_inb : ∀ (v356 : BitVec 32) (k0_hw41 : k0_chk41 v356), ∀ a, (k0_off234 v356) a + S16x128.size a ≤ S262144x128.size a := fun v356 k0_hw41 => k0_hw41.2

def k0_off235 (k0_t5 : Fin k0_t5_loop.trips) (k0_t18 : Fin k0_t18_loop.trips) : Fin 3 → Nat :=
  let c0_i32_279 : BitVec 32 := 0#32
  let c0_i32_2 : BitVec 32 := 0#32
  let c1_i32 : BitVec 32 := 1#32
  let arg16 : BitVec 32 := Scf.iv c0_i32_2 c1_i32 k0_t5
  let c4_i32_63 : BitVec 32 := 4#32
  let v74 : BitVec 32 := Scalar.muli arg16 c4_i32_63
  let c2_i32 : BitVec 32 := 2#32
  let v75 : BitVec 32 := Scalar.addi v74 c2_i32
  let c3_i32_264 : BitVec 32 := 3#32
  let v345 : BitVec 32 := Scalar.addi v75 c3_i32_264
  let c8_i32_265 : BitVec 32 := 8#32
  let v346 : BitVec 32 := Scalar.muli v345 c8_i32_265
  let c0_i32_82 : BitVec 32 := 0#32
  let c1_i32_84 : BitVec 32 := 1#32
  let arg17 : BitVec 32 := Scf.iv c0_i32_82 c1_i32_84 k0_t18
  let c2_i32_109 : BitVec 32 := 2#32
  let v118 : BitVec 32 := Scalar.muli arg17 c2_i32_109
  let c0_i32_110 : BitVec 32 := 0#32
  let v119 : BitVec 32 := Scalar.addi v118 c0_i32_110
  let v347 : BitVec 32 := Scalar.addi v346 v119
  let c0_i32_280 : BitVec 32 := 0#32
  ![0, v347.toNat, 0]
def k0_off236 (k0_t19 : Fin k0_t19_loop.trips) : Fin 1 → Nat :=
  let c64_i32 : BitVec 32 := 64#32
  let c0_i32_128 : BitVec 32 := 0#32
  let c1_i32_129 : BitVec 32 := 1#32
  let arg18 : BitVec 32 := Scf.iv c0_i32_128 c1_i32_129 k0_t19
  let c4_i32_266 : BitVec 32 := 4#32
  let v348 : BitVec 32 := Scalar.muli arg18 c4_i32_266
  let v349 : BitVec 32 := Scalar.addi c64_i32 v348
  let c1_i32_278 : BitVec 32 := 1#32
  let v365 : BitVec 32 := Scalar.addi v349 c1_i32_278
  let v368 : Index := Scalar.indexCast v365
  ![v368.toNat]
def k0_mult42 (v369 : BitVec 32) : BitVec 32 :=
  let c16_i32_281 : BitVec 32 := 16#32
  let v370 : BitVec 32 := Scalar.muli v369 c16_i32_281
  v370

def k0_off237 (k0_t18 : Fin k0_t18_loop.trips) : Fin 2 → Nat :=
  let c0_i32_82 : BitVec 32 := 0#32
  let c1_i32_84 : BitVec 32 := 1#32
  let arg17 : BitVec 32 := Scf.iv c0_i32_82 c1_i32_84 k0_t18
  let c2_i32_109 : BitVec 32 := 2#32
  let v118 : BitVec 32 := Scalar.muli arg17 c2_i32_109
  let c0_i32_110 : BitVec 32 := 0#32
  let v119 : BitVec 32 := Scalar.addi v118 c0_i32_110
  let c128_i32_267 : BitVec 32 := 128#32
  let v350 : BitVec 32 := Scalar.muli v119 c128_i32_267
  let c17_i32_268 : BitVec 32 := 17#32
  let v351 : BitVec 32 := Scalar.muli v350 c17_i32_268
  let c0_i32_284 : BitVec 32 := 0#32
  ![v351.toNat, 0]
def k0_off238 (k0_t19 : Fin k0_t19_loop.trips) : Fin 2 → Nat :=
  let c64_i32 : BitVec 32 := 64#32
  let c0_i32_128 : BitVec 32 := 0#32
  let c1_i32_129 : BitVec 32 := 1#32
  let arg18 : BitVec 32 := Scf.iv c0_i32_128 c1_i32_129 k0_t19
  let c4_i32_266 : BitVec 32 := 4#32
  let v348 : BitVec 32 := Scalar.muli arg18 c4_i32_266
  let v349 : BitVec 32 := Scalar.addi c64_i32 v348
  let c1_i32_278 : BitVec 32 := 1#32
  let v365 : BitVec 32 := Scalar.addi v349 c1_i32_278
  let c17_i32_282 : BitVec 32 := 17#32
  let v372 : BitVec 32 := Scalar.muli v365 c17_i32_282
  let c0_i32_285 : BitVec 32 := 0#32
  ![v372.toNat, 0]
def k0_off239 (v369 : BitVec 32) : Fin 2 → Nat :=
  let c16_i32_281 : BitVec 32 := 16#32
  let v370 : BitVec 32 := Scalar.muli v369 c16_i32_281
  let v371 : BitVec 32 := v370
  let c0_i32_286 : BitVec 32 := 0#32
  ![v371.toNat, 0]

def k0_chk42 (v369 : BitVec 32) : Prop :=
  (16 ∣ (k0_mult42 v369).toNat) ∧
  (∀ a, (k0_off239 v369) a + S16x128.size a ≤ S262144x128.size a)
theorem k0_mult42_dvd : ∀ (v369 : BitVec 32) (k0_hw42 : k0_chk42 v369), 16 ∣ (k0_mult42 v369).toNat := fun v369 k0_hw42 => k0_hw42.1
theorem k0_off239_inb : ∀ (v369 : BitVec 32) (k0_hw42 : k0_chk42 v369), ∀ a, (k0_off239 v369) a + S16x128.size a ≤ S262144x128.size a := fun v369 k0_hw42 => k0_hw42.2

def k0_off240 (k0_t5 : Fin k0_t5_loop.trips) (k0_t18 : Fin k0_t18_loop.trips) : Fin 3 → Nat :=
  let c0_i32_288 : BitVec 32 := 0#32
  let c0_i32_2 : BitVec 32 := 0#32
  let c1_i32 : BitVec 32 := 1#32
  let arg16 : BitVec 32 := Scf.iv c0_i32_2 c1_i32 k0_t5
  let c4_i32_63 : BitVec 32 := 4#32
  let v74 : BitVec 32 := Scalar.muli arg16 c4_i32_63
  let c2_i32 : BitVec 32 := 2#32
  let v75 : BitVec 32 := Scalar.addi v74 c2_i32
  let c3_i32_264 : BitVec 32 := 3#32
  let v345 : BitVec 32 := Scalar.addi v75 c3_i32_264
  let c8_i32_265 : BitVec 32 := 8#32
  let v346 : BitVec 32 := Scalar.muli v345 c8_i32_265
  let c0_i32_82 : BitVec 32 := 0#32
  let c1_i32_84 : BitVec 32 := 1#32
  let arg17 : BitVec 32 := Scf.iv c0_i32_82 c1_i32_84 k0_t18
  let c2_i32_109 : BitVec 32 := 2#32
  let v118 : BitVec 32 := Scalar.muli arg17 c2_i32_109
  let c0_i32_110 : BitVec 32 := 0#32
  let v119 : BitVec 32 := Scalar.addi v118 c0_i32_110
  let v347 : BitVec 32 := Scalar.addi v346 v119
  let c0_i32_289 : BitVec 32 := 0#32
  ![0, v347.toNat, 0]
def k0_off241 (k0_t19 : Fin k0_t19_loop.trips) : Fin 1 → Nat :=
  let c64_i32 : BitVec 32 := 64#32
  let c0_i32_128 : BitVec 32 := 0#32
  let c1_i32_129 : BitVec 32 := 1#32
  let arg18 : BitVec 32 := Scf.iv c0_i32_128 c1_i32_129 k0_t19
  let c4_i32_266 : BitVec 32 := 4#32
  let v348 : BitVec 32 := Scalar.muli arg18 c4_i32_266
  let v349 : BitVec 32 := Scalar.addi c64_i32 v348
  let c2_i32_287 : BitVec 32 := 2#32
  let v378 : BitVec 32 := Scalar.addi v349 c2_i32_287
  let v381 : Index := Scalar.indexCast v378
  ![v381.toNat]
def k0_mult43 (v382 : BitVec 32) : BitVec 32 :=
  let c16_i32_290 : BitVec 32 := 16#32
  let v383 : BitVec 32 := Scalar.muli v382 c16_i32_290
  v383

def k0_off242 (k0_t18 : Fin k0_t18_loop.trips) : Fin 2 → Nat :=
  let c0_i32_82 : BitVec 32 := 0#32
  let c1_i32_84 : BitVec 32 := 1#32
  let arg17 : BitVec 32 := Scf.iv c0_i32_82 c1_i32_84 k0_t18
  let c2_i32_109 : BitVec 32 := 2#32
  let v118 : BitVec 32 := Scalar.muli arg17 c2_i32_109
  let c0_i32_110 : BitVec 32 := 0#32
  let v119 : BitVec 32 := Scalar.addi v118 c0_i32_110
  let c128_i32_267 : BitVec 32 := 128#32
  let v350 : BitVec 32 := Scalar.muli v119 c128_i32_267
  let c17_i32_268 : BitVec 32 := 17#32
  let v351 : BitVec 32 := Scalar.muli v350 c17_i32_268
  let c0_i32_293 : BitVec 32 := 0#32
  ![v351.toNat, 0]
def k0_off243 (k0_t19 : Fin k0_t19_loop.trips) : Fin 2 → Nat :=
  let c64_i32 : BitVec 32 := 64#32
  let c0_i32_128 : BitVec 32 := 0#32
  let c1_i32_129 : BitVec 32 := 1#32
  let arg18 : BitVec 32 := Scf.iv c0_i32_128 c1_i32_129 k0_t19
  let c4_i32_266 : BitVec 32 := 4#32
  let v348 : BitVec 32 := Scalar.muli arg18 c4_i32_266
  let v349 : BitVec 32 := Scalar.addi c64_i32 v348
  let c2_i32_287 : BitVec 32 := 2#32
  let v378 : BitVec 32 := Scalar.addi v349 c2_i32_287
  let c17_i32_291 : BitVec 32 := 17#32
  let v385 : BitVec 32 := Scalar.muli v378 c17_i32_291
  let c0_i32_294 : BitVec 32 := 0#32
  ![v385.toNat, 0]
def k0_off244 (v382 : BitVec 32) : Fin 2 → Nat :=
  let c16_i32_290 : BitVec 32 := 16#32
  let v383 : BitVec 32 := Scalar.muli v382 c16_i32_290
  let v384 : BitVec 32 := v383
  let c0_i32_295 : BitVec 32 := 0#32
  ![v384.toNat, 0]

def k0_chk43 (v382 : BitVec 32) : Prop :=
  (16 ∣ (k0_mult43 v382).toNat) ∧
  (∀ a, (k0_off244 v382) a + S16x128.size a ≤ S262144x128.size a)
theorem k0_mult43_dvd : ∀ (v382 : BitVec 32) (k0_hw43 : k0_chk43 v382), 16 ∣ (k0_mult43 v382).toNat := fun v382 k0_hw43 => k0_hw43.1
theorem k0_off244_inb : ∀ (v382 : BitVec 32) (k0_hw43 : k0_chk43 v382), ∀ a, (k0_off244 v382) a + S16x128.size a ≤ S262144x128.size a := fun v382 k0_hw43 => k0_hw43.2

def k0_off245 (k0_t5 : Fin k0_t5_loop.trips) (k0_t18 : Fin k0_t18_loop.trips) : Fin 3 → Nat :=
  let c0_i32_297 : BitVec 32 := 0#32
  let c0_i32_2 : BitVec 32 := 0#32
  let c1_i32 : BitVec 32 := 1#32
  let arg16 : BitVec 32 := Scf.iv c0_i32_2 c1_i32 k0_t5
  let c4_i32_63 : BitVec 32 := 4#32
  let v74 : BitVec 32 := Scalar.muli arg16 c4_i32_63
  let c2_i32 : BitVec 32 := 2#32
  let v75 : BitVec 32 := Scalar.addi v74 c2_i32
  let c3_i32_264 : BitVec 32 := 3#32
  let v345 : BitVec 32 := Scalar.addi v75 c3_i32_264
  let c8_i32_265 : BitVec 32 := 8#32
  let v346 : BitVec 32 := Scalar.muli v345 c8_i32_265
  let c0_i32_82 : BitVec 32 := 0#32
  let c1_i32_84 : BitVec 32 := 1#32
  let arg17 : BitVec 32 := Scf.iv c0_i32_82 c1_i32_84 k0_t18
  let c2_i32_109 : BitVec 32 := 2#32
  let v118 : BitVec 32 := Scalar.muli arg17 c2_i32_109
  let c0_i32_110 : BitVec 32 := 0#32
  let v119 : BitVec 32 := Scalar.addi v118 c0_i32_110
  let v347 : BitVec 32 := Scalar.addi v346 v119
  let c0_i32_298 : BitVec 32 := 0#32
  ![0, v347.toNat, 0]
def k0_off246 (k0_t19 : Fin k0_t19_loop.trips) : Fin 1 → Nat :=
  let c64_i32 : BitVec 32 := 64#32
  let c0_i32_128 : BitVec 32 := 0#32
  let c1_i32_129 : BitVec 32 := 1#32
  let arg18 : BitVec 32 := Scf.iv c0_i32_128 c1_i32_129 k0_t19
  let c4_i32_266 : BitVec 32 := 4#32
  let v348 : BitVec 32 := Scalar.muli arg18 c4_i32_266
  let v349 : BitVec 32 := Scalar.addi c64_i32 v348
  let c3_i32_296 : BitVec 32 := 3#32
  let v391 : BitVec 32 := Scalar.addi v349 c3_i32_296
  let v394 : Index := Scalar.indexCast v391
  ![v394.toNat]
def k0_mult44 (v395 : BitVec 32) : BitVec 32 :=
  let c16_i32_299 : BitVec 32 := 16#32
  let v396 : BitVec 32 := Scalar.muli v395 c16_i32_299
  v396

def k0_off247 (k0_t18 : Fin k0_t18_loop.trips) : Fin 2 → Nat :=
  let c0_i32_82 : BitVec 32 := 0#32
  let c1_i32_84 : BitVec 32 := 1#32
  let arg17 : BitVec 32 := Scf.iv c0_i32_82 c1_i32_84 k0_t18
  let c2_i32_109 : BitVec 32 := 2#32
  let v118 : BitVec 32 := Scalar.muli arg17 c2_i32_109
  let c0_i32_110 : BitVec 32 := 0#32
  let v119 : BitVec 32 := Scalar.addi v118 c0_i32_110
  let c128_i32_267 : BitVec 32 := 128#32
  let v350 : BitVec 32 := Scalar.muli v119 c128_i32_267
  let c17_i32_268 : BitVec 32 := 17#32
  let v351 : BitVec 32 := Scalar.muli v350 c17_i32_268
  let c0_i32_302 : BitVec 32 := 0#32
  ![v351.toNat, 0]
def k0_off248 (k0_t19 : Fin k0_t19_loop.trips) : Fin 2 → Nat :=
  let c64_i32 : BitVec 32 := 64#32
  let c0_i32_128 : BitVec 32 := 0#32
  let c1_i32_129 : BitVec 32 := 1#32
  let arg18 : BitVec 32 := Scf.iv c0_i32_128 c1_i32_129 k0_t19
  let c4_i32_266 : BitVec 32 := 4#32
  let v348 : BitVec 32 := Scalar.muli arg18 c4_i32_266
  let v349 : BitVec 32 := Scalar.addi c64_i32 v348
  let c3_i32_296 : BitVec 32 := 3#32
  let v391 : BitVec 32 := Scalar.addi v349 c3_i32_296
  let c17_i32_300 : BitVec 32 := 17#32
  let v398 : BitVec 32 := Scalar.muli v391 c17_i32_300
  let c0_i32_303 : BitVec 32 := 0#32
  ![v398.toNat, 0]
def k0_off249 (v395 : BitVec 32) : Fin 2 → Nat :=
  let c16_i32_299 : BitVec 32 := 16#32
  let v396 : BitVec 32 := Scalar.muli v395 c16_i32_299
  let v397 : BitVec 32 := v396
  let c0_i32_304 : BitVec 32 := 0#32
  ![v397.toNat, 0]

def k0_chk44 (v395 : BitVec 32) : Prop :=
  (16 ∣ (k0_mult44 v395).toNat) ∧
  (∀ a, (k0_off249 v395) a + S16x128.size a ≤ S262144x128.size a)
theorem k0_mult44_dvd : ∀ (v395 : BitVec 32) (k0_hw44 : k0_chk44 v395), 16 ∣ (k0_mult44 v395).toNat := fun v395 k0_hw44 => k0_hw44.1
theorem k0_off249_inb : ∀ (v395 : BitVec 32) (k0_hw44 : k0_chk44 v395), ∀ a, (k0_off249 v395) a + S16x128.size a ≤ S262144x128.size a := fun v395 k0_hw44 => k0_hw44.2

def k0_off250 (k0_t5 : Fin k0_t5_loop.trips) (k0_t18 : Fin k0_t18_loop.trips) (c0_i32_110 : BitVec 32) : Fin 2 → Nat :=
  let c0_i32_2 : BitVec 32 := 0#32
  let c1_i32 : BitVec 32 := 1#32
  let arg16 : BitVec 32 := Scf.iv c0_i32_2 c1_i32 k0_t5
  let c4_i32_63 : BitVec 32 := 4#32
  let v74 : BitVec 32 := Scalar.muli arg16 c4_i32_63
  let c2_i32 : BitVec 32 := 2#32
  let v75 : BitVec 32 := Scalar.addi v74 c2_i32
  let c8_i32_111 : BitVec 32 := 8#32
  let v120 : BitVec 32 := Scalar.muli v75 c8_i32_111
  let c0_i32_82 : BitVec 32 := 0#32
  let c1_i32_84 : BitVec 32 := 1#32
  let arg17 : BitVec 32 := Scf.iv c0_i32_82 c1_i32_84 k0_t18
  let c2_i32_109 : BitVec 32 := 2#32
  let v118 : BitVec 32 := Scalar.muli arg17 c2_i32_109
  let v119 : BitVec 32 := Scalar.addi v118 c0_i32_110
  let v121 : BitVec 32 := Scalar.addi v120 v119
  let v175 : Index := Scalar.indexCast v121
  let c0_147 : Index := 0#32
  ![v175.toNat, 0]
@[reducible] def k0_t20_loop : Scf.Loop 32 :=
  let c0_i32_169 : BitVec 32 := 0#32
  let c16_i32_170 : BitVec 32 := 16#32
  let v201 : BitVec 32 := Scalar.addi c0_i32_169 c16_i32_170
  let c1_i32_171 : BitVec 32 := 1#32
  ⟨c0_i32_169, v201, c1_i32_171⟩
def k0_off251 (k0_t20 : Fin k0_t20_loop.trips) : Fin 2 → Nat :=
  let c0_i32_169 : BitVec 32 := 0#32
  let c1_i32_171 : BitVec 32 := 1#32
  let arg18 : BitVec 32 := Scf.iv c0_i32_169 c1_i32_171 k0_t20
  let c8_i32_190 : BitVec 32 := 8#32
  let v242 : BitVec 32 := Scalar.muli arg18 c8_i32_190
  let v243 : Index := Scalar.indexCast v242
  let c0_191 : Index := 0#32
  ![v243.toNat, 0]
def k0_off252 (k0_t18 : Fin k0_t18_loop.trips) : Fin 2 → Nat :=
  let c0_i32_82 : BitVec 32 := 0#32
  let c1_i32_84 : BitVec 32 := 1#32
  let arg17 : BitVec 32 := Scf.iv c0_i32_82 c1_i32_84 k0_t18
  let c2_i32_148 : BitVec 32 := 2#32
  let v179 : BitVec 32 := Scalar.muli arg17 c2_i32_148
  let c1_i32_149 : BitVec 32 := 1#32
  let v180 : BitVec 32 := Scalar.addi v179 c1_i32_149
  let c128_i32_151 : BitVec 32 := 128#32
  let v183 : BitVec 32 := Scalar.muli v180 c128_i32_151
  let c17_i32_152 : BitVec 32 := 17#32
  let v184 : BitVec 32 := Scalar.muli v183 c17_i32_152
  let c0_i32_197 : BitVec 32 := 0#32
  ![v184.toNat, 0]
def k0_off253 (k0_t20 : Fin k0_t20_loop.trips) (c0_i32_196 : BitVec 32) : Fin 2 → Nat :=
  let c0_i32_169 : BitVec 32 := 0#32
  let c1_i32_171 : BitVec 32 := 1#32
  let arg18 : BitVec 32 := Scf.iv c0_i32_169 c1_i32_171 k0_t20
  let c8_i32_194 : BitVec 32 := 8#32
  let v249 : BitVec 32 := Scalar.muli arg18 c8_i32_194
  let c17_i32_195 : BitVec 32 := 17#32
  let v250 : BitVec 32 := Scalar.muli v249 c17_i32_195
  let v251 : BitVec 32 := Scalar.addi v250 c0_i32_196
  let v253 : Index := Scalar.indexCast v251
  let c0_198 : Index := 0#32
  ![v253.toNat, 0]
def k0_off254 (k0_t5 : Fin k0_t5_loop.trips) (k0_t18 : Fin k0_t18_loop.trips) : Fin 3 → Nat :=
  let c0_i32_270 : BitVec 32 := 0#32
  let c0_i32_2 : BitVec 32 := 0#32
  let c1_i32 : BitVec 32 := 1#32
  let arg16 : BitVec 32 := Scf.iv c0_i32_2 c1_i32 k0_t5
  let c4_i32_63 : BitVec 32 := 4#32
  let v74 : BitVec 32 := Scalar.muli arg16 c4_i32_63
  let c2_i32 : BitVec 32 := 2#32
  let v75 : BitVec 32 := Scalar.addi v74 c2_i32
  let c3_i32_264 : BitVec 32 := 3#32
  let v345 : BitVec 32 := Scalar.addi v75 c3_i32_264
  let c8_i32_265 : BitVec 32 := 8#32
  let v346 : BitVec 32 := Scalar.muli v345 c8_i32_265
  let c0_i32_82 : BitVec 32 := 0#32
  let c1_i32_84 : BitVec 32 := 1#32
  let arg17 : BitVec 32 := Scf.iv c0_i32_82 c1_i32_84 k0_t18
  let c2_i32_148 : BitVec 32 := 2#32
  let v179 : BitVec 32 := Scalar.muli arg17 c2_i32_148
  let c1_i32_149 : BitVec 32 := 1#32
  let v180 : BitVec 32 := Scalar.addi v179 c1_i32_149
  let v347 : BitVec 32 := Scalar.addi v346 v180
  let c0_i32_271 : BitVec 32 := 0#32
  ![0, v347.toNat, 0]
def k0_off255 (k0_t20 : Fin k0_t20_loop.trips) : Fin 1 → Nat :=
  let c64_i32 : BitVec 32 := 64#32
  let c0_i32_169 : BitVec 32 := 0#32
  let c1_i32_171 : BitVec 32 := 1#32
  let arg18 : BitVec 32 := Scf.iv c0_i32_169 c1_i32_171 k0_t20
  let c4_i32_266 : BitVec 32 := 4#32
  let v348 : BitVec 32 := Scalar.muli arg18 c4_i32_266
  let v349 : BitVec 32 := Scalar.addi c64_i32 v348
  let c0_i32_269 : BitVec 32 := 0#32
  let v352 : BitVec 32 := Scalar.addi v349 c0_i32_269
  let v355 : Index := Scalar.indexCast v352
  ![v355.toNat]
def k0_mult45 (v356 : BitVec 32) : BitVec 32 :=
  let c16_i32_272 : BitVec 32 := 16#32
  let v357 : BitVec 32 := Scalar.muli v356 c16_i32_272
  v357

def k0_off256 (k0_t18 : Fin k0_t18_loop.trips) : Fin 2 → Nat :=
  let c0_i32_82 : BitVec 32 := 0#32
  let c1_i32_84 : BitVec 32 := 1#32
  let arg17 : BitVec 32 := Scf.iv c0_i32_82 c1_i32_84 k0_t18
  let c2_i32_148 : BitVec 32 := 2#32
  let v179 : BitVec 32 := Scalar.muli arg17 c2_i32_148
  let c1_i32_149 : BitVec 32 := 1#32
  let v180 : BitVec 32 := Scalar.addi v179 c1_i32_149
  let c128_i32_267 : BitVec 32 := 128#32
  let v350 : BitVec 32 := Scalar.muli v180 c128_i32_267
  let c17_i32_268 : BitVec 32 := 17#32
  let v351 : BitVec 32 := Scalar.muli v350 c17_i32_268
  let c0_i32_275 : BitVec 32 := 0#32
  ![v351.toNat, 0]
def k0_off257 (k0_t20 : Fin k0_t20_loop.trips) : Fin 2 → Nat :=
  let c64_i32 : BitVec 32 := 64#32
  let c0_i32_169 : BitVec 32 := 0#32
  let c1_i32_171 : BitVec 32 := 1#32
  let arg18 : BitVec 32 := Scf.iv c0_i32_169 c1_i32_171 k0_t20
  let c4_i32_266 : BitVec 32 := 4#32
  let v348 : BitVec 32 := Scalar.muli arg18 c4_i32_266
  let v349 : BitVec 32 := Scalar.addi c64_i32 v348
  let c0_i32_269 : BitVec 32 := 0#32
  let v352 : BitVec 32 := Scalar.addi v349 c0_i32_269
  let c17_i32_273 : BitVec 32 := 17#32
  let v359 : BitVec 32 := Scalar.muli v352 c17_i32_273
  let c0_i32_276 : BitVec 32 := 0#32
  ![v359.toNat, 0]
def k0_off258 (v356 : BitVec 32) : Fin 2 → Nat :=
  let c16_i32_272 : BitVec 32 := 16#32
  let v357 : BitVec 32 := Scalar.muli v356 c16_i32_272
  let v358 : BitVec 32 := v357
  let c0_i32_277 : BitVec 32 := 0#32
  ![v358.toNat, 0]

def k0_chk45 (v356 : BitVec 32) : Prop :=
  (16 ∣ (k0_mult45 v356).toNat) ∧
  (∀ a, (k0_off258 v356) a + S16x128.size a ≤ S262144x128.size a)
theorem k0_mult45_dvd : ∀ (v356 : BitVec 32) (k0_hw45 : k0_chk45 v356), 16 ∣ (k0_mult45 v356).toNat := fun v356 k0_hw45 => k0_hw45.1
theorem k0_off258_inb : ∀ (v356 : BitVec 32) (k0_hw45 : k0_chk45 v356), ∀ a, (k0_off258 v356) a + S16x128.size a ≤ S262144x128.size a := fun v356 k0_hw45 => k0_hw45.2

def k0_off259 (k0_t5 : Fin k0_t5_loop.trips) (k0_t18 : Fin k0_t18_loop.trips) : Fin 3 → Nat :=
  let c0_i32_279 : BitVec 32 := 0#32
  let c0_i32_2 : BitVec 32 := 0#32
  let c1_i32 : BitVec 32 := 1#32
  let arg16 : BitVec 32 := Scf.iv c0_i32_2 c1_i32 k0_t5
  let c4_i32_63 : BitVec 32 := 4#32
  let v74 : BitVec 32 := Scalar.muli arg16 c4_i32_63
  let c2_i32 : BitVec 32 := 2#32
  let v75 : BitVec 32 := Scalar.addi v74 c2_i32
  let c3_i32_264 : BitVec 32 := 3#32
  let v345 : BitVec 32 := Scalar.addi v75 c3_i32_264
  let c8_i32_265 : BitVec 32 := 8#32
  let v346 : BitVec 32 := Scalar.muli v345 c8_i32_265
  let c0_i32_82 : BitVec 32 := 0#32
  let c1_i32_84 : BitVec 32 := 1#32
  let arg17 : BitVec 32 := Scf.iv c0_i32_82 c1_i32_84 k0_t18
  let c2_i32_148 : BitVec 32 := 2#32
  let v179 : BitVec 32 := Scalar.muli arg17 c2_i32_148
  let c1_i32_149 : BitVec 32 := 1#32
  let v180 : BitVec 32 := Scalar.addi v179 c1_i32_149
  let v347 : BitVec 32 := Scalar.addi v346 v180
  let c0_i32_280 : BitVec 32 := 0#32
  ![0, v347.toNat, 0]
def k0_off260 (k0_t20 : Fin k0_t20_loop.trips) : Fin 1 → Nat :=
  let c64_i32 : BitVec 32 := 64#32
  let c0_i32_169 : BitVec 32 := 0#32
  let c1_i32_171 : BitVec 32 := 1#32
  let arg18 : BitVec 32 := Scf.iv c0_i32_169 c1_i32_171 k0_t20
  let c4_i32_266 : BitVec 32 := 4#32
  let v348 : BitVec 32 := Scalar.muli arg18 c4_i32_266
  let v349 : BitVec 32 := Scalar.addi c64_i32 v348
  let c1_i32_278 : BitVec 32 := 1#32
  let v365 : BitVec 32 := Scalar.addi v349 c1_i32_278
  let v368 : Index := Scalar.indexCast v365
  ![v368.toNat]
def k0_mult46 (v369 : BitVec 32) : BitVec 32 :=
  let c16_i32_281 : BitVec 32 := 16#32
  let v370 : BitVec 32 := Scalar.muli v369 c16_i32_281
  v370

def k0_off261 (k0_t18 : Fin k0_t18_loop.trips) : Fin 2 → Nat :=
  let c0_i32_82 : BitVec 32 := 0#32
  let c1_i32_84 : BitVec 32 := 1#32
  let arg17 : BitVec 32 := Scf.iv c0_i32_82 c1_i32_84 k0_t18
  let c2_i32_148 : BitVec 32 := 2#32
  let v179 : BitVec 32 := Scalar.muli arg17 c2_i32_148
  let c1_i32_149 : BitVec 32 := 1#32
  let v180 : BitVec 32 := Scalar.addi v179 c1_i32_149
  let c128_i32_267 : BitVec 32 := 128#32
  let v350 : BitVec 32 := Scalar.muli v180 c128_i32_267
  let c17_i32_268 : BitVec 32 := 17#32
  let v351 : BitVec 32 := Scalar.muli v350 c17_i32_268
  let c0_i32_284 : BitVec 32 := 0#32
  ![v351.toNat, 0]
def k0_off262 (k0_t20 : Fin k0_t20_loop.trips) : Fin 2 → Nat :=
  let c64_i32 : BitVec 32 := 64#32
  let c0_i32_169 : BitVec 32 := 0#32
  let c1_i32_171 : BitVec 32 := 1#32
  let arg18 : BitVec 32 := Scf.iv c0_i32_169 c1_i32_171 k0_t20
  let c4_i32_266 : BitVec 32 := 4#32
  let v348 : BitVec 32 := Scalar.muli arg18 c4_i32_266
  let v349 : BitVec 32 := Scalar.addi c64_i32 v348
  let c1_i32_278 : BitVec 32 := 1#32
  let v365 : BitVec 32 := Scalar.addi v349 c1_i32_278
  let c17_i32_282 : BitVec 32 := 17#32
  let v372 : BitVec 32 := Scalar.muli v365 c17_i32_282
  let c0_i32_285 : BitVec 32 := 0#32
  ![v372.toNat, 0]
def k0_off263 (v369 : BitVec 32) : Fin 2 → Nat :=
  let c16_i32_281 : BitVec 32 := 16#32
  let v370 : BitVec 32 := Scalar.muli v369 c16_i32_281
  let v371 : BitVec 32 := v370
  let c0_i32_286 : BitVec 32 := 0#32
  ![v371.toNat, 0]

def k0_chk46 (v369 : BitVec 32) : Prop :=
  (16 ∣ (k0_mult46 v369).toNat) ∧
  (∀ a, (k0_off263 v369) a + S16x128.size a ≤ S262144x128.size a)
theorem k0_mult46_dvd : ∀ (v369 : BitVec 32) (k0_hw46 : k0_chk46 v369), 16 ∣ (k0_mult46 v369).toNat := fun v369 k0_hw46 => k0_hw46.1
theorem k0_off263_inb : ∀ (v369 : BitVec 32) (k0_hw46 : k0_chk46 v369), ∀ a, (k0_off263 v369) a + S16x128.size a ≤ S262144x128.size a := fun v369 k0_hw46 => k0_hw46.2

def k0_off264 (k0_t5 : Fin k0_t5_loop.trips) (k0_t18 : Fin k0_t18_loop.trips) : Fin 3 → Nat :=
  let c0_i32_288 : BitVec 32 := 0#32
  let c0_i32_2 : BitVec 32 := 0#32
  let c1_i32 : BitVec 32 := 1#32
  let arg16 : BitVec 32 := Scf.iv c0_i32_2 c1_i32 k0_t5
  let c4_i32_63 : BitVec 32 := 4#32
  let v74 : BitVec 32 := Scalar.muli arg16 c4_i32_63
  let c2_i32 : BitVec 32 := 2#32
  let v75 : BitVec 32 := Scalar.addi v74 c2_i32
  let c3_i32_264 : BitVec 32 := 3#32
  let v345 : BitVec 32 := Scalar.addi v75 c3_i32_264
  let c8_i32_265 : BitVec 32 := 8#32
  let v346 : BitVec 32 := Scalar.muli v345 c8_i32_265
  let c0_i32_82 : BitVec 32 := 0#32
  let c1_i32_84 : BitVec 32 := 1#32
  let arg17 : BitVec 32 := Scf.iv c0_i32_82 c1_i32_84 k0_t18
  let c2_i32_148 : BitVec 32 := 2#32
  let v179 : BitVec 32 := Scalar.muli arg17 c2_i32_148
  let c1_i32_149 : BitVec 32 := 1#32
  let v180 : BitVec 32 := Scalar.addi v179 c1_i32_149
  let v347 : BitVec 32 := Scalar.addi v346 v180
  let c0_i32_289 : BitVec 32 := 0#32
  ![0, v347.toNat, 0]
def k0_off265 (k0_t20 : Fin k0_t20_loop.trips) : Fin 1 → Nat :=
  let c64_i32 : BitVec 32 := 64#32
  let c0_i32_169 : BitVec 32 := 0#32
  let c1_i32_171 : BitVec 32 := 1#32
  let arg18 : BitVec 32 := Scf.iv c0_i32_169 c1_i32_171 k0_t20
  let c4_i32_266 : BitVec 32 := 4#32
  let v348 : BitVec 32 := Scalar.muli arg18 c4_i32_266
  let v349 : BitVec 32 := Scalar.addi c64_i32 v348
  let c2_i32_287 : BitVec 32 := 2#32
  let v378 : BitVec 32 := Scalar.addi v349 c2_i32_287
  let v381 : Index := Scalar.indexCast v378
  ![v381.toNat]
def k0_mult47 (v382 : BitVec 32) : BitVec 32 :=
  let c16_i32_290 : BitVec 32 := 16#32
  let v383 : BitVec 32 := Scalar.muli v382 c16_i32_290
  v383

def k0_off266 (k0_t18 : Fin k0_t18_loop.trips) : Fin 2 → Nat :=
  let c0_i32_82 : BitVec 32 := 0#32
  let c1_i32_84 : BitVec 32 := 1#32
  let arg17 : BitVec 32 := Scf.iv c0_i32_82 c1_i32_84 k0_t18
  let c2_i32_148 : BitVec 32 := 2#32
  let v179 : BitVec 32 := Scalar.muli arg17 c2_i32_148
  let c1_i32_149 : BitVec 32 := 1#32
  let v180 : BitVec 32 := Scalar.addi v179 c1_i32_149
  let c128_i32_267 : BitVec 32 := 128#32
  let v350 : BitVec 32 := Scalar.muli v180 c128_i32_267
  let c17_i32_268 : BitVec 32 := 17#32
  let v351 : BitVec 32 := Scalar.muli v350 c17_i32_268
  let c0_i32_293 : BitVec 32 := 0#32
  ![v351.toNat, 0]
def k0_off267 (k0_t20 : Fin k0_t20_loop.trips) : Fin 2 → Nat :=
  let c64_i32 : BitVec 32 := 64#32
  let c0_i32_169 : BitVec 32 := 0#32
  let c1_i32_171 : BitVec 32 := 1#32
  let arg18 : BitVec 32 := Scf.iv c0_i32_169 c1_i32_171 k0_t20
  let c4_i32_266 : BitVec 32 := 4#32
  let v348 : BitVec 32 := Scalar.muli arg18 c4_i32_266
  let v349 : BitVec 32 := Scalar.addi c64_i32 v348
  let c2_i32_287 : BitVec 32 := 2#32
  let v378 : BitVec 32 := Scalar.addi v349 c2_i32_287
  let c17_i32_291 : BitVec 32 := 17#32
  let v385 : BitVec 32 := Scalar.muli v378 c17_i32_291
  let c0_i32_294 : BitVec 32 := 0#32
  ![v385.toNat, 0]
def k0_off268 (v382 : BitVec 32) : Fin 2 → Nat :=
  let c16_i32_290 : BitVec 32 := 16#32
  let v383 : BitVec 32 := Scalar.muli v382 c16_i32_290
  let v384 : BitVec 32 := v383
  let c0_i32_295 : BitVec 32 := 0#32
  ![v384.toNat, 0]

def k0_chk47 (v382 : BitVec 32) : Prop :=
  (16 ∣ (k0_mult47 v382).toNat) ∧
  (∀ a, (k0_off268 v382) a + S16x128.size a ≤ S262144x128.size a)
theorem k0_mult47_dvd : ∀ (v382 : BitVec 32) (k0_hw47 : k0_chk47 v382), 16 ∣ (k0_mult47 v382).toNat := fun v382 k0_hw47 => k0_hw47.1
theorem k0_off268_inb : ∀ (v382 : BitVec 32) (k0_hw47 : k0_chk47 v382), ∀ a, (k0_off268 v382) a + S16x128.size a ≤ S262144x128.size a := fun v382 k0_hw47 => k0_hw47.2

def k0_off269 (k0_t5 : Fin k0_t5_loop.trips) (k0_t18 : Fin k0_t18_loop.trips) : Fin 3 → Nat :=
  let c0_i32_297 : BitVec 32 := 0#32
  let c0_i32_2 : BitVec 32 := 0#32
  let c1_i32 : BitVec 32 := 1#32
  let arg16 : BitVec 32 := Scf.iv c0_i32_2 c1_i32 k0_t5
  let c4_i32_63 : BitVec 32 := 4#32
  let v74 : BitVec 32 := Scalar.muli arg16 c4_i32_63
  let c2_i32 : BitVec 32 := 2#32
  let v75 : BitVec 32 := Scalar.addi v74 c2_i32
  let c3_i32_264 : BitVec 32 := 3#32
  let v345 : BitVec 32 := Scalar.addi v75 c3_i32_264
  let c8_i32_265 : BitVec 32 := 8#32
  let v346 : BitVec 32 := Scalar.muli v345 c8_i32_265
  let c0_i32_82 : BitVec 32 := 0#32
  let c1_i32_84 : BitVec 32 := 1#32
  let arg17 : BitVec 32 := Scf.iv c0_i32_82 c1_i32_84 k0_t18
  let c2_i32_148 : BitVec 32 := 2#32
  let v179 : BitVec 32 := Scalar.muli arg17 c2_i32_148
  let c1_i32_149 : BitVec 32 := 1#32
  let v180 : BitVec 32 := Scalar.addi v179 c1_i32_149
  let v347 : BitVec 32 := Scalar.addi v346 v180
  let c0_i32_298 : BitVec 32 := 0#32
  ![0, v347.toNat, 0]
def k0_off270 (k0_t20 : Fin k0_t20_loop.trips) : Fin 1 → Nat :=
  let c64_i32 : BitVec 32 := 64#32
  let c0_i32_169 : BitVec 32 := 0#32
  let c1_i32_171 : BitVec 32 := 1#32
  let arg18 : BitVec 32 := Scf.iv c0_i32_169 c1_i32_171 k0_t20
  let c4_i32_266 : BitVec 32 := 4#32
  let v348 : BitVec 32 := Scalar.muli arg18 c4_i32_266
  let v349 : BitVec 32 := Scalar.addi c64_i32 v348
  let c3_i32_296 : BitVec 32 := 3#32
  let v391 : BitVec 32 := Scalar.addi v349 c3_i32_296
  let v394 : Index := Scalar.indexCast v391
  ![v394.toNat]
def k0_mult48 (v395 : BitVec 32) : BitVec 32 :=
  let c16_i32_299 : BitVec 32 := 16#32
  let v396 : BitVec 32 := Scalar.muli v395 c16_i32_299
  v396

def k0_off271 (k0_t18 : Fin k0_t18_loop.trips) : Fin 2 → Nat :=
  let c0_i32_82 : BitVec 32 := 0#32
  let c1_i32_84 : BitVec 32 := 1#32
  let arg17 : BitVec 32 := Scf.iv c0_i32_82 c1_i32_84 k0_t18
  let c2_i32_148 : BitVec 32 := 2#32
  let v179 : BitVec 32 := Scalar.muli arg17 c2_i32_148
  let c1_i32_149 : BitVec 32 := 1#32
  let v180 : BitVec 32 := Scalar.addi v179 c1_i32_149
  let c128_i32_267 : BitVec 32 := 128#32
  let v350 : BitVec 32 := Scalar.muli v180 c128_i32_267
  let c17_i32_268 : BitVec 32 := 17#32
  let v351 : BitVec 32 := Scalar.muli v350 c17_i32_268
  let c0_i32_302 : BitVec 32 := 0#32
  ![v351.toNat, 0]
def k0_off272 (k0_t20 : Fin k0_t20_loop.trips) : Fin 2 → Nat :=
  let c64_i32 : BitVec 32 := 64#32
  let c0_i32_169 : BitVec 32 := 0#32
  let c1_i32_171 : BitVec 32 := 1#32
  let arg18 : BitVec 32 := Scf.iv c0_i32_169 c1_i32_171 k0_t20
  let c4_i32_266 : BitVec 32 := 4#32
  let v348 : BitVec 32 := Scalar.muli arg18 c4_i32_266
  let v349 : BitVec 32 := Scalar.addi c64_i32 v348
  let c3_i32_296 : BitVec 32 := 3#32
  let v391 : BitVec 32 := Scalar.addi v349 c3_i32_296
  let c17_i32_300 : BitVec 32 := 17#32
  let v398 : BitVec 32 := Scalar.muli v391 c17_i32_300
  let c0_i32_303 : BitVec 32 := 0#32
  ![v398.toNat, 0]
def k0_off273 (v395 : BitVec 32) : Fin 2 → Nat :=
  let c16_i32_299 : BitVec 32 := 16#32
  let v396 : BitVec 32 := Scalar.muli v395 c16_i32_299
  let v397 : BitVec 32 := v396
  let c0_i32_304 : BitVec 32 := 0#32
  ![v397.toNat, 0]

def k0_chk48 (v395 : BitVec 32) : Prop :=
  (16 ∣ (k0_mult48 v395).toNat) ∧
  (∀ a, (k0_off273 v395) a + S16x128.size a ≤ S262144x128.size a)
theorem k0_mult48_dvd : ∀ (v395 : BitVec 32) (k0_hw48 : k0_chk48 v395), 16 ∣ (k0_mult48 v395).toNat := fun v395 k0_hw48 => k0_hw48.1
theorem k0_off273_inb : ∀ (v395 : BitVec 32) (k0_hw48 : k0_chk48 v395), ∀ a, (k0_off273 v395) a + S16x128.size a ≤ S262144x128.size a := fun v395 k0_hw48 => k0_hw48.2

@[reducible] def k0_t21_loop : Scf.Loop 32 :=
  let c0_i32_92 : BitVec 32 := 0#32
  let c8_i32_93 : BitVec 32 := 8#32
  let v102 : BitVec 32 := Scalar.addi c0_i32_92 c8_i32_93
  let c1_i32_94 : BitVec 32 := 1#32
  ⟨c0_i32_92, v102, c1_i32_94⟩
def k0_off274 (k0_t5 : Fin k0_t5_loop.trips) (k0_t21 : Fin k0_t21_loop.trips) : Fin 2 → Nat :=
  let c0_i32_2 : BitVec 32 := 0#32
  let c1_i32 : BitVec 32 := 1#32
  let arg16 : BitVec 32 := Scf.iv c0_i32_2 c1_i32 k0_t5
  let c4_i32_86 : BitVec 32 := 4#32
  let v96 : BitVec 32 := Scalar.muli arg16 c4_i32_86
  let c3_i32 : BitVec 32 := 3#32
  let v97 : BitVec 32 := Scalar.addi v96 c3_i32
  let c8_i32_111 : BitVec 32 := 8#32
  let v120 : BitVec 32 := Scalar.muli v97 c8_i32_111
  let c0_i32_92 : BitVec 32 := 0#32
  let c1_i32_94 : BitVec 32 := 1#32
  let arg17 : BitVec 32 := Scf.iv c0_i32_92 c1_i32_94 k0_t21
  let c1_i32_109 : BitVec 32 := 1#32
  let v118 : BitVec 32 := Scalar.muli arg17 c1_i32_109
  let c0_i32_110 : BitVec 32 := 0#32
  let v119 : BitVec 32 := Scalar.addi v118 c0_i32_110
  let v121 : BitVec 32 := Scalar.addi v120 v119
  let v122 : Index := Scalar.indexCast v121
  let c0_112 : Index := 0#32
  ![v122.toNat, 0]
@[reducible] def k0_t22_loop : Scf.Loop 32 :=
  let c0_i32_113 : BitVec 32 := 0#32
  let c16_i32 : BitVec 32 := 16#32
  let v174 : BitVec 32 := Scalar.addi c0_i32_113 c16_i32
  let c1_i32_114 : BitVec 32 := 1#32
  ⟨c0_i32_113, v174, c1_i32_114⟩
def k0_off275 (k0_t21 : Fin k0_t21_loop.trips) : Fin 2 → Nat :=
  let c0_i32_92 : BitVec 32 := 0#32
  let c1_i32_94 : BitVec 32 := 1#32
  let arg17 : BitVec 32 := Scf.iv c0_i32_92 c1_i32_94 k0_t21
  let c1_i32_109 : BitVec 32 := 1#32
  let v118 : BitVec 32 := Scalar.muli arg17 c1_i32_109
  let c0_i32_110 : BitVec 32 := 0#32
  let v119 : BitVec 32 := Scalar.addi v118 c0_i32_110
  let c128_i32 : BitVec 32 := 128#32
  let v172 : BitVec 32 := Scalar.muli v119 c128_i32
  let c17_i32 : BitVec 32 := 17#32
  let v173 : BitVec 32 := Scalar.muli v172 c17_i32
  let c0_i32_119 : BitVec 32 := 0#32
  ![v173.toNat, 0]
def k0_off276 (k0_t22 : Fin k0_t22_loop.trips) (c0_i32_118 : BitVec 32) : Fin 2 → Nat :=
  let c0_i32_113 : BitVec 32 := 0#32
  let c1_i32_114 : BitVec 32 := 1#32
  let arg18 : BitVec 32 := Scf.iv c0_i32_113 c1_i32_114 k0_t22
  let c8_i32_116 : BitVec 32 := 8#32
  let v175 : BitVec 32 := Scalar.muli arg18 c8_i32_116
  let c17_i32_117 : BitVec 32 := 17#32
  let v176 : BitVec 32 := Scalar.muli v175 c17_i32_117
  let v177 : BitVec 32 := Scalar.addi v176 c0_i32_118
  let v179 : Index := Scalar.indexCast v177
  let c0_120 : Index := 0#32
  ![v179.toNat, 0]
def k0_off277 (k0_t5 : Fin k0_t5_loop.trips) (k0_t21 : Fin k0_t21_loop.trips) : Fin 3 → Nat :=
  let c0_i32_192 : BitVec 32 := 0#32
  let c0_i32_2 : BitVec 32 := 0#32
  let c1_i32 : BitVec 32 := 1#32
  let arg16 : BitVec 32 := Scf.iv c0_i32_2 c1_i32 k0_t5
  let c4_i32_86 : BitVec 32 := 4#32
  let v96 : BitVec 32 := Scalar.muli arg16 c4_i32_86
  let c3_i32 : BitVec 32 := 3#32
  let v97 : BitVec 32 := Scalar.addi v96 c3_i32
  let c3_i32_186 : BitVec 32 := 3#32
  let v271 : BitVec 32 := Scalar.addi v97 c3_i32_186
  let c8_i32_187 : BitVec 32 := 8#32
  let v272 : BitVec 32 := Scalar.muli v271 c8_i32_187
  let c0_i32_92 : BitVec 32 := 0#32
  let c1_i32_94 : BitVec 32 := 1#32
  let arg17 : BitVec 32 := Scf.iv c0_i32_92 c1_i32_94 k0_t21
  let c1_i32_109 : BitVec 32 := 1#32
  let v118 : BitVec 32 := Scalar.muli arg17 c1_i32_109
  let c0_i32_110 : BitVec 32 := 0#32
  let v119 : BitVec 32 := Scalar.addi v118 c0_i32_110
  let v273 : BitVec 32 := Scalar.addi v272 v119
  let c0_i32_193 : BitVec 32 := 0#32
  ![0, v273.toNat, 0]
def k0_off278 (k0_t22 : Fin k0_t22_loop.trips) : Fin 1 → Nat :=
  let c0_i32_113 : BitVec 32 := 0#32
  let c1_i32_114 : BitVec 32 := 1#32
  let arg18 : BitVec 32 := Scf.iv c0_i32_113 c1_i32_114 k0_t22
  let c4_i32_188 : BitVec 32 := 4#32
  let v274 : BitVec 32 := Scalar.muli arg18 c4_i32_188
  let c0_i32_191 : BitVec 32 := 0#32
  let v277 : BitVec 32 := Scalar.addi v274 c0_i32_191
  let v280 : Index := Scalar.indexCast v277
  ![v280.toNat]
def k0_mult49 (v281 : BitVec 32) : BitVec 32 :=
  let c16_i32_194 : BitVec 32 := 16#32
  let v282 : BitVec 32 := Scalar.muli v281 c16_i32_194
  v282

def k0_off279 (k0_t21 : Fin k0_t21_loop.trips) : Fin 2 → Nat :=
  let c0_i32_92 : BitVec 32 := 0#32
  let c1_i32_94 : BitVec 32 := 1#32
  let arg17 : BitVec 32 := Scf.iv c0_i32_92 c1_i32_94 k0_t21
  let c1_i32_109 : BitVec 32 := 1#32
  let v118 : BitVec 32 := Scalar.muli arg17 c1_i32_109
  let c0_i32_110 : BitVec 32 := 0#32
  let v119 : BitVec 32 := Scalar.addi v118 c0_i32_110
  let c128_i32_189 : BitVec 32 := 128#32
  let v275 : BitVec 32 := Scalar.muli v119 c128_i32_189
  let c17_i32_190 : BitVec 32 := 17#32
  let v276 : BitVec 32 := Scalar.muli v275 c17_i32_190
  let c0_i32_197 : BitVec 32 := 0#32
  ![v276.toNat, 0]
def k0_off280 (k0_t22 : Fin k0_t22_loop.trips) : Fin 2 → Nat :=
  let c0_i32_113 : BitVec 32 := 0#32
  let c1_i32_114 : BitVec 32 := 1#32
  let arg18 : BitVec 32 := Scf.iv c0_i32_113 c1_i32_114 k0_t22
  let c4_i32_188 : BitVec 32 := 4#32
  let v274 : BitVec 32 := Scalar.muli arg18 c4_i32_188
  let c0_i32_191 : BitVec 32 := 0#32
  let v277 : BitVec 32 := Scalar.addi v274 c0_i32_191
  let c17_i32_195 : BitVec 32 := 17#32
  let v284 : BitVec 32 := Scalar.muli v277 c17_i32_195
  let c0_i32_198 : BitVec 32 := 0#32
  ![v284.toNat, 0]
def k0_off281 (v281 : BitVec 32) : Fin 2 → Nat :=
  let c16_i32_194 : BitVec 32 := 16#32
  let v282 : BitVec 32 := Scalar.muli v281 c16_i32_194
  let v283 : BitVec 32 := v282
  let c0_i32_199 : BitVec 32 := 0#32
  ![v283.toNat, 0]

def k0_chk49 (v281 : BitVec 32) : Prop :=
  (16 ∣ (k0_mult49 v281).toNat) ∧
  (∀ a, (k0_off281 v281) a + S16x128.size a ≤ S262144x128.size a)
theorem k0_mult49_dvd : ∀ (v281 : BitVec 32) (k0_hw49 : k0_chk49 v281), 16 ∣ (k0_mult49 v281).toNat := fun v281 k0_hw49 => k0_hw49.1
theorem k0_off281_inb : ∀ (v281 : BitVec 32) (k0_hw49 : k0_chk49 v281), ∀ a, (k0_off281 v281) a + S16x128.size a ≤ S262144x128.size a := fun v281 k0_hw49 => k0_hw49.2

def k0_off282 (k0_t5 : Fin k0_t5_loop.trips) (k0_t21 : Fin k0_t21_loop.trips) : Fin 3 → Nat :=
  let c0_i32_201 : BitVec 32 := 0#32
  let c0_i32_2 : BitVec 32 := 0#32
  let c1_i32 : BitVec 32 := 1#32
  let arg16 : BitVec 32 := Scf.iv c0_i32_2 c1_i32 k0_t5
  let c4_i32_86 : BitVec 32 := 4#32
  let v96 : BitVec 32 := Scalar.muli arg16 c4_i32_86
  let c3_i32 : BitVec 32 := 3#32
  let v97 : BitVec 32 := Scalar.addi v96 c3_i32
  let c3_i32_186 : BitVec 32 := 3#32
  let v271 : BitVec 32 := Scalar.addi v97 c3_i32_186
  let c8_i32_187 : BitVec 32 := 8#32
  let v272 : BitVec 32 := Scalar.muli v271 c8_i32_187
  let c0_i32_92 : BitVec 32 := 0#32
  let c1_i32_94 : BitVec 32 := 1#32
  let arg17 : BitVec 32 := Scf.iv c0_i32_92 c1_i32_94 k0_t21
  let c1_i32_109 : BitVec 32 := 1#32
  let v118 : BitVec 32 := Scalar.muli arg17 c1_i32_109
  let c0_i32_110 : BitVec 32 := 0#32
  let v119 : BitVec 32 := Scalar.addi v118 c0_i32_110
  let v273 : BitVec 32 := Scalar.addi v272 v119
  let c0_i32_202 : BitVec 32 := 0#32
  ![0, v273.toNat, 0]
def k0_off283 (k0_t22 : Fin k0_t22_loop.trips) : Fin 1 → Nat :=
  let c0_i32_113 : BitVec 32 := 0#32
  let c1_i32_114 : BitVec 32 := 1#32
  let arg18 : BitVec 32 := Scf.iv c0_i32_113 c1_i32_114 k0_t22
  let c4_i32_188 : BitVec 32 := 4#32
  let v274 : BitVec 32 := Scalar.muli arg18 c4_i32_188
  let c1_i32_200 : BitVec 32 := 1#32
  let v290 : BitVec 32 := Scalar.addi v274 c1_i32_200
  let v293 : Index := Scalar.indexCast v290
  ![v293.toNat]
def k0_mult50 (v294 : BitVec 32) : BitVec 32 :=
  let c16_i32_203 : BitVec 32 := 16#32
  let v295 : BitVec 32 := Scalar.muli v294 c16_i32_203
  v295

def k0_off284 (k0_t21 : Fin k0_t21_loop.trips) : Fin 2 → Nat :=
  let c0_i32_92 : BitVec 32 := 0#32
  let c1_i32_94 : BitVec 32 := 1#32
  let arg17 : BitVec 32 := Scf.iv c0_i32_92 c1_i32_94 k0_t21
  let c1_i32_109 : BitVec 32 := 1#32
  let v118 : BitVec 32 := Scalar.muli arg17 c1_i32_109
  let c0_i32_110 : BitVec 32 := 0#32
  let v119 : BitVec 32 := Scalar.addi v118 c0_i32_110
  let c128_i32_189 : BitVec 32 := 128#32
  let v275 : BitVec 32 := Scalar.muli v119 c128_i32_189
  let c17_i32_190 : BitVec 32 := 17#32
  let v276 : BitVec 32 := Scalar.muli v275 c17_i32_190
  let c0_i32_206 : BitVec 32 := 0#32
  ![v276.toNat, 0]
def k0_off285 (k0_t22 : Fin k0_t22_loop.trips) : Fin 2 → Nat :=
  let c0_i32_113 : BitVec 32 := 0#32
  let c1_i32_114 : BitVec 32 := 1#32
  let arg18 : BitVec 32 := Scf.iv c0_i32_113 c1_i32_114 k0_t22
  let c4_i32_188 : BitVec 32 := 4#32
  let v274 : BitVec 32 := Scalar.muli arg18 c4_i32_188
  let c1_i32_200 : BitVec 32 := 1#32
  let v290 : BitVec 32 := Scalar.addi v274 c1_i32_200
  let c17_i32_204 : BitVec 32 := 17#32
  let v297 : BitVec 32 := Scalar.muli v290 c17_i32_204
  let c0_i32_207 : BitVec 32 := 0#32
  ![v297.toNat, 0]
def k0_off286 (v294 : BitVec 32) : Fin 2 → Nat :=
  let c16_i32_203 : BitVec 32 := 16#32
  let v295 : BitVec 32 := Scalar.muli v294 c16_i32_203
  let v296 : BitVec 32 := v295
  let c0_i32_208 : BitVec 32 := 0#32
  ![v296.toNat, 0]

def k0_chk50 (v294 : BitVec 32) : Prop :=
  (16 ∣ (k0_mult50 v294).toNat) ∧
  (∀ a, (k0_off286 v294) a + S16x128.size a ≤ S262144x128.size a)
theorem k0_mult50_dvd : ∀ (v294 : BitVec 32) (k0_hw50 : k0_chk50 v294), 16 ∣ (k0_mult50 v294).toNat := fun v294 k0_hw50 => k0_hw50.1
theorem k0_off286_inb : ∀ (v294 : BitVec 32) (k0_hw50 : k0_chk50 v294), ∀ a, (k0_off286 v294) a + S16x128.size a ≤ S262144x128.size a := fun v294 k0_hw50 => k0_hw50.2

def k0_off287 (k0_t5 : Fin k0_t5_loop.trips) (k0_t21 : Fin k0_t21_loop.trips) : Fin 3 → Nat :=
  let c0_i32_210 : BitVec 32 := 0#32
  let c0_i32_2 : BitVec 32 := 0#32
  let c1_i32 : BitVec 32 := 1#32
  let arg16 : BitVec 32 := Scf.iv c0_i32_2 c1_i32 k0_t5
  let c4_i32_86 : BitVec 32 := 4#32
  let v96 : BitVec 32 := Scalar.muli arg16 c4_i32_86
  let c3_i32 : BitVec 32 := 3#32
  let v97 : BitVec 32 := Scalar.addi v96 c3_i32
  let c3_i32_186 : BitVec 32 := 3#32
  let v271 : BitVec 32 := Scalar.addi v97 c3_i32_186
  let c8_i32_187 : BitVec 32 := 8#32
  let v272 : BitVec 32 := Scalar.muli v271 c8_i32_187
  let c0_i32_92 : BitVec 32 := 0#32
  let c1_i32_94 : BitVec 32 := 1#32
  let arg17 : BitVec 32 := Scf.iv c0_i32_92 c1_i32_94 k0_t21
  let c1_i32_109 : BitVec 32 := 1#32
  let v118 : BitVec 32 := Scalar.muli arg17 c1_i32_109
  let c0_i32_110 : BitVec 32 := 0#32
  let v119 : BitVec 32 := Scalar.addi v118 c0_i32_110
  let v273 : BitVec 32 := Scalar.addi v272 v119
  let c0_i32_211 : BitVec 32 := 0#32
  ![0, v273.toNat, 0]
def k0_off288 (k0_t22 : Fin k0_t22_loop.trips) : Fin 1 → Nat :=
  let c0_i32_113 : BitVec 32 := 0#32
  let c1_i32_114 : BitVec 32 := 1#32
  let arg18 : BitVec 32 := Scf.iv c0_i32_113 c1_i32_114 k0_t22
  let c4_i32_188 : BitVec 32 := 4#32
  let v274 : BitVec 32 := Scalar.muli arg18 c4_i32_188
  let c2_i32_209 : BitVec 32 := 2#32
  let v303 : BitVec 32 := Scalar.addi v274 c2_i32_209
  let v306 : Index := Scalar.indexCast v303
  ![v306.toNat]
def k0_mult51 (v307 : BitVec 32) : BitVec 32 :=
  let c16_i32_212 : BitVec 32 := 16#32
  let v308 : BitVec 32 := Scalar.muli v307 c16_i32_212
  v308

def k0_off289 (k0_t21 : Fin k0_t21_loop.trips) : Fin 2 → Nat :=
  let c0_i32_92 : BitVec 32 := 0#32
  let c1_i32_94 : BitVec 32 := 1#32
  let arg17 : BitVec 32 := Scf.iv c0_i32_92 c1_i32_94 k0_t21
  let c1_i32_109 : BitVec 32 := 1#32
  let v118 : BitVec 32 := Scalar.muli arg17 c1_i32_109
  let c0_i32_110 : BitVec 32 := 0#32
  let v119 : BitVec 32 := Scalar.addi v118 c0_i32_110
  let c128_i32_189 : BitVec 32 := 128#32
  let v275 : BitVec 32 := Scalar.muli v119 c128_i32_189
  let c17_i32_190 : BitVec 32 := 17#32
  let v276 : BitVec 32 := Scalar.muli v275 c17_i32_190
  let c0_i32_215 : BitVec 32 := 0#32
  ![v276.toNat, 0]
def k0_off290 (k0_t22 : Fin k0_t22_loop.trips) : Fin 2 → Nat :=
  let c0_i32_113 : BitVec 32 := 0#32
  let c1_i32_114 : BitVec 32 := 1#32
  let arg18 : BitVec 32 := Scf.iv c0_i32_113 c1_i32_114 k0_t22
  let c4_i32_188 : BitVec 32 := 4#32
  let v274 : BitVec 32 := Scalar.muli arg18 c4_i32_188
  let c2_i32_209 : BitVec 32 := 2#32
  let v303 : BitVec 32 := Scalar.addi v274 c2_i32_209
  let c17_i32_213 : BitVec 32 := 17#32
  let v310 : BitVec 32 := Scalar.muli v303 c17_i32_213
  let c0_i32_216 : BitVec 32 := 0#32
  ![v310.toNat, 0]
def k0_off291 (v307 : BitVec 32) : Fin 2 → Nat :=
  let c16_i32_212 : BitVec 32 := 16#32
  let v308 : BitVec 32 := Scalar.muli v307 c16_i32_212
  let v309 : BitVec 32 := v308
  let c0_i32_217 : BitVec 32 := 0#32
  ![v309.toNat, 0]

def k0_chk51 (v307 : BitVec 32) : Prop :=
  (16 ∣ (k0_mult51 v307).toNat) ∧
  (∀ a, (k0_off291 v307) a + S16x128.size a ≤ S262144x128.size a)
theorem k0_mult51_dvd : ∀ (v307 : BitVec 32) (k0_hw51 : k0_chk51 v307), 16 ∣ (k0_mult51 v307).toNat := fun v307 k0_hw51 => k0_hw51.1
theorem k0_off291_inb : ∀ (v307 : BitVec 32) (k0_hw51 : k0_chk51 v307), ∀ a, (k0_off291 v307) a + S16x128.size a ≤ S262144x128.size a := fun v307 k0_hw51 => k0_hw51.2

def k0_off292 (k0_t5 : Fin k0_t5_loop.trips) (k0_t21 : Fin k0_t21_loop.trips) : Fin 3 → Nat :=
  let c0_i32_219 : BitVec 32 := 0#32
  let c0_i32_2 : BitVec 32 := 0#32
  let c1_i32 : BitVec 32 := 1#32
  let arg16 : BitVec 32 := Scf.iv c0_i32_2 c1_i32 k0_t5
  let c4_i32_86 : BitVec 32 := 4#32
  let v96 : BitVec 32 := Scalar.muli arg16 c4_i32_86
  let c3_i32 : BitVec 32 := 3#32
  let v97 : BitVec 32 := Scalar.addi v96 c3_i32
  let c3_i32_186 : BitVec 32 := 3#32
  let v271 : BitVec 32 := Scalar.addi v97 c3_i32_186
  let c8_i32_187 : BitVec 32 := 8#32
  let v272 : BitVec 32 := Scalar.muli v271 c8_i32_187
  let c0_i32_92 : BitVec 32 := 0#32
  let c1_i32_94 : BitVec 32 := 1#32
  let arg17 : BitVec 32 := Scf.iv c0_i32_92 c1_i32_94 k0_t21
  let c1_i32_109 : BitVec 32 := 1#32
  let v118 : BitVec 32 := Scalar.muli arg17 c1_i32_109
  let c0_i32_110 : BitVec 32 := 0#32
  let v119 : BitVec 32 := Scalar.addi v118 c0_i32_110
  let v273 : BitVec 32 := Scalar.addi v272 v119
  let c0_i32_220 : BitVec 32 := 0#32
  ![0, v273.toNat, 0]
def k0_off293 (k0_t22 : Fin k0_t22_loop.trips) : Fin 1 → Nat :=
  let c0_i32_113 : BitVec 32 := 0#32
  let c1_i32_114 : BitVec 32 := 1#32
  let arg18 : BitVec 32 := Scf.iv c0_i32_113 c1_i32_114 k0_t22
  let c4_i32_188 : BitVec 32 := 4#32
  let v274 : BitVec 32 := Scalar.muli arg18 c4_i32_188
  let c3_i32_218 : BitVec 32 := 3#32
  let v316 : BitVec 32 := Scalar.addi v274 c3_i32_218
  let v319 : Index := Scalar.indexCast v316
  ![v319.toNat]
def k0_mult52 (v320 : BitVec 32) : BitVec 32 :=
  let c16_i32_221 : BitVec 32 := 16#32
  let v321 : BitVec 32 := Scalar.muli v320 c16_i32_221
  v321

def k0_off294 (k0_t21 : Fin k0_t21_loop.trips) : Fin 2 → Nat :=
  let c0_i32_92 : BitVec 32 := 0#32
  let c1_i32_94 : BitVec 32 := 1#32
  let arg17 : BitVec 32 := Scf.iv c0_i32_92 c1_i32_94 k0_t21
  let c1_i32_109 : BitVec 32 := 1#32
  let v118 : BitVec 32 := Scalar.muli arg17 c1_i32_109
  let c0_i32_110 : BitVec 32 := 0#32
  let v119 : BitVec 32 := Scalar.addi v118 c0_i32_110
  let c128_i32_189 : BitVec 32 := 128#32
  let v275 : BitVec 32 := Scalar.muli v119 c128_i32_189
  let c17_i32_190 : BitVec 32 := 17#32
  let v276 : BitVec 32 := Scalar.muli v275 c17_i32_190
  let c0_i32_224 : BitVec 32 := 0#32
  ![v276.toNat, 0]
def k0_off295 (k0_t22 : Fin k0_t22_loop.trips) : Fin 2 → Nat :=
  let c0_i32_113 : BitVec 32 := 0#32
  let c1_i32_114 : BitVec 32 := 1#32
  let arg18 : BitVec 32 := Scf.iv c0_i32_113 c1_i32_114 k0_t22
  let c4_i32_188 : BitVec 32 := 4#32
  let v274 : BitVec 32 := Scalar.muli arg18 c4_i32_188
  let c3_i32_218 : BitVec 32 := 3#32
  let v316 : BitVec 32 := Scalar.addi v274 c3_i32_218
  let c17_i32_222 : BitVec 32 := 17#32
  let v323 : BitVec 32 := Scalar.muli v316 c17_i32_222
  let c0_i32_225 : BitVec 32 := 0#32
  ![v323.toNat, 0]
def k0_off296 (v320 : BitVec 32) : Fin 2 → Nat :=
  let c16_i32_221 : BitVec 32 := 16#32
  let v321 : BitVec 32 := Scalar.muli v320 c16_i32_221
  let v322 : BitVec 32 := v321
  let c0_i32_226 : BitVec 32 := 0#32
  ![v322.toNat, 0]

def k0_chk52 (v320 : BitVec 32) : Prop :=
  (16 ∣ (k0_mult52 v320).toNat) ∧
  (∀ a, (k0_off296 v320) a + S16x128.size a ≤ S262144x128.size a)
theorem k0_mult52_dvd : ∀ (v320 : BitVec 32) (k0_hw52 : k0_chk52 v320), 16 ∣ (k0_mult52 v320).toNat := fun v320 k0_hw52 => k0_hw52.1
theorem k0_off296_inb : ∀ (v320 : BitVec 32) (k0_hw52 : k0_chk52 v320), ∀ a, (k0_off296 v320) a + S16x128.size a ≤ S262144x128.size a := fun v320 k0_hw52 => k0_hw52.2

def k0_off297 (k0_t22 : Fin k0_t22_loop.trips) : Fin 2 → Nat :=
  let c0_i32_113 : BitVec 32 := 0#32
  let c1_i32_114 : BitVec 32 := 1#32
  let arg18 : BitVec 32 := Scf.iv c0_i32_113 c1_i32_114 k0_t22
  let c8_i32_244 : BitVec 32 := 8#32
  let v410 : BitVec 32 := Scalar.muli arg18 c8_i32_244
  let v415 : Index := Scalar.indexCast v410
  let c0_245 : Index := 0#32
  ![v415.toNat, 0]
@[reducible] def k0_t23_loop : Scf.Loop 32 :=
  let c0_i32_105 : BitVec 32 := 0#32
  let c4_i32_106 : BitVec 32 := 4#32
  let v117 : BitVec 32 := Scalar.addi c0_i32_105 c4_i32_106
  let c1_i32_107 : BitVec 32 := 1#32
  ⟨c0_i32_105, v117, c1_i32_107⟩
@[reducible] def k0_t24_loop : Scf.Loop 32 :=
  let c0_i32_128 : BitVec 32 := 0#32
  let c16_i32 : BitVec 32 := 16#32
  let v140 : BitVec 32 := Scalar.addi c0_i32_128 c16_i32
  let c1_i32_129 : BitVec 32 := 1#32
  ⟨c0_i32_128, v140, c1_i32_129⟩
def k0_off298 (k0_t24 : Fin k0_t24_loop.trips) : Fin 2 → Nat :=
  let c0_i32_128 : BitVec 32 := 0#32
  let c1_i32_129 : BitVec 32 := 1#32
  let arg18 : BitVec 32 := Scf.iv c0_i32_128 c1_i32_129 k0_t24
  let c8_i32_190 : BitVec 32 := 8#32
  let v242 : BitVec 32 := Scalar.muli arg18 c8_i32_190
  let v243 : Index := Scalar.indexCast v242
  let c0_191 : Index := 0#32
  ![v243.toNat, 0]
def k0_off299 (k0_t23 : Fin k0_t23_loop.trips) : Fin 2 → Nat :=
  let c0_i32_105 : BitVec 32 := 0#32
  let c1_i32_107 : BitVec 32 := 1#32
  let arg17 : BitVec 32 := Scf.iv c0_i32_105 c1_i32_107 k0_t23
  let c2_i32_109 : BitVec 32 := 2#32
  let v118 : BitVec 32 := Scalar.muli arg17 c2_i32_109
  let c0_i32_110 : BitVec 32 := 0#32
  let v119 : BitVec 32 := Scalar.addi v118 c0_i32_110
  let c128_i32 : BitVec 32 := 128#32
  let v122 : BitVec 32 := Scalar.muli v119 c128_i32
  let c17_i32 : BitVec 32 := 17#32
  let v123 : BitVec 32 := Scalar.muli v122 c17_i32
  let c0_i32_197 : BitVec 32 := 0#32
  ![v123.toNat, 0]
def k0_off300 (k0_t24 : Fin k0_t24_loop.trips) (c0_i32_196 : BitVec 32) : Fin 2 → Nat :=
  let c0_i32_128 : BitVec 32 := 0#32
  let c1_i32_129 : BitVec 32 := 1#32
  let arg18 : BitVec 32 := Scf.iv c0_i32_128 c1_i32_129 k0_t24
  let c8_i32_194 : BitVec 32 := 8#32
  let v249 : BitVec 32 := Scalar.muli arg18 c8_i32_194
  let c17_i32_195 : BitVec 32 := 17#32
  let v250 : BitVec 32 := Scalar.muli v249 c17_i32_195
  let v251 : BitVec 32 := Scalar.addi v250 c0_i32_196
  let v253 : Index := Scalar.indexCast v251
  let c0_198 : Index := 0#32
  ![v253.toNat, 0]
def k0_off301 (k0_t5 : Fin k0_t5_loop.trips) (k0_t23 : Fin k0_t23_loop.trips) : Fin 3 → Nat :=
  let c0_i32_270 : BitVec 32 := 0#32
  let c0_i32_2 : BitVec 32 := 0#32
  let c1_i32 : BitVec 32 := 1#32
  let arg16 : BitVec 32 := Scf.iv c0_i32_2 c1_i32 k0_t5
  let c4_i32_86 : BitVec 32 := 4#32
  let v96 : BitVec 32 := Scalar.muli arg16 c4_i32_86
  let c3_i32 : BitVec 32 := 3#32
  let v97 : BitVec 32 := Scalar.addi v96 c3_i32
  let c3_i32_264 : BitVec 32 := 3#32
  let v345 : BitVec 32 := Scalar.addi v97 c3_i32_264
  let c8_i32_265 : BitVec 32 := 8#32
  let v346 : BitVec 32 := Scalar.muli v345 c8_i32_265
  let c0_i32_105 : BitVec 32 := 0#32
  let c1_i32_107 : BitVec 32 := 1#32
  let arg17 : BitVec 32 := Scf.iv c0_i32_105 c1_i32_107 k0_t23
  let c2_i32_109 : BitVec 32 := 2#32
  let v118 : BitVec 32 := Scalar.muli arg17 c2_i32_109
  let c0_i32_110 : BitVec 32 := 0#32
  let v119 : BitVec 32 := Scalar.addi v118 c0_i32_110
  let v347 : BitVec 32 := Scalar.addi v346 v119
  let c0_i32_271 : BitVec 32 := 0#32
  ![0, v347.toNat, 0]
def k0_off302 (k0_t24 : Fin k0_t24_loop.trips) : Fin 1 → Nat :=
  let c64_i32 : BitVec 32 := 64#32
  let c0_i32_128 : BitVec 32 := 0#32
  let c1_i32_129 : BitVec 32 := 1#32
  let arg18 : BitVec 32 := Scf.iv c0_i32_128 c1_i32_129 k0_t24
  let c4_i32_266 : BitVec 32 := 4#32
  let v348 : BitVec 32 := Scalar.muli arg18 c4_i32_266
  let v349 : BitVec 32 := Scalar.addi c64_i32 v348
  let c0_i32_269 : BitVec 32 := 0#32
  let v352 : BitVec 32 := Scalar.addi v349 c0_i32_269
  let v355 : Index := Scalar.indexCast v352
  ![v355.toNat]
def k0_mult53 (v356 : BitVec 32) : BitVec 32 :=
  let c16_i32_272 : BitVec 32 := 16#32
  let v357 : BitVec 32 := Scalar.muli v356 c16_i32_272
  v357

def k0_off303 (k0_t23 : Fin k0_t23_loop.trips) : Fin 2 → Nat :=
  let c0_i32_105 : BitVec 32 := 0#32
  let c1_i32_107 : BitVec 32 := 1#32
  let arg17 : BitVec 32 := Scf.iv c0_i32_105 c1_i32_107 k0_t23
  let c2_i32_109 : BitVec 32 := 2#32
  let v118 : BitVec 32 := Scalar.muli arg17 c2_i32_109
  let c0_i32_110 : BitVec 32 := 0#32
  let v119 : BitVec 32 := Scalar.addi v118 c0_i32_110
  let c128_i32_267 : BitVec 32 := 128#32
  let v350 : BitVec 32 := Scalar.muli v119 c128_i32_267
  let c17_i32_268 : BitVec 32 := 17#32
  let v351 : BitVec 32 := Scalar.muli v350 c17_i32_268
  let c0_i32_275 : BitVec 32 := 0#32
  ![v351.toNat, 0]
def k0_off304 (k0_t24 : Fin k0_t24_loop.trips) : Fin 2 → Nat :=
  let c64_i32 : BitVec 32 := 64#32
  let c0_i32_128 : BitVec 32 := 0#32
  let c1_i32_129 : BitVec 32 := 1#32
  let arg18 : BitVec 32 := Scf.iv c0_i32_128 c1_i32_129 k0_t24
  let c4_i32_266 : BitVec 32 := 4#32
  let v348 : BitVec 32 := Scalar.muli arg18 c4_i32_266
  let v349 : BitVec 32 := Scalar.addi c64_i32 v348
  let c0_i32_269 : BitVec 32 := 0#32
  let v352 : BitVec 32 := Scalar.addi v349 c0_i32_269
  let c17_i32_273 : BitVec 32 := 17#32
  let v359 : BitVec 32 := Scalar.muli v352 c17_i32_273
  let c0_i32_276 : BitVec 32 := 0#32
  ![v359.toNat, 0]
def k0_off305 (v356 : BitVec 32) : Fin 2 → Nat :=
  let c16_i32_272 : BitVec 32 := 16#32
  let v357 : BitVec 32 := Scalar.muli v356 c16_i32_272
  let v358 : BitVec 32 := v357
  let c0_i32_277 : BitVec 32 := 0#32
  ![v358.toNat, 0]

def k0_chk53 (v356 : BitVec 32) : Prop :=
  (16 ∣ (k0_mult53 v356).toNat) ∧
  (∀ a, (k0_off305 v356) a + S16x128.size a ≤ S262144x128.size a)
theorem k0_mult53_dvd : ∀ (v356 : BitVec 32) (k0_hw53 : k0_chk53 v356), 16 ∣ (k0_mult53 v356).toNat := fun v356 k0_hw53 => k0_hw53.1
theorem k0_off305_inb : ∀ (v356 : BitVec 32) (k0_hw53 : k0_chk53 v356), ∀ a, (k0_off305 v356) a + S16x128.size a ≤ S262144x128.size a := fun v356 k0_hw53 => k0_hw53.2

def k0_off306 (k0_t5 : Fin k0_t5_loop.trips) (k0_t23 : Fin k0_t23_loop.trips) : Fin 3 → Nat :=
  let c0_i32_279 : BitVec 32 := 0#32
  let c0_i32_2 : BitVec 32 := 0#32
  let c1_i32 : BitVec 32 := 1#32
  let arg16 : BitVec 32 := Scf.iv c0_i32_2 c1_i32 k0_t5
  let c4_i32_86 : BitVec 32 := 4#32
  let v96 : BitVec 32 := Scalar.muli arg16 c4_i32_86
  let c3_i32 : BitVec 32 := 3#32
  let v97 : BitVec 32 := Scalar.addi v96 c3_i32
  let c3_i32_264 : BitVec 32 := 3#32
  let v345 : BitVec 32 := Scalar.addi v97 c3_i32_264
  let c8_i32_265 : BitVec 32 := 8#32
  let v346 : BitVec 32 := Scalar.muli v345 c8_i32_265
  let c0_i32_105 : BitVec 32 := 0#32
  let c1_i32_107 : BitVec 32 := 1#32
  let arg17 : BitVec 32 := Scf.iv c0_i32_105 c1_i32_107 k0_t23
  let c2_i32_109 : BitVec 32 := 2#32
  let v118 : BitVec 32 := Scalar.muli arg17 c2_i32_109
  let c0_i32_110 : BitVec 32 := 0#32
  let v119 : BitVec 32 := Scalar.addi v118 c0_i32_110
  let v347 : BitVec 32 := Scalar.addi v346 v119
  let c0_i32_280 : BitVec 32 := 0#32
  ![0, v347.toNat, 0]
def k0_off307 (k0_t24 : Fin k0_t24_loop.trips) : Fin 1 → Nat :=
  let c64_i32 : BitVec 32 := 64#32
  let c0_i32_128 : BitVec 32 := 0#32
  let c1_i32_129 : BitVec 32 := 1#32
  let arg18 : BitVec 32 := Scf.iv c0_i32_128 c1_i32_129 k0_t24
  let c4_i32_266 : BitVec 32 := 4#32
  let v348 : BitVec 32 := Scalar.muli arg18 c4_i32_266
  let v349 : BitVec 32 := Scalar.addi c64_i32 v348
  let c1_i32_278 : BitVec 32 := 1#32
  let v365 : BitVec 32 := Scalar.addi v349 c1_i32_278
  let v368 : Index := Scalar.indexCast v365
  ![v368.toNat]
def k0_mult54 (v369 : BitVec 32) : BitVec 32 :=
  let c16_i32_281 : BitVec 32 := 16#32
  let v370 : BitVec 32 := Scalar.muli v369 c16_i32_281
  v370

def k0_off308 (k0_t23 : Fin k0_t23_loop.trips) : Fin 2 → Nat :=
  let c0_i32_105 : BitVec 32 := 0#32
  let c1_i32_107 : BitVec 32 := 1#32
  let arg17 : BitVec 32 := Scf.iv c0_i32_105 c1_i32_107 k0_t23
  let c2_i32_109 : BitVec 32 := 2#32
  let v118 : BitVec 32 := Scalar.muli arg17 c2_i32_109
  let c0_i32_110 : BitVec 32 := 0#32
  let v119 : BitVec 32 := Scalar.addi v118 c0_i32_110
  let c128_i32_267 : BitVec 32 := 128#32
  let v350 : BitVec 32 := Scalar.muli v119 c128_i32_267
  let c17_i32_268 : BitVec 32 := 17#32
  let v351 : BitVec 32 := Scalar.muli v350 c17_i32_268
  let c0_i32_284 : BitVec 32 := 0#32
  ![v351.toNat, 0]
def k0_off309 (k0_t24 : Fin k0_t24_loop.trips) : Fin 2 → Nat :=
  let c64_i32 : BitVec 32 := 64#32
  let c0_i32_128 : BitVec 32 := 0#32
  let c1_i32_129 : BitVec 32 := 1#32
  let arg18 : BitVec 32 := Scf.iv c0_i32_128 c1_i32_129 k0_t24
  let c4_i32_266 : BitVec 32 := 4#32
  let v348 : BitVec 32 := Scalar.muli arg18 c4_i32_266
  let v349 : BitVec 32 := Scalar.addi c64_i32 v348
  let c1_i32_278 : BitVec 32 := 1#32
  let v365 : BitVec 32 := Scalar.addi v349 c1_i32_278
  let c17_i32_282 : BitVec 32 := 17#32
  let v372 : BitVec 32 := Scalar.muli v365 c17_i32_282
  let c0_i32_285 : BitVec 32 := 0#32
  ![v372.toNat, 0]
def k0_off310 (v369 : BitVec 32) : Fin 2 → Nat :=
  let c16_i32_281 : BitVec 32 := 16#32
  let v370 : BitVec 32 := Scalar.muli v369 c16_i32_281
  let v371 : BitVec 32 := v370
  let c0_i32_286 : BitVec 32 := 0#32
  ![v371.toNat, 0]

def k0_chk54 (v369 : BitVec 32) : Prop :=
  (16 ∣ (k0_mult54 v369).toNat) ∧
  (∀ a, (k0_off310 v369) a + S16x128.size a ≤ S262144x128.size a)
theorem k0_mult54_dvd : ∀ (v369 : BitVec 32) (k0_hw54 : k0_chk54 v369), 16 ∣ (k0_mult54 v369).toNat := fun v369 k0_hw54 => k0_hw54.1
theorem k0_off310_inb : ∀ (v369 : BitVec 32) (k0_hw54 : k0_chk54 v369), ∀ a, (k0_off310 v369) a + S16x128.size a ≤ S262144x128.size a := fun v369 k0_hw54 => k0_hw54.2

def k0_off311 (k0_t5 : Fin k0_t5_loop.trips) (k0_t23 : Fin k0_t23_loop.trips) : Fin 3 → Nat :=
  let c0_i32_288 : BitVec 32 := 0#32
  let c0_i32_2 : BitVec 32 := 0#32
  let c1_i32 : BitVec 32 := 1#32
  let arg16 : BitVec 32 := Scf.iv c0_i32_2 c1_i32 k0_t5
  let c4_i32_86 : BitVec 32 := 4#32
  let v96 : BitVec 32 := Scalar.muli arg16 c4_i32_86
  let c3_i32 : BitVec 32 := 3#32
  let v97 : BitVec 32 := Scalar.addi v96 c3_i32
  let c3_i32_264 : BitVec 32 := 3#32
  let v345 : BitVec 32 := Scalar.addi v97 c3_i32_264
  let c8_i32_265 : BitVec 32 := 8#32
  let v346 : BitVec 32 := Scalar.muli v345 c8_i32_265
  let c0_i32_105 : BitVec 32 := 0#32
  let c1_i32_107 : BitVec 32 := 1#32
  let arg17 : BitVec 32 := Scf.iv c0_i32_105 c1_i32_107 k0_t23
  let c2_i32_109 : BitVec 32 := 2#32
  let v118 : BitVec 32 := Scalar.muli arg17 c2_i32_109
  let c0_i32_110 : BitVec 32 := 0#32
  let v119 : BitVec 32 := Scalar.addi v118 c0_i32_110
  let v347 : BitVec 32 := Scalar.addi v346 v119
  let c0_i32_289 : BitVec 32 := 0#32
  ![0, v347.toNat, 0]
def k0_off312 (k0_t24 : Fin k0_t24_loop.trips) : Fin 1 → Nat :=
  let c64_i32 : BitVec 32 := 64#32
  let c0_i32_128 : BitVec 32 := 0#32
  let c1_i32_129 : BitVec 32 := 1#32
  let arg18 : BitVec 32 := Scf.iv c0_i32_128 c1_i32_129 k0_t24
  let c4_i32_266 : BitVec 32 := 4#32
  let v348 : BitVec 32 := Scalar.muli arg18 c4_i32_266
  let v349 : BitVec 32 := Scalar.addi c64_i32 v348
  let c2_i32_287 : BitVec 32 := 2#32
  let v378 : BitVec 32 := Scalar.addi v349 c2_i32_287
  let v381 : Index := Scalar.indexCast v378
  ![v381.toNat]
def k0_mult55 (v382 : BitVec 32) : BitVec 32 :=
  let c16_i32_290 : BitVec 32 := 16#32
  let v383 : BitVec 32 := Scalar.muli v382 c16_i32_290
  v383

def k0_off313 (k0_t23 : Fin k0_t23_loop.trips) : Fin 2 → Nat :=
  let c0_i32_105 : BitVec 32 := 0#32
  let c1_i32_107 : BitVec 32 := 1#32
  let arg17 : BitVec 32 := Scf.iv c0_i32_105 c1_i32_107 k0_t23
  let c2_i32_109 : BitVec 32 := 2#32
  let v118 : BitVec 32 := Scalar.muli arg17 c2_i32_109
  let c0_i32_110 : BitVec 32 := 0#32
  let v119 : BitVec 32 := Scalar.addi v118 c0_i32_110
  let c128_i32_267 : BitVec 32 := 128#32
  let v350 : BitVec 32 := Scalar.muli v119 c128_i32_267
  let c17_i32_268 : BitVec 32 := 17#32
  let v351 : BitVec 32 := Scalar.muli v350 c17_i32_268
  let c0_i32_293 : BitVec 32 := 0#32
  ![v351.toNat, 0]
def k0_off314 (k0_t24 : Fin k0_t24_loop.trips) : Fin 2 → Nat :=
  let c64_i32 : BitVec 32 := 64#32
  let c0_i32_128 : BitVec 32 := 0#32
  let c1_i32_129 : BitVec 32 := 1#32
  let arg18 : BitVec 32 := Scf.iv c0_i32_128 c1_i32_129 k0_t24
  let c4_i32_266 : BitVec 32 := 4#32
  let v348 : BitVec 32 := Scalar.muli arg18 c4_i32_266
  let v349 : BitVec 32 := Scalar.addi c64_i32 v348
  let c2_i32_287 : BitVec 32 := 2#32
  let v378 : BitVec 32 := Scalar.addi v349 c2_i32_287
  let c17_i32_291 : BitVec 32 := 17#32
  let v385 : BitVec 32 := Scalar.muli v378 c17_i32_291
  let c0_i32_294 : BitVec 32 := 0#32
  ![v385.toNat, 0]
def k0_off315 (v382 : BitVec 32) : Fin 2 → Nat :=
  let c16_i32_290 : BitVec 32 := 16#32
  let v383 : BitVec 32 := Scalar.muli v382 c16_i32_290
  let v384 : BitVec 32 := v383
  let c0_i32_295 : BitVec 32 := 0#32
  ![v384.toNat, 0]

def k0_chk55 (v382 : BitVec 32) : Prop :=
  (16 ∣ (k0_mult55 v382).toNat) ∧
  (∀ a, (k0_off315 v382) a + S16x128.size a ≤ S262144x128.size a)
theorem k0_mult55_dvd : ∀ (v382 : BitVec 32) (k0_hw55 : k0_chk55 v382), 16 ∣ (k0_mult55 v382).toNat := fun v382 k0_hw55 => k0_hw55.1
theorem k0_off315_inb : ∀ (v382 : BitVec 32) (k0_hw55 : k0_chk55 v382), ∀ a, (k0_off315 v382) a + S16x128.size a ≤ S262144x128.size a := fun v382 k0_hw55 => k0_hw55.2

def k0_off316 (k0_t5 : Fin k0_t5_loop.trips) (k0_t23 : Fin k0_t23_loop.trips) : Fin 3 → Nat :=
  let c0_i32_297 : BitVec 32 := 0#32
  let c0_i32_2 : BitVec 32 := 0#32
  let c1_i32 : BitVec 32 := 1#32
  let arg16 : BitVec 32 := Scf.iv c0_i32_2 c1_i32 k0_t5
  let c4_i32_86 : BitVec 32 := 4#32
  let v96 : BitVec 32 := Scalar.muli arg16 c4_i32_86
  let c3_i32 : BitVec 32 := 3#32
  let v97 : BitVec 32 := Scalar.addi v96 c3_i32
  let c3_i32_264 : BitVec 32 := 3#32
  let v345 : BitVec 32 := Scalar.addi v97 c3_i32_264
  let c8_i32_265 : BitVec 32 := 8#32
  let v346 : BitVec 32 := Scalar.muli v345 c8_i32_265
  let c0_i32_105 : BitVec 32 := 0#32
  let c1_i32_107 : BitVec 32 := 1#32
  let arg17 : BitVec 32 := Scf.iv c0_i32_105 c1_i32_107 k0_t23
  let c2_i32_109 : BitVec 32 := 2#32
  let v118 : BitVec 32 := Scalar.muli arg17 c2_i32_109
  let c0_i32_110 : BitVec 32 := 0#32
  let v119 : BitVec 32 := Scalar.addi v118 c0_i32_110
  let v347 : BitVec 32 := Scalar.addi v346 v119
  let c0_i32_298 : BitVec 32 := 0#32
  ![0, v347.toNat, 0]
def k0_off317 (k0_t24 : Fin k0_t24_loop.trips) : Fin 1 → Nat :=
  let c64_i32 : BitVec 32 := 64#32
  let c0_i32_128 : BitVec 32 := 0#32
  let c1_i32_129 : BitVec 32 := 1#32
  let arg18 : BitVec 32 := Scf.iv c0_i32_128 c1_i32_129 k0_t24
  let c4_i32_266 : BitVec 32 := 4#32
  let v348 : BitVec 32 := Scalar.muli arg18 c4_i32_266
  let v349 : BitVec 32 := Scalar.addi c64_i32 v348
  let c3_i32_296 : BitVec 32 := 3#32
  let v391 : BitVec 32 := Scalar.addi v349 c3_i32_296
  let v394 : Index := Scalar.indexCast v391
  ![v394.toNat]
def k0_mult56 (v395 : BitVec 32) : BitVec 32 :=
  let c16_i32_299 : BitVec 32 := 16#32
  let v396 : BitVec 32 := Scalar.muli v395 c16_i32_299
  v396

def k0_off318 (k0_t23 : Fin k0_t23_loop.trips) : Fin 2 → Nat :=
  let c0_i32_105 : BitVec 32 := 0#32
  let c1_i32_107 : BitVec 32 := 1#32
  let arg17 : BitVec 32 := Scf.iv c0_i32_105 c1_i32_107 k0_t23
  let c2_i32_109 : BitVec 32 := 2#32
  let v118 : BitVec 32 := Scalar.muli arg17 c2_i32_109
  let c0_i32_110 : BitVec 32 := 0#32
  let v119 : BitVec 32 := Scalar.addi v118 c0_i32_110
  let c128_i32_267 : BitVec 32 := 128#32
  let v350 : BitVec 32 := Scalar.muli v119 c128_i32_267
  let c17_i32_268 : BitVec 32 := 17#32
  let v351 : BitVec 32 := Scalar.muli v350 c17_i32_268
  let c0_i32_302 : BitVec 32 := 0#32
  ![v351.toNat, 0]
def k0_off319 (k0_t24 : Fin k0_t24_loop.trips) : Fin 2 → Nat :=
  let c64_i32 : BitVec 32 := 64#32
  let c0_i32_128 : BitVec 32 := 0#32
  let c1_i32_129 : BitVec 32 := 1#32
  let arg18 : BitVec 32 := Scf.iv c0_i32_128 c1_i32_129 k0_t24
  let c4_i32_266 : BitVec 32 := 4#32
  let v348 : BitVec 32 := Scalar.muli arg18 c4_i32_266
  let v349 : BitVec 32 := Scalar.addi c64_i32 v348
  let c3_i32_296 : BitVec 32 := 3#32
  let v391 : BitVec 32 := Scalar.addi v349 c3_i32_296
  let c17_i32_300 : BitVec 32 := 17#32
  let v398 : BitVec 32 := Scalar.muli v391 c17_i32_300
  let c0_i32_303 : BitVec 32 := 0#32
  ![v398.toNat, 0]
def k0_off320 (v395 : BitVec 32) : Fin 2 → Nat :=
  let c16_i32_299 : BitVec 32 := 16#32
  let v396 : BitVec 32 := Scalar.muli v395 c16_i32_299
  let v397 : BitVec 32 := v396
  let c0_i32_304 : BitVec 32 := 0#32
  ![v397.toNat, 0]

def k0_chk56 (v395 : BitVec 32) : Prop :=
  (16 ∣ (k0_mult56 v395).toNat) ∧
  (∀ a, (k0_off320 v395) a + S16x128.size a ≤ S262144x128.size a)
theorem k0_mult56_dvd : ∀ (v395 : BitVec 32) (k0_hw56 : k0_chk56 v395), 16 ∣ (k0_mult56 v395).toNat := fun v395 k0_hw56 => k0_hw56.1
theorem k0_off320_inb : ∀ (v395 : BitVec 32) (k0_hw56 : k0_chk56 v395), ∀ a, (k0_off320 v395) a + S16x128.size a ≤ S262144x128.size a := fun v395 k0_hw56 => k0_hw56.2

def k0_off321 (k0_t5 : Fin k0_t5_loop.trips) (k0_t23 : Fin k0_t23_loop.trips) (c0_i32_110 : BitVec 32) : Fin 2 → Nat :=
  let c0_i32_2 : BitVec 32 := 0#32
  let c1_i32 : BitVec 32 := 1#32
  let arg16 : BitVec 32 := Scf.iv c0_i32_2 c1_i32 k0_t5
  let c4_i32_86 : BitVec 32 := 4#32
  let v96 : BitVec 32 := Scalar.muli arg16 c4_i32_86
  let c3_i32 : BitVec 32 := 3#32
  let v97 : BitVec 32 := Scalar.addi v96 c3_i32
  let c8_i32_111 : BitVec 32 := 8#32
  let v120 : BitVec 32 := Scalar.muli v97 c8_i32_111
  let c0_i32_105 : BitVec 32 := 0#32
  let c1_i32_107 : BitVec 32 := 1#32
  let arg17 : BitVec 32 := Scf.iv c0_i32_105 c1_i32_107 k0_t23
  let c2_i32_109 : BitVec 32 := 2#32
  let v118 : BitVec 32 := Scalar.muli arg17 c2_i32_109
  let v119 : BitVec 32 := Scalar.addi v118 c0_i32_110
  let v121 : BitVec 32 := Scalar.addi v120 v119
  let v175 : Index := Scalar.indexCast v121
  let c0_147 : Index := 0#32
  ![v175.toNat, 0]
@[reducible] def k0_t25_loop : Scf.Loop 32 :=
  let c0_i32_169 : BitVec 32 := 0#32
  let c16_i32_170 : BitVec 32 := 16#32
  let v201 : BitVec 32 := Scalar.addi c0_i32_169 c16_i32_170
  let c1_i32_171 : BitVec 32 := 1#32
  ⟨c0_i32_169, v201, c1_i32_171⟩
def k0_off322 (k0_t25 : Fin k0_t25_loop.trips) : Fin 2 → Nat :=
  let c0_i32_169 : BitVec 32 := 0#32
  let c1_i32_171 : BitVec 32 := 1#32
  let arg18 : BitVec 32 := Scf.iv c0_i32_169 c1_i32_171 k0_t25
  let c8_i32_190 : BitVec 32 := 8#32
  let v242 : BitVec 32 := Scalar.muli arg18 c8_i32_190
  let v243 : Index := Scalar.indexCast v242
  let c0_191 : Index := 0#32
  ![v243.toNat, 0]
def k0_off323 (k0_t23 : Fin k0_t23_loop.trips) : Fin 2 → Nat :=
  let c0_i32_105 : BitVec 32 := 0#32
  let c1_i32_107 : BitVec 32 := 1#32
  let arg17 : BitVec 32 := Scf.iv c0_i32_105 c1_i32_107 k0_t23
  let c2_i32_148 : BitVec 32 := 2#32
  let v179 : BitVec 32 := Scalar.muli arg17 c2_i32_148
  let c1_i32_149 : BitVec 32 := 1#32
  let v180 : BitVec 32 := Scalar.addi v179 c1_i32_149
  let c128_i32_151 : BitVec 32 := 128#32
  let v183 : BitVec 32 := Scalar.muli v180 c128_i32_151
  let c17_i32_152 : BitVec 32 := 17#32
  let v184 : BitVec 32 := Scalar.muli v183 c17_i32_152
  let c0_i32_197 : BitVec 32 := 0#32
  ![v184.toNat, 0]
def k0_off324 (k0_t25 : Fin k0_t25_loop.trips) (c0_i32_196 : BitVec 32) : Fin 2 → Nat :=
  let c0_i32_169 : BitVec 32 := 0#32
  let c1_i32_171 : BitVec 32 := 1#32
  let arg18 : BitVec 32 := Scf.iv c0_i32_169 c1_i32_171 k0_t25
  let c8_i32_194 : BitVec 32 := 8#32
  let v249 : BitVec 32 := Scalar.muli arg18 c8_i32_194
  let c17_i32_195 : BitVec 32 := 17#32
  let v250 : BitVec 32 := Scalar.muli v249 c17_i32_195
  let v251 : BitVec 32 := Scalar.addi v250 c0_i32_196
  let v253 : Index := Scalar.indexCast v251
  let c0_198 : Index := 0#32
  ![v253.toNat, 0]
def k0_off325 (k0_t5 : Fin k0_t5_loop.trips) (k0_t23 : Fin k0_t23_loop.trips) : Fin 3 → Nat :=
  let c0_i32_270 : BitVec 32 := 0#32
  let c0_i32_2 : BitVec 32 := 0#32
  let c1_i32 : BitVec 32 := 1#32
  let arg16 : BitVec 32 := Scf.iv c0_i32_2 c1_i32 k0_t5
  let c4_i32_86 : BitVec 32 := 4#32
  let v96 : BitVec 32 := Scalar.muli arg16 c4_i32_86
  let c3_i32 : BitVec 32 := 3#32
  let v97 : BitVec 32 := Scalar.addi v96 c3_i32
  let c3_i32_264 : BitVec 32 := 3#32
  let v345 : BitVec 32 := Scalar.addi v97 c3_i32_264
  let c8_i32_265 : BitVec 32 := 8#32
  let v346 : BitVec 32 := Scalar.muli v345 c8_i32_265
  let c0_i32_105 : BitVec 32 := 0#32
  let c1_i32_107 : BitVec 32 := 1#32
  let arg17 : BitVec 32 := Scf.iv c0_i32_105 c1_i32_107 k0_t23
  let c2_i32_148 : BitVec 32 := 2#32
  let v179 : BitVec 32 := Scalar.muli arg17 c2_i32_148
  let c1_i32_149 : BitVec 32 := 1#32
  let v180 : BitVec 32 := Scalar.addi v179 c1_i32_149
  let v347 : BitVec 32 := Scalar.addi v346 v180
  let c0_i32_271 : BitVec 32 := 0#32
  ![0, v347.toNat, 0]
def k0_off326 (k0_t25 : Fin k0_t25_loop.trips) : Fin 1 → Nat :=
  let c64_i32 : BitVec 32 := 64#32
  let c0_i32_169 : BitVec 32 := 0#32
  let c1_i32_171 : BitVec 32 := 1#32
  let arg18 : BitVec 32 := Scf.iv c0_i32_169 c1_i32_171 k0_t25
  let c4_i32_266 : BitVec 32 := 4#32
  let v348 : BitVec 32 := Scalar.muli arg18 c4_i32_266
  let v349 : BitVec 32 := Scalar.addi c64_i32 v348
  let c0_i32_269 : BitVec 32 := 0#32
  let v352 : BitVec 32 := Scalar.addi v349 c0_i32_269
  let v355 : Index := Scalar.indexCast v352
  ![v355.toNat]
def k0_mult57 (v356 : BitVec 32) : BitVec 32 :=
  let c16_i32_272 : BitVec 32 := 16#32
  let v357 : BitVec 32 := Scalar.muli v356 c16_i32_272
  v357

def k0_off327 (k0_t23 : Fin k0_t23_loop.trips) : Fin 2 → Nat :=
  let c0_i32_105 : BitVec 32 := 0#32
  let c1_i32_107 : BitVec 32 := 1#32
  let arg17 : BitVec 32 := Scf.iv c0_i32_105 c1_i32_107 k0_t23
  let c2_i32_148 : BitVec 32 := 2#32
  let v179 : BitVec 32 := Scalar.muli arg17 c2_i32_148
  let c1_i32_149 : BitVec 32 := 1#32
  let v180 : BitVec 32 := Scalar.addi v179 c1_i32_149
  let c128_i32_267 : BitVec 32 := 128#32
  let v350 : BitVec 32 := Scalar.muli v180 c128_i32_267
  let c17_i32_268 : BitVec 32 := 17#32
  let v351 : BitVec 32 := Scalar.muli v350 c17_i32_268
  let c0_i32_275 : BitVec 32 := 0#32
  ![v351.toNat, 0]
def k0_off328 (k0_t25 : Fin k0_t25_loop.trips) : Fin 2 → Nat :=
  let c64_i32 : BitVec 32 := 64#32
  let c0_i32_169 : BitVec 32 := 0#32
  let c1_i32_171 : BitVec 32 := 1#32
  let arg18 : BitVec 32 := Scf.iv c0_i32_169 c1_i32_171 k0_t25
  let c4_i32_266 : BitVec 32 := 4#32
  let v348 : BitVec 32 := Scalar.muli arg18 c4_i32_266
  let v349 : BitVec 32 := Scalar.addi c64_i32 v348
  let c0_i32_269 : BitVec 32 := 0#32
  let v352 : BitVec 32 := Scalar.addi v349 c0_i32_269
  let c17_i32_273 : BitVec 32 := 17#32
  let v359 : BitVec 32 := Scalar.muli v352 c17_i32_273
  let c0_i32_276 : BitVec 32 := 0#32
  ![v359.toNat, 0]
def k0_off329 (v356 : BitVec 32) : Fin 2 → Nat :=
  let c16_i32_272 : BitVec 32 := 16#32
  let v357 : BitVec 32 := Scalar.muli v356 c16_i32_272
  let v358 : BitVec 32 := v357
  let c0_i32_277 : BitVec 32 := 0#32
  ![v358.toNat, 0]

def k0_chk57 (v356 : BitVec 32) : Prop :=
  (16 ∣ (k0_mult57 v356).toNat) ∧
  (∀ a, (k0_off329 v356) a + S16x128.size a ≤ S262144x128.size a)
theorem k0_mult57_dvd : ∀ (v356 : BitVec 32) (k0_hw57 : k0_chk57 v356), 16 ∣ (k0_mult57 v356).toNat := fun v356 k0_hw57 => k0_hw57.1
theorem k0_off329_inb : ∀ (v356 : BitVec 32) (k0_hw57 : k0_chk57 v356), ∀ a, (k0_off329 v356) a + S16x128.size a ≤ S262144x128.size a := fun v356 k0_hw57 => k0_hw57.2

def k0_off330 (k0_t5 : Fin k0_t5_loop.trips) (k0_t23 : Fin k0_t23_loop.trips) : Fin 3 → Nat :=
  let c0_i32_279 : BitVec 32 := 0#32
  let c0_i32_2 : BitVec 32 := 0#32
  let c1_i32 : BitVec 32 := 1#32
  let arg16 : BitVec 32 := Scf.iv c0_i32_2 c1_i32 k0_t5
  let c4_i32_86 : BitVec 32 := 4#32
  let v96 : BitVec 32 := Scalar.muli arg16 c4_i32_86
  let c3_i32 : BitVec 32 := 3#32
  let v97 : BitVec 32 := Scalar.addi v96 c3_i32
  let c3_i32_264 : BitVec 32 := 3#32
  let v345 : BitVec 32 := Scalar.addi v97 c3_i32_264
  let c8_i32_265 : BitVec 32 := 8#32
  let v346 : BitVec 32 := Scalar.muli v345 c8_i32_265
  let c0_i32_105 : BitVec 32 := 0#32
  let c1_i32_107 : BitVec 32 := 1#32
  let arg17 : BitVec 32 := Scf.iv c0_i32_105 c1_i32_107 k0_t23
  let c2_i32_148 : BitVec 32 := 2#32
  let v179 : BitVec 32 := Scalar.muli arg17 c2_i32_148
  let c1_i32_149 : BitVec 32 := 1#32
  let v180 : BitVec 32 := Scalar.addi v179 c1_i32_149
  let v347 : BitVec 32 := Scalar.addi v346 v180
  let c0_i32_280 : BitVec 32 := 0#32
  ![0, v347.toNat, 0]
def k0_off331 (k0_t25 : Fin k0_t25_loop.trips) : Fin 1 → Nat :=
  let c64_i32 : BitVec 32 := 64#32
  let c0_i32_169 : BitVec 32 := 0#32
  let c1_i32_171 : BitVec 32 := 1#32
  let arg18 : BitVec 32 := Scf.iv c0_i32_169 c1_i32_171 k0_t25
  let c4_i32_266 : BitVec 32 := 4#32
  let v348 : BitVec 32 := Scalar.muli arg18 c4_i32_266
  let v349 : BitVec 32 := Scalar.addi c64_i32 v348
  let c1_i32_278 : BitVec 32 := 1#32
  let v365 : BitVec 32 := Scalar.addi v349 c1_i32_278
  let v368 : Index := Scalar.indexCast v365
  ![v368.toNat]
def k0_mult58 (v369 : BitVec 32) : BitVec 32 :=
  let c16_i32_281 : BitVec 32 := 16#32
  let v370 : BitVec 32 := Scalar.muli v369 c16_i32_281
  v370

def k0_off332 (k0_t23 : Fin k0_t23_loop.trips) : Fin 2 → Nat :=
  let c0_i32_105 : BitVec 32 := 0#32
  let c1_i32_107 : BitVec 32 := 1#32
  let arg17 : BitVec 32 := Scf.iv c0_i32_105 c1_i32_107 k0_t23
  let c2_i32_148 : BitVec 32 := 2#32
  let v179 : BitVec 32 := Scalar.muli arg17 c2_i32_148
  let c1_i32_149 : BitVec 32 := 1#32
  let v180 : BitVec 32 := Scalar.addi v179 c1_i32_149
  let c128_i32_267 : BitVec 32 := 128#32
  let v350 : BitVec 32 := Scalar.muli v180 c128_i32_267
  let c17_i32_268 : BitVec 32 := 17#32
  let v351 : BitVec 32 := Scalar.muli v350 c17_i32_268
  let c0_i32_284 : BitVec 32 := 0#32
  ![v351.toNat, 0]
def k0_off333 (k0_t25 : Fin k0_t25_loop.trips) : Fin 2 → Nat :=
  let c64_i32 : BitVec 32 := 64#32
  let c0_i32_169 : BitVec 32 := 0#32
  let c1_i32_171 : BitVec 32 := 1#32
  let arg18 : BitVec 32 := Scf.iv c0_i32_169 c1_i32_171 k0_t25
  let c4_i32_266 : BitVec 32 := 4#32
  let v348 : BitVec 32 := Scalar.muli arg18 c4_i32_266
  let v349 : BitVec 32 := Scalar.addi c64_i32 v348
  let c1_i32_278 : BitVec 32 := 1#32
  let v365 : BitVec 32 := Scalar.addi v349 c1_i32_278
  let c17_i32_282 : BitVec 32 := 17#32
  let v372 : BitVec 32 := Scalar.muli v365 c17_i32_282
  let c0_i32_285 : BitVec 32 := 0#32
  ![v372.toNat, 0]
def k0_off334 (v369 : BitVec 32) : Fin 2 → Nat :=
  let c16_i32_281 : BitVec 32 := 16#32
  let v370 : BitVec 32 := Scalar.muli v369 c16_i32_281
  let v371 : BitVec 32 := v370
  let c0_i32_286 : BitVec 32 := 0#32
  ![v371.toNat, 0]

def k0_chk58 (v369 : BitVec 32) : Prop :=
  (16 ∣ (k0_mult58 v369).toNat) ∧
  (∀ a, (k0_off334 v369) a + S16x128.size a ≤ S262144x128.size a)
theorem k0_mult58_dvd : ∀ (v369 : BitVec 32) (k0_hw58 : k0_chk58 v369), 16 ∣ (k0_mult58 v369).toNat := fun v369 k0_hw58 => k0_hw58.1
theorem k0_off334_inb : ∀ (v369 : BitVec 32) (k0_hw58 : k0_chk58 v369), ∀ a, (k0_off334 v369) a + S16x128.size a ≤ S262144x128.size a := fun v369 k0_hw58 => k0_hw58.2

def k0_off335 (k0_t5 : Fin k0_t5_loop.trips) (k0_t23 : Fin k0_t23_loop.trips) : Fin 3 → Nat :=
  let c0_i32_288 : BitVec 32 := 0#32
  let c0_i32_2 : BitVec 32 := 0#32
  let c1_i32 : BitVec 32 := 1#32
  let arg16 : BitVec 32 := Scf.iv c0_i32_2 c1_i32 k0_t5
  let c4_i32_86 : BitVec 32 := 4#32
  let v96 : BitVec 32 := Scalar.muli arg16 c4_i32_86
  let c3_i32 : BitVec 32 := 3#32
  let v97 : BitVec 32 := Scalar.addi v96 c3_i32
  let c3_i32_264 : BitVec 32 := 3#32
  let v345 : BitVec 32 := Scalar.addi v97 c3_i32_264
  let c8_i32_265 : BitVec 32 := 8#32
  let v346 : BitVec 32 := Scalar.muli v345 c8_i32_265
  let c0_i32_105 : BitVec 32 := 0#32
  let c1_i32_107 : BitVec 32 := 1#32
  let arg17 : BitVec 32 := Scf.iv c0_i32_105 c1_i32_107 k0_t23
  let c2_i32_148 : BitVec 32 := 2#32
  let v179 : BitVec 32 := Scalar.muli arg17 c2_i32_148
  let c1_i32_149 : BitVec 32 := 1#32
  let v180 : BitVec 32 := Scalar.addi v179 c1_i32_149
  let v347 : BitVec 32 := Scalar.addi v346 v180
  let c0_i32_289 : BitVec 32 := 0#32
  ![0, v347.toNat, 0]
def k0_off336 (k0_t25 : Fin k0_t25_loop.trips) : Fin 1 → Nat :=
  let c64_i32 : BitVec 32 := 64#32
  let c0_i32_169 : BitVec 32 := 0#32
  let c1_i32_171 : BitVec 32 := 1#32
  let arg18 : BitVec 32 := Scf.iv c0_i32_169 c1_i32_171 k0_t25
  let c4_i32_266 : BitVec 32 := 4#32
  let v348 : BitVec 32 := Scalar.muli arg18 c4_i32_266
  let v349 : BitVec 32 := Scalar.addi c64_i32 v348
  let c2_i32_287 : BitVec 32 := 2#32
  let v378 : BitVec 32 := Scalar.addi v349 c2_i32_287
  let v381 : Index := Scalar.indexCast v378
  ![v381.toNat]
def k0_mult59 (v382 : BitVec 32) : BitVec 32 :=
  let c16_i32_290 : BitVec 32 := 16#32
  let v383 : BitVec 32 := Scalar.muli v382 c16_i32_290
  v383

def k0_off337 (k0_t23 : Fin k0_t23_loop.trips) : Fin 2 → Nat :=
  let c0_i32_105 : BitVec 32 := 0#32
  let c1_i32_107 : BitVec 32 := 1#32
  let arg17 : BitVec 32 := Scf.iv c0_i32_105 c1_i32_107 k0_t23
  let c2_i32_148 : BitVec 32 := 2#32
  let v179 : BitVec 32 := Scalar.muli arg17 c2_i32_148
  let c1_i32_149 : BitVec 32 := 1#32
  let v180 : BitVec 32 := Scalar.addi v179 c1_i32_149
  let c128_i32_267 : BitVec 32 := 128#32
  let v350 : BitVec 32 := Scalar.muli v180 c128_i32_267
  let c17_i32_268 : BitVec 32 := 17#32
  let v351 : BitVec 32 := Scalar.muli v350 c17_i32_268
  let c0_i32_293 : BitVec 32 := 0#32
  ![v351.toNat, 0]
def k0_off338 (k0_t25 : Fin k0_t25_loop.trips) : Fin 2 → Nat :=
  let c64_i32 : BitVec 32 := 64#32
  let c0_i32_169 : BitVec 32 := 0#32
  let c1_i32_171 : BitVec 32 := 1#32
  let arg18 : BitVec 32 := Scf.iv c0_i32_169 c1_i32_171 k0_t25
  let c4_i32_266 : BitVec 32 := 4#32
  let v348 : BitVec 32 := Scalar.muli arg18 c4_i32_266
  let v349 : BitVec 32 := Scalar.addi c64_i32 v348
  let c2_i32_287 : BitVec 32 := 2#32
  let v378 : BitVec 32 := Scalar.addi v349 c2_i32_287
  let c17_i32_291 : BitVec 32 := 17#32
  let v385 : BitVec 32 := Scalar.muli v378 c17_i32_291
  let c0_i32_294 : BitVec 32 := 0#32
  ![v385.toNat, 0]
def k0_off339 (v382 : BitVec 32) : Fin 2 → Nat :=
  let c16_i32_290 : BitVec 32 := 16#32
  let v383 : BitVec 32 := Scalar.muli v382 c16_i32_290
  let v384 : BitVec 32 := v383
  let c0_i32_295 : BitVec 32 := 0#32
  ![v384.toNat, 0]

def k0_chk59 (v382 : BitVec 32) : Prop :=
  (16 ∣ (k0_mult59 v382).toNat) ∧
  (∀ a, (k0_off339 v382) a + S16x128.size a ≤ S262144x128.size a)
theorem k0_mult59_dvd : ∀ (v382 : BitVec 32) (k0_hw59 : k0_chk59 v382), 16 ∣ (k0_mult59 v382).toNat := fun v382 k0_hw59 => k0_hw59.1
theorem k0_off339_inb : ∀ (v382 : BitVec 32) (k0_hw59 : k0_chk59 v382), ∀ a, (k0_off339 v382) a + S16x128.size a ≤ S262144x128.size a := fun v382 k0_hw59 => k0_hw59.2

def k0_off340 (k0_t5 : Fin k0_t5_loop.trips) (k0_t23 : Fin k0_t23_loop.trips) : Fin 3 → Nat :=
  let c0_i32_297 : BitVec 32 := 0#32
  let c0_i32_2 : BitVec 32 := 0#32
  let c1_i32 : BitVec 32 := 1#32
  let arg16 : BitVec 32 := Scf.iv c0_i32_2 c1_i32 k0_t5
  let c4_i32_86 : BitVec 32 := 4#32
  let v96 : BitVec 32 := Scalar.muli arg16 c4_i32_86
  let c3_i32 : BitVec 32 := 3#32
  let v97 : BitVec 32 := Scalar.addi v96 c3_i32
  let c3_i32_264 : BitVec 32 := 3#32
  let v345 : BitVec 32 := Scalar.addi v97 c3_i32_264
  let c8_i32_265 : BitVec 32 := 8#32
  let v346 : BitVec 32 := Scalar.muli v345 c8_i32_265
  let c0_i32_105 : BitVec 32 := 0#32
  let c1_i32_107 : BitVec 32 := 1#32
  let arg17 : BitVec 32 := Scf.iv c0_i32_105 c1_i32_107 k0_t23
  let c2_i32_148 : BitVec 32 := 2#32
  let v179 : BitVec 32 := Scalar.muli arg17 c2_i32_148
  let c1_i32_149 : BitVec 32 := 1#32
  let v180 : BitVec 32 := Scalar.addi v179 c1_i32_149
  let v347 : BitVec 32 := Scalar.addi v346 v180
  let c0_i32_298 : BitVec 32 := 0#32
  ![0, v347.toNat, 0]
def k0_off341 (k0_t25 : Fin k0_t25_loop.trips) : Fin 1 → Nat :=
  let c64_i32 : BitVec 32 := 64#32
  let c0_i32_169 : BitVec 32 := 0#32
  let c1_i32_171 : BitVec 32 := 1#32
  let arg18 : BitVec 32 := Scf.iv c0_i32_169 c1_i32_171 k0_t25
  let c4_i32_266 : BitVec 32 := 4#32
  let v348 : BitVec 32 := Scalar.muli arg18 c4_i32_266
  let v349 : BitVec 32 := Scalar.addi c64_i32 v348
  let c3_i32_296 : BitVec 32 := 3#32
  let v391 : BitVec 32 := Scalar.addi v349 c3_i32_296
  let v394 : Index := Scalar.indexCast v391
  ![v394.toNat]
def k0_mult60 (v395 : BitVec 32) : BitVec 32 :=
  let c16_i32_299 : BitVec 32 := 16#32
  let v396 : BitVec 32 := Scalar.muli v395 c16_i32_299
  v396

def k0_off342 (k0_t23 : Fin k0_t23_loop.trips) : Fin 2 → Nat :=
  let c0_i32_105 : BitVec 32 := 0#32
  let c1_i32_107 : BitVec 32 := 1#32
  let arg17 : BitVec 32 := Scf.iv c0_i32_105 c1_i32_107 k0_t23
  let c2_i32_148 : BitVec 32 := 2#32
  let v179 : BitVec 32 := Scalar.muli arg17 c2_i32_148
  let c1_i32_149 : BitVec 32 := 1#32
  let v180 : BitVec 32 := Scalar.addi v179 c1_i32_149
  let c128_i32_267 : BitVec 32 := 128#32
  let v350 : BitVec 32 := Scalar.muli v180 c128_i32_267
  let c17_i32_268 : BitVec 32 := 17#32
  let v351 : BitVec 32 := Scalar.muli v350 c17_i32_268
  let c0_i32_302 : BitVec 32 := 0#32
  ![v351.toNat, 0]
def k0_off343 (k0_t25 : Fin k0_t25_loop.trips) : Fin 2 → Nat :=
  let c64_i32 : BitVec 32 := 64#32
  let c0_i32_169 : BitVec 32 := 0#32
  let c1_i32_171 : BitVec 32 := 1#32
  let arg18 : BitVec 32 := Scf.iv c0_i32_169 c1_i32_171 k0_t25
  let c4_i32_266 : BitVec 32 := 4#32
  let v348 : BitVec 32 := Scalar.muli arg18 c4_i32_266
  let v349 : BitVec 32 := Scalar.addi c64_i32 v348
  let c3_i32_296 : BitVec 32 := 3#32
  let v391 : BitVec 32 := Scalar.addi v349 c3_i32_296
  let c17_i32_300 : BitVec 32 := 17#32
  let v398 : BitVec 32 := Scalar.muli v391 c17_i32_300
  let c0_i32_303 : BitVec 32 := 0#32
  ![v398.toNat, 0]
def k0_off344 (v395 : BitVec 32) : Fin 2 → Nat :=
  let c16_i32_299 : BitVec 32 := 16#32
  let v396 : BitVec 32 := Scalar.muli v395 c16_i32_299
  let v397 : BitVec 32 := v396
  let c0_i32_304 : BitVec 32 := 0#32
  ![v397.toNat, 0]

def k0_chk60 (v395 : BitVec 32) : Prop :=
  (16 ∣ (k0_mult60 v395).toNat) ∧
  (∀ a, (k0_off344 v395) a + S16x128.size a ≤ S262144x128.size a)
theorem k0_mult60_dvd : ∀ (v395 : BitVec 32) (k0_hw60 : k0_chk60 v395), 16 ∣ (k0_mult60 v395).toNat := fun v395 k0_hw60 => k0_hw60.1
theorem k0_off344_inb : ∀ (v395 : BitVec 32) (k0_hw60 : k0_chk60 v395), ∀ a, (k0_off344 v395) a + S16x128.size a ≤ S262144x128.size a := fun v395 k0_hw60 => k0_hw60.2

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .smem S1x152x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S128x16384 : Shape := ⟨2, ![128, 16384]⟩
abbrev S16384x2048 : Shape := ⟨2, ![16384, 2048]⟩
abbrev S2048 : Shape := ⟨1, ![2048]⟩
abbrev S262144x128 : Shape := ⟨2, ![262144, 128]⟩
abbrev S_ : Shape := ⟨0, ![]⟩
abbrev S16384x128 : Shape := ⟨2, ![16384, 128]⟩
abbrev S16384x8x16 : Shape := ⟨3, ![16384, 8, 16]⟩
abbrev S16384x8x16x1 : Shape := ⟨4, ![16384, 8, 16, 1]⟩
abbrev S16384x8x16x2048 : Shape := ⟨4, ![16384, 8, 16, 2048]⟩
abbrev S16384 : Shape := ⟨1, ![16384]⟩
abbrev S16384x1 : Shape := ⟨2, ![16384, 1]⟩
abbrev S1x2048 : Shape := ⟨2, ![1, 2048]⟩

abbrev nBuf : Space → Nat
  | .hbm => 67
  | .vmem => 0
  | .smem => 0
  | _ => 0

abbrev bufTy : (tb : Table) → Fin (tcTables nBuf tb) → BufTy
  | .hbm, ⟨0, _⟩ => ⟨S128x16384, .i32⟩
  | .hbm, ⟨1, _⟩ => ⟨S128x16384, .f32⟩
  | .hbm, ⟨2, _⟩ => ⟨S16384x2048, .f32⟩
  | .hbm, ⟨3, _⟩ => ⟨S16384x2048, .f32⟩
  | .hbm, ⟨4, _⟩ => ⟨S2048, .f32⟩
  | .hbm, ⟨5, _⟩ => ⟨S262144x128, .i32⟩
  | .hbm, ⟨6, _⟩ => ⟨S_, .i32⟩
  | .hbm, ⟨7, _⟩ => ⟨S262144x128, .i32⟩
  | .hbm, ⟨8, _⟩ => ⟨S262144x128, .i32⟩
  | .hbm, ⟨9, _⟩ => ⟨S262144x128, .f32⟩
  | .hbm, ⟨10, _⟩ => ⟨S16384x2048, .f32⟩
  | .hbm, ⟨11, _⟩ => ⟨S_, .i32⟩
  | .hbm, ⟨12, _⟩ => ⟨S262144x128, .i32⟩
  | .hbm, ⟨13, _⟩ => ⟨S262144x128, .i32⟩
  | .hbm, ⟨14, _⟩ => ⟨S262144x128, .f32⟩
  | .hbm, ⟨15, _⟩ => ⟨S16384x2048, .f32⟩
  | .hbm, ⟨16, _⟩ => ⟨S16384x128, .i32⟩
  | .hbm, ⟨17, _⟩ => ⟨S16384x8x16, .i32⟩
  | .hbm, ⟨18, _⟩ => ⟨S16384x128, .f32⟩
  | .hbm, ⟨19, _⟩ => ⟨S16384x8x16, .f32⟩
  | .hbm, ⟨20, _⟩ => ⟨S_, .i32⟩
  | .hbm, ⟨21, _⟩ => ⟨S16384x8x16, .i32⟩
  | .hbm, ⟨22, _⟩ => ⟨S16384x8x16, .i1⟩
  | .hbm, ⟨23, _⟩ => ⟨S_, .i32⟩
  | .hbm, ⟨24, _⟩ => ⟨S16384x8x16, .i32⟩
  | .hbm, ⟨25, _⟩ => ⟨S16384x8x16, .i32⟩
  | .hbm, ⟨26, _⟩ => ⟨S16384x8x16, .i32⟩
  | .hbm, ⟨27, _⟩ => ⟨S16384x8x16x1, .i32⟩
  | .hbm, ⟨28, _⟩ => ⟨S16384x8x16x2048, .f32⟩
  | .hbm, ⟨29, _⟩ => ⟨S16384x8x16, .f32⟩
  | .hbm, ⟨30, _⟩ => ⟨S_, .f32⟩
  | .hbm, ⟨31, _⟩ => ⟨S16384x8x16, .f32⟩
  | .hbm, ⟨32, _⟩ => ⟨S16384x8x16, .f32⟩
  | .hbm, ⟨33, _⟩ => ⟨S16384x8x16, .f32⟩
  | .hbm, ⟨34, _⟩ => ⟨S_, .f32⟩
  | .hbm, ⟨35, _⟩ => ⟨S16384x8x16, .f32⟩
  | .hbm, ⟨36, _⟩ => ⟨S16384x8x16, .f32⟩
  | .hbm, ⟨37, _⟩ => ⟨S16384x8x16, .f32⟩
  | .hbm, ⟨38, _⟩ => ⟨S16384x8x16, .f32⟩
  | .hbm, ⟨39, _⟩ => ⟨S16384x8x16, .f32⟩
  | .hbm, ⟨40, _⟩ => ⟨S_, .i32⟩
  | .hbm, ⟨41, _⟩ => ⟨S16384x8x16, .i32⟩
  | .hbm, ⟨42, _⟩ => ⟨S16384x8x16, .i1⟩
  | .hbm, ⟨43, _⟩ => ⟨S_, .i32⟩
  | .hbm, ⟨44, _⟩ => ⟨S16384x8x16, .i32⟩
  | .hbm, ⟨45, _⟩ => ⟨S16384x8x16, .i32⟩
  | .hbm, ⟨46, _⟩ => ⟨S16384x8x16, .i32⟩
  | .hbm, ⟨47, _⟩ => ⟨S16384x8x16x1, .i32⟩
  | .hbm, ⟨48, _⟩ => ⟨S16384x8x16x2048, .f32⟩
  | .hbm, ⟨49, _⟩ => ⟨S16384x2048, .f32⟩
  | .hbm, ⟨50, _⟩ => ⟨S16384x2048, .f32⟩
  | .hbm, ⟨51, _⟩ => ⟨S16384x2048, .f32⟩
  | .hbm, ⟨52, _⟩ => ⟨S_, .f32⟩
  | .hbm, ⟨53, _⟩ => ⟨S16384, .f32⟩
  | .hbm, ⟨54, _⟩ => ⟨S16384x1, .f32⟩
  | .hbm, ⟨55, _⟩ => ⟨S_, .f32⟩
  | .hbm, ⟨56, _⟩ => ⟨S16384x1, .f32⟩
  | .hbm, ⟨57, _⟩ => ⟨S16384x1, .f32⟩
  | .hbm, ⟨58, _⟩ => ⟨S_, .f32⟩
  | .hbm, ⟨59, _⟩ => ⟨S16384x1, .f32⟩
  | .hbm, ⟨60, _⟩ => ⟨S16384x1, .f32⟩
  | .hbm, ⟨61, _⟩ => ⟨S16384x1, .f32⟩
  | .hbm, ⟨62, _⟩ => ⟨S16384x2048, .f32⟩
  | .hbm, ⟨63, _⟩ => ⟨S16384x2048, .f32⟩
  | .hbm, ⟨64, _⟩ => ⟨S1x2048, .f32⟩
  | .hbm, ⟨65, _⟩ => ⟨S16384x2048, .f32⟩
  | .hbm, ⟨66, _⟩ => ⟨S16384x2048, .f32⟩
  | _, _ => ⟨S128x16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c_1 : Ref sig .tc := ⟨.hbm, 20, rfl⟩
abbrev main_v12 : Ref sig .tc := ⟨.hbm, 21, rfl⟩
abbrev main_v13 : Ref sig .tc := ⟨.hbm, 22, rfl⟩
abbrev main_c_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_4 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_cst_7 : Ref sig .tc := ⟨.hbm, 55, rfl⟩
abbrev main_v40 : Ref sig .tc := ⟨.hbm, 56, rfl⟩
abbrev main_v41 : Ref sig .tc := ⟨.hbm, 57, rfl⟩
abbrev main_cst_8 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩

abbrev nD : Nat := 1
abbrev τ : Topo := Topo.v7x

variable {F : FTy → Type} [FloatOps F]
-- ==== Kernel2.lean ====
abbrev S2x8192x2048 : Shape := ⟨3, ![2, 8192, 2048]⟩
abbrev S1x2048 : Shape := ⟨2, ![1, 2048]⟩
abbrev S1x2048x7184 : Shape := ⟨3, ![1, 2048, 7184]⟩
abbrev S2048x7184 : Shape := ⟨2, ![2048, 7184]⟩
abbrev S_ : Shape := ⟨0, ![]⟩
abbrev S2048x7296 : Shape := ⟨2, ![2048, 7296]⟩
abbrev S16384x2048 : Shape := ⟨2, ![16384, 2048]⟩
abbrev S2048 : Shape := ⟨1, ![2048]⟩
abbrev S16384x7296 : Shape := ⟨2, ![16384, 7296]⟩
abbrev S512x2048 : Shape := ⟨2, ![512, 2048]⟩
abbrev S2048x2432 : Shape := ⟨2, ![2048, 2432]⟩
abbrev S512x2432 : Shape := ⟨2, ![512, 2432]⟩
abbrev S512 : Shape := ⟨1, ![512]⟩
abbrev S512x1 : Shape := ⟨2, ![512, 1]⟩

abbrev nBuf : Space → Nat
  | .hbm => 12
  | .vmem => 7
  | .smem => 0
  | _ => 0

abbrev bufTy : (tb : Table) → Fin (tcTables nBuf tb) → BufTy
  | .hbm, ⟨0, _⟩ => ⟨S2x8192x2048, .f32⟩
  | .hbm, ⟨1, _⟩ => ⟨S1x2048, .f32⟩
  | .hbm, ⟨2, _⟩ => ⟨S1x2048x7184, .f32⟩
  | .hbm, ⟨3, _⟩ => ⟨S2048x7184, .f32⟩
  | .hbm, ⟨4, _⟩ => ⟨S_, .i32⟩
  | .hbm, ⟨5, _⟩ => ⟨S_, .f32⟩
  | .hbm, ⟨6, _⟩ => ⟨S2048x7296, .f32⟩
  | .hbm, ⟨7, _⟩ => ⟨S2048x7296, .bf16⟩
  | .hbm, ⟨8, _⟩ => ⟨S16384x2048, .f32⟩
  | .hbm, ⟨9, _⟩ => ⟨S2048, .f32⟩
  | .hbm, ⟨10, _⟩ => ⟨S1x2048, .f32⟩
  | .hbm, ⟨11, _⟩ => ⟨S16384x7296, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x2432, .bf16⟩
  | .local _ .vmem, ⟨4, _⟩ => ⟨S2048x2432, .bf16⟩
  | .local _ .vmem, ⟨5, _⟩ => ⟨S512x2432, .f32⟩
  | .local _ .vmem, ⟨6, _⟩ => ⟨S512x2432, .f32⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![3, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x2432 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x2432 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S2x8192x2048 : Shape := ⟨3, ![2, 8192, 2048]⟩
abbrev S1x2048 : Shape := ⟨2, ![1, 2048]⟩
abbrev S1x2048x7184 : Shape := ⟨3, ![1, 2048, 7184]⟩
abbrev S2048 : Shape := ⟨1, ![2048]⟩
abbrev S_ : Shape := ⟨0, ![]⟩
abbrev S2x8192 : Shape := ⟨2, ![2, 8192]⟩
abbrev S2x8192x1 : Shape := ⟨3, ![2, 8192, 1]⟩
abbrev S1x1x2048 : Shape := ⟨3, ![1, 1, 2048]⟩
abbrev S2048x7184 : Shape := ⟨2, ![2048, 7184]⟩
abbrev S2x8192x7184 : Shape := ⟨3, ![2, 8192, 7184]⟩
abbrev S16384x7184 : Shape := ⟨2, ![16384, 7184]⟩
abbrev S16384x7296 : Shape := ⟨2, ![16384, 7296]⟩

abbrev nBuf : Space → Nat
  | .hbm => 26
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S1x2048, .f32⟩
  | .hbm, ⟨2, _⟩ => ⟨S1x2048x7184, .f32⟩
  | .hbm, ⟨3, _⟩ => ⟨S2048, .f32⟩
  | .hbm, ⟨4, _⟩ => ⟨S2x8192x2048, .f32⟩
  | .hbm, ⟨5, _⟩ => ⟨S_, .f32⟩
  | .hbm, ⟨6, _⟩ => ⟨S2x8192, .f32⟩
  | .hbm, ⟨7, _⟩ => ⟨S2x8192x1, .f32⟩
  | .hbm, ⟨8, _⟩ => ⟨S_, .f32⟩
  | .hbm, ⟨9, _⟩ => ⟨S2x8192x1, .f32⟩
  | .hbm, ⟨10, _⟩ => ⟨S2x8192x1, .f32⟩
  | .hbm, ⟨11, _⟩ => ⟨S_, .f32⟩
  | .hbm, ⟨12, _⟩ => ⟨S2x8192x1, .f32⟩
  | .hbm, ⟨13, _⟩ => ⟨S2x8192x1, .f32⟩
  | .hbm, ⟨14, _⟩ => ⟨S2x8192x1, .f32⟩
  | .hbm, ⟨15, _⟩ => ⟨S2x8192x2048, .f32⟩
  | .hbm, ⟨16, _⟩ => ⟨S2x8192x2048, .f32⟩
  | .hbm, ⟨17, _⟩ => ⟨S1x1x2048, .f32⟩
  | .hbm, ⟨18, _⟩ => ⟨S2x8192x2048, .f32⟩
  | .hbm, ⟨19, _⟩ => ⟨S2x8192x2048, .f32⟩
  | .hbm, ⟨20, _⟩ => ⟨S2048x7184, .f32⟩
  | .hbm, ⟨21, _⟩ => ⟨S2x8192x7184, .f32⟩
  | .hbm, ⟨22, _⟩ => ⟨S16384x7184, .f32⟩
  | .hbm, ⟨23, _⟩ => ⟨S_, .i32⟩
  | .hbm, ⟨24, _⟩ => ⟨S_, .f32⟩
  | .hbm, ⟨25, _⟩ => ⟨S16384x7296, .f32⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_c : Ref sig .tc := ⟨.hbm, 23, rfl⟩
abbrev main_call0_v0 : Ref sig .tc := ⟨.hbm, 24, rfl⟩
abbrev main_v17 : Ref sig .tc := ⟨.hbm, 25, rfl⟩

abbrev nD : Nat := 1
abbrev τ : Topo := Topo.v7x

variable {F : FTy → Type} [FloatOps F]
-- ==== Kernel3.lean ====
abbrev S2x8192x2048 : Shape := ⟨3, ![2, 8192, 2048]⟩
abbrev S2x8192x1024 : Shape := ⟨3, ![2, 8192, 1024]⟩
abbrev S1x2048x2048 : Shape := ⟨3, ![1, 2048, 2048]⟩
abbrev S1x2048 : Shape := ⟨2, ![1, 2048]⟩
abbrev S1x2048x8x256 : Shape := ⟨4, ![1, 2048, 8, 256]⟩
abbrev S1x2x8x128x128 : Shape := ⟨5, ![1, 2, 8, 128, 128]⟩
abbrev S2048x8x256 : Shape := ⟨3, ![2048, 8, 256]⟩
abbrev S2048x2048 : Shape := ⟨2, ![2048, 2048]⟩
abbrev S16384x2048 : Shape := ⟨2, ![16384, 2048]⟩
abbrev S16384x1024 : Shape := ⟨2, ![16384, 1024]⟩
abbrev S2048 : Shape := ⟨1, ![2048]⟩
abbrev S1x1x8x128x128 : Shape := ⟨5, ![1, 1, 8, 128, 128]⟩
abbrev S8x128x128 : Shape := ⟨3, ![8, 128, 128]⟩
abbrev S8x128x16384 : Shape := ⟨3, ![8, 128, 16384]⟩
abbrev S256x2048 : Shape := ⟨2, ![256, 2048]⟩
abbrev S256x1024 : Shape := ⟨2, ![256, 1024]⟩
abbrev S8x128x256 : Shape := ⟨3, ![8, 128, 256]⟩
abbrev S1024x2048 : Shape := ⟨2, ![1024, 2048]⟩
abbrev S256 : Shape := ⟨1, ![256]⟩
abbrev S256x1 : Shape := ⟨2, ![256, 1]⟩
abbrev S256x128 : Shape := ⟨2, ![256, 128]⟩
abbrev S1x128x128 : Shape := ⟨3, ![1, 128, 128]⟩
abbrev S128x128 : Shape := ⟨2, ![128, 128]⟩
abbrev S128x256 : Shape := ⟨2, ![128, 256]⟩
abbrev S1x128x256 : Shape := ⟨3, ![1, 128, 256]⟩

abbrev nBuf : Space → Nat
  | .hbm => 25
  | .vmem => 19
  | .smem => 0
  | _ => 0

abbrev bufTy : (tb : Table) → Fin (tcTables nBuf tb) → BufTy
  | .hbm, ⟨0, _⟩ => ⟨S2x8192x2048, .f32⟩
  | .hbm, ⟨1, _⟩ => ⟨S2x8192x1024, .bf16⟩
  | .hbm, ⟨2, _⟩ => ⟨S2x8192x1024, .bf16⟩
  | .hbm, ⟨3, _⟩ => ⟨S1x2048x2048, .f32⟩
  | .hbm, ⟨4, _⟩ => ⟨S1x2048, .f32⟩
  | .hbm, ⟨5, _⟩ => ⟨S1x2048x8x256, .f32⟩
  | .hbm, ⟨6, _⟩ => ⟨S1x2x8x128x128, .f32⟩
  | .hbm, ⟨7, _⟩ => ⟨S2048x8x256, .f32⟩
  | .hbm, ⟨8, _⟩ => ⟨S2048x2048, .f32⟩
  | .hbm, ⟨9, _⟩ => ⟨S2048x2048, .bf16⟩
  | .hbm, ⟨10, _⟩ => ⟨S16384x2048, .f32⟩
  | .hbm, ⟨11, _⟩ => ⟨S16384x1024, .bf16⟩
  | .hbm, ⟨12, _⟩ => ⟨S16384x1024, .bf16⟩
  | .hbm, ⟨13, _⟩ => ⟨S2048x2048, .f32⟩
  | .hbm, ⟨14, _⟩ => ⟨S2048x2048, .bf16⟩
  | .hbm, ⟨15, _⟩ => ⟨S2048, .f32⟩
  | .hbm, ⟨16, _⟩ => ⟨S1x2048, .f32⟩
  | .hbm, ⟨17, _⟩ => ⟨S1x1x8x128x128, .f32⟩
  | .hbm, ⟨18, _⟩ => ⟨S8x128x128, .f32⟩
  | .hbm, ⟨19, _⟩ => ⟨S1x1x8x128x128, .f32⟩
  | .hbm, ⟨20, _⟩ => ⟨S8x128x128, .f32⟩
  | .hbm, ⟨21, _⟩ => ⟨S16384x2048, .f32⟩
  | .hbm, ⟨22, _⟩ => ⟨S16384x2048, .f32⟩
  | .hbm, ⟨23, _⟩ => ⟨S8x128x16384, .f32⟩
  | .hbm, ⟨24, _⟩ => ⟨S8x128x16384, .f32⟩
  | .local _ .vmem, ⟨0, _⟩ => ⟨S256x2048, .f32⟩
  | .local _ .vmem, ⟨1, _⟩ => ⟨S256x2048, .f32⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S2048x2048, .bf16⟩
  | .local _ .vmem, ⟨7, _⟩ => ⟨S1x2048, .f32⟩
  | .local _ .vmem, ⟨8, _⟩ => ⟨S2048x2048, .bf16⟩
  | .local _ .vmem, ⟨9, _⟩ => ⟨S8x128x128, .f32⟩
  | .local _ .vmem, ⟨10, _⟩ => ⟨S8x128x128, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .f32⟩
  | .local _ .vmem, ⟨15, _⟩ => ⟨S8x128x256, .f32⟩
  | .local _ .vmem, ⟨16, _⟩ => ⟨S8x128x256, .f32⟩
  | .local _ .vmem, ⟨17, _⟩ => ⟨S8x128x256, .f32⟩
  | .local _ .vmem, ⟨18, _⟩ => ⟨S8x128x256, .f32⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14_0 : Ref sig .tc := ⟨.hbm, 21, rfl⟩
abbrev main_v14_1 : Ref sig .tc := ⟨.hbm, 22, rfl⟩
abbrev main_v14_2 : Ref sig .tc := ⟨.hbm, 23, rfl⟩
abbrev main_v14_3 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S8x128x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S8x128x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference3Ideal.lean ====
abbrev S2x8192x2048 : Shape := ⟨3, ![2, 8192, 2048]⟩
abbrev S2x8192x1024 : Shape := ⟨3, ![2, 8192, 1024]⟩
abbrev S1x2048x2048 : Shape := ⟨3, ![1, 2048, 2048]⟩
abbrev S1x2048 : Shape := ⟨2, ![1, 2048]⟩
abbrev S1x2048x8x256 : Shape := ⟨4, ![1, 2048, 8, 256]⟩
abbrev S1x2x8x128x128 : Shape := ⟨5, ![1, 2, 8, 128, 128]⟩
abbrev S2048x2048 : Shape := ⟨2, ![2048, 2048]⟩
abbrev S2048 : Shape := ⟨1, ![2048]⟩
abbrev S_ : Shape := ⟨0, ![]⟩
abbrev S2x8192 : Shape := ⟨2, ![2, 8192]⟩
abbrev S2x8192x1 : Shape := ⟨3, ![2, 8192, 1]⟩
abbrev S1x1x2048 : Shape := ⟨3, ![1, 1, 2048]⟩
abbrev S16384x2048 : Shape := ⟨2, ![16384, 2048]⟩
abbrev S2048x8x256 : Shape := ⟨3, ![2048, 8, 256]⟩
abbrev S16384x8x256 : Shape := ⟨3, ![16384, 8, 256]⟩
abbrev S16384x8x128 : Shape := ⟨3, ![16384, 8, 128]⟩
abbrev S1x1x8x128x128 : Shape := ⟨5, ![1, 1, 8, 128, 128]⟩
abbrev S8x128x128 : Shape := ⟨3, ![8, 128, 128]⟩
abbrev S8x128x16384 : Shape := ⟨3, ![8, 128, 16384]⟩

abbrev nBuf : Space → Nat
  | .hbm => 47
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S2x8192x1024, .bf16⟩
  | .hbm, ⟨2, _⟩ => ⟨S2x8192x1024, .bf16⟩
  | .hbm, ⟨3, _⟩ => ⟨S1x2048x2048, .f32⟩
  | .hbm, ⟨4, _⟩ => ⟨S1x2048, .f32⟩
  | .hbm, ⟨5, _⟩ => ⟨S1x2048x8x256, .f32⟩
  | .hbm, ⟨6, _⟩ => ⟨S1x2x8x128x128, .f32⟩
  | .hbm, ⟨7, _⟩ => ⟨S2x8192x1024, .f32⟩
  | .hbm, ⟨8, _⟩ => ⟨S2x8192x1024, .f32⟩
  | .hbm, ⟨9, _⟩ => ⟨S2x8192x2048, .f32⟩
  | .hbm, ⟨10, _⟩ => ⟨S2048x2048, .f32⟩
  | .hbm, ⟨11, _⟩ => ⟨S2x8192x2048, .f32⟩
  | .hbm, ⟨12, _⟩ => ⟨S2x8192x2048, .f32⟩
  | .hbm, ⟨13, _⟩ => ⟨S2048, .f32⟩
  | .hbm, ⟨14, _⟩ => ⟨S2x8192x2048, .f32⟩
  | .hbm, ⟨15, _⟩ => ⟨S_, .f32⟩
  | .hbm, ⟨16, _⟩ => ⟨S2x8192, .f32⟩
  | .hbm, ⟨17, _⟩ => ⟨S2x8192x1, .f32⟩
  | .hbm, ⟨18, _⟩ => ⟨S_, .f32⟩
  | .hbm, ⟨19, _⟩ => ⟨S2x8192x1, .f32⟩
  | .hbm, ⟨20, _⟩ => ⟨S2x8192x1, .f32⟩
  | .hbm, ⟨21, _⟩ => ⟨S_, .f32⟩
  | .hbm, ⟨22, _⟩ => ⟨S2x8192x1, .f32⟩
  | .hbm, ⟨23, _⟩ => ⟨S2x8192x1, .f32⟩
  | .hbm, ⟨24, _⟩ => ⟨S2x8192x1, .f32⟩
  | .hbm, ⟨25, _⟩ => ⟨S2x8192x2048, .f32⟩
  | .hbm, ⟨26, _⟩ => ⟨S2x8192x2048, .f32⟩
  | .hbm, ⟨27, _⟩ => ⟨S1x1x2048, .f32⟩
  | .hbm, ⟨28, _⟩ => ⟨S2x8192x2048, .f32⟩
  | .hbm, ⟨29, _⟩ => ⟨S2x8192x2048, .f32⟩
  | .hbm, ⟨30, _⟩ => ⟨S16384x2048, .f32⟩
  | .hbm, ⟨31, _⟩ => ⟨S2048x8x256, .f32⟩
  | .hbm, ⟨32, _⟩ => ⟨S16384x8x256, .f32⟩
  | .hbm, ⟨33, _⟩ => ⟨S16384x8x128, .f32⟩
  | .hbm, ⟨34, _⟩ => ⟨S1x1x8x128x128, .f32⟩
  | .hbm, ⟨35, _⟩ => ⟨S8x128x128, .f32⟩
  | .hbm, ⟨36, _⟩ => ⟨S8x128x16384, .f32⟩
  | .hbm, ⟨37, _⟩ => ⟨S16384x8x128, .f32⟩
  | .hbm, ⟨38, _⟩ => ⟨S16384x8x128, .f32⟩
  | .hbm, ⟨39, _⟩ => ⟨S1x1x8x128x128, .f32⟩
  | .hbm, ⟨40, _⟩ => ⟨S8x128x128, .f32⟩
  | .hbm, ⟨41, _⟩ => ⟨S8x128x16384, .f32⟩
  | .hbm, ⟨42, _⟩ => ⟨S16384x8x128, .f32⟩
  | .hbm, ⟨43, _⟩ => ⟨S16384x2048, .f32⟩
  | .hbm, ⟨44, _⟩ => ⟨S16384x2048, .f32⟩
  | .hbm, ⟨45, _⟩ => ⟨S8x128x16384, .f32⟩
  | .hbm, ⟨46, _⟩ => ⟨S8x128x16384, .f32⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩

abbrev nD : Nat := 1
abbrev τ : Topo := Topo.v7x

variable {F : FTy → Type} [FloatOps F]
-- ==== Proof.Peer.Issue.lean ====
/-
  One row copy of the expert table, as every place of the kernel that starts one spells it, and its rule: a set of the ring
  is filled by 1024 copies on one semaphore, started in an order that depends on the place; `Going` says how far that is.
-/
module

public import proofs.«01_k».proof.Proof.Gen.KernelIdeal.Frame
public import Idealize.ShloMosaic.Lib.Batch
public import Idealize.ShloMosaic.Lib.WholeRead
public import Idealize.ShloMosaic.Lib.ValueIdx
public import Idealize.ShloMosaic.Lib.ValueLayout

@[expose] public section

set_option maxRecDepth 16384

noncomputable section

namespace Cert.KernelIdeal.Peer

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Transfers (batchBody batch_creditUpdate_with Batch)

variable {F : FTy → Type} [FloatOps F]

/-- The proof's memory: the pipeline library's beside the counters of the copies. -/
local notation "𝕄" => MT nD τ sig Unit (Elt F) ℕ (Pipeline.UD sig nD τ) ℕ

/-- The counters' place in the proof's memory. -/
abbrev EC : UEmb Counters 𝕄 := countersEmb (U := Pipeline.UD sig nD τ)

/-- A program of the kernel's core. -/
abbrev Pr (F : FTy → Type) (α : Type) : Type 1 := Prog (TpuEff nD τ sig (Elt F) Λ₀ .tc) α

/-- The rule of the kernel's programs: what holds before them. -/
abbrev wpP (c : Dev nD) {α : Type} (p : Pr F α) (Q : α → sProp 𝕄) : sProp 𝕄 :=
  wp frame (wpE (defs₀ (F := F)) Variants.none (c : Thread nD τ) none) Set.univ p Q

/-! ## The copy's program -/

/-- What one place says about the copy it starts: where the index word is read, where the row lands, what it checks of the
index and where the row lies in the table. -/
structure Site where
  oT : Fin 3 → ℕ
  hT : ∀ a, oT a + S1x1x128.size a ≤ S1x152x128.size a
  oS : Fin 1 → ℕ
  hS : ∀ a, oS a + S1.size a ≤ S128.size a
  oR : Fin 2 → ℕ
  hR : ∀ a, oR a + S2176x128.size a ≤ S17408x128.size a
  oD : Fin 2 → ℕ
  hD : ∀ a, oD a + S16x128.size a ≤ S2176x128.size a
  chk : BitVec 32 → Prop
  dec : ∀ v, Decidable (chk v)
  oE : BitVec 32 → Fin 2 → ℕ
  hE : ∀ v, chk v → ∀ a, oE v a + S16x128.size a ≤ S262144x128.size a

/-- The row an index word names: what is copied. -/
abbrev srcRow (tab : Memref sig .tc .hbm S262144x128 .i32) (o : Fin 2 → ℕ) (h : ∀ a, o a + S16x128.size a ≤ S262144x128.size a) :
    Memref sig .tc .hbm S16x128 .i32 :=
  tab.slice (Rect.unit (s := S262144x128) o S16x128.size h) (fun _ => rfl)

/-- Where it lands. -/
abbrev dstRow (buf : Memref sig .tc .vmem S17408x128 .i32) (s : Site) : Memref sig .tc .vmem S16x128 .i32 :=
  (buf.slice (Rect.unit (s := S17408x128) s.oR S2176x128.size s.hR) (fun _ => rfl)).slice
    (Rect.unit (s := S2176x128) s.oD S16x128.size s.hD) (fun _ => rfl)

/-- Where the index word lies. -/
abbrev idxRow (arg1 : Memref sig .tc .smem S1x152x128 .i32) (s : Site) : Memref sig .tc .smem S128 .i32 :=
  (arg1.slice (Rect.unit (s := S1x152x128) s.oT S1x1x128.size s.hT) (fun _ => rfl)).squeeze S128 squeezes_S1x1x128_S128

/-- One copy: read the index, check it, start the copy of its row. -/
def issue (arg1 : Memref sig .tc .smem S1x152x128 .i32) (tab : Memref sig .tc .hbm S262144x128 .i32)
    (buf : Memref sig .tc .vmem S17408x128 .i32) (sm : DmaSem sig) (s : Site) : Pr F PUnit := do
  let v : Elt F .i32 ← smemLoad (idxRow arg1 s) (Rect.unit (s := S128) s.oS S1.size s.hS) numel1_S1 rfl
  have hw : s.chk v := (← Prog.lift (TpuEff.assume (s.chk v) (s.dec v))).down
  Prog.lift (.enqueueDma (srcRow tab (s.oE v) (s.hE v hw)) (.here (dstRow buf s)) (.dma sm) (View.wordExact_bits rfl)
    (View.wordExact_bits rfl) ⟨Or.inl rfl, trivial⟩)

/-! ## A set's rows and what is owed of them -/

/-- The rows of block `b` of a set: its sixteen table rows and the row of the gap. -/
def rows (b : Fin 1024) : Finset S17408x128.Idx := Finset.univ.filter fun x => 17 * b.val ≤ (x 0).val ∧ (x 0).val < 17 * b.val + 17

/-- The same as elements of the set's buffer. -/
def blk (c : Dev nD) (buf : Memref sig .tc .vmem S17408x128 .i32) (b : Fin 1024) : Finset (Idx (buf.view.loc (c : Thread nD τ))) :=
  buf.view.setOn (rows b)

/-- Block `b` of the set holds the row of the table that `E` names. -/
def Landed {c : Dev nD} (buf : Memref sig .tc .vmem S17408x128 .i32) (tab : Memref sig .tc .hbm S262144x128 .i32)
    (W : Buf (Elt F) (tab.view.loc (c : Thread nD τ))) (E : Fin 1024 → Fin 16384) (b : Fin 1024)
    (f : Buf (Elt F) (buf.view.loc (c : Thread nD τ))) : Prop :=
  ∀ (x : Fin 16) (l : Fin 128),
    buf.view.read (Elt F) f (ix2 (⟨17 * b.val + x.val, by omega⟩ : Fin 17408) l)
      = tab.view.read (Elt F) W (ix2 (⟨16 * (E b).val + x.val, by omega⟩ : Fin 262144) l)

/-- The share of the table that the copy into block `b` holds. -/
abbrev tk (q : PosShare TreeShare) (b : Fin 1024) : PosShare TreeShare := Transfers.shareTok q 1024 b

/-- What a copy delivers: its block with the row landed, and its share of the table. -/
def Deliv (c : Dev nD) (buf : Memref sig .tc .vmem S17408x128 .i32) (tab : Memref sig .tc .hbm S262144x128 .i32)
    (W : Buf (Elt F) (tab.view.loc (c : Thread nD τ))) (q : PosShare TreeShare) (E : Fin 1024 → Fin 16384) (b : Fin 1024) : sProp 𝕄 :=
  iprop(∃ f, ⌜Landed buf tab W E b f⌝ ∗ (buf.view.loc (c : Thread nD τ) ↦[blk c buf b]{fullShare} f)
    ∗ (tab.view.loc (c : Thread nD τ) ↦{tk q b} W))

instance Deliv_storable (c : Dev nD) (buf : Memref sig .tc .vmem S17408x128 .i32) (tab : Memref sig .tc .hbm S262144x128 .i32)
    (W : Buf (Elt F) (tab.view.loc (c : Thread nD τ))) (q : PosShare TreeShare) (E : Fin 1024 → Fin 16384) (b : Fin 1024) :
    Storable (upEmb : UEmb _ 𝕄) (Deliv c buf tab W q E b) := by unfold Deliv; infer_instance

/-- The units of one copy into the set. -/
abbrev unitsOf (buf : Memref sig .tc .vmem S17408x128 .i32) : ℕ := buf.view.ref.dmaCredit S16x128 .i32

/-- The blocks whose copies come `k`-th or later in the order `rk`. -/
def pend (rk : Fin 1024 → ℕ) (k : ℕ) : Finset (Fin 1024) := Finset.univ.filter fun b => k ≤ rk b

theorem pend_succ (rk : Fin 1024 → ℕ) (hinj : Function.Injective rk) (b : Fin 1024) :
    pend rk (rk b) = insert b (pend rk (rk b + 1)) := by
  ext t
  simp only [pend, Finset.mem_filter, Finset.mem_univ, true_and, Finset.mem_insert]
  constructor
  · intro h
    rcases Nat.lt_or_ge (rk b) (rk t) with h' | h'
    · right; omega
    · left; exact hinj (Nat.le_antisymm h' h)
  · rintro (h | h)
    · rw [h]
    · omega

theorem not_mem_pend_succ (rk : Fin 1024 → ℕ) (b : Fin 1024) : b ∉ pend rk (rk b + 1) := by
  simp [pend]

theorem bigSep_pend_step (rk : Fin 1024 → ℕ) (hinj : Function.Injective rk) (b : Fin 1024) (Φ : Fin 1024 → sProp 𝕄) :
    bigSep (pend rk (rk b)) Φ = iprop(Φ b ∗ bigSep (pend rk (rk b + 1)) Φ) := by
  rw [pend_succ rk hinj b, bigSep_insert (not_mem_pend_succ rk b)]; rfl

/-- A set of which the first `k` copies are started: the record of the started ones, and of the others the block, at
whatever it held, with its share of the table. -/
def Going (c : Dev nD) (buf : Memref sig .tc .vmem S17408x128 .i32) (tab : Memref sig .tc .hbm S262144x128 .i32)
    (W : Buf (Elt F) (tab.view.loc (c : Thread nD τ))) (q : PosShare TreeShare) (sm : DmaSem sig) (E : Fin 1024 → Fin 16384)
    (rk : Fin 1024 → ℕ) (k : ℕ) : sProp 𝕄 :=
  iprop((∃ γ γ₀ κ, inv κ (batchBody EC ((c : Thread nD τ), .dma sm) (unitsOf buf) (Deliv c buf tab W q E) γ γ₀)
      ∗ bigSep (pend rk k) (fun t => count EC (γ t) 0) ∗ count EC γ₀ 0
      ∗ cred (tallyAt ((c : Thread nD τ), .dma sm) () (k * unitsOf buf)))
    ∗ bigSep (pend rk k) (fun b => iprop((∃ f, buf.view.loc (c : Thread nD τ) ↦[blk c buf b]{fullShare} f)
        ∗ (tab.view.loc (c : Thread nD τ) ↦{tk q b} W))))

/-! ## The rule of a copy -/

/-- The index word read is the entry of the index block at its token and slot. -/
theorem idxRow_read (arg1 : Memref sig .tc .smem S1x152x128 .i32) (s : Site) (c : Dev nD)
    (f : Buf (Elt F) (arg1.view.loc (c : Thread nD τ))) (t : Fin 152) (sl : Fin 128) (hT : s.oT = ![0, t.val, 0])
    (hS : s.oS = ![sl.val]) (x : S1.Idx) :
    ((idxRow arg1 s).access (Rect.unit (s := S128) s.oS S1.size s.hS)).read (Elt F) f x
      = arg1.view.read (Elt F) f (ix3 (0 : Fin 1) t sl) := by
  show arg1.view.read (Elt F) f ((Rect.unit (s := S1x152x128) s.oT S1x1x128.size s.hT).emb
    (Shape.reshapeEquiv (s := S1x1x128) (s' := S128) _ ((Rect.unit (s := S128) s.oS S1.size s.hS).emb x))) = _
  congr 1
  have hx : (x 0).val = 0 := by have := (x 0).isLt; change (x 0).val < 1 at this; omega
  have hr : Shape.reshapeEquiv (s := S1x1x128) (s' := S128) squeezes_S1x1x128_S128.numel_eq
      ((Rect.unit (s := S128) s.oS S1.size s.hS).emb x) = ix3 (0 : Fin 1) (0 : Fin 1) sl :=
    Shape.reshapeEquiv_eq_of_rowMajor _ (by
      rw [Shape.rowMajor_val_three, Shape.rowMajor_val_one]
      show (0 * 1 + 0) * 128 + sl.val = s.oS 0 + 1 * (x 0).val
      rw [hS, hx]; show _ = sl.val + 1 * 0; omega)
  rw [hr]
  funext a
  apply Fin.ext
  show s.oT a + 1 * (ix3 (0 : Fin 1) (0 : Fin 1) sl a).val = _
  rw [hT]
  fin_cases a
  · rfl
  · show t.val + 1 * 0 = t.val; omega
  · show 0 + 1 * sl.val = sl.val; omega

/-- Where a copy lands lies in its block. -/
theorem dstRow_sub (c : Dev nD) (buf : Memref sig .tc .vmem S17408x128 .i32) (s : Site) (b : Fin 1024)
    (hb : s.oR 0 + s.oD 0 = 17 * b.val) : (dstRow buf s).view.set ⊆ blk c buf b := by
  intro i hi
  obtain ⟨x, -, rfl⟩ := Finset.mem_map.mp hi
  show buf.view.emb ((Rect.unit (s := S17408x128) s.oR S2176x128.size s.hR).emb
    ((Rect.unit (s := S2176x128) s.oD S16x128.size s.hD).emb x)) ∈ _
  refine Finset.mem_map.mpr ⟨_, ?_, rfl⟩
  refine Finset.mem_filter.mpr ⟨Finset.mem_univ _, ?_⟩
  have h0 : (((Rect.unit (s := S17408x128) s.oR S2176x128.size s.hR).emb
    ((Rect.unit (s := S2176x128) s.oD S16x128.size s.hD).emb x)) 0).val = s.oR 0 + 1 * (s.oD 0 + 1 * (x 0).val) := rfl
  have hx : (x 0).val < 16 := (x 0).isLt
  omega

/-- What a copy leaves in its block. -/
theorem landed_write (c : Dev nD) (buf : Memref sig .tc .vmem S17408x128 .i32) (tab : Memref sig .tc .hbm S262144x128 .i32)
    (W : Buf (Elt F) (tab.view.loc (c : Thread nD τ))) (E : Fin 1024 → Fin 16384) (b : Fin 1024) (s : Site)
    (v : BitVec 32) (hw : s.chk v) (hb : s.oR 0 + s.oD 0 = 17 * b.val) (hb1 : s.oR 1 + s.oD 1 = 0)
    (hE : s.oE v = ![(E b).val * 16, 0]) (f : Buf (Elt F) (buf.view.loc (c : Thread nD τ))) :
    Landed buf tab W E b ((dstRow buf s).view.write (Elt F) f
      (ReadAs.same.apply ((srcRow tab (s.oE v) (s.hE v hw)).view.read (Elt F) W)) Finset.univ) := by
  intro x l
  have hi : (ix2 (⟨17 * b.val + x.val, by omega⟩ : Fin 17408) l : S17408x128.Idx)
      = (Rect.unit (s := S17408x128) s.oR S2176x128.size s.hR).emb
          ((Rect.unit (s := S2176x128) s.oD S16x128.size s.hD).emb (ix2 x l)) := by
    funext a; apply Fin.ext
    show _ = s.oR a + 1 * (s.oD a + 1 * (ix2 x l a).val)
    fin_cases a
    · show 17 * b.val + x.val = s.oR 0 + 1 * (s.oD 0 + 1 * x.val); omega
    · show l.val = s.oR 1 + 1 * (s.oD 1 + 1 * l.val); omega
  rw [hi]
  have h1 := View.read_write_of_mem (v := (dstRow buf s).view) (Val := Elt F) f
    (ReadAs.same.apply ((srcRow tab (s.oE v) (s.hE v hw)).view.read (Elt F) W)) (M := Finset.univ) (x := ix2 x l) (Finset.mem_univ _)
  refine Eq.trans ?_ (h1.trans ?_)
  · rfl
  · show tab.view.read (Elt F) W ((Rect.unit (s := S262144x128) (s.oE v) S16x128.size (s.hE v hw)).emb (ix2 x l)) = _
    congr 1
    funext a; apply Fin.ext
    show s.oE v a + 1 * (ix2 x l a).val = _
    rw [hE]
    fin_cases a
    · show (E b).val * 16 + 1 * x.val = 16 * (E b).val + x.val; omega
    · show 0 + 1 * l.val = l.val; omega

/-- A copy's program spelt out over what comes after it. -/
theorem issue_bind (arg1 : Memref sig .tc .smem S1x152x128 .i32) (tab : Memref sig .tc .hbm S262144x128 .i32)
    (buf : Memref sig .tc .vmem S17408x128 .i32) (sm : DmaSem sig) (s : Site) {α : Type} (k : PUnit → Pr F α) :
    issue arg1 tab buf sm s >>= k
      = smemLoadElt (idxRow arg1 s) (Rect.unit (s := S128) s.oS S1.size s.hS) (View.loads_smem_one rfl numel1_S1)
          (Shape.Idx.first (numel1_S1.symm ▸ Nat.one_pos)) fun v : Elt F .i32 =>
            .op (.assume (s.chk v) (s.dec v)) fun h =>
              .op (.enqueueDma (srcRow tab (s.oE v) (s.hE v h.down)) (.here (dstRow buf s)) (.dma sm) (View.wordExact_bits rfl)
                (View.wordExact_bits rfl) ⟨Or.inl rfl, trivial⟩) k := rfl

/-- THE RULE OF A COPY: with the index words in hand and the copy of block `b` next in order, the copy is started. -/
theorem wp_issue (c : Dev nD) (arg1 : Memref sig .tc .smem S1x152x128 .i32) (tab : Memref sig .tc .hbm S262144x128 .i32)
    (buf : Memref sig .tc .vmem S17408x128 .i32) (sm : DmaSem sig) (s : Site)
    (W : Buf (Elt F) (tab.view.loc (c : Thread nD τ))) (q : PosShare TreeShare) (E : Fin 1024 → Fin 16384)
    (rk : Fin 1024 → ℕ) (hinj : Function.Injective rk)
    {q1 : PosShare TreeShare} (f1 : Buf (Elt F) (arg1.view.loc (c : Thread nD τ)))
    (t : Fin 152) (sl : Fin 128) (b : Fin 1024)
    (hT : s.oT = ![0, t.val, 0]) (hS : s.oS = ![sl.val])
    (hb : s.oR 0 + s.oD 0 = 17 * b.val) (hb1 : s.oR 1 + s.oD 1 = 0)
    (hE : ∀ v : BitVec 32, v.toNat < 16384 → s.chk v ∧ s.oE v = ![v.toNat * 16, 0])
    (hv : (arg1.view.read (Elt F) f1 (ix3 (0 : Fin 1) t sl) : BitVec 32).toNat = (E b).val)
    {α : Type} {k : PUnit → Pr F α} {Q : α → sProp 𝕄} :
    iprop((arg1.view.loc (c : Thread nD τ) ↦{q1} f1) ∗ Going c buf tab W q sm E rk (rk b))
      ⊢ iprop((iprop((arg1.view.loc (c : Thread nD τ) ↦{q1} f1) ∗ Going c buf tab W q sm E rk (rk b + 1)) -∗ wpP c (k ⟨⟩) Q)
          -∗ wpP c (issue arg1 tab buf sm s >>= k) Q) := by
  rw [issue_bind]
  unfold wpP Going
  rw [bigSep_pend_step rk hinj b (fun b => iprop((∃ f, buf.view.loc (c : Thread nD τ) ↦[blk c buf b]{fullShare} f)
        ∗ (tab.view.loc (c : Thread nD τ) ↦{tk q b} W)))]
  iintro ⟨H1, ⟨%γ, %γ₀, %κ, #Hinv, HI, H0, Hcred⟩, ⟨⟨%fd, Hd⟩, Ht⟩, HR⟩ Hk
  iapply (wp_smemLoadElt Variants.none (c : Thread nD τ) none Set.univ (S := Finset.univ) (Finset.subset_univ _)) $$ [H1]
  · iexact H1
  iintro H1
  have hrd := idxRow_read arg1 s c f1 t sl hT hS (Shape.Idx.first (numel1_S1.symm ▸ Nat.one_pos))
  rw [hrd]
  generalize hvv : arg1.view.read (Elt F) f1 (ix3 (0 : Fin 1) t sl) = v
  rw [hvv] at hv
  have hlt : (v : BitVec 32).toNat < 16384 := by rw [hv]; exact (E b).isLt
  obtain ⟨hc, ho⟩ := hE v hlt
  rw [hv] at ho
  iapply (wp_assume Variants.none (c : Thread nD τ) none Set.univ hc)
  ihave Ht' := (pointsTo_split_subset (Finset.subset_univ (srcRow tab (s.oE v) (s.hE v hc)).view.set)).1 $$ Ht
  icases Ht' with ⟨Hs, Hput⟩
  ihave HI' := (show bigSep (pend rk (rk b)) (fun t => count EC (γ t) 0) ⊢ iprop(count EC (γ b) 0 ∗ bigSep (pend rk (rk b + 1)) (fun t => count EC (γ t) 0))
    from Entails.of_eq (bigSep_pend_step rk hinj b _)) $$ HI
  icases HI' with ⟨Hc, HI⟩
  have hD : iprop((tab.view.loc (c : Thread nD τ) ↦[Finset.univ \ (srcRow tab (s.oE v) (s.hE v hc)).view.set]{tk q b} W)
      ∗ ((dstRow buf s).view.loc (c : Thread nD τ) ↦[blk c buf b]{fullShare} ((dstRow buf s).view.write (Elt F) fd
          (ReadAs.same.apply ((srcRow tab (s.oE v) (s.hE v hc)).view.read (Elt F) W)) Finset.univ))
      ∗ ((srcRow tab (s.oE v) (s.hE v hc)).view.loc (c : Thread nD τ) ↦[(srcRow tab (s.oE v) (s.hE v hc)).view.set]{tk q b} W))
      ⊢ Deliv c buf tab W q E b := by
    unfold Deliv
    iintro ⟨Hput, Hd, Hs⟩
    iexists _
    isplitr
    swap
    · isplitl [Hd]; · iexact Hd
      iapply (pointsTo_split_subset (Finset.subset_univ (srcRow tab (s.oE v) (s.hE v hc)).view.set)).2
      isplitl [Hs]; · iexact Hs
      iexact Hput
    · ipureintro
      exact landed_write c buf tab W E b s v hc hb hb1 ho fd
  iapply (wp_enqueueDmaAs Variants.none (c : Thread nD τ) none Set.univ () (unitsOf buf) rfl) $$ [Hs Hd] [Hc Hput]
  · isplitl [Hs]; · iexact Hs
    iapply (pointsTo_writeUpdate (c : Thread nD τ) (dstRow_sub c buf s b hb)) $$ Hd
  · iapply (batch_creditUpdate_with EC b hD)
    isplitr; · iexact Hinv
    isplitl [Hc]; · iexact Hc
    iexact Hput
  iintro Hcred'
  iapply Hk
  isplitl [H1]; · iexact H1
  isplitr [HR]
  · iexists γ, γ₀, κ
    isplitr; · iexact Hinv
    isplitl [HI]; · iexact HI
    isplitl [H0]; · iexact H0
    rw [Nat.succ_mul, ← tallyAt_add]
    icombine Hcred Hcred' as H
    iexact H
  · iexact HR

end Cert.KernelIdeal.Peer
-- ==== Proof.Peer.Sets.lean ====
/-
  A set of the ring between two uses: idle, or with all of its copies started; how the copies of a set begin, how they end,
  and the wait that collects them.
-/
module

public import proofs.«01_k».proof.Proof.Peer.Issue

@[expose] public section

set_option maxRecDepth 16384

noncomputable section

namespace Cert.KernelIdeal.Peer

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Transfers (batchBody batch_creditUpdate_with Batch batch_alloc wp_waitBatchAll)

variable {F : FTy → Type} [FloatOps F]

/-- The proof's memory: the pipeline library's beside the counters of the copies. -/
local notation "𝕄" => MT nD τ sig Unit (Elt F) ℕ (Pipeline.UD sig nD τ) ℕ

/-! ## The blocks of a set -/

theorem blk_disjoint (c : Dev nD) (buf : Memref sig .tc .vmem S17408x128 .i32) :
    ∀ b ∈ (Finset.univ : Finset (Fin 1024)), ∀ b' ∈ (Finset.univ : Finset (Fin 1024)), b ≠ b' →
      Disjoint (blk c buf b) (blk c buf b') := by
  intro b _ b' _ hne
  refine Finset.disjoint_left.mpr ?_
  intro i h h'
  obtain ⟨x, hx, rfl⟩ := Finset.mem_map.mp h
  obtain ⟨y, hy, he⟩ := Finset.mem_map.mp h'
  have hxy : y = x := buf.view.emb.injective he
  subst hxy
  have h1 := (Finset.mem_filter.mp hx).2
  have h2 := (Finset.mem_filter.mp hy).2
  exact hne (Fin.ext (by omega))

theorem blk_cover (c : Dev nD) (buf : Memref sig .tc .vmem S17408x128 .i32) (hw : buf.IsWhole) :
    (Finset.univ : Finset (Fin 1024)).biUnion (blk c buf) = Finset.univ := by
  refine Finset.eq_univ_of_forall fun i => ?_
  have hi : i ∈ buf.view.set := by rw [hw.set_eq_univ]; exact Finset.mem_univ _
  obtain ⟨x, -, rfl⟩ := Finset.mem_map.mp hi
  have hx : (x 0).val < 17408 := (x 0).isLt
  refine Finset.mem_biUnion.mpr ⟨⟨(x 0).val / 17, by omega⟩, Finset.mem_univ _, Finset.mem_map.mpr ⟨x, ?_, rfl⟩⟩
  refine Finset.mem_filter.mpr ⟨Finset.mem_univ _, ?_⟩
  show 17 * ((x 0).val / 17) ≤ (x 0).val ∧ (x 0).val < 17 * ((x 0).val / 17) + 17
  omega

/-! ## A set idle, a set with all copies started -/

/-- An idle set: its buffer at whatever it holds, its semaphore at zero, its shares of the table. -/
def Idle (c : Dev nD) (buf : Memref sig .tc .vmem S17408x128 .i32) (tab : Memref sig .tc .hbm S262144x128 .i32)
    (W : Buf (Elt F) (tab.view.loc (c : Thread nD τ))) (q : PosShare TreeShare) (sm : DmaSem sig) : sProp 𝕄 :=
  iprop((∃ f, buf.view.loc (c : Thread nD τ) ↦{fullShare} f) ∗ semVal ((c : Thread nD τ), .dma sm) 0
    ∗ bigSep Finset.univ (fun b : Fin 1024 => (tab.view.loc (c : Thread nD τ) ↦{tk q b} W)))

/-- A set all of whose copies are started: the rows they fetch are those `E` names. -/
def Full (c : Dev nD) (buf : Memref sig .tc .vmem S17408x128 .i32) (tab : Memref sig .tc .hbm S262144x128 .i32)
    (W : Buf (Elt F) (tab.view.loc (c : Thread nD τ))) (q : PosShare TreeShare) (sm : DmaSem sig) (E : Fin 1024 → Fin 16384) : sProp 𝕄 :=
  Batch EC (c : Thread nD τ) (.dma sm) () (unitsOf buf) (Deliv c buf tab W q E) 1024 0

/-- The first copy of a set may be started: an idle set is one of whose copies none is started. -/
theorem going_start (c : Dev nD) (buf : Memref sig .tc .vmem S17408x128 .i32) (hw : buf.IsWhole) (tab : Memref sig .tc .hbm S262144x128 .i32)
    (W : Buf (Elt F) (tab.view.loc (c : Thread nD τ))) (q : PosShare TreeShare) (sm : DmaSem sig) (E : Fin 1024 → Fin 16384)
    (rk : Fin 1024 → ℕ) :
    Idle c buf tab W q sm ⊢ |={Set.univ}=> Going c buf tab W q sm E rk 0 := by
  unfold Idle Going
  have hp : pend rk 0 = Finset.univ := by unfold pend; simp
  iintro ⟨⟨%f, Hb⟩, Hs, Ht⟩
  imod (batch_alloc EC (unitsOf buf) (Deliv c buf tab W q E)) $$ Hs with ⟨%γ, %γ₀, %κ, Hinv, H0, Hc⟩
  imodintro
  rw [hp]
  isplitl [Hinv H0 Hc]
  · iexists γ, γ₀, κ
    isplitl [Hinv]; · iexact Hinv
    isplitl [Hc]; · iexact Hc
    isplitl [H0]; · iexact H0
    rw [Nat.zero_mul, tallyAt_zero, cred_zero]
    iempintro
  · have hb : (buf.view.loc (c : Thread nD τ) ↦{fullShare} f : sProp 𝕄)
        ⊢ bigSep Finset.univ (fun b : Fin 1024 => iprop(∃ f, buf.view.loc (c : Thread nD τ) ↦[blk c buf b]{fullShare} f)) := by
      rw [← blk_cover c buf hw, pointsTo_biUnion Finset.univ (blk c buf) (blk_disjoint c buf)]
      exact bigSep_mono fun b _ => by
        show (buf.view.loc (c : Thread nD τ) ↦[blk c buf b]{fullShare} f : sProp 𝕄) ⊢ iprop(∃ f, buf.view.loc (c : Thread nD τ) ↦[blk c buf b]{fullShare} f)
        iintro H; iexists f; iexact H
    rw [bigSep_sep']
    isplitl [Hb]
    · iapply hb $$ Hb
    · iexact Ht

/-- The last copy of a set started: the order they came in no longer matters. -/
theorem going_full (c : Dev nD) (buf : Memref sig .tc .vmem S17408x128 .i32) (tab : Memref sig .tc .hbm S262144x128 .i32)
    (W : Buf (Elt F) (tab.view.loc (c : Thread nD τ))) (q : PosShare TreeShare) (sm : DmaSem sig) (E : Fin 1024 → Fin 16384)
    (rk : Fin 1024 → ℕ) (hrk : ∀ b, rk b < 1024) :
    Going c buf tab W q sm E rk 1024 ⊢ Full c buf tab W q sm E := by
  unfold Going Full Batch
  have hp : pend rk 1024 = ∅ := by
    refine Finset.eq_empty_of_forall_notMem fun b hb => ?_
    have h1 := (Finset.mem_filter.mp hb).2
    have h2 := hrk b
    omega
  have hp' : (Transfers.pending (n := 1024) 1024) = ∅ := by
    refine Finset.eq_empty_of_forall_notMem fun b hb => ?_
    have h1 : (1024 : ℕ) ≤ b.val := by simpa [Transfers.pending] using hb
    have h2 := b.isLt
    omega
  rw [hp, hp', bigSep_empty, Nat.sub_zero]
  iintro ⟨⟨%γ, %γ₀, %κ, Hinv, -, H0, Hc⟩, -⟩
  iexists γ, γ₀, κ
  isplitl [Hinv]; · iexact Hinv
  isplitr
  · rw [bigSep_empty]; iempintro
  isplitl [H0]; · iexact H0
  iexact Hc

/-- What the wait on a set gives: every block holds its row of the table, and the set is idle but for its buffer. -/
theorem collect (c : Dev nD) (buf : Memref sig .tc .vmem S17408x128 .i32) (hw : buf.IsWhole) (tab : Memref sig .tc .hbm S262144x128 .i32)
    (W : Buf (Elt F) (tab.view.loc (c : Thread nD τ))) (q : PosShare TreeShare) (E : Fin 1024 → Fin 16384) :
    bigSep Finset.univ (Deliv c buf tab W q E)
      ⊢ iprop((∃ f, ⌜∀ b, Landed buf tab W E b f⌝ ∗ (buf.view.loc (c : Thread nD τ) ↦{fullShare} f))
          ∗ bigSep Finset.univ (fun b : Fin 1024 => (tab.view.loc (c : Thread nD τ) ↦{tk q b} W))) := by
  classical
  haveI : ∀ i : Fin 1024, Nonempty (Buf (Elt F) (buf.view.loc (c : Thread nD τ))) :=
    fun _ => ⟨fun _ => Classical.choice inferInstance⟩
  have h1 : bigSep Finset.univ (Deliv c buf tab W q E)
      ⊢ iprop(∃ fs : Fin 1024 → Buf (Elt F) (buf.view.loc (c : Thread nD τ)), bigSep Finset.univ (fun b : Fin 1024 =>
          iprop(⌜Landed buf tab W E b (fs b)⌝ ∗ (buf.view.loc (c : Thread nD τ) ↦[blk c buf b]{fullShare} (fs b))
            ∗ (tab.view.loc (c : Thread nD τ) ↦{tk q b} W)))) := by
    unfold Deliv
    exact Idealize.SL.BI.bigSep_exists_pi Finset.univ _
  iintro H
  ihave H := h1 $$ H
  icases H with ⟨%fs, H⟩
  ihave H := (bigSep_pure_sep Finset.univ (fun b : Fin 1024 => Landed buf tab W E b (fs b)) _) $$ H
  icases H with ⟨%HL, H⟩
  ihave H := (Entails.of_eq (bigSep_sep' Finset.univ _ _)) $$ H
  icases H with ⟨Hb, Ht⟩
  ihave Hb := (pointsTo_biUnion_join Finset.univ (blk c buf) fs (fs 0) (blk_disjoint c buf)) $$ Hb
  icases Hb with ⟨%g, %Hg, Hb⟩
  rw [blk_cover c buf hw]
  isplitl [Hb]
  · iexists g
    isplitr
    · ipureintro
      intro b x l
      rw [← HL b (Finset.mem_univ _) x l]
      have hm : buf.view.emb (ix2 (⟨17 * b.val + x.val, by omega⟩ : Fin 17408) l) ∈ blk c buf b :=
        Finset.mem_map.mpr ⟨_, Finset.mem_filter.mpr ⟨Finset.mem_univ _, by
          show 17 * b.val ≤ 17 * b.val + x.val ∧ 17 * b.val + x.val < 17 * b.val + 17
          omega⟩, rfl⟩
      rw [View.read_apply, View.read_apply, Hg b (Finset.mem_univ _) _ hm]
    · iexact Hb
  · iexact Ht

/-- THE RULE OF THE WAIT on a set whose copies are all started. -/
theorem wp_wait (c : Dev nD) (buf : Memref sig .tc .vmem S17408x128 .i32) (hw : buf.IsWhole) (tab : Memref sig .tc .hbm S262144x128 .i32)
    (W : Buf (Elt F) (tab.view.loc (c : Thread nD τ))) (q : PosShare TreeShare) (sm : DmaSem sig) (E : Fin 1024 → Fin 16384)
    (hu : buf.view.ref.dmaCredit S16384x128 .i32 = unitsOf buf * 1024) (hu0 : 0 < unitsOf buf)
    {sp' : Space} {s' : Shape} {e' : EltTy} {srcw : Memref sig .tc sp' s' e'} {dstw : Memref sig .tc .vmem S16384x128 .i32}
    (hd : dstw.view.ref = buf.view.ref)
    {hsrc : srcw.view.WordExact} {hdst : dstw.view.WordExact} {Wt : Waits sig Unit}
    {α : Type} {k : PUnit → Pr F α} {Q : α → sProp 𝕄} :
    iprop(Full c buf tab W q sm E ∗ owes (c : Thread nD τ) 0 Wt)
      ⊢ iprop((∀ f, iprop(⌜∀ b, Landed buf tab W E b f⌝ ∗ (buf.view.loc (c : Thread nD τ) ↦{fullShare} f)
            ∗ (bigSep Finset.univ (fun b : Fin 1024 => (tab.view.loc (c : Thread nD τ) ↦{tk q b} W)))
            ∗ semVal ((c : Thread nD τ), .dma sm) 0 ∗ owes (c : Thread nD τ) 0 (insert (SemLoc.dma sm, ()) Wt)) -∗ wpP c (k ⟨⟩) Q)
          -∗ wpP c (.op (.waitDma2 sm srcw dstw hsrc hdst) k) Q) := by
  unfold Full
  iintro ⟨HB, HO⟩ Hk
  iapply (wp_waitBatchAll EC Variants.none (c : Thread nD τ) none () (N := unitsOf buf) (J := unitsOf buf * 1024)
    (by show dstw.view.ref.dmaCredit S16384x128 .i32 = _; rw [hd]; exact hu) hu0 (Nat.zero_add _)) $$ [HB HO]
  · isplitl [HB]; · iexact HB
    iexact HO
  iintro ⟨HD, Hs, HO⟩
  ihave H := (collect c buf hw tab W q E) $$ HD
  icases H with ⟨⟨%f, %Hf, Hb⟩, Ht⟩
  iapply Hk
  isplitr; · ipureintro; exact Hf
  isplitl [Hb]; · iexact Hb
  isplitl [Ht]; · iexact Ht
  isplitl [Hs]; · iexact Hs
  iexact HO

end Cert.KernelIdeal.Peer
-- ==== Proof.Peer.Tile.lean ====
/-
  The two tiles of the kernel, eight rows of a group's token at a time: sixteen strided loads of the rows in the set at
  hand, four copies into the set two steps ahead, and the arithmetic between.  Every set spells them with words of its
  own; here they are said once.
-/
module

public import proofs.«01_k».proof.Proof.Gen.KernelIdeal.Skeleton
public import proofs.«01_k».proof.Proof.Peer.Sets

@[expose] public section

set_option maxRecDepth 65536

noncomputable section

namespace Cert.KernelIdeal.Peer

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Transfers (batchBody batch_creditUpdate_with Batch batch_alloc wp_waitBatchAll)

variable {F : FTy → Type} [FloatOps F]

/-- The proof's memory: the pipeline library's beside the counters of the copies. -/
local notation "𝕄" => MT nD τ sig Unit (Elt F) ℕ (Pipeline.UD sig nD τ) ℕ

/-! ## The words' arithmetic, none of which wraps -/

theorem toNat_muli (a : BitVec 32) (k : ℕ) (hk : k < 4294967296) (h : a.toNat * k < 4294967296) :
    (Scalar.muli a (BitVec.ofNat 32 k)).toNat = a.toNat * k := by
  show (a * BitVec.ofNat 32 k).toNat = _
  rw [BitVec.toNat_mul, BitVec.toNat_ofNat, Nat.mod_eq_of_lt (a := k) hk, Nat.mod_eq_of_lt h]

theorem toNat_addi (a b : BitVec 32) (h : a.toNat + b.toNat < 4294967296) : (Scalar.addi a b).toNat = a.toNat + b.toNat := by
  show (a + b).toNat = _
  rw [BitVec.toNat_add, Nat.mod_eq_of_lt h]

theorem toNat_word (k : ℕ) (hk : k < 4294967296) : (BitVec.ofNat 32 k).toNat = k := by
  rw [BitVec.toNat_ofNat, Nat.mod_eq_of_lt hk]

theorem grp_toNat (R : BitVec 32) (hR : R.toNat < 8) : (Scalar.muli (Scalar.muli R 128#32) 17#32).toNat = R.toNat * 2176 := by
  have h := toNat_muli R 128 (by omega) (by omega)
  rw [toNat_muli _ 17 (by omega) (by omega)]; omega

theorem slot_toNat (S : BitVec 32) (hS : S.toNat < 128) : (Scalar.muli S 17#32).toNat = S.toNat * 17 :=
  toNat_muli S 17 (by omega) (by omega)

theorem row8_toNat (sg : BitVec 32) (hsg : sg.toNat < 16) : (Scalar.muli sg 8#32).toNat = sg.toNat * 8 :=
  toNat_muli sg 8 (by omega) (by omega)

theorem tile_toNat (sg : BitVec 32) (hsg : sg.toNat < 16) (i : Fin 16) :
    (Scalar.addi (Scalar.muli (Scalar.muli sg 8#32) 17#32) (BitVec.ofNat 32 i.val)).toNat = sg.toNat * 136 + i.val := by
  have h := row8_toNat sg hsg
  have h' := toNat_muli (Scalar.muli sg 8#32) 17 (by omega) (by omega)
  have hi := toNat_word i.val (by omega)
  rw [toNat_addi _ _ (by omega)]; omega

theorem exp_toNat (v : BitVec 32) (hv : v.toNat < 16384) : (Scalar.muli v 16#32).toNat = v.toNat * 16 :=
  toNat_muli v 16 (by omega) (by omega)

/-! ## Where a copy of the ring goes, from its words -/

/-- The copy of slot `S` of token `R` of the group it belongs to, which is token `T` of the index block. -/
def mkSite (chk : BitVec 32 → Prop) (dec : ∀ v, Decidable (chk v))
    (hE : ∀ v, chk v → ∀ a, (![(Scalar.muli v 16#32).toNat, 0] : Fin 2 → ℕ) a + S16x128.size a ≤ S262144x128.size a)
    (T R S : BitVec 32) (hT : T.toNat < 152) (hR : R.toNat < 8) (hS : S.toNat < 128) : Site where
  oT := ![0, T.toNat, 0]
  hT := by
    intro a; fin_cases a
    · show 0 + 1 ≤ 1; omega
    · show T.toNat + 1 ≤ 152; omega
    · show 0 + 128 ≤ 128; omega
  oS := ![(Scalar.indexCast S).toNat]
  hS := by
    intro a; fin_cases a
    show S.toNat + 1 ≤ 128; omega
  oR := ![(Scalar.muli (Scalar.muli R 128#32) 17#32).toNat, 0]
  hR := by
    intro a; fin_cases a
    · have h := grp_toNat R hR
      show (Scalar.muli (Scalar.muli R 128#32) 17#32).toNat + 2176 ≤ 17408; omega
    · show 0 + 128 ≤ 128; omega
  oD := ![(Scalar.muli S 17#32).toNat, 0]
  hD := by
    intro a; fin_cases a
    · have h := slot_toNat S hS
      show (Scalar.muli S 17#32).toNat + 16 ≤ 2176; omega
    · show 0 + 128 ≤ 128; omega
  chk := chk
  dec := dec
  oE := fun v => ![(Scalar.muli v 16#32).toNat, 0]
  hE := hE

/-- What a copy of the ring is asked to be: the one of slot `sl` of token `t`, into block `b`. -/
structure SiteOk (s : Site) (t : Fin 152) (sl : Fin 128) (b : Fin 1024) : Prop where
  hT : s.oT = ![0, t.val, 0]
  hS : s.oS = ![sl.val]
  hb : s.oR 0 + s.oD 0 = 17 * b.val
  hb1 : s.oR 1 + s.oD 1 = 0
  hE : ∀ v : BitVec 32, v.toNat < 16384 → s.chk v ∧ s.oE v = ![v.toNat * 16, 0]

theorem mkSite_ok (chk : BitVec 32 → Prop) (dec : ∀ v, Decidable (chk v))
    (hE : ∀ v, chk v → ∀ a, (![(Scalar.muli v 16#32).toNat, 0] : Fin 2 → ℕ) a + S16x128.size a ≤ S262144x128.size a)
    (T R S : BitVec 32) (hT : T.toNat < 152) (hR : R.toNat < 8) (hS : S.toNat < 128)
    (hc : ∀ v : BitVec 32, v.toNat < 16384 → chk v) (t : Fin 152) (sl : Fin 128) (b : Fin 1024)
    (ht : T.toNat = t.val) (hs : S.toNat = sl.val) (hb : R.toNat * 128 + S.toNat = b.val) :
    SiteOk (mkSite chk dec hE T R S hT hR hS) t sl b where
  hT := by show (![0, T.toNat, 0] : Fin 3 → ℕ) = _; rw [ht]
  hS := by show (![S.toNat] : Fin 1 → ℕ) = _; rw [hs]
  hb := by
    have h := grp_toNat R hR
    have h' := slot_toNat S hS
    show (Scalar.muli (Scalar.muli R 128#32) 17#32).toNat + (Scalar.muli S 17#32).toNat = _
    omega
  hb1 := rfl
  hE := fun v hv => ⟨hc v hv, by
    show (![(Scalar.muli v 16#32).toNat, 0] : Fin 2 → ℕ) = _
    rw [exp_toNat v hv]⟩

/-- An index in range passes what a copy checks of it. -/
theorem chk_ok (v : BitVec 32) (hv : v.toNat < 16384) :
    (16 ∣ (Scalar.muli v 16#32).toNat) ∧ (∀ a, (![(Scalar.muli v 16#32).toNat, 0] : Fin 2 → ℕ) a + S16x128.size a ≤ S262144x128.size a) := by
  rw [exp_toNat v hv]
  refine ⟨⟨v.toNat, Nat.mul_comm _ _⟩, fun a => ?_⟩
  fin_cases a
  · show v.toNat * 16 + 16 ≤ 262144; omega
  · show 0 + 128 ≤ 128; omega

/-! ## The programs -/

/-- Load `i` of the sixteen of tile `sg`. -/
abbrev tileOff (sg o : BitVec 32) : Fin 2 → ℕ :=
  ![(Scalar.indexCast (Scalar.addi (Scalar.muli (Scalar.muli sg 8#32) 17#32) o)).toNat, 0]

abbrev grpOff (R : BitVec 32) : Fin 2 → ℕ := ![(Scalar.muli (Scalar.muli R 128#32) 17#32).toNat, 0]

theorem grpOff_inb (R : BitVec 32) (hR : R.toNat < 8) : ∀ a, grpOff R a + S2176x128.size a ≤ S17408x128.size a := by
  intro a; fin_cases a
  · have h := grp_toNat R hR
    show (Scalar.muli (Scalar.muli R 128#32) 17#32).toNat + 2176 ≤ 17408; omega
  · show 0 + 128 ≤ 128; omega

theorem tileOff_inb (sg : BitVec 32) (hsg : sg.toNat < 16) (i : Fin 16) :
    ∀ a, S8x128.size a = 0 ∨ tileOff sg (BitVec.ofNat 32 i.val) a + (![17, 1] : Fin 2 → ℕ) a * (S8x128.size a - 1) < S2176x128.size a := by
  intro a; right; fin_cases a
  · have h := tile_toNat sg hsg i
    show (Scalar.addi (Scalar.muli (Scalar.muli sg 8#32) 17#32) (BitVec.ofNat 32 i.val)).toNat + 17 * 7 < 2176
    omega
  · show 0 + 1 * 127 < 128; omega

/-- One strided load: eight experts' row `i` of their block of sixteen. -/
def ld (buf : Memref sig .tc .vmem S17408x128 .i32) (R : BitVec 32) (hR : R.toNat < 8) (sg : BitVec 32) (hsg : sg.toNat < 16)
    (i : Fin 16) : Pr F (Vec F S8x128 .i32) :=
  Prog.lift (.load (buf.slice (Rect.unit (s := S17408x128) (grpOff R) S2176x128.size (grpOff_inb R hR)) (fun _ => rfl))
    (⟨tileOff sg (BitVec.ofNat 32 i.val), S8x128.size, ![17, 1], tileOff_inb sg hsg i⟩ : LoadRect S2176x128) (View.loadsAt_vmem h_S8x128))

/-- Loads of the sixteen, in order. -/
def ldN (buf : Memref sig .tc .vmem S17408x128 .i32) (R : BitVec 32) (hR : R.toNat < 8) (sg : BitVec 32) (hsg : sg.toNat < 16) :
    (n : ℕ) → (Fin n → Fin 16) → Pr F (Fin n → Vec F S8x128 .i32)
  | 0, _ => pure Fin.elim0
  | n + 1, o => do
      let v ← ld buf R hR sg hsg (o 0)
      let vs ← ldN buf R hR sg hsg n (fun i => o i.succ)
      pure (Matrix.vecCons v vs)

/-- Copies, in order. -/
def issN (arg1 : Memref sig .tc .smem S1x152x128 .i32) (tab : Memref sig .tc .hbm S262144x128 .i32)
    (buf : Memref sig .tc .vmem S17408x128 .i32) (sm : DmaSem sig) : (n : ℕ) → (Fin n → Site) → Pr F PUnit
  | 0, _ => pure ⟨⟩
  | n + 1, s => do
      issue arg1 tab buf sm (s 0)
      issN arg1 tab buf sm n (fun i => s i.succ)

/-- The first sixteenth of a row of 2048, broadcast over eight rows, and so on. -/
def xsOf (row : Vec F S1x2048 .f32) : Fin 16 → FVec F S8x128 .f32 :=
  ![k0_pay9 row, k0_pay10 row, k0_pay11 row, k0_pay12 row, k0_pay13 row, k0_pay14 row, k0_pay15 row, k0_pay16 row,
    k0_pay17 row, k0_pay18 row, k0_pay19 row, k0_pay20 row, k0_pay21 row, k0_pay22 row, k0_pay23 row, k0_pay24 row]

/-- The inner products of eight experts' first factors with a token's row, all lanes alike. -/
def hidPay (xs : Fin 16 → FVec F S8x128 .f32) (v : Fin 16 → Vec F S8x128 .i32) : FVec F S8x128 .f32 :=
  k0_pay417 (xs 13) (xs 14) (xs 15) (v 13) (v 14) (v 15)
    (k0_pay7 (xs 3) (xs 4) (xs 5) (xs 6) (xs 7) (xs 8) (xs 9) (xs 10) (xs 11)
      (v 3) (v 4) (v 5) (v 6) (v 7) (v 8) (v 9) (v 10) (v 11) (k0_pay5 (xs 0) (xs 1) (v 0) (v 1)) (k0_pay6 (xs 2) (v 2)))
    (k0_pay8 (xs 12) (v 12))

abbrev rowOff8 (sg : BitVec 32) : Fin 2 → ℕ := ![(Scalar.indexCast (Scalar.muli sg 8#32)).toNat, 0]

theorem rowOff8_inb (sg : BitVec 32) (hsg : sg.toNat < 16) : ∀ a, rowOff8 sg a + S8x128.size a ≤ S128x128.size a := by
  intro a; fin_cases a
  · have h := row8_toNat sg hsg
    show (Scalar.muli sg 8#32).toNat + 8 ≤ 128; omega
  · show 0 + 128 ≤ 128; omega

/-- The tile of a token's inner products: loads, copies, and the column of the token stored. -/
def hidTile (arg1 : Memref sig .tc .smem S1x152x128 .i32) (tab : Memref sig .tc .hbm S262144x128 .i32)
    (src dst : Memref sig .tc .vmem S17408x128 .i32) (sm : DmaSem sig) (arg8 : Memref sig .tc .vmem S128x128 .f32)
    (R : BitVec 32) (hR : R.toNat < 8) (sg : BitVec 32) (hsg : sg.toNat < 16) (s : Fin 4 → Site)
    (xs : Fin 16 → FVec F S8x128 .f32) (v3 : IVec S8x128 32) (w : BitVec 32) : Pr F Unit := do
  let v ← ldN src R hR sg hsg 16 (fun i => i)
  issN arg1 tab dst sm 4 s
  let _ : Vec F S8x128 .f32 ← Prog.lift (.load arg8 (Rect.unit (s := S128x128) (rowOff8 sg) S8x128.size (rowOff8_inb sg hsg)).toLoadRect (View.loadsAt_vmem h_S8x128))
  Prog.lift (.store arg8 (Rect.unit (s := S128x128) (rowOff8 sg) S8x128.size (rowOff8_inb sg hsg)) (hidPay xs v)
    (IVec.on (k0_pay418 v3 w)) (View.stores_vmem_bits h_S8x128 rfl (fun h => nomatch h)) (.inr (fun _ => rfl)))

/-- The sixteen sums a token's output row is gathered in. -/
abbrev T16 (F : FTy → Type) [FloatOps F] : Type :=
  FVec F S8x128 .f32 × FVec F S8x128 .f32 × FVec F S8x128 .f32 × FVec F S8x128 .f32 × FVec F S8x128 .f32 × FVec F S8x128 .f32
    × FVec F S8x128 .f32 × FVec F S8x128 .f32 × FVec F S8x128 .f32 × FVec F S8x128 .f32 × FVec F S8x128 .f32 × FVec F S8x128 .f32
    × FVec F S8x128 .f32 × FVec F S8x128 .f32 × FVec F S8x128 .f32 × FVec F S8x128 .f32

def tup (a : Fin 16 → FVec F S8x128 .f32) : T16 F :=
  (a 0, a 1, a 2, a 3, a 4, a 5, a 6, a 7, a 8, a 9, a 10, a 11, a 12, a 13, a 14, a 15)

def untup : T16 F → Fin 16 → FVec F S8x128 .f32
  | (a0, a1, a2, a3, a4, a5, a6, a7, a8, a9, a10, a11, a12, a13, a14, a15) =>
    ![a0, a1, a2, a3, a4, a5, a6, a7, a8, a9, a10, a11, a12, a13, a14, a15]

/-- One sum one tile further. -/
abbrev mixUp (a : FVec F S8x128 .f32) (co : FVec F S8x1 .f32) (v : Vec F S8x128 .i32) : FVec F S8x128 .f32 := k0_pay27 a co v

/-- The tile of a token's output row: the coefficients of its eight experts, loads, copies, the sums one tile further. -/
def mixTile (arg1 : Memref sig .tc .smem S1x152x128 .i32) (tab : Memref sig .tc .hbm S262144x128 .i32)
    (src dst : Memref sig .tc .vmem S17408x128 .i32) (sm : DmaSem sig) (arg9 : Memref sig .tc .vmem S128x128 .f32)
    (R : BitVec 32) (hR : R.toNat < 8) (sg : BitVec 32) (hsg : sg.toNat < 16) (s : Fin 4 → Site)
    (v3 : IVec S8x128 32) (w : BitVec 32) (σ : T16 F) : Pr F (T16 F) := do
  let c : Vec F S8x128 .f32 ← Prog.lift (.load arg9 (Rect.unit (s := S128x128) (rowOff8 sg) S8x128.size (rowOff8_inb sg hsg)).toLoadRect (View.loadsAt_vmem h_S8x128))
  let v ← ldN src R hR sg hsg 16 (fun i => i)
  issN arg1 tab dst sm 4 s
  pure (tup fun i => mixUp (untup σ i) (k0_pay25 v3 w c) (v i))

end Cert.KernelIdeal.Peer
-- ==== Proof.Peer.Token.lean ====
/-
  A token's two passes and a group's whole step, said once for the four sets of the ring.
-/
module

public import proofs.«01_k».proof.Proof.Peer.Tile

@[expose] public section

set_option maxRecDepth 65536

noncomputable section

namespace Cert.KernelIdeal.Peer

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Transfers (batchBody batch_creditUpdate_with Batch batch_alloc wp_waitBatchAll)

variable {F : FTy → Type} [FloatOps F]

/-- The proof's memory: the pipeline library's beside the counters of the copies. -/
local notation "𝕄" => MT nD τ sig Unit (Elt F) ℕ (Pipeline.UD sig nD τ) ℕ

/-- The word of a count. -/
abbrev iw (k : ℕ) : BitVec 32 := Scf.iv (w := 32) 0#32 1#32 k

theorem iw_toNat (k : ℕ) (hk : k < 4294967296) : (iw k).toNat = k := by
  show (0#32 + BitVec.ofNat 32 k * 1#32).toNat = k
  rw [BitVec.zero_add, BitVec.mul_one, BitVec.toNat_ofNat, Nat.mod_eq_of_lt hk]

/-- Group `n`·4 + `js` of the step's sixteen, as a word. -/
abbrev grpW (n : ℕ) (js : BitVec 32) : BitVec 32 := Scalar.addi (Scalar.muli (iw n) 4#32) js

theorem grpW_toNat (n : ℕ) (js : BitVec 32) (hn : n < 4) (hj : js.toNat < 4) : (grpW n js).toNat = n * 4 + js.toNat := by
  have h1 := iw_toNat n (by omega)
  have h2 := toNat_muli (iw n) 4 (by omega) (by omega)
  rw [toNat_addi _ _ (by omega)]; omega

/-- Token `R` of the group, of the step's 128. -/
abbrev tokW (n : ℕ) (js R : BitVec 32) : BitVec 32 := Scalar.addi (Scalar.muli (grpW n js) 8#32) R

theorem tokW_toNat (n : ℕ) (js R : BitVec 32) (hn : n < 4) (hj : js.toNat < 4) (hR : R.toNat < 8) :
    (tokW n js R).toNat = (n * 4 + js.toNat) * 8 + R.toNat := by
  have h1 := grpW_toNat n js hn hj
  have h2 := toNat_muli (grpW n js) 8 (by omega) (by omega)
  rw [toNat_addi _ _ (by omega)]; omega

/-- Token `R` of the group three later, of the index block's 152. -/
abbrev nextW (n : ℕ) (js R : BitVec 32) : BitVec 32 := Scalar.addi (Scalar.muli (Scalar.addi (grpW n js) 3#32) 8#32) R

theorem nextW_toNat (n : ℕ) (js R : BitVec 32) (hn : n < 4) (hj : js.toNat < 4) (hR : R.toNat < 8) :
    (nextW n js R).toNat = (n * 4 + js.toNat + 3) * 8 + R.toNat := by
  have h1 := grpW_toNat n js hn hj
  have h3 : (3#32 : BitVec 32).toNat = 3 := rfl
  have h2 : (Scalar.addi (grpW n js) 3#32).toNat = n * 4 + js.toNat + 3 := by rw [toNat_addi _ _ (by omega)]; omega
  have h4 := toNat_muli (Scalar.addi (grpW n js) 3#32) 8 (by omega) (by omega)
  rw [toNat_addi _ _ (by omega)]; omega

/-- Slot `i` of the four of a tile of the first pass, and of the second. -/
abbrev slotH (sg : BitVec 32) (i : Fin 4) : BitVec 32 := Scalar.addi (Scalar.muli sg 4#32) (BitVec.ofNat 32 i.val)
abbrev slotM (sg : BitVec 32) (i : Fin 4) : BitVec 32 := Scalar.addi (Scalar.addi 64#32 (Scalar.muli sg 4#32)) (BitVec.ofNat 32 i.val)

theorem slotH_toNat (sg : BitVec 32) (i : Fin 4) (hsg : sg.toNat < 32) : (slotH sg i).toNat = sg.toNat * 4 + i.val := by
  have h1 := toNat_muli sg 4 (by omega) (by omega)
  have h2 := toNat_word i.val (by omega)
  rw [toNat_addi _ _ (by omega)]; omega

theorem slotM_toNat (sg : BitVec 32) (i : Fin 4) (hsg : sg.toNat < 16) : (slotM sg i).toNat = 64 + sg.toNat * 4 + i.val := by
  have h1 := toNat_muli sg 4 (by omega) (by omega)
  have h2 := toNat_word i.val (by omega)
  have h4 : (64#32 : BitVec 32).toNat = 64 := rfl
  have h3 : (Scalar.addi 64#32 (Scalar.muli sg 4#32)).toNat = 64 + sg.toNat * 4 := by rw [toNat_addi _ _ (by omega)]; omega
  rw [toNat_addi _ _ (by omega)]; omega

theorem lt_of_trips {n : ℕ} (k : Fin n) (m : ℕ) (h : n = m) : k.val < m := h ▸ k.isLt

/-- The word of the token of the first pass's trip `r`, and of the second's trip `p` and half `u`, in its group. -/
abbrev rH (r : ℕ) : BitVec 32 := Scalar.addi (Scalar.muli (iw r) 1#32) 0#32
abbrev rM (p : ℕ) (u : BitVec 32) : BitVec 32 := Scalar.addi (Scalar.muli (iw p) 2#32) u

theorem rH_toNat (r : ℕ) (hr : r < 8) : (rH r).toNat = r := by
  have h1 := iw_toNat r (by omega)
  have h2 := toNat_muli (iw r) 1 (by omega) (by omega)
  have h0 : (0#32 : BitVec 32).toNat = 0 := rfl
  rw [toNat_addi _ _ (by omega)]; omega

theorem rM_toNat (p : ℕ) (u : BitVec 32) (hp : p < 4) (hu : u.toNat < 2) : (rM p u).toNat = p * 2 + u.toNat := by
  have h1 := iw_toNat p (by omega)
  have h2 := toNat_muli (iw p) 2 (by omega) (by omega)
  rw [toNat_addi _ _ (by omega)]; omega

abbrev rowOffW (w : BitVec 32) : Fin 2 → ℕ := ![(Scalar.indexCast w).toNat, 0]

theorem rowOffW_inb (w : BitVec 32) (hw : w.toNat < 128) : ∀ a, rowOffW w a + S1x2048.size a ≤ S128x2048.size a := by
  intro a; fin_cases a
  · show w.toNat + 1 ≤ 128; omega
  · show 0 + 2048 ≤ 2048; omega

theorem tokW_lt (n : ℕ) (js R : BitVec 32) (hn : n < 4) (hj : js.toNat < 4) (hR : R.toNat < 8) : (tokW n js R).toNat < 128 := by
  rw [tokW_toNat n js R hn hj hR]; omega

theorem nextW_lt (n : ℕ) (js R : BitVec 32) (hn : n < 4) (hj : js.toNat < 4) (hR : R.toNat < 8) : (nextW n js R).toNat < 152 := by
  rw [nextW_toNat n js R hn hj hR]; omega

/-- A copy started in a group's step. -/
abbrev grpSite (n : ℕ) (hn : n < 4) (js : BitVec 32) (hj : js.toNat < 4) (R : BitVec 32) (hR : R.toNat < 8)
    (S : BitVec 32) (hS : S.toNat < 128) : Site :=
  mkSite k0_chk13 (fun v => k0_chk13.dec v) (fun v h => h.2) (nextW n js R) R S (nextW_lt n js R hn hj hR) hR hS

/-- The first pass over a token. -/
def hidTok (arg1 : Memref sig .tc .smem S1x152x128 .i32) (tab : Memref sig .tc .hbm S262144x128 .i32)
    (arg3 : Memref sig .tc .vmem S128x2048 .f32) (src dst : Memref sig .tc .vmem S17408x128 .i32) (sm : DmaSem sig)
    (arg8 : Memref sig .tc .vmem S128x128 .f32) (v3 : IVec S8x128 32)
    (n : ℕ) (hn : n < 4) (js : BitVec 32) (hj : js.toNat < 4) (r : ℕ) (hr : r < 8) : Pr F Unit := do
  let hR : (rH r).toNat < 8 := by rw [rH_toNat r hr]; exact hr
  let row : Vec F S1x2048 .f32 ← Prog.lift (.load arg3 (Rect.unit (s := S128x2048) (rowOffW (tokW n js (rH r))) S1x2048.size
    (rowOffW_inb _ (tokW_lt n js _ hn hj hR))).toLoadRect (View.loadsAt_vmem h_S1x2048))
  Scf.Loop.for k0_t7_loop k0_t7_ok ⟨⟩ fun sg _ =>
    have hs : (iw sg.val).toNat < 16 := by
      have h : sg.val < 16 := lt_of_trips sg 16 rfl
      rw [iw_toNat _ (by omega)]; exact h
    hidTile arg1 tab src dst sm arg8 (rH r) hR (iw sg.val) hs
      (fun i => grpSite n hn js hj (rH r) hR (slotH (iw sg.val) i) (by rw [slotH_toNat _ i (by omega)]; omega))
      (xsOf row) v3 (tokW n js (rH r))
  pure ⟨⟩

/-- A token's output row from its sums. -/
def yPay (a : Fin 16 → FVec F S8x128 .f32) : FVec F S1x2048 .f32 :=
  k0_pay74 (a 3) (a 4) (a 5) (a 6) (a 7) (a 8) (a 9) (a 10) (a 11) (a 12) (a 13) (a 14) (a 15)
    (k0_pay71 (a 0)) (k0_pay72 (a 1)) (k0_pay73 (a 2))

/-- The second pass over a token. -/
def mixTok (arg1 : Memref sig .tc .smem S1x152x128 .i32) (tab : Memref sig .tc .hbm S262144x128 .i32)
    (src dst : Memref sig .tc .vmem S17408x128 .i32) (sm : DmaSem sig)
    (arg9 : Memref sig .tc .vmem S128x128 .f32) (arg10 : Memref sig .tc .vmem S128x2048 .f32) (v3 : IVec S8x128 32)
    (n : ℕ) (hn : n < 4) (js : BitVec 32) (hj : js.toNat < 4) (R : BitVec 32) (hR : R.toNat < 8) : Pr F Unit := do
  let σ ← Scf.Loop.for k0_t9_loop k0_t9_ok (tup (fun _ => k0_pay47 (F := F))) fun sg σ =>
    have hs : (iw sg.val).toNat < 16 := by
      have h : sg.val < 16 := lt_of_trips sg 16 rfl
      rw [iw_toNat _ (by omega)]; exact h
    mixTile arg1 tab src dst sm arg9 R hR (iw sg.val) hs
      (fun i => grpSite n hn js hj R hR (slotM (iw sg.val) i) (by rw [slotM_toNat _ i (by omega)]; omega))
      v3 (tokW n js R) σ
  let _ : Vec F S1x2048 .f32 ← Prog.lift (.load arg10 (Rect.unit (s := S128x2048) (rowOffW (tokW n js R)) S1x2048.size
    (rowOffW_inb _ (tokW_lt n js R hn hj hR))).toLoadRect (View.loadsAt_vmem h_S1x2048))
  Prog.lift (.store arg10 (Rect.unit (s := S128x2048) (rowOffW (tokW n js R)) S1x2048.size
    (rowOffW_inb _ (tokW_lt n js R hn hj hR))) (yPay (untup σ)) Finset.univ (View.stores_vmem_bits_univ h_S1x2048 rfl) (.inl rfl))

/-- The second pass over two tokens. -/
def mixTok2 (arg1 : Memref sig .tc .smem S1x152x128 .i32) (tab : Memref sig .tc .hbm S262144x128 .i32)
    (src dst : Memref sig .tc .vmem S17408x128 .i32) (sm : DmaSem sig)
    (arg9 : Memref sig .tc .vmem S128x128 .f32) (arg10 : Memref sig .tc .vmem S128x2048 .f32) (v3 : IVec S8x128 32)
    (n : ℕ) (hn : n < 4) (js : BitVec 32) (hj : js.toNat < 4) (p : ℕ) (hp : p < 4) : Pr F Unit := do
  mixTok arg1 tab src dst sm arg9 arg10 v3 n hn js hj (rM p 0#32) (by rw [rM_toNat p _ hp (by decide)]; show p * 2 + 0 < 8; omega)
  mixTok arg1 tab src dst sm arg9 arg10 v3 n hn js hj (rM p 1#32) (by rw [rM_toNat p _ hp (by decide)]; show p * 2 + 1 < 8; omega)

end Cert.KernelIdeal.Peer
-- ==== Proof.Peer.Group.lean ====
/-
  The whole of a group's step, the copies that precede the first one, and the body of the launch, said from their pieces.
-/
module

public import proofs.«01_k».proof.Proof.Peer.Token

@[expose] public section

set_option maxRecDepth 65536

noncomputable section

namespace Cert.KernelIdeal.Peer

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Transfers (batchBody batch_creditUpdate_with Batch batch_alloc wp_waitBatchAll)

variable {F : FTy → Type} [FloatOps F]

/-- The proof's memory: the pipeline library's beside the counters of the copies. -/
local notation "𝕄" => MT nD τ sig Unit (Elt F) ℕ (Pipeline.UD sig nD τ) ℕ

theorem for_bind_congr {σ β : Type} {L : Scf.Loop 32} {h : L.OK} {a a' : σ} {b b' : Fin L.trips → σ → Pr F σ} {k k' : σ → Pr F β}
    (ha : a = a') (hb : ∀ i x, b i x = b' i x) (hk : ∀ x, k x = k' x) :
    (Scf.Loop.for L h a b >>= k) = (Scf.Loop.for L h a' b' >>= k') := by
  rw [ha, show b = b' from funext fun i => funext (hb i), show k = k' from funext hk]

theorem lift_bind_congr {α β : Type} {p : Pr F α} {k k' : α → Pr F β} (hk : ∀ x, k x = k' x) : (p >>= k) = (p >>= k') := by
  rw [show k = k' from funext hk]

/-- The whole of a 128 by 128 array, loaded. -/
abbrev ld128 (m : Memref sig .tc .vmem S128x128 .f32) : Pr F (Vec F S128x128 .f32) :=
  Prog.lift (.load m (Rect.unit (s := S128x128) ![0, 0] S128x128.size inb_S128x128_S128x128_0_0).toLoadRect (View.loadsAt_vmem h_S128x128))

abbrev st128 (m : Memref sig .tc .vmem S128x128 .f32) (v : FVec F S128x128 .f32) : Pr F PUnit :=
  Prog.lift (.store m (Rect.unit (s := S128x128) ![0, 0] S128x128.size inb_S128x128_S128x128_0_0) v Finset.univ
    (View.stores_vmem_bits_univ h_S128x128 rfl) (.inl rfl))

/-- The wait for every copy of a set. -/
abbrev waitSet (buf : Memref sig .tc .vmem S17408x128 .i32) (sm : DmaSem sig) : Pr F PUnit :=
  Prog.lift (.waitDma2 sm
    (buf.slice (Rect.unit (s := S17408x128) ![0, 0] S16384x128.size inb_S17408x128_S16384x128_0_0) (fun _ => rfl))
    (buf.slice (Rect.unit (s := S17408x128) ![0, 0] S16384x128.size inb_S17408x128_S16384x128_0_0) (fun _ => rfl))
    (View.wordExact_bits rfl) (View.wordExact_bits rfl))

/-- What the coefficients of a group's tokens are, from the gates and the inner products. -/
abbrev coefPay (g h : Vec F S128x128 .f32) : FVec F S128x128 .f32 := k0_pay419 g h

/-- A group's step: wait for its rows, the first pass over its eight tokens, the coefficients, the second pass. -/
def group (arg1 : Memref sig .tc .smem S1x152x128 .i32) (tab : Memref sig .tc .hbm S262144x128 .i32)
    (arg2 : Memref sig .tc .vmem S128x128 .f32) (arg3 : Memref sig .tc .vmem S128x2048 .f32)
    (src dst : Memref sig .tc .vmem S17408x128 .i32) (sw sm : DmaSem sig)
    (arg8 arg9 : Memref sig .tc .vmem S128x128 .f32) (arg10 : Memref sig .tc .vmem S128x2048 .f32) (v3 : IVec S8x128 32)
    (n : ℕ) (hn : n < 4) (js : BitVec 32) (hj : js.toNat < 4) : Pr F Unit := do
  waitSet src sw
  Scf.Loop.for k0_t6_loop k0_t6_ok ⟨⟩ fun r _ =>
    hidTok arg1 tab arg3 src dst sm arg8 v3 n hn js hj r.val (lt_of_trips r 8 rfl)
  let g ← ld128 arg2
  let h ← ld128 arg8
  let _ ← ld128 arg9
  st128 arg9 (coefPay g h)
  Scf.Loop.for k0_t8_loop k0_t8_ok ⟨⟩ fun p _ =>
    mixTok2 arg1 tab src dst sm arg9 arg10 v3 n hn js hj p.val (lt_of_trips p 4 rfl)

theorem baseW_lt (b : BitVec 32) (hb : b.toNat ≤ 16) (k : ℕ) (hk : k < 8) : (Scalar.addi b (iw k)).toNat < 152 := by
  have h := iw_toNat k (by omega)
  rw [toNat_addi _ _ (by omega)]; omega

/-- A copy started before the first step. -/
abbrev firstSite (i : grid0.Coords) (h1 : k0_cond1 i = 1#1) (b : BitVec 32) (hb : b.toNat ≤ 16) (k : ℕ) (hk : k < 8) (S : BitVec 32) (hS : S.toNat < 128) : Site :=
  mkSite (k0_chk1 i) (fun v => k0_chk1.dec i v) (fun v h => h.2 h1) (Scalar.addi b (iw k)) (iw k) S (baseW_lt b hb k hk)
    (by rw [iw_toNat k (by omega)]; exact hk) hS

/-- The copies of a token of a group that precede the first step. -/
def firstTok (i : grid0.Coords) (h1 : k0_cond1 i = 1#1) (arg1 : Memref sig .tc .smem S1x152x128 .i32) (tab : Memref sig .tc .hbm S262144x128 .i32)
    (dst : Memref sig .tc .vmem S17408x128 .i32) (sm : DmaSem sig) (b : BitVec 32) (hb : b.toNat ≤ 16) (k : ℕ) (hk : k < 8) : Pr F Unit :=
  Scf.Loop.for k0_t2_loop (k0_t2_ok i h1) ⟨⟩ fun t2 _ =>
    have hs : (iw t2.val).toNat < 32 := by
      have h : t2.val < 32 := lt_of_trips t2 32 rfl
      rw [iw_toNat _ (by omega)]; exact h
    issN arg1 tab dst sm 4 (fun u => firstSite i h1 b hb k hk (slotH (iw t2.val) u) (by rw [slotH_toNat _ u hs]; omega))

end Cert.KernelIdeal.Peer
-- ==== Proof.Peer.Rules.lean ====
/-
  The rules of the kernel's pieces: loads and stores of a whole array, the strided loads of a set's rows, several copies in order.
-/
module

public import proofs.«01_k».proof.Proof.Peer.Sets
public import proofs.«01_k».proof.Proof.Peer.Group

@[expose] public section

set_option maxRecDepth 65536

noncomputable section

namespace Cert.KernelIdeal.Peer

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Transfers (batchBody batch_creditUpdate_with Batch batch_alloc wp_waitBatchAll)

variable {F : FTy → Type} [FloatOps F]

/-- The proof's memory: the pipeline library's beside the counters of the copies. -/
local notation "𝕄" => MT nD τ sig Unit (Elt F) ℕ (Pipeline.UD sig nD τ) ℕ

/-! ## Loads and stores -/

section
open Classical

/-- Contents with a masked rectangle stored over. -/
def upd {s : Shape} {e : EltTy} (X : s.Idx → Elt F e) (r : Rect s) (w : r.shape.Idx → Elt F e) (Mk : Finset r.shape.Idx) : s.Idx → Elt F e :=
  fun x => if h : ∃ y ∈ Mk, r.emb y = x then w h.choose else X x

theorem upd_hit {s : Shape} {e : EltTy} (X : s.Idx → Elt F e) (r : Rect s) (w : r.shape.Idx → Elt F e) (Mk : Finset r.shape.Idx)
    (y : r.shape.Idx) (hy : y ∈ Mk) : upd X r w Mk (r.emb y) = w y := by
  have h : ∃ z ∈ Mk, r.emb z = r.emb y := ⟨y, hy, rfl⟩
  unfold upd
  rw [dif_pos h]
  exact congrArg w (r.emb.injective h.choose_spec.2)

theorem upd_miss {s : Shape} {e : EltTy} (X : s.Idx → Elt F e) (r : Rect s) (w : r.shape.Idx → Elt F e) (Mk : Finset r.shape.Idx)
    (x : s.Idx) (hx : ∀ y ∈ Mk, r.emb y ≠ x) : upd X r w Mk x = X x := by
  unfold upd
  rw [dif_neg]
  rintro ⟨y, hy, h⟩
  exact hx y hy h

theorem read_upd {sp : Space} {s : Shape} {e : EltTy} (m : Memref sig .tc sp s e) (r : Rect s) (w : r.shape.Idx → Elt F e)
    (Mk : Finset r.shape.Idx) (f : m.view.ty.Contents (Elt F)) :
    m.view.read (Elt F) ((m.access r).write (Elt F) f w Mk) = upd (m.view.read (Elt F) f) r w Mk := by
  funext x
  by_cases h : ∃ y ∈ Mk, r.emb y = x
  · obtain ⟨y, hy, rfl⟩ := h
    rw [upd_hit _ r w Mk y hy]
    exact View.read_slice_write_emb (v := m.view) r f w hy
  · rw [upd_miss _ r w Mk x (fun y hy he => h ⟨y, hy, he⟩)]
    refine View.read_slice_write_of_not_mem (v := m.view) r f w Mk fun hm => h ?_
    obtain ⟨y, hy, he⟩ := Finset.mem_map.mp hm
    exact ⟨y, hy, he⟩

end

theorem wpP_lift (c : Dev nD) {α : Type} (e : TpuEff nD τ sig (Elt F) Λ₀ .tc α) (Q : α → sProp 𝕄) :
    wpP c (Prog.lift e) Q = wp frame (wpE (defs₀ (F := F)) Variants.none (c : Thread nD τ) none) Set.univ (.op e Prog.ret) Q := rfl

theorem wpP_bind (c : Dev nD) {α β : Type} (p : Pr F α) (k : α → Pr F β) (Q : β → sProp 𝕄) :
    wpP c (p >>= k) Q = wpP c p (fun a => wpP c (k a) Q) := wp_bind _ _ _ _ _ _

theorem wpP_pure (c : Dev nD) {α : Type} (a : α) (Q : α → sProp 𝕄) :
    wpP c (pure a) Q = iprop(|={Set.univ}=> Q a) := rfl

/-- A load of a rectangle of an array. -/
theorem wp_loadO (c : Dev nD) {s : Shape} {e : EltTy} (m : Memref sig .tc .vmem s e) (q : PosShare TreeShare) (r : Rect s)
    (hl : m.view.LoadsAt r.toLoadRect) (X : s.Idx → Elt F e) {Q : (r.shape.Idx → Elt F e) → sProp 𝕄} :
    (owns (c : Thread nD τ) m q X : sProp 𝕄)
      ⊢ iprop((owns (c : Thread nD τ) m q X -∗ Q (fun y => X (r.emb y))) -∗ wpP c (Prog.lift (.load m r.toLoadRect hl)) Q) := by
  rw [wpP_lift]
  unfold owns
  iintro ⟨%f, %hf, H⟩ Hk
  iapply (wp_load Variants.none (c : Thread nD τ) none Set.univ (S := m.view.set) (View.setOn_subset_set _ _)) $$ [H]
  · iexact H
  iintro H
  rw [wp_ret]
  imodintro
  have hX : (m.view.readAt (Elt F) r.toLoadRect f : r.shape.Idx → Elt F e) = fun y => X (r.emb y) := by
    subst hf; rfl
  rw [hX]
  iapply Hk
  iexists f
  isplitr
  · ipureintro; exact hf
  · iexact H

/-- The same, at contents known otherwise. -/
theorem wp_loadE (c : Dev nD) {s : Shape} {e : EltTy} (m : Memref sig .tc .vmem s e) (q : PosShare TreeShare) (r : Rect s)
    (hl : m.view.LoadsAt r.toLoadRect) (X : s.Idx → Elt F e) (X' : r.shape.Idx → Elt F e) (hX : (fun y => X (r.emb y)) = X')
    {Q : (r.shape.Idx → Elt F e) → sProp 𝕄} :
    (owns (c : Thread nD τ) m q X : sProp 𝕄)
      ⊢ iprop((owns (c : Thread nD τ) m q X -∗ Q X') -∗ wpP c (Prog.lift (.load m r.toLoadRect hl)) Q) := by
  rw [← hX]; exact wp_loadO c m q r hl X

/-- A store, masked or not, to a rectangle of an array. -/
theorem wp_storeO (c : Dev nD) {s : Shape} {e : EltTy} (m : Memref sig .tc .vmem s e) (r : Rect s) (w : r.shape.Idx → Elt F e)
    (Mk : Finset r.shape.Idx) (hx : (m.access r).Stores Mk) (hm : Mk = Finset.univ ∨ ∀ a, r.stride a = 1) (X : s.Idx → Elt F e) {Q : PUnit → sProp 𝕄} :
    (owns (c : Thread nD τ) m fullShare X : sProp 𝕄)
      ⊢ iprop((owns (c : Thread nD τ) m fullShare (upd X r w Mk) -∗ Q ⟨⟩) -∗ wpP c (Prog.lift (.store m r w Mk hx hm)) Q) := by
  rw [wpP_lift]
  unfold owns
  iintro ⟨%f, %hf, H⟩ Hk
  iapply (wp_store Variants.none (c : Thread nD τ) none Set.univ (S := m.view.set)
    ((View.setOn_subset_set _ _).trans (View.set_slice_subset m.view r))) $$ [H]
  · iexact H
  iintro H
  rw [wp_ret]
  imodintro
  iapply Hk
  iexists _
  isplitr
  · ipureintro
    rw [← hf]; exact read_upd m r w Mk f
  · iexact H

/-- A counted loop, by an invariant. -/
theorem wp_loop (c : Dev nD) {σ : Type} (L : Scf.Loop 32) (h : L.OK) (init : σ) (body : Fin L.trips → σ → Pr F σ) (I : ℕ → σ → sProp 𝕄)
    (hbody : ∀ (k : Fin L.trips) (acc : σ), I k acc ⊢ wpP c (body k acc) (I (k.val + 1))) {Q : σ → sProp 𝕄} :
    I 0 init ⊢ iprop((∀ acc, I L.trips acc -∗ Q acc) -∗ wpP c (Scf.Loop.for L h init body) Q) := by
  iintro HI HK
  unfold wpP
  iapply (Scf.wp_for frame _ Set.univ L.lb L.ub L.st h init body I hbody)
  isplitl [HI]; · iexact HI
  iexact HK

/-! ## A set's rows -/

/-- A set whose rows have landed. -/
def Rows (c : Dev nD) (buf : Memref sig .tc .vmem S17408x128 .i32) (tab : Memref sig .tc .hbm S262144x128 .i32)
    (W : Buf (Elt F) (tab.view.loc (c : Thread nD τ))) (E : Fin 1024 → Fin 16384) : sProp 𝕄 :=
  iprop(∃ f, ⌜∀ b, Landed buf tab W E b f⌝ ∗ (buf.view.loc (c : Thread nD τ) ↦{fullShare} f))

/-- Row `i` of the blocks of sixteen of eight experts. -/
def tileV (T : S262144x128.Idx → Elt F .i32) (e : Fin 8 → Fin 16384) (i : Fin 16) : Vec F S8x128 .i32 := fun x =>
  T (ix2 (⟨16 * (e (x 0)).val + i.val, by have := (e (x 0)).isLt; omega⟩ : Fin 262144) (x 1 : Fin 128))

/-- Expert `k` of tile `n` of a group's token `r`, among the group's 1024. -/
def tileE (E : Fin 1024 → Fin 16384) (r : Fin 8) (n : Fin 16) (k : Fin 8) : Fin 16384 := E ⟨r.val * 128 + 8 * n.val + k.val, by omega⟩

theorem wp_ld (c : Dev nD) (buf : Memref sig .tc .vmem S17408x128 .i32) (tab : Memref sig .tc .hbm S262144x128 .i32)
    (W : Buf (Elt F) (tab.view.loc (c : Thread nD τ))) (E : Fin 1024 → Fin 16384)
    (R : BitVec 32) (hR : R.toNat < 8) (sg : BitVec 32) (hsg : sg.toNat < 16) (i : Fin 16) (r : Fin 8) (n : Fin 16)
    (hr : R.toNat = r.val) (hn : sg.toNat = n.val) {Q : Vec F S8x128 .i32 → sProp 𝕄} :
    Rows c buf tab W E ⊢ iprop((Rows c buf tab W E -∗ Q (tileV (tab.view.read (Elt F) W) (tileE E r n) i)) -∗ wpP c (ld buf R hR sg hsg i) Q) := by
  unfold Rows ld
  rw [wpP_lift]
  iintro ⟨%f, %hf, H⟩ Hk
  iapply (wp_load Variants.none (c : Thread nD τ) none Set.univ (S := Finset.univ) (Finset.subset_univ _)) $$ [H]
  · iexact H
  iintro H
  rw [wp_ret]
  imodintro
  have hX : ((buf.slice (Rect.unit (s := S17408x128) (grpOff R) S2176x128.size (grpOff_inb R hR)) (fun _ => rfl)).view.readAt (Elt F)
      (⟨tileOff sg (BitVec.ofNat 32 i.val), S8x128.size, ![17, 1], tileOff_inb sg hsg i⟩ : LoadRect S2176x128) f : S8x128.Idx → Elt F .i32)
      = tileV (tab.view.read (Elt F) W) (tileE E r n) i := by
    funext x
    have hx0 : (x 0).val < 8 := (x 0).isLt
    have hx1 : (x 1).val < 128 := (x 1).isLt
    refine Eq.trans ?_ (hf ⟨r.val * 128 + 8 * n.val + (x 0).val, by omega⟩ i (x 1))
    show buf.view.read (Elt F) f ((Rect.unit (s := S17408x128) (grpOff R) S2176x128.size (grpOff_inb R hR)).emb
      ((⟨tileOff sg (BitVec.ofNat 32 i.val), S8x128.size, ![17, 1], tileOff_inb sg hsg i⟩ : LoadRect S2176x128).idx x)) = _
    congr 1
    funext a; apply Fin.ext
    have h := grp_toNat R hR
    have h' := tile_toNat sg hsg i
    fin_cases a
    · show (Scalar.muli (Scalar.muli R 128#32) 17#32).toNat + 1 * ((Scalar.addi (Scalar.muli (Scalar.muli sg 8#32) 17#32) (BitVec.ofNat 32 i.val)).toNat + 17 * (x 0).val)
        = 17 * (r.val * 128 + 8 * n.val + (x 0).val) + i.val
      omega
    · show 0 + 1 * (0 + 1 * (x 1).val) = (x 1).val; omega
  rw [hX]
  iapply Hk
  iexists f
  isplitr
  · ipureintro; exact hf
  · iexact H

theorem wp_ldN (c : Dev nD) (buf : Memref sig .tc .vmem S17408x128 .i32) (tab : Memref sig .tc .hbm S262144x128 .i32)
    (W : Buf (Elt F) (tab.view.loc (c : Thread nD τ))) (E : Fin 1024 → Fin 16384)
    (R : BitVec 32) (hR : R.toNat < 8) (sg : BitVec 32) (hsg : sg.toNat < 16) (r : Fin 8) (n : Fin 16)
    (hr : R.toNat = r.val) (hn : sg.toNat = n.val) :
    ∀ (k : ℕ) (o : Fin k → Fin 16) {Q : (Fin k → Vec F S8x128 .i32) → sProp 𝕄},
    Rows c buf tab W E ⊢ iprop((Rows c buf tab W E -∗ Q (fun i => tileV (tab.view.read (Elt F) W) (tileE E r n) (o i))) -∗ wpP c (ldN buf R hR sg hsg k o) Q)
  | 0, o, Q => by
    unfold ldN
    rw [wpP_pure, show (fun i => tileV (tab.view.read (Elt F) W) (tileE E r n) (o i)) = Fin.elim0 from funext fun i => i.elim0]
    iintro H Hk
    imodintro
    iapply Hk; iexact H
  | k + 1, o, Q => by
    unfold ldN
    rw [wpP_bind]
    iintro H Hk
    iapply (wp_ld c buf tab W E R hR sg hsg (o 0) r n hr hn) $$ [H]
    · iexact H
    iintro H
    rw [wpP_bind]
    iapply (wp_ldN c buf tab W E R hR sg hsg r n hr hn k (fun i => o i.succ)) $$ [H]
    · iexact H
    iintro H
    rw [wpP_pure, show (fun i => tileV (tab.view.read (Elt F) W) (tileE E r n) (o i))
      = Matrix.vecCons (tileV (tab.view.read (Elt F) W) (tileE E r n) (o 0)) (fun i => tileV (tab.view.read (Elt F) W) (tileE E r n) (o i.succ))
      from funext fun i => Fin.cases rfl (fun _ => rfl) i]
    imodintro
    iapply Hk; iexact H

/-! ## Copies in order -/

theorem wp_issN (c : Dev nD) (arg1 : Memref sig .tc .smem S1x152x128 .i32) (tab : Memref sig .tc .hbm S262144x128 .i32)
    (buf : Memref sig .tc .vmem S17408x128 .i32) (sm : DmaSem sig)
    (W : Buf (Elt F) (tab.view.loc (c : Thread nD τ))) (q : PosShare TreeShare) (E : Fin 1024 → Fin 16384)
    (rk : Fin 1024 → ℕ) (hinj : Function.Injective rk)
    {q1 : PosShare TreeShare} (f1 : Buf (Elt F) (arg1.view.loc (c : Thread nD τ))) :
    ∀ (n : ℕ) (s : Fin n → Site) (t : Fin n → Fin 152) (sl : Fin n → Fin 128) (b : Fin n → Fin 1024) (k : ℕ)
      (hs : ∀ j, SiteOk (s j) (t j) (sl j) (b j)) (hk : ∀ j, rk (b j) = k + j.val)
      (hv : ∀ j, (arg1.view.read (Elt F) f1 (ix3 (0 : Fin 1) (t j) (sl j)) : BitVec 32).toNat = (E (b j)).val)
      {Q : PUnit → sProp 𝕄},
    iprop((arg1.view.loc (c : Thread nD τ) ↦{q1} f1) ∗ Going c buf tab W q sm E rk k)
      ⊢ iprop((iprop((arg1.view.loc (c : Thread nD τ) ↦{q1} f1) ∗ Going c buf tab W q sm E rk (k + n)) -∗ Q ⟨⟩)
          -∗ wpP c (issN arg1 tab buf sm n s) Q)
  | 0, s, t, sl, b, k, hs, hk, hv, Q => by
    unfold issN
    rw [wpP_pure]
    iintro H Hk
    imodintro
    iapply Hk; iexact H
  | n + 1, s, t, sl, b, k, hs, hk, hv, Q => by
    unfold issN
    have h0 : rk (b 0) = k := by rw [hk 0]; rfl
    have h := wp_issue c arg1 tab buf sm (s 0) W q E rk hinj (q1 := q1) f1 (t 0) (sl 0) (b 0) (hs 0).hT (hs 0).hS (hs 0).hb (hs 0).hb1 (hs 0).hE (hv 0)
      (k := fun _ => issN arg1 tab buf sm n (fun i => s i.succ)) (Q := Q)
    rw [h0] at h
    iintro H Hk
    iapply h $$ [H]
    · iexact H
    iintro H
    iapply (wp_issN c arg1 tab buf sm W q E rk hinj (q1 := q1) f1 n (fun i => s i.succ) (fun i => t i.succ) (fun i => sl i.succ) (fun i => b i.succ)
      (k + 1) (fun j => hs j.succ) (fun j => by rw [hk j.succ, Fin.val_succ]; omega) (fun j => hv j.succ)) $$ [H]
    · iexact H
    rw [show k + 1 + n = k + (n + 1) by omega]
    iexact Hk

end Cert.KernelIdeal.Peer
-- ==== Proof.Peer.First.lean ====
/-
  A token's two passes: what each leaves, and the rules of their tiles and loops.
-/
module

public import proofs.«01_k».proof.Proof.Peer.Rules

@[expose] public section

set_option maxRecDepth 65536

noncomputable section

namespace Cert.KernelIdeal.Peer

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Transfers (batchBody batch_creditUpdate_with Batch batch_alloc wp_waitBatchAll)

variable {F : FTy → Type} [FloatOps F]

/-- The proof's memory: the pipeline library's beside the counters of the copies. -/
local notation "𝕄" => MT nD τ sig Unit (Elt F) ℕ (Pipeline.UD sig nD τ) ℕ

/-- The lanes' numbers. -/
abbrev V3 : IVec S8x128 32 := iota .tc S8x128 32 [1] iota_S8x128_d1_w32

/-! ## What the passes compute -/

/-- The experts of a group's 1024 blocks, from those of the index block's tokens and slots. -/
def grpE (ex : Fin 152 → Fin 128 → Fin 16384) (g : Fin 19) : Fin 1024 → Fin 16384 := fun b =>
  ex ⟨8 * g.val + b.val / 128, by omega⟩ ⟨b.val % 128, by omega⟩

/-- The order of a group's 1024 copies: the first pass starts the first halves of the tokens, the second the others. -/
def rkG (b : Fin 1024) : ℕ := (b.val % 128 / 64) * 512 + (b.val / 128) * 64 + b.val % 64

theorem rkG_inj : Function.Injective rkG := by
  intro a b h
  unfold rkG at h
  apply Fin.ext
  omega

theorem rkG_lt (b : Fin 1024) : rkG b < 1024 := by unfold rkG; omega

section values
variable (T : S262144x128.Idx → Elt F .i32) (ex : Fin 152 → Fin 128 → Fin 16384) (X3 : S128x2048.Idx → Elt F .f32) (G : S128x128.Idx → Elt F .f32)

/-- The experts of tile `n` of token `l`. -/
def tokE (l : Fin 128) (n : Fin 16) : Fin 8 → Fin 16384 := tileE (grpE ex ⟨l.val / 8, by omega⟩) ⟨l.val % 8, by omega⟩ n

/-- The inner products of tile `n` of token `l`. -/
def hidV (l : Fin 128) (n : Fin 16) : FVec F S8x128 .f32 :=
  hidPay (xsOf (fun y => X3 (ix2 l (y 1 : Fin 2048)))) (tileV T (tokE ex l n))

/-- The inner products after `k` tiles, the tokens in order; nought where none is yet. -/
def Hst (k : ℕ) : S128x128.Idx → Elt F .f32 := fun x =>
  if 16 * (x 1).val + (x 0).val / 8 < k then
    hidV T ex X3 (x 1) ⟨(x 0).val / 8, by have h : (x 0).val < 128 := (x 0).isLt; omega⟩ (ix2 (⟨(x 0).val % 8, by omega⟩ : Fin 8) (x 1 : Fin 128))
  else k0_pay1 (F := F) x

/-- The coefficients once group `g` has had its first pass. -/
def coefs (g : Fin 16) : S128x128.Idx → Elt F .f32 := coefPay G (Hst T ex X3 (128 * (g.val + 1)))

/-- The sixteen sums of token `l` after `n` tiles. -/
def accAt (C : S128x128.Idx → Elt F .f32) (l : Fin 128) : ℕ → Fin 16 → FVec F S8x128 .f32
  | 0 => fun _ => k0_pay47
  | n + 1 => if h : n < 16 then fun i => mixUp (accAt C l n i)
      (k0_pay25 V3 (BitVec.ofNat 32 l.val) (fun y => C (ix2 (⟨8 * n + (y 0).val, by have : (y 0).val < 8 := (y 0).isLt; omega⟩ : Fin 128) (y 1 : Fin 128))))
      (tileV T (tokE ex l ⟨n, h⟩) i) else accAt C l n

/-- The output row of token `l`. -/
def yv (l : Fin 128) : FVec F S1x2048 .f32 := yPay (accAt T ex (coefs T ex X3 G ⟨l.val / 8, by omega⟩) l 16)

/-- The first `k` tokens' output rows are in. -/
def Yin (k : ℕ) (Y : S128x2048.Idx → Elt F .f32) : Prop := ∀ (l : Fin 128) (j : Fin 2048), l.val < k → Y (ix2 l j) = yv T ex X3 G l (ix2 (0 : Fin 1) j)

end values

/-! ## The mask and the store of a tile's inner products -/

theorem mask_mem (w : BitVec 32) (hw : w.toNat < 128) (y : S8x128.Idx) : y ∈ IVec.on (k0_pay418 V3 w) ↔ (y 1).val = w.toNat := by
  have h1 : (y 1).val < 128 := (y 1).isLt
  have e : k0_pay418 V3 w y = IntOp.cmpi .eq (BitVec.ofNat 32 (0 * 128 + (y 1).val)) w := by
    unfold k0_pay418
    rw [Idealize.ShloMosaic.shapeCast_self]
    rfl
  rw [show (y ∈ IVec.on (k0_pay418 V3 w) ↔ (y 1).val = w.toNat) ↔ (k0_pay418 V3 w y = 1 ↔ (y 1).val = w.toNat) by simp [IVec.on], e]
  show BitVec.ofBool (BitVec.ofNat 32 (0 * 128 + (y 1).val) == w) = 1 ↔ _
  rw [Nat.zero_mul, Nat.zero_add]
  constructor
  · intro h
    by_cases hc : BitVec.ofNat 32 (y 1).val = w
    · rw [← hc, BitVec.toNat_ofNat, Nat.mod_eq_of_lt (by omega)]
    · rw [beq_false_of_ne hc] at h; exact absurd h (by decide)
  · intro h
    rw [h, BitVec.ofNat_toNat, BitVec.setWidth_eq, beq_self_eq_true]; rfl

theorem upd_hst (T : S262144x128.Idx → Elt F .i32) (ex : Fin 152 → Fin 128 → Fin 16384) (X3 : S128x2048.Idx → Elt F .f32)
    (l : Fin 128) (n : Fin 16) (sg w : BitVec 32) (hsg : sg.toNat < 16) (hn : sg.toNat = n.val) (hw : w.toNat = l.val) :
    upd (Hst T ex X3 (16 * l.val + n.val)) (Rect.unit (s := S128x128) (rowOff8 sg) S8x128.size (rowOff8_inb sg hsg)) (hidV T ex X3 l n)
      (IVec.on (k0_pay418 V3 w)) = Hst T ex X3 (16 * l.val + n.val + 1) := by
  have h8 := row8_toNat sg hsg
  have hwl : w.toNat < 128 := by rw [hw]; exact l.isLt
  have he0 : ∀ y : S8x128.Idx, ((Rect.unit (s := S128x128) (rowOff8 sg) S8x128.size (rowOff8_inb sg hsg)).emb y 0).val = 8 * n.val + (y 0).val := fun y => by
    show (Scalar.muli sg 8#32).toNat + 1 * (y 0).val = _; omega
  have he1 : ∀ y : S8x128.Idx, ((Rect.unit (s := S128x128) (rowOff8 sg) S8x128.size (rowOff8_inb sg hsg)).emb y 1).val = (y 1).val := fun y => by
    show 0 + 1 * (y 1).val = _; omega
  funext x
  have hx0 : (x 0).val < 128 := (x 0).isLt
  by_cases h : (x 1).val = l.val ∧ (x 0).val / 8 = n.val
  · obtain ⟨ha, hb⟩ := h
    have hy : (ix2 (⟨(x 0).val % 8, by omega⟩ : Fin 8) l : S8x128.Idx) ∈ IVec.on (k0_pay418 V3 w) :=
      (mask_mem w hwl _).mpr (by show l.val = _; rw [hw])
    have hx : x = (Rect.unit (s := S128x128) (rowOff8 sg) S8x128.size (rowOff8_inb sg hsg)).emb (ix2 (⟨(x 0).val % 8, by omega⟩ : Fin 8) l) := by
      funext a; apply Fin.ext
      fin_cases a
      · rw [show ((⟨0, by decide⟩ : Fin 2)) = 0 from rfl]
        refine Eq.trans ?_ (he0 _).symm
        show (x 0).val = 8 * n.val + (x 0).val % 8; omega
      · refine Eq.trans ?_ (he1 _).symm
        exact ha
    have hl : (x 1 : Fin 128) = l := Fin.ext ha
    have hr : Hst T ex X3 (16 * l.val + n.val + 1) x = hidV T ex X3 l n (ix2 (⟨(x 0).val % 8, by omega⟩ : Fin 8) l) := by
      unfold Hst
      rw [if_pos (by rw [ha, hb]; omega)]
      have hn' : (⟨(x 0).val / 8, by omega⟩ : Fin 16) = n := Fin.ext hb
      rw [hn', hl]
    rw [hr]
    conv_lhs => rw [hx]
    exact upd_hit _ _ _ _ _ hy
  · rw [upd_miss]
    · unfold Hst
      have hx1 : (x 1).val < 128 := (x 1).isLt
      by_cases hc : 16 * (x 1).val + (x 0).val / 8 < 16 * l.val + n.val
      · rw [if_pos hc, if_pos (by omega)]
      · rw [if_neg hc, if_neg (by omega)]
    · rintro y hy rfl
      apply h
      have hy0 : (y 0).val < 8 := (y 0).isLt
      rw [he0, he1, (mask_mem w hwl y).mp hy, hw]
      exact ⟨rfl, by omega⟩

/-! ## The first pass -/

section rules
variable (c : Dev nD) (arg1 : Memref sig .tc .smem S1x152x128 .i32) (tab : Memref sig .tc .hbm S262144x128 .i32)
  (src dst : Memref sig .tc .vmem S17408x128 .i32) (sm : DmaSem sig)
  (W : Buf (Elt F) (tab.view.loc (c : Thread nD τ))) (q : PosShare TreeShare) (q1 q3 : PosShare TreeShare)
  (f1 : Buf (Elt F) (arg1.view.loc (c : Thread nD τ))) (ex : Fin 152 → Fin 128 → Fin 16384)
  (hv : ∀ t sl, (arg1.view.read (Elt F) f1 (ix3 (0 : Fin 1) t sl) : BitVec 32).toNat = (ex t sl).val)

/-- What is held through a pass beside what it computes: the index block, the set being filled, the set being read. -/
abbrev Mid (g : Fin 16) (k : ℕ) : sProp 𝕄 :=
  iprop(((arg1.view.loc (c : Thread nD τ) ↦{q1} f1) ∗ Going c dst tab W q sm (grpE ex ⟨g.val + 3, by omega⟩) rkG k)
    ∗ Rows c src tab W (grpE ex ⟨g.val, by omega⟩))

include hv in
theorem grp_hv (g : Fin 19) (r : Fin 8) (S : Fin 128) :
    (arg1.view.read (Elt F) f1 (ix3 (0 : Fin 1) (⟨8 * g.val + r.val, by omega⟩ : Fin 152) S) : BitVec 32).toNat
      = (grpE ex g ⟨r.val * 128 + S.val, by omega⟩).val := by
  rw [hv]
  unfold grpE
  congr 2
  · apply Fin.ext; show 8 * g.val + r.val = 8 * g.val + (r.val * 128 + S.val) / 128; omega
  · apply Fin.ext; show S.val = (r.val * 128 + S.val) % 128; omega

include hv in
/-- Four copies of a tile, the `m`-th four of a token's slots. -/
theorem wp_iss4 (g : Fin 16) (r : Fin 8) (m : Fin 32) (k : ℕ) (hk : k = (m.val / 16) * 512 + r.val * 64 + 4 * (m.val % 16)) (s : Fin 4 → Site)
    (hs : ∀ j : Fin 4, SiteOk (s j) ⟨8 * (g.val + 3) + r.val, by omega⟩ ⟨4 * m.val + j.val, by omega⟩ ⟨r.val * 128 + (4 * m.val + j.val), by omega⟩)
    {Q : PUnit → sProp 𝕄} :
    Mid c arg1 tab src dst sm W q q1 f1 ex g k
      ⊢ iprop((Mid c arg1 tab src dst sm W q q1 f1 ex g (k + 4) -∗ Q ⟨⟩) -∗ wpP c (issN arg1 tab dst sm 4 s) Q) := by
  unfold Mid
  iintro ⟨H, HR⟩ Hk
  iapply (wp_issN c arg1 tab dst sm W q (grpE ex ⟨g.val + 3, by omega⟩) rkG rkG_inj (q1 := q1) f1 4 s _ _ _ k hs
    (fun j => by subst hk; unfold rkG; show ((r.val * 128 + (4 * m.val + j.val)) % 128 / 64) * 512 + ((r.val * 128 + (4 * m.val + j.val)) / 128) * 64 + (r.val * 128 + (4 * m.val + j.val)) % 64 = _; omega)
    (fun j => grp_hv c arg1 f1 ex hv ⟨g.val + 3, by omega⟩ r ⟨4 * m.val + j.val, by omega⟩)) $$ [H]
  · iexact H
  iintro H
  iapply Hk
  isplitl [H]; · iexact H
  iexact HR

include hv in
theorem wp_hidTile (arg8 : Memref sig .tc .vmem S128x128 .f32) (X3 : S128x2048.Idx → Elt F .f32)
    (R : BitVec 32) (hR : R.toNat < 8) (sg : BitVec 32) (hsg : sg.toNat < 16) (s : Fin 4 → Site) (w : BitVec 32)
    (g : Fin 16) (r : Fin 8) (n : Fin 16) (l : Fin 128) (hr : R.toNat = r.val) (hn : sg.toNat = n.val) (hw : w.toNat = l.val) (hl : l.val = 8 * g.val + r.val)
    (hs : ∀ j : Fin 4, SiteOk (s j) ⟨8 * (g.val + 3) + r.val, by omega⟩ ⟨4 * n.val + j.val, by omega⟩ ⟨r.val * 128 + (4 * n.val + j.val), by omega⟩) {Q : Unit → sProp 𝕄} :
    iprop(Mid c arg1 tab src dst sm W q q1 f1 ex g (r.val * 64 + 4 * n.val) ∗ owns (c : Thread nD τ) arg8 fullShare (Hst (tab.view.read (Elt F) W) ex X3 (16 * l.val + n.val)))
      ⊢ iprop((iprop(Mid c arg1 tab src dst sm W q q1 f1 ex g (r.val * 64 + 4 * (n.val + 1))
            ∗ owns (c : Thread nD τ) arg8 fullShare (Hst (tab.view.read (Elt F) W) ex X3 (16 * l.val + (n.val + 1)))) -∗ Q ⟨⟩)
          -∗ wpP c (hidTile arg1 tab src dst sm arg8 R hR sg hsg s (xsOf (fun y => X3 (ix2 l (y 1 : Fin 2048)))) V3 w) Q) := by
  unfold hidTile
  rw [wpP_bind]
  iintro ⟨⟨H1, HR⟩, H8⟩ Hk
  iapply (wp_ldN c src tab W (grpE ex ⟨g.val, by omega⟩) R hR sg hsg r n hr hn 16 (fun i => i)) $$ [HR]
  · iexact HR
  iintro HR
  rw [wpP_bind]
  iapply (wp_iss4 c arg1 tab src dst sm W q q1 f1 ex hv g r ⟨n.val, by omega⟩ (r.val * 64 + 4 * n.val) (by show _ = (n.val / 16) * 512 + r.val * 64 + 4 * (n.val % 16); omega) s hs) $$ [H1 HR]
  · isplitl [H1]; · iexact H1
    iexact HR
  iintro HM
  rw [wpP_bind]
  iapply (wp_loadO c arg8 fullShare _ _ _) $$ [H8]
  · iexact H8
  iintro H8
  iapply (wp_storeO c arg8 _ _ _ _ _ _) $$ [H8]
  · iexact H8
  iintro H8
  iapply Hk
  isplitl [HM]; · iexact HM
  have hE : tileE (grpE ex ⟨g.val, by omega⟩) r n = tokE ex l n := by
    unfold tokE
    congr 1
    · congr 1; apply Fin.ext; show g.val = l.val / 8; omega
    · apply Fin.ext; show r.val = l.val % 8; omega
  have hu := upd_hst (tab.view.read (Elt F) W) ex X3 l n sg w hsg hn hw
  unfold hidV at hu
  rw [hE]
  rw [← Nat.add_assoc, ← hu]
  iexact H8

end rules

end Cert.KernelIdeal.Peer
-- ==== Proof.Peer.Sums.lean ====
/-
  The kernel's arithmetic at the exact values: what the two tiles and the gathering of a row come to, as sums.
-/
module

public import proofs.«01_k».proof.Proof.Peer.First
public import Idealize.ShloMosaic.Lib.ValueIdx
public import Idealize.ShloMosaic.Lib.Pointwise
public import Idealize.ShloMosaic.Lib.Pipeline.Value

@[expose] public section

set_option maxRecDepth 65536

noncomputable section

namespace Cert.KernelIdeal.Peer

open Cert.KernelIdeal Cert.KernelIdeal.Gen
open Idealize.ShloMosaic Idealize.ShloMosaic.TcCoe

/-- The first factor a table word holds: its low half. -/
def lo (w : BitVec 32) : Ideal .f32 := FloatOps.ofBits .f32 (IntOp.shli .vector w 16#32)

/-- The second: its high half. -/
def hi (w : BitVec 32) : Ideal .f32 := FloatOps.ofBits .f32 (IntOp.andi w 4294901760#32)

/-- A sum over a whole is the sum over its equal parts. -/
theorem sum_parts {M : Type} [AddCommMonoid M] (m n N : ℕ) (h : m * n = N) (f : Fin N → M) :
    ∑ j : Fin N, f j = ∑ p : Fin m, ∑ q : Fin n, f ⟨n * p.val + q.val, by
      have := p.isLt; have := q.isLt
      calc n * p.val + q.val < n * p.val + n := by omega
        _ = n * (p.val + 1) := by ring
        _ ≤ n * m := Nat.mul_le_mul_left _ (by omega)
        _ = N := by rw [Nat.mul_comm]; exact h⟩ := by
  subst h
  rw [← Fintype.sum_prod_type', ← Fintype.sum_equiv finProdFinEquiv _ _ (fun _ => rfl)]
  exact Finset.sum_congr rfl fun x _ => congrArg f (Fin.ext (by simp [finProdFinEquiv]; omega))

/-- A sixteenth of a row, alike in every sublane. -/
theorem sixteenth {α : Type} (row : S1x2048.Idx → α) (o : ℕ) (ho : o + 128 ≤ 2048) (h : S1x2048.Slices ![0, o] S1x128)
    (hc : S1x128.ShapeCasts S1x128) (hb : S1x128.Broadcasts S8x128) (k : Fin 8) (a : Fin 128) :
    broadcastTo S8x128 (shapeCast S1x128 (extractStridedSlice S1x128 ![0, o] row h) hc) hb (ix2 k a)
      = row (ix2 (0 : Fin 1) (⟨o + a.val, by omega⟩ : Fin 2048)) := by
  rw [Idealize.ShloMosaic.shapeCast_self]
  pointwise

theorem xsOf_apply (row : Vec Ideal S1x2048 .f32) (i : Fin 16) (k : Fin 8) (a : Fin 128) :
    xsOf row i (ix2 k a) = row (ix2 (0 : Fin 1) (⟨128 * i.val + a.val, by omega⟩ : Fin 2048)) := by
  fin_cases i <;> exact sixteenth row _ (by decide) (by decide) shapeCasts_S1x128_S1x128 broadcasts_S1x128_S8x128 k a

/-- The two spellings of an index by its coordinates. -/
theorem vix2 {m n : ℕ} (a : Fin m) (b : Fin n) : (ValueIdx.ix2 a b : (⟨2, ![m, n]⟩ : Shape).Idx) = ix2 a b := by
  funext i
  fin_cases i <;> rfl

theorem hidPay_apply (xs : Fin 16 → FVec Ideal S8x128 .f32) (v : Fin 16 → Vec Ideal S8x128 .i32) (k : Fin 8) (b : Fin 128) :
    hidPay xs v (ix2 k b) = ∑ a : Fin 128, ∑ i : Fin 16, lo (v i (ix2 k a)) * xs i (ix2 k a) := by
  have e : hidPay xs v (ix2 k b) = ∑ a : Fin 128, addf (addf (addf (addf
      (k0_pay7 (xs 3) (xs 4) (xs 5) (xs 6) (xs 7) (xs 8) (xs 9) (xs 10) (xs 11) (v 3) (v 4) (v 5) (v 6) (v 7) (v 8) (v 9) (v 10) (v 11)
        (k0_pay5 (xs 0) (xs 1) (v 0) (v 1)) (k0_pay6 (xs 2) (v 2))) (k0_pay8 (xs 12) (v 12)))
      (mulf (bitcastToFloat .f32 (shli (v 13) (broadcast S8x128 16#32))) (xs 13)))
      (mulf (bitcastToFloat .f32 (shli (v 14) (broadcast S8x128 16#32))) (xs 14)))
      (mulf (bitcastToFloat .f32 (shli (v 15) (broadcast S8x128 16#32))) (xs 15)) (ix2 k a) := by
    unfold hidPay k0_pay417
    dsimp only
    simp only [Idealize.ShloMosaic.shapeCast_self]
    pointwise
  rw [e]
  refine Finset.sum_congr rfl fun a _ => ?_
  simp only [Fin.sum_univ_castSucc, Finset.univ_eq_empty, Finset.sum_empty, zero_add]
  rfl

/-- One token's coefficient of eight experts, out of the array of them. -/
theorem pick_apply (l : Fin 128) (h : Vec Ideal S8x128 .f32) (k : Fin 8) (j : Fin 1) :
    k0_pay25 V3 (BitVec.ofNat 32 l.val) h (ix2 k j) = h (ix2 k l) := by
  unfold k0_pay25
  pointwise
  rw [Finset.sum_eq_single l]
  · simp [IntOp.cmpi, Scalar.select]
  · intro x _ hx
    have : BitVec.ofNat 32 x.val ≠ BitVec.ofNat 32 l.val := fun h => hx (Fin.ext (by
      have := congrArg BitVec.toNat h
      simp only [BitVec.toNat_ofNat] at this
      omega))
    simp only [IntOp.cmpi, Scalar.select, beq_eq_false_iff_ne.mpr this]
    rfl
  · exact fun h => absurd (Finset.mem_univ l) h

theorem mixUp_apply (a : FVec Ideal S8x128 .f32) (co : FVec Ideal S8x1 .f32) (v : Vec Ideal S8x128 .i32) (k : Fin 8) (b : Fin 128) :
    mixUp a co v (ix2 k b) = a (ix2 k b) + hi (v (ix2 k b)) * co (ix2 k 0) := by
  show k0_pay27 a co v (ix2 k b) = _
  unfold k0_pay27
  pointwise
  rfl

theorem zero_apply (x : S8x128.Idx) : k0_pay47 (F := Ideal) x = 0 := by
  unfold k0_pay47
  pointwise

theorem yPay_apply (a : Fin 16 → FVec Ideal S8x128 .f32) (i : Fin 16) (b : Fin 128) (z : Fin 1) :
    yPay a (ix2 z (⟨128 * i.val + b.val, by omega⟩ : Fin 2048)) = ∑ k : Fin 8, a i (ix2 k b) := by
  unfold yPay k0_pay74
  dsimp only
  simp only [Idealize.ShloMosaic.shapeCast_self]
  have r : ∀ v : FVec Ideal S8x128 .f32, shapeCast S1x128 (multiReduction .add [0] S128 v 0x00000000#32 reduces_S8x128_S128 (.inl rfl) rfl) shapeCasts_S128_S1x128 (ix2 z b)
      = ∑ k : Fin 8, v (ix2 k b) := fun v => by pointwise
  have e : ∀ h, concatenate S1x2048 1 (List.ofFn fun n : Fin 16 => (⟨S1x128, shapeCast S1x128 (multiReduction .add [0] S128 (a n) 0x00000000#32 reduces_S8x128_S128 (.inl rfl) rfl) shapeCasts_S128_S1x128⟩ : (s : Shape) × (s.Idx → Ideal .f32))) h
      (ix2 z (⟨128 * i.val + b.val, by omega⟩ : Fin 2048)) = ∑ k : Fin 8, a i (ix2 k b) := fun h => by
    refine (concatenate_ofFn_apply (t := S1x2048) (s₁ := S1x128) 1 _ h rfl 128 rfl _ i ?_ (ix2 z b) ?_ ?_).trans (r (a i))
    · show (128 * i.val + b.val) / 128 = i.val
      omega
    · show b.val = (128 * i.val + b.val) % 128
      omega
    · intro d hd
      fin_cases d
      · rfl
      · exact absurd rfl hd
  exact e _

end Cert.KernelIdeal.Peer
-- ==== Proof.Peer.Mixed.lean ====
/-
  What a token's two passes come to at the exact values: its inner products with the experts it picks, their
  coefficients, and the sum of the second factors they weigh.
-/
module

public import proofs.«01_k».proof.Proof.Peer.Sums

@[expose] public section

set_option maxRecDepth 65536

noncomputable section

namespace Cert.KernelIdeal.Peer

open Cert.KernelIdeal Cert.KernelIdeal.Gen
open Idealize.ShloMosaic Idealize.ShloMosaic.TcCoe

variable (T : S262144x128.Idx → Elt Ideal .i32) (ex : Fin 152 → Fin 128 → Fin 16384)
  (X3 : S128x2048.Idx → Elt Ideal .f32) (G : S128x128.Idx → Elt Ideal .f32)

/-- Word `a` of row `i` of the sixteen rows of expert `e`. -/
def rowAt (e : Fin 16384) (i : Fin 16) (a : Fin 128) : BitVec 32 := T (ix2 (⟨16 * e.val + i.val, by omega⟩ : Fin 262144) a)

/-- The table's word for entry `j` of expert `e`: sixteen rows of it are one expert. -/
def wordAt (e : Fin 16384) (j : Fin 2048) : BitVec 32 :=
  T (ix2 (⟨16 * e.val + j.val / 128, by omega⟩ : Fin 262144) (⟨j.val % 128, by omega⟩ : Fin 128))

theorem wordAt_part (e : Fin 16384) (i : Fin 16) (a : Fin 128) (j : Fin 2048) (hj : j.val = 128 * i.val + a.val) :
    wordAt T e j = rowAt T e i a := by
  unfold wordAt rowAt
  exact congrArg₂ (fun (x : Fin 262144) (y : Fin 128) => T (ix2 x y)) (Fin.ext (by show 16 * e.val + j.val / 128 = 16 * e.val + i.val; omega))
    (Fin.ext (by show j.val % 128 = a.val; omega))

/-- The expert in slot `8 n + k` of token `l`. -/
theorem tokE_eq (l : Fin 128) (n : Fin 16) (k : Fin 8) (s : Fin 128) (hs : s.val = 8 * n.val + k.val) :
    tokE ex l n k = ex ⟨l.val, by omega⟩ s := by
  exact congrArg₂ (fun (x : Fin 152) (y : Fin 128) => ex x y)
    (Fin.ext (by show 8 * (l.val / 8) + (l.val % 8 * 128 + 8 * n.val + k.val) / 128 = l.val; omega))
    (Fin.ext (by show (l.val % 8 * 128 + 8 * n.val + k.val) % 128 = s.val; omega))

theorem tileV_apply (e : Fin 8 → Fin 16384) (i : Fin 16) (k : Fin 8) (a : Fin 128) :
    tileV T e i (ix2 k a) = rowAt T (e k) i a := by
  show T (ValueIdx.ix2 (⟨16 * (e k).val + i.val, by omega⟩ : Fin 262144) a) = _
  rw [vix2]
  rfl

/-- Token `l`'s inner product with the first factor of the expert in slot `s`. -/
def inner (l s : Fin 128) : Ideal .f32 := ∑ j : Fin 2048, lo (wordAt T (ex ⟨l.val, by omega⟩ s) j) * X3 (ix2 l j)

theorem hidV_apply (l : Fin 128) (n : Fin 16) (k : Fin 8) (b : Fin 128) (s : Fin 128) (hs : s.val = 8 * n.val + k.val) :
    hidV T ex X3 l n (ix2 k b) = inner T ex X3 l s := by
  unfold hidV inner
  rw [hidPay_apply, Finset.sum_comm, sum_parts 16 128 2048 rfl]
  refine Finset.sum_congr rfl fun i _ => Finset.sum_congr rfl fun a _ => ?_
  rw [wordAt_part T _ i a _ rfl, tileV_apply, xsOf_apply, tokE_eq ex l n k s hs]
  show lo _ * X3 (ValueIdx.ix2 l (⟨128 * i.val + a.val, by omega⟩ : Fin 2048)) = _
  rw [vix2]

/-- What becomes of an inner product before the gate. -/
def act (h : Ideal .f32) : Ideal .f32 :=
  Ideal.ofBits .f32 0x3F000000#32 * h * (1 + Ideal.erf (h * Ideal.ofBits .f32 0x3F3504F3#32))

theorem coefPay_apply (h : S128x128.Idx → Elt Ideal .f32) (s l : Fin 128) :
    coefPay G h (ix2 s l) = G (ix2 s l) * act (h (ix2 s l)) := by
  show k0_pay419 G h (ix2 s l) = _
  unfold k0_pay419 act
  pointwise
  rfl

theorem coefs_apply (g : Fin 16) (s l : Fin 128) (hl : l.val / 8 = g.val) :
    coefs T ex X3 G g (ix2 s l) = G (ix2 s l) * act (inner T ex X3 l s) := by
  unfold coefs
  rw [coefPay_apply]
  congr 2
  unfold Hst
  have h : 16 * ((ix2 s l : S128x128.Idx) 1).val + ((ix2 s l : S128x128.Idx) 0).val / 8 < 128 * (g.val + 1) := by
    show 16 * l.val + s.val / 8 < _
    omega
  rw [if_pos h]
  show hidV T ex X3 l ⟨s.val / 8, by omega⟩ (ValueIdx.ix2 (⟨s.val % 8, by omega⟩ : Fin 8) l) = _
  rw [vix2]
  exact hidV_apply T ex X3 l ⟨s.val / 8, by omega⟩ ⟨s.val % 8, by omega⟩ l s (by show s.val = 8 * (s.val / 8) + s.val % 8; omega)

theorem accAt_apply (C : S128x128.Idx → Elt Ideal .f32) (l : Fin 128) (i : Fin 16) (k : Fin 8) (b : Fin 128) (n : ℕ) (hn : n ≤ 16) :
    accAt T ex C l n i (ix2 k b) = ∑ p : Fin n,
      hi (rowAt T (ex ⟨l.val, by omega⟩ (⟨8 * p.val + k.val, by omega⟩ : Fin 128)) i b)
        * C (ix2 (⟨8 * p.val + k.val, by omega⟩ : Fin 128) l) := by
  induction n with
  | zero => exact (zero_apply (ix2 k b)).trans (Fin.sum_univ_zero _).symm
  | succ n ih =>
    have h : n < 16 := hn
    rw [Fin.sum_univ_castSucc]
    show (if h : n < 16 then _ else _ : Fin 16 → FVec Ideal S8x128 .f32) i (ix2 k b) = _
    rw [dif_pos h]
    show mixUp _ _ _ _ = _
    rw [mixUp_apply, ih (by omega), pick_apply, tileV_apply, tokE_eq ex l ⟨n, h⟩ k ⟨8 * n + k.val, by omega⟩ rfl]
    show _ + hi _ * C (ValueIdx.ix2 (⟨8 * n + k.val, by omega⟩ : Fin 128) l) = _
    rw [vix2]
    rfl

theorem yv_apply (l : Fin 128) (j : Fin 2048) (z : Fin 1) :
    yv T ex X3 G l (ix2 z j) = ∑ s : Fin 128, hi (wordAt T (ex ⟨l.val, by omega⟩ s) j) * (G (ix2 s l) * act (inner T ex X3 l s)) := by
  obtain ⟨i, b, rfl⟩ : ∃ (i : Fin 16) (b : Fin 128), j = ⟨128 * i.val + b.val, by omega⟩ :=
    ⟨⟨j.val / 128, by omega⟩, ⟨j.val % 128, by omega⟩, Fin.ext (by show j.val = 128 * (j.val / 128) + j.val % 128; omega)⟩
  unfold yv
  rw [yPay_apply, sum_parts 16 8 128 rfl, Finset.sum_comm]
  refine Finset.sum_congr rfl fun k _ => ?_
  rw [accAt_apply T ex _ l i k b 16 le_rfl]
  refine Finset.sum_congr rfl fun p _ => ?_
  rw [coefs_apply T ex X3 G ⟨l.val / 8, by omega⟩ _ l rfl, wordAt_part T _ i b _ rfl]

/-- The sum of the second factors of the experts `e`, each weighed by its gate and by what its first factor makes of the row `x`. -/
def mixAt (e : Fin 128 → Fin 16384) (x : Fin 2048 → Ideal .f32) (gate : Fin 128 → Ideal .f32) (j : Fin 2048) : Ideal .f32 :=
  ∑ s : Fin 128, hi (wordAt T (e s) j) * (gate s * act (∑ k : Fin 2048, lo (wordAt T (e s) k) * x k))

theorem yv_mixAt (l : Fin 128) (j : Fin 2048) (z : Fin 1) :
    yv T ex X3 G l (ix2 z j) = mixAt T (ex ⟨l.val, by omega⟩) (fun k => X3 (ix2 l k)) (fun s => G (ix2 s l)) j := yv_apply T ex X3 G l j z

/-- A row over the root of its mean square, scaled. -/
def normAt (h g : Fin 2048 → Ideal .f32) (j : Fin 2048) : Ideal .f32 :=
  h j * Ideal.rsqrt (Ideal.div (∑ k : Fin 2048, h k * h k) (Ideal.ofBits .f32 0x45000000#32) + Ideal.ofBits .f32 0x358637BD#32) * g j

end Cert.KernelIdeal.Peer
-- ==== Proof.Peer.Second.lean ====
/-
  A token's first pass, its second pass, and the whole of a group's step.
-/
module

public import proofs.«01_k».proof.Proof.Peer.First

@[expose] public section

set_option maxRecDepth 65536

noncomputable section

namespace Cert.KernelIdeal.Peer

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Transfers (batchBody batch_creditUpdate_with Batch batch_alloc wp_waitBatchAll)

variable {F : FTy → Type} [FloatOps F]

/-- The proof's memory: the pipeline library's beside the counters of the copies. -/
local notation "𝕄" => MT nD τ sig Unit (Elt F) ℕ (Pipeline.UD sig nD τ) ℕ

theorem untup_tup (a : Fin 16 → FVec F S8x128 .f32) : untup (tup a) = a := by
  funext i
  fin_cases i <;> rfl

theorem ofNat_of_toNat (w : BitVec 32) (n : ℕ) (h : w.toNat = n) : w = BitVec.ofNat 32 n := by
  rw [← h, BitVec.ofNat_toNat, BitVec.setWidth_eq]

theorem grpSite_ok (n : ℕ) (hn : n < 4) (js : BitVec 32) (hj : js.toNat < 4) (R : BitVec 32) (hR : R.toNat < 8)
    (S : BitVec 32) (hS : S.toNat < 128) (g : Fin 16) (r : Fin 8) (sl : Fin 128) (hg : g.val = n * 4 + js.toNat) (hr : R.toNat = r.val) (hs : S.toNat = sl.val) :
    SiteOk (grpSite n hn js hj R hR S hS) ⟨8 * (g.val + 3) + r.val, by omega⟩ sl ⟨r.val * 128 + sl.val, by omega⟩ :=
  mkSite_ok _ _ _ _ _ _ _ _ _ (fun v hv => chk_ok v hv) _ _ _
    (by rw [nextW_toNat n js R hn hj hR]; show _ = 8 * (g.val + 3) + r.val; omega) hs (by show _ = r.val * 128 + sl.val; rw [hr, hs])

section rules
variable (c : Dev nD) (arg1 : Memref sig .tc .smem S1x152x128 .i32) (tab : Memref sig .tc .hbm S262144x128 .i32)
  (src dst : Memref sig .tc .vmem S17408x128 .i32) (sm : DmaSem sig)
  (W : Buf (Elt F) (tab.view.loc (c : Thread nD τ))) (q : PosShare TreeShare) (q1 : PosShare TreeShare)
  (f1 : Buf (Elt F) (arg1.view.loc (c : Thread nD τ))) (ex : Fin 152 → Fin 128 → Fin 16384)
  (hv : ∀ t sl, (arg1.view.read (Elt F) f1 (ix3 (0 : Fin 1) t sl) : BitVec 32).toNat = (ex t sl).val)

include hv in
theorem wp_hidTok (arg3 : Memref sig .tc .vmem S128x2048 .f32) (arg8 : Memref sig .tc .vmem S128x128 .f32) (X3 : S128x2048.Idx → Elt F .f32)
    (n : ℕ) (hn : n < 4) (js : BitVec 32) (hj : js.toNat < 4) (r : ℕ) (hr : r < 8) (g : Fin 16) (hg : g.val = n * 4 + js.toNat) {Q : Unit → sProp 𝕄} :
    iprop(Mid c arg1 tab src dst sm W q q1 f1 ex g (r * 64) ∗ owns (c : Thread nD τ) arg3 fullShare X3
        ∗ owns (c : Thread nD τ) arg8 fullShare (Hst (tab.view.read (Elt F) W) ex X3 (16 * (8 * g.val + r))))
      ⊢ iprop((iprop(Mid c arg1 tab src dst sm W q q1 f1 ex g ((r + 1) * 64) ∗ owns (c : Thread nD τ) arg3 fullShare X3
            ∗ owns (c : Thread nD τ) arg8 fullShare (Hst (tab.view.read (Elt F) W) ex X3 (16 * (8 * g.val + (r + 1))))) -∗ Q ⟨⟩)
          -∗ wpP c (hidTok arg1 tab arg3 src dst sm arg8 V3 n hn js hj r hr) Q) := by
  unfold hidTok
  have hR : (rH r).toNat = r := rH_toNat r hr
  have hw : (tokW n js (rH r)).toNat = 8 * g.val + r := by
    rw [tokW_toNat n js (rH r) hn hj (by omega), hR, hg]; omega
  have hlt : 8 * g.val + r < 128 := by omega
  rw [wpP_bind]
  iintro ⟨HM, H3, H8⟩ Hk
  have hrow : (fun y : S1x2048.Idx => X3 ((Rect.unit (s := S128x2048) (rowOffW (tokW n js (rH r))) S1x2048.size
      (rowOffW_inb _ (tokW_lt n js _ hn hj (by rw [hR]; exact hr)))).emb y)) = fun y => X3 (ix2 (⟨8 * g.val + r, by omega⟩ : Fin 128) (y 1 : Fin 2048)) := by
    funext y
    congr 1
    funext a; apply Fin.ext
    fin_cases a
    · have hy : (y 0).val < 1 := (y 0).isLt
      show (tokW n js (rH r)).toNat + 1 * (y 0).val = 8 * g.val + r; omega
    · show 0 + 1 * (y 1).val = (y 1).val; omega
  iapply (wp_loadE c arg3 fullShare _ _ _ _ hrow) $$ [H3]
  · iexact H3
  iintro H3
  rw [wpP_bind]
  iapply (wp_loop c k0_t7_loop k0_t7_ok ⟨⟩ _ (fun m _ => iprop(Mid c arg1 tab src dst sm W q q1 f1 ex g (r * 64 + 4 * m)
    ∗ owns (c : Thread nD τ) arg8 fullShare (Hst (tab.view.read (Elt F) W) ex X3 (16 * (8 * g.val + r) + m)))) ?_) $$ [HM H8]
  · intro m _
    have hm : m.val < 16 := lt_of_trips m 16 rfl
    have hmw : (iw m.val).toNat = m.val := iw_toNat _ (by omega)
    iintro H
    iapply (wp_hidTile c arg1 tab src dst sm W q q1 f1 ex hv arg8 X3 (rH r) _ (iw m.val) _ _ (tokW n js (rH r)) g ⟨r, hr⟩ ⟨m.val, hm⟩ ⟨8 * g.val + r, hlt⟩
      hR hmw hw rfl (fun j => grpSite_ok n hn js hj (rH r) _ _ _ g ⟨r, hr⟩ ⟨4 * m.val + j.val, by omega⟩ hg hR
        (by rw [slotH_toNat _ j (by omega), hmw]; show _ = 4 * m.val + j.val; omega))) $$ [H]
    · iexact H
    iintro H
    iexact H
  · isplitl [HM]; · iexact HM
    iexact H8
  iintro %_ H
  rw [wpP_pure]
  imodintro
  iapply Hk
  icases H with ⟨HM, H8⟩
  isplitl [HM]
  · rw [show (r + 1) * 64 = r * 64 + 4 * k0_t7_loop.trips by rw [show k0_t7_loop.trips = 16 from rfl]; omega]
    iexact HM
  isplitl [H3]; · iexact H3
  rw [show 16 * (8 * g.val + (r + 1)) = 16 * (8 * g.val + r) + k0_t7_loop.trips by rw [show k0_t7_loop.trips = 16 from rfl]; omega]
  iexact H8

/-! ## The second pass -/

include hv in
theorem wp_mixTile (arg9 : Memref sig .tc .vmem S128x128 .f32) (C : S128x128.Idx → Elt F .f32)
    (R : BitVec 32) (hR : R.toNat < 8) (sg : BitVec 32) (hsg : sg.toNat < 16) (s : Fin 4 → Site) (w : BitVec 32)
    (g : Fin 16) (r : Fin 8) (n : Fin 16) (l : Fin 128) (hr : R.toNat = r.val) (hn : sg.toNat = n.val) (hw : w.toNat = l.val) (hl : l.val = 8 * g.val + r.val)
    (hs : ∀ j : Fin 4, SiteOk (s j) ⟨8 * (g.val + 3) + r.val, by omega⟩ ⟨4 * (16 + n.val) + j.val, by omega⟩ ⟨r.val * 128 + (4 * (16 + n.val) + j.val), by omega⟩)
    (σ : T16 F) (hσ : σ = tup (accAt (tab.view.read (Elt F) W) ex C l n.val)) {Q : T16 F → sProp 𝕄} :
    iprop(Mid c arg1 tab src dst sm W q q1 f1 ex g (512 + r.val * 64 + 4 * n.val) ∗ owns (c : Thread nD τ) arg9 fullShare C)
      ⊢ iprop((iprop(Mid c arg1 tab src dst sm W q q1 f1 ex g (512 + r.val * 64 + 4 * (n.val + 1)) ∗ owns (c : Thread nD τ) arg9 fullShare C)
            -∗ Q (tup (accAt (tab.view.read (Elt F) W) ex C l (n.val + 1))))
          -∗ wpP c (mixTile arg1 tab src dst sm arg9 R hR sg hsg s V3 w σ) Q) := by
  unfold mixTile
  rw [wpP_bind]
  iintro ⟨⟨H1, HR⟩, H9⟩ Hk
  have h8 := row8_toNat sg hsg
  have hrow : (fun y : S8x128.Idx => C ((Rect.unit (s := S128x128) (rowOff8 sg) S8x128.size (rowOff8_inb sg hsg)).emb y))
      = fun y => C (ix2 (⟨8 * n.val + (y 0).val, by have : (y 0).val < 8 := (y 0).isLt; omega⟩ : Fin 128) (y 1 : Fin 128)) := by
    funext y
    congr 1
    funext a; apply Fin.ext
    fin_cases a
    · show (Scalar.muli sg 8#32).toNat + 1 * (y 0).val = 8 * n.val + (y 0).val; omega
    · show 0 + 1 * (y 1).val = (y 1).val; omega
  iapply (wp_loadE c arg9 fullShare _ _ _ _ hrow) $$ [H9]
  · iexact H9
  iintro H9
  rw [wpP_bind]
  iapply (wp_ldN c src tab W (grpE ex ⟨g.val, by omega⟩) R hR sg hsg r n hr hn 16 (fun i => i)) $$ [HR]
  · iexact HR
  iintro HR
  rw [wpP_bind]
  iapply (wp_iss4 c arg1 tab src dst sm W q q1 f1 ex hv g r ⟨16 + n.val, by omega⟩ (512 + r.val * 64 + 4 * n.val)
    (by show _ = ((16 + n.val) / 16) * 512 + r.val * 64 + 4 * ((16 + n.val) % 16); omega) s hs) $$ [H1 HR]
  · isplitl [H1]; · iexact H1
    iexact HR
  iintro HM
  rw [wpP_pure]
  imodintro
  have hE : tileE (grpE ex ⟨g.val, by omega⟩) r n = tokE ex l n := by
    unfold tokE
    congr 1
    · congr 1; apply Fin.ext; show g.val = l.val / 8; omega
    · apply Fin.ext; show r.val = l.val % 8; omega
  have hres : tup (fun i => mixUp (untup σ i)
        (k0_pay25 V3 w (fun y => C (ix2 (⟨8 * n.val + (y 0).val, by have : (y 0).val < 8 := (y 0).isLt; omega⟩ : Fin 128) (y 1 : Fin 128))))
        (tileV (tab.view.read (Elt F) W) (tileE (grpE ex ⟨g.val, by omega⟩) r n) i))
      = tup (accAt (tab.view.read (Elt F) W) ex C l (n.val + 1)) := by
    rw [hE, hσ, untup_tup, ofNat_of_toNat w l.val hw]
    congr 1
    rw [accAt, dif_pos n.isLt]
  rw [hres]
  iapply Hk
  isplitl [HM]; · iexact HM
  iexact H9

variable (X3 : S128x2048.Idx → Elt F .f32) (G : S128x128.Idx → Elt F .f32)

include hv in
theorem wp_mixTok (arg9 : Memref sig .tc .vmem S128x128 .f32) (arg10 : Memref sig .tc .vmem S128x2048 .f32)
    (n : ℕ) (hn : n < 4) (js : BitVec 32) (hj : js.toNat < 4) (R : BitVec 32) (hR : R.toNat < 8) (r : Fin 8) (hr : R.toNat = r.val)
    (g : Fin 16) (hg : g.val = n * 4 + js.toNat) {Q : Unit → sProp 𝕄} :
    iprop(Mid c arg1 tab src dst sm W q q1 f1 ex g (512 + r.val * 64)
        ∗ owns (c : Thread nD τ) arg9 fullShare (coefs (tab.view.read (Elt F) W) ex X3 G g)
        ∗ (∃ Y, ⌜Yin (tab.view.read (Elt F) W) ex X3 G (8 * g.val + r.val) Y⌝ ∗ owns (c : Thread nD τ) arg10 fullShare Y))
      ⊢ iprop((iprop(Mid c arg1 tab src dst sm W q q1 f1 ex g (512 + (r.val + 1) * 64)
            ∗ owns (c : Thread nD τ) arg9 fullShare (coefs (tab.view.read (Elt F) W) ex X3 G g)
            ∗ (∃ Y, ⌜Yin (tab.view.read (Elt F) W) ex X3 G (8 * g.val + (r.val + 1)) Y⌝ ∗ owns (c : Thread nD τ) arg10 fullShare Y)) -∗ Q ⟨⟩)
          -∗ wpP c (mixTok arg1 tab src dst sm arg9 arg10 V3 n hn js hj R hR) Q) := by
  unfold mixTok
  have hw : (tokW n js R).toNat = 8 * g.val + r.val := by
    rw [tokW_toNat n js R hn hj hR, hr, hg]; omega
  rw [wpP_bind]
  iintro ⟨HM, H9, ⟨%Y, %hY, H10⟩⟩ Hk
  iapply (wp_loop c k0_t9_loop k0_t9_ok _ _ (fun m σ => iprop(⌜σ = tup (accAt (tab.view.read (Elt F) W) ex (coefs (tab.view.read (Elt F) W) ex X3 G g) ⟨8 * g.val + r.val, by omega⟩ m)⌝
    ∗ Mid c arg1 tab src dst sm W q q1 f1 ex g (512 + r.val * 64 + 4 * m)
    ∗ owns (c : Thread nD τ) arg9 fullShare (coefs (tab.view.read (Elt F) W) ex X3 G g))) ?_) $$ [HM H9]
  · intro m σ
    have hm : m.val < 16 := lt_of_trips m 16 rfl
    have hmw : (iw m.val).toNat = m.val := iw_toNat _ (by omega)
    iintro ⟨%hσ, H⟩
    iapply (wp_mixTile c arg1 tab src dst sm W q q1 f1 ex hv arg9 (coefs (tab.view.read (Elt F) W) ex X3 G g) R _ (iw m.val) _ _ (tokW n js R) g r ⟨m.val, hm⟩ ⟨8 * g.val + r.val, by omega⟩
      hr hmw hw rfl (fun j => grpSite_ok n hn js hj R _ _ _ g r ⟨4 * (16 + m.val) + j.val, by omega⟩ hg hr
        (by rw [slotM_toNat _ j (by omega), hmw]; show _ = 4 * (16 + m.val) + j.val; omega)) σ hσ) $$ [H]
    · iexact H
    iintro H
    isplitr
    · ipureintro; rfl
    iexact H
  · isplitr
    · ipureintro; rfl
    isplitl [HM]; · iexact HM
    iexact H9
  iintro %σ ⟨%hσ, HM, H9⟩
  rw [wpP_bind]
  iapply (wp_loadO c arg10 fullShare _ _ _) $$ [H10]
  · iexact H10
  iintro H10
  iapply (wp_storeO c arg10 _ _ _ _ _ _) $$ [H10]
  · iexact H10
  iintro H10
  iapply Hk
  isplitl [HM]
  · rw [show 512 + (r.val + 1) * 64 = 512 + r.val * 64 + 4 * k0_t9_loop.trips by rw [show k0_t9_loop.trips = 16 from rfl]; omega]
    iexact HM
  isplitl [H9]; · iexact H9
  iexists _
  isplitr
  swap
  · iexact H10
  ipureintro
  have he0 : ∀ y : S1x2048.Idx, ((Rect.unit (s := S128x2048) (rowOffW (tokW n js R)) S1x2048.size (rowOffW_inb _ (tokW_lt n js R hn hj hR))).emb y 0).val = 8 * g.val + r.val := fun y => by
    have hy : (y 0).val < 1 := (y 0).isLt
    show (tokW n js R).toNat + 1 * (y 0).val = _; omega
  have he1 : ∀ y : S1x2048.Idx, ((Rect.unit (s := S128x2048) (rowOffW (tokW n js R)) S1x2048.size (rowOffW_inb _ (tokW_lt n js R hn hj hR))).emb y 1).val = (y 1).val := fun y => by
    show 0 + 1 * (y 1).val = _; omega
  intro l j hl
  by_cases h : l.val = 8 * g.val + r.val
  · have hx : (ix2 l j : S128x2048.Idx) = (Rect.unit (s := S128x2048) (rowOffW (tokW n js R)) S1x2048.size (rowOffW_inb _ (tokW_lt n js R hn hj hR))).emb (ix2 (0 : Fin 1) j) := by
      funext a; apply Fin.ext
      fin_cases a
      · exact h.trans (he0 _).symm
      · exact (he1 (ix2 (0 : Fin 1) j)).symm
    rw [hx, upd_hit _ _ _ _ _ (Finset.mem_univ _), hσ, untup_tup]
    unfold yv
    have hl' : (⟨8 * g.val + r.val, by omega⟩ : Fin 128) = l := Fin.ext h.symm
    have hg' : (⟨l.val / 8, by omega⟩ : Fin 16) = g := Fin.ext (by show l.val / 8 = g.val; omega)
    rw [hl', hg']
    rfl
  · rw [upd_miss]
    · exact hY l j (by omega)
    · intro y _ he
      apply h
      rw [← he0 y, he]

theorem wpP_ret (c : Dev nD) {α : Type} (a : α) (Q : α → sProp 𝕄) :
    wpP c (Prog.ret a) Q = iprop(|={Set.univ}=> Q a) := rfl

theorem rows_any (c : Dev nD) (buf : Memref sig .tc .vmem S17408x128 .i32) (tab : Memref sig .tc .hbm S262144x128 .i32)
    (W : Buf (Elt F) (tab.view.loc (c : Thread nD τ))) (E : Fin 1024 → Fin 16384) :
    Rows c buf tab W E ⊢ iprop(∃ f, buf.view.loc (c : Thread nD τ) ↦{fullShare} f) := by
  unfold Rows
  iintro ⟨%f, -, H⟩
  iexists f
  iexact H

/-! ## A group's step -/

theorem updFull {s : Shape} {e : EltTy} (X : s.Idx → Elt F e) (r : Rect s) (w : r.shape.Idx → Elt F e) (x : s.Idx) (y : r.shape.Idx) (h : r.emb y = x) :
    upd X r w Finset.univ x = w y := by
  rw [← h]; exact upd_hit X r w _ y (Finset.mem_univ _)

theorem emb128 (y : S128x128.Idx) : (Rect.unit (s := S128x128) ![0, 0] S128x128.size inb_S128x128_S128x128_0_0).emb y = y := by
  funext a; apply Fin.ext
  show (![0, 0] : Fin 2 → ℕ) a + 1 * (y a).val = (y a).val
  fin_cases a
  · show 0 + 1 * _ = _; omega
  · show 0 + 1 * _ = _; omega

theorem wp_ld128 (c : Dev nD) (m : Memref sig .tc .vmem S128x128 .f32) (X : S128x128.Idx → Elt F .f32) {Q : Vec F S128x128 .f32 → sProp 𝕄} :
    (owns (c : Thread nD τ) m fullShare X : sProp 𝕄) ⊢ iprop((owns (c : Thread nD τ) m fullShare X -∗ Q X) -∗ wpP c (ld128 m) Q) :=
  wp_loadE c m fullShare (Rect.unit (s := S128x128) ![0, 0] S128x128.size inb_S128x128_S128x128_0_0) (View.loadsAt_vmem h_S128x128) X X
    (funext fun y => congrArg X (emb128 y))

theorem wp_st128 (c : Dev nD) (m : Memref sig .tc .vmem S128x128 .f32) (X : S128x128.Idx → Elt F .f32) (v : FVec F S128x128 .f32) {Q : PUnit → sProp 𝕄} :
    (owns (c : Thread nD τ) m fullShare X : sProp 𝕄) ⊢ iprop((owns (c : Thread nD τ) m fullShare v -∗ Q ⟨⟩) -∗ wpP c (st128 m v) Q) := by
  have h := wp_storeO c m (Rect.unit (s := S128x128) ![0, 0] S128x128.size inb_S128x128_S128x128_0_0) v Finset.univ
    (View.stores_vmem_bits_univ h_S128x128 rfl) (.inl rfl) X (Q := Q)
  rw [show upd X (Rect.unit (s := S128x128) ![0, 0] S128x128.size inb_S128x128_S128x128_0_0) v Finset.univ = v from
    funext fun x => updFull X (Rect.unit (s := S128x128) ![0, 0] S128x128.size inb_S128x128_S128x128_0_0) v x x (emb128 x)] at h
  exact h

/-- What a group's step keeps and moves on. -/
abbrev Held (arg2 : Memref sig .tc .vmem S128x128 .f32) (arg3 : Memref sig .tc .vmem S128x2048 .f32)
    (arg8 arg9 : Memref sig .tc .vmem S128x128 .f32) (arg10 : Memref sig .tc .vmem S128x2048 .f32) (g : ℕ) : sProp 𝕄 :=
  iprop((arg1.view.loc (c : Thread nD τ) ↦{q1} f1) ∗ owns (c : Thread nD τ) arg2 fullShare G ∗ owns (c : Thread nD τ) arg3 fullShare X3
    ∗ owns (c : Thread nD τ) arg8 fullShare (Hst (tab.view.read (Elt F) W) ex X3 (128 * g))
    ∗ (∃ C, owns (c : Thread nD τ) arg9 fullShare C)
    ∗ (∃ Y, ⌜Yin (tab.view.read (Elt F) W) ex X3 G (8 * g) Y⌝ ∗ owns (c : Thread nD τ) arg10 fullShare Y)
    ∗ (∃ Wt, owes (c : Thread nD τ) 0 Wt))

include hv in
/-- THE RULE OF A GROUP'S STEP. -/
theorem wp_group (arg2 : Memref sig .tc .vmem S128x128 .f32) (arg3 : Memref sig .tc .vmem S128x2048 .f32)
    (arg8 arg9 : Memref sig .tc .vmem S128x128 .f32) (arg10 : Memref sig .tc .vmem S128x2048 .f32) (sw : DmaSem sig) (qs : PosShare TreeShare)
    (hsrc : src.IsWhole) (hdst : dst.IsWhole)
    (hu : src.view.ref.dmaCredit S16384x128 .i32 = unitsOf src * 1024) (hu0 : 0 < unitsOf src)
    (n : ℕ) (hn : n < 4) (js : BitVec 32) (hj : js.toNat < 4) (g : Fin 16) (hg : g.val = n * 4 + js.toNat) {Q : Unit → sProp 𝕄} :
    iprop(Held c arg1 tab W q1 f1 ex X3 G arg2 arg3 arg8 arg9 arg10 g.val ∗ Full c src tab W qs sw (grpE ex ⟨g.val, by omega⟩) ∗ Idle c dst tab W q sm)
      ⊢ iprop((iprop(Held c arg1 tab W q1 f1 ex X3 G arg2 arg3 arg8 arg9 arg10 (g.val + 1) ∗ Idle c src tab W qs sw
            ∗ Full c dst tab W q sm (grpE ex ⟨g.val + 3, by omega⟩)) -∗ Q ⟨⟩)
          -∗ wpP c (group arg1 tab arg2 arg3 src dst sw sm arg8 arg9 arg10 V3 n hn js hj) Q) := by
  unfold group Held
  rw [wpP_bind, wpP_lift]
  iintro ⟨⟨H1, H2, H3, H8, ⟨%C, H9⟩, H10, ⟨%Wt, HO⟩⟩, HF, HI⟩ Hk
  iapply (wp_wait c src hsrc tab W qs sw (grpE ex ⟨g.val, by omega⟩) hu hu0 rfl) $$ [HF HO]
  · isplitl [HF]; · iexact HF
    iexact HO
  iintro %f ⟨%hf, Hsrc, Htok, Hsem, HO⟩
  rw [wpP_ret]
  imod (going_start c dst hdst tab W q sm (grpE ex ⟨g.val + 3, by omega⟩) rkG) $$ HI with HG
  imodintro
  rw [wpP_bind]
  iapply (wp_loop c k0_t6_loop k0_t6_ok ⟨⟩ _ (fun r _ => iprop(Mid c arg1 tab src dst sm W q q1 f1 ex g (r * 64) ∗ owns (c : Thread nD τ) arg3 fullShare X3
    ∗ owns (c : Thread nD τ) arg8 fullShare (Hst (tab.view.read (Elt F) W) ex X3 (16 * (8 * g.val + r))))) ?_) $$ [H1 H3 H8 HG Hsrc]
  · intro r _
    iintro H
    iapply (wp_hidTok c arg1 tab src dst sm W q q1 f1 ex hv arg3 arg8 X3 n hn js hj r.val _ g hg) $$ [H]
    · iexact H
    iintro H
    iexact H
  · isplitl [H1 HG Hsrc]
    · isplitl [H1 HG]
      · isplitl [H1]; · iexact H1
        rw [Nat.zero_mul]
        iexact HG
      unfold Rows
      iexists f
      isplitr
      · ipureintro; exact hf
      iexact Hsrc
    isplitl [H3]; · iexact H3
    rw [show 16 * (8 * g.val + 0) = 128 * g.val by omega]
    iexact H8
  iintro %_ ⟨HM, H3, H8⟩
  rw [show k0_t6_loop.trips = 8 from rfl, show 16 * (8 * g.val + 8) = 128 * (g.val + 1) by omega, wpP_bind]
  iapply (wp_ld128 c arg2 G) $$ [H2]
  · iexact H2
  iintro H2
  rw [wpP_bind]
  iapply (wp_ld128 c arg8 _) $$ [H8]
  · iexact H8
  iintro H8
  rw [wpP_bind]
  iapply (wp_ld128 c arg9 C) $$ [H9]
  · iexact H9
  iintro H9
  rw [wpP_bind]
  iapply (wp_st128 c arg9 C _) $$ [H9]
  · iexact H9
  iintro H9
  iapply (wp_loop c k0_t8_loop k0_t8_ok ⟨⟩ _ (fun p _ => iprop(Mid c arg1 tab src dst sm W q q1 f1 ex g (512 + (2 * p) * 64)
        ∗ owns (c : Thread nD τ) arg9 fullShare (coefs (tab.view.read (Elt F) W) ex X3 G g)
        ∗ (∃ Y, ⌜Yin (tab.view.read (Elt F) W) ex X3 G (8 * g.val + 2 * p) Y⌝ ∗ owns (c : Thread nD τ) arg10 fullShare Y))) ?_) $$ [HM H9 H10]
  · intro p _
    have hp : p.val < 4 := lt_of_trips p 4 rfl
    have hr0 : (rM p.val 0#32).toNat = 2 * p.val := by rw [rM_toNat p.val _ hp (by decide)]; show p.val * 2 + 0 = _; omega
    have hr1 : (rM p.val 1#32).toNat = 2 * p.val + 1 := by rw [rM_toNat p.val _ hp (by decide)]; show p.val * 2 + 1 = _; omega
    unfold mixTok2
    rw [wpP_bind]
    iintro H
    iapply (wp_mixTok c arg1 tab src dst sm W q q1 f1 ex hv X3 G arg9 arg10 n hn js hj (rM p.val 0#32) _ ⟨2 * p.val, by omega⟩ hr0 g hg) $$ [H]
    · iexact H
    iintro H
    iapply (wp_mixTok c arg1 tab src dst sm W q q1 f1 ex hv X3 G arg9 arg10 n hn js hj (rM p.val 1#32) _ ⟨2 * p.val + 1, by omega⟩ hr1 g hg) $$ [H]
    · iexact H
    iintro H
    rw [show 2 * (p.val + 1) = 2 * p.val + 1 + 1 by omega]
    iexact H
  · isplitl [HM]
    · iexact HM
    isplitl [H9]; · iexact H9
    rw [show 8 * g.val + 2 * 0 = 8 * g.val by omega]
    iexact H10
  iintro %_ ⟨⟨⟨H1, HG⟩, HR⟩, H9, H10⟩
  ihave Hsrc := (rows_any c src tab W _) $$ HR
  iapply Hk
  isplitl [H1 H2 H3 H8 H9 H10 HO]
  · isplitl [H1]; · iexact H1
    isplitl [H2]; · iexact H2
    isplitl [H3]; · iexact H3
    isplitl [H8]; · iexact H8
    isplitl [H9]; · iexists _; iexact H9
    isplitl [H10]
    · rw [show 8 * (g.val + 1) = 8 * g.val + 2 * k0_t8_loop.trips by show 8 * (g.val + 1) = 8 * g.val + 2 * 4; omega]
      iexact H10
    iexists _; iexact HO
  isplitl [Hsrc Htok Hsem]
  · unfold Idle
    isplitl [Hsrc]; · iexact Hsrc
    isplitl [Hsem]; · iexact Hsem
    iexact Htok
  iapply (going_full c dst tab W q sm _ rkG rkG_lt)
  iexact HG

end rules

end Cert.KernelIdeal.Peer
-- ==== Proof.Peer.Spelt.lean ====
/-
  What each set of the ring spells is what is said once for all.
-/
module

public import proofs.«01_k».proof.Proof.Peer.Group

@[expose] public section

set_option maxRecDepth 65536

noncomputable section

namespace Cert.KernelIdeal.Peer

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Transfers (batchBody batch_creditUpdate_with Batch batch_alloc wp_waitBatchAll)

variable {F : FTy → Type} [FloatOps F]

/-- The proof's memory: the pipeline library's beside the counters of the copies. -/
local notation "𝕄" => MT nD τ sig Unit (Elt F) ℕ (Pipeline.UD sig nD τ) ℕ

variable (i : grid0.Coords) (arg1 : Memref sig .tc .smem S1x152x128 .i32) (harg1 : arg1.IsWhole) (arg2 : Memref sig .tc .vmem S128x128 .f32) (harg2 : arg2.IsWhole) (arg3 : Memref sig .tc .vmem S128x2048 .f32) (harg3 : arg3.IsWhole) (arg4 : Memref sig .tc .vmem S128x2048 .f32) (harg4 : arg4.IsWhole) (arg5 : Memref sig .tc .vmem S1x2048 .f32) (harg5 : arg5.IsWhole) (arg6 : Memref sig .tc .hbm S262144x128 .i32) (harg6 : arg6.IsWhole) (arg7 : Memref sig .tc .vmem S128x2048 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x2048 .f32) (harg10 : arg10.IsWhole) (arg11 : DmaSems sig S4) (arg12 : Memref sig .tc .vmem S17408x128 .i32) (harg12 : arg12.IsWhole) (arg13 : Memref sig .tc .vmem S17408x128 .i32) (harg13 : arg13.IsWhole) (arg14 : Memref sig .tc .vmem S17408x128 .i32) (harg14 : arg14.IsWhole) (arg15 : Memref sig .tc .vmem S17408x128 .i32) (harg15 : arg15.IsWhole)

/-- The first pass over a token, as set 0 spells it. -/
theorem k0_t6_eq (v3 : IVec S8x128 32) (k0_t5 : Fin k0_t5_loop.trips) (k0_t6 : Fin k0_t6_loop.trips) :
    k0_t6_body (F := F) i arg1 harg1 arg2 harg2 arg3 harg3 arg4 harg4 arg5 harg5 arg6 harg6 arg7 harg7 arg8 harg8 arg9 harg9 arg10 harg10 arg11 arg12 harg12 arg13 harg13 arg14 harg14 arg15 harg15 v3 0#32 1#32 k0_t5 (grpW k0_t5.val 0#32) k0_t6 ⟨⟩
      = hidTok arg1 arg6 arg3 arg12 arg15 ((arg11.slice (Rect.unit (s := S4) ![3] S1.size inb_S4_S1_3)).squeeze S_ squeezes_S1_S_).sem arg8 v3 k0_t5.val (lt_of_trips k0_t5 4 rfl) 0#32 (by decide)
          k0_t6.val (lt_of_trips k0_t6 8 rfl) := by
  unfold k0_t6_body hidTok
  simp only [k0_part10_eq_skeleton]
  unfold k0_part10_skel
  simp only [bind_assoc, pure_bind]
  refine lift_bind_congr (fun row => ?_)
  refine for_bind_congr rfl (fun sg _ => ?_) (fun _ => rfl)
  unfold k0_t7_body hidTile
  simp only [k0_part4_eq_skeleton, k0_part5_eq_skeleton, k0_part6_eq_skeleton, k0_part7_eq_skeleton, k0_part8_eq_skeleton, k0_part9_eq_skeleton]
  unfold k0_part4_skel k0_part5_skel k0_part6_skel k0_part7_skel k0_part8_skel k0_part9_skel
  simp only [ldN, issN, ld, issue, bind_assoc, pure_bind]
  iterate 16 refine lift_bind_congr (fun _ => ?_)
  rfl

/-- The second pass over two tokens, as set 0 spells it. -/
theorem k0_t8_eq (v3 : IVec S8x128 32) (k0_t5 : Fin k0_t5_loop.trips) (k0_t8 : Fin k0_t8_loop.trips) :
    k0_t8_body (F := F) i arg1 harg1 arg2 harg2 arg3 harg3 arg4 harg4 arg5 harg5 arg6 harg6 arg7 harg7 arg8 harg8 arg9 harg9 arg10 harg10 arg11 arg12 harg12 arg13 harg13 arg14 harg14 arg15 harg15 v3 0#32 1#32 k0_t5 (grpW k0_t5.val 0#32) k0_t8 ⟨⟩
      = mixTok2 arg1 arg6 arg12 arg15 ((arg11.slice (Rect.unit (s := S4) ![3] S1.size inb_S4_S1_3)).squeeze S_ squeezes_S1_S_).sem arg9 arg10 v3 k0_t5.val (lt_of_trips k0_t5 4 rfl) 0#32 (by decide)
          k0_t8.val (lt_of_trips k0_t8 4 rfl) := by
  unfold k0_t8_body mixTok2 mixTok
  simp only [k0_part23_eq_skeleton, k0_part24_eq_skeleton, k0_part25_eq_skeleton]
  unfold k0_part23_skel k0_part24_skel k0_part25_skel
  simp only [bind_assoc, pure_bind]
  refine for_bind_congr rfl (fun sg σ => ?_) (fun σ => ?_)
  ·
    obtain ⟨a0, a1, a2, a3, a4, a5, a6, a7, a8, a9, a10, a11, a12, a13, a14, a15⟩ := σ
    unfold k0_t9_body mixTile
    simp only [k0_part11_eq_skeleton, k0_part12_eq_skeleton, k0_part13_eq_skeleton, k0_part14_eq_skeleton, k0_part15_eq_skeleton, k0_part16_eq_skeleton]
    unfold k0_part11_skel k0_part12_skel k0_part13_skel k0_part14_skel k0_part15_skel k0_part16_skel
    simp only [ldN, issN, ld, issue, bind_assoc, pure_bind]
    iterate 17 refine lift_bind_congr (fun _ => ?_)
    rfl
  obtain ⟨a0, a1, a2, a3, a4, a5, a6, a7, a8, a9, a10, a11, a12, a13, a14, a15⟩ := σ
  refine lift_bind_congr (fun _ => ?_)
  refine lift_bind_congr (fun _ => ?_)
  refine for_bind_congr rfl (fun sg σ => ?_) (fun σ => ?_)
  ·
    obtain ⟨a0, a1, a2, a3, a4, a5, a6, a7, a8, a9, a10, a11, a12, a13, a14, a15⟩ := σ
    unfold k0_t10_body mixTile
    simp only [k0_part17_eq_skeleton, k0_part18_eq_skeleton, k0_part19_eq_skeleton, k0_part20_eq_skeleton, k0_part21_eq_skeleton, k0_part22_eq_skeleton]
    unfold k0_part17_skel k0_part18_skel k0_part19_skel k0_part20_skel k0_part21_skel k0_part22_skel
    simp only [ldN, issN, ld, issue, bind_assoc, pure_bind]
    iterate 17 refine lift_bind_congr (fun _ => ?_)
    rfl
  obtain ⟨a0, a1, a2, a3, a4, a5, a6, a7, a8, a9, a10, a11, a12, a13, a14, a15⟩ := σ
  rfl

/-- The first pass over a token, as set 1 spells it. -/
theorem k0_t11_eq (v3 : IVec S8x128 32) (k0_t5 : Fin k0_t5_loop.trips) (k0_t11 : Fin k0_t11_loop.trips) :
    k0_t11_body (F := F) i arg1 harg1 arg2 harg2 arg3 harg3 arg4 harg4 arg5 harg5 arg6 harg6 arg7 harg7 arg8 harg8 arg9 harg9 arg10 harg10 arg11 arg12 harg12 arg13 harg13 arg14 harg14 arg15 harg15 v3 k0_t5 (iw k0_t5.val) (grpW k0_t5.val 1#32) k0_t11 ⟨⟩
      = hidTok arg1 arg6 arg3 arg13 arg12 ((arg11.slice (Rect.unit (s := S4) ![0] S1.size inb_S4_S1_0)).squeeze S_ squeezes_S1_S_).sem arg8 v3 k0_t5.val (lt_of_trips k0_t5 4 rfl) 1#32 (by decide)
          k0_t11.val (lt_of_trips k0_t11 8 rfl) := by
  unfold k0_t11_body hidTok
  simp only [k0_part32_eq_skeleton]
  unfold k0_part32_skel
  simp only [bind_assoc, pure_bind]
  refine lift_bind_congr (fun row => ?_)
  refine for_bind_congr rfl (fun sg _ => ?_) (fun _ => rfl)
  unfold k0_t12_body hidTile
  simp only [k0_part26_eq_skeleton, k0_part27_eq_skeleton, k0_part28_eq_skeleton, k0_part29_eq_skeleton, k0_part30_eq_skeleton, k0_part31_eq_skeleton]
  unfold k0_part26_skel k0_part27_skel k0_part28_skel k0_part29_skel k0_part30_skel k0_part31_skel
  simp only [ldN, issN, ld, issue, bind_assoc, pure_bind]
  iterate 16 refine lift_bind_congr (fun _ => ?_)
  rfl

/-- The second pass over two tokens, as set 1 spells it. -/
theorem k0_t13_eq (v3 : IVec S8x128 32) (k0_t5 : Fin k0_t5_loop.trips) (k0_t13 : Fin k0_t13_loop.trips) :
    k0_t13_body (F := F) i arg1 harg1 arg2 harg2 arg3 harg3 arg4 harg4 arg5 harg5 arg6 harg6 arg7 harg7 arg8 harg8 arg9 harg9 arg10 harg10 arg11 arg12 harg12 arg13 harg13 arg14 harg14 arg15 harg15 v3 k0_t5 (iw k0_t5.val) (grpW k0_t5.val 1#32) k0_t13 ⟨⟩
      = mixTok2 arg1 arg6 arg13 arg12 ((arg11.slice (Rect.unit (s := S4) ![0] S1.size inb_S4_S1_0)).squeeze S_ squeezes_S1_S_).sem arg9 arg10 v3 k0_t5.val (lt_of_trips k0_t5 4 rfl) 1#32 (by decide)
          k0_t13.val (lt_of_trips k0_t13 4 rfl) := by
  unfold k0_t13_body mixTok2 mixTok
  simp only [k0_part45_eq_skeleton, k0_part46_eq_skeleton, k0_part47_eq_skeleton]
  unfold k0_part45_skel k0_part46_skel k0_part47_skel
  simp only [bind_assoc, pure_bind]
  refine for_bind_congr rfl (fun sg σ => ?_) (fun σ => ?_)
  ·
    obtain ⟨a0, a1, a2, a3, a4, a5, a6, a7, a8, a9, a10, a11, a12, a13, a14, a15⟩ := σ
    unfold k0_t14_body mixTile
    simp only [k0_part33_eq_skeleton, k0_part34_eq_skeleton, k0_part35_eq_skeleton, k0_part36_eq_skeleton, k0_part37_eq_skeleton, k0_part38_eq_skeleton]
    unfold k0_part33_skel k0_part34_skel k0_part35_skel k0_part36_skel k0_part37_skel k0_part38_skel
    simp only [ldN, issN, ld, issue, bind_assoc, pure_bind]
    iterate 17 refine lift_bind_congr (fun _ => ?_)
    rfl
  obtain ⟨a0, a1, a2, a3, a4, a5, a6, a7, a8, a9, a10, a11, a12, a13, a14, a15⟩ := σ
  refine lift_bind_congr (fun _ => ?_)
  refine lift_bind_congr (fun _ => ?_)
  refine for_bind_congr rfl (fun sg σ => ?_) (fun σ => ?_)
  ·
    obtain ⟨a0, a1, a2, a3, a4, a5, a6, a7, a8, a9, a10, a11, a12, a13, a14, a15⟩ := σ
    unfold k0_t15_body mixTile
    simp only [k0_part39_eq_skeleton, k0_part40_eq_skeleton, k0_part41_eq_skeleton, k0_part42_eq_skeleton, k0_part43_eq_skeleton, k0_part44_eq_skeleton]
    unfold k0_part39_skel k0_part40_skel k0_part41_skel k0_part42_skel k0_part43_skel k0_part44_skel
    simp only [ldN, issN, ld, issue, bind_assoc, pure_bind]
    iterate 17 refine lift_bind_congr (fun _ => ?_)
    rfl
  obtain ⟨a0, a1, a2, a3, a4, a5, a6, a7, a8, a9, a10, a11, a12, a13, a14, a15⟩ := σ
  rfl

/-- The first pass over a token, as set 2 spells it. -/
theorem k0_t16_eq (v3 : IVec S8x128 32) (k0_t5 : Fin k0_t5_loop.trips) (k0_t16 : Fin k0_t16_loop.trips) :
    k0_t16_body (F := F) i arg1 harg1 arg2 harg2 arg3 harg3 arg4 harg4 arg5 harg5 arg6 harg6 arg7 harg7 arg8 harg8 arg9 harg9 arg10 harg10 arg11 arg12 harg12 arg13 harg13 arg14 harg14 arg15 harg15 v3 k0_t5 (iw k0_t5.val) (grpW k0_t5.val 1#32) (grpW k0_t5.val 2#32) k0_t16 ⟨⟩
      = hidTok arg1 arg6 arg3 arg14 arg13 ((arg11.slice (Rect.unit (s := S4) ![1] S1.size inb_S4_S1_1)).squeeze S_ squeezes_S1_S_).sem arg8 v3 k0_t5.val (lt_of_trips k0_t5 4 rfl) 2#32 (by decide)
          k0_t16.val (lt_of_trips k0_t16 8 rfl) := by
  unfold k0_t16_body hidTok
  simp only [k0_part54_eq_skeleton]
  unfold k0_part54_skel
  simp only [bind_assoc, pure_bind]
  refine lift_bind_congr (fun row => ?_)
  refine for_bind_congr rfl (fun sg _ => ?_) (fun _ => rfl)
  unfold k0_t17_body hidTile
  simp only [k0_part48_eq_skeleton, k0_part49_eq_skeleton, k0_part50_eq_skeleton, k0_part51_eq_skeleton, k0_part52_eq_skeleton, k0_part53_eq_skeleton]
  unfold k0_part48_skel k0_part49_skel k0_part50_skel k0_part51_skel k0_part52_skel k0_part53_skel
  simp only [ldN, issN, ld, issue, bind_assoc, pure_bind]
  iterate 16 refine lift_bind_congr (fun _ => ?_)
  rfl

/-- The second pass over two tokens, as set 2 spells it. -/
theorem k0_t18_eq (v3 : IVec S8x128 32) (k0_t5 : Fin k0_t5_loop.trips) (k0_t18 : Fin k0_t18_loop.trips) :
    k0_t18_body (F := F) i arg1 harg1 arg2 harg2 arg3 harg3 arg4 harg4 arg5 harg5 arg6 harg6 arg7 harg7 arg8 harg8 arg9 harg9 arg10 harg10 arg11 arg12 harg12 arg13 harg13 arg14 harg14 arg15 harg15 v3 k0_t5 (iw k0_t5.val) (grpW k0_t5.val 2#32) k0_t18 ⟨⟩
      = mixTok2 arg1 arg6 arg14 arg13 ((arg11.slice (Rect.unit (s := S4) ![1] S1.size inb_S4_S1_1)).squeeze S_ squeezes_S1_S_).sem arg9 arg10 v3 k0_t5.val (lt_of_trips k0_t5 4 rfl) 2#32 (by decide)
          k0_t18.val (lt_of_trips k0_t18 4 rfl) := by
  unfold k0_t18_body mixTok2 mixTok
  simp only [k0_part67_eq_skeleton, k0_part68_eq_skeleton, k0_part69_eq_skeleton]
  unfold k0_part67_skel k0_part68_skel k0_part69_skel
  simp only [bind_assoc, pure_bind]
  refine for_bind_congr rfl (fun sg σ => ?_) (fun σ => ?_)
  ·
    obtain ⟨a0, a1, a2, a3, a4, a5, a6, a7, a8, a9, a10, a11, a12, a13, a14, a15⟩ := σ
    unfold k0_t19_body mixTile
    simp only [k0_part55_eq_skeleton, k0_part56_eq_skeleton, k0_part57_eq_skeleton, k0_part58_eq_skeleton, k0_part59_eq_skeleton, k0_part60_eq_skeleton]
    unfold k0_part55_skel k0_part56_skel k0_part57_skel k0_part58_skel k0_part59_skel k0_part60_skel
    simp only [ldN, issN, ld, issue, bind_assoc, pure_bind]
    iterate 17 refine lift_bind_congr (fun _ => ?_)
    rfl
  obtain ⟨a0, a1, a2, a3, a4, a5, a6, a7, a8, a9, a10, a11, a12, a13, a14, a15⟩ := σ
  refine lift_bind_congr (fun _ => ?_)
  refine lift_bind_congr (fun _ => ?_)
  refine for_bind_congr rfl (fun sg σ => ?_) (fun σ => ?_)
  ·
    obtain ⟨a0, a1, a2, a3, a4, a5, a6, a7, a8, a9, a10, a11, a12, a13, a14, a15⟩ := σ
    unfold k0_t20_body mixTile
    simp only [k0_part61_eq_skeleton, k0_part62_eq_skeleton, k0_part63_eq_skeleton, k0_part64_eq_skeleton, k0_part65_eq_skeleton, k0_part66_eq_skeleton]
    unfold k0_part61_skel k0_part62_skel k0_part63_skel k0_part64_skel k0_part65_skel k0_part66_skel
    simp only [ldN, issN, ld, issue, bind_assoc, pure_bind]
    iterate 17 refine lift_bind_congr (fun _ => ?_)
    rfl
  obtain ⟨a0, a1, a2, a3, a4, a5, a6, a7, a8, a9, a10, a11, a12, a13, a14, a15⟩ := σ
  rfl

/-- The first pass over a token, as set 3 spells it. -/
theorem k0_t21_eq (v3 : IVec S8x128 32) (k0_t5 : Fin k0_t5_loop.trips) (k0_t21 : Fin k0_t21_loop.trips) :
    k0_t21_body (F := F) i arg1 harg1 arg2 harg2 arg3 harg3 arg4 harg4 arg5 harg5 arg6 harg6 arg7 harg7 arg8 harg8 arg9 harg9 arg10 harg10 arg11 arg12 harg12 arg13 harg13 arg14 harg14 arg15 harg15 v3 k0_t5 (iw k0_t5.val) (grpW k0_t5.val 2#32) (grpW k0_t5.val 3#32) k0_t21 ⟨⟩
      = hidTok arg1 arg6 arg3 arg15 arg14 ((arg11.slice (Rect.unit (s := S4) ![2] S1.size inb_S4_S1_2)).squeeze S_ squeezes_S1_S_).sem arg8 v3 k0_t5.val (lt_of_trips k0_t5 4 rfl) 3#32 (by decide)
          k0_t21.val (lt_of_trips k0_t21 8 rfl) := by
  unfold k0_t21_body hidTok
  simp only [k0_part76_eq_skeleton]
  unfold k0_part76_skel
  simp only [bind_assoc, pure_bind]
  refine lift_bind_congr (fun row => ?_)
  refine for_bind_congr rfl (fun sg _ => ?_) (fun _ => rfl)
  unfold k0_t22_body hidTile
  simp only [k0_part70_eq_skeleton, k0_part71_eq_skeleton, k0_part72_eq_skeleton, k0_part73_eq_skeleton, k0_part74_eq_skeleton, k0_part75_eq_skeleton]
  unfold k0_part70_skel k0_part71_skel k0_part72_skel k0_part73_skel k0_part74_skel k0_part75_skel
  simp only [ldN, issN, ld, issue, bind_assoc, pure_bind]
  iterate 16 refine lift_bind_congr (fun _ => ?_)
  rfl

/-- The second pass over two tokens, as set 3 spells it. -/
theorem k0_t23_eq (v3 : IVec S8x128 32) (k0_t5 : Fin k0_t5_loop.trips) (k0_t23 : Fin k0_t23_loop.trips) :
    k0_t23_body (F := F) i arg1 harg1 arg2 harg2 arg3 harg3 arg4 harg4 arg5 harg5 arg6 harg6 arg7 harg7 arg8 harg8 arg9 harg9 arg10 harg10 arg11 arg12 harg12 arg13 harg13 arg14 harg14 arg15 harg15 v3 k0_t5 (grpW k0_t5.val 3#32) k0_t23 ⟨⟩
      = mixTok2 arg1 arg6 arg15 arg14 ((arg11.slice (Rect.unit (s := S4) ![2] S1.size inb_S4_S1_2)).squeeze S_ squeezes_S1_S_).sem arg9 arg10 v3 k0_t5.val (lt_of_trips k0_t5 4 rfl) 3#32 (by decide)
          k0_t23.val (lt_of_trips k0_t23 4 rfl) := by
  unfold k0_t23_body mixTok2 mixTok
  simp only [k0_part89_eq_skeleton, k0_part90_eq_skeleton, k0_part91_eq_skeleton]
  unfold k0_part89_skel k0_part90_skel k0_part91_skel
  simp only [bind_assoc, pure_bind]
  refine for_bind_congr rfl (fun sg σ => ?_) (fun σ => ?_)
  ·
    obtain ⟨a0, a1, a2, a3, a4, a5, a6, a7, a8, a9, a10, a11, a12, a13, a14, a15⟩ := σ
    unfold k0_t24_body mixTile
    simp only [k0_part77_eq_skeleton, k0_part78_eq_skeleton, k0_part79_eq_skeleton, k0_part80_eq_skeleton, k0_part81_eq_skeleton, k0_part82_eq_skeleton]
    unfold k0_part77_skel k0_part78_skel k0_part79_skel k0_part80_skel k0_part81_skel k0_part82_skel
    simp only [ldN, issN, ld, issue, bind_assoc, pure_bind]
    iterate 17 refine lift_bind_congr (fun _ => ?_)
    rfl
  obtain ⟨a0, a1, a2, a3, a4, a5, a6, a7, a8, a9, a10, a11, a12, a13, a14, a15⟩ := σ
  refine lift_bind_congr (fun _ => ?_)
  refine lift_bind_congr (fun _ => ?_)
  refine for_bind_congr rfl (fun sg σ => ?_) (fun σ => ?_)
  ·
    obtain ⟨a0, a1, a2, a3, a4, a5, a6, a7, a8, a9, a10, a11, a12, a13, a14, a15⟩ := σ
    unfold k0_t25_body mixTile
    simp only [k0_part83_eq_skeleton, k0_part84_eq_skeleton, k0_part85_eq_skeleton, k0_part86_eq_skeleton, k0_part87_eq_skeleton, k0_part88_eq_skeleton]
    unfold k0_part83_skel k0_part84_skel k0_part85_skel k0_part86_skel k0_part87_skel k0_part88_skel
    simp only [ldN, issN, ld, issue, bind_assoc, pure_bind]
    iterate 17 refine lift_bind_congr (fun _ => ?_)
    rfl
  obtain ⟨a0, a1, a2, a3, a4, a5, a6, a7, a8, a9, a10, a11, a12, a13, a14, a15⟩ := σ
  rfl

/-- The copies into set 0 that precede the first step. -/
theorem k0_t2_eq (k0_h1 : k0_cond1 i = 1#1) (k0_t1 : Fin k0_t1_loop.trips) (k0_t2 : Fin k0_t2_loop.trips) (hS : ∀ u, (slotH (iw k0_t2.val) u).toNat < 128) :
    k0_t2_body (F := F) i arg1 harg1 arg2 harg2 arg3 harg3 arg4 harg4 arg5 harg5 arg6 harg6 arg7 harg7 arg8 harg8 arg9 harg9 arg10 harg10 arg11 arg12 harg12 arg13 harg13 arg14 harg14 arg15 harg15 k0_h1 k0_t1 (iw k0_t1.val) k0_t2 ⟨⟩
      = issN arg1 arg6 arg12 ((arg11.slice (Rect.unit (s := S4) ![0] S1.size inb_S4_S1_0)).squeeze S_ squeezes_S1_S_).sem 4 (fun u => firstSite i k0_h1 0#32 (by decide) k0_t1.val (lt_of_trips k0_t1 8 rfl) (slotH (iw k0_t2.val) u) (hS u)) := by
  unfold k0_t2_body
  simp only [k0_part1_eq_skeleton]
  unfold k0_part1_skel
  simp only [issN, issue, bind_assoc, pure_bind]
  rfl

/-- The copies into set 1 that precede the first step. -/
theorem k0_t3_eq (k0_h1 : k0_cond1 i = 1#1) (k0_t1 : Fin k0_t1_loop.trips) (k0_t3 : Fin k0_t3_loop.trips) (hS : ∀ u, (slotH (iw k0_t3.val) u).toNat < 128) :
    k0_t3_body (F := F) i arg1 harg1 arg2 harg2 arg3 harg3 arg4 harg4 arg5 harg5 arg6 harg6 arg7 harg7 arg8 harg8 arg9 harg9 arg10 harg10 arg11 arg12 harg12 arg13 harg13 arg14 harg14 arg15 harg15 k0_h1 k0_t1 (iw k0_t1.val) k0_t3 ⟨⟩
      = issN arg1 arg6 arg13 ((arg11.slice (Rect.unit (s := S4) ![1] S1.size inb_S4_S1_1)).squeeze S_ squeezes_S1_S_).sem 4 (fun u => firstSite i k0_h1 8#32 (by decide) k0_t1.val (lt_of_trips k0_t1 8 rfl) (slotH (iw k0_t3.val) u) (hS u)) := by
  unfold k0_t3_body
  simp only [k0_part2_eq_skeleton]
  unfold k0_part2_skel
  simp only [issN, issue, bind_assoc, pure_bind]
  rfl

/-- The copies into set 2 that precede the first step. -/
theorem k0_t4_eq (k0_h1 : k0_cond1 i = 1#1) (k0_t1 : Fin k0_t1_loop.trips) (k0_t4 : Fin k0_t4_loop.trips) (hS : ∀ u, (slotH (iw k0_t4.val) u).toNat < 128) :
    k0_t4_body (F := F) i arg1 harg1 arg2 harg2 arg3 harg3 arg4 harg4 arg5 harg5 arg6 harg6 arg7 harg7 arg8 harg8 arg9 harg9 arg10 harg10 arg11 arg12 harg12 arg13 harg13 arg14 harg14 arg15 harg15 k0_h1 k0_t1 (iw k0_t1.val) k0_t4 ⟨⟩
      = issN arg1 arg6 arg14 ((arg11.slice (Rect.unit (s := S4) ![2] S1.size inb_S4_S1_2)).squeeze S_ squeezes_S1_S_).sem 4 (fun u => firstSite i k0_h1 16#32 (by decide) k0_t1.val (lt_of_trips k0_t1 8 rfl) (slotH (iw k0_t4.val) u) (hS u)) := by
  unfold k0_t4_body
  simp only [k0_part3_eq_skeleton]
  unfold k0_part3_skel
  simp only [issN, issue, bind_assoc, pure_bind]
  rfl

/-- The copies of a token of each of the three groups that precede the first step. -/
theorem k0_t1_eq (k0_h1 : k0_cond1 i = 1#1) (k0_t1 : Fin k0_t1_loop.trips) :
    k0_t1_body (F := F) i arg1 harg1 arg2 harg2 arg3 harg3 arg4 harg4 arg5 harg5 arg6 harg6 arg7 harg7 arg8 harg8 arg9 harg9 arg10 harg10 arg11 arg12 harg12 arg13 harg13 arg14 harg14 arg15 harg15 k0_h1 k0_t1 ⟨⟩ = (do
      firstTok i k0_h1 arg1 arg6 arg12 ((arg11.slice (Rect.unit (s := S4) ![0] S1.size inb_S4_S1_0)).squeeze S_ squeezes_S1_S_).sem 0#32 (by decide) k0_t1.val (lt_of_trips k0_t1 8 rfl)
      firstTok i k0_h1 arg1 arg6 arg13 ((arg11.slice (Rect.unit (s := S4) ![1] S1.size inb_S4_S1_1)).squeeze S_ squeezes_S1_S_).sem 8#32 (by decide) k0_t1.val (lt_of_trips k0_t1 8 rfl)
      firstTok i k0_h1 arg1 arg6 arg14 ((arg11.slice (Rect.unit (s := S4) ![2] S1.size inb_S4_S1_2)).squeeze S_ squeezes_S1_S_).sem 16#32 (by decide) k0_t1.val (lt_of_trips k0_t1 8 rfl)) := by
  unfold k0_t1_body firstTok
  refine for_bind_congr rfl (fun t2 _ => k0_t2_eq i arg1 harg1 arg2 harg2 arg3 harg3 arg4 harg4 arg5 harg5 arg6 harg6 arg7 harg7 arg8 harg8 arg9 harg9 arg10 harg10 arg11 arg12 harg12 arg13 harg13 arg14 harg14 arg15 harg15 k0_h1 k0_t1 t2 _) (fun _ => ?_)
  refine for_bind_congr rfl (fun t2 _ => k0_t3_eq i arg1 harg1 arg2 harg2 arg3 harg3 arg4 harg4 arg5 harg5 arg6 harg6 arg7 harg7 arg8 harg8 arg9 harg9 arg10 harg10 arg11 arg12 harg12 arg13 harg13 arg14 harg14 arg15 harg15 k0_h1 k0_t1 t2 _) (fun _ => ?_)
  refine Eq.trans (for_bind_congr rfl (fun t2 _ => k0_t4_eq i arg1 harg1 arg2 harg2 arg3 harg3 arg4 harg4 arg5 harg5 arg6 harg6 arg7 harg7 arg8 harg8 arg9 harg9 arg10 harg10 arg11 arg12 harg12 arg13 harg13 arg14 harg14 arg15 harg15 k0_h1 k0_t1 t2 _) (fun _ => rfl)) (bind_pure _)

/-- A trip of the main loop: four groups' steps. -/
theorem k0_t5_eq (v3 : IVec S8x128 32) (k0_t5 : Fin k0_t5_loop.trips) :
    k0_t5_body (F := F) i arg1 harg1 arg2 harg2 arg3 harg3 arg4 harg4 arg5 harg5 arg6 harg6 arg7 harg7 arg8 harg8 arg9 harg9 arg10 harg10 arg11 arg12 harg12 arg13 harg13 arg14 harg14 arg15 harg15 v3 k0_t5 ⟨⟩ = (do
      group arg1 arg6 arg2 arg3 arg12 arg15 ((arg11.slice (Rect.unit (s := S4) ![0] S1.size inb_S4_S1_0)).squeeze S_ squeezes_S1_S_).sem ((arg11.slice (Rect.unit (s := S4) ![3] S1.size inb_S4_S1_3)).squeeze S_ squeezes_S1_S_).sem arg8 arg9 arg10 v3 k0_t5.val (lt_of_trips k0_t5 4 rfl) 0#32 (by decide)
      group arg1 arg6 arg2 arg3 arg13 arg12 ((arg11.slice (Rect.unit (s := S4) ![1] S1.size inb_S4_S1_1)).squeeze S_ squeezes_S1_S_).sem ((arg11.slice (Rect.unit (s := S4) ![0] S1.size inb_S4_S1_0)).squeeze S_ squeezes_S1_S_).sem arg8 arg9 arg10 v3 k0_t5.val (lt_of_trips k0_t5 4 rfl) 1#32 (by decide)
      group arg1 arg6 arg2 arg3 arg14 arg13 ((arg11.slice (Rect.unit (s := S4) ![2] S1.size inb_S4_S1_2)).squeeze S_ squeezes_S1_S_).sem ((arg11.slice (Rect.unit (s := S4) ![1] S1.size inb_S4_S1_1)).squeeze S_ squeezes_S1_S_).sem arg8 arg9 arg10 v3 k0_t5.val (lt_of_trips k0_t5 4 rfl) 2#32 (by decide)
      group arg1 arg6 arg2 arg3 arg15 arg14 ((arg11.slice (Rect.unit (s := S4) ![3] S1.size inb_S4_S1_3)).squeeze S_ squeezes_S1_S_).sem ((arg11.slice (Rect.unit (s := S4) ![2] S1.size inb_S4_S1_2)).squeeze S_ squeezes_S1_S_).sem arg8 arg9 arg10 v3 k0_t5.val (lt_of_trips k0_t5 4 rfl) 3#32 (by decide)) := by
  unfold k0_t5_body group
  simp only [k0_part92_eq_skeleton, k0_part93_eq_skeleton, k0_part94_eq_skeleton]
  unfold k0_part92_skel k0_part93_skel k0_part94_skel
  simp only [bind_assoc, pure_bind]
  refine lift_bind_congr (fun _ => ?_)
  refine for_bind_congr rfl (fun r _ => k0_t6_eq i arg1 harg1 arg2 harg2 arg3 harg3 arg4 harg4 arg5 harg5 arg6 harg6 arg7 harg7 arg8 harg8 arg9 harg9 arg10 harg10 arg11 arg12 harg12 arg13 harg13 arg14 harg14 arg15 harg15 v3 k0_t5 r) (fun _ => ?_)
  iterate 4 refine lift_bind_congr (fun _ => ?_)
  refine for_bind_congr rfl (fun p _ => k0_t8_eq i arg1 harg1 arg2 harg2 arg3 harg3 arg4 harg4 arg5 harg5 arg6 harg6 arg7 harg7 arg8 harg8 arg9 harg9 arg10 harg10 arg11 arg12 harg12 arg13 harg13 arg14 harg14 arg15 harg15 v3 k0_t5 p) (fun _ => ?_)
  refine lift_bind_congr (fun _ => ?_)
  refine for_bind_congr rfl (fun r _ => k0_t11_eq i arg1 harg1 arg2 harg2 arg3 harg3 arg4 harg4 arg5 harg5 arg6 harg6 arg7 harg7 arg8 harg8 arg9 harg9 arg10 harg10 arg11 arg12 harg12 arg13 harg13 arg14 harg14 arg15 harg15 v3 k0_t5 r) (fun _ => ?_)
  iterate 4 refine lift_bind_congr (fun _ => ?_)
  refine for_bind_congr rfl (fun p _ => k0_t13_eq i arg1 harg1 arg2 harg2 arg3 harg3 arg4 harg4 arg5 harg5 arg6 harg6 arg7 harg7 arg8 harg8 arg9 harg9 arg10 harg10 arg11 arg12 harg12 arg13 harg13 arg14 harg14 arg15 harg15 v3 k0_t5 p) (fun _ => ?_)
  refine lift_bind_congr (fun _ => ?_)
  refine for_bind_congr rfl (fun r _ => k0_t16_eq i arg1 harg1 arg2 harg2 arg3 harg3 arg4 harg4 arg5 harg5 arg6 harg6 arg7 harg7 arg8 harg8 arg9 harg9 arg10 harg10 arg11 arg12 harg12 arg13 harg13 arg14 harg14 arg15 harg15 v3 k0_t5 r) (fun _ => ?_)
  iterate 4 refine lift_bind_congr (fun _ => ?_)
  refine for_bind_congr rfl (fun p _ => k0_t18_eq i arg1 harg1 arg2 harg2 arg3 harg3 arg4 harg4 arg5 harg5 arg6 harg6 arg7 harg7 arg8 harg8 arg9 harg9 arg10 harg10 arg11 arg12 harg12 arg13 harg13 arg14 harg14 arg15 harg15 v3 k0_t5 p) (fun _ => ?_)
  refine lift_bind_congr (fun _ => ?_)
  refine for_bind_congr rfl (fun r _ => k0_t21_eq i arg1 harg1 arg2 harg2 arg3 harg3 arg4 harg4 arg5 harg5 arg6 harg6 arg7 harg7 arg8 harg8 arg9 harg9 arg10 harg10 arg11 arg12 harg12 arg13 harg13 arg14 harg14 arg15 harg15 v3 k0_t5 r) (fun _ => ?_)
  iterate 4 refine lift_bind_congr (fun _ => ?_)
  refine Eq.trans (for_bind_congr rfl (fun p _ => k0_t23_eq i arg1 harg1 arg2 harg2 arg3 harg3 arg4 harg4 arg5 harg5 arg6 harg6 arg7 harg7 arg8 harg8 arg9 harg9 arg10 harg10 arg11 arg12 harg12 arg13 harg13 arg14 harg14 arg15 harg15 v3 k0_t5 p) (fun _ => rfl)) (bind_pure _)

end Cert.KernelIdeal.Peer
-- ==== Proof.Peer.Trip.lean ====
/-
  The body of the launch at a point of its grid: the copies that precede the first step, four trips of four groups, the last waits,
  and the normalised sum stored.
-/
module

public import proofs.«01_k».proof.Proof.Peer.Second
public import proofs.«01_k».proof.Proof.Peer.Spelt

@[expose] public section

set_option maxRecDepth 65536

noncomputable section

namespace Cert.KernelIdeal.Peer

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Transfers (batchBody batch_creditUpdate_with Batch batch_alloc wp_waitBatchAll)

variable {F : FTy → Type} [FloatOps F]

/-- The proof's memory: the pipeline library's beside the counters of the copies. -/
local notation "𝕄" => MT nD τ sig Unit (Elt F) ℕ (Pipeline.UD sig nD τ) ℕ

/-- The semaphores of the four sets. -/
abbrev sem0 (arg11 : DmaSems sig S4) : DmaSem sig := ((arg11.slice (Rect.unit (s := S4) ![0] S1.size inb_S4_S1_0)).squeeze S_ squeezes_S1_S_).sem
abbrev sem1 (arg11 : DmaSems sig S4) : DmaSem sig := ((arg11.slice (Rect.unit (s := S4) ![1] S1.size inb_S4_S1_1)).squeeze S_ squeezes_S1_S_).sem
abbrev sem2 (arg11 : DmaSems sig S4) : DmaSem sig := ((arg11.slice (Rect.unit (s := S4) ![2] S1.size inb_S4_S1_2)).squeeze S_ squeezes_S1_S_).sem
abbrev sem3 (arg11 : DmaSems sig S4) : DmaSem sig := ((arg11.slice (Rect.unit (s := S4) ![3] S1.size inb_S4_S1_3)).squeeze S_ squeezes_S1_S_).sem

theorem fupd_wpP (c : Dev nD) {α : Type} (p : Pr F α) (Q : α → sProp 𝕄) : iprop(|={Set.univ}=> wpP c p Q) ⊢ wpP c p Q :=
  Entails.of_eq (fupd_wp_eq _ _ _ p Q)

/-! ## The copies that precede the first step -/

theorem firstSite_ok (i : grid0.Coords) (h1 : k0_cond1 i = 1#1) (b : BitVec 32) (hb : b.toNat ≤ 16) (k : ℕ) (hk : k < 8) (S : BitVec 32) (hS : S.toNat < 128)
    (g : Fin 3) (hg : b.toNat = 8 * g.val) (sl : Fin 128) (hs : S.toNat = sl.val) :
    SiteOk (firstSite i h1 b hb k hk S hS) ⟨8 * g.val + k, by omega⟩ sl ⟨k * 128 + sl.val, by omega⟩ :=
  have hkw : (iw k).toNat = k := iw_toNat k (by omega)
  mkSite_ok _ _ _ _ _ _ _ _ _ (fun v hv => ⟨fun _ => (chk_ok v hv).1, fun _ => (chk_ok v hv).2⟩) _ _ _
    (by rw [toNat_addi _ _ (by omega), hkw, hg]) hs (by rw [hkw, hs])

/-- The order of the copies that precede the first step: token by token. -/
def rkF (b : Fin 1024) : ℕ := b.val

theorem rkF_inj : Function.Injective rkF := fun _ _ h => Fin.ext h

section rules
variable (c : Dev nD) (arg1 : Memref sig .tc .smem S1x152x128 .i32) (tab : Memref sig .tc .hbm S262144x128 .i32)
  (dst : Memref sig .tc .vmem S17408x128 .i32) (sm : DmaSem sig)
  (W : Buf (Elt F) (tab.view.loc (c : Thread nD τ))) (q : PosShare TreeShare) (q1 : PosShare TreeShare)
  (f1 : Buf (Elt F) (arg1.view.loc (c : Thread nD τ))) (ex : Fin 152 → Fin 128 → Fin 16384)
  (hv : ∀ t sl, (arg1.view.read (Elt F) f1 (ix3 (0 : Fin 1) t sl) : BitVec 32).toNat = (ex t sl).val)

include hv in
theorem wp_firstTok (i : grid0.Coords) (h1 : k0_cond1 i = 1#1) (b : BitVec 32) (hb : b.toNat ≤ 16) (k : ℕ) (hk : k < 8)
    (g : Fin 3) (hg : b.toNat = 8 * g.val) {Q : Unit → sProp 𝕄} :
    iprop((arg1.view.loc (c : Thread nD τ) ↦{q1} f1) ∗ Going c dst tab W q sm (grpE ex ⟨g.val, by omega⟩) rkF (k * 128))
      ⊢ iprop((iprop((arg1.view.loc (c : Thread nD τ) ↦{q1} f1) ∗ Going c dst tab W q sm (grpE ex ⟨g.val, by omega⟩) rkF ((k + 1) * 128)) -∗ Q ⟨⟩)
          -∗ wpP c (firstTok i h1 arg1 tab dst sm b hb k hk) Q) := by
  unfold firstTok
  iintro H Hk
  iapply (wp_loop c k0_t2_loop (k0_t2_ok i h1) ⟨⟩ _ (fun m _ => iprop((arg1.view.loc (c : Thread nD τ) ↦{q1} f1)
    ∗ Going c dst tab W q sm (grpE ex ⟨g.val, by omega⟩) rkF (k * 128 + 4 * m))) ?_) $$ [H]
  · intro m _
    have hm : m.val < 32 := lt_of_trips m 32 rfl
    have hmw : (iw m.val).toNat = m.val := iw_toNat _ (by omega)
    iintro H
    iapply (wp_issN c arg1 tab dst sm W q (grpE ex ⟨g.val, by omega⟩) rkF rkF_inj (q1 := q1) f1 4 _ _ _ _ (k * 128 + 4 * m.val)
      (fun j => firstSite_ok i h1 b hb k hk _ _ g hg ⟨4 * m.val + j.val, by omega⟩ (by rw [slotH_toNat _ j (by omega), hmw]; show _ = 4 * m.val + j.val; omega))
      (fun j => by show k * 128 + (4 * m.val + j.val) = _; omega)
      (fun j => grp_hv c arg1 f1 ex hv ⟨g.val, by omega⟩ ⟨k, hk⟩ ⟨4 * m.val + j.val, by omega⟩)) $$ [H]
    · iexact H
    iintro H
    rw [show k * 128 + 4 * (m.val + 1) = k * 128 + 4 * m.val + 4 by omega]
    iexact H
  · iexact H
  iintro %_ H
  iapply Hk
  rw [show (k + 1) * 128 = k * 128 + 4 * k0_t2_loop.trips by show (k + 1) * 128 = k * 128 + 4 * 32; omega]
  iexact H

end rules

/-! ## A point of the grid -/

theorem cond1_iff (i : grid0.Coords) : k0_cond1 i = 1#1 ↔ (i 0).val = 0 := by
  have h : ∀ n : Fin 128, Scalar.cmpi .ne (Scalar.extui (Scalar.cmpi .eq (BitVec.ofNat 32 n.val) 0#32) : BitVec 32) 0#32 = 1#1 ↔ n.val = 0 := by decide
  exact h (i 0)

theorem cond2_iff (i : grid0.Coords) :
    Scalar.cmpi .ne (Scalar.extui (Scalar.cmpi .eq (BitVec.ofNat 32 (i 0).val) 127#32) : BitVec 32) 0#32 = 1#1 ↔ (i 0).val = 127 := by
  have h : ∀ n : Fin 128, Scalar.cmpi .ne (Scalar.extui (Scalar.cmpi .eq (BitVec.ofNat 32 n.val) 127#32) : BitVec 32) 0#32 = 1#1 ↔ n.val = 127 := by decide
  exact h (i 0)

section step
variable (c : Dev nD) (i : grid0.Coords) (arg1 : Memref sig .tc .smem S1x152x128 .i32) (harg1 : arg1.IsWhole) (arg2 : Memref sig .tc .vmem S128x128 .f32) (harg2 : arg2.IsWhole) (arg3 : Memref sig .tc .vmem S128x2048 .f32) (harg3 : arg3.IsWhole) (arg4 : Memref sig .tc .vmem S128x2048 .f32) (harg4 : arg4.IsWhole) (arg5 : Memref sig .tc .vmem S1x2048 .f32) (harg5 : arg5.IsWhole) (arg6 : Memref sig .tc .hbm S262144x128 .i32) (harg6 : arg6.IsWhole) (arg7 : Memref sig .tc .vmem S128x2048 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x2048 .f32) (harg10 : arg10.IsWhole) (arg11 : DmaSems sig S4) (arg12 : Memref sig .tc .vmem S17408x128 .i32) (harg12 : arg12.IsWhole) (arg13 : Memref sig .tc .vmem S17408x128 .i32) (harg13 : arg13.IsWhole) (arg14 : Memref sig .tc .vmem S17408x128 .i32) (harg14 : arg14.IsWhole) (arg15 : Memref sig .tc .vmem S17408x128 .i32) (harg15 : arg15.IsWhole)
  (W : Buf (Elt F) (arg6.view.loc (c : Thread nD τ))) (q0 qa qb qc : PosShare TreeShare) (q1 : PosShare TreeShare)
  (f1 : Buf (Elt F) (arg1.view.loc (c : Thread nD τ))) (ex : Fin 152 → Fin 128 → Fin 16384)
  (hv : ∀ t sl, (arg1.view.read (Elt F) f1 (ix3 (0 : Fin 1) t sl) : BitVec 32).toNat = (ex t sl).val)
  (X3 : S128x2048.Idx → Elt F .f32) (G : S128x128.Idx → Elt F .f32)

/-- The first three sets, all their copies started, the rows those of groups `a`, `a+1`, `a+2`. -/
abbrev Full3 (a : ℕ) (ha : a ≤ 16) : sProp 𝕄 :=
  iprop(Full c arg12 arg6 W q0 (sem0 arg11) (grpE ex ⟨a, by omega⟩) ∗ Full c arg13 arg6 W qa (sem1 arg11) (grpE ex ⟨a + 1, by omega⟩)
    ∗ Full c arg14 arg6 W qb (sem2 arg11) (grpE ex ⟨a + 2, by omega⟩))

/-- The first three sets with no copy started. -/
abbrev Idle3 : sProp 𝕄 :=
  iprop(Idle c arg12 arg6 W q0 (sem0 arg11) ∗ Idle c arg13 arg6 W qa (sem1 arg11) ∗ Idle c arg14 arg6 W qb (sem2 arg11))

include hv in
/-- The copies that precede the first step fill three sets. -/
theorem wp_first (h1 : k0_cond1 i = 1#1) {Q : Unit → sProp 𝕄} :
    iprop((arg1.view.loc (c : Thread nD τ) ↦{q1} f1) ∗ Idle3 c arg6 arg11 arg12 arg13 arg14 W q0 qa qb)
      ⊢ iprop((iprop((arg1.view.loc (c : Thread nD τ) ↦{q1} f1) ∗ Full3 c arg6 arg11 arg12 arg13 arg14 W q0 qa qb ex 0 (by omega)) -∗ Q ⟨⟩)
          -∗ wpP c (Scf.Loop.for k0_t1_loop (k0_t1_ok i h1) ⟨⟩ (k0_t1_body (F := F) i arg1 harg1 arg2 harg2 arg3 harg3 arg4 harg4 arg5 harg5 arg6 harg6 arg7 harg7 arg8 harg8 arg9 harg9 arg10 harg10 arg11 arg12 harg12 arg13 harg13 arg14 harg14 arg15 harg15 h1)) Q) := by
  iintro ⟨H1, ⟨HA, HB, HC⟩⟩ Hk
  iapply fupd_wpP
  imod (going_start c arg12 harg12 arg6 W q0 (sem0 arg11) (grpE ex ⟨0, by omega⟩) rkF) $$ HA with HA
  imod (going_start c arg13 harg13 arg6 W qa (sem1 arg11) (grpE ex ⟨1, by omega⟩) rkF) $$ HB with HB
  imod (going_start c arg14 harg14 arg6 W qb (sem2 arg11) (grpE ex ⟨2, by omega⟩) rkF) $$ HC with HC
  imodintro
  iapply (wp_loop c k0_t1_loop (k0_t1_ok i h1) ⟨⟩ _ (fun k _ => iprop((arg1.view.loc (c : Thread nD τ) ↦{q1} f1)
      ∗ Going c arg12 arg6 W q0 (sem0 arg11) (grpE ex ⟨0, by omega⟩) rkF (k * 128)
      ∗ Going c arg13 arg6 W qa (sem1 arg11) (grpE ex ⟨1, by omega⟩) rkF (k * 128)
      ∗ Going c arg14 arg6 W qb (sem2 arg11) (grpE ex ⟨2, by omega⟩) rkF (k * 128))) ?_) $$ [H1 HA HB HC]
  · intro k _
    have hk : k.val < 8 := lt_of_trips k 8 rfl
    rw [show k0_t1_body (F := F) i arg1 harg1 arg2 harg2 arg3 harg3 arg4 harg4 arg5 harg5 arg6 harg6 arg7 harg7 arg8 harg8 arg9 harg9 arg10 harg10 arg11 arg12 harg12 arg13 harg13 arg14 harg14 arg15 harg15 h1 k _ = _ from k0_t1_eq (F := F) i arg1 harg1 arg2 harg2 arg3 harg3 arg4 harg4 arg5 harg5 arg6 harg6 arg7 harg7 arg8 harg8 arg9 harg9 arg10 harg10 arg11 arg12 harg12 arg13 harg13 arg14 harg14 arg15 harg15 h1 k]
    rw [wpP_bind]
    iintro ⟨H1, HA, HB, HC⟩
    iapply (wp_firstTok c arg1 arg6 arg12 (sem0 arg11) W q0 q1 f1 ex hv i h1 0#32 _ k.val hk 0 rfl) $$ [H1 HA]
    · isplitl [H1]; · iexact H1
      iexact HA
    iintro ⟨H1, HA⟩
    rw [wpP_bind]
    iapply (wp_firstTok c arg1 arg6 arg13 (sem1 arg11) W qa q1 f1 ex hv i h1 8#32 _ k.val hk 1 rfl) $$ [H1 HB]
    · isplitl [H1]; · iexact H1
      iexact HB
    iintro ⟨H1, HB⟩
    iapply (wp_firstTok c arg1 arg6 arg14 (sem2 arg11) W qb q1 f1 ex hv i h1 16#32 _ k.val hk 2 rfl) $$ [H1 HC]
    · isplitl [H1]; · iexact H1
      iexact HC
    iintro ⟨H1, HC⟩
    isplitl [H1]; · iexact H1
    isplitl [HA]; · iexact HA
    isplitl [HB]; · iexact HB
    iexact HC
  · isplitl [H1]; · iexact H1
    rw [Nat.zero_mul]
    isplitl [HA]; · iexact HA
    isplitl [HB]; · iexact HB
    iexact HC
  iintro %_ ⟨H1, HA, HB, HC⟩
  rw [show k0_t1_loop.trips * 128 = 1024 from rfl]
  iapply Hk
  isplitl [H1]; · iexact H1
  isplitl [HA]
  · iapply (going_full c arg12 arg6 W q0 (sem0 arg11) _ rkF (fun b => b.isLt)) $$ HA
  isplitl [HB]
  · iapply (going_full c arg13 arg6 W qa (sem1 arg11) _ rkF (fun b => b.isLt)) $$ HB
  iapply (going_full c arg14 arg6 W qb (sem2 arg11) _ rkF (fun b => b.isLt)) $$ HC

variable (hu12 : arg12.view.ref.dmaCredit S16384x128 .i32 = unitsOf arg12 * 1024) (hp12 : 0 < unitsOf arg12)
  (hu13 : arg13.view.ref.dmaCredit S16384x128 .i32 = unitsOf arg13 * 1024) (hp13 : 0 < unitsOf arg13)
  (hu14 : arg14.view.ref.dmaCredit S16384x128 .i32 = unitsOf arg14 * 1024) (hp14 : 0 < unitsOf arg14)
  (hu15 : arg15.view.ref.dmaCredit S16384x128 .i32 = unitsOf arg15 * 1024) (hp15 : 0 < unitsOf arg15)

/-- What is held between trips of the main loop. -/
abbrev Trip (n : ℕ) (hn : n ≤ 4) : sProp 𝕄 :=
  iprop(Held c arg1 arg6 W q1 f1 ex X3 G arg2 arg3 arg8 arg9 arg10 (4 * n) ∗ Full3 c arg6 arg11 arg12 arg13 arg14 W q0 qa qb ex (4 * n) (by omega)
    ∗ Idle c arg15 arg6 W qc (sem3 arg11))

include hv hu12 hp12 hu13 hp13 hu14 hp14 hu15 hp15 in
/-- A trip of the main loop. -/
theorem wp_trip (k0_t5 : Fin k0_t5_loop.trips) (h4 : k0_t5.val < 4) {Q : Unit → sProp 𝕄} :
    Trip c arg1 arg2 arg3 arg6 arg8 arg9 arg10 arg11 arg12 arg13 arg14 arg15 W q0 qa qb qc q1 f1 ex X3 G k0_t5.val (by omega)
      ⊢ iprop((Trip c arg1 arg2 arg3 arg6 arg8 arg9 arg10 arg11 arg12 arg13 arg14 arg15 W q0 qa qb qc q1 f1 ex X3 G (k0_t5.val + 1) (by omega) -∗ Q ⟨⟩)
          -∗ wpP c (k0_t5_body (F := F) i arg1 harg1 arg2 harg2 arg3 harg3 arg4 harg4 arg5 harg5 arg6 harg6 arg7 harg7 arg8 harg8 arg9 harg9 arg10 harg10 arg11 arg12 harg12 arg13 harg13 arg14 harg14 arg15 harg15 V3 k0_t5 ⟨⟩) Q) := by
  rw [k0_t5_eq]
  rw [wpP_bind]
  iintro ⟨HH, ⟨HA, HB, HC⟩, HD⟩ Hk
  iapply (wp_group c arg1 arg6 arg12 arg15 (sem3 arg11) W qc q1 f1 ex hv X3 G arg2 arg3 arg8 arg9 arg10 (sem0 arg11) q0 harg12 harg15 hu12 hp12
    k0_t5.val h4 0#32 _ ⟨4 * k0_t5.val, by omega⟩ (by show 4 * k0_t5.val = k0_t5.val * 4 + 0; omega)) $$ [HH HA HD]
  · isplitl [HH]; · iexact HH
    isplitl [HA]; · iexact HA
    iexact HD
  iintro ⟨HH, HA, HD⟩
  rw [wpP_bind]
  iapply (wp_group c arg1 arg6 arg13 arg12 (sem0 arg11) W q0 q1 f1 ex hv X3 G arg2 arg3 arg8 arg9 arg10 (sem1 arg11) qa harg13 harg12 hu13 hp13
    k0_t5.val h4 1#32 _ ⟨4 * k0_t5.val + 1, by omega⟩ (by show 4 * k0_t5.val + 1 = k0_t5.val * 4 + 1; omega)) $$ [HH HB HA]
  · isplitl [HH]; · iexact HH
    isplitl [HB]; · iexact HB
    iexact HA
  iintro ⟨HH, HB, HA⟩
  rw [wpP_bind]
  iapply (wp_group c arg1 arg6 arg14 arg13 (sem1 arg11) W qa q1 f1 ex hv X3 G arg2 arg3 arg8 arg9 arg10 (sem2 arg11) qb harg14 harg13 hu14 hp14
    k0_t5.val h4 2#32 _ ⟨4 * k0_t5.val + 2, by omega⟩ (by show 4 * k0_t5.val + 2 = k0_t5.val * 4 + 2; omega)) $$ [HH HC HB]
  · isplitl [HH]; · iexact HH
    isplitl [HC]; · iexact HC
    iexact HB
  iintro ⟨HH, HC, HB⟩
  iapply (wp_group c arg1 arg6 arg15 arg14 (sem2 arg11) W qb q1 f1 ex hv X3 G arg2 arg3 arg8 arg9 arg10 (sem3 arg11) qc harg15 harg14 hu15 hp15
    k0_t5.val h4 3#32 _ ⟨4 * k0_t5.val + 3, by omega⟩ (by show 4 * k0_t5.val + 3 = k0_t5.val * 4 + 3; omega)) $$ [HH HD HC]
  · isplitl [HH]; · iexact HH
    isplitl [HD]; · iexact HD
    iexact HC
  iintro ⟨HH, HD, HC⟩
  iapply Hk
  isplitl [HH]; · iexact HH
  isplitl [HA HB HC]
  · isplitl [HA]; · iexact HA
    isplitl [HB]; · iexact HB
    iexact HC
  iexact HD

end step

end Cert.KernelIdeal.Peer
-- ==== Proof.Peer.Step.lean ====
/-
  The body of the launch at a point of its grid: the copies that precede the first step, the main loop, the last waits, and the
  normalised sum stored.
-/
module

public import proofs.«01_k».proof.Proof.Peer.Trip

@[expose] public section

set_option maxRecDepth 65536

noncomputable section

namespace Cert.KernelIdeal.Peer

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Transfers (batchBody batch_creditUpdate_with Batch batch_alloc wp_waitBatchAll)

variable {F : FTy → Type} [FloatOps F]

/-- The proof's memory: the pipeline library's beside the counters of the copies. -/
local notation "𝕄" => MT nD τ sig Unit (Elt F) ℕ (Pipeline.UD sig nD τ) ℕ

/-! ## The body, piece by piece -/

/-- The normalised sum of the residual and the mixture. -/
def sumTail (arg4 : Memref sig .tc .vmem S128x2048 .f32) (arg5 : Memref sig .tc .vmem S1x2048 .f32) (arg7 arg10 : Memref sig .tc .vmem S128x2048 .f32) : Pr F PUnit := do
  let h ← Prog.lift (.load arg4 (Rect.unit (s := S128x2048) ![0, 0] S128x2048.size inb_S128x2048_S128x2048_0_0).toLoadRect (View.loadsAt_vmem h_S128x2048))
  let y ← Prog.lift (.load arg10 (Rect.unit (s := S128x2048) ![0, 0] S128x2048.size inb_S128x2048_S128x2048_0_0).toLoadRect (View.loadsAt_vmem h_S128x2048))
  let fg ← Prog.lift (.load arg5 (Rect.unit (s := S1x2048) ![0, 0] S1x2048.size inb_S1x2048_S1x2048_0_0).toLoadRect (View.loadsAt_vmem h_S1x2048))
  let _ ← Prog.lift (.load arg7 (Rect.unit (s := S128x2048) ![0, 0] S128x2048.size inb_S128x2048_S128x2048_0_0).toLoadRect (View.loadsAt_vmem h_S128x2048))
  Prog.lift (.store arg7 (Rect.unit (s := S128x2048) ![0, 0] S128x2048.size inb_S128x2048_S128x2048_0_0) (k0_pay4 (F := F) h y fg) Finset.univ (View.stores_vmem_bits_univ h_S128x2048 rfl) (.inl rfl))
  pure ⟨⟩

/-- Whether the point is the grid's last. -/
abbrev isLast (i : grid0.Coords) : BitVec 1 :=
  Scalar.cmpi .ne (Scalar.extui (Scalar.cmpi .eq (BitVec.ofNat 32 (i 0).val) 127#32) : BitVec 32) 0#32

section spelt
variable (i : grid0.Coords) (arg1 : Memref sig .tc .smem S1x152x128 .i32) (harg1 : arg1.IsWhole) (arg2 : Memref sig .tc .vmem S128x128 .f32) (harg2 : arg2.IsWhole) (arg3 : Memref sig .tc .vmem S128x2048 .f32) (harg3 : arg3.IsWhole) (arg4 : Memref sig .tc .vmem S128x2048 .f32) (harg4 : arg4.IsWhole) (arg5 : Memref sig .tc .vmem S1x2048 .f32) (harg5 : arg5.IsWhole) (arg6 : Memref sig .tc .hbm S262144x128 .i32) (harg6 : arg6.IsWhole) (arg7 : Memref sig .tc .vmem S128x2048 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x2048 .f32) (harg10 : arg10.IsWhole) (arg11 : DmaSems sig S4) (arg12 : Memref sig .tc .vmem S17408x128 .i32) (harg12 : arg12.IsWhole) (arg13 : Memref sig .tc .vmem S17408x128 .i32) (harg13 : arg13.IsWhole) (arg14 : Memref sig .tc .vmem S17408x128 .i32) (harg14 : arg14.IsWhole) (arg15 : Memref sig .tc .vmem S17408x128 .i32) (harg15 : arg15.IsWhole)

/-- What follows the main loop. -/
def afterLoop : Pr F PUnit :=
  if isLast i = 1#1 then do
    waitSet arg12 (sem0 arg11)
    waitSet arg13 (sem1 arg11)
    waitSet arg14 (sem2 arg11)
    sumTail arg4 arg5 arg7 arg10
  else sumTail arg4 arg5 arg7 arg10

/-- The body but for the copies that precede the first step. -/
def fromLoop : Pr F PUnit := do
  let _ ← ld128 arg8
  st128 arg8 (k0_pay1 (F := F))
  Scf.Loop.for k0_t5_loop k0_t5_ok ⟨⟩ (k0_t5_body (F := F) i arg1 harg1 arg2 harg2 arg3 harg3 arg4 harg4 arg5 harg5 arg6 harg6 arg7 harg7 arg8 harg8 arg9 harg9 arg10 harg10 arg11 arg12 harg12 arg13 harg13 arg14 harg14 arg15 harg15 V3)
  afterLoop i arg4 arg5 arg7 arg10 arg11 arg12 arg13 arg14

theorem body_eq : cc0_peer_mix_skel (F := F) i arg1 harg1 arg2 harg2 arg3 harg3 arg4 harg4 arg5 harg5 arg6 harg6 arg7 harg7 arg8 harg8 arg9 harg9 arg10 harg10 arg11 arg12 harg12 arg13 harg13 arg14 harg14 arg15 harg15 =
    (if h : k0_cond1 i = 1#1 then do
      Scf.Loop.for k0_t1_loop (k0_t1_ok i h) ⟨⟩ (k0_t1_body (F := F) i arg1 harg1 arg2 harg2 arg3 harg3 arg4 harg4 arg5 harg5 arg6 harg6 arg7 harg7 arg8 harg8 arg9 harg9 arg10 harg10 arg11 arg12 harg12 arg13 harg13 arg14 harg14 arg15 harg15 h)
      fromLoop i arg1 harg1 arg2 harg2 arg3 harg3 arg4 harg4 arg5 harg5 arg6 harg6 arg7 harg7 arg8 harg8 arg9 harg9 arg10 harg10 arg11 arg12 harg12 arg13 harg13 arg14 harg14 arg15 harg15
    else fromLoop i arg1 harg1 arg2 harg2 arg3 harg3 arg4 harg4 arg5 harg5 arg6 harg6 arg7 harg7 arg8 harg8 arg9 harg9 arg10 harg10 arg11 arg12 harg12 arg13 harg13 arg14 harg14 arg15 harg15) := rfl

end spelt

/-! ## The normalised sum -/

theorem embWide (y : S128x2048.Idx) : (Rect.unit (s := S128x2048) ![0, 0] S128x2048.size inb_S128x2048_S128x2048_0_0).emb y = y := by
  funext a; apply Fin.ext
  show (![0, 0] : Fin 2 → ℕ) a + 1 * (y a).val = (y a).val
  fin_cases a
  · show 0 + 1 * _ = _; omega
  · show 0 + 1 * _ = _; omega

theorem embRow (y : S1x2048.Idx) : (Rect.unit (s := S1x2048) ![0, 0] S1x2048.size inb_S1x2048_S1x2048_0_0).emb y = y := by
  funext a; apply Fin.ext
  show (![0, 0] : Fin 2 → ℕ) a + 1 * (y a).val = (y a).val
  fin_cases a
  · show 0 + 1 * _ = _; omega
  · show 0 + 1 * _ = _; omega

theorem wp_sumTail (c : Dev nD) (arg4 : Memref sig .tc .vmem S128x2048 .f32) (arg5 : Memref sig .tc .vmem S1x2048 .f32) (arg7 arg10 : Memref sig .tc .vmem S128x2048 .f32)
    (X4 Y D : S128x2048.Idx → Elt F .f32) (fg : S1x2048.Idx → Elt F .f32) {Q : PUnit → sProp 𝕄} :
    iprop(owns (c : Thread nD τ) arg4 fullShare X4 ∗ owns (c : Thread nD τ) arg5 fullShare fg ∗ owns (c : Thread nD τ) arg7 fullShare D
        ∗ owns (c : Thread nD τ) arg10 fullShare Y)
      ⊢ iprop((iprop(owns (c : Thread nD τ) arg4 fullShare X4 ∗ owns (c : Thread nD τ) arg5 fullShare fg
            ∗ owns (c : Thread nD τ) arg7 fullShare (k0_pay4 (F := F) X4 Y fg) ∗ owns (c : Thread nD τ) arg10 fullShare Y) -∗ Q ⟨⟩)
          -∗ wpP c (sumTail arg4 arg5 arg7 arg10) Q) := by
  unfold sumTail
  rw [wpP_bind]
  iintro ⟨H4, H5, H7, H10⟩ Hk
  iapply (wp_loadE c arg4 fullShare (Rect.unit (s := S128x2048) ![0, 0] S128x2048.size inb_S128x2048_S128x2048_0_0) (View.loadsAt_vmem h_S128x2048) X4 X4
    (funext fun y => congrArg X4 (embWide y))) $$ [H4]
  · iexact H4
  iintro H4
  rw [wpP_bind]
  iapply (wp_loadE c arg10 fullShare (Rect.unit (s := S128x2048) ![0, 0] S128x2048.size inb_S128x2048_S128x2048_0_0) (View.loadsAt_vmem h_S128x2048) Y Y
    (funext fun y => congrArg Y (embWide y))) $$ [H10]
  · iexact H10
  iintro H10
  rw [wpP_bind]
  iapply (wp_loadE c arg5 fullShare (Rect.unit (s := S1x2048) ![0, 0] S1x2048.size inb_S1x2048_S1x2048_0_0) (View.loadsAt_vmem h_S1x2048) fg fg
    (funext fun y => congrArg fg (embRow y))) $$ [H5]
  · iexact H5
  iintro H5
  rw [wpP_bind]
  iapply (wp_loadE c arg7 fullShare (Rect.unit (s := S128x2048) ![0, 0] S128x2048.size inb_S128x2048_S128x2048_0_0) (View.loadsAt_vmem h_S128x2048) D D
    (funext fun y => congrArg D (embWide y))) $$ [H7]
  · iexact H7
  iintro H7
  rw [wpP_bind]
  iapply (wp_storeO c arg7 (Rect.unit (s := S128x2048) ![0, 0] S128x2048.size inb_S128x2048_S128x2048_0_0) (k0_pay4 (F := F) X4 Y fg) Finset.univ
    (View.stores_vmem_bits_univ h_S128x2048 rfl) (.inl rfl) D) $$ [H7]
  · iexact H7
  iintro H7
  rw [wpP_pure]
  rw [show upd D (Rect.unit (s := S128x2048) ![0, 0] S128x2048.size inb_S128x2048_S128x2048_0_0) (k0_pay4 (F := F) X4 Y fg) Finset.univ = k0_pay4 (F := F) X4 Y fg from
    funext fun x => updFull D (Rect.unit (s := S128x2048) ![0, 0] S128x2048.size inb_S128x2048_S128x2048_0_0) _ x x (embWide x)]
  imodintro
  iapply Hk
  isplitl [H4]; · iexact H4
  isplitl [H5]; · iexact H5
  isplitl [H7]; · iexact H7
  iexact H10

section step
variable (c : Dev nD) (i : grid0.Coords) (arg1 : Memref sig .tc .smem S1x152x128 .i32) (harg1 : arg1.IsWhole) (arg2 : Memref sig .tc .vmem S128x128 .f32) (harg2 : arg2.IsWhole) (arg3 : Memref sig .tc .vmem S128x2048 .f32) (harg3 : arg3.IsWhole) (arg4 : Memref sig .tc .vmem S128x2048 .f32) (harg4 : arg4.IsWhole) (arg5 : Memref sig .tc .vmem S1x2048 .f32) (harg5 : arg5.IsWhole) (arg6 : Memref sig .tc .hbm S262144x128 .i32) (harg6 : arg6.IsWhole) (arg7 : Memref sig .tc .vmem S128x2048 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x2048 .f32) (harg10 : arg10.IsWhole) (arg11 : DmaSems sig S4) (arg12 : Memref sig .tc .vmem S17408x128 .i32) (harg12 : arg12.IsWhole) (arg13 : Memref sig .tc .vmem S17408x128 .i32) (harg13 : arg13.IsWhole) (arg14 : Memref sig .tc .vmem S17408x128 .i32) (harg14 : arg14.IsWhole) (arg15 : Memref sig .tc .vmem S17408x128 .i32) (harg15 : arg15.IsWhole)
  (W : Buf (Elt F) (arg6.view.loc (c : Thread nD τ))) (q0 qa qb qc : PosShare TreeShare) (q1 : PosShare TreeShare)
  (f1 : Buf (Elt F) (arg1.view.loc (c : Thread nD τ))) (ex : Fin 152 → Fin 128 → Fin 16384)
  (hv : ∀ t sl, (arg1.view.read (Elt F) f1 (ix3 (0 : Fin 1) t sl) : BitVec 32).toNat = (ex t sl).val)
  (X3 : S128x2048.Idx → Elt F .f32) (G : S128x128.Idx → Elt F .f32)
  (X4 : S128x2048.Idx → Elt F .f32) (fg : S1x2048.Idx → Elt F .f32)
  (hu12 : arg12.view.ref.dmaCredit S16384x128 .i32 = unitsOf arg12 * 1024) (hp12 : 0 < unitsOf arg12)
  (hu13 : arg13.view.ref.dmaCredit S16384x128 .i32 = unitsOf arg13 * 1024) (hp13 : 0 < unitsOf arg13)
  (hu14 : arg14.view.ref.dmaCredit S16384x128 .i32 = unitsOf arg14 * 1024) (hp14 : 0 < unitsOf arg14)
  (hu15 : arg15.view.ref.dmaCredit S16384x128 .i32 = unitsOf arg15 * 1024) (hp15 : 0 < unitsOf arg15)

/-- A step's mixture. -/
def Ymix (T : S262144x128.Idx → Elt F .i32) (ex : Fin 152 → Fin 128 → Fin 16384) (X3 : S128x2048.Idx → Elt F .f32) (G : S128x128.Idx → Elt F .f32) :
    S128x2048.Idx → Elt F .f32 :=
  fun x => yv T ex X3 G (x 0 : Fin 128) (ix2 (0 : Fin 1) (x 1 : Fin 2048))

theorem yin_full (T : S262144x128.Idx → Elt F .i32) (Y : S128x2048.Idx → Elt F .f32) (h : Yin T ex X3 G 128 Y) : Y = Ymix T ex X3 G := by
  funext x
  have e : x = ix2 (x 0 : Fin 128) (x 1 : Fin 2048) := by funext a; fin_cases a <;> rfl
  rw [e]
  exact h (x 0 : Fin 128) (x 1 : Fin 2048) (x 0 : Fin 128).isLt

/-- The first three sets at a point's start and at its end. -/
abbrev Sets3 (idle : Prop) [Decidable idle] (a : ℕ) (ha : a ≤ 16) : sProp 𝕄 :=
  if idle then Idle3 c arg6 arg11 arg12 arg13 arg14 W q0 qa qb else Full3 c arg6 arg11 arg12 arg13 arg14 W q0 qa qb ex a ha

include harg12 harg13 harg14 hu12 hp12 hu13 hp13 hu14 hp14 in
/-- After the main loop. -/
theorem wp_afterLoop (X7 Y : S128x2048.Idx → Elt F .f32) {Q : PUnit → sProp 𝕄} :
    iprop(owns (c : Thread nD τ) arg4 fullShare X4 ∗ owns (c : Thread nD τ) arg5 fullShare fg ∗ owns (c : Thread nD τ) arg7 fullShare X7
        ∗ owns (c : Thread nD τ) arg10 fullShare Y ∗ Full3 c arg6 arg11 arg12 arg13 arg14 W q0 qa qb ex 16 (by omega)
        ∗ (∃ Wt, owes (c : Thread nD τ) 0 Wt))
      ⊢ iprop((iprop(owns (c : Thread nD τ) arg4 fullShare X4 ∗ owns (c : Thread nD τ) arg5 fullShare fg
            ∗ owns (c : Thread nD τ) arg7 fullShare (k0_pay4 (F := F) X4 Y fg) ∗ owns (c : Thread nD τ) arg10 fullShare Y
            ∗ Sets3 c arg6 arg11 arg12 arg13 arg14 W q0 qa qb ex ((i 0).val = 127) 16 (by omega)
            ∗ (∃ Wt, owes (c : Thread nD τ) 0 Wt)) -∗ Q ⟨⟩)
          -∗ wpP c (afterLoop (F := F) i arg4 arg5 arg7 arg10 arg11 arg12 arg13 arg14) Q) := by
  unfold afterLoop
  by_cases h : isLast i = 1#1
  · rw [if_pos h, wpP_bind, wpP_lift]
    have h' : (i 0).val = 127 := (cond2_iff i).mp h
    simp only [Sets3, if_pos h']
    iintro ⟨H4, H5, H7, H10, ⟨HA, HB, HC⟩, ⟨%Wt, HO⟩⟩ Hk
    iapply (wp_wait c arg12 harg12 arg6 W q0 (sem0 arg11) _ hu12 hp12 rfl) $$ [HA HO]
    · isplitl [HA]; · iexact HA
      iexact HO
    iintro %fa ⟨%_, Ha, Hat, Has, HO⟩
    rw [wpP_ret]
    imodintro
    rw [wpP_bind, wpP_lift]
    iapply (wp_wait c arg13 harg13 arg6 W qa (sem1 arg11) _ hu13 hp13 rfl) $$ [HB HO]
    · isplitl [HB]; · iexact HB
      iexact HO
    iintro %fb ⟨%_, Hb, Hbt, Hbs, HO⟩
    rw [wpP_ret]
    imodintro
    rw [wpP_bind, wpP_lift]
    iapply (wp_wait c arg14 harg14 arg6 W qb (sem2 arg11) _ hu14 hp14 rfl) $$ [HC HO]
    · isplitl [HC]; · iexact HC
      iexact HO
    iintro %fc ⟨%_, Hc, Hct, Hcs, HO⟩
    rw [wpP_ret]
    imodintro
    iapply (wp_sumTail c arg4 arg5 arg7 arg10 X4 Y X7 fg) $$ [H4 H5 H7 H10]
    · isplitl [H4]; · iexact H4
      isplitl [H5]; · iexact H5
      isplitl [H7]; · iexact H7
      iexact H10
    iintro ⟨H4, H5, H7, H10⟩
    iapply Hk
    isplitl [H4]; · iexact H4
    isplitl [H5]; · iexact H5
    isplitl [H7]; · iexact H7
    isplitl [H10]; · iexact H10
    isplitr [HO]
    · unfold Idle3 Idle
      isplitl [Ha Hat Has]
      · isplitl [Ha]; · iexists _; iexact Ha
        isplitl [Has]; · iexact Has
        iexact Hat
      isplitl [Hb Hbt Hbs]
      · isplitl [Hb]; · iexists _; iexact Hb
        isplitl [Hbs]; · iexact Hbs
        iexact Hbt
      isplitl [Hc]; · iexists _; iexact Hc
      isplitl [Hcs]; · iexact Hcs
      iexact Hct
    iexists _; iexact HO
  · rw [if_neg h]
    have h' : ¬ (i 0).val = 127 := fun e => h ((cond2_iff i).mpr e)
    simp only [Sets3, if_neg h']
    iintro ⟨H4, H5, H7, H10, HS, HO⟩ Hk
    iapply (wp_sumTail c arg4 arg5 arg7 arg10 X4 Y X7 fg) $$ [H4 H5 H7 H10]
    · isplitl [H4]; · iexact H4
      isplitl [H5]; · iexact H5
      isplitl [H7]; · iexact H7
      iexact H10
    iintro ⟨H4, H5, H7, H10⟩
    iapply Hk
    isplitl [H4]; · iexact H4
    isplitl [H5]; · iexact H5
    isplitl [H7]; · iexact H7
    isplitl [H10]; · iexact H10
    isplitl [HS]; · iexact HS
    iexact HO

include hv hu12 hp12 hu13 hp13 hu14 hp14 hu15 hp15 in
/-- From the main loop on. -/
theorem wp_fromLoop {Q : PUnit → sProp 𝕄} :
    iprop((arg1.view.loc (c : Thread nD τ) ↦{q1} f1) ∗ owns (c : Thread nD τ) arg2 fullShare G ∗ owns (c : Thread nD τ) arg3 fullShare X3
        ∗ owns (c : Thread nD τ) arg4 fullShare X4 ∗ owns (c : Thread nD τ) arg5 fullShare fg ∗ (∃ D, owns (c : Thread nD τ) arg7 fullShare D)
        ∗ (∃ D, owns (c : Thread nD τ) arg8 fullShare D) ∗ (∃ D, owns (c : Thread nD τ) arg9 fullShare D) ∗ (∃ D, owns (c : Thread nD τ) arg10 fullShare D)
        ∗ Full3 c arg6 arg11 arg12 arg13 arg14 W q0 qa qb ex 0 (by omega) ∗ Idle c arg15 arg6 W qc (sem3 arg11)
        ∗ (∃ Wt, owes (c : Thread nD τ) 0 Wt))
      ⊢ iprop((iprop((arg1.view.loc (c : Thread nD τ) ↦{q1} f1) ∗ owns (c : Thread nD τ) arg2 fullShare G ∗ owns (c : Thread nD τ) arg3 fullShare X3
            ∗ owns (c : Thread nD τ) arg4 fullShare X4 ∗ owns (c : Thread nD τ) arg5 fullShare fg
            ∗ owns (c : Thread nD τ) arg7 fullShare (k0_pay4 (F := F) X4 (Ymix (arg6.view.read (Elt F) W) ex X3 G) fg)
            ∗ (∃ D, owns (c : Thread nD τ) arg8 fullShare D) ∗ (∃ D, owns (c : Thread nD τ) arg9 fullShare D) ∗ (∃ D, owns (c : Thread nD τ) arg10 fullShare D)
            ∗ Sets3 c arg6 arg11 arg12 arg13 arg14 W q0 qa qb ex ((i 0).val = 127) 16 (by omega) ∗ Idle c arg15 arg6 W qc (sem3 arg11)
            ∗ (∃ Wt, owes (c : Thread nD τ) 0 Wt)) -∗ Q ⟨⟩)
          -∗ wpP c (fromLoop (F := F) i arg1 harg1 arg2 harg2 arg3 harg3 arg4 harg4 arg5 harg5 arg6 harg6 arg7 harg7 arg8 harg8 arg9 harg9 arg10 harg10 arg11 arg12 harg12 arg13 harg13 arg14 harg14 arg15 harg15) Q) := by
  unfold fromLoop
  rw [wpP_bind]
  iintro ⟨H1, H2, H3, H4, H5, ⟨%D7, H7⟩, ⟨%D8, H8⟩, ⟨%D9, H9⟩, ⟨%D10, H10⟩, HS, HD, ⟨%Wt, HO⟩⟩ Hk
  iapply (wp_ld128 c arg8 D8) $$ [H8]
  · iexact H8
  iintro H8
  rw [wpP_bind]
  iapply (wp_st128 c arg8 D8 _) $$ [H8]
  · iexact H8
  iintro H8
  rw [wpP_bind]
  iapply (wp_loop c k0_t5_loop k0_t5_ok ⟨⟩ _ (fun n _ => iprop(∃ hn : n ≤ 4,
    Trip c arg1 arg2 arg3 arg6 arg8 arg9 arg10 arg11 arg12 arg13 arg14 arg15 W q0 qa qb qc q1 f1 ex X3 G n hn)) ?_) $$ [H1 H2 H3 H8 H9 H10 HS HD HO]
  · intro n _
    have hn : n.val < 4 := lt_of_trips n 4 rfl
    iintro ⟨%_, H⟩
    iapply (wp_trip c i arg1 harg1 arg2 harg2 arg3 harg3 arg4 harg4 arg5 harg5 arg6 harg6 arg7 harg7 arg8 harg8 arg9 harg9 arg10 harg10 arg11 arg12 harg12 arg13 harg13 arg14 harg14 arg15 harg15 W q0 qa qb qc q1 f1 ex hv X3 G hu12 hp12 hu13 hp13 hu14 hp14 hu15 hp15 n hn) $$ [H]
    · iexact H
    iintro H
    iexists _
    iexact H
  · iexists (Nat.zero_le 4)
    isplitl [H1 H2 H3 H8 H9 H10 HO]
    · isplitl [H1]; · iexact H1
      isplitl [H2]; · iexact H2
      isplitl [H3]; · iexact H3
      isplitl [H8]
      · rw [show Hst (arg6.view.read (Elt F) W) ex X3 (128 * (4 * 0)) = k0_pay1 (F := F) from funext fun x => if_neg (by omega)]
        iexact H8
      isplitl [H9]; · iexists _; iexact H9
      isplitl [H10]
      · iexists D10
        isplitr
        · ipureintro; exact fun l j h => absurd h (by omega)
        iexact H10
      iexists _; iexact HO
    isplitl [HS]; · iexact HS
    iexact HD
  iintro %_ ⟨%_, ⟨H1, H2, H3, H8, H9, ⟨%Y, %hY, H10⟩, HO⟩, HS, HD⟩
  have eY : Y = Ymix (arg6.view.read (Elt F) W) ex X3 G := yin_full ex X3 G _ Y hY
  rw [eY]
  iapply (wp_afterLoop c i arg4 arg5 arg6 arg7 arg10 arg11 arg12 harg12 arg13 harg13 arg14 harg14 (W := W) (q0 := q0) (qa := qa) (qb := qb) (ex := ex) (X4 := X4) (fg := fg) (hu12 := hu12) (hp12 := hp12) (hu13 := hu13) (hp13 := hp13) (hu14 := hu14) (hp14 := hp14) (arg15 := arg15) (X7 := D7)) $$ [H4 H5 H7 H10 HS HO]
  · isplitl [H4]; · iexact H4
    isplitl [H5]; · iexact H5
    isplitl [H7]; · iexact H7
    isplitl [H10]; · iexact H10
    isplitl [HS]; · iexact HS
    iexact HO
  iintro ⟨H4, H5, H7, H10, HS, HO⟩
  iapply Hk
  isplitl [H1]; · iexact H1
  isplitl [H2]; · iexact H2
  isplitl [H3]; · iexact H3
  isplitl [H4]; · iexact H4
  isplitl [H5]; · iexact H5
  isplitl [H7]; · iexact H7
  isplitl [H8]; · iexists _; iexact H8
  isplitl [H9]; · iexact H9
  isplitl [H10]; · iexists _; iexact H10
  isplitl [HS]; · iexact HS
  isplitl [HD]; · iexact HD
  iexact HO

/-- What a point of the grid takes and gives back, but for the result's block. -/
abbrev Around (idle : Prop) [Decidable idle] (a : ℕ) (ha : a ≤ 16) (H7 : sProp 𝕄) : sProp 𝕄 :=
  iprop((arg1.view.loc (c : Thread nD τ) ↦{q1} f1) ∗ owns (c : Thread nD τ) arg2 fullShare G ∗ owns (c : Thread nD τ) arg3 fullShare X3
    ∗ owns (c : Thread nD τ) arg4 fullShare X4 ∗ owns (c : Thread nD τ) arg5 fullShare fg ∗ H7
    ∗ (∃ D, owns (c : Thread nD τ) arg8 fullShare D) ∗ (∃ D, owns (c : Thread nD τ) arg9 fullShare D) ∗ (∃ D, owns (c : Thread nD τ) arg10 fullShare D)
    ∗ Sets3 c arg6 arg11 arg12 arg13 arg14 W q0 qa qb ex idle a ha ∗ Idle c arg15 arg6 W qc (sem3 arg11)
    ∗ (∃ Wt, owes (c : Thread nD τ) 0 Wt))

include hv hu12 hp12 hu13 hp13 hu14 hp14 hu15 hp15 in
/-- A point of the grid. -/
theorem wp_point {Q : PUnit → sProp 𝕄} :
    Around c arg1 arg2 arg3 arg4 arg5 arg6 arg8 arg9 arg10 arg11 arg12 arg13 arg14 arg15 W q0 qa qb qc q1 f1 ex X3 G X4 fg ((i 0).val = 0) 0 (by omega)
        iprop(∃ D, owns (c : Thread nD τ) arg7 fullShare D)
      ⊢ iprop((Around c arg1 arg2 arg3 arg4 arg5 arg6 arg8 arg9 arg10 arg11 arg12 arg13 arg14 arg15 W q0 qa qb qc q1 f1 ex X3 G X4 fg ((i 0).val = 127) 16 (by omega)
            (owns (c : Thread nD τ) arg7 fullShare (k0_pay4 (F := F) X4 (Ymix (arg6.view.read (Elt F) W) ex X3 G) fg)) -∗ Q ⟨⟩)
          -∗ wpP c (cc0_peer_mix (F := F) i arg1 harg1 arg2 harg2 arg3 harg3 arg4 harg4 arg5 harg5 arg6 harg6 arg7 harg7 arg8 harg8 arg9 harg9 arg10 harg10 arg11 arg12 harg12 arg13 harg13 arg14 harg14 arg15 harg15) Q) := by
  rw [cc0_peer_mix_eq_skeleton, body_eq]
  by_cases h : k0_cond1 i = 1#1
  · have h' : (i 0).val = 0 := (cond1_iff i).mp h
    rw [dif_pos h, wpP_bind]
    unfold Around
    rw [Sets3, if_pos h']
    iintro ⟨H1, H2, H3, H4, H5, H7, H8, H9, H10, HS, HD, HO⟩ Hk
    iapply (wp_first c i arg1 harg1 arg2 harg2 arg3 harg3 arg4 harg4 arg5 harg5 arg6 harg6 arg7 harg7 arg8 harg8 arg9 harg9 arg10 harg10 arg11 arg12 harg12 arg13 harg13 arg14 harg14 arg15 harg15 W q0 qa qb q1 f1 ex hv h) $$ [H1 HS]
    · isplitl [H1]; · iexact H1
      iexact HS
    iintro ⟨H1, HS⟩
    iapply (wp_fromLoop c i arg1 harg1 arg2 harg2 arg3 harg3 arg4 harg4 arg5 harg5 arg6 harg6 arg7 harg7 arg8 harg8 arg9 harg9 arg10 harg10 arg11 arg12 harg12 arg13 harg13 arg14 harg14 arg15 harg15 W q0 qa qb qc q1 f1 ex hv X3 G X4 fg hu12 hp12 hu13 hp13 hu14 hp14 hu15 hp15) $$ [H1 H2 H3 H4 H5 H7 H8 H9 H10 HS HD HO]
    · isplitl [H1]; · iexact H1
      isplitl [H2]; · iexact H2
      isplitl [H3]; · iexact H3
      isplitl [H4]; · iexact H4
      isplitl [H5]; · iexact H5
      isplitl [H7]; · iexact H7
      isplitl [H8]; · iexact H8
      isplitl [H9]; · iexact H9
      isplitl [H10]; · iexact H10
      isplitl [HS]; · iexact HS
      isplitl [HD]; · iexact HD
      iexact HO
    iexact Hk
  · have h' : ¬ (i 0).val = 0 := fun e => h ((cond1_iff i).mpr e)
    rw [dif_neg h]
    unfold Around
    rw [Sets3, if_neg h']
    exact wp_fromLoop c i arg1 harg1 arg2 harg2 arg3 harg3 arg4 harg4 arg5 harg5 arg6 harg6 arg7 harg7 arg8 harg8 arg9 harg9 arg10 harg10 arg11 arg12 harg12 arg13 harg13 arg14 harg14 arg15 harg15 W q0 qa qb qc q1 f1 ex hv X3 G X4 fg hu12 hp12 hu13 hp13 hu14 hp14 hu15 hp15

end step

end Cert.KernelIdeal.Peer
-- ==== Proof.Peer.Index.lean ====
/-
  The words the launch reads its rows by: the host's padded array of expert numbers, block by block.
-/
module

public import proofs.«01_k».proof.Proof.Peer.Step
public import proofs.«01_k».proof.Proof.Gen.KernelIdeal.Frame
public import Idealize.ShloMosaic.Lib.Pipeline.Value

@[expose] public section

set_option maxRecDepth 65536

noncomputable section

namespace Cert.KernelIdeal.Peer

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Transfers (batchBody batch_creditUpdate_with Batch batch_alloc wp_waitBatchAll)

variable {F : FTy → Type} [FloatOps F]

/-- The proof's memory: the pipeline library's beside the counters of the copies. -/
local notation "𝕄" => MT nD τ sig Unit (Elt F) ℕ (Pipeline.UD sig nD τ) ℕ

variable (m : (ℓ : Loc nD τ sig) → Buf (Elt F) ℓ)

/-- A point of the grid is its coordinate. -/
theorem coord_val (t : Fin cfg0.N) : ((grid0.coords t) 0).val = t.val := by
  have h := Pipeline.Grid.coords_val (G := grid0) t 0 (S := 1) (B := 128) (by decide) rfl
  have ht : t.val < 128 := t.isLt
  rw [h]; omega

/-- The expert slot `s` of token `T` picks. -/
def pick (c : Dev nD) (s : Fin 128) (T : Fin 16384) : BitVec 32 := (m ((c : Thread nD τ).loc main_arg0) : S128x16384.Idx → BitVec 32) (ix2 s T)

/-- The padded array's word for slot `s` of row `r` of block `t`: the token's, or past the last token zero. -/
def word (c : Dev nD) (t : Fin 128) (r : Fin 152) (s : Fin 128) : BitVec 32 :=
  if h : 128 * t.val + r.val < 16384 then pick m c s ⟨128 * t.val + r.val, h⟩ else 0#32

theorem V_v8 (c : Dev nD) (t : Fin 128) (r : Fin 152) (s : Fin 128) :
    (Gen.V m c main_v8 : S128x152x128.Idx → BitVec 32) (ix3 t r s) = word m c t r s := by
  have hbase : ∀ (T : Fin 16384), transpose S16384x128 [1, 0] (m (c, Proc.tc.devRef main_arg0)) transposes_S128x16384_S16384x128_1_0 (ix2 T s)
      = pick m c s T := fun T => transpose_apply _ _ _ _ (ix2 s T) fun b => by fin_cases b <;> rfl
  have e : (Gen.V m c main_v8 : S128x152x128.Idx → BitVec 32) = concatenate S128x152x128 1
      [⟨S128x128x128, shapeCast S128x128x128 (transpose S16384x128 [1, 0] (m (c, Proc.tc.devRef main_arg0)) transposes_S128x16384_S16384x128_1_0)
          shapeCasts_S16384x128_S128x128x128⟩,
        ⟨S128x24x128, extractStridedSlice S128x24x128 ![0, 0, 0] (shapeCast S128x128x128 (extractStridedSlice S16384x128 ![128, 0]
            (concatenate S16512x128 0 [⟨S16384x128, transpose S16384x128 [1, 0] (m (c, Proc.tc.devRef main_arg0)) transposes_S128x16384_S16384x128_1_0⟩,
              ⟨S128x128, broadcastInDim S128x128 ![] bcast_S_S128x128 (constantI S_ 32 0#32)⟩] concatenates_S16384x128_S128x128_S16512x128_d0)
            slices_S16512x128_S16384x128_128_0) shapeCasts_S16384x128_S128x128x128) slices_S128x128x128_S128x24x128_0_0_0⟩]
      concatenates_S128x128x128_S128x24x128_S128x152x128_d1 := by
    show StableHlo.after hostOps0 _ (Proc.devRef .tc main_v8) = _
    after_results
    rfl
  rw [e]
  unfold word
  have ht := t.isLt; have hr := r.isLt; have hs := s.isLt
  by_cases h : r.val < 128
  · rw [dif_pos (by omega)]
    refine (concatenate_pair_apply_left (t := S128x152x128) (s₁ := S128x128x128) (s₂ := S128x24x128) (1 : Fin 3) _ _ _ _ rfl (ix3 t (⟨r.val, h⟩ : Fin 128) s) (fun b => by fin_cases b <;> rfl)).trans ?_
    refine (shapeCast_apply (s := S16384x128) (t := S128x128x128) _ _ _ (ix2 (⟨128 * t.val + r.val, by omega⟩ : Fin 16384) s) (by
      rw [Shape.rowMajor_val_two, Shape.rowMajor_val_three]
      show (128 * t.val + r.val) * 128 + s.val = (t.val * 128 + r.val) * 128 + s.val
      omega)).trans ?_
    exact hbase _
  · refine (concatenate_pair_apply_right (t := S128x152x128) (s₁ := S128x128x128) (s₂ := S128x24x128) (1 : Fin 3) _ _ _ _ rfl rfl (ix3 t (⟨r.val - 128, by omega⟩ : Fin 24) s)
      (fun b hb => by fin_cases b <;> first | exact absurd rfl hb | rfl) (by show r.val - 128 + 128 = r.val; omega)).trans ?_
    refine (extractStridedSlice_apply (s := S128x128x128) (t := S128x24x128) _ _ _ _ (ix3 t (⟨r.val - 128, by omega⟩ : Fin 128) s) (fun b => by
      fin_cases b
      · show t.val = 0 + t.val; omega
      · show r.val - 128 = 0 + (r.val - 128); omega
      · show s.val = 0 + s.val; omega)).trans ?_
    refine (shapeCast_apply (s := S16384x128) (t := S128x128x128) _ _ _ (ix2 (⟨128 * t.val + (r.val - 128), by omega⟩ : Fin 16384) s) (by
      rw [Shape.rowMajor_val_two, Shape.rowMajor_val_three]
      show (128 * t.val + (r.val - 128)) * 128 + s.val = (t.val * 128 + (r.val - 128)) * 128 + s.val
      omega)).trans ?_
    refine (extractStridedSlice_apply (s := S16512x128) (t := S16384x128) _ _ _ _ (ix2 (⟨128 * t.val + r.val, by omega⟩ : Fin 16512) s) (fun b => by
      fin_cases b
      · show 128 * t.val + r.val = 128 + (128 * t.val + (r.val - 128)); omega
      · show s.val = 0 + s.val; omega)).trans ?_
    by_cases h2 : 128 * t.val + r.val < 16384
    · rw [dif_pos h2]
      refine (concatenate_pair_apply_left (t := S16512x128) (s₁ := S16384x128) (s₂ := S128x128) (0 : Fin 2) _ _ _ _ rfl (ix2 (⟨128 * t.val + r.val, h2⟩ : Fin 16384) s) (fun b => by fin_cases b <;> rfl)).trans ?_
      exact hbase _
    · rw [dif_neg h2]
      refine (concatenate_pair_apply_right (t := S16512x128) (s₁ := S16384x128) (s₂ := S128x128) (0 : Fin 2) _ _ _ _ rfl rfl (ix2 (⟨128 * t.val + r.val - 16384, by omega⟩ : Fin 128) s)
        (fun b hb => by fin_cases b <;> first | exact absurd rfl hb | rfl) (by show 128 * t.val + r.val - 16384 + 16384 = 128 * t.val + r.val; omega)).trans ?_
      rfl

theorem index0 (t : Fin cfg0.N) : win0_0.index t 0 = t.val ∧ win0_0.index t 1 = 0 ∧ win0_0.index t 2 = 0 := by
  refine ⟨?_, rfl, rfl⟩
  show (BitVec.ofNat 32 ((grid0.coords t) 0).val).toNat = t.val
  have ht : t.val < 128 := t.isLt
  rw [coord_val, BitVec.toNat_ofNat]; omega

/-- Block `t` of the padded array. -/
theorem iblk0_apply (c : Dev nD) (t : Fin cfg0.N) (r : Fin 152) (s : Fin 128) :
    (iblk m c 0 t : S1x152x128.Idx → BitVec 32) (ix3 (0 : Fin 1) r s) = word m c (⟨t.val, t.isLt⟩ : Fin 128) r s := by
  rw [← V_v8]
  unfold iblk
  rw [View.read_apply]
  show (Gen.V m c main_v8 : S128x152x128.Idx → BitVec 32) _ = _
  congr 1
  funext a
  apply Fin.ext
  have hi := index0 t
  match a with
  | ⟨0, _⟩ => show win0_0.index t 0 * 1 + 1 * 0 = t.val; rw [hi.1]; omega
  | ⟨1, _⟩ => show win0_0.index t 1 * 152 + 1 * r.val = r.val; rw [hi.2.1]; omega
  | ⟨2, _⟩ => show win0_0.index t 2 * 128 + 1 * s.val = s.val; rw [hi.2.2]; omega

/-- The rows block `t` asks for. -/
def exAt (c : Dev nD) (t : ℕ) : Fin 152 → Fin 128 → Fin 16384 := fun r s =>
  if h : 128 * t + r.val < 16384 then ⟨(pick m c s ⟨128 * t + r.val, h⟩).toNat % 16384, Nat.mod_lt _ (by decide)⟩ else 0

/-- A step's last three groups are the next step's first three. -/
theorem exAt_next (c : Dev nD) (t : ℕ) (j : Fin 3) :
    grpE (exAt m c t) ⟨16 + j.val, by omega⟩ = grpE (exAt m c (t + 1)) ⟨j.val, by omega⟩ := by
  funext b
  have hb := b.isLt
  unfold grpE exAt
  have e : 128 * t + (8 * (16 + j.val) + b.val / 128) = 128 * (t + 1) + (8 * j.val + b.val / 128) := by omega
  by_cases h : 128 * t + (8 * (16 + j.val) + b.val / 128) < 16384
  · have h' : 128 * (t + 1) + (8 * j.val + b.val / 128) < 16384 := by omega
    rw [dif_pos h, dif_pos h']
    simp only [e]
  · have h' : ¬ 128 * (t + 1) + (8 * j.val + b.val / 128) < 16384 := by omega
    rw [dif_neg h, dif_neg h']

/-- Every expert number names a row of the table. -/
def InTable : Prop := ∀ (c : Dev nD) (s : Fin 128) (T : Fin 16384), (pick m c s T).toNat < 16384

theorem exAt_word (hm : InTable m) (c : Dev nD) (t : Fin cfg0.N) (r : Fin 152) (s : Fin 128) :
    ((iblk m c 0 t : S1x152x128.Idx → BitVec 32) (ix3 (0 : Fin 1) r s)).toNat = (exAt m c t.val r s).val := by
  rw [iblk0_apply]
  unfold word exAt
  by_cases h : 128 * t.val + r.val < 16384
  · rw [dif_pos h, dif_pos h]
    exact (Nat.mod_eq_of_lt (hm c s _)).symm
  · rw [dif_neg h, dif_neg h]
    rfl

end Cert.KernelIdeal.Peer
-- ==== Proof.Peer.Run.lean ====
/-
  The launch: what is held between two points of the grid, the body at a point, the run of the program.
-/
module

public import proofs.«01_k».proof.Proof.Peer.Index

@[expose] public section

set_option maxRecDepth 65536

noncomputable section

namespace Cert.KernelIdeal.Peer

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Pipeline (Dat Cfg Window BodyObligation cellOf)
open Idealize.ShloMosaic.Transfers (shareTok shareDrop pointsTo_toks_split pointsTo_toks_join)

variable {F : FTy → Type} [FloatOps F]

/-- The proof's memory: the pipeline library's beside the counters of the copies. -/
local notation "𝕄" => MT nD τ sig Unit (Elt F) ℕ (Pipeline.UD sig nD τ) ℕ

variable (m : (ℓ : Loc nD τ sig) → Buf (Elt F) ℓ) (ρ : Dev nD → PrngReg)

/-! ## What is held between two points -/

/-- The four sets' semaphores. -/
abbrev osem0 : Fin 4 → SemLoc sig := fun j => (![SemLoc.dma 11, SemLoc.dma 12, SemLoc.dma 13, SemLoc.dma 14] : Fin 4 → SemLoc sig) j
theorem ownSemFacts0 : Pipeline.OwnSemFacts spec0 osem0 := by decide

/-- The table: the one argument that the body reads by copies of its own. -/
abbrev H0 : Finset (Ref sig .tc) := {main_arg5}
theorem H0_sub : H0 ⊆ Pipeline.restRefs sig spec0 := by decide

theorem sem0_eq : sem0 cc0_scratch3 = (11 : DmaSem sig) := rfl
theorem sem1_eq : sem1 cc0_scratch3 = (12 : DmaSem sig) := rfl
theorem sem2_eq : sem2 cc0_scratch3 = (13 : DmaSem sig) := rfl
theorem sem3_eq : sem3 cc0_scratch3 = (14 : DmaSem sig) := rfl

/-- The table's memref, and the buffers of the body. -/
abbrev tabM : Memref sig .tc .hbm S262144x128 .i32 := Memref.whole main_arg5
abbrev hidM : Memref sig .tc .vmem S128x128 .f32 := Memref.whole cc0_scratch0
abbrev cofM : Memref sig .tc .vmem S128x128 .f32 := Memref.whole cc0_scratch1
abbrev accM : Memref sig .tc .vmem S128x2048 .f32 := Memref.whole cc0_scratch2
abbrev bufA : Memref sig .tc .vmem S17408x128 .i32 := Memref.whole cc0_scratch4
abbrev bufB : Memref sig .tc .vmem S17408x128 .i32 := Memref.whole cc0_scratch5
abbrev bufC : Memref sig .tc .vmem S17408x128 .i32 := Memref.whole cc0_scratch6
abbrev bufD : Memref sig .tc .vmem S17408x128 .i32 := Memref.whole cc0_scratch7

/-- The share of the table that set `j` reads by. -/
abbrev qs (j : Fin 4) : PosShare TreeShare := shareTok fullShare 4 j

/-- What stays of a set's share when its 1024 copies have theirs. -/
def Rest (c : Dev nD) (q : PosShare TreeShare) : sProp 𝕄 :=
  iprop(tabM.view.loc (c : Thread nD τ) ↦{shareDrop q 1024} (Gen.V m c main_arg5))

/-- The first three sets before point `t`: idle at the first and after the last, else full. -/
def Between (c : Dev nD) (t : ℕ) : sProp 𝕄 :=
  Sets3 c tabM cc0_scratch3 bufA bufB bufC (Gen.V m c main_arg5) (qs 0) (qs 1) (qs 2) (exAt m c t) (t = 0 ∨ t = 128) 0 (by omega)

/-- What the launch holds before point `t` (after the last for 128). -/
def Phi (c : Dev nD) (t : ℕ) : sProp 𝕄 :=
  iprop((∃ D, owns (c : Thread nD τ) hidM fullShare D) ∗ (∃ D, owns (c : Thread nD τ) cofM fullShare D) ∗ (∃ D, owns (c : Thread nD τ) accM fullShare D)
    ∗ Between m c t ∗ Idle c bufD tabM (Gen.V m c main_arg5) (qs 3) (sem3 cc0_scratch3)
    ∗ (∃ r, prngReg c r) ∗ (tabM.view.loc (c : Thread nD τ) ↦{shareDrop fullShare 4} (Gen.V m c main_arg5))
    ∗ Rest m c (qs 0) ∗ Rest m c (qs 1) ∗ Rest m c (qs 2) ∗ Rest m c (qs 3))

theorem between_start (c : Dev nD) (t : Fin cfg0.N) :
    Between m c t.val = Sets3 c tabM cc0_scratch3 bufA bufB bufC (Gen.V m c main_arg5) (qs 0) (qs 1) (qs 2) (exAt m c t.val)
      (((grid0.coords t) 0).val = 0) 0 (by omega) := by
  have ht : t.val < 128 := t.isLt
  unfold Between
  simp only [Sets3, coord_val]
  by_cases h : t.val = 0
  · rw [if_pos (Or.inl h), if_pos h]
  · rw [if_neg (by omega), if_neg h]

theorem between_end (c : Dev nD) (t : Fin cfg0.N) :
    Sets3 c tabM cc0_scratch3 bufA bufB bufC (Gen.V m c main_arg5) (qs 0) (qs 1) (qs 2) (exAt m c t.val)
      (((grid0.coords t) 0).val = 127) 16 (by omega) = Between m c (t.val + 1) := by
  have ht : t.val < 128 := t.isLt
  unfold Between
  simp only [Sets3, coord_val]
  by_cases h : t.val = 127
  · rw [if_pos h, if_pos (by omega)]
  · rw [if_neg h, if_neg (by omega)]
    have e0 : grpE (exAt m c t.val) ⟨16, by omega⟩ = grpE (exAt m c (t.val + 1)) ⟨0, by omega⟩ := exAt_next m c t.val 0
    have e1 : grpE (exAt m c t.val) ⟨16 + 1, by omega⟩ = grpE (exAt m c (t.val + 1)) ⟨0 + 1, by omega⟩ := exAt_next m c t.val 1
    have e2 : grpE (exAt m c t.val) ⟨16 + 2, by omega⟩ = grpE (exAt m c (t.val + 1)) ⟨0 + 2, by omega⟩ := exAt_next m c t.val 2
    unfold Full3
    rw [e0, e1, e2]

/-! ## Into the launch and out of it -/

/-- The 1024 shares of a set's copies. -/
def Toks (c : Dev nD) (q : PosShare TreeShare) : sProp 𝕄 :=
  bigSep Finset.univ (fun b : Fin 1024 => (tabM.view.loc (c : Thread nD τ) ↦{tk q b} (Gen.V m c main_arg5)))

/-- The table dealt out to four sets, each of 1024 copies. -/
def Dealt (c : Dev nD) : sProp 𝕄 :=
  iprop((tabM.view.loc (c : Thread nD τ) ↦{shareDrop fullShare 4} (Gen.V m c main_arg5)) ∗ (Rest m c (qs 0) ∗ Toks m c (qs 0)) ∗ (Rest m c (qs 1) ∗ Toks m c (qs 1))
    ∗ (Rest m c (qs 2) ∗ Toks m c (qs 2)) ∗ (Rest m c (qs 3) ∗ Toks m c (qs 3)))

theorem four (Ψ : Fin 4 → sProp 𝕄) : bigSep Finset.univ Ψ = iprop(Ψ 0 ∗ Ψ 1 ∗ Ψ 2 ∗ Ψ 3) :=
  bigSep_univ_eq_bigSepL [(0 : Fin 4), 1, 2, 3] (by decide) (by decide) Ψ

theorem deal (c : Dev nD) : (tabM.view.loc (c : Thread nD τ) ↦{fullShare} (Gen.V m c main_arg5) : sProp 𝕄) ⊢ Dealt m c := by
  iintro H
  ihave H := (pointsTo_toks_split fullShare 4) $$ H
  rw [four]
  icases H with ⟨HR, H0, H1, H2, H3⟩
  ihave H0 := (pointsTo_toks_split (qs 0) 1024) $$ H0
  ihave H1 := (pointsTo_toks_split (qs 1) 1024) $$ H1
  ihave H2 := (pointsTo_toks_split (qs 2) 1024) $$ H2
  ihave H3 := (pointsTo_toks_split (qs 3) 1024) $$ H3
  unfold Dealt Rest Toks
  isplitl [HR]; · iexact HR
  isplitl [H0]; · iexact H0
  isplitl [H1]; · iexact H1
  isplitl [H2]; · iexact H2
  iexact H3

theorem undeal (c : Dev nD) : Dealt m c ⊢ (tabM.view.loc (c : Thread nD τ) ↦{fullShare} (Gen.V m c main_arg5) : sProp 𝕄) := by
  unfold Dealt Rest Toks
  iintro ⟨HR, H0, H1, H2, H3⟩
  ihave H0 := (pointsTo_toks_join (qs 0) 1024) $$ H0
  ihave H1 := (pointsTo_toks_join (qs 1) 1024) $$ H1
  ihave H2 := (pointsTo_toks_join (qs 2) 1024) $$ H2
  ihave H3 := (pointsTo_toks_join (qs 3) 1024) $$ H3
  iapply (pointsTo_toks_join fullShare 4)
  rw [four]
  isplitl [HR]; · iexact HR
  isplitl [H0]; · iexact H0
  isplitl [H1]; · iexact H1
  isplitl [H2]; · iexact H2
  iexact H3

/-- What the launch is given beside its windows, spelt out. -/
theorem phiD_eq (c : Dev nD) : (Pipeline.ΦD osem0 spec0 H0 (Gen.V m) c : sProp 𝕄)
    = iprop(((∃ f : Buf (Elt F) ((c : Thread nD τ).loc cc0_scratch0), ((c : Thread nD τ).loc cc0_scratch0) ↦{fullShare} f)
        ∗ (∃ f : Buf (Elt F) ((c : Thread nD τ).loc cc0_scratch1), ((c : Thread nD τ).loc cc0_scratch1) ↦{fullShare} f)
        ∗ (∃ f : Buf (Elt F) ((c : Thread nD τ).loc cc0_scratch2), ((c : Thread nD τ).loc cc0_scratch2) ↦{fullShare} f)
        ∗ (∃ f : Buf (Elt F) ((c : Thread nD τ).loc cc0_scratch4), ((c : Thread nD τ).loc cc0_scratch4) ↦{fullShare} f)
        ∗ (∃ f : Buf (Elt F) ((c : Thread nD τ).loc cc0_scratch5), ((c : Thread nD τ).loc cc0_scratch5) ↦{fullShare} f)
        ∗ (∃ f : Buf (Elt F) ((c : Thread nD τ).loc cc0_scratch6), ((c : Thread nD τ).loc cc0_scratch6) ↦{fullShare} f)
        ∗ (∃ f : Buf (Elt F) ((c : Thread nD τ).loc cc0_scratch7), ((c : Thread nD τ).loc cc0_scratch7) ↦{fullShare} f))
      ∗ (∃ r, prngReg c r)
      ∗ (semVal ((c : Thread nD τ), .dma 11) 0 ∗ semVal ((c : Thread nD τ), .dma 12) 0 ∗ semVal ((c : Thread nD τ), .dma 13) 0 ∗ semVal ((c : Thread nD τ), .dma 14) 0)
      ∗ (((c : Thread nD τ).loc main_arg5) ↦{fullShare} (Gen.V m c main_arg5))) := by
  rw [Pipeline.ΦD_eq, scopedRest0_eq, Pipeline.ownSems0_eq_of_list c osem0 [0, 1, 2, 3] (by decide) (by decide),
    BI.bigSep_eq_bigSepL_of_eq [main_arg5] (by decide) (by decide)]
  rfl

theorem hin (c : Dev nD) : Pipeline.ΦD osem0 spec0 H0 (Gen.V m) c ⊢ Phi m c 0 := by
  rw [phiD_eq]
  unfold Phi Between
  rw [Sets3, if_pos (Or.inl rfl)]
  unfold Idle3 Idle
  rw [sem0_eq, sem1_eq, sem2_eq, sem3_eq]
  iintro ⟨⟨⟨%f0, H0⟩, ⟨%f1, H1⟩, ⟨%f2, H2⟩, HA, HB, HC, HD⟩, Hg, ⟨S0, S1, S2, S3⟩, HT⟩
  ihave HT := (deal m c) $$ HT
  unfold Dealt Toks
  icases HT with ⟨HR, ⟨R0, T0⟩, ⟨R1, T1⟩, ⟨R2, T2⟩, ⟨R3, T3⟩⟩
  isplitl [H0]; · iexists _; rw [owns_whole]; iexact H0
  isplitl [H1]; · iexists _; rw [owns_whole]; iexact H1
  isplitl [H2]; · iexists _; rw [owns_whole]; iexact H2
  isplitl [HA HB HC S0 S1 S2 T0 T1 T2]
  · isplitl [HA S0 T0]
    · isplitl [HA]; · iexact HA
      isplitl [S0]; · iexact S0
      iexact T0
    isplitl [HB S1 T1]
    · isplitl [HB]; · iexact HB
      isplitl [S1]; · iexact S1
      iexact T1
    · isplitl [HC]; · iexact HC
      isplitl [S2]; · iexact S2
      iexact T2
  isplitl [HD S3 T3]
  · isplitl [HD]; · iexact HD
    isplitl [S3]; · iexact S3
    iexact T3
  isplitl [Hg]; · iexact Hg
  isplitl [HR]; · iexact HR
  isplitl [R0]; · iexact R0
  isplitl [R1]; · iexact R1
  isplitl [R2]; · iexact R2
  iexact R3

theorem hout (c : Dev nD) : Phi m c 128 ⊢ Pipeline.ΦD osem0 spec0 H0 (Gen.V m) c := by
  rw [phiD_eq]
  unfold Phi Between
  rw [Sets3, if_pos (Or.inr rfl)]
  unfold Idle3 Idle
  rw [sem0_eq, sem1_eq, sem2_eq, sem3_eq]
  simp only [owns_whole]
  iintro ⟨⟨%f0, H0⟩, ⟨%f1, H1⟩, ⟨%f2, H2⟩, ⟨⟨HA, S0, T0⟩, ⟨HB, S1, T1⟩, ⟨HC, S2, T2⟩⟩, ⟨HD, S3, T3⟩, Hg, HR, R0, R1, R2, R3⟩
  isplitl [H0 H1 H2 HA HB HC HD]
  · isplitl [H0]; · iexists _; iexact H0
    isplitl [H1]; · iexists _; iexact H1
    isplitl [H2]; · iexists _; iexact H2
    isplitl [HA]; · iexact HA
    isplitl [HB]; · iexact HB
    isplitl [HC]; · iexact HC
    iexact HD
  isplitl [Hg]; · iexact Hg
  isplitl [S0 S1 S2 S3]
  · isplitl [S0]; · iexact S0
    isplitl [S1]; · iexact S1
    isplitl [S2]; · iexact S2
    iexact S3
  iapply (undeal m c)
  unfold Dealt Toks
  isplitl [HR]; · iexact HR
  isplitl [R0 T0]
  · isplitl [R0]; · iexact R0
    iexact T0
  isplitl [R1 T1]
  · isplitl [R1]; · iexact R1
    iexact T1
  isplitl [R2 T2]
  · isplitl [R2]; · iexact R2
    iexact T2
  isplitl [R3]; · iexact R3
  iexact T3

/-! ## The proof data -/

/-- The block that point `t` leaves in the result. -/
def outAt (c : Dev nD) (t : Fin cfg0.N) : S128x2048.Idx → Elt F .f32 :=
  k0_pay4 (F := F) (iblk m c 3 t) (Ymix (tabM.view.read (Elt F) (Gen.V m c main_arg5)) (exAt m c t.val) (iblk m c 2 t) (iblk m c 1 t)) (iblk m c 4 t)

def dats (_ : Fin 1) (c : Dev nD) : Dat τ (Elt F) Unit ℕ (Pipeline.UD sig nD τ) ℕ cfg0 c where
  A w := Gen.V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
  Φ t := Phi m c t.val
  q _ := fullShare
  owed _ := 0

theorem A_eq (c : Dev nD) (w : Fin cfg0.W) : (dats m 0 c).A w = Gen.V m c (Pipeline.arrRef spec0 w) := by
  dsimp only [dats]
theorem after0 (c : Dev nD) (t : Fin cfg0.N) : (dats m 0 c).after 0 t = iblk m c 0 t := by dsimp only [dats]
theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem after1 (c : Dev nD) (t : Fin cfg0.N) : (dats m 0 c).after 1 t = iblk m c 1 t := by dsimp only [dats]
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem after2 (c : Dev nD) (t : Fin cfg0.N) : (dats m 0 c).after 2 t = iblk m c 2 t := by dsimp only [dats]
theorem before2 (c : Dev nD) (t : Fin cfg0.N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem after3 (c : Dev nD) (t : Fin cfg0.N) : (dats m 0 c).after 3 t = iblk m c 3 t := by dsimp only [dats]
theorem before3 (c : Dev nD) (t : Fin cfg0.N) (d) : (dats m 0 c).before 3 t d = iblk m c 3 t :=
  ((dats m 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
theorem after4 (c : Dev nD) (t : Fin cfg0.N) : (dats m 0 c).after 4 t = iblk m c 4 t := by dsimp only [dats]
theorem before4 (c : Dev nD) (t : Fin cfg0.N) (d) : (dats m 0 c).before 4 t d = iblk m c 4 t :=
  ((dats m 0 c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)
theorem after_out (c : Dev nD) (t : Fin cfg0.N) : (dats m 0 c).after 5 t = outAt m c t := by dsimp only [dats]

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- A whole memref's ownership, with the contents named. -/
theorem owns_iff_whole {n : Space} {S : Shape} {e : EltTy} (c : Dev nD) (r : Memref sig .tc n S e) (hr : r.IsWhole) (X : S.Idx → Elt F e) :
    (owns (c : Thread nD τ) r fullShare X : sProp 𝕄)
      = iprop(∃ f, ⌜r.view.read (Elt F) f = X⌝ ∗ (r.view.loc (c : Thread nD τ) ↦{fullShare} f)) := by
  unfold owns
  rw [hr.set_eq_univ]

theorem creditA : bufA.view.ref.dmaCredit S16384x128 .i32 = unitsOf bufA * 1024 := by rfl
theorem creditB : bufB.view.ref.dmaCredit S16384x128 .i32 = unitsOf bufB * 1024 := by rfl
theorem creditC : bufC.view.ref.dmaCredit S16384x128 .i32 = unitsOf bufC * 1024 := by rfl
theorem creditD : bufD.view.ref.dmaCredit S16384x128 .i32 = unitsOf bufD * 1024 := by rfl

set_option maxHeartbeats 1600000 in
/-- The body at a point. -/
theorem sound_body (hm : InTable m) (c : Dev nD) (t : Fin cfg0.N) :
    bodyPre m c t ⊢ wpP c (bodyAt0 t) (fun _ => bodyPost m c t) := by
  unfold bodyPre bodyPost bodyAt0
  rw [show (dats m 0 c).Φ t.castSucc = Phi m c t.val from rfl, show (dats m 0 c).Φ t.succ = Phi m c (t.val + 1) from rfl]
  rw [after0, after1, after2, after3, after4, after_out]
  simp only [before0, before1, before2, before3, before4]
  unfold Dat.owesAt Pipeline.owesWithin
  rw [show (dats m 0 c).owed t.castSucc = 0 from rfl, show (dats m 0 c).owed t.succ = 0 from rfl]
  rw [owns_iff_whole c (st0_0 t) (hstage0_0 _)]
  unfold Phi
  rw [between_start, ← between_end]
  iintro ⟨⟨H8, H9, H10, HS, HD, HG, HR, R0, R1, R2, R3⟩, ⟨%W, -, HW⟩, ⟨%d0, %f1, %hf, H1⟩, ⟨%d1, H2⟩, ⟨%d2, H3⟩, ⟨%d3, H4⟩, ⟨%d4, H5⟩, ⟨%d5, H7⟩⟩
  iapply (wp_point (F := F) c (grid0.coords t) (st0_0 t) (hstage0_0 _) (st0_1 t) (hstage0_1 _) (st0_2 t) (hstage0_2 _) (st0_3 t) (hstage0_3 _)
    (st0_4 t) (hstage0_4 _) tabM (Memref.isWhole_whole _) (st0_5 t) (hstage0_5 _) hidM (Memref.isWhole_whole _) cofM (Memref.isWhole_whole _)
    accM (Memref.isWhole_whole _) cc0_scratch3 bufA (Memref.isWhole_whole _) bufB (Memref.isWhole_whole _) bufC (Memref.isWhole_whole _)
    bufD (Memref.isWhole_whole _) (Gen.V m c main_arg5) (qs 0) (qs 1) (qs 2) (qs 3) fullShare f1 (exAt m c t.val)
    (fun r s => by rw [hf]; exact exAt_word m hm c t r s)
    (iblk m c 2 t) (iblk m c 1 t) (iblk m c 3 t) (iblk m c 4 t) creditA (by decide) creditB (by decide) creditC (by decide) creditD (by decide))
    $$ [H1 H2 H3 H4 H5 H7 H8 H9 H10 HS HD HW]
  · unfold Around
    isplitl [H1]; · iexact H1
    isplitl [H2]; · iexact H2
    isplitl [H3]; · iexact H3
    isplitl [H4]; · iexact H4
    isplitl [H5]; · iexact H5
    isplitl [H7]; · iexists _; iexact H7
    isplitl [H8]; · iexact H8
    isplitl [H9]; · iexact H9
    isplitl [H10]; · iexact H10
    isplitl [HS]; · iexact HS
    isplitl [HD]; · iexact HD
    iexists W; iexact HW
  unfold Around
  iintro ⟨H1, H2, H3, H4, H5, H7, H8, H9, H10, HS, HD, ⟨%W', HW⟩⟩
  isplitl [H8 H9 H10 HS HD HG HR R0 R1 R2 R3]
  · isplitl [H8]; · iexact H8
    isplitl [H9]; · iexact H9
    isplitl [H10]; · iexact H10
    isplitl [HS]; · iexact HS
    isplitl [HD]; · iexact HD
    isplitl [HG]; · iexact HG
    isplitl [HR]; · iexact HR
    isplitl [R0]; · iexact R0
    isplitl [R1]; · iexact R1
    isplitl [R2]; · iexact R2
    iexact R3
  isplitl [HW]
  · iexists W'; isplitr; · ipureintro; exact fun _ _ => Or.inl trivial
    iexact HW
  isplitl [H1]
  · iexists f1; isplitr; · ipureintro; exact hf
    iexact H1
  isplitl [H2]; · iexact H2
  isplitl [H3]; · iexact H3
  isplitl [H4]; · iexact H4
  isplitl [H5]; · iexact H5
  unfold outAt
  iexact H7

theorem defs₀_row (t : Fin cfg0.N) :
    defs₀ (F := F) .tc cfg0.body (cfg0.bodyArgs t (cfg0.slots t)) = bodyAt0 t := by
  unfold defs₀; rw [Defs.onTc_tc]

theorem body_obligation (hm : InTable m) (c : Dev nD) : BodyObligation (dats (F := F) m 0 c) (defs₀ (F := F)) Variants.none () Set.univ := fun t => by
  rw [bigSep_W0, bigSep_W0, defs₀_row]
  exact triple_restated (sound_body m hm c t) rfl .rfl fun _ => .rfl

/-! ## The run -/

/-- The program up to the launch. -/
theorem hmainD (𝒱₀ : Variants) : Pipeline.HMain (Ix := Unit) (Name := ℕ) (U := Pipeline.UD sig nD τ) (Lvl := ℕ) cfgs 0 defs₀ 𝒱₀ m (main (F := F)) (Gen.V m) :=
  Pipeline.hmain_prefix cfgs 0 defs₀ 𝒱₀ m main hostOps0 hostOps0_sub hostOps0_fresh main_chain

set_option backward.isDefEq.respectTransparency.types false in
/-- The run: every array the launch stages ends at what its blocks say, every semaphore at zero. -/
theorem run_main (hm : InTable m) :
    θ_run defs (onTc (τ := τ) (main (F := F))) (s₀ m ρ) (fun r => Pipeline.FramePost cfgs (dats m) 0 (Gen.V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m hm c).loose) (hshare := fun c => (dats m 0 c).share_full fun _ => rfl)
    (howed := fun _ _ => rfl) (V := Gen.V m) (hmain := hmainD m Variants.none) (hA := A_eq m)
    (hin := hin m) (hout := hout m)

/-- The arguments, unchanged. -/
def Kept (r : PUnit × MemSt nD τ sig (Elt F)) (c : Dev nD) : Prop :=
  r.2.mem ((c.tc : Thread nD τ).loc main_arg0) = m ((c.tc : Thread nD τ).loc main_arg0)
  ∧ r.2.mem ((c.tc : Thread nD τ).loc main_arg1) = m ((c.tc : Thread nD τ).loc main_arg1)
  ∧ r.2.mem ((c.tc : Thread nD τ).loc main_arg2) = m ((c.tc : Thread nD τ).loc main_arg2)
  ∧ r.2.mem ((c.tc : Thread nD τ).loc main_arg3) = m ((c.tc : Thread nD τ).loc main_arg3)
  ∧ r.2.mem ((c.tc : Thread nD τ).loc main_arg4) = m ((c.tc : Thread nD τ).loc main_arg4)
  ∧ r.2.mem ((c.tc : Thread nD τ).loc main_arg5) = m ((c.tc : Thread nD τ).loc main_arg5)

/-- The run, read at the arguments and at the result. -/
theorem run_read (hm : InTable m) :
    θ_run defs (onTc (τ := τ) (main (F := F))) ⟨m, fun _ => 0, ρ⟩
      (fun r => ((∀ c, Kept m r c) ∧ r.2.sem = fun _ => 0)
        ∧ ∀ c : Dev nD, r.2.mem ((c.tc : Thread nD τ).loc main_v9) = (dats m 0 c).arrAt 5 (Fin.last cfg0.N)) :=
  (θ_run defs _ _).mono (fun _ h => ⟨⟨fun c => ⟨((h.1 c).2 main_arg0 (Pipeline.mem_restRefs_of main_arg0 (by decide) (by decide))).trans (V_main_arg0 m c),
      ((h.1 c).1 1).trans (((dats m 0 c).arrAt_in 1 rfl _).trans ((A_eq m c 1).trans (V_main_arg1 m c))),
      ((h.1 c).1 2).trans (((dats m 0 c).arrAt_in 2 rfl _).trans ((A_eq m c 2).trans (V_main_arg2 m c))),
      ((h.1 c).1 3).trans (((dats m 0 c).arrAt_in 3 rfl _).trans ((A_eq m c 3).trans (V_main_arg3 m c))),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c)⟩, h.2⟩,
    fun c => (h.1 c).1 5⟩) (run_main m ρ hm)

end Cert.KernelIdeal.Peer
-- ==== Proof.Peer.Out.lean ====
/-
  The result at the exact values: what each point writes, and the whole array that the grid leaves.
-/
module

public import proofs.«01_k».proof.Proof.Peer.Mixed
public import proofs.«01_k».proof.Proof.Peer.Run

@[expose] public section

set_option maxRecDepth 65536

noncomputable section

namespace Cert.KernelIdeal.Peer

open Cert.KernelIdeal Cert.KernelIdeal.Gen
open Idealize.ShloMosaic Idealize.ShloMosaic.TcCoe

variable (m : (ℓ : Loc nD τ sig) → Buf (Elt Ideal) ℓ)

theorem normPay_apply (h y : Vec Ideal S128x2048 .f32) (g : Vec Ideal S1x2048 .f32) (l : Fin 128) (j : Fin 2048) :
    k0_pay4 h y g (ix2 l j) = normAt (fun k => h (ix2 l k) + y (ix2 l k)) (fun k => g (ix2 (0 : Fin 1) k)) j := by
  unfold k0_pay4 normAt
  pointwise

/-- A point's block of the gates: the columns of its tokens. -/
theorem iblk1_apply (c : Dev nD) (t : Fin cfg0.N) (s l : Fin 128) (T : Fin 16384) (hT : T.val = 128 * t.val + l.val) :
    (iblk m c 1 t : S128x128.Idx → Ideal .f32) (ix2 s l) = (m ((c : Thread nD τ).loc main_arg1) : S128x16384.Idx → Ideal .f32) (ix2 s T) := by
  rw [← V_main_arg1 m c]
  unfold iblk
  rw [View.read_apply]
  show (Gen.V m c main_arg1 : S128x16384.Idx → Ideal .f32) _ = _
  congr 1
  funext a
  apply Fin.ext
  have ht : t.val < 128 := t.isLt
  have hi : win0_1.index t 0 = 0 ∧ win0_1.index t 1 = t.val := ⟨rfl, by
    show (BitVec.ofNat 32 ((grid0.coords t) 0).val).toNat = t.val
    rw [coord_val, BitVec.toNat_ofNat]; omega⟩
  match a with
  | ⟨0, _⟩ => show win0_1.index t 0 * 128 + 1 * s.val = s.val; rw [hi.1]; omega
  | ⟨1, _⟩ => show win0_1.index t 1 * 128 + 1 * l.val = T.val; rw [hi.2]; omega

/-- A point's block of the normed rows: its tokens'. -/
theorem iblk2_apply (c : Dev nD) (t : Fin cfg0.N) (l : Fin 128) (j : Fin 2048) (T : Fin 16384) (hT : T.val = 128 * t.val + l.val) :
    (iblk m c 2 t : S128x2048.Idx → Ideal .f32) (ix2 l j) = (m ((c : Thread nD τ).loc main_arg2) : S16384x2048.Idx → Ideal .f32) (ix2 T j) := by
  rw [← V_main_arg2 m c]
  unfold iblk
  rw [View.read_apply]
  show (Gen.V m c main_arg2 : S16384x2048.Idx → Ideal .f32) _ = _
  congr 1
  funext a
  apply Fin.ext
  have ht : t.val < 128 := t.isLt
  have hi : win0_2.index t 0 = t.val ∧ win0_2.index t 1 = 0 := ⟨by
    show (BitVec.ofNat 32 ((grid0.coords t) 0).val).toNat = t.val
    rw [coord_val, BitVec.toNat_ofNat]; omega, rfl⟩
  match a with
  | ⟨0, _⟩ => show win0_2.index t 0 * 128 + 1 * l.val = T.val; rw [hi.1]; omega
  | ⟨1, _⟩ => show win0_2.index t 1 * 2048 + 1 * j.val = j.val; rw [hi.2]; omega

/-- And of the residual rows. -/
theorem iblk3_apply (c : Dev nD) (t : Fin cfg0.N) (l : Fin 128) (j : Fin 2048) (T : Fin 16384) (hT : T.val = 128 * t.val + l.val) :
    (iblk m c 3 t : S128x2048.Idx → Ideal .f32) (ix2 l j) = (m ((c : Thread nD τ).loc main_arg3) : S16384x2048.Idx → Ideal .f32) (ix2 T j) := by
  rw [← V_main_arg3 m c]
  unfold iblk
  rw [View.read_apply]
  show (Gen.V m c main_arg3 : S16384x2048.Idx → Ideal .f32) _ = _
  congr 1
  funext a
  apply Fin.ext
  have ht : t.val < 128 := t.isLt
  have hi : win0_3.index t 0 = t.val ∧ win0_3.index t 1 = 0 := ⟨by
    show (BitVec.ofNat 32 ((grid0.coords t) 0).val).toNat = t.val
    rw [coord_val, BitVec.toNat_ofNat]; omega, rfl⟩
  match a with
  | ⟨0, _⟩ => show win0_3.index t 0 * 128 + 1 * l.val = T.val; rw [hi.1]; omega
  | ⟨1, _⟩ => show win0_3.index t 1 * 2048 + 1 * j.val = j.val; rw [hi.2]; omega

theorem V_v1 (c : Dev nD) (j : Fin 2048) :
    (Gen.V m c main_v1 : S1x2048.Idx → Ideal .f32) (ix2 (0 : Fin 1) j) = (m ((c : Thread nD τ).loc main_arg4) : S2048.Idx → Ideal .f32) (ix1 j) := by
  have e : (Gen.V m c main_v1 : S1x2048.Idx → Ideal .f32)
      = broadcastInDim S1x2048 ![1] bcast_S2048_S1x2048_1 (m ((c : Thread nD τ).loc main_arg4) : S2048.Idx → Ideal .f32) := by
    show StableHlo.after hostOps0 _ (Proc.devRef .tc main_v1) = _
    after_results
  rw [e]
  pointwise

/-- Every point reads the whole row of scales. -/
theorem iblk4_apply (c : Dev nD) (t : Fin cfg0.N) (j : Fin 2048) :
    (iblk m c 4 t : S1x2048.Idx → Ideal .f32) (ix2 (0 : Fin 1) j) = (m ((c : Thread nD τ).loc main_arg4) : S2048.Idx → Ideal .f32) (ix1 j) := by
  refine Eq.trans ?_ (V_v1 m c j)
  unfold iblk
  rw [View.read_apply]
  show (Gen.V m c main_v1 : S1x2048.Idx → Ideal .f32) _ = _
  congr 1
  funext a
  apply Fin.ext
  match a with
  | ⟨0, _⟩ => rfl
  | ⟨1, _⟩ => show 0 * 2048 + 1 * j.val = j.val; omega

/-- The row of the table that slot `s` of token `T` names. -/
def exTok (c : Dev nD) (T : Fin 16384) (s : Fin 128) : Fin 16384 := ⟨(pick m c s T).toNat % 16384, Nat.mod_lt _ (by decide)⟩

/-- The arguments as arrays of numbers. -/
def gates (c : Dev nD) : S128x16384.Idx → Ideal .f32 := m ((c : Thread nD τ).loc main_arg1)
def tokRows (c : Dev nD) : S16384x2048.Idx → Ideal .f32 := m ((c : Thread nD τ).loc main_arg2)
def residual (c : Dev nD) : S16384x2048.Idx → Ideal .f32 := m ((c : Thread nD τ).loc main_arg3)
def scales (c : Dev nD) : S2048.Idx → Ideal .f32 := m ((c : Thread nD τ).loc main_arg4)
def table (c : Dev nD) : S262144x128.Idx → Elt Ideal .i32 := m ((c : Thread nD τ).loc main_arg5)

/-- The result's row of token `T`, at column `j`. -/
def resAt (c : Dev nD) (T : Fin 16384) (j : Fin 2048) : Ideal .f32 :=
  normAt (fun k => residual m c (ix2 T k)
      + mixAt (table m c) (exTok m c T) (fun k => tokRows m c (ix2 T k)) (fun s => gates m c (ix2 s T)) k)
    (fun k => scales m c (ix1 k)) j

theorem tab_read (c : Dev nD) : tabM.view.read (Elt Ideal) (Gen.V m c main_arg5) = table m c := by
  rw [V_main_arg5]
  exact View.read_whole _ _

theorem outAt_apply (c : Dev nD) (t : Fin cfg0.N) (l : Fin 128) (j : Fin 2048) (T : Fin 16384) (hT : T.val = 128 * t.val + l.val) :
    outAt m c t (ix2 l j) = resAt m c T j := by
  unfold outAt resAt
  rw [normPay_apply, tab_read]
  have he : exAt m c t.val ⟨l.val, by omega⟩ = exTok m c T := by
    funext s
    unfold exAt exTok
    have h : 128 * t.val + l.val < 16384 := by have := T.isLt; omega
    rw [dif_pos h]
    exact Fin.ext (congrArg (fun X => (pick m c s X).toNat % 16384) (Fin.ext hT.symm : (⟨128 * t.val + l.val, h⟩ : Fin 16384) = T))
  congr 1
  · funext k
    rw [iblk3_apply m c t l k T hT]
    congr 1
    show yv _ _ _ _ l (ValueIdx.ix2 (0 : Fin 1) k) = _
    rw [vix2, yv_mixAt, he]
    congr 1
    · funext k; exact iblk2_apply m c t l k T hT
    · funext s; exact iblk1_apply m c t s l T hT
  · funext k; exact iblk4_apply m c t k

/-- The whole result. -/
def resOf (c : Dev nD) : S16384x2048.Idx → Ideal .f32 := fun i => resAt m c (i 0 : Fin 16384) (i 1 : Fin 2048)

theorem index5 (t : Fin cfg0.N) : win0_5.index t 0 = t.val ∧ win0_5.index t 1 = 0 := by
  refine ⟨?_, rfl⟩
  show (BitVec.ofNat 32 ((grid0.coords t) 0).val).toNat = t.val
  have ht : t.val < 128 := t.isLt
  rw [coord_val, BitVec.toNat_ofNat]; omega

theorem flushed5 (c : Dev nD) (t : Fin cfg0.N) : (dats m 0 c).flushed 5 t = ((cfg0.win 5).blk t).view.read (Elt Ideal) (resOf m c) := by
  unfold Pipeline.Dat.flushed
  rw [after_out]
  funext x
  rw [View.read_apply]
  have ht : t.val < 128 := t.isLt
  have hx : (x 0).val < 128 := (x 0).isLt
  have e : (x : S128x2048.Idx) = ix2 (x 0 : Fin 128) (x 1 : Fin 2048) := by funext a; fin_cases a <;> rfl
  have hi := index5 t
  have h0 : (((cfg0.win 5).blk t).view.emb x 0).val = 128 * t.val + (x 0).val := by
    show win0_5.index t 0 * 128 + 1 * (x 0).val = _
    rw [hi.1]; omega
  have h1 : (((cfg0.win 5).blk t).view.emb x 1).val = (x 1).val := by
    show win0_5.index t 1 * 2048 + 1 * (x 1).val = _
    rw [hi.2]; omega
  show outAt m c t x = resAt m c _ _
  refine (congrArg (outAt m c t) e).trans ((outAt_apply m c t (x 0) (x 1) (⟨128 * t.val + (x 0).val, by omega⟩ : Fin 16384) rfl).trans ?_)
  exact congrArg₂ (resAt m c) (Fin.ext h0.symm) (Fin.ext h1.symm)

theorem cover5 (i : S16384x2048.Idx) : ∃ t : Fin cfg0.N, (cfg0.win 5).flush t = true ∧ i ∈ ((cfg0.win 5).blk t).view.set := by
  have h0 : (i 0).val < 16384 := (i 0).isLt
  have h1 : (i 1).val < 2048 := (i 1).isLt
  have hN : (i 0).val / 128 < cfg0.N := by show _ < 128; omega
  refine ⟨⟨(i 0).val / 128, hN⟩, flush0_5 _, ?_⟩
  show i ∈ ((View.whole main_v9).slice (win0_5.rect ⟨(i 0).val / 128, hN⟩)).set
  rw [View.set_slice_whole, Rect.mem_set_unit]
  have hi := index5 ⟨(i 0).val / 128, hN⟩
  intro a
  match a with
  | ⟨0, _⟩ =>
    show win0_5.index _ 0 * 128 ≤ (i 0).val ∧ (i 0).val < win0_5.index _ 0 * 128 + 128
    rw [hi.1]
    show (i 0).val / 128 * 128 ≤ (i 0).val ∧ (i 0).val < (i 0).val / 128 * 128 + 128
    omega
  | ⟨1, _⟩ =>
    show win0_5.index _ 1 * 2048 ≤ (i 1).val ∧ (i 1).val < win0_5.index _ 1 * 2048 + 2048
    rw [hi.2]
    omega

/-- What the run leaves in the result's array. -/
theorem arr5 (c : Dev nD) : (dats m 0 c).arrAt 5 (Fin.last cfg0.N) = resOf m c :=
  (dats m 0 c).arrAt_eq_of_cover 5 (resOf m c) (fun t _ => flushed5 m c t) cover5

end Cert.KernelIdeal.Peer
-- ==== Proof.Peer.Read.lean ====
/-
  The reference at the exact values, read at an index.
-/
module

public import proofs.«01_k».proof.Proof.Peer.Mixed
public import proofs.«01_k».proof.Proof.Gen.ReferenceIdeal.Run

@[expose] public section

set_option maxRecDepth 65536

noncomputable section

namespace Cert.ReferenceIdeal.Plain

open Cert.ReferenceIdeal Cert.ReferenceIdeal.Gen
open Idealize.ShloMosaic Idealize.ShloMosaic.TcCoe
open Cert.KernelIdeal.Peer (lo hi wordAt act mixAt normAt sum_parts)

/-- Slot `16 h + k`: choice `k` of head `h`. -/
def slot (h : Fin 8) (k : Fin 16) : Fin 128 := ⟨16 * h.val + k.val, by omega⟩

/-- The slots' array, token by token, the heads apart. -/
def heads {α : Type} (x : S128x16384.Idx → α) : S16384x8x16.Idx → α :=
  shapeCast _ (transpose S16384x128 [1, 0] x transposes_S128x16384_S16384x128_1_0) shapeCasts_S16384x128_S16384x8x16

theorem heads_apply {α : Type} (x : S128x16384.Idx → α) (T : Fin 16384) (h : Fin 8) (k : Fin 16) :
    heads x (ix3 T h k) = x (ix2 (slot h k) T) := by
  unfold heads
  refine (shapeCast_apply (s := S16384x128) (t := S16384x8x16) _ _ _ (ix2 T (slot h k)) (by
    rw [Shape.rowMajor_val_two, Shape.rowMajor_val_three]
    show T.val * 128 + (16 * h.val + k.val) = (T.val * 8 + h.val) * 16 + k.val
    omega)).trans ?_
  pointwise

/-- The rows that the gathers start at. -/
def starts (e : S128x16384.Idx → BitVec 32) : S16384x8x16x1.Idx → BitVec 32 :=
  broadcastInDim S16384x8x16x1 ![0, 1, 2] bcast_S16384x8x16_S16384x8x16x1_0_1_2
    (select (cmpi .slt (heads e) (broadcastInDim S16384x8x16 ![] bcast_S_S16384x8x16 (constantI S_ 32 0#32)))
      (addi (heads e) (broadcastInDim S16384x8x16 ![] bcast_S_S16384x8x16 (constantI S_ 32 16384#32))) (heads e))

theorem starts_apply (e : S128x16384.Idx → BitVec 32) (T : Fin 16384) (h : Fin 8) (k : Fin 16) (z : Fin 1)
    (he : (e (ix2 (slot h k) T)).toNat < 16384) : starts e (ix4 T h k z) = e (ix2 (slot h k) T) := by
  have e1 : starts e (ix4 T h k z) = Scalar.select (IntOp.cmpi .slt (heads e (ix3 T h k)) 0#32) (heads e (ix3 T h k) + 16384#32) (heads e (ix3 T h k)) := by
    unfold starts
    pointwise
    rfl
  rw [e1, heads_apply]
  have : ¬ (e (ix2 (slot h k) T)).slt 0#32 := by
    simp [BitVec.slt, BitVec.toInt_eq_toNat_of_lt (show 2 * (e (ix2 (slot h k) T)).toNat < 2 ^ 32 by omega)]
  simp [IntOp.cmpi, Scalar.select, this]

/-- A row of the table for every slot of every token, read at an index. -/
theorem gather_apply (x : S16384x2048.Idx → Ideal .f32) (i : S16384x8x16x1.Idx → BitVec 32) (T : Fin 16384) (h : Fin 8) (k : Fin 16) (j : Fin 2048) :
    Host.gather gather_S16384x2048_S16384x8x16x1_S16384x8x16x2048_3_0_n_n_0_3_12048 x i (ix4 T h k j)
      = x (ix2 (⟨min (i (ix4 T h k (0 : Fin 1))).toInt.toNat 16383, by omega⟩ : Fin 16384) j) := by
  unfold Host.gather
  congr 1
  funext a
  refine Fin.ext ?_
  match a with
  | ⟨0, h0⟩ =>
    show GatherDims.start _ _ i 0 + GatherDims.batchCoord _ _ 0 + GatherDims.offCoord _ _ 0 = _
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (show (0 : Fin 2) ∈ gather_S16384x2048_S16384x8x16x1_S16384x8x16x2048_3_0_n_n_0_3_12048.startIndexMap from List.mem_singleton.mpr rfl)]
    show min (i _).toInt.toNat _ = min (i _).toInt.toNat 16383
    congr 4
    funext b
    refine Fin.ext ?_
    match b with
    | ⟨0, _⟩ => rfl
    | ⟨1, _⟩ => rfl
    | ⟨2, _⟩ => rfl
    | ⟨3, _⟩ => rfl
  | ⟨1, h1⟩ =>
    show GatherDims.start _ _ i 1 + GatherDims.batchCoord _ _ 1 + GatherDims.offCoord _ _ 1 = j.val
    rw [GatherDims.batchCoord_eq_zero _ _ _ List.not_mem_nil]
    unfold GatherDims.start
    rw [dif_neg (by decide)]
    unfold GatherDims.offCoord
    rw [dif_pos (by decide)]
    show 0 + 0 + j.val = j.val
    omega

/-- The experts' first factors, one row each. -/
def firsts (w : S262144x128.Idx → BitVec 32) : S16384x2048.Idx → Ideal .f32 :=
  shapeCast _ (bitcastToFloat (F := Ideal) .f32 (Host.shli w (broadcastInDim S262144x128 ![] bcast_S_S262144x128 (constantI S_ 32 16#32)))) shapeCasts_S262144x128_S16384x2048
/-- And the second ones. -/
def seconds (w : S262144x128.Idx → BitVec 32) : S16384x2048.Idx → Ideal .f32 :=
  shapeCast _ (bitcastToFloat (F := Ideal) .f32 (andi w (broadcastInDim S262144x128 ![] bcast_S_S262144x128 (constantI S_ 32 4294901760#32)))) shapeCasts_S262144x128_S16384x2048

/-- Sixteen rows of the table are one expert's row. -/
theorem joined (x : S262144x128.Idx → Ideal .f32) (e : Fin 16384) (j : Fin 2048) :
    shapeCast S16384x2048 x shapeCasts_S262144x128_S16384x2048 (ix2 e j)
      = x (ix2 (⟨16 * e.val + j.val / 128, by omega⟩ : Fin 262144) (⟨j.val % 128, by omega⟩ : Fin 128)) :=
  shapeCast_apply (s := S262144x128) (t := S16384x2048) _ _ _ _ (by
    rw [Shape.rowMajor_val_two, Shape.rowMajor_val_two]
    show (16 * e.val + j.val / 128) * 128 + j.val % 128 = e.val * 2048 + j.val
    omega)

theorem firsts_apply (w : S262144x128.Idx → BitVec 32) (e : Fin 16384) (j : Fin 2048) : firsts w (ix2 e j) = lo (wordAt w e j) :=
  (joined _ e j).trans (by
    pointwise
    rfl)

theorem seconds_apply (w : S262144x128.Idx → BitVec 32) (e : Fin 16384) (j : Fin 2048) : seconds w (ix2 e j) = hi (wordAt w e j) :=
  (joined _ e j).trans (by
    pointwise
    rfl)

theorem dot1_apply (x : S16384x2048.Idx → Ideal .f32) (y : S16384x8x16x2048.Idx → Ideal .f32) (T : Fin 16384) (h : Fin 8) (k : Fin 16) :
    Host.dotGeneral (F := Ideal) dot_S16384x2048_S16384x8x16x2048_S16384x8x16_1_3_n_12_0_0 (φ₁ := .f32) (φ₂ := .f32) none x y (ix3 T h k)
      = ∑ j : Fin 2048, x (ix2 T j) * y (ix4 T h k j) := by
  pointwise

theorem dot2_apply (x : S16384x8x16.Idx → Ideal .f32) (y : S16384x8x16x2048.Idx → Ideal .f32) (T : Fin 16384) (j : Fin 2048) :
    Host.dotGeneral (F := Ideal) dot_S16384x8x16_S16384x8x16x2048_S16384x2048_12_12_n_3_0_0 (φ₁ := .f32) (φ₂ := .f32) none x y (ix2 T j)
      = ∑ h : Fin 8, ∑ k : Fin 16, x (ix3 T h k) * y (ix4 T h k j) := by
  pointwise

/-! ## The whole term -/

/-- The inner products. -/
def inners (e : S128x16384.Idx → BitVec 32) (x : S16384x2048.Idx → Ideal .f32) (w : S262144x128.Idx → BitVec 32) : S16384x8x16.Idx → Ideal .f32 :=
  Host.dotGeneral (F := Ideal) dot_S16384x2048_S16384x8x16x2048_S16384x8x16_1_3_n_12_0_0 (φ₁ := .f32) (φ₂ := .f32) none x
    (Host.gather gather_S16384x2048_S16384x8x16x1_S16384x8x16x2048_3_0_n_n_0_3_12048 (firsts w) (starts e))

/-- The coefficients. -/
def weights (e : S128x16384.Idx → BitVec 32) (g : S128x16384.Idx → Ideal .f32) (x : S16384x2048.Idx → Ideal .f32) (w : S262144x128.Idx → BitVec 32) :
    S16384x8x16.Idx → Ideal .f32 :=
  mulf (F := Ideal) (φ := .f32) (heads g) (mulf (mulf (broadcastInDim S16384x8x16 ![] bcast_S_S16384x8x16 (constant S_ .f32 0x3F000000#32)) (inners e x w))
    (Host.erfc (mulf (Host.negf (inners e x w)) (broadcastInDim S16384x8x16 ![] bcast_S_S16384x8x16 (constant S_ .f32 0x3F3504F3#32)))))

/-- The rows before the norm. -/
def sums (e : S128x16384.Idx → BitVec 32) (g : S128x16384.Idx → Ideal .f32) (x r : S16384x2048.Idx → Ideal .f32) (w : S262144x128.Idx → BitVec 32) :
    S16384x2048.Idx → Ideal .f32 :=
  addf (F := Ideal) (φ := .f32) r (Host.dotGeneral (F := Ideal) dot_S16384x8x16_S16384x8x16x2048_S16384x2048_12_12_n_3_0_0 (φ₁ := .f32) (φ₂ := .f32) none (weights e g x w)
    (Host.gather gather_S16384x2048_S16384x8x16x1_S16384x8x16x2048_3_0_n_n_0_3_12048 (seconds w) (starts e)))

/-- The norm. -/
def normed (y : S16384x2048.Idx → Ideal .f32) (f : S2048.Idx → Ideal .f32) : S16384x2048.Idx → Ideal .f32 :=
  mulf (F := Ideal) (φ := .f32) (mulf y (broadcastInDim S16384x2048 ![0, 1] bcast_S16384x1_S16384x2048_0_1 (Host.rsqrt (addf (Host.divf
      (broadcastInDim S16384x1 ![0] bcast_S16384_S16384x1_0 (Host.reduceAdd (mulf (F := Ideal) (φ := .f32) y y) (constant S_ .f32 0x00000000#32) reducesTo_S16384x2048_S16384_d1 h_S_))
      (broadcastInDim S16384x1 ![] bcast_S_S16384x1 (constant S_ .f32 0x45000000#32))) (broadcastInDim S16384x1 ![] bcast_S_S16384x1 (constant S_ .f32 0x358637BD#32))))))
    (broadcastInDim S16384x2048 ![0, 1] bcast_S1x2048_S16384x2048_0_1 (broadcastInDim S1x2048 ![1] bcast_S2048_S1x2048_1 f))

variable (e : S128x16384.Idx → BitVec 32) (he : ∀ s T, (e (ix2 s T)).toNat < 16384)

/-- The expert in a slot of a token. -/
def exOf (T : Fin 16384) (s : Fin 128) : Fin 16384 := ⟨(e (ix2 s T)).toNat % 16384, Nat.mod_lt _ (by decide)⟩

include he in
theorem gathered (x : S16384x2048.Idx → Ideal .f32) (T : Fin 16384) (h : Fin 8) (k : Fin 16) (j : Fin 2048) :
    Host.gather gather_S16384x2048_S16384x8x16x1_S16384x8x16x2048_3_0_n_n_0_3_12048 x (starts e) (ix4 T h k j) = x (ix2 (exOf e T (slot h k)) j) := by
  rw [gather_apply]
  have hb := he (slot h k) T
  refine congrArg (fun a : Fin 16384 => x (ix2 a j)) (Fin.ext ?_)
  show min (starts e (ix4 T h k 0)).toInt.toNat 16383 = (e (ix2 (slot h k) T)).toNat % 16384
  rw [starts_apply e T h k 0 hb, BitVec.toInt_eq_toNat_of_lt (by omega)]
  omega

include he in
theorem inners_apply (x : S16384x2048.Idx → Ideal .f32) (w : S262144x128.Idx → BitVec 32) (T : Fin 16384) (h : Fin 8) (k : Fin 16) :
    inners e x w (ix3 T h k) = ∑ j : Fin 2048, lo (wordAt w (exOf e T (slot h k)) j) * x (ix2 T j) := by
  unfold inners
  rw [dot1_apply]
  refine Finset.sum_congr rfl fun j _ => ?_
  rw [gathered e he, firsts_apply, mul_comm]

theorem act_eq (h : Ideal .f32) :
    Ideal.ofBits .f32 0x3F000000#32 * h * Ideal.erfc (-h * Ideal.ofBits .f32 0x3F3504F3#32) = act h := by
  unfold act
  rw [neg_mul, Ideal.erfc_neg]

include he in
theorem weights_apply (g : S128x16384.Idx → Ideal .f32) (x : S16384x2048.Idx → Ideal .f32) (w : S262144x128.Idx → BitVec 32) (T : Fin 16384) (h : Fin 8) (k : Fin 16) :
    weights e g x w (ix3 T h k) = g (ix2 (slot h k) T) * act (∑ j : Fin 2048, lo (wordAt w (exOf e T (slot h k)) j) * x (ix2 T j)) := by
  rw [← act_eq, ← inners_apply e he, ← heads_apply g]
  unfold weights
  pointwise

include he in
theorem sums_apply (g : S128x16384.Idx → Ideal .f32) (x r : S16384x2048.Idx → Ideal .f32) (w : S262144x128.Idx → BitVec 32) (T : Fin 16384) (j : Fin 2048) :
    sums e g x r w (ix2 T j) = r (ix2 T j) + mixAt w (exOf e T) (fun k => x (ix2 T k)) (fun s => g (ix2 s T)) j := by
  unfold sums mixAt
  show r (ix2 T j) + Host.dotGeneral (F := Ideal) _ none _ _ (ix2 T j) = _
  rw [dot2_apply, sum_parts 8 16 128 rfl]
  refine congrArg (r (ix2 T j) + ·) (Finset.sum_congr rfl fun h _ => Finset.sum_congr rfl fun k _ => ?_)
  rw [gathered e he, seconds_apply, weights_apply e he, mul_comm]
  rfl

theorem normed_apply (y : S16384x2048.Idx → Ideal .f32) (f : S2048.Idx → Ideal .f32) (T : Fin 16384) (j : Fin 2048) :
    normed y f (ix2 T j) = normAt (fun k => y (ix2 T k)) (fun k => f (ix1 k)) j := by
  unfold normed normAt
  pointwise

variable (m : (ℓ : Loc nD τ sig) → Buf (Elt Ideal) ℓ)

theorem res_eq (c : Dev nD) : Value.res_main_v49 m c
    = normed (sums (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg5))) (m ((c.tc : Thread nD τ).loc main_arg4)) := rfl

end Cert.ReferenceIdeal.Plain
-- ==== Proof.Peer.Same.lean ====
/-
  The two printed kernels are one program: their bodies, their tables of bodies and their mains agree at bits.
-/
module

public import proofs.«01_k».proof.Defs
public import proofs.«01_k».proof.Proof.Gen.Kernel
public import proofs.«01_k».proof.Proof.Gen.KernelIdeal

@[expose] public section

set_option maxRecDepth 65536

noncomputable section

namespace Cert.KernelIdeal.Peer

open Idealize.ShloMosaic Idealize.ShloMosaic.TcCoe
open Idealize.SL.Sem

set_option maxHeartbeats 20000000 in
theorem same_body : @Cert.Kernel.cc0_peer_mix Bits _ Cert.Kernel.Gen.facts
    = @Cert.KernelIdeal.cc0_peer_mix Bits _ Cert.KernelIdeal.Gen.facts := rfl

theorem same_table : @Cert.Kernel.defs₀ Bits _ Cert.Kernel.Gen.facts = @Cert.KernelIdeal.defs₀ Bits _ Cert.KernelIdeal.Gen.facts := by
  unfold Cert.Kernel.defs₀ Cert.KernelIdeal.defs₀
  congr 1
  funext l a
  obtain ⟨_ | n, h⟩ := l
  · obtain ⟨t, s⟩ := a
    dsimp only
    rw [same_body]
    rfl
  · exact absurd h (by omega)

theorem same_defs : @Cert.Kernel.defs Bits _ Cert.Kernel.Gen.facts = @Cert.KernelIdeal.defs Bits _ Cert.KernelIdeal.Gen.facts :=
  congrArg (Pipeline.defs (Cert.KernelIdeal.pcfgs (F := Bits))) same_table

set_option maxHeartbeats 20000000 in
theorem same_main : @Cert.Kernel.main Bits _ = @Cert.KernelIdeal.main Bits _ := rfl

end Cert.KernelIdeal.Peer
-- ==== Proof.Peer.Claims.lean ====
/-
  The frames: the precondition read as a range of the expert numbers, and the run under it.
-/
module

public import proofs.«01_k».proof.Defs
public import proofs.«01_k».proof.Proof.Peer.Run
public import proofs.«01_k».proof.Proof.Peer.Same
public import proofs.«01_k».proof.Proof.Gen.Kernel
public import proofs.«01_k».proof.Proof.Gen.Pre_experts_in_table
public import Idealize.ShloMosaic.Lib.ReduceAll
public import Idealize.ShloMosaic.Lib.WordCmp

@[expose] public section

set_option maxRecDepth 65536

noncomputable section

namespace Cert.KernelIdeal.Peer

open Cert.KernelIdeal Cert.KernelIdeal.Gen
open Idealize.ShloMosaic Idealize.ShloMosaic.TcCoe
open Idealize.SL.Sem
open Idealize.ShloMosaic.ValueIdx

variable {F : FTy → Type} [FloatOps F]

/-- What the precondition says of the expert numbers. -/
theorem table_range (a0 : IVec Cert.Pre_experts_in_table.S128x16384 32) (a1 : FVec F Cert.Pre_experts_in_table.S128x16384 .f32)
    (a2 a3 : FVec F Cert.Pre_experts_in_table.S16384x2048 .f32) (a4 : FVec F Cert.Pre_experts_in_table.S2048 .f32)
    (a5 : IVec Cert.Pre_experts_in_table.S262144x128 32)
    (h : Cert.Pre_experts_in_table.fn (F := F) a0 a1 a2 a3 a4 a5 = fun _ => 1#1) (i : Cert.Pre_experts_in_table.S128x16384.Idx) :
    (a0 i).toNat < 16384 := by
  have hsub : Subsingleton Cert.Pre_experts_in_table.S_.Idx := ⟨fun x y => funext fun a => a.elim0⟩
  have e := Host.reduce_andi_all _ _ _ _ _ (congrFun h (fun a => a.elim0)) i
  have e' : IntOp.andi (IntOp.cmpi .sge (a0 i) 0#32) (IntOp.cmpi .slt (a0 i) 16384#32) = 1#1 := e
  have h1 : ∀ x y : BitVec 1, IntOp.andi x y = 1#1 → x = 1#1 ∧ y = 1#1 := by decide
  obtain ⟨p, q⟩ := h1 _ _ e'
  have p' := IntOp.cmpi_sge.1 p
  have q' := IntOp.cmpi_slt.1 q
  have z : (0#32 : BitVec 32).toInt = 0 := rfl
  have w : (16384#32 : BitVec 32).toInt = 16384 := rfl
  rw [z] at p'
  rw [w] at q'
  rw [BitVec.toInt_eq_toNat_cond] at p' q'
  split at p' <;> omega

/-- The precondition of the programs is the range that the run asks for. -/
theorem inTable_of (m : (ℓ : Loc nD τ sig) → Buf (Elt F) ℓ)
    (h : ∀ c : Dev nD, Cert.Pre_experts_in_table.fn (F := F) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) = (fun _ => 1#1)) : InTable m :=
  fun c s T => table_range _ _ _ _ _ _ (h c) (ix2 s T)

/-- The idealized kernel's frame. -/
theorem frame_kernelIdeal : Cert.quiescent_KernelIdeal := fun m ρ hp =>
  (θ_run Cert.KernelIdeal.defs _ _).mono (fun _ h => h.1) (run_read m ρ (inTable_of m hp))

/-- The kernel's frame, from the same run read at bits. -/
theorem frame_kernel : Cert.quiescent_Kernel := by
  intro m ρ hp
  rw [same_defs, same_main]
  exact (θ_run Cert.KernelIdeal.defs _ _).mono (fun _ h => h.1) (run_read (F := Bits) m ρ (inTable_of (F := Bits) m hp))

end Cert.KernelIdeal.Peer
-- ==== Proof.Peer.Agree.lean ====
/-
  The value claim: over the reals the launch and the reference leave the same array.
-/
module

public import proofs.«01_k».proof.Proof.Peer.Out
public import proofs.«01_k».proof.Proof.Peer.Read
public import proofs.«01_k».proof.Proof.Peer.Claims

@[expose] public section

set_option maxRecDepth 65536

noncomputable section

namespace Cert.KernelIdeal.Peer

open Cert.KernelIdeal Cert.KernelIdeal.Gen
open Idealize.ShloMosaic Idealize.ShloMosaic.TcCoe
open Idealize.SL.Sem

/-- The reference's term of the same arguments. -/
theorem same_result (m : (ℓ : Loc nD τ sig) → Buf (Elt Ideal) ℓ) (hm : InTable m) (c : Dev nD)
    (m' : (ℓ : Loc Cert.ReferenceIdeal.nD Cert.ReferenceIdeal.τ Cert.ReferenceIdeal.sig) → Buf (Elt Ideal) ℓ)
    (h0 : m' ((c.tc : Thread Cert.ReferenceIdeal.nD Cert.ReferenceIdeal.τ).loc Cert.ReferenceIdeal.main_arg0) = m ((c.tc : Thread nD τ).loc main_arg0))
    (h1 : m' ((c.tc : Thread Cert.ReferenceIdeal.nD Cert.ReferenceIdeal.τ).loc Cert.ReferenceIdeal.main_arg1) = m ((c.tc : Thread nD τ).loc main_arg1))
    (h2 : m' ((c.tc : Thread Cert.ReferenceIdeal.nD Cert.ReferenceIdeal.τ).loc Cert.ReferenceIdeal.main_arg2) = m ((c.tc : Thread nD τ).loc main_arg2))
    (h3 : m' ((c.tc : Thread Cert.ReferenceIdeal.nD Cert.ReferenceIdeal.τ).loc Cert.ReferenceIdeal.main_arg3) = m ((c.tc : Thread nD τ).loc main_arg3))
    (h4 : m' ((c.tc : Thread Cert.ReferenceIdeal.nD Cert.ReferenceIdeal.τ).loc Cert.ReferenceIdeal.main_arg4) = m ((c.tc : Thread nD τ).loc main_arg4))
    (h5 : m' ((c.tc : Thread Cert.ReferenceIdeal.nD Cert.ReferenceIdeal.τ).loc Cert.ReferenceIdeal.main_arg5) = m ((c.tc : Thread nD τ).loc main_arg5)) :
    Cert.ReferenceIdeal.Value.res_main_v49 m' c = resOf m c := by
  rw [Cert.ReferenceIdeal.Plain.res_eq, h0, h1, h2, h3, h4, h5]
  funext i
  have e : (i : S16384x2048.Idx) = ix2 (i 0 : Fin 16384) (i 1 : Fin 2048) := by funext a; fin_cases a <;> rfl
  have he : ∀ (s : Fin 128) (T : Fin 16384), ((m ((c.tc : Thread nD τ).loc main_arg0) : S128x16384.Idx → BitVec 32) (ix2 s T)).toNat < 16384 := fun s T => by
    have := hm c s T
    unfold pick at this
    rw [vix2] at this
    exact this
  have hex : ∀ T : Fin 16384, Cert.ReferenceIdeal.Plain.exOf (m ((c.tc : Thread nD τ).loc main_arg0)) T = exTok m c T := fun T => by
    funext s
    exact Fin.ext (congrArg (fun j : S128x16384.Idx => ((m ((c.tc : Thread nD τ).loc main_arg0) : S128x16384.Idx → BitVec 32) j).toNat % 16384)
      (vix2 s T).symm)
  refine (congrArg _ e).trans ((Cert.ReferenceIdeal.Plain.normed_apply _ _ _ _).trans ?_)
  show _ = resAt m c (i 0 : Fin 16384) (i 1 : Fin 2048)
  unfold resAt
  refine congrArg (fun h => normAt h _ _) (funext fun k => (Cert.ReferenceIdeal.Plain.sums_apply _ he _ _ _ _ _ _).trans ?_)
  rw [hex (i 0)]
  rfl

/-- Over the reals the launch and the reference leave the same array. -/
theorem algebraic : Cert.algebraic_KernelIdeal_ReferenceIdeal := by
  intro m g m' g' hpre hagree
  have hm := inTable_of (F := Ideal) m hpre
  refine ⟨fun c => resOf m c, ?_, ?_⟩
  · refine (θ_run Cert.KernelIdeal.defs _ _).mono (fun r h c => ⟨(h.2 c).trans (arr5 m c), ?_⟩) (run_read (F := Ideal) m g hm)
    exact (h.1.1 c)
  · refine (θ_run Cert.ReferenceIdeal.defs _ _).mono (fun r h c => ⟨(h c).1.trans ?_, (h c).2⟩) (Cert.ReferenceIdeal.Value.run m' g')
    obtain ⟨h0, h1, h2, h3, h4, h5⟩ := hagree c
    exact same_result m hm c m' h0 h1 h2 h3 h4 h5

end Cert.KernelIdeal.Peer
-- ==== Proof.Peer.Plain.lean ====
/-
  The reference's run: its result, its arguments kept and every counter at zero.
-/
module

public import proofs.«01_k».proof.Defs
public import proofs.«01_k».proof.Proof.Gen.ReferenceIdeal
public import proofs.«01_k».proof.Proof.Gen.ReferenceIdeal.Run
public import proofs.«01_k».proof.Proof.Gen.Pre_experts_in_table
public import Idealize.ShloMosaic.Lib.Quiescent

@[expose] public section

set_option maxRecDepth 65536

noncomputable section

namespace Cert.ReferenceIdeal.Plain

open Cert.ReferenceIdeal Cert.ReferenceIdeal.Gen
open Idealize.ShloMosaic Idealize.ShloMosaic.TcCoe
open Idealize.SL.Sem

/-- The reference's frame. -/
theorem frame : Cert.quiescent_ReferenceIdeal := fun m ρ _ =>
  (θ_run Cert.ReferenceIdeal.defs _ _).mono
    (fun r h => ⟨fun c => (h c).2, sem_eq_zero_of_no_sems (by decide) r.2⟩) (Value.run m ρ)

/-- The same frame where the expert numbers are also known to lie in the table. -/
theorem frame_pre : Cert.quiescent_ReferenceIdeal_pre_experts_in_table := fun m ρ _ =>
  (θ_run Cert.ReferenceIdeal.defs _ _).mono
    (fun r h => ⟨fun c => (h c).2, sem_eq_zero_of_no_sems (by decide) r.2⟩) (Value.run m ρ)

end Cert.ReferenceIdeal.Plain
-- ==== Proof.In.Value.lean ====
/-
  The input projection: what its grid leaves, at the exact values.
-/
module

public import proofs.«01_k».proof.Defs
public import proofs.«01_k».proof.Proof.Peer.Mixed
public import proofs.«01_k».proof.Proof.Gen.Kernel2Ideal.Value
public import Idealize.ShloMosaic.Lib.KernelVsHost

@[expose] public section

set_option maxRecDepth 65536

noncomputable section

namespace Cert.Kernel2Ideal.In

open Cert.Kernel2Ideal Cert.Kernel2Ideal.Gen
open Idealize.ShloMosaic Idealize.ShloMosaic.TcCoe
open Cert.KernelIdeal.Peer (normAt)

/-- Token `T`'s row of an array that holds the two sequences apart. -/
def rowAt (x : S2x8192x2048.Idx → Ideal .f32) (T : Fin 16384) (k : Fin 2048) : Ideal .f32 :=
  x (ix3 (⟨T.val / 8192, by omega⟩ : Fin 2) (⟨T.val % 8192, by omega⟩ : Fin 8192) k)

/-- Column `n` of the weights, zeros past the last. -/
def colAt (w : S1x2048x7184.Idx → Ideal .f32) (n : Fin 7296) (k : Fin 2048) : Ideal .f32 :=
  if h : n.val < 7184 then w (ix3 (0 : Fin 1) k (⟨n.val, h⟩ : Fin 7184)) else 0

/-- The projection of token `T`, at column `n`. -/
def projAt (x : S2x8192x2048.Idx → Ideal .f32) (g : S1x2048.Idx → Ideal .f32) (w : S1x2048x7184.Idx → Ideal .f32)
    (T : Fin 16384) (n : Fin 7296) : Ideal .f32 :=
  ∑ k : Fin 2048, normAt (rowAt x T) (fun k => g (ix2 (0 : Fin 1) k)) k * colAt w n k

theorem pay_apply (x : Vec Ideal S512x2048 .f32) (g : Vec Ideal S1x2048 .f32) (w : Vec Ideal S2048x2432 .bf16) (l : Fin 512) (j : Fin 2432) :
    k0_pay1 x g w (ix2 l j) = ∑ k : Fin 2048, normAt (fun k => x (ix2 l k)) (fun k => g (ix2 (0 : Fin 1) k)) k * w (ix2 k j) := by
  unfold k0_pay1 normAt
  pointwise

/-- Rows of 7184 numbers with 112 more behind them, read at an index. -/
theorem padded {r : ℕ} (x : (⟨2, ![r, 7184]⟩ : Shape).Idx → Ideal .f32) {u : Shape} (v : u.Idx → Ideal .f32)
    (h : Shape.Pads (⟨2, ![r, 7184]⟩ : Shape) ![0, 0] ![0, 112] ![0, 0] (⟨2, ![r, 7296]⟩ : Shape)) (hu : 0 < u.numel) (k : Fin r) (n : Fin 7296) :
    pad (⟨2, ![r, 7296]⟩ : Shape) ![0, 0] ![0, 112] ![0, 0] x v h hu (ix2 k n)
      = if h' : n.val < 7184 then x (ix2 k (⟨n.val, h'⟩ : Fin 7184)) else v (Shape.Idx.first hu) := by
  split
  · rename_i h'
    exact pad_apply_of_inside _ _ _ _ _ _ _ _ (ix2 k (⟨n.val, h'⟩ : Fin 7184)) (by
      intro a
      match a with
      | ⟨0, _⟩ => show k.val = 0 + k.val * (0 + 1); omega
      | ⟨1, _⟩ => show n.val = 0 + n.val * (0 + 1); omega)
  · rename_i h'
    exact pad_apply_of_not_inside _ _ _ _ _ _ _ _ (1 : Fin 2) (by
      intro hh
      have h3 : (n.val - 0) / (0 + 1) < 7184 := hh.2.2
      omega)

/-- The integer zero is the number zero. -/
theorem zero_word (i : S_.Idx) : sitofp (F := Ideal) .f32 (constantI S_ 32 0#32) i = 0 := by
  show (((0#32 : BitVec 32).toInt : ℝ) : EReal) = 0
  simp

variable (m : (ℓ : Loc nD τ sig) → Buf (Elt Ideal) ℓ)

/-- The arguments as arrays of numbers. -/
def tokens (c : Dev nD) : S2x8192x2048.Idx → Ideal .f32 := m ((c : Thread nD τ).loc main_arg0)
def scales (c : Dev nD) : S1x2048.Idx → Ideal .f32 := m ((c : Thread nD τ).loc main_arg1)
def weights (c : Dev nD) : S1x2048x7184.Idx → Ideal .f32 := m ((c : Thread nD τ).loc main_arg2)

theorem V_v3 (c : Dev nD) (T : Fin 16384) (k : Fin 2048) :
    (Gen.V m c main_v3 : S16384x2048.Idx → Ideal .f32) (ix2 T k) = rowAt (tokens m c) T k := by
  have e : (Gen.V m c main_v3 : S16384x2048.Idx → Ideal .f32)
      = shapeCast S16384x2048 (tokens m c) shapeCasts_S2x8192x2048_S16384x2048 := by
    show StableHlo.after (List.flatten [hostOps0, hostOps0_1, hostOps0_2]) _ (Proc.devRef .tc main_v3) = _
    simp only [hostOps0, hostOps0_1, hostOps0_2, List.flatten_cons, List.flatten_nil, List.append_nil, List.cons_append, List.nil_append,
      StableHlo.TRef.binary, StableHlo.TRef.unary, StableHlo.TRef.toBuf, StableHlo.TRef.ofBuf, cast_eq]
    after_results
    rfl
  rw [e]
  exact shapeCast_apply (s := S2x8192x2048) (t := S16384x2048) _ _ _ _ (by
    rw [Shape.rowMajor_val_three, Shape.rowMajor_val_two]
    show (T.val / 8192 * 8192 + T.val % 8192) * 2048 + k.val = T.val * 2048 + k.val
    omega)

theorem V_v5 (c : Dev nD) (k : Fin 2048) :
    (Gen.V m c main_v5 : S1x2048.Idx → Ideal .f32) (ix2 (0 : Fin 1) k) = scales m c (ix2 (0 : Fin 1) k) := by
  have e : (Gen.V m c main_v5 : S1x2048.Idx → Ideal .f32)
      = broadcastInDim S1x2048 ![1] bcast_S2048_S1x2048_1 (shapeCast S2048 (scales m c) shapeCasts_S1x2048_S2048) := by
    show StableHlo.after (List.flatten [hostOps0, hostOps0_1, hostOps0_2]) _ (Proc.devRef .tc main_v5) = _
    simp only [hostOps0, hostOps0_1, hostOps0_2, List.flatten_cons, List.flatten_nil, List.append_nil, List.cons_append, List.nil_append,
      StableHlo.TRef.binary, StableHlo.TRef.unary, StableHlo.TRef.toBuf, StableHlo.TRef.ofBuf, cast_eq]
    after_results
    rfl
  rw [e]
  have h : shapeCast S2048 (scales m c) shapeCasts_S1x2048_S2048 (ix1 k) = scales m c (ix2 (0 : Fin 1) k) :=
    shapeCast_apply (s := S1x2048) (t := S2048) _ _ _ _ (by
      rw [Shape.rowMajor_val_two, Shape.rowMajor_val_one]
      show 0 * 2048 + k.val = k.val
      omega)
  rw [← h]
  generalize shapeCast S2048 (scales m c) shapeCasts_S1x2048_S2048 = y
  pointwise

theorem V_v2 (c : Dev nD) (k : Fin 2048) (n : Fin 7296) :
    (Gen.V m c main_v2 : S2048x7296.Idx → Ideal .bf16) (ix2 k n) = colAt (weights m c) n k := by
  have e : (Gen.V m c main_v2 : S2048x7296.Idx → Ideal .bf16)
      = truncf .bf16 (pad S2048x7296 ![0, 0] ![0, 112] ![0, 0] (shapeCast S2048x7184 (weights m c) shapeCasts_S1x2048x7184_S2048x7184)
          (sitofp (F := Ideal) .f32 (constantI S_ 32 0#32)) pads_S2048x7184_S2048x7296_000_01120 h_S_) bitsLt_bf16_f32 := by
    show StableHlo.after (List.flatten [hostOps0, hostOps0_1, hostOps0_2]) _ (Proc.devRef .tc main_v2) = _
    simp only [hostOps0, hostOps0_1, hostOps0_2, List.flatten_cons, List.flatten_nil, List.append_nil, List.cons_append, List.nil_append,
      StableHlo.TRef.binary, StableHlo.TRef.unary, StableHlo.TRef.toBuf, StableHlo.TRef.ofBuf, cast_eq]
    after_results
    rfl
  rw [e]
  refine (padded (r := 2048) (shapeCast S2048x7184 (weights m c) shapeCasts_S1x2048x7184_S2048x7184)
    (sitofp (F := Ideal) .f32 (constantI S_ 32 0#32)) pads_S2048x7184_S2048x7296_000_01120 h_S_ k n).trans ?_
  unfold colAt
  split
  · rename_i h
    exact shapeCast_apply (s := S1x2048x7184) (t := S2048x7184) _ _ _ _ (by
      rw [Shape.rowMajor_val_three, Shape.rowMajor_val_two]
      show (0 * 2048 + k.val) * 7184 + n.val = k.val * 7184 + n.val
      omega)
  · exact zero_word _

/-- The blocks' places on the grid. -/
theorem places : ∀ t : Fin cfg0.N, win0_0.index t 0 = t.val % 32 ∧ win0_0.index t 1 = 0 ∧ win0_2.index t 0 = 0 ∧ win0_2.index t 1 = t.val / 32
    ∧ win0_3.index t 0 = t.val % 32 ∧ win0_3.index t 1 = t.val / 32 :=
  (by decide +kernel : ∀ t : Fin grid0.N, win0_0.index t 0 = t.val % 32 ∧ win0_0.index t 1 = 0 ∧ win0_2.index t 0 = 0 ∧ win0_2.index t 1 = t.val / 32
    ∧ win0_3.index t 0 = t.val % 32 ∧ win0_3.index t 1 = t.val / 32)

theorem iblk0_apply (c : Dev nD) (t : Fin cfg0.N) (l : Fin 512) (k : Fin 2048) (T : Fin 16384) (hT : T.val = 512 * (t.val % 32) + l.val) :
    (iblk m c 0 t : S512x2048.Idx → Ideal .f32) (ix2 l k) = rowAt (tokens m c) T k := by
  refine Eq.trans ?_ (V_v3 m c T k)
  unfold iblk
  rw [View.read_apply]
  show (Gen.V m c main_v3 : S16384x2048.Idx → Ideal .f32) _ = _
  congr 1
  funext a
  apply Fin.ext
  obtain ⟨h0, h1, -⟩ := places t
  match a with
  | ⟨0, _⟩ => show win0_0.index t 0 * 512 + 1 * l.val = T.val; rw [h0]; omega
  | ⟨1, _⟩ => show win0_0.index t 1 * 2048 + 1 * k.val = k.val; rw [h1]; omega

theorem iblk1_apply (c : Dev nD) (t : Fin cfg0.N) (k : Fin 2048) :
    (iblk m c 1 t : S1x2048.Idx → Ideal .f32) (ix2 (0 : Fin 1) k) = scales m c (ix2 (0 : Fin 1) k) := by
  refine Eq.trans ?_ (V_v5 m c k)
  unfold iblk
  rw [View.read_apply]
  show (Gen.V m c main_v5 : S1x2048.Idx → Ideal .f32) _ = _
  congr 1
  funext a
  apply Fin.ext
  match a with
  | ⟨0, _⟩ => rfl
  | ⟨1, _⟩ => show 0 * 2048 + 1 * k.val = k.val; omega

theorem iblk2_apply (c : Dev nD) (t : Fin cfg0.N) (k : Fin 2048) (j : Fin 2432) (n : Fin 7296) (hn : n.val = 2432 * (t.val / 32) + j.val) :
    (iblk m c 2 t : S2048x2432.Idx → Ideal .bf16) (ix2 k j) = colAt (weights m c) n k := by
  refine Eq.trans ?_ (V_v2 m c k n)
  unfold iblk
  rw [View.read_apply]
  show (Gen.V m c main_v2 : S2048x7296.Idx → Ideal .bf16) _ = _
  congr 1
  funext a
  apply Fin.ext
  obtain ⟨-, -, h0, h1, -⟩ := places t
  match a with
  | ⟨0, _⟩ => show win0_2.index t 0 * 2048 + 1 * k.val = k.val; rw [h0]; omega
  | ⟨1, _⟩ => show win0_2.index t 1 * 2432 + 1 * j.val = n.val; rw [h1]; omega

theorem out_apply (c : Dev nD) (t : Fin cfg0.N) (l : Fin 512) (j : Fin 2432) (T : Fin 16384) (hT : T.val = 512 * (t.val % 32) + l.val)
    (n : Fin 7296) (hn : n.val = 2432 * (t.val / 32) + j.val) :
    out0_3 (iblk m c 0 t) (iblk m c 1 t) (iblk m c 2 t) (ix2 l j) = projAt (tokens m c) (scales m c) (weights m c) T n := by
  have hz : (![0, 0] : Fin 2 → ℕ) = fun _ => 0 := by funext a; fin_cases a <;> rfl
  unfold out0_3 projAt
  rw [View.canon_unit_zero hz, View.ld_unit_zero (S := S512x2048) hz, View.ld_unit_zero (S := S1x2048) hz, View.ld_unit_zero (S := S2048x2432) hz, pay_apply]
  refine Finset.sum_congr rfl fun k _ => congrArg₂ (· * ·) ?_ (iblk2_apply m c t k j n hn)
  exact congrArg₂ (fun a b => normAt a b k) (funext fun k => iblk0_apply m c t l k T hT) (funext fun k => iblk1_apply m c t k)

/-- The whole result. -/
def resOf (c : Dev nD) : S16384x7296.Idx → Ideal .f32 := fun i => projAt (tokens m c) (scales m c) (weights m c) (i 0 : Fin 16384) (i 1 : Fin 7296)

theorem flushed3 (c : Dev nD) (t : Fin cfg0.N) : (dats m 0 c).flushed 3 t = ((cfg0.win 3).blk t).view.read (Elt Ideal) (resOf m c) := by
  unfold Pipeline.Dat.flushed
  rw [after0_3]
  funext x
  rw [View.read_apply]
  have ht : t.val < 96 := t.isLt
  have hx : (x 0).val < 512 := (x 0).isLt
  have hy : (x 1).val < 2432 := (x 1).isLt
  have e : (x : S512x2432.Idx) = ix2 (x 0 : Fin 512) (x 1 : Fin 2432) := by funext a; fin_cases a <;> rfl
  obtain ⟨-, -, -, -, i0, i1⟩ := places t
  have h0 : (((cfg0.win 3).blk t).view.emb x 0).val = 512 * (t.val % 32) + (x 0).val := by
    show win0_3.index t 0 * 512 + 1 * (x 0).val = _
    rw [i0]; omega
  have h1 : (((cfg0.win 3).blk t).view.emb x 1).val = 2432 * (t.val / 32) + (x 1).val := by
    show win0_3.index t 1 * 2432 + 1 * (x 1).val = _
    rw [i1]; omega
  show out0_3 (iblk m c 0 t) (iblk m c 1 t) (iblk m c 2 t) x = projAt (tokens m c) (scales m c) (weights m c) _ _
  refine (congrArg (out0_3 (iblk m c 0 t) (iblk m c 1 t) (iblk m c 2 t)) e).trans
    ((out_apply m c t (x 0) (x 1) (⟨512 * (t.val % 32) + (x 0).val, by omega⟩ : Fin 16384) rfl
      (⟨2432 * (t.val / 32) + (x 1).val, by omega⟩ : Fin 7296) rfl).trans ?_)
  exact congrArg₂ (projAt (tokens m c) (scales m c) (weights m c)) (Fin.ext h0.symm) (Fin.ext h1.symm)

theorem cover3 (i : S16384x7296.Idx) : ∃ t : Fin cfg0.N, (cfg0.win 3).flush t = true ∧ i ∈ ((cfg0.win 3).blk t).view.set := by
  have h0 : (i 0).val < 16384 := (i 0).isLt
  have h1 : (i 1).val < 7296 := (i 1).isLt
  have hN : (i 1).val / 2432 * 32 + (i 0).val / 512 < cfg0.N := by show _ < 96; omega
  refine ⟨⟨(i 1).val / 2432 * 32 + (i 0).val / 512, hN⟩, flush0_3 _, ?_⟩
  show i ∈ ((View.whole main_v6).slice (win0_3.rect ⟨(i 1).val / 2432 * 32 + (i 0).val / 512, hN⟩)).set
  rw [View.set_slice_whole, Rect.mem_set_unit]
  obtain ⟨-, -, -, -, i0, i1⟩ := places ⟨(i 1).val / 2432 * 32 + (i 0).val / 512, hN⟩
  dsimp only at i0 i1
  intro a
  match a with
  | ⟨0, _⟩ =>
    show win0_3.index _ 0 * 512 ≤ (i 0).val ∧ (i 0).val < win0_3.index _ 0 * 512 + 512
    rw [i0]
    omega
  | ⟨1, _⟩ =>
    show win0_3.index _ 1 * 2432 ≤ (i 1).val ∧ (i 1).val < win0_3.index _ 1 * 2432 + 2432
    rw [i1]
    omega

/-- What the run leaves in the result's array. -/
theorem arr3 (c : Dev nD) : (dats m 0 c).arrAt 3 cfg0.N = resOf m c :=
  (dats m 0 c).arrAt_eq_of_cover 3 (resOf m c) (fun t _ => flushed3 m c t) cover3

end Cert.Kernel2Ideal.In
-- ==== Proof.In.Agree.lean ====
/-
  The input projection: its frames, and that over the reals the launch and the reference leave the same array.
-/
module

public import proofs.«01_k».proof.Proof.In.Value
public import proofs.«01_k».proof.Proof.Gen.Kernel2.Frame
public import proofs.«01_k».proof.Proof.Gen.Reference2Ideal.Read

@[expose] public section

set_option maxRecDepth 65536

noncomputable section

namespace Cert.Reference2Ideal.Plain

open Cert.Reference2Ideal Cert.Reference2Ideal.Gen Cert.Reference2Ideal.Read
open Idealize.ShloMosaic Idealize.ShloMosaic.TcCoe
open Idealize.SL.Sem
open Cert.KernelIdeal.Peer (normAt)
open Cert.Kernel2Ideal.In (rowAt colAt projAt padded zero_word)

variable (x : S2x8192x2048.Idx → Ideal .f32) (g : S1x2048.Idx → Ideal .f32) (w : S1x2048x7184.Idx → Ideal .f32)

/-- The normed row of token `T`. -/
theorem normed_apply (T : Fin 16384) (k : Fin 2048) :
    val_main_v13 (F := Ideal) x g (ix3 (⟨T.val / 8192, by omega⟩ : Fin 2) (⟨T.val % 8192, by omega⟩ : Fin 8192) k)
      = normAt (rowAt x T) (fun k => g (ix2 (0 : Fin 1) k)) k := by
  unfold normAt rowAt val_main_v13 val_main_v10 val_main_v9 val_main_v8 val_main_v7 val_main_v5 val_main_v3 val_main_v2 val_main_v1
    val_main_v12 val_main_v11 val_main_v4 val_main_v6 val_main_cst val_main_cst_0 val_main_cst_1
  have h : val_main_v0 (F := Ideal) g (ix1 k) = g (ix2 (0 : Fin 1) k) :=
    shapeCast_apply (s := S1x2048) (t := S2048) _ _ _ _ (by
      rw [Shape.rowMajor_val_two, Shape.rowMajor_val_one]
      show 0 * 2048 + k.val = k.val
      omega)
  show _ = _ * g (ix2 (0 : Fin 1) k)
  rw [← h]
  generalize val_main_v0 (F := Ideal) g = y
  pointwise

theorem weights_apply (k : Fin 2048) (n : Fin 7184) : val_main_v14 (F := Ideal) w (ix2 k n) = w (ix3 (0 : Fin 1) k n) :=
  shapeCast_apply (s := S1x2048x7184) (t := S2048x7184) _ _ _ _ (by
    rw [Shape.rowMajor_val_three, Shape.rowMajor_val_two]
    show (0 * 2048 + k.val) * 7184 + n.val = k.val * 7184 + n.val
    omega)

theorem product_apply (a : Fin 2) (b : Fin 8192) (n : Fin 7184) :
    val_main_v15 (F := Ideal) x g w (ix3 a b n)
      = ∑ k : Fin 2048, val_main_v13 (F := Ideal) x g (ix3 a b k) * val_main_v14 (F := Ideal) w (ix2 k n) := by
  unfold val_main_v15
  generalize val_main_v13 (F := Ideal) x g = y
  generalize val_main_v14 (F := Ideal) w = z
  pointwise

theorem result_apply (T : Fin 16384) (n : Fin 7296) : val_main_v17 (F := Ideal) x g w (ix2 T n) = projAt x g w T n := by
  unfold val_main_v17
  refine (padded (r := 16384) (val_main_v16 (F := Ideal) x g w) (val_main_call0_v0 (F := Ideal)) pads_S16384x7184_S16384x7296_000_01120 h_S_ T n).trans ?_
  unfold projAt
  by_cases h : n.val < 7184
  · rw [dif_pos h]
    refine (shapeCast_apply (s := S2x8192x7184) (t := S16384x7184) (val_main_v15 (F := Ideal) x g w) shapeCasts_S2x8192x7184_S16384x7184 _
      (ix3 (⟨T.val / 8192, by omega⟩ : Fin 2) (⟨T.val % 8192, by omega⟩ : Fin 8192) (⟨n.val, h⟩ : Fin 7184)) (by
        rw [Shape.rowMajor_val_three, Shape.rowMajor_val_two]
        show (T.val / 8192 * 8192 + T.val % 8192) * 7184 + n.val = T.val * 7184 + n.val
        omega)).trans ((product_apply x g w _ _ _).trans (Finset.sum_congr rfl fun k _ => ?_))
    rw [normed_apply, weights_apply]
    unfold colAt
    rw [dif_pos h]
  · rw [dif_neg h]
    refine (zero_word _).trans (Finset.sum_eq_zero fun k _ => ?_).symm
    unfold colAt
    rw [dif_neg h]
    exact mul_zero (M₀ := EReal) _

/-- The reference's frame. -/
theorem frame : Cert.quiescent_Reference2Ideal := fun m ρ _ =>
  (θ_run Cert.Reference2Ideal.defs _ _).mono
    (fun r h => ⟨fun c => (h c).2, sem_eq_zero_of_no_sems (by decide) r.2⟩) (Value.run m ρ)

end Cert.Reference2Ideal.Plain

namespace Cert.Kernel2Ideal.In

open Cert.Kernel2Ideal Cert.Kernel2Ideal.Gen
open Idealize.ShloMosaic Idealize.ShloMosaic.TcCoe
open Idealize.SL.Sem

theorem frame : Cert.quiescent_Kernel2Ideal := fun m ρ _ => Cert.Kernel2Ideal.Gen.frame m ρ

theorem frame_bits : Cert.quiescent_Kernel2 := fun m ρ _ => Cert.Kernel2.Gen.frame m ρ

/-- Over the reals the launch and the reference leave the same array. -/
theorem algebraic : Cert.algebraic_Kernel2Ideal_Reference2Ideal := by
  intro m g m' g' hpre hagree
  refine ⟨fun c => resOf m c, ?_, ?_⟩
  · exact (θ_run Cert.Kernel2Ideal.defs _ _).mono (fun r h c => ⟨(h c).1.trans (arr3 m c), (h c).2⟩) (Cert.Kernel2Ideal.Value.run_blocks (F := Ideal) m g)
  · refine (θ_run Cert.Reference2Ideal.defs _ _).mono (fun r h c => ⟨(h c).1.trans ?_, (h c).2⟩) (Cert.Reference2Ideal.Value.run m' g')
    obtain ⟨h0, h1, h2⟩ := hagree c
    rw [h0, h1, h2]
    refine (Cert.Reference2Ideal.Read.val_main_v17_eq (F := Ideal) _ _ _).trans ?_
    funext i
    have e : (i : S16384x7296.Idx) = ix2 (i 0 : Fin 16384) (i 1 : Fin 7296) := by funext a; fin_cases a <;> rfl
    exact (congrArg _ e).trans (Cert.Reference2Ideal.Plain.result_apply _ _ _ _ _)

end Cert.Kernel2Ideal.In
-- ==== Proof.Proj.Pay.lean ====
/-
  The output projection: the numbers it computes, and its block's payloads at an index.
-/
module

public import proofs.«01_k».proof.Defs
public import proofs.«01_k».proof.Proof.Peer.Mixed
public import proofs.«01_k».proof.Proof.Gen.Kernel3Ideal.Value

@[expose] public section

set_option maxRecDepth 65536

noncomputable section

namespace Cert.Kernel3Ideal.Proj

open Cert.Kernel3Ideal Cert.Kernel3Ideal.Gen
open Idealize.ShloMosaic Idealize.ShloMosaic.TcCoe
open Cert.KernelIdeal.Peer (normAt)

/-! ## The numbers, token by token -/

/-- Token `T`'s row of an array that holds the two sequences apart. -/
def rowAt {n : ℕ} {φ : FTy} (x : (⟨3, ![2, 8192, n]⟩ : Shape).Idx → Ideal φ) (T : Fin 16384) (k : Fin n) : Ideal φ :=
  x (ix3 (⟨T.val / 8192, by omega⟩ : Fin 2) (⟨T.val % 8192, by omega⟩ : Fin 8192) k)

/-- The residual row of token `T` with the projected mixture added. -/
def hidAt (x : S2x8192x2048.Idx → Ideal .f32) (a b : S2x8192x1024.Idx → Ideal .bf16) (w : S1x2048x2048.Idx → Ideal .f32)
    (T : Fin 16384) (j : Fin 2048) : Ideal .f32 :=
  rowAt x T j + (∑ k : Fin 1024, rowAt a T k * w (ix3 (0 : Fin 1) (⟨k.val, by omega⟩ : Fin 2048) j))
    + ∑ k : Fin 1024, rowAt b T k * w (ix3 (0 : Fin 1) (⟨1024 + k.val, by omega⟩ : Fin 2048) j)

/-- The normed row of token `T`. -/
def nrmAt (x : S2x8192x2048.Idx → Ideal .f32) (a b : S2x8192x1024.Idx → Ideal .bf16) (w : S1x2048x2048.Idx → Ideal .f32)
    (g : S1x2048.Idx → Ideal .f32) (T : Fin 16384) (j : Fin 2048) : Ideal .f32 := normAt (hidAt x a b w T) (fun k => g (ix2 (0 : Fin 1) k)) j

/-- Column `c` of the queries of token `T`: head `c / 256`, place `c % 256`. -/
def qryAt (x : S2x8192x2048.Idx → Ideal .f32) (a b : S2x8192x1024.Idx → Ideal .bf16) (w : S1x2048x2048.Idx → Ideal .f32)
    (g : S1x2048.Idx → Ideal .f32) (q : S1x2048x8x256.Idx → Ideal .f32) (T : Fin 16384) (c : Fin 2048) : Ideal .f32 :=
  ∑ k : Fin 2048, nrmAt x a b w g T k * q (ix4 (0 : Fin 1) k (⟨c.val / 256, by omega⟩ : Fin 8) (⟨c.val % 256, by omega⟩ : Fin 256))

/-- The score of token `T` against sub-key `n` of head `h`, in the half `p`. -/
def scoAt (x : S2x8192x2048.Idx → Ideal .f32) (a b : S2x8192x1024.Idx → Ideal .bf16) (w : S1x2048x2048.Idx → Ideal .f32)
    (g : S1x2048.Idx → Ideal .f32) (q : S1x2048x8x256.Idx → Ideal .f32) (s : S1x2x8x128x128.Idx → Ideal .f32)
    (p : Fin 2) (h : Fin 8) (n : Fin 128) (T : Fin 16384) : Ideal .f32 :=
  ∑ k : Fin 128, s (ix5 (0 : Fin 1) p h n k) * qryAt x a b w g q T (⟨256 * h.val + 128 * p.val + k.val, by omega⟩ : Fin 2048)
/-! ## A block -/

theorem hid_apply (x : Vec Ideal S256x2048 .f32) (a : Vec Ideal S256x1024 .bf16) (u : Vec Ideal S1024x2048 .bf16) (b : Vec Ideal S256x1024 .bf16)
    (v : Vec Ideal S1024x2048 .bf16) (l : Fin 256) (j : Fin 2048) :
    k0_pay3 x a u b v (ix2 l j) = x (ix2 l j) + (∑ k : Fin 1024, a (ix2 l k) * u (ix2 k j)) + ∑ k : Fin 1024, b (ix2 l k) * v (ix2 k j) := by
  unfold k0_pay3
  pointwise

theorem nrm_apply (x : Vec Ideal S256x2048 .f32) (a : Vec Ideal S256x1024 .bf16) (u : Vec Ideal S1024x2048 .bf16) (b : Vec Ideal S256x1024 .bf16)
    (v : Vec Ideal S1024x2048 .bf16) (g : Vec Ideal S1x2048 .f32) (l : Fin 256) (j : Fin 2048) :
    k0_pay4 x a u b v g (ix2 l j) = normAt (fun k => k0_pay3 x a u b v (ix2 l k)) (fun k => g (ix2 (0 : Fin 1) k)) j := by
  unfold k0_pay4 normAt
  generalize k0_pay3 x a u b v = h
  pointwise

theorem qry_apply (y : Vec Ideal S256x2048 .bf16) (w : Vec Ideal S2048x2048 .bf16) (l : Fin 256) (c : Fin 2048) :
    k0_pay7 y (k0_pay6 w) (constant S256x2048 .f32 0x00000000#32) (ix2 l c) = ∑ k : Fin 2048, y (ix2 l k) * w (ix2 k c) := by
  unfold k0_pay7 k0_pay6
  pointwise

/-- One head's scores: a cut of the queries against the head's sub-keys. -/
def sco (o : ℕ) (h : S256x2048.Slices ![0, o] S256x128) (Q : FVec Ideal S256x2048 .f32) (K : Vec Ideal S1x128x128 .f32) : FVec Ideal S1x128x256 .f32 :=
  shapeCast S1x128x256 (matmul dot_S128x128_S256x128_S128x256_1_1_0_0_n_n none (truncf .bf16 (shapeCast S128x128 K shapeCasts_S1x128x128_S128x128) bitsLt_bf16_f32 : FVec Ideal S128x128 .bf16)
    (truncf .bf16 (extractStridedSlice S256x128 ![0, o] Q h : FVec Ideal S256x128 .f32) bitsLt_bf16_f32 : FVec Ideal S256x128 .bf16) (constant S128x256 .f32 0x00000000#32)) shapeCasts_S128x256_S1x128x256

theorem sco_apply (o : ℕ) (h : S256x2048.Slices ![0, o] S256x128) (ho : o + 128 ≤ 2048) (Q : FVec Ideal S256x2048 .f32) (K : Vec Ideal S1x128x128 .f32)
    (n : Fin 128) (l : Fin 256) :
    sco o h Q K (ix3 (0 : Fin 1) n l) = ∑ k : Fin 128, K (ix3 (0 : Fin 1) n k) * Q (ix2 l (⟨o + k.val, by omega⟩ : Fin 2048)) := by
  have e : ∀ k : Fin 128, (extractStridedSlice S256x128 ![0, o] Q h : S256x128.Idx → Ideal .f32) (ix2 l k) = Q (ix2 l (⟨o + k.val, by omega⟩ : Fin 2048)) :=
    fun k => extractStridedSlice_apply _ _ _ _ _ (by
      intro a
      match a with
      | ⟨0, _⟩ => show l.val = 0 + l.val; omega
      | ⟨1, _⟩ => rfl)
  refine Eq.trans ?_ (Finset.sum_congr rfl fun k _ => congrArg₂ (· * ·) rfl (e k))
  unfold sco
  generalize (extractStridedSlice S256x128 ![0, o] Q h : FVec Ideal S256x128 .f32) = y
  pointwise

/-- All heads' scores of a block. -/
def scoOf (p : Fin 2) (Q : FVec Ideal S256x2048 .f32) (K : Vec Ideal S8x128x128 .f32) : S8x128x256.Idx → Ideal .f32 := fun y =>
  ∑ k : Fin 128, K (ix3 (y 0 : Fin 8) (y 1 : Fin 128) k)
    * Q (ix2 (y 2 : Fin 256) (⟨256 * (y 0).val + 128 * p.val + k.val, by have h : (y 0).val < 8 := (y 0).isLt; omega⟩ : Fin 2048))

theorem piece (p : Fin 2) (hd : Fin 8) (o : ℕ) (ho : o = 256 * hd.val + 128 * p.val) (h : S256x2048.Slices ![0, o] S256x128)
    (iK : ∀ a, (![hd.val, 0, 0] : Fin 3 → ℕ) a + S1x128x128.size a ≤ S8x128x128.size a)
    (iO : ∀ a, (![hd.val, 0, 0] : Fin 3 → ℕ) a + S1x128x256.size a ≤ S8x128x256.size a)
    (Q : FVec Ideal S256x2048 .f32) (K : Vec Ideal S8x128x128 .f32) (x : S1x128x256.Idx) :
    sco o h Q (View.ld K (Rect.unit (s := S8x128x128) ![hd.val, 0, 0] S1x128x128.size iK)) x
      = scoOf p Q K ((Rect.unit (s := S8x128x256) ![hd.val, 0, 0] S1x128x256.size iO).emb x) := by
  have hx : (x 0).val < 1 := (x 0).isLt
  have ex : (x : S1x128x256.Idx) = ix3 (0 : Fin 1) (x 1 : Fin 128) (x 2 : Fin 256) := by
    funext a
    match a with
    | ⟨0, _⟩ => exact Fin.ext (by show (x 0).val = 0; omega)
    | ⟨1, _⟩ => rfl
    | ⟨2, _⟩ => rfl
  refine (congrArg _ ex).trans ((sco_apply o h (by omega) Q _ (x 1) (x 2)).trans ?_)
  unfold scoOf
  refine Finset.sum_congr rfl fun k _ => congrArg₂ (· * ·) ?_ ?_
  · refine congrArg K (funext fun a => Fin.ext ?_)
    match a with
    | ⟨0, _⟩ => show hd.val + 1 * 0 = hd.val + 1 * (x 0).val; omega
    | ⟨1, _⟩ => show 0 + 1 * (x 1).val = 0 + 1 * (x 1).val; rfl
    | ⟨2, _⟩ => show 0 + 1 * k.val = k.val; omega
  · refine congrArg Q (funext fun a => Fin.ext ?_)
    match a with
    | ⟨0, _⟩ => show (x 2).val = 0 + 1 * (x 2).val; omega
    | ⟨1, _⟩ => show o + k.val = 256 * (hd.val + 1 * (x 0).val) + 128 * p.val + k.val; omega

section
variable (x0 : Vec Ideal S256x2048 .f32) (x1 x2 : Vec Ideal S256x1024 .bf16) (x3 : Vec Ideal S2048x2048 .bf16) (x4 : Vec Ideal S1x2048 .f32)
variable (x5 : Vec Ideal S2048x2048 .bf16) (x6 x7 : Vec Ideal S8x128x128 .f32)

theorem sco10 (y : S8x128x256.Idx) : out0_10 x0 x1 x2 x3 x4 x5 x6 x7 y = scoOf 0 (k0_pay33 x0 x1 x2 x3 x4 x5 x6 x7) x6 y := by
  unfold out0_10
  refine View.canon_apply_of_pieces (Val := Elt Ideal) (scoOf 0 (k0_pay33 x0 x1 x2 x3 x4 x5 x6 x7) x6) _ ?_ y (cover0_10 _ _ _ _ _ _ _ _ y)
  intro pc hpc
  rcases List.mem_cons.mp hpc with rfl | hpc
  · exact fun x => piece 0 7 1792 rfl slices_S256x2048_o0_1792_S256x128 inb_S8x128x128_S1x128x128_7_0_0 inb_S8x128x256_S1x128x256_7_0_0 (k0_pay33 x0 x1 x2 x3 x4 x5 x6 x7) x6 x
  rcases List.mem_cons.mp hpc with rfl | hpc
  · exact fun x => piece 0 6 1536 rfl slices_S256x2048_o0_1536_S256x128 inb_S8x128x128_S1x128x128_6_0_0 inb_S8x128x256_S1x128x256_6_0_0 (k0_pay33 x0 x1 x2 x3 x4 x5 x6 x7) x6 x
  rcases List.mem_cons.mp hpc with rfl | hpc
  · exact fun x => piece 0 5 1280 rfl slices_S256x2048_o0_1280_S256x128 inb_S8x128x128_S1x128x128_5_0_0 inb_S8x128x256_S1x128x256_5_0_0 (k0_pay33 x0 x1 x2 x3 x4 x5 x6 x7) x6 x
  rcases List.mem_cons.mp hpc with rfl | hpc
  · exact fun x => piece 0 4 1024 rfl slices_S256x2048_o0_1024_S256x128 inb_S8x128x128_S1x128x128_4_0_0 inb_S8x128x256_S1x128x256_4_0_0 (k0_pay33 x0 x1 x2 x3 x4 x5 x6 x7) x6 x
  rcases List.mem_cons.mp hpc with rfl | hpc
  · exact fun x => piece 0 3 768 rfl slices_S256x2048_o0_768_S256x128 inb_S8x128x128_S1x128x128_3_0_0 inb_S8x128x256_S1x128x256_3_0_0 (k0_pay33 x0 x1 x2 x3 x4 x5 x6 x7) x6 x
  rcases List.mem_cons.mp hpc with rfl | hpc
  · exact fun x => piece 0 2 512 rfl slices_S256x2048_o0_512_S256x128 inb_S8x128x128_S1x128x128_2_0_0 inb_S8x128x256_S1x128x256_2_0_0 (k0_pay33 x0 x1 x2 x3 x4 x5 x6 x7) x6 x
  rcases List.mem_cons.mp hpc with rfl | hpc
  · exact fun x => piece 0 1 256 rfl slices_S256x2048_o0_256_S256x128 inb_S8x128x128_S1x128x128_1_0_0 inb_S8x128x256_S1x128x256_1_0_0 (k0_pay33 x0 x1 x2 x3 x4 x5 x6 x7) x6 x
  rcases List.mem_cons.mp hpc with rfl | hpc
  · exact fun x => piece 0 0 0 rfl slices_S256x2048_o0_0_S256x128 inb_S8x128x128_S1x128x128_0_0_0 inb_S8x128x256_S1x128x256_0_0_0 (k0_pay33 x0 x1 x2 x3 x4 x5 x6 x7) x6 x
  nomatch hpc

theorem sco11 (y : S8x128x256.Idx) : out0_11 x0 x1 x2 x3 x4 x5 x6 x7 y = scoOf 1 (k0_pay33 x0 x1 x2 x3 x4 x5 x6 x7) x7 y := by
  unfold out0_11
  refine View.canon_apply_of_pieces (Val := Elt Ideal) (scoOf 1 (k0_pay33 x0 x1 x2 x3 x4 x5 x6 x7) x7) _ ?_ y (cover0_11 _ _ _ _ _ _ _ _ y)
  intro pc hpc
  rcases List.mem_cons.mp hpc with rfl | hpc
  · exact fun x => piece 1 7 1920 rfl slices_S256x2048_o0_1920_S256x128 inb_S8x128x128_S1x128x128_7_0_0 inb_S8x128x256_S1x128x256_7_0_0 (k0_pay33 x0 x1 x2 x3 x4 x5 x6 x7) x7 x
  rcases List.mem_cons.mp hpc with rfl | hpc
  · exact fun x => piece 1 6 1664 rfl slices_S256x2048_o0_1664_S256x128 inb_S8x128x128_S1x128x128_6_0_0 inb_S8x128x256_S1x128x256_6_0_0 (k0_pay33 x0 x1 x2 x3 x4 x5 x6 x7) x7 x
  rcases List.mem_cons.mp hpc with rfl | hpc
  · exact fun x => piece 1 5 1408 rfl slices_S256x2048_o0_1408_S256x128 inb_S8x128x128_S1x128x128_5_0_0 inb_S8x128x256_S1x128x256_5_0_0 (k0_pay33 x0 x1 x2 x3 x4 x5 x6 x7) x7 x
  rcases List.mem_cons.mp hpc with rfl | hpc
  · exact fun x => piece 1 4 1152 rfl slices_S256x2048_o0_1152_S256x128 inb_S8x128x128_S1x128x128_4_0_0 inb_S8x128x256_S1x128x256_4_0_0 (k0_pay33 x0 x1 x2 x3 x4 x5 x6 x7) x7 x
  rcases List.mem_cons.mp hpc with rfl | hpc
  · exact fun x => piece 1 3 896 rfl slices_S256x2048_o0_896_S256x128 inb_S8x128x128_S1x128x128_3_0_0 inb_S8x128x256_S1x128x256_3_0_0 (k0_pay33 x0 x1 x2 x3 x4 x5 x6 x7) x7 x
  rcases List.mem_cons.mp hpc with rfl | hpc
  · exact fun x => piece 1 2 640 rfl slices_S256x2048_o0_640_S256x128 inb_S8x128x128_S1x128x128_2_0_0 inb_S8x128x256_S1x128x256_2_0_0 (k0_pay33 x0 x1 x2 x3 x4 x5 x6 x7) x7 x
  rcases List.mem_cons.mp hpc with rfl | hpc
  · exact fun x => piece 1 1 384 rfl slices_S256x2048_o0_384_S256x128 inb_S8x128x128_S1x128x128_1_0_0 inb_S8x128x256_S1x128x256_1_0_0 (k0_pay33 x0 x1 x2 x3 x4 x5 x6 x7) x7 x
  rcases List.mem_cons.mp hpc with rfl | hpc
  · exact fun x => piece 1 0 128 rfl slices_S256x2048_o0_128_S256x128 inb_S8x128x128_S1x128x128_0_0_0 inb_S8x128x256_S1x128x256_0_0_0 (k0_pay33 x0 x1 x2 x3 x4 x5 x6 x7) x7 x
  nomatch hpc

end

end Cert.Kernel3Ideal.Proj
-- ==== Proof.Proj.Value.lean ====
/-
  The output projection: what its grid leaves, at the exact values.
-/
module

public import proofs.«01_k».proof.Defs
public import proofs.«01_k».proof.Proof.Proj.Pay

@[expose] public section

set_option maxRecDepth 65536

noncomputable section

namespace Cert.Kernel3Ideal.Proj

open Cert.Kernel3Ideal Cert.Kernel3Ideal.Gen
open Idealize.ShloMosaic Idealize.ShloMosaic.TcCoe
open Cert.KernelIdeal.Peer (normAt)

variable (m : (ℓ : Loc nD τ sig) → Buf (Elt Ideal) ℓ)

/-- The arguments as arrays of numbers. -/
def aX (c : Dev nD) : S2x8192x2048.Idx → Ideal .f32 := m ((c : Thread nD τ).loc main_arg0)
def aA (c : Dev nD) : S2x8192x1024.Idx → Ideal .bf16 := m ((c : Thread nD τ).loc main_arg1)
def aB (c : Dev nD) : S2x8192x1024.Idx → Ideal .bf16 := m ((c : Thread nD τ).loc main_arg2)
def aW (c : Dev nD) : S1x2048x2048.Idx → Ideal .f32 := m ((c : Thread nD τ).loc main_arg3)
def aG (c : Dev nD) : S1x2048.Idx → Ideal .f32 := m ((c : Thread nD τ).loc main_arg4)
def aQ (c : Dev nD) : S1x2048x8x256.Idx → Ideal .f32 := m ((c : Thread nD τ).loc main_arg5)
def aS (c : Dev nD) : S1x2x8x128x128.Idx → Ideal .f32 := m ((c : Thread nD τ).loc main_arg6)

/-! ## What the grid finds -/

theorem V_v3 (c : Dev nD) (T : Fin 16384) (k : Fin 2048) :
    (Gen.V m c main_v3 : S16384x2048.Idx → Ideal .f32) (ix2 T k) = rowAt (aX m c) T k := by
  have e : (Gen.V m c main_v3 : S16384x2048.Idx → Ideal .f32)
      = shapeCast S16384x2048 (aX m c) shapeCasts_S2x8192x2048_S16384x2048 := by
    show StableHlo.after (List.flatten [hostOps0]) _ (Proc.devRef .tc main_v3) = _
    simp only [hostOps0, List.flatten_cons, List.flatten_nil, List.append_nil, List.cons_append, List.nil_append,
      StableHlo.TRef.binary, StableHlo.TRef.unary, StableHlo.TRef.toBuf, StableHlo.TRef.ofBuf, cast_eq]
    after_results
    rfl
  rw [e]
  exact shapeCast_apply (s := S2x8192x2048) (t := S16384x2048) _ _ _ _ (by
    rw [Shape.rowMajor_val_three, Shape.rowMajor_val_two]
    show (T.val / 8192 * 8192 + T.val % 8192) * 2048 + k.val = T.val * 2048 + k.val
    omega)

theorem V_v4 (c : Dev nD) (T : Fin 16384) (k : Fin 1024) :
    (Gen.V m c main_v4 : S16384x1024.Idx → Ideal .bf16) (ix2 T k) = rowAt (aA m c) T k := by
  have e : (Gen.V m c main_v4 : S16384x1024.Idx → Ideal .bf16)
      = shapeCast S16384x1024 (aA m c) shapeCasts_S2x8192x1024_S16384x1024 := by
    show StableHlo.after (List.flatten [hostOps0]) _ (Proc.devRef .tc main_v4) = _
    simp only [hostOps0, List.flatten_cons, List.flatten_nil, List.append_nil, List.cons_append, List.nil_append,
      StableHlo.TRef.binary, StableHlo.TRef.unary, StableHlo.TRef.toBuf, StableHlo.TRef.ofBuf, cast_eq]
    after_results
    rfl
  rw [e]
  exact shapeCast_apply (s := S2x8192x1024) (t := S16384x1024) _ _ _ _ (by
    rw [Shape.rowMajor_val_three, Shape.rowMajor_val_two]
    show (T.val / 8192 * 8192 + T.val % 8192) * 1024 + k.val = T.val * 1024 + k.val
    omega)

theorem V_v5 (c : Dev nD) (T : Fin 16384) (k : Fin 1024) :
    (Gen.V m c main_v5 : S16384x1024.Idx → Ideal .bf16) (ix2 T k) = rowAt (aB m c) T k := by
  have e : (Gen.V m c main_v5 : S16384x1024.Idx → Ideal .bf16)
      = shapeCast S16384x1024 (aB m c) shapeCasts_S2x8192x1024_S16384x1024 := by
    show StableHlo.after (List.flatten [hostOps0]) _ (Proc.devRef .tc main_v5) = _
    simp only [hostOps0, List.flatten_cons, List.flatten_nil, List.append_nil, List.cons_append, List.nil_append,
      StableHlo.TRef.binary, StableHlo.TRef.unary, StableHlo.TRef.toBuf, StableHlo.TRef.ofBuf, cast_eq]
    after_results
    rfl
  rw [e]
  exact shapeCast_apply (s := S2x8192x1024) (t := S16384x1024) _ _ _ _ (by
    rw [Shape.rowMajor_val_three, Shape.rowMajor_val_two]
    show (T.val / 8192 * 8192 + T.val % 8192) * 1024 + k.val = T.val * 1024 + k.val
    omega)

theorem V_v7 (c : Dev nD) (k j : Fin 2048) :
    (Gen.V m c main_v7 : S2048x2048.Idx → Ideal .bf16) (ix2 k j) = aW m c (ix3 (0 : Fin 1) k j) := by
  have e : (Gen.V m c main_v7 : S2048x2048.Idx → Ideal .bf16)
      = truncf .bf16 (shapeCast S2048x2048 (aW m c) shapeCasts_S1x2048x2048_S2048x2048 : FVec Ideal S2048x2048 .f32) bitsLt_bf16_f32 := by
    show StableHlo.after (List.flatten [hostOps0]) _ (Proc.devRef .tc main_v7) = _
    simp only [hostOps0, List.flatten_cons, List.flatten_nil, List.append_nil, List.cons_append, List.nil_append,
      StableHlo.TRef.binary, StableHlo.TRef.unary, StableHlo.TRef.toBuf, StableHlo.TRef.ofBuf, cast_eq]
    after_results
    rfl
  rw [e]
  exact shapeCast_apply (s := S1x2048x2048) (t := S2048x2048) _ _ _ _ (by
    rw [Shape.rowMajor_val_three, Shape.rowMajor_val_two]
    show (0 * 2048 + k.val) * 2048 + j.val = k.val * 2048 + j.val
    omega)

theorem V_v9 (c : Dev nD) (k : Fin 2048) :
    (Gen.V m c main_v9 : S1x2048.Idx → Ideal .f32) (ix2 (0 : Fin 1) k) = aG m c (ix2 (0 : Fin 1) k) := by
  have e : (Gen.V m c main_v9 : S1x2048.Idx → Ideal .f32)
      = broadcastInDim S1x2048 ![1] bcast_S2048_S1x2048_1 (shapeCast S2048 (aG m c) shapeCasts_S1x2048_S2048) := by
    show StableHlo.after (List.flatten [hostOps0]) _ (Proc.devRef .tc main_v9) = _
    simp only [hostOps0, List.flatten_cons, List.flatten_nil, List.append_nil, List.cons_append, List.nil_append,
      StableHlo.TRef.binary, StableHlo.TRef.unary, StableHlo.TRef.toBuf, StableHlo.TRef.ofBuf, cast_eq]
    after_results
    rfl
  rw [e]
  have h : shapeCast S2048 (aG m c) shapeCasts_S1x2048_S2048 (ix1 k) = aG m c (ix2 (0 : Fin 1) k) :=
    shapeCast_apply (s := S1x2048) (t := S2048) _ _ _ _ (by
      rw [Shape.rowMajor_val_two, Shape.rowMajor_val_one]
      show 0 * 2048 + k.val = k.val
      omega)
  rw [← h]
  generalize shapeCast S2048 (aG m c) shapeCasts_S1x2048_S2048 = y
  pointwise

theorem V_v2 (c : Dev nD) (k j : Fin 2048) :
    (Gen.V m c main_v2 : S2048x2048.Idx → Ideal .bf16) (ix2 k j)
      = aQ m c (ix4 (0 : Fin 1) k (⟨j.val / 256, by omega⟩ : Fin 8) (⟨j.val % 256, by omega⟩ : Fin 256)) := by
  have e : (Gen.V m c main_v2 : S2048x2048.Idx → Ideal .bf16)
      = truncf .bf16 (shapeCast S2048x2048 (shapeCast S2048x8x256 (aQ m c) shapeCasts_S1x2048x8x256_S2048x8x256 : FVec Ideal S2048x8x256 .f32)
          shapeCasts_S2048x8x256_S2048x2048 : FVec Ideal S2048x2048 .f32) bitsLt_bf16_f32 := by
    show StableHlo.after (List.flatten [hostOps0]) _ (Proc.devRef .tc main_v2) = _
    simp only [hostOps0, List.flatten_cons, List.flatten_nil, List.append_nil, List.cons_append, List.nil_append,
      StableHlo.TRef.binary, StableHlo.TRef.unary, StableHlo.TRef.toBuf, StableHlo.TRef.ofBuf, cast_eq]
    after_results
    rfl
  rw [e]
  refine (shapeCast_apply (s := S2048x8x256) (t := S2048x2048) (shapeCast S2048x8x256 (aQ m c) shapeCasts_S1x2048x8x256_S2048x8x256)
    shapeCasts_S2048x8x256_S2048x2048 _ (ix3 k (⟨j.val / 256, by omega⟩ : Fin 8) (⟨j.val % 256, by omega⟩ : Fin 256)) (by
      rw [Shape.rowMajor_val_three, Shape.rowMajor_val_two]
      show (k.val * 8 + j.val / 256) * 256 + j.val % 256 = k.val * 2048 + j.val
      omega)).trans ?_
  exact shapeCast_apply (s := S1x2048x8x256) (t := S2048x8x256) _ _ _ _ (by
    rw [Shape.rowMajor_val_four, Shape.rowMajor_val_three]
    show ((0 * 2048 + k.val) * 8 + j.val / 256) * 256 + j.val % 256 = (k.val * 8 + j.val / 256) * 256 + j.val % 256
    omega)

theorem V_v11 (c : Dev nD) (h : Fin 8) (n k : Fin 128) :
    (Gen.V m c main_v11 : S8x128x128.Idx → Ideal .f32) (ix3 h n k) = aS m c (ix5 (0 : Fin 1) (0 : Fin 2) h n k) := by
  have e : (Gen.V m c main_v11 : S8x128x128.Idx → Ideal .f32)
      = shapeCast S8x128x128 (extractStridedSlice S1x1x8x128x128 ![0, 0, 0, 0, 0] (aS m c) slices_S1x2x8x128x128_S1x1x8x128x128_0_0_0_0_0
          : FVec Ideal S1x1x8x128x128 .f32) shapeCasts_S1x1x8x128x128_S8x128x128 := by
    show StableHlo.after (List.flatten [hostOps0]) _ (Proc.devRef .tc main_v11) = _
    simp only [hostOps0, List.flatten_cons, List.flatten_nil, List.append_nil, List.cons_append, List.nil_append,
      StableHlo.TRef.binary, StableHlo.TRef.unary, StableHlo.TRef.toBuf, StableHlo.TRef.ofBuf, cast_eq]
    after_results
    rfl
  rw [e]
  have h5 : (extractStridedSlice S1x1x8x128x128 ![0, 0, 0, 0, 0] (aS m c) slices_S1x2x8x128x128_S1x1x8x128x128_0_0_0_0_0
      : S1x1x8x128x128.Idx → Ideal .f32) (ix5 (0 : Fin 1) (0 : Fin 1) h n k) = aS m c (ix5 (0 : Fin 1) (0 : Fin 2) h n k) := by
    generalize aS m c = y
    exact extractStridedSlice_apply _ _ _ _ _ (by
      intro a
      match a with
      | ⟨0, _⟩ => rfl
      | ⟨1, _⟩ => rfl
      | ⟨2, _⟩ => show h.val = 0 + h.val; omega
      | ⟨3, _⟩ => show n.val = 0 + n.val; omega
      | ⟨4, _⟩ => show k.val = 0 + k.val; omega)
  rw [← h5]
  generalize (extractStridedSlice S1x1x8x128x128 ![0, 0, 0, 0, 0] (aS m c) slices_S1x2x8x128x128_S1x1x8x128x128_0_0_0_0_0
      : S1x1x8x128x128.Idx → Ideal .f32) = y
  exact shapeCast_apply (s := S1x1x8x128x128) (t := S8x128x128) y shapeCasts_S1x1x8x128x128_S8x128x128 (ix3 h n k) (ix5 (0 : Fin 1) (0 : Fin 1) h n k) (by
    rw [Shape.rowMajor_val_five, Shape.rowMajor_val_three]
    show (((0 * 1 + 0) * 8 + h.val) * 128 + n.val) * 128 + k.val = (h.val * 128 + n.val) * 128 + k.val
    omega)

theorem V_v13 (c : Dev nD) (h : Fin 8) (n k : Fin 128) :
    (Gen.V m c main_v13 : S8x128x128.Idx → Ideal .f32) (ix3 h n k) = aS m c (ix5 (0 : Fin 1) (1 : Fin 2) h n k) := by
  have e : (Gen.V m c main_v13 : S8x128x128.Idx → Ideal .f32)
      = shapeCast S8x128x128 (extractStridedSlice S1x1x8x128x128 ![0, 1, 0, 0, 0] (aS m c) slices_S1x2x8x128x128_S1x1x8x128x128_0_1_0_0_0
          : FVec Ideal S1x1x8x128x128 .f32) shapeCasts_S1x1x8x128x128_S8x128x128 := by
    show StableHlo.after (List.flatten [hostOps0]) _ (Proc.devRef .tc main_v13) = _
    simp only [hostOps0, List.flatten_cons, List.flatten_nil, List.append_nil, List.cons_append, List.nil_append,
      StableHlo.TRef.binary, StableHlo.TRef.unary, StableHlo.TRef.toBuf, StableHlo.TRef.ofBuf, cast_eq]
    after_results
    rfl
  rw [e]
  have h5 : (extractStridedSlice S1x1x8x128x128 ![0, 1, 0, 0, 0] (aS m c) slices_S1x2x8x128x128_S1x1x8x128x128_0_1_0_0_0
      : S1x1x8x128x128.Idx → Ideal .f32) (ix5 (0 : Fin 1) (0 : Fin 1) h n k) = aS m c (ix5 (0 : Fin 1) (1 : Fin 2) h n k) := by
    generalize aS m c = y
    exact extractStridedSlice_apply _ _ _ _ _ (by
      intro a
      match a with
      | ⟨0, _⟩ => rfl
      | ⟨1, _⟩ => rfl
      | ⟨2, _⟩ => show h.val = 0 + h.val; omega
      | ⟨3, _⟩ => show n.val = 0 + n.val; omega
      | ⟨4, _⟩ => show k.val = 0 + k.val; omega)
  rw [← h5]
  generalize (extractStridedSlice S1x1x8x128x128 ![0, 1, 0, 0, 0] (aS m c) slices_S1x2x8x128x128_S1x1x8x128x128_0_1_0_0_0
      : S1x1x8x128x128.Idx → Ideal .f32) = y
  exact shapeCast_apply (s := S1x1x8x128x128) (t := S8x128x128) y shapeCasts_S1x1x8x128x128_S8x128x128 (ix3 h n k) (ix5 (0 : Fin 1) (0 : Fin 1) h n k) (by
    rw [Shape.rowMajor_val_five, Shape.rowMajor_val_three]
    show (((0 * 1 + 0) * 8 + h.val) * 128 + n.val) * 128 + k.val = (h.val * 128 + n.val) * 128 + k.val
    omega)

/-- The blocks' places on the grid. -/
theorem places : ∀ t : Fin cfg0.N, win0_0.index t 0 = t.val ∧ win0_0.index t 1 = 0 ∧ win0_1.index t 0 = t.val ∧ win0_1.index t 1 = 0 ∧ win0_2.index t 0 = t.val ∧ win0_2.index t 1 = 0 ∧ win0_8.index t 0 = t.val ∧ win0_8.index t 1 = 0 ∧ win0_9.index t 0 = t.val ∧ win0_9.index t 1 = 0 ∧ win0_10.index t 0 = 0 ∧ win0_10.index t 1 = 0 ∧ win0_10.index t 2 = t.val ∧ win0_11.index t 0 = 0 ∧ win0_11.index t 1 = 0 ∧ win0_11.index t 2 = t.val :=
  (by decide +kernel : ∀ t : Fin grid0.N, win0_0.index t 0 = t.val ∧ win0_0.index t 1 = 0 ∧ win0_1.index t 0 = t.val ∧ win0_1.index t 1 = 0 ∧ win0_2.index t 0 = t.val ∧ win0_2.index t 1 = 0 ∧ win0_8.index t 0 = t.val ∧ win0_8.index t 1 = 0 ∧ win0_9.index t 0 = t.val ∧ win0_9.index t 1 = 0 ∧ win0_10.index t 0 = 0 ∧ win0_10.index t 1 = 0 ∧ win0_10.index t 2 = t.val ∧ win0_11.index t 0 = 0 ∧ win0_11.index t 1 = 0 ∧ win0_11.index t 2 = t.val)

theorem iblk0_apply (c : Dev nD) (t : Fin cfg0.N) (l : Fin 256) (k : Fin 2048) (T : Fin 16384) (hT : T.val = 256 * t.val + l.val) :
    (iblk m c 0 t : S256x2048.Idx → Ideal .f32) (ix2 l k) = rowAt (aX m c) T k := by
  refine Eq.trans ?_ (V_v3 m c T k)
  unfold iblk
  rw [View.read_apply]
  show (Gen.V m c main_v3 : S16384x2048.Idx → Ideal .f32) _ = _
  congr 1
  funext a
  apply Fin.ext
  have h0 : win0_0.index t 0 = t.val := by obtain ⟨p0, p1, p2, p3, p4, p5, -⟩ := places t; exact p0
  have h1 : win0_0.index t 1 = 0 := by obtain ⟨p0, p1, p2, p3, p4, p5, -⟩ := places t; exact p1
  match a with
  | ⟨0, _⟩ => show win0_0.index t 0 * 256 + 1 * l.val = T.val; rw [h0]; omega
  | ⟨1, _⟩ => show win0_0.index t 1 * 2048 + 1 * k.val = k.val; rw [h1]; omega

theorem iblk1_apply (c : Dev nD) (t : Fin cfg0.N) (l : Fin 256) (k : Fin 1024) (T : Fin 16384) (hT : T.val = 256 * t.val + l.val) :
    (iblk m c 1 t : S256x1024.Idx → Ideal .bf16) (ix2 l k) = rowAt (aA m c) T k := by
  refine Eq.trans ?_ (V_v4 m c T k)
  unfold iblk
  rw [View.read_apply]
  show (Gen.V m c main_v4 : S16384x1024.Idx → Ideal .bf16) _ = _
  congr 1
  funext a
  apply Fin.ext
  have h0 : win0_1.index t 0 = t.val := by obtain ⟨p0, p1, p2, p3, p4, p5, -⟩ := places t; exact p2
  have h1 : win0_1.index t 1 = 0 := by obtain ⟨p0, p1, p2, p3, p4, p5, -⟩ := places t; exact p3
  match a with
  | ⟨0, _⟩ => show win0_1.index t 0 * 256 + 1 * l.val = T.val; rw [h0]; omega
  | ⟨1, _⟩ => show win0_1.index t 1 * 1024 + 1 * k.val = k.val; rw [h1]; omega

theorem iblk2_apply (c : Dev nD) (t : Fin cfg0.N) (l : Fin 256) (k : Fin 1024) (T : Fin 16384) (hT : T.val = 256 * t.val + l.val) :
    (iblk m c 2 t : S256x1024.Idx → Ideal .bf16) (ix2 l k) = rowAt (aB m c) T k := by
  refine Eq.trans ?_ (V_v5 m c T k)
  unfold iblk
  rw [View.read_apply]
  show (Gen.V m c main_v5 : S16384x1024.Idx → Ideal .bf16) _ = _
  congr 1
  funext a
  apply Fin.ext
  have h0 : win0_2.index t 0 = t.val := by obtain ⟨p0, p1, p2, p3, p4, p5, -⟩ := places t; exact p4
  have h1 : win0_2.index t 1 = 0 := by obtain ⟨p0, p1, p2, p3, p4, p5, -⟩ := places t; exact p5
  match a with
  | ⟨0, _⟩ => show win0_2.index t 0 * 256 + 1 * l.val = T.val; rw [h0]; omega
  | ⟨1, _⟩ => show win0_2.index t 1 * 1024 + 1 * k.val = k.val; rw [h1]; omega

theorem iblk3_apply (c : Dev nD) (t : Fin cfg0.N) (k j : Fin 2048) :
    (iblk m c 3 t : S2048x2048.Idx → Ideal .bf16) (ix2 k j) = aW m c (ix3 (0 : Fin 1) k j) := by
  refine Eq.trans ?_ (V_v7 m c k j)
  unfold iblk
  rw [View.read_apply]
  show (Gen.V m c main_v7 : S2048x2048.Idx → Ideal .bf16) _ = _
  congr 1
  funext a
  apply Fin.ext
  match a with
  | ⟨0, _⟩ => show 0 * 2048 + 1 * k.val = k.val; omega
  | ⟨1, _⟩ => show 0 * 2048 + 1 * j.val = j.val; omega

theorem iblk4_apply (c : Dev nD) (t : Fin cfg0.N) (k : Fin 2048) :
    (iblk m c 4 t : S1x2048.Idx → Ideal .f32) (ix2 (0 : Fin 1) k) = aG m c (ix2 (0 : Fin 1) k) := by
  refine Eq.trans ?_ (V_v9 m c k)
  unfold iblk
  rw [View.read_apply]
  show (Gen.V m c main_v9 : S1x2048.Idx → Ideal .f32) _ = _
  congr 1
  funext a
  apply Fin.ext
  match a with
  | ⟨0, _⟩ => rfl
  | ⟨1, _⟩ => show 0 * 2048 + 1 * k.val = k.val; omega

theorem iblk5_apply (c : Dev nD) (t : Fin cfg0.N) (k j : Fin 2048) :
    (iblk m c 5 t : S2048x2048.Idx → Ideal .bf16) (ix2 k j) = aQ m c (ix4 (0 : Fin 1) k (⟨j.val / 256, by omega⟩ : Fin 8) (⟨j.val % 256, by omega⟩ : Fin 256)) := by
  refine Eq.trans ?_ (V_v2 m c k j)
  unfold iblk
  rw [View.read_apply]
  show (Gen.V m c main_v2 : S2048x2048.Idx → Ideal .bf16) _ = _
  congr 1
  funext a
  apply Fin.ext
  match a with
  | ⟨0, _⟩ => show 0 * 2048 + 1 * k.val = k.val; omega
  | ⟨1, _⟩ => show 0 * 2048 + 1 * j.val = j.val; omega

theorem iblk6_apply (c : Dev nD) (t : Fin cfg0.N) (h : Fin 8) (n k : Fin 128) :
    (iblk m c 6 t : S8x128x128.Idx → Ideal .f32) (ix3 h n k) = aS m c (ix5 (0 : Fin 1) (0 : Fin 2) h n k) := by
  refine Eq.trans ?_ (V_v11 m c h n k)
  unfold iblk
  rw [View.read_apply]
  show (Gen.V m c main_v11 : S8x128x128.Idx → Ideal .f32) _ = _
  congr 1
  funext a
  apply Fin.ext
  match a with
  | ⟨0, _⟩ => show 0 * 8 + 1 * h.val = h.val; omega
  | ⟨1, _⟩ => show 0 * 128 + 1 * n.val = n.val; omega
  | ⟨2, _⟩ => show 0 * 128 + 1 * k.val = k.val; omega

theorem iblk7_apply (c : Dev nD) (t : Fin cfg0.N) (h : Fin 8) (n k : Fin 128) :
    (iblk m c 7 t : S8x128x128.Idx → Ideal .f32) (ix3 h n k) = aS m c (ix5 (0 : Fin 1) (1 : Fin 2) h n k) := by
  refine Eq.trans ?_ (V_v13 m c h n k)
  unfold iblk
  rw [View.read_apply]
  show (Gen.V m c main_v13 : S8x128x128.Idx → Ideal .f32) _ = _
  congr 1
  funext a
  apply Fin.ext
  match a with
  | ⟨0, _⟩ => show 0 * 8 + 1 * h.val = h.val; omega
  | ⟨1, _⟩ => show 0 * 128 + 1 * n.val = n.val; omega
  | ⟨2, _⟩ => show 0 * 128 + 1 * k.val = k.val; omega

/-! ## What a point leaves -/

section
variable (c : Dev nD) (t : Fin cfg0.N) (l : Fin 256) (T : Fin 16384) (hT : T.val = 256 * t.val + l.val)
include hT

theorem hid_block (j : Fin 2048) :
    k0_pay3 (View.ld (iblk m c 0 t : Vec Ideal S256x2048 .f32) r0_0) (View.ld (iblk m c 1 t : Vec Ideal S256x1024 .bf16) r0_1)
        (View.ld (iblk m c 3 t : Vec Ideal S2048x2048 .bf16) r0_2) (View.ld (iblk m c 2 t : Vec Ideal S256x1024 .bf16) r0_1)
        (View.ld (iblk m c 3 t : Vec Ideal S2048x2048 .bf16) r0_3) (ix2 l j)
      = hidAt (aX m c) (aA m c) (aB m c) (aW m c) T j := by
  have hz : (![0, 0] : Fin 2 → ℕ) = fun _ => 0 := by funext a; fin_cases a <;> rfl
  rw [hid_apply, View.ld_unit_zero (S := S256x2048) hz, View.ld_unit_zero (S := S256x1024) hz, View.ld_unit_zero (S := S256x1024) hz]
  unfold hidAt
  refine congrArg₂ (· + ·) (congrArg₂ (· + ·) (iblk0_apply m c t l j T hT) ?_) ?_
  · refine Finset.sum_congr rfl fun k _ => congrArg₂ (· * ·) (iblk1_apply m c t l k T hT) ?_
    refine Eq.trans ?_ (iblk3_apply m c t (⟨k.val, by omega⟩ : Fin 2048) j)
    refine congrArg (iblk m c 3 t : S2048x2048.Idx → Ideal .bf16) (funext fun a => Fin.ext ?_)
    match a with
    | ⟨0, _⟩ => show 0 + 1 * k.val = k.val; omega
    | ⟨1, _⟩ => show 0 + 1 * j.val = j.val; omega
  · refine Finset.sum_congr rfl fun k _ => congrArg₂ (· * ·) (iblk2_apply m c t l k T hT) ?_
    refine Eq.trans ?_ (iblk3_apply m c t (⟨1024 + k.val, by omega⟩ : Fin 2048) j)
    refine congrArg (iblk m c 3 t : S2048x2048.Idx → Ideal .bf16) (funext fun a => Fin.ext ?_)
    match a with
    | ⟨0, _⟩ => show 1024 + 1 * k.val = 1024 + k.val; omega
    | ⟨1, _⟩ => show 0 + 1 * j.val = j.val; omega

theorem nrm_block (j : Fin 2048) :
    k0_pay4 (View.ld (iblk m c 0 t : Vec Ideal S256x2048 .f32) r0_0) (View.ld (iblk m c 1 t : Vec Ideal S256x1024 .bf16) r0_1)
        (View.ld (iblk m c 3 t : Vec Ideal S2048x2048 .bf16) r0_2) (View.ld (iblk m c 2 t : Vec Ideal S256x1024 .bf16) r0_1)
        (View.ld (iblk m c 3 t : Vec Ideal S2048x2048 .bf16) r0_3) (View.ld (iblk m c 4 t : Vec Ideal S1x2048 .f32) r0_4) (ix2 l j)
      = nrmAt (aX m c) (aA m c) (aB m c) (aW m c) (aG m c) T j := by
  have hz : (![0, 0] : Fin 2 → ℕ) = fun _ => 0 := by funext a; fin_cases a <;> rfl
  rw [nrm_apply]
  unfold nrmAt
  refine congrArg₂ (fun a b => normAt a b j) (funext fun k => hid_block m c t l T hT k) (funext fun k => ?_)
  rw [View.ld_unit_zero (S := S1x2048) hz]
  exact iblk4_apply m c t k

theorem qry_block (j : Fin 2048) :
    k0_pay33 (iblk m c 0 t) (iblk m c 1 t) (iblk m c 2 t) (iblk m c 3 t) (iblk m c 4 t) (iblk m c 5 t) (iblk m c 6 t) (iblk m c 7 t) (ix2 l j)
      = qryAt (aX m c) (aA m c) (aB m c) (aW m c) (aG m c) (aQ m c) T j := by
  have hz : (![0, 0] : Fin 2 → ℕ) = fun _ => 0 := by funext a; fin_cases a <;> rfl
  unfold k0_pay33 k0_pay32 k0_pay31 k0_pay30 qryAt
  rw [qry_apply, View.ld_unit_zero (S := S2048x2048) hz]
  exact Finset.sum_congr rfl fun k _ => congrArg₂ (· * ·) (nrm_block m c t l T hT k) (iblk5_apply m c t k j)

theorem out8_apply (j : Fin 2048) : out0_8 (iblk m c 0 t) (iblk m c 1 t) (iblk m c 2 t) (iblk m c 3 t) (iblk m c 4 t) (iblk m c 5 t) (iblk m c 6 t) (iblk m c 7 t) (ix2 l j) = hidAt (aX m c) (aA m c) (aB m c) (aW m c) T j := by
  have hz : (![0, 0] : Fin 2 → ℕ) = fun _ => 0 := by funext a; fin_cases a <;> rfl
  unfold out0_8
  rw [View.canon_unit_zero hz]
  exact hid_block m c t l T hT j

theorem out9_apply (j : Fin 2048) : out0_9 (iblk m c 0 t) (iblk m c 1 t) (iblk m c 2 t) (iblk m c 3 t) (iblk m c 4 t) (iblk m c 5 t) (iblk m c 6 t) (iblk m c 7 t) (ix2 l j) = nrmAt (aX m c) (aA m c) (aB m c) (aW m c) (aG m c) T j := by
  have hz : (![0, 0] : Fin 2 → ℕ) = fun _ => 0 := by funext a; fin_cases a <;> rfl
  unfold out0_9
  rw [View.canon_unit_zero hz]
  exact nrm_block m c t l T hT j

theorem out10_apply (h : Fin 8) (n : Fin 128) : out0_10 (iblk m c 0 t) (iblk m c 1 t) (iblk m c 2 t) (iblk m c 3 t) (iblk m c 4 t) (iblk m c 5 t) (iblk m c 6 t) (iblk m c 7 t) (ix3 h n l)
      = scoAt (aX m c) (aA m c) (aB m c) (aW m c) (aG m c) (aQ m c) (aS m c) 0 h n T := by
  refine (sco10 (iblk m c 0 t) (iblk m c 1 t) (iblk m c 2 t) (iblk m c 3 t) (iblk m c 4 t) (iblk m c 5 t) (iblk m c 6 t) (iblk m c 7 t) _).trans ?_
  unfold scoOf scoAt
  exact Finset.sum_congr rfl fun k _ => congrArg₂ (· * ·) (iblk6_apply m c t h n k) (qry_block m c t l T hT _)

theorem out11_apply (h : Fin 8) (n : Fin 128) : out0_11 (iblk m c 0 t) (iblk m c 1 t) (iblk m c 2 t) (iblk m c 3 t) (iblk m c 4 t) (iblk m c 5 t) (iblk m c 6 t) (iblk m c 7 t) (ix3 h n l)
      = scoAt (aX m c) (aA m c) (aB m c) (aW m c) (aG m c) (aQ m c) (aS m c) 1 h n T := by
  refine (sco11 (iblk m c 0 t) (iblk m c 1 t) (iblk m c 2 t) (iblk m c 3 t) (iblk m c 4 t) (iblk m c 5 t) (iblk m c 6 t) (iblk m c 7 t) _).trans ?_
  unfold scoOf scoAt
  exact Finset.sum_congr rfl fun k _ => congrArg₂ (· * ·) (iblk7_apply m c t h n k) (qry_block m c t l T hT _)

end

/-! ## The whole results -/

def res8 (c : Dev nD) : S16384x2048.Idx → Ideal .f32 := fun i => hidAt (aX m c) (aA m c) (aB m c) (aW m c) (i 0 : Fin 16384) (i 1 : Fin 2048)
def res9 (c : Dev nD) : S16384x2048.Idx → Ideal .f32 := fun i => nrmAt (aX m c) (aA m c) (aB m c) (aW m c) (aG m c) (i 0 : Fin 16384) (i 1 : Fin 2048)
def res10 (c : Dev nD) : S8x128x16384.Idx → Ideal .f32 := fun i => scoAt (aX m c) (aA m c) (aB m c) (aW m c) (aG m c) (aQ m c) (aS m c) 0 (i 0 : Fin 8) (i 1 : Fin 128) (i 2 : Fin 16384)
def res11 (c : Dev nD) : S8x128x16384.Idx → Ideal .f32 := fun i => scoAt (aX m c) (aA m c) (aB m c) (aW m c) (aG m c) (aQ m c) (aS m c) 1 (i 0 : Fin 8) (i 1 : Fin 128) (i 2 : Fin 16384)

theorem flushed8 (c : Dev nD) (t : Fin cfg0.N) : (dats m 0 c).flushed 8 t = ((cfg0.win 8).blk t).view.read (Elt Ideal) (res8 m c) := by
  unfold Pipeline.Dat.flushed
  rw [after0_8]
  funext x
  rw [View.read_apply]
  have ht : t.val < 64 := t.isLt
  have hx : (x 0).val < 256 := (x 0).isLt
  have e : (x : S256x2048.Idx) = ix2 (x 0 : Fin 256) (x 1 : Fin 2048) := by funext a; fin_cases a <;> rfl
  obtain ⟨p0, p1, p2, p3, p4, p5, p6, p7, p8, p9, p10, p11, p12, p13, p14, p15⟩ := places t
  have h0 : (((cfg0.win 8).blk t).view.emb x 0).val = 256 * t.val + (x 0).val := by
    show win0_8.index t 0 * 256 + 1 * (x 0).val = _
    rw [p6]; omega
  have h1 : (((cfg0.win 8).blk t).view.emb x 1).val = (x 1).val := by
    show win0_8.index t 1 * 2048 + 1 * (x 1).val = _
    rw [p7]; omega
  show out0_8 (iblk m c 0 t) (iblk m c 1 t) (iblk m c 2 t) (iblk m c 3 t) (iblk m c 4 t) (iblk m c 5 t) (iblk m c 6 t) (iblk m c 7 t) x = hidAt (aX m c) (aA m c) (aB m c) (aW m c) _ _
  refine (congrArg (out0_8 (iblk m c 0 t) (iblk m c 1 t) (iblk m c 2 t) (iblk m c 3 t) (iblk m c 4 t) (iblk m c 5 t) (iblk m c 6 t) (iblk m c 7 t)) e).trans
    ((out8_apply m c t (x 0) (⟨256 * t.val + (x 0).val, by omega⟩ : Fin 16384) rfl (x 1)).trans ?_)
  exact congrArg₂ (hidAt (aX m c) (aA m c) (aB m c) (aW m c)) (Fin.ext h0.symm) (Fin.ext h1.symm)

theorem cover8 (i : S16384x2048.Idx) : ∃ t : Fin cfg0.N, (cfg0.win 8).flush t = true ∧ i ∈ ((cfg0.win 8).blk t).view.set := by
  have h0 : (i 0).val < 16384 := (i 0).isLt
  have h1 : (i 1).val < 2048 := (i 1).isLt
  have hN : (i 0).val / 256 < cfg0.N := by show _ < 64; omega
  refine ⟨⟨(i 0).val / 256, hN⟩, flush0_8 _, ?_⟩
  show i ∈ ((View.whole main_v14_0).slice (win0_8.rect ⟨(i 0).val / 256, hN⟩)).set
  rw [View.set_slice_whole, Rect.mem_set_unit]
  obtain ⟨p0, p1, p2, p3, p4, p5, p6, p7, p8, p9, p10, p11, p12, p13, p14, p15⟩ := places ⟨(i 0).val / 256, hN⟩
  dsimp only at p6 p7
  intro a
  match a with
  | ⟨0, _⟩ =>
    show win0_8.index _ 0 * 256 ≤ (i 0).val ∧ (i 0).val < win0_8.index _ 0 * 256 + 256
    rw [p6]
    omega
  | ⟨1, _⟩ =>
    show win0_8.index _ 1 * 2048 ≤ (i 1).val ∧ (i 1).val < win0_8.index _ 1 * 2048 + 2048
    rw [p7]
    omega

theorem arr8 (c : Dev nD) : (dats m 0 c).arrAt 8 cfg0.N = res8 m c :=
  (dats m 0 c).arrAt_eq_of_cover 8 (res8 m c) (fun t _ => flushed8 m c t) cover8

theorem flushed9 (c : Dev nD) (t : Fin cfg0.N) : (dats m 0 c).flushed 9 t = ((cfg0.win 9).blk t).view.read (Elt Ideal) (res9 m c) := by
  unfold Pipeline.Dat.flushed
  rw [after0_9]
  funext x
  rw [View.read_apply]
  have ht : t.val < 64 := t.isLt
  have hx : (x 0).val < 256 := (x 0).isLt
  have e : (x : S256x2048.Idx) = ix2 (x 0 : Fin 256) (x 1 : Fin 2048) := by funext a; fin_cases a <;> rfl
  obtain ⟨p0, p1, p2, p3, p4, p5, p6, p7, p8, p9, p10, p11, p12, p13, p14, p15⟩ := places t
  have h0 : (((cfg0.win 9).blk t).view.emb x 0).val = 256 * t.val + (x 0).val := by
    show win0_9.index t 0 * 256 + 1 * (x 0).val = _
    rw [p8]; omega
  have h1 : (((cfg0.win 9).blk t).view.emb x 1).val = (x 1).val := by
    show win0_9.index t 1 * 2048 + 1 * (x 1).val = _
    rw [p9]; omega
  show out0_9 (iblk m c 0 t) (iblk m c 1 t) (iblk m c 2 t) (iblk m c 3 t) (iblk m c 4 t) (iblk m c 5 t) (iblk m c 6 t) (iblk m c 7 t) x = nrmAt (aX m c) (aA m c) (aB m c) (aW m c) (aG m c) _ _
  refine (congrArg (out0_9 (iblk m c 0 t) (iblk m c 1 t) (iblk m c 2 t) (iblk m c 3 t) (iblk m c 4 t) (iblk m c 5 t) (iblk m c 6 t) (iblk m c 7 t)) e).trans
    ((out9_apply m c t (x 0) (⟨256 * t.val + (x 0).val, by omega⟩ : Fin 16384) rfl (x 1)).trans ?_)
  exact congrArg₂ (nrmAt (aX m c) (aA m c) (aB m c) (aW m c) (aG m c)) (Fin.ext h0.symm) (Fin.ext h1.symm)

theorem cover9 (i : S16384x2048.Idx) : ∃ t : Fin cfg0.N, (cfg0.win 9).flush t = true ∧ i ∈ ((cfg0.win 9).blk t).view.set := by
  have h0 : (i 0).val < 16384 := (i 0).isLt
  have h1 : (i 1).val < 2048 := (i 1).isLt
  have hN : (i 0).val / 256 < cfg0.N := by show _ < 64; omega
  refine ⟨⟨(i 0).val / 256, hN⟩, flush0_9 _, ?_⟩
  show i ∈ ((View.whole main_v14_1).slice (win0_9.rect ⟨(i 0).val / 256, hN⟩)).set
  rw [View.set_slice_whole, Rect.mem_set_unit]
  obtain ⟨p0, p1, p2, p3, p4, p5, p6, p7, p8, p9, p10, p11, p12, p13, p14, p15⟩ := places ⟨(i 0).val / 256, hN⟩
  dsimp only at p8 p9
  intro a
  match a with
  | ⟨0, _⟩ =>
    show win0_9.index _ 0 * 256 ≤ (i 0).val ∧ (i 0).val < win0_9.index _ 0 * 256 + 256
    rw [p8]
    omega
  | ⟨1, _⟩ =>
    show win0_9.index _ 1 * 2048 ≤ (i 1).val ∧ (i 1).val < win0_9.index _ 1 * 2048 + 2048
    rw [p9]
    omega

theorem arr9 (c : Dev nD) : (dats m 0 c).arrAt 9 cfg0.N = res9 m c :=
  (dats m 0 c).arrAt_eq_of_cover 9 (res9 m c) (fun t _ => flushed9 m c t) cover9

theorem flushed10 (c : Dev nD) (t : Fin cfg0.N) : (dats m 0 c).flushed 10 t = ((cfg0.win 10).blk t).view.read (Elt Ideal) (res10 m c) := by
  unfold Pipeline.Dat.flushed
  rw [after0_10]
  funext x
  rw [View.read_apply]
  have ht : t.val < 64 := t.isLt
  have hx : (x 2).val < 256 := (x 2).isLt
  have e : (x : S8x128x256.Idx) = ix3 (x 0 : Fin 8) (x 1 : Fin 128) (x 2 : Fin 256) := by funext a; fin_cases a <;> rfl
  obtain ⟨p0, p1, p2, p3, p4, p5, p6, p7, p8, p9, p10, p11, p12, p13, p14, p15⟩ := places t
  have h0 : (((cfg0.win 10).blk t).view.emb x 0).val = (x 0).val := by
    show win0_10.index t 0 * 8 + 1 * (x 0).val = _
    rw [p10]; omega
  have h1 : (((cfg0.win 10).blk t).view.emb x 1).val = (x 1).val := by
    show win0_10.index t 1 * 128 + 1 * (x 1).val = _
    rw [p11]; omega
  have h2 : (((cfg0.win 10).blk t).view.emb x 2).val = 256 * t.val + (x 2).val := by
    show win0_10.index t 2 * 256 + 1 * (x 2).val = _
    rw [p12]; omega
  show out0_10 (iblk m c 0 t) (iblk m c 1 t) (iblk m c 2 t) (iblk m c 3 t) (iblk m c 4 t) (iblk m c 5 t) (iblk m c 6 t) (iblk m c 7 t) x = scoAt (aX m c) (aA m c) (aB m c) (aW m c) (aG m c) (aQ m c) (aS m c) 0 _ _ _
  refine (congrArg (out0_10 (iblk m c 0 t) (iblk m c 1 t) (iblk m c 2 t) (iblk m c 3 t) (iblk m c 4 t) (iblk m c 5 t) (iblk m c 6 t) (iblk m c 7 t)) e).trans
    ((out10_apply m c t (x 2) (⟨256 * t.val + (x 2).val, by omega⟩ : Fin 16384) rfl (x 0) (x 1)).trans ?_)
  exact congr (congrArg₂ (scoAt (aX m c) (aA m c) (aB m c) (aW m c) (aG m c) (aQ m c) (aS m c) 0) (Fin.ext h0.symm) (Fin.ext h1.symm)) (Fin.ext h2.symm)

theorem cover10 (i : S8x128x16384.Idx) : ∃ t : Fin cfg0.N, (cfg0.win 10).flush t = true ∧ i ∈ ((cfg0.win 10).blk t).view.set := by
  have h0 : (i 0).val < 8 := (i 0).isLt
  have h1 : (i 1).val < 128 := (i 1).isLt
  have h2 : (i 2).val < 16384 := (i 2).isLt
  have hN : (i 2).val / 256 < cfg0.N := by show _ < 64; omega
  refine ⟨⟨(i 2).val / 256, hN⟩, flush0_10 _, ?_⟩
  show i ∈ ((View.whole main_v14_2).slice (win0_10.rect ⟨(i 2).val / 256, hN⟩)).set
  rw [View.set_slice_whole, Rect.mem_set_unit]
  obtain ⟨p0, p1, p2, p3, p4, p5, p6, p7, p8, p9, p10, p11, p12, p13, p14, p15⟩ := places ⟨(i 2).val / 256, hN⟩
  dsimp only at p10 p11 p12
  intro a
  match a with
  | ⟨0, _⟩ =>
    show win0_10.index _ 0 * 8 ≤ (i 0).val ∧ (i 0).val < win0_10.index _ 0 * 8 + 8
    rw [p10]
    omega
  | ⟨1, _⟩ =>
    show win0_10.index _ 1 * 128 ≤ (i 1).val ∧ (i 1).val < win0_10.index _ 1 * 128 + 128
    rw [p11]
    omega
  | ⟨2, _⟩ =>
    show win0_10.index _ 2 * 256 ≤ (i 2).val ∧ (i 2).val < win0_10.index _ 2 * 256 + 256
    rw [p12]
    omega

theorem arr10 (c : Dev nD) : (dats m 0 c).arrAt 10 cfg0.N = res10 m c :=
  (dats m 0 c).arrAt_eq_of_cover 10 (res10 m c) (fun t _ => flushed10 m c t) cover10

theorem flushed11 (c : Dev nD) (t : Fin cfg0.N) : (dats m 0 c).flushed 11 t = ((cfg0.win 11).blk t).view.read (Elt Ideal) (res11 m c) := by
  unfold Pipeline.Dat.flushed
  rw [after0_11]
  funext x
  rw [View.read_apply]
  have ht : t.val < 64 := t.isLt
  have hx : (x 2).val < 256 := (x 2).isLt
  have e : (x : S8x128x256.Idx) = ix3 (x 0 : Fin 8) (x 1 : Fin 128) (x 2 : Fin 256) := by funext a; fin_cases a <;> rfl
  obtain ⟨p0, p1, p2, p3, p4, p5, p6, p7, p8, p9, p10, p11, p12, p13, p14, p15⟩ := places t
  have h0 : (((cfg0.win 11).blk t).view.emb x 0).val = (x 0).val := by
    show win0_11.index t 0 * 8 + 1 * (x 0).val = _
    rw [p13]; omega
  have h1 : (((cfg0.win 11).blk t).view.emb x 1).val = (x 1).val := by
    show win0_11.index t 1 * 128 + 1 * (x 1).val = _
    rw [p14]; omega
  have h2 : (((cfg0.win 11).blk t).view.emb x 2).val = 256 * t.val + (x 2).val := by
    show win0_11.index t 2 * 256 + 1 * (x 2).val = _
    rw [p15]; omega
  show out0_11 (iblk m c 0 t) (iblk m c 1 t) (iblk m c 2 t) (iblk m c 3 t) (iblk m c 4 t) (iblk m c 5 t) (iblk m c 6 t) (iblk m c 7 t) x = scoAt (aX m c) (aA m c) (aB m c) (aW m c) (aG m c) (aQ m c) (aS m c) 1 _ _ _
  refine (congrArg (out0_11 (iblk m c 0 t) (iblk m c 1 t) (iblk m c 2 t) (iblk m c 3 t) (iblk m c 4 t) (iblk m c 5 t) (iblk m c 6 t) (iblk m c 7 t)) e).trans
    ((out11_apply m c t (x 2) (⟨256 * t.val + (x 2).val, by omega⟩ : Fin 16384) rfl (x 0) (x 1)).trans ?_)
  exact congr (congrArg₂ (scoAt (aX m c) (aA m c) (aB m c) (aW m c) (aG m c) (aQ m c) (aS m c) 1) (Fin.ext h0.symm) (Fin.ext h1.symm)) (Fin.ext h2.symm)

theorem cover11 (i : S8x128x16384.Idx) : ∃ t : Fin cfg0.N, (cfg0.win 11).flush t = true ∧ i ∈ ((cfg0.win 11).blk t).view.set := by
  have h0 : (i 0).val < 8 := (i 0).isLt
  have h1 : (i 1).val < 128 := (i 1).isLt
  have h2 : (i 2).val < 16384 := (i 2).isLt
  have hN : (i 2).val / 256 < cfg0.N := by show _ < 64; omega
  refine ⟨⟨(i 2).val / 256, hN⟩, flush0_11 _, ?_⟩
  show i ∈ ((View.whole main_v14_3).slice (win0_11.rect ⟨(i 2).val / 256, hN⟩)).set
  rw [View.set_slice_whole, Rect.mem_set_unit]
  obtain ⟨p0, p1, p2, p3, p4, p5, p6, p7, p8, p9, p10, p11, p12, p13, p14, p15⟩ := places ⟨(i 2).val / 256, hN⟩
  dsimp only at p13 p14 p15
  intro a
  match a with
  | ⟨0, _⟩ =>
    show win0_11.index _ 0 * 8 ≤ (i 0).val ∧ (i 0).val < win0_11.index _ 0 * 8 + 8
    rw [p13]
    omega
  | ⟨1, _⟩ =>
    show win0_11.index _ 1 * 128 ≤ (i 1).val ∧ (i 1).val < win0_11.index _ 1 * 128 + 128
    rw [p14]
    omega
  | ⟨2, _⟩ =>
    show win0_11.index _ 2 * 256 ≤ (i 2).val ∧ (i 2).val < win0_11.index _ 2 * 256 + 256
    rw [p15]
    omega

theorem arr11 (c : Dev nD) : (dats m 0 c).arrAt 11 cfg0.N = res11 m c :=
  (dats m 0 c).arrAt_eq_of_cover 11 (res11 m c) (fun t _ => flushed11 m c t) cover11

end Cert.Kernel3Ideal.Proj
-- ==== Proof.Proj.Ref.lean ====
/-
  The output projection's reference, read at an index.
-/
module

public import proofs.«01_k».proof.Defs
public import proofs.«01_k».proof.Proof.Proj.Pay
public import proofs.«01_k».proof.Proof.Gen.Reference3Ideal.Read

@[expose] public section

set_option maxRecDepth 65536

noncomputable section

namespace Cert.Reference3Ideal.Plain

open Cert.Reference3Ideal Cert.Reference3Ideal.Gen Cert.Reference3Ideal.Read
open Idealize.ShloMosaic Idealize.ShloMosaic.TcCoe
open Idealize.SL.Sem
open Cert.KernelIdeal.Peer (normAt)
open Cert.Kernel3Ideal.Proj (rowAt hidAt nrmAt qryAt scoAt)

variable (x : S2x8192x2048.Idx → Ideal .f32) (a b : S2x8192x1024.Idx → Ideal .bf16) (w : S1x2048x2048.Idx → Ideal .f32)
variable (g : S1x2048.Idx → Ideal .f32) (q : S1x2048x8x256.Idx → Ideal .f32) (s : S1x2x8x128x128.Idx → Ideal .f32)

theorem left_apply (i : Fin 2) (t : Fin 8192) (k : Fin 1024) :
    val_main_v2 (F := Ideal) a b (ix3 i t (⟨k.val, by omega⟩ : Fin 2048)) = a (ix3 i t k) := by
  unfold val_main_v2
  exact concatenate_pair_apply_left (t := S2x8192x2048) (s₁ := S2x8192x1024) (s₂ := S2x8192x1024) 2 _ _ _ _ rfl (ix3 i t k) (by
    intro b
    match b with
    | ⟨0, _⟩ => rfl
    | ⟨1, _⟩ => rfl
    | ⟨2, _⟩ => rfl)

theorem right_apply (i : Fin 2) (t : Fin 8192) (k : Fin 1024) :
    val_main_v2 (F := Ideal) a b (ix3 i t (⟨1024 + k.val, by omega⟩ : Fin 2048)) = b (ix3 i t k) := by
  unfold val_main_v2
  exact concatenate_pair_apply_right (t := S2x8192x2048) (s₁ := S2x8192x1024) (s₂ := S2x8192x1024) 2 _ _ _ _ rfl rfl (ix3 i t k) (by
    intro b hb
    match b with
    | ⟨0, _⟩ => rfl
    | ⟨1, _⟩ => rfl
    | ⟨2, _⟩ => exact absurd rfl hb) (by show k.val + 1024 = 1024 + k.val; omega)

theorem weights_apply (k j : Fin 2048) : val_main_v3 (F := Ideal) w (ix2 k j) = w (ix3 (0 : Fin 1) k j) :=
  shapeCast_apply (s := S1x2048x2048) (t := S2048x2048) _ _ _ _ (by
    rw [Shape.rowMajor_val_three, Shape.rowMajor_val_two]
    show (0 * 2048 + k.val) * 2048 + j.val = k.val * 2048 + j.val
    omega)

theorem product_apply (i : Fin 2) (t : Fin 8192) (j : Fin 2048) :
    val_main_v4 (F := Ideal) a b w (ix3 i t j)
      = ∑ k : Fin 2048, val_main_v2 (F := Ideal) a b (ix3 i t k) * val_main_v3 (F := Ideal) w (ix2 k j) := by
  unfold val_main_v4
  generalize val_main_v2 (F := Ideal) a b = y
  generalize val_main_v3 (F := Ideal) w = z
  pointwise

theorem hid_apply (T : Fin 16384) (j : Fin 2048) :
    val_main_v5 (F := Ideal) x a b w (ix3 (⟨T.val / 8192, by omega⟩ : Fin 2) (⟨T.val % 8192, by omega⟩ : Fin 8192) j) = hidAt x a b w T j := by
  unfold val_main_v5 hidAt
  show x _ + val_main_v4 (F := Ideal) a b w _ = _
  rw [product_apply, add_assoc]
  refine congrArg₂ (· + ·) rfl ?_
  refine (Fin.sum_univ_add (a := 1024) (b := 1024) (fun k : Fin (1024 + 1024) =>
    val_main_v2 (F := Ideal) a b (ix3 (⟨T.val / 8192, by omega⟩ : Fin 2) (⟨T.val % 8192, by omega⟩ : Fin 8192) (k : Fin 2048))
      * val_main_v3 (F := Ideal) w (ix2 (k : Fin 2048) j))).trans ?_
  refine congrArg₂ (· + ·) (Finset.sum_congr rfl fun k _ => ?_) (Finset.sum_congr rfl fun k _ => ?_)
  · exact congrArg₂ (· * ·) (left_apply a b _ _ k) (weights_apply w _ j)
  · exact congrArg₂ (· * ·) (right_apply a b _ _ k) (weights_apply w _ j)

theorem nrm_apply (T : Fin 16384) (j : Fin 2048) :
    val_main_v19 (F := Ideal) x a b w g (ix3 (⟨T.val / 8192, by omega⟩ : Fin 2) (⟨T.val % 8192, by omega⟩ : Fin 8192) j) = nrmAt x a b w g T j := by
  unfold nrmAt
  rw [show hidAt x a b w T = fun k => val_main_v5 (F := Ideal) x a b w (ix3 (⟨T.val / 8192, by omega⟩ : Fin 2) (⟨T.val % 8192, by omega⟩ : Fin 8192) k)
    from funext fun k => (hid_apply x a b w T k).symm]
  unfold normAt val_main_v19 val_main_v16 val_main_v15 val_main_v14 val_main_v13 val_main_v11 val_main_v9 val_main_v8 val_main_v7
    val_main_v18 val_main_v17 val_main_v10 val_main_v12 val_main_cst val_main_cst_0 val_main_cst_1
  generalize val_main_v5 (F := Ideal) x a b w = z
  have h : val_main_v6 (F := Ideal) g (ix1 j) = g (ix2 (0 : Fin 1) j) :=
    shapeCast_apply (s := S1x2048) (t := S2048) _ _ _ _ (by
      rw [Shape.rowMajor_val_two, Shape.rowMajor_val_one]
      show 0 * 2048 + j.val = j.val
      omega)
  show _ = _ * g (ix2 (0 : Fin 1) j)
  rw [← h]
  generalize val_main_v6 (F := Ideal) g = y
  pointwise

theorem flat_apply (T : Fin 16384) (j : Fin 2048) : val_main_v20 (F := Ideal) x a b w g (ix2 T j) = nrmAt x a b w g T j := by
  unfold val_main_v20
  refine (shapeCast_apply (s := S2x8192x2048) (t := S16384x2048) (val_main_v19 (F := Ideal) x a b w g) shapeCasts_S2x8192x2048_S16384x2048 _
    (ix3 (⟨T.val / 8192, by omega⟩ : Fin 2) (⟨T.val % 8192, by omega⟩ : Fin 8192) j) (by
      rw [Shape.rowMajor_val_three, Shape.rowMajor_val_two]
      show (T.val / 8192 * 8192 + T.val % 8192) * 2048 + j.val = T.val * 2048 + j.val
      omega)).trans (nrm_apply x a b w g T j)

theorem first_apply (T : Fin 16384) (j : Fin 2048) : val_main_v33 (F := Ideal) x a b w (ix2 T j) = hidAt x a b w T j := by
  unfold val_main_v33
  refine (shapeCast_apply (s := S2x8192x2048) (t := S16384x2048) (val_main_v5 (F := Ideal) x a b w) shapeCasts_S2x8192x2048_S16384x2048 _
    (ix3 (⟨T.val / 8192, by omega⟩ : Fin 2) (⟨T.val % 8192, by omega⟩ : Fin 8192) j) (by
      rw [Shape.rowMajor_val_three, Shape.rowMajor_val_two]
      show (T.val / 8192 * 8192 + T.val % 8192) * 2048 + j.val = T.val * 2048 + j.val
      omega)).trans (hid_apply x a b w T j)

theorem second_apply (T : Fin 16384) (j : Fin 2048) : val_main_v34 (F := Ideal) x a b w g (ix2 T j) = nrmAt x a b w g T j :=
  flat_apply x a b w g T j

theorem query_apply (T : Fin 16384) (h : Fin 8) (c : Fin 256) (n : Fin 2048) (hn : n.val = 256 * h.val + c.val) :
    val_main_v22 (F := Ideal) x a b w g q (ix3 T h c) = qryAt x a b w g q T n := by
  rw [val_main_v22_apply]
  unfold qryAt
  refine Finset.sum_congr rfl fun k _ => congrArg₂ (· * ·) ?_ ?_
  · have e : (lidx_main_v22 (ix3 T h c) k : S16384x2048.Idx) = ix2 T k := by funext a; fin_cases a <;> rfl
    rw [e]
    exact flat_apply x a b w g T k
  · exact shapeCast_apply (s := S1x2048x8x256) (t := S2048x8x256) _ _ _ _ (by
      rw [Shape.rowMajor_val_four, Shape.rowMajor_val_three]
      show ((0 * 2048 + k.val) * 8 + n.val / 256) * 256 + n.val % 256 = (k.val * 8 + h.val) * 256 + c.val
      omega)

theorem keys0_apply (h : Fin 8) (n k : Fin 128) : val_main_v25 (F := Ideal) s (ix3 h n k) = s (ix5 (0 : Fin 1) (0 : Fin 2) h n k) := by
  unfold val_main_v25
  refine (shapeCast_apply (s := S1x1x8x128x128) (t := S8x128x128) (val_main_v24 (F := Ideal) s) shapeCasts_S1x1x8x128x128_S8x128x128 _
    (ix5 (0 : Fin 1) (0 : Fin 1) h n k) (by
      rw [Shape.rowMajor_val_five, Shape.rowMajor_val_three]
      show (((0 * 1 + 0) * 8 + h.val) * 128 + n.val) * 128 + k.val = (h.val * 128 + n.val) * 128 + k.val
      omega)).trans ?_
  unfold val_main_v24
  exact extractStridedSlice_apply _ _ _ _ _ (by
    intro a
    match a with
    | ⟨0, _⟩ => rfl
    | ⟨1, _⟩ => rfl
    | ⟨2, _⟩ => show h.val = 0 + h.val; omega
    | ⟨3, _⟩ => show n.val = 0 + n.val; omega
    | ⟨4, _⟩ => show k.val = 0 + k.val; omega)

theorem half0_apply (T : Fin 16384) (h : Fin 8) (k : Fin 128) :
    val_main_v23 (F := Ideal) x a b w g q (ix3 T h k) = qryAt x a b w g q T (⟨256 * h.val + 128 * (0 : Fin 2).val + k.val, by have : (0 : Fin 2).val = 0 := rfl; omega⟩ : Fin 2048) := by
  unfold val_main_v23
  refine (extractStridedSlice_apply _ _ _ _ (ix3 T h (⟨0 + k.val, by omega⟩ : Fin 256)) (by
    intro a
    match a with
    | ⟨0, _⟩ => show T.val = 0 + T.val; omega
    | ⟨1, _⟩ => show h.val = 0 + h.val; omega
    | ⟨2, _⟩ => rfl)).trans ?_
  exact query_apply x a b w g q T h _ _ (by show 256 * h.val + 128 * 0 + k.val = 256 * h.val + (0 + k.val); omega)

theorem third_apply (h : Fin 8) (n : Fin 128) (T : Fin 16384) :
    val_main_v35 (F := Ideal) x a b w g q s (ix3 h n T) = scoAt x a b w g q s 0 h n T := by
  rw [val_main_v35_apply, val_main_v27_apply, val_main_v26_apply]
  unfold scoAt
  refine Finset.sum_congr rfl fun k _ => congrArg₂ (· * ·) ?_ ?_
  · refine Eq.trans (congrArg _ ?_) (keys0_apply s h n k)
    funext a
    fin_cases a <;> rfl
  · refine Eq.trans (congrArg _ ?_) (half0_apply x a b w g q T h k)
    funext a
    fin_cases a <;> rfl

theorem keys1_apply (h : Fin 8) (n k : Fin 128) : val_main_v30 (F := Ideal) s (ix3 h n k) = s (ix5 (0 : Fin 1) (1 : Fin 2) h n k) := by
  unfold val_main_v30
  refine (shapeCast_apply (s := S1x1x8x128x128) (t := S8x128x128) (val_main_v29 (F := Ideal) s) shapeCasts_S1x1x8x128x128_S8x128x128 _
    (ix5 (0 : Fin 1) (0 : Fin 1) h n k) (by
      rw [Shape.rowMajor_val_five, Shape.rowMajor_val_three]
      show (((0 * 1 + 0) * 8 + h.val) * 128 + n.val) * 128 + k.val = (h.val * 128 + n.val) * 128 + k.val
      omega)).trans ?_
  unfold val_main_v29
  exact extractStridedSlice_apply _ _ _ _ _ (by
    intro a
    match a with
    | ⟨0, _⟩ => rfl
    | ⟨1, _⟩ => rfl
    | ⟨2, _⟩ => show h.val = 0 + h.val; omega
    | ⟨3, _⟩ => show n.val = 0 + n.val; omega
    | ⟨4, _⟩ => show k.val = 0 + k.val; omega)

theorem half1_apply (T : Fin 16384) (h : Fin 8) (k : Fin 128) :
    val_main_v28 (F := Ideal) x a b w g q (ix3 T h k) = qryAt x a b w g q T (⟨256 * h.val + 128 * (1 : Fin 2).val + k.val, by have : (1 : Fin 2).val = 1 := rfl; omega⟩ : Fin 2048) := by
  unfold val_main_v28
  refine (extractStridedSlice_apply _ _ _ _ (ix3 T h (⟨128 + k.val, by omega⟩ : Fin 256)) (by
    intro a
    match a with
    | ⟨0, _⟩ => show T.val = 0 + T.val; omega
    | ⟨1, _⟩ => show h.val = 0 + h.val; omega
    | ⟨2, _⟩ => rfl)).trans ?_
  exact query_apply x a b w g q T h _ _ (by show 256 * h.val + 128 * 1 + k.val = 256 * h.val + (128 + k.val); omega)

theorem fourth_apply (h : Fin 8) (n : Fin 128) (T : Fin 16384) :
    val_main_v36 (F := Ideal) x a b w g q s (ix3 h n T) = scoAt x a b w g q s 1 h n T := by
  rw [val_main_v36_apply, val_main_v32_apply, val_main_v31_apply]
  unfold scoAt
  refine Finset.sum_congr rfl fun k _ => congrArg₂ (· * ·) ?_ ?_
  · refine Eq.trans (congrArg _ ?_) (keys1_apply s h n k)
    funext a
    fin_cases a <;> rfl
  · refine Eq.trans (congrArg _ ?_) (half1_apply x a b w g q T h k)
    funext a
    fin_cases a <;> rfl

/-- The reference's frame. -/
theorem frame : Cert.quiescent_Reference3Ideal := fun m ρ _ =>
  (θ_run Cert.Reference3Ideal.defs _ _).mono
    (fun r h => ⟨fun c => (h c).2.2.2.2, sem_eq_zero_of_no_sems (by decide) r.2⟩) (Value.run m ρ)

end Cert.Reference3Ideal.Plain
-- ==== Proof.Proj.Agree.lean ====
/-
  The output projection: its frames, and that over the reals the launch and the reference leave the same arrays.
-/
module

public import proofs.«01_k».proof.Proof.Proj.Value
public import proofs.«01_k».proof.Proof.Proj.Ref
public import proofs.«01_k».proof.Proof.Gen.Kernel3.Frame

@[expose] public section

set_option maxRecDepth 65536

noncomputable section

namespace Cert.Kernel3Ideal.Proj

open Cert.Kernel3Ideal Cert.Kernel3Ideal.Gen
open Idealize.ShloMosaic Idealize.ShloMosaic.TcCoe
open Idealize.SL.Sem

theorem frame : Cert.quiescent_Kernel3Ideal := fun m ρ _ => Cert.Kernel3Ideal.Gen.frame m ρ

theorem frame_bits : Cert.quiescent_Kernel3 := fun m ρ _ => Cert.Kernel3.Gen.frame m ρ

/-- Over the reals the launch and the reference leave the same arrays. -/
theorem algebraic : Cert.algebraic_Kernel3Ideal_Reference3Ideal := by
  intro m g m' g' hpre hagree
  refine ⟨fun c => res8 m c, fun c => res9 m c, fun c => res10 m c, fun c => res11 m c, ?_, ?_⟩
  · exact (θ_run Cert.Kernel3Ideal.defs _ _).mono (fun r h c => ⟨(h c).1.trans (arr8 m c), (h c).2.1.trans (arr9 m c),
      (h c).2.2.1.trans (arr10 m c), (h c).2.2.2.1.trans (arr11 m c), (h c).2.2.2.2⟩) (Cert.Kernel3Ideal.Value.run_blocks (F := Ideal) m g)
  · refine (θ_run Cert.Reference3Ideal.defs _ _).mono (fun r h c => ⟨(h c).1.trans ?_, (h c).2.1.trans ?_,
      (h c).2.2.1.trans ?_, (h c).2.2.2.1.trans ?_, (h c).2.2.2.2⟩) (Cert.Reference3Ideal.Value.run m' g')
    · obtain ⟨h0, h1, h2, h3, h4, h5, h6⟩ := hagree c
      rw [h0, h1, h2, h3]
      refine (Cert.Reference3Ideal.Read.val_main_v33_eq (F := Ideal) _ _ _ _).trans ?_
      funext i
      have e : (i : S16384x2048.Idx) = ix2 (i 0 : Fin 16384) (i 1 : Fin 2048) := by funext a; fin_cases a <;> rfl
      exact (congrArg _ e).trans (Cert.Reference3Ideal.Plain.first_apply _ _ _ _ _ _)
    · obtain ⟨h0, h1, h2, h3, h4, h5, h6⟩ := hagree c
      rw [h0, h1, h2, h3, h4]
      refine (Cert.Reference3Ideal.Read.val_main_v34_eq (F := Ideal) _ _ _ _ _).trans ?_
      funext i
      have e : (i : S16384x2048.Idx) = ix2 (i 0 : Fin 16384) (i 1 : Fin 2048) := by funext a; fin_cases a <;> rfl
      exact (congrArg _ e).trans (Cert.Reference3Ideal.Plain.second_apply _ _ _ _ _ _ _)
    · obtain ⟨h0, h1, h2, h3, h4, h5, h6⟩ := hagree c
      rw [h0, h1, h2, h3, h4, h5, h6]
      refine (Cert.Reference3Ideal.Read.val_main_v35_eq (F := Ideal) _ _ _ _ _ _ _).trans ?_
      funext i
      have e : (i : S8x128x16384.Idx) = ix3 (i 0 : Fin 8) (i 1 : Fin 128) (i 2 : Fin 16384) := by funext a; fin_cases a <;> rfl
      exact (congrArg _ e).trans (Cert.Reference3Ideal.Plain.third_apply _ _ _ _ _ _ _ _ _ _)
    · obtain ⟨h0, h1, h2, h3, h4, h5, h6⟩ := hagree c
      rw [h0, h1, h2, h3, h4, h5, h6]
      refine (Cert.Reference3Ideal.Read.val_main_v36_eq (F := Ideal) _ _ _ _ _ _ _).trans ?_
      funext i
      have e : (i : S8x128x16384.Idx) = ix3 (i 0 : Fin 8) (i 1 : Fin 128) (i 2 : Fin 16384) := by funext a; fin_cases a <;> rfl
      exact (congrArg _ e).trans (Cert.Reference3Ideal.Plain.fourth_apply _ _ _ _ _ _ _ _ _ _)

end Cert.Kernel3Ideal.Proj
-- ==== Proof.lean ====
/-
  The certificate's proof, put together: for each of the three calls the frames of the kernel's two printings and of the
  reference, and the claims between them.
-/
module

public import proofs.«01_k».proof.Defs
public import proofs.«01_k».proof.Proof.Peer.Agree
public import proofs.«01_k».proof.Proof.Peer.Plain
public import proofs.«01_k».proof.Proof.In.Agree
public import proofs.«01_k».proof.Proof.Proj.Agree

@[expose] public section

noncomputable section

namespace Cert.Proof

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts, Cert.Pre_experts_in_table.Gen.facts,
    Cert.KernelIdeal.Peer.frame_kernel, Cert.KernelIdeal.Peer.frame_kernelIdeal, Cert.ReferenceIdeal.Plain.frame,
    Cert.ReferenceIdeal.Plain.frame_pre,
    Cert.Kernel2Ideal.In.frame_bits, Cert.Kernel2Ideal.In.frame, Cert.Reference2Ideal.Plain.frame,
    Cert.Kernel3Ideal.Proj.frame_bits, Cert.Kernel3Ideal.Proj.frame, Cert.Reference3Ideal.Plain.frame,
    trivial, Cert.KernelIdeal.Peer.algebraic, trivial, Cert.Kernel2Ideal.In.algebraic,
    trivial, Cert.Kernel3Ideal.Proj.algebraic⟩

end Cert.Proof

end
